-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v77) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v77) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)) →
    ∃ (v0 : (c : Dev Cert.Kernel3Ideal.nD) → Buf (Elt Ideal) ((c.tc : Thread Cert.Kernel3Ideal.nD Cert.Kernel3Ideal.τ).loc Cert.Kernel3Ideal.main_v9)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v9) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v66) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v30_0)) (v1 : (c : Dev Cert.Kernel4Ideal.nD) → Buf (Elt Ideal) ((c.tc : Thread Cert.Kernel4Ideal.nD Cert.Kernel4Ideal.τ).loc Cert.Kernel4Ideal.main_v30_1)) (v2 : (c : Dev Cert.Kernel4Ideal.nD) → Buf (Elt Ideal) ((c.tc : Thread Cert.Kernel4Ideal.nD Cert.Kernel4Ideal.τ).loc Cert.Kernel4Ideal.main_v30_2)) (v3 : (c : Dev Cert.Kernel4Ideal.nD) → Buf (Elt Ideal) ((c.tc : Thread Cert.Kernel4Ideal.nD Cert.Kernel4Ideal.τ).loc Cert.Kernel4Ideal.main_v30_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v30_0) = v0 c
          ∧ r.2.mem ((c.tc : Thread Cert.Kernel4Ideal.nD Cert.Kernel4Ideal.τ).loc Cert.Kernel4Ideal.main_v30_1) = v1 c
          ∧ r.2.mem ((c.tc : Thread Cert.Kernel4Ideal.nD Cert.Kernel4Ideal.τ).loc Cert.Kernel4Ideal.main_v30_2) = v2 c
          ∧ r.2.mem ((c.tc : Thread Cert.Kernel4Ideal.nD Cert.Kernel4Ideal.τ).loc Cert.Kernel4Ideal.main_v30_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v90) = v0 c
          ∧ r.2.mem ((c.tc : Thread Cert.Reference4Ideal.nD Cert.Reference4Ideal.τ).loc Cert.Reference4Ideal.main_v91) = v1 c
          ∧ r.2.mem ((c.tc : Thread Cert.Reference4Ideal.nD Cert.Reference4Ideal.τ).loc Cert.Reference4Ideal.main_v110) = v2 c
          ∧ r.2.mem ((c.tc : Thread Cert.Reference4Ideal.nD Cert.Reference4Ideal.τ).loc Cert.Reference4Ideal.main_v111) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
-- ==== Pre_finite.lean ====
abbrev S8x2048x8x64 : Shape := ⟨4, ![8, 2048, 8, 64]⟩
abbrev S8x2048x512 : Shape := ⟨3, ![8, 2048, 512]⟩
abbrev S64 : Shape := ⟨1, ![64]⟩
abbrev S128 : Shape := ⟨1, ![128]⟩
abbrev S_ : Shape := ⟨0, ![]⟩

class Facts : Prop where
  bcast_S_S8x2048x8x64 : S_.BroadcastsInDim S8x2048x8x64 (![] : Fin 0 → Fin S8x2048x8x64.rank)
  reducesTo_S8x2048x8x64_S_d0_1_2_3 : S8x2048x8x64.ReducesTo [0, 1, 2, 3] S_
  h_S_ : 0 < S_.numel
  bcast_S_S8x2048x512 : S_.BroadcastsInDim S8x2048x512 (![] : Fin 0 → Fin S8x2048x512.rank)
  reducesTo_S8x2048x512_S_d0_1_2 : S8x2048x512.ReducesTo [0, 1, 2] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_arg5 : FVec F S64 .f32) (main_arg6 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S8x2048x8x64 .f32) (main_arg1 : FVec F S8x2048x8x64 .f32) (main_arg2 : FVec F S8x2048x512 .f32) (main_arg3 : FVec F S64 .f32) (main_arg4 : FVec F S64 .f32) (main_arg5 : FVec F S64 .f32) (main_arg6 : FVec F S64 .f32) (main_arg7 : FVec F S128 .f32) : IVec S_ 1 :=
  let main_v0 : FVec F S8x2048x8x64 .f32 := Host.absf main_arg0
  let main_cst : FVec F S_ .f32 := constant S_ .f32 0x7F800000#32
  let main_v1 : FVec F S8x2048x8x64 .f32 := broadcastInDim S8x2048x8x64 ![] bcast_S_S8x2048x8x64 main_cst
  let main_v2 : IVec S8x2048x8x64 1 := cmpf .olt main_v0 main_v1
  let main_c : IVec S_ 1 := constantI S_ 1 1#1
  let main_v3 : IVec S_ 1 := (fun x v => Host.reduce IntOp.andi x v reducesTo_S8x2048x8x64_S_d0_1_2_3 h_S_) main_v2 main_c
  let main_v4 : FVec F S8x2048x8x64 .f32 := Host.absf main_arg1
  let main_cst_0 : FVec F S_ .f32 := constant S_ .f32 0x7F800000#32
  let main_v5 : FVec F S8x2048x8x64 .f32 := broadcastInDim S8x2048x8x64 ![] bcast_S_S8x2048x8x64 main_cst_0
  let main_v6 : IVec S8x2048x8x64 1 := cmpf .olt main_v4 main_v5
  let main_c_1 : IVec S_ 1 := constantI S_ 1 1#1
  let main_v7 : IVec S_ 1 := (fun x v => Host.reduce IntOp.andi x v reducesTo_S8x2048x8x64_S_d0_1_2_3 h_S_) main_v6 main_c_1
  let main_v8 : IVec S_ 1 := andi main_v3 main_v7
  let main_v9 : FVec F S8x2048x512 .f32 := Host.absf main_arg2
  let main_cst_2 : FVec F S_ .f32 := constant S_ .f32 0x7F800000#32
  let main_v10 : FVec F S8x2048x512 .f32 := broadcastInDim S8x2048x512 ![] bcast_S_S8x2048x512 main_cst_2
  let main_v11 : IVec S8x2048x512 1 := cmpf .olt main_v9 main_v10
  let main_c_3 : IVec S_ 1 := constantI S_ 1 1#1
  let main_v12 : IVec S_ 1 := (fun x v => Host.reduce IntOp.andi x v reducesTo_S8x2048x512_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_v13 main_v16
-- ==== Kernel.lean ====
abbrev S8x2048x8x64 : Shape := ⟨4, ![8, 2048, 8, 64]⟩
abbrev S8x2048x512 : Shape := ⟨3, ![8, 2048, 512]⟩
abbrev S64 : Shape := ⟨1, ![64]⟩
abbrev S128 : Shape := ⟨1, ![128]⟩
abbrev S1x64 : Shape := ⟨2, ![1, 64]⟩
abbrev S4x64 : Shape := ⟨2, ![4, 64]⟩
abbrev S_ : Shape := ⟨0, ![]⟩
abbrev S8x8x2048x64 : Shape := ⟨4, ![8, 8, 2048, 64]⟩
abbrev S1x128 : Shape := ⟨2, ![1, 128]⟩
abbrev S1x8x2048x64 : Shape := ⟨4, ![1, 8, 2048, 64]⟩
abbrev S1x2048x512 : Shape := ⟨3, ![1, 2048, 512]⟩
abbrev S1 : Shape := ⟨1, ![1]⟩
abbrev S1x1 : Shape := ⟨2, ![1, 1]⟩
abbrev S256x256 : Shape := ⟨2, ![256, 256]⟩
abbrev S1x2048x128 : Shape := ⟨3, ![1, 2048, 128]⟩
abbrev S2048x128 : Shape := ⟨2, ![2048, 128]⟩
abbrev S2048x256 : Shape := ⟨2, ![2048, 256]⟩
abbrev S1x1x256x64 : Shape := ⟨4, ![1, 1, 256, 64]⟩
abbrev S256x64 : Shape := ⟨2, ![256, 64]⟩
abbrev S256 : Shape := ⟨1, ![256]⟩
abbrev S256x1 : Shape := ⟨2, ![256, 1]⟩
abbrev S256x128 : Shape := ⟨2, ![256, 128]⟩
abbrev S1x256x128 : Shape := ⟨3, ![1, 256, 128]⟩
abbrev S1x1x512x64 : Shape := ⟨4, ![1, 1, 512, 64]⟩
abbrev S512x64 : Shape := ⟨2, ![512, 64]⟩
abbrev S256x512 : Shape := ⟨2, ![256, 512]⟩
abbrev S512x256 : Shape := ⟨2, ![512, 256]⟩
abbrev S1x1x768x64 : Shape := ⟨4, ![1, 1, 768, 64]⟩
abbrev S768x64 : Shape := ⟨2, ![768, 64]⟩
abbrev S256x768 : Shape := ⟨2, ![256, 768]⟩
abbrev S768x256 : Shape := ⟨2, ![768, 256]⟩
abbrev S1x1x1024x64 : Shape := ⟨4, ![1, 1, 1024, 64]⟩
abbrev S1024x64 : Shape := ⟨2, ![1024, 64]⟩
abbrev S256x1024 : Shape := ⟨2, ![256, 1024]⟩
abbrev S1024x256 : Shape := ⟨2, ![1024, 256]⟩
abbrev S1x1x1280x64 : Shape := ⟨4, ![1, 1, 1280, 64]⟩
abbrev S1280x64 : Shape := ⟨2, ![1280, 64]⟩
abbrev S256x1280 : Shape := ⟨2, ![256, 1280]⟩
abbrev S1280x256 : Shape := ⟨2, ![1280, 256]⟩
abbrev S1x1x1536x64 : Shape := ⟨4, ![1, 1, 1536, 64]⟩
abbrev S1536x64 : Shape := ⟨2, ![1536, 64]⟩
abbrev S256x1536 : Shape := ⟨2, ![256, 1536]⟩
abbrev S1536x256 : Shape := ⟨2, ![1536, 256]⟩
abbrev S1x1x1792x64 : Shape := ⟨4, ![1, 1, 1792, 64]⟩
abbrev S1792x64 : Shape := ⟨2, ![1792, 64]⟩
abbrev S256x1792 : Shape := ⟨2, ![256, 1792]⟩
abbrev S1792x256 : Shape := ⟨2, ![1792, 256]⟩

abbrev nBuf : Space → Nat
  | .hbm => 26
  | .vmem => 10
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S1x64, .f32⟩
  | .hbm, ⟨9, _⟩ => ⟨S1x64, .f32⟩
  | .hbm, ⟨10, _⟩ => ⟨S1x64, .f32⟩
  | .hbm, ⟨11, _⟩ => ⟨S1x64, .f32⟩
  | .hbm, ⟨12, _⟩ => ⟨S4x64, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S8x2048x8x64, .f32⟩
  | .hbm, ⟨18, _⟩ => ⟨S8x2048x8x64, .f32⟩
  | .hbm, ⟨19, _⟩ => ⟨S8x8x2048x64, .f32⟩
  | .hbm, ⟨20, _⟩ => ⟨S8x8x2048x64, .bf16⟩
  | .hbm, ⟨21, _⟩ => ⟨S8x8x2048x64, .f32⟩
  | .hbm, ⟨22, _⟩ => ⟨S8x8x2048x64, .bf16⟩
  | .hbm, ⟨23, _⟩ => ⟨S1x128, .f32⟩
  | .hbm, ⟨24, _⟩ => ⟨S8x2048x512, .bf16⟩
  | .hbm, ⟨25, _⟩ => ⟨S8x2048x512, .bf16⟩
  | .local _ .vmem, ⟨0, _⟩ => ⟨S4x64, .f32⟩
  | .local _ .vmem, ⟨1, _⟩ => ⟨S1x128, .f32⟩
  | .local _ .vmem, ⟨2, _⟩ => ⟨S1x8x2048x64, .bf16⟩
  | .local _ .vmem, ⟨3, _⟩ => ⟨S1x8x2048x64, .bf16⟩
  | .local _ .vmem, ⟨4, _⟩ => ⟨S1x8x2048x64, .bf16⟩
  | .local _ .vmem, ⟨5, _⟩ => ⟨S1x8x2048x64, .bf16⟩
  | .local _ .vmem, ⟨6, _⟩ => ⟨S1x2048x512, .bf16⟩
  | .local _ .vmem, ⟨7, _⟩ => ⟨S1x2048x512, .bf16⟩
  | .local _ .vmem, ⟨8, _⟩ => ⟨S1x2048x512, .bf16⟩
  | .local _ .vmem, ⟨9, _⟩ => ⟨S1x2048x512, .bf16⟩
  | _, _ => ⟨S8x2048x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x8x2048x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x2048x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2048x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8x2048x8x64 : Shape := ⟨4, ![8, 2048, 8, 64]⟩
abbrev S8x2048x512 : Shape := ⟨3, ![8, 2048, 512]⟩
abbrev S64 : Shape := ⟨1, ![64]⟩
abbrev S128 : Shape := ⟨1, ![128]⟩
abbrev S8x2048x4x2x64 : Shape := ⟨5, ![8, 2048, 4, 2, 64]⟩
abbrev S8x2048x4x128 : Shape := ⟨4, ![8, 2048, 4, 128]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S1x1x2048x2048 : Shape := ⟨4, ![1, 1, 2048, 2048]⟩
abbrev S_ : Shape := ⟨0, ![]⟩
abbrev S8x2048x4x1x64 : Shape := ⟨5, ![8, 2048, 4, 1, 64]⟩
abbrev S8x2048x4x64 : Shape := ⟨4, ![8, 2048, 4, 64]⟩
abbrev S8x4x2048x2048 : Shape := ⟨4, ![8, 4, 2048, 2048]⟩
abbrev S8x4x2048 : Shape := ⟨3, ![8, 4, 2048]⟩
abbrev S8x4x2048x1 : Shape := ⟨4, ![8, 4, 2048, 1]⟩
abbrev S8x4x128x2048 : Shape := ⟨4, ![8, 4, 128, 2048]⟩
abbrev S8x2048x4 : Shape := ⟨3, ![8, 2048, 4]⟩
abbrev S8x2048x4x1 : Shape := ⟨4, ![8, 2048, 4, 1]⟩
abbrev S1x1x1x128 : Shape := ⟨4, ![1, 1, 1, 128]⟩

abbrev nBuf : Space → Nat
  | .hbm => 109
  | .vmem => 0
  | .smem => 0
  | _ => 0

abbrev bufTy : (tb : Table) → Fin (tcTables nBuf tb) → BufTy
  | .hbm, ⟨0, _⟩ => ⟨S8x2048x8x64, .f32⟩
  | .hbm, ⟨1, _⟩ => ⟨S8x2048x8x64, .f32⟩
  | .hbm, ⟨2, _⟩ => ⟨S8x2048x512, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S128, .f32⟩
  | .hbm, ⟨8, _⟩ => ⟨S8x2048x4x2x64, .f32⟩
  | .hbm, ⟨9, _⟩ => ⟨S8x2048x4x2x64, .f32⟩
  | .hbm, ⟨10, _⟩ => ⟨S8x2048x4x128, .f32⟩
  | .hbm, ⟨11, _⟩ => ⟨S2048, .i32⟩
  | .hbm, ⟨12, _⟩ => ⟨S1x2048, .i32⟩
  | .hbm, ⟨13, _⟩ => ⟨S2048x1, .i32⟩
  | .hbm, ⟨14, _⟩ => ⟨S2048x2048, .i32⟩
  | .hbm, ⟨15, _⟩ => ⟨S2048x2048, .i32⟩
  | .hbm, ⟨16, _⟩ => ⟨S2048x2048, .i1⟩
  | .hbm, ⟨17, _⟩ => ⟨S1x1x2048x2048, .i1⟩
  | .hbm, ⟨18, _⟩ => ⟨S64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S64, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S8x2048x4x1x64, .f32⟩
  | .hbm, ⟨30, _⟩ => ⟨S8x2048x4x64, .f32⟩
  | .hbm, ⟨31, _⟩ => ⟨S8x2048x4x1x64, .f32⟩
  | .hbm, ⟨32, _⟩ => ⟨S8x2048x4x64, .f32⟩
  | .hbm, ⟨33, _⟩ => ⟨S8x4x2048x2048, .f32⟩
  | .hbm, ⟨34, _⟩ => ⟨S_, .f32⟩
  | .hbm, ⟨35, _⟩ => ⟨S8x4x2048x2048, .f32⟩
  | .hbm, ⟨36, _⟩ => ⟨S8x4x2048x2048, .f32⟩
  | .hbm, ⟨37, _⟩ => ⟨S_, .f32⟩
  | .hbm, ⟨38, _⟩ => ⟨S_, .f32⟩
  | .hbm, ⟨39, _⟩ => ⟨S8x4x2048x2048, .i1⟩
  | .hbm, ⟨40, _⟩ => ⟨S8x4x2048x2048, .f32⟩
  | .hbm, ⟨41, _⟩ => ⟨S8x4x2048x2048, .f32⟩
  | .hbm, ⟨42, _⟩ => ⟨S_, .f32⟩
  | .hbm, ⟨43, _⟩ => ⟨S8x4x2048, .f32⟩
  | .hbm, ⟨44, _⟩ => ⟨S_, .f32⟩
  | .hbm, ⟨45, _⟩ => ⟨S8x4x2048, .f32⟩
  | .hbm, ⟨46, _⟩ => ⟨S8x4x2048, .f32⟩
  | .hbm, ⟨47, _⟩ => ⟨S8x4x2048x1, .f32⟩
  | .hbm, ⟨48, _⟩ => ⟨S8x4x2048x2048, .f32⟩
  | .hbm, ⟨49, _⟩ => ⟨S8x4x2048x2048, .f32⟩
  | .hbm, ⟨50, _⟩ => ⟨S8x4x2048x2048, .f32⟩
  | .hbm, ⟨51, _⟩ => ⟨S_, .f32⟩
  | .hbm, ⟨52, _⟩ => ⟨S8x4x2048, .f32⟩
  | .hbm, ⟨53, _⟩ => ⟨S8x4x2048x1, .f32⟩
  | .hbm, ⟨54, _⟩ => ⟨S8x4x2048x2048, .f32⟩
  | .hbm, ⟨55, _⟩ => ⟨S8x4x2048x2048, .f32⟩
  | .hbm, ⟨56, _⟩ => ⟨S8x2048x4x1x64, .f32⟩
  | .hbm, ⟨57, _⟩ => ⟨S8x2048x4x64, .f32⟩
  | .hbm, ⟨58, _⟩ => ⟨S8x2048x4x1x64, .f32⟩
  | .hbm, ⟨59, _⟩ => ⟨S8x2048x4x64, .f32⟩
  | .hbm, ⟨60, _⟩ => ⟨S8x4x2048x2048, .f32⟩
  | .hbm, ⟨61, _⟩ => ⟨S_, .f32⟩
  | .hbm, ⟨62, _⟩ => ⟨S8x4x2048x2048, .f32⟩
  | .hbm, ⟨63, _⟩ => ⟨S8x4x2048x2048, .f32⟩
  | .hbm, ⟨64, _⟩ => ⟨S_, .f32⟩
  | .hbm, ⟨65, _⟩ => ⟨S_, .f32⟩
  | .hbm, ⟨66, _⟩ => ⟨S8x4x2048x2048, .i1⟩
  | .hbm, ⟨67, _⟩ => ⟨S8x4x2048x2048, .f32⟩
  | .hbm, ⟨68, _⟩ => ⟨S8x4x2048x2048, .f32⟩
  | .hbm, ⟨69, _⟩ => ⟨S_, .f32⟩
  | .hbm, ⟨70, _⟩ => ⟨S8x4x2048, .f32⟩
  | .hbm, ⟨71, _⟩ => ⟨S_, .f32⟩
  | .hbm, ⟨72, _⟩ => ⟨S8x4x2048, .f32⟩
  | .hbm, ⟨73, _⟩ => ⟨S8x4x2048, .f32⟩
  | .hbm, ⟨74, _⟩ => ⟨S8x4x2048x1, .f32⟩
  | .hbm, ⟨75, _⟩ => ⟨S8x4x2048x2048, .f32⟩
  | .hbm, ⟨76, _⟩ => ⟨S8x4x2048x2048, .f32⟩
  | .hbm, ⟨77, _⟩ => ⟨S8x4x2048x2048, .f32⟩
  | .hbm, ⟨78, _⟩ => ⟨S_, .f32⟩
  | .hbm, ⟨79, _⟩ => ⟨S8x4x2048, .f32⟩
  | .hbm, ⟨80, _⟩ => ⟨S8x4x2048x1, .f32⟩
  | .hbm, ⟨81, _⟩ => ⟨S8x4x2048x2048, .f32⟩
  | .hbm, ⟨82, _⟩ => ⟨S8x4x2048x2048, .f32⟩
  | .hbm, ⟨83, _⟩ => ⟨S8x4x2048x2048, .f32⟩
  | .hbm, ⟨84, _⟩ => ⟨S8x4x2048x2048, .f32⟩
  | .hbm, ⟨85, _⟩ => ⟨S8x4x2048x2048, .f32⟩
  | .hbm, ⟨86, _⟩ => ⟨S8x4x128x2048, .f32⟩
  | .hbm, ⟨87, _⟩ => ⟨S8x2048x4x128, .f32⟩
  | .hbm, ⟨88, _⟩ => ⟨S8x2048x4x128, .f32⟩
  | .hbm, ⟨89, _⟩ => ⟨S_, .f32⟩
  | .hbm, ⟨90, _⟩ => ⟨S8x2048x4, .f32⟩
  | .hbm, ⟨91, _⟩ => ⟨S8x2048x4x1, .f32⟩
  | .hbm, ⟨92, _⟩ => ⟨S_, .f32⟩
  | .hbm, ⟨93, _⟩ => ⟨S8x2048x4x1, .f32⟩
  | .hbm, ⟨94, _⟩ => ⟨S8x2048x4x1, .f32⟩
  | .hbm, ⟨95, _⟩ => ⟨S_, .f32⟩
  | .hbm, ⟨96, _⟩ => ⟨S8x2048x4x1, .f32⟩
  | .hbm, ⟨97, _⟩ => ⟨S8x2048x4x1, .f32⟩
  | .hbm, ⟨98, _⟩ => ⟨S8x2048x4x1, .f32⟩
  | .hbm, ⟨99, _⟩ => ⟨S8x2048x4x128, .f32⟩
  | .hbm, ⟨100, _⟩ => ⟨S8x2048x4x128, .f32⟩
  | .hbm, ⟨101, _⟩ => ⟨S1x1x1x128, .f32⟩
  | .hbm, ⟨102, _⟩ => ⟨S8x2048x4x128, .f32⟩
  | .hbm, ⟨103, _⟩ => ⟨S8x2048x4x128, .f32⟩
  | .hbm, ⟨104, _⟩ => ⟨S_, .f32⟩
  | .hbm, ⟨105, _⟩ => ⟨S8x2048x4x128, .f32⟩
  | .hbm, ⟨106, _⟩ => ⟨S8x2048x4x128, .f32⟩
  | .hbm, ⟨107, _⟩ => ⟨S8x2048x512, .f32⟩
  | .hbm, ⟨108, _⟩ => ⟨S8x2048x512, .bf16⟩
  | _, _ => ⟨S8x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_1 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_2 : Ref sig .tc := ⟨.hbm, 34, rfl⟩
abbrev main_v23 : Ref sig .tc := ⟨.hbm, 35, rfl⟩
abbrev main_v24 : Ref sig .tc := ⟨.hbm, 36, rfl⟩
abbrev main_cst_3 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v25 : Ref sig .tc := ⟨.hbm, 41, rfl⟩
abbrev main_cst_4 : Ref sig .tc := ⟨.hbm, 42, rfl⟩
abbrev main_v26 : Ref sig .tc := ⟨.hbm, 43, rfl⟩
abbrev main_cst_5 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_6 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_7 : Ref sig .tc := ⟨.hbm, 61, rfl⟩
abbrev main_v42 : Ref sig .tc := ⟨.hbm, 62, rfl⟩
abbrev main_v43 : Ref sig .tc := ⟨.hbm, 63, rfl⟩
abbrev main_cst_8 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v44 : Ref sig .tc := ⟨.hbm, 68, rfl⟩
abbrev main_cst_9 : Ref sig .tc := ⟨.hbm, 69, rfl⟩
abbrev main_v45 : Ref sig .tc := ⟨.hbm, 70, rfl⟩
abbrev main_cst_10 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_11 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_cst_12 : Ref sig .tc := ⟨.hbm, 89, rfl⟩
abbrev main_v62 : Ref sig .tc := ⟨.hbm, 90, rfl⟩
abbrev main_v63 : Ref sig .tc := ⟨.hbm, 91, rfl⟩
abbrev main_cst_13 : Ref sig .tc := ⟨.hbm, 92, rfl⟩
abbrev main_v64 : Ref sig .tc := ⟨.hbm, 93, rfl⟩
abbrev main_v65 : Ref sig .tc := ⟨.hbm, 94, rfl⟩
abbrev main_cst_14 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_15 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩

abbrev nD : Nat := 1
abbrev τ : Topo := Topo.v7x

variable {F : FTy → Type} [FloatOps F]
-- ==== Kernel2.lean ====
abbrev S8x2048x1024 : Shape := ⟨3, ![8, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x8x2048x256 : Shape := ⟨4, ![2, 8, 2048, 256]⟩
abbrev S2x1024x1024 : Shape := ⟨3, ![2, 1024, 1024]⟩
abbrev S2x256x1024 : Shape := ⟨3, ![2, 256, 1024]⟩
abbrev S1x1024x1024 : Shape := ⟨3, ![1, 1024, 1024]⟩
abbrev S1024 : Shape := ⟨1, ![1024]⟩
abbrev S16384x1024 : Shape := ⟨2, ![16384, 1024]⟩
abbrev S1x1024 : Shape := ⟨2, ![1, 1024]⟩
abbrev S2x16384x256 : Shape := ⟨3, ![2, 16384, 256]⟩
abbrev S512x1024 : Shape := ⟨2, ![512, 1024]⟩
abbrev S1x512x256 : Shape := ⟨3, ![1, 512, 256]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S8x64x2816 : Shape := ⟨3, ![8, 64, 2816]⟩
abbrev S8 : Shape := ⟨1, ![8]⟩
abbrev S1 : Shape := ⟨1, ![1]⟩
abbrev S_ : Shape := ⟨0, ![]⟩
abbrev S1x64x1024 : Shape := ⟨3, ![1, 64, 1024]⟩
abbrev S64x1024 : Shape := ⟨2, ![64, 1024]⟩
abbrev S1x64x2816 : Shape := ⟨3, ![1, 64, 2816]⟩
abbrev S64x2816 : Shape := ⟨2, ![64, 2816]⟩
abbrev S512 : Shape := ⟨1, ![512]⟩
abbrev S512x1 : Shape := ⟨2, ![512, 1]⟩
abbrev S512x2816 : Shape := ⟨2, ![512, 2816]⟩
abbrev S512x256 : Shape := ⟨2, ![512, 256]⟩

abbrev nBuf : Space → Nat
  | .hbm => 23
  | .vmem => 18
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S2x1024, .f32⟩
  | .hbm, ⟨7, _⟩ => ⟨S2x8x2048x256, .f32⟩
  | .hbm, ⟨8, _⟩ => ⟨S2x1024x1024, .f32⟩
  | .hbm, ⟨9, _⟩ => ⟨S2x256x1024, .f32⟩
  | .hbm, ⟨10, _⟩ => ⟨S1x1024x1024, .f32⟩
  | .hbm, ⟨11, _⟩ => ⟨S1024, .f32⟩
  | .hbm, ⟨12, _⟩ => ⟨S16384x1024, .f32⟩
  | .hbm, ⟨13, _⟩ => ⟨S16384x1024, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S2x16384x256, .f32⟩
  | .hbm, ⟨21, _⟩ => ⟨S1x1024, .f32⟩
  | .hbm, ⟨22, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S1x1024, .f32⟩
  | .local _ .vmem, ⟨6, _⟩ => ⟨S1x512x256, .f32⟩
  | .local _ .vmem, ⟨7, _⟩ => ⟨S1x512x256, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S1024x1024, .bf16⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1024x1024, .bf16⟩
  | .local _ .vmem, ⟨16, _⟩ => ⟨S256x1024, .bf16⟩
  | .local _ .vmem, ⟨17, _⟩ => ⟨S8x64x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_scratch3 : Ref sig .tc := ⟨.vmem, 14, rfl⟩
abbrev cc0_scratch4 : Ref sig .tc := ⟨.vmem, 15, rfl⟩
abbrev cc0_scratch5 : Ref sig .tc := ⟨.vmem, 16, rfl⟩
abbrev cc0_scratch6 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_86 : BitVec 32 := 0#32
  let c16_i32 : BitVec 32 := 16#32
  let v133 : BitVec 32 := Scalar.addi c0_i32_86 c16_i32
  let c1_i32_87 : BitVec 32 := 1#32
  ⟨c0_i32_86, v133, c1_i32_87⟩
def k0_cond2 (k0_t1 : Fin k0_t1_loop.trips) : BitVec 1 :=
  let c0_i32_86 : BitVec 32 := 0#32
  let c1_i32_87 : BitVec 32 := 1#32
  let arg22 : BitVec 32 := Scf.iv c0_i32_86 c1_i32_87 k0_t1
  let c7_i32 : BitVec 32 := 7#32
  let v134 : BitVec 32 := Scalar.addi arg22 c7_i32
  let c16_i32_89 : BitVec 32 := 16#32
  let v135 : BitVec 1 := Scalar.cmpi .slt v134 c16_i32_89
  let v136 : BitVec 32 := Scalar.extui v135
  let c0_i32_90 : BitVec 32 := 0#32
  let v137 : BitVec 1 := Scalar.cmpi .ne v136 c0_i32_90
  v137

def k0_off1 (k0_t1 : Fin k0_t1_loop.trips) : Fin 1 → Nat :=
  let c0_i32_86 : BitVec 32 := 0#32
  let c1_i32_87 : BitVec 32 := 1#32
  let arg22 : BitVec 32 := Scf.iv c0_i32_86 c1_i32_87 k0_t1
  let c7_i32_111 : BitVec 32 := 7#32
  let v175 : BitVec 32 := Scalar.addi arg22 c7_i32_111
  let c8_i32_112 : BitVec 32 := 8#32
  let c0_i32_113 : BitVec 32 := 0#32
  let v176 : BitVec 1 := Scalar.cmpi .eq c8_i32_112 c0_i32_113
  let c1_i32_114 : BitVec 32 := 1#32
  let v177 : BitVec 32 := Scalar.select v176 c1_i32_114 c8_i32_112
  let v178 : BitVec 32 := Scalar.remsi v175 v177
  let c0_i32_116 : BitVec 32 := 0#32
  let v180 : BitVec 1 := Scalar.cmpi .slt v178 c0_i32_116
  let c0_i32_117 : BitVec 32 := 0#32
  let v181 : BitVec 1 := Scalar.cmpi .slt v177 c0_i32_117
  let v182 : BitVec 1 := Scalar.xori v180 v181
  let c0_i32_115 : BitVec 32 := 0#32
  let v179 : BitVec 1 := Scalar.cmpi .ne v178 c0_i32_115
  let v183 : BitVec 1 := Scalar.andi v182 v179
  let v184 : BitVec 32 := Scalar.addi v178 v177
  let v185 : BitVec 32 := Scalar.select v183 v184 v178
  ![v185.toNat]
def k0_off2 (k0_t1 : Fin k0_t1_loop.trips) : Fin 3 → Nat :=
  let c0_i32_86 : BitVec 32 := 0#32
  let c1_i32_87 : BitVec 32 := 1#32
  let arg22 : BitVec 32 := Scf.iv c0_i32_86 c1_i32_87 k0_t1
  let c7_i32_111 : BitVec 32 := 7#32
  let v175 : BitVec 32 := Scalar.addi arg22 c7_i32_111
  let c8_i32_112 : BitVec 32 := 8#32
  let c0_i32_113 : BitVec 32 := 0#32
  let v176 : BitVec 1 := Scalar.cmpi .eq c8_i32_112 c0_i32_113
  let c1_i32_114 : BitVec 32 := 1#32
  let v177 : BitVec 32 := Scalar.select v176 c1_i32_114 c8_i32_112
  let v178 : BitVec 32 := Scalar.remsi v175 v177
  let c0_i32_116 : BitVec 32 := 0#32
  let v180 : BitVec 1 := Scalar.cmpi .slt v178 c0_i32_116
  let c0_i32_117 : BitVec 32 := 0#32
  let v181 : BitVec 1 := Scalar.cmpi .slt v177 c0_i32_117
  let v182 : BitVec 1 := Scalar.xori v180 v181
  let c0_i32_115 : BitVec 32 := 0#32
  let v179 : BitVec 1 := Scalar.cmpi .ne v178 c0_i32_115
  let v183 : BitVec 1 := Scalar.andi v182 v179
  let v184 : BitVec 32 := Scalar.addi v178 v177
  let v185 : BitVec 32 := Scalar.select v183 v184 v178
  let c0_i32_120 : BitVec 32 := 0#32
  let c0_i32_121 : BitVec 32 := 0#32
  ![v185.toNat, 0, 0]
def k0_off3 (k0_t1 : Fin k0_t1_loop.trips) : Fin 3 → Nat :=
  let c0_i32_119 : BitVec 32 := 0#32
  let c0_i32_86 : BitVec 32 := 0#32
  let c1_i32_87 : BitVec 32 := 1#32
  let arg22 : BitVec 32 := Scf.iv c0_i32_86 c1_i32_87 k0_t1
  let c7_i32_111 : BitVec 32 := 7#32
  let v175 : BitVec 32 := Scalar.addi arg22 c7_i32_111
  let c64_i32_118 : BitVec 32 := 64#32
  let v186 : BitVec 32 := Scalar.muli v175 c64_i32_118
  let c0_i32_122 : BitVec 32 := 0#32
  ![0, v186.toNat, 0]
def k0_off4 (k0_t1 : Fin k0_t1_loop.trips) : Fin 1 → Nat :=
  let c0_i32_86 : BitVec 32 := 0#32
  let c1_i32_87 : BitVec 32 := 1#32
  let arg22 : BitVec 32 := Scf.iv c0_i32_86 c1_i32_87 k0_t1
  let c8_i32 : BitVec 32 := 8#32
  let c0_i32_91 : BitVec 32 := 0#32
  let v138 : BitVec 1 := Scalar.cmpi .eq c8_i32 c0_i32_91
  let c1_i32_92 : BitVec 32 := 1#32
  let v139 : BitVec 32 := Scalar.select v138 c1_i32_92 c8_i32
  let v140 : BitVec 32 := Scalar.remsi arg22 v139
  let c0_i32_94 : BitVec 32 := 0#32
  let v142 : BitVec 1 := Scalar.cmpi .slt v140 c0_i32_94
  let c0_i32_95 : BitVec 32 := 0#32
  let v143 : BitVec 1 := Scalar.cmpi .slt v139 c0_i32_95
  let v144 : BitVec 1 := Scalar.xori v142 v143
  let c0_i32_93 : BitVec 32 := 0#32
  let v141 : BitVec 1 := Scalar.cmpi .ne v140 c0_i32_93
  let v145 : BitVec 1 := Scalar.andi v144 v141
  let v146 : BitVec 32 := Scalar.addi v140 v139
  let v147 : BitVec 32 := Scalar.select v145 v146 v140
  ![v147.toNat]
def k0_off5 (k0_t1 : Fin k0_t1_loop.trips) : Fin 3 → Nat :=
  let c0_i32_86 : BitVec 32 := 0#32
  let c1_i32_87 : BitVec 32 := 1#32
  let arg22 : BitVec 32 := Scf.iv c0_i32_86 c1_i32_87 k0_t1
  let c8_i32 : BitVec 32 := 8#32
  let c0_i32_91 : BitVec 32 := 0#32
  let v138 : BitVec 1 := Scalar.cmpi .eq c8_i32 c0_i32_91
  let c1_i32_92 : BitVec 32 := 1#32
  let v139 : BitVec 32 := Scalar.select v138 c1_i32_92 c8_i32
  let v140 : BitVec 32 := Scalar.remsi arg22 v139
  let c0_i32_94 : BitVec 32 := 0#32
  let v142 : BitVec 1 := Scalar.cmpi .slt v140 c0_i32_94
  let c0_i32_95 : BitVec 32 := 0#32
  let v143 : BitVec 1 := Scalar.cmpi .slt v139 c0_i32_95
  let v144 : BitVec 1 := Scalar.xori v142 v143
  let c0_i32_93 : BitVec 32 := 0#32
  let v141 : BitVec 1 := Scalar.cmpi .ne v140 c0_i32_93
  let v145 : BitVec 1 := Scalar.andi v144 v141
  let v146 : BitVec 32 := Scalar.addi v140 v139
  let v147 : BitVec 32 := Scalar.select v145 v146 v140
  let c0_i32_98 : BitVec 32 := 0#32
  let c0_i32_99 : BitVec 32 := 0#32
  ![v147.toNat, 0, 0]
def k0_off6 (k0_t1 : Fin k0_t1_loop.trips) : Fin 3 → Nat :=
  let c0_i32_97 : BitVec 32 := 0#32
  let c0_i32_86 : BitVec 32 := 0#32
  let c1_i32_87 : BitVec 32 := 1#32
  let arg22 : BitVec 32 := Scf.iv c0_i32_86 c1_i32_87 k0_t1
  let c64_i32_96 : BitVec 32 := 64#32
  let v148 : BitVec 32 := Scalar.muli arg22 c64_i32_96
  let c0_i32_100 : BitVec 32 := 0#32
  ![0, v148.toNat, 0]
def k0_off7 (k0_t1 : Fin k0_t1_loop.trips) : Fin 3 → Nat :=
  let c0_i32_86 : BitVec 32 := 0#32
  let c1_i32_87 : BitVec 32 := 1#32
  let arg22 : BitVec 32 := Scf.iv c0_i32_86 c1_i32_87 k0_t1
  let c8_i32_101 : BitVec 32 := 8#32
  let c0_i32_102 : BitVec 32 := 0#32
  let v155 : BitVec 1 := Scalar.cmpi .eq c8_i32_101 c0_i32_102
  let c1_i32_103 : BitVec 32 := 1#32
  let v156 : BitVec 32 := Scalar.select v155 c1_i32_103 c8_i32_101
  let v157 : BitVec 32 := Scalar.remsi arg22 v156
  let c0_i32_105 : BitVec 32 := 0#32
  let v159 : BitVec 1 := Scalar.cmpi .slt v157 c0_i32_105
  let c0_i32_106 : BitVec 32 := 0#32
  let v160 : BitVec 1 := Scalar.cmpi .slt v156 c0_i32_106
  let v161 : BitVec 1 := Scalar.xori v159 v160
  let c0_i32_104 : BitVec 32 := 0#32
  let v158 : BitVec 1 := Scalar.cmpi .ne v157 c0_i32_104
  let v162 : BitVec 1 := Scalar.andi v161 v158
  let v163 : BitVec 32 := Scalar.addi v157 v156
  let v164 : BitVec 32 := Scalar.select v162 v163 v157
  let v165 : Index := Scalar.indexCast v164
  let c0_107 : Index := 0#32
  let c0_108 : Index := 0#32
  ![v165.toNat, 0, 0]
def k0_mult1 (k0_t1 : Fin k0_t1_loop.trips) : BitVec 32 :=
  let c0_i32_86 : BitVec 32 := 0#32
  let c1_i32_87 : BitVec 32 := 1#32
  let arg22 : BitVec 32 := Scf.iv c0_i32_86 c1_i32_87 k0_t1
  let c64_i32_109 : BitVec 32 := 64#32
  let v169 : BitVec 32 := Scalar.muli arg22 c64_i32_109
  v169
def k0_off8 (k0_t1 : Fin k0_t1_loop.trips) : Fin 2 → Nat :=
  let c0_i32_86 : BitVec 32 := 0#32
  let c1_i32_87 : BitVec 32 := 1#32
  let arg22 : BitVec 32 := Scf.iv c0_i32_86 c1_i32_87 k0_t1
  let c64_i32_109 : BitVec 32 := 64#32
  let v169 : BitVec 32 := Scalar.muli arg22 c64_i32_109
  let v170 : BitVec 32 := v169
  let v171 : Index := Scalar.indexCast v170
  let c0_110 : Index := 0#32
  ![v171.toNat, 0]
def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

@[reducible] def k0_t2_loop : Scf.Loop 32 :=
  let c0_i32_86 : BitVec 32 := 0#32
  let c16_i32 : BitVec 32 := 16#32
  let v133 : BitVec 32 := Scalar.addi c0_i32_86 c16_i32
  let c1_i32_87 : BitVec 32 := 1#32
  ⟨c0_i32_86, v133, c1_i32_87⟩
def k0_cond4 (k0_t2 : Fin k0_t2_loop.trips) : BitVec 1 :=
  let c0_i32_86 : BitVec 32 := 0#32
  let c1_i32_87 : BitVec 32 := 1#32
  let arg22 : BitVec 32 := Scf.iv c0_i32_86 c1_i32_87 k0_t2
  let c7_i32 : BitVec 32 := 7#32
  let v288 : BitVec 32 := Scalar.addi arg22 c7_i32
  let c16_i32_279 : BitVec 32 := 16#32
  let v289 : BitVec 1 := Scalar.cmpi .slt v288 c16_i32_279
  let v290 : BitVec 32 := Scalar.extui v289
  let c0_i32_280 : BitVec 32 := 0#32
  let v291 : BitVec 1 := Scalar.cmpi .ne v290 c0_i32_280
  v291

def k0_off9 (k0_t2 : Fin k0_t2_loop.trips) : Fin 1 → Nat :=
  let c0_i32_86 : BitVec 32 := 0#32
  let c1_i32_87 : BitVec 32 := 1#32
  let arg22 : BitVec 32 := Scf.iv c0_i32_86 c1_i32_87 k0_t2
  let c7_i32_301 : BitVec 32 := 7#32
  let v329 : BitVec 32 := Scalar.addi arg22 c7_i32_301
  let c8_i32_302 : BitVec 32 := 8#32
  let c0_i32_303 : BitVec 32 := 0#32
  let v330 : BitVec 1 := Scalar.cmpi .eq c8_i32_302 c0_i32_303
  let c1_i32_304 : BitVec 32 := 1#32
  let v331 : BitVec 32 := Scalar.select v330 c1_i32_304 c8_i32_302
  let v332 : BitVec 32 := Scalar.remsi v329 v331
  let c0_i32_306 : BitVec 32 := 0#32
  let v334 : BitVec 1 := Scalar.cmpi .slt v332 c0_i32_306
  let c0_i32_307 : BitVec 32 := 0#32
  let v335 : BitVec 1 := Scalar.cmpi .slt v331 c0_i32_307
  let v336 : BitVec 1 := Scalar.xori v334 v335
  let c0_i32_305 : BitVec 32 := 0#32
  let v333 : BitVec 1 := Scalar.cmpi .ne v332 c0_i32_305
  let v337 : BitVec 1 := Scalar.andi v336 v333
  let v338 : BitVec 32 := Scalar.addi v332 v331
  let v339 : BitVec 32 := Scalar.select v337 v338 v332
  ![v339.toNat]
def k0_off10 (k0_t2 : Fin k0_t2_loop.trips) : Fin 3 → Nat :=
  let c0_i32_86 : BitVec 32 := 0#32
  let c1_i32_87 : BitVec 32 := 1#32
  let arg22 : BitVec 32 := Scf.iv c0_i32_86 c1_i32_87 k0_t2
  let c7_i32_301 : BitVec 32 := 7#32
  let v329 : BitVec 32 := Scalar.addi arg22 c7_i32_301
  let c8_i32_302 : BitVec 32 := 8#32
  let c0_i32_303 : BitVec 32 := 0#32
  let v330 : BitVec 1 := Scalar.cmpi .eq c8_i32_302 c0_i32_303
  let c1_i32_304 : BitVec 32 := 1#32
  let v331 : BitVec 32 := Scalar.select v330 c1_i32_304 c8_i32_302
  let v332 : BitVec 32 := Scalar.remsi v329 v331
  let c0_i32_306 : BitVec 32 := 0#32
  let v334 : BitVec 1 := Scalar.cmpi .slt v332 c0_i32_306
  let c0_i32_307 : BitVec 32 := 0#32
  let v335 : BitVec 1 := Scalar.cmpi .slt v331 c0_i32_307
  let v336 : BitVec 1 := Scalar.xori v334 v335
  let c0_i32_305 : BitVec 32 := 0#32
  let v333 : BitVec 1 := Scalar.cmpi .ne v332 c0_i32_305
  let v337 : BitVec 1 := Scalar.andi v336 v333
  let v338 : BitVec 32 := Scalar.addi v332 v331
  let v339 : BitVec 32 := Scalar.select v337 v338 v332
  let c0_i32_310 : BitVec 32 := 0#32
  let c0_i32_311 : BitVec 32 := 0#32
  ![v339.toNat, 0, 0]
def k0_off11 (k0_t2 : Fin k0_t2_loop.trips) : Fin 3 → Nat :=
  let c1_i32_309 : BitVec 32 := 1#32
  let c0_i32_86 : BitVec 32 := 0#32
  let c1_i32_87 : BitVec 32 := 1#32
  let arg22 : BitVec 32 := Scf.iv c0_i32_86 c1_i32_87 k0_t2
  let c7_i32_301 : BitVec 32 := 7#32
  let v329 : BitVec 32 := Scalar.addi arg22 c7_i32_301
  let c64_i32_308 : BitVec 32 := 64#32
  let v340 : BitVec 32 := Scalar.muli v329 c64_i32_308
  let c0_i32_312 : BitVec 32 := 0#32
  ![1, v340.toNat, 0]
def k0_off12 (k0_t2 : Fin k0_t2_loop.trips) : Fin 1 → Nat :=
  let c0_i32_86 : BitVec 32 := 0#32
  let c1_i32_87 : BitVec 32 := 1#32
  let arg22 : BitVec 32 := Scf.iv c0_i32_86 c1_i32_87 k0_t2
  let c8_i32 : BitVec 32 := 8#32
  let c0_i32_281 : BitVec 32 := 0#32
  let v292 : BitVec 1 := Scalar.cmpi .eq c8_i32 c0_i32_281
  let c1_i32_282 : BitVec 32 := 1#32
  let v293 : BitVec 32 := Scalar.select v292 c1_i32_282 c8_i32
  let v294 : BitVec 32 := Scalar.remsi arg22 v293
  let c0_i32_284 : BitVec 32 := 0#32
  let v296 : BitVec 1 := Scalar.cmpi .slt v294 c0_i32_284
  let c0_i32_285 : BitVec 32 := 0#32
  let v297 : BitVec 1 := Scalar.cmpi .slt v293 c0_i32_285
  let v298 : BitVec 1 := Scalar.xori v296 v297
  let c0_i32_283 : BitVec 32 := 0#32
  let v295 : BitVec 1 := Scalar.cmpi .ne v294 c0_i32_283
  let v299 : BitVec 1 := Scalar.andi v298 v295
  let v300 : BitVec 32 := Scalar.addi v294 v293
  let v301 : BitVec 32 := Scalar.select v299 v300 v294
  ![v301.toNat]
def k0_off13 (k0_t2 : Fin k0_t2_loop.trips) : Fin 3 → Nat :=
  let c0_i32_86 : BitVec 32 := 0#32
  let c1_i32_87 : BitVec 32 := 1#32
  let arg22 : BitVec 32 := Scf.iv c0_i32_86 c1_i32_87 k0_t2
  let c8_i32 : BitVec 32 := 8#32
  let c0_i32_281 : BitVec 32 := 0#32
  let v292 : BitVec 1 := Scalar.cmpi .eq c8_i32 c0_i32_281
  let c1_i32_282 : BitVec 32 := 1#32
  let v293 : BitVec 32 := Scalar.select v292 c1_i32_282 c8_i32
  let v294 : BitVec 32 := Scalar.remsi arg22 v293
  let c0_i32_284 : BitVec 32 := 0#32
  let v296 : BitVec 1 := Scalar.cmpi .slt v294 c0_i32_284
  let c0_i32_285 : BitVec 32 := 0#32
  let v297 : BitVec 1 := Scalar.cmpi .slt v293 c0_i32_285
  let v298 : BitVec 1 := Scalar.xori v296 v297
  let c0_i32_283 : BitVec 32 := 0#32
  let v295 : BitVec 1 := Scalar.cmpi .ne v294 c0_i32_283
  let v299 : BitVec 1 := Scalar.andi v298 v295
  let v300 : BitVec 32 := Scalar.addi v294 v293
  let v301 : BitVec 32 := Scalar.select v299 v300 v294
  let c0_i32_288 : BitVec 32 := 0#32
  let c0_i32_289 : BitVec 32 := 0#32
  ![v301.toNat, 0, 0]
def k0_off14 (k0_t2 : Fin k0_t2_loop.trips) : Fin 3 → Nat :=
  let c1_i32_287 : BitVec 32 := 1#32
  let c0_i32_86 : BitVec 32 := 0#32
  let c1_i32_87 : BitVec 32 := 1#32
  let arg22 : BitVec 32 := Scf.iv c0_i32_86 c1_i32_87 k0_t2
  let c64_i32_286 : BitVec 32 := 64#32
  let v302 : BitVec 32 := Scalar.muli arg22 c64_i32_286
  let c0_i32_290 : BitVec 32 := 0#32
  ![1, v302.toNat, 0]
def k0_off15 (k0_t2 : Fin k0_t2_loop.trips) : Fin 3 → Nat :=
  let c0_i32_86 : BitVec 32 := 0#32
  let c1_i32_87 : BitVec 32 := 1#32
  let arg22 : BitVec 32 := Scf.iv c0_i32_86 c1_i32_87 k0_t2
  let c8_i32_291 : BitVec 32 := 8#32
  let c0_i32_292 : BitVec 32 := 0#32
  let v309 : BitVec 1 := Scalar.cmpi .eq c8_i32_291 c0_i32_292
  let c1_i32_293 : BitVec 32 := 1#32
  let v310 : BitVec 32 := Scalar.select v309 c1_i32_293 c8_i32_291
  let v311 : BitVec 32 := Scalar.remsi arg22 v310
  let c0_i32_295 : BitVec 32 := 0#32
  let v313 : BitVec 1 := Scalar.cmpi .slt v311 c0_i32_295
  let c0_i32_296 : BitVec 32 := 0#32
  let v314 : BitVec 1 := Scalar.cmpi .slt v310 c0_i32_296
  let v315 : BitVec 1 := Scalar.xori v313 v314
  let c0_i32_294 : BitVec 32 := 0#32
  let v312 : BitVec 1 := Scalar.cmpi .ne v311 c0_i32_294
  let v316 : BitVec 1 := Scalar.andi v315 v312
  let v317 : BitVec 32 := Scalar.addi v311 v310
  let v318 : BitVec 32 := Scalar.select v316 v317 v311
  let v319 : Index := Scalar.indexCast v318
  let c0_297 : Index := 0#32
  let c0_298 : Index := 0#32
  ![v319.toNat, 0, 0]
def k0_mult2 (k0_t2 : Fin k0_t2_loop.trips) : BitVec 32 :=
  let c0_i32_86 : BitVec 32 := 0#32
  let c1_i32_87 : BitVec 32 := 1#32
  let arg22 : BitVec 32 := Scf.iv c0_i32_86 c1_i32_87 k0_t2
  let c64_i32_299 : BitVec 32 := 64#32
  let v323 : BitVec 32 := Scalar.muli arg22 c64_i32_299
  v323
def k0_off16 (k0_t2 : Fin k0_t2_loop.trips) : Fin 2 → Nat :=
  let c0_i32_86 : BitVec 32 := 0#32
  let c1_i32_87 : BitVec 32 := 1#32
  let arg22 : BitVec 32 := Scf.iv c0_i32_86 c1_i32_87 k0_t2
  let c64_i32_299 : BitVec 32 := 64#32
  let v323 : BitVec 32 := Scalar.muli arg22 c64_i32_299
  let v324 : BitVec 32 := v323
  let v325 : Index := Scalar.indexCast v324
  let c0_300 : Index := 0#32
  ![v325.toNat, 0]
@[reducible] def k0_t3_loop : Scf.Loop 32 :=
  let c0_i32_138 : BitVec 32 := 0#32
  let c16_i32_139 : BitVec 32 := 16#32
  let v176 : BitVec 32 := Scalar.addi c0_i32_138 c16_i32_139
  let c1_i32_140 : BitVec 32 := 1#32
  ⟨c0_i32_138, v176, c1_i32_140⟩
def k0_cond5 (k0_t3 : Fin k0_t3_loop.trips) : BitVec 1 :=
  let c0_i32_138 : BitVec 32 := 0#32
  let c1_i32_140 : BitVec 32 := 1#32
  let arg22 : BitVec 32 := Scf.iv c0_i32_138 c1_i32_140 k0_t3
  let c7_i32 : BitVec 32 := 7#32
  let v288 : BitVec 32 := Scalar.addi arg22 c7_i32
  let c16_i32_279 : BitVec 32 := 16#32
  let v289 : BitVec 1 := Scalar.cmpi .slt v288 c16_i32_279
  let v290 : BitVec 32 := Scalar.extui v289
  let c0_i32_280 : BitVec 32 := 0#32
  let v291 : BitVec 1 := Scalar.cmpi .ne v290 c0_i32_280
  v291

def k0_off17 (k0_t3 : Fin k0_t3_loop.trips) : Fin 1 → Nat :=
  let c0_i32_138 : BitVec 32 := 0#32
  let c1_i32_140 : BitVec 32 := 1#32
  let arg22 : BitVec 32 := Scf.iv c0_i32_138 c1_i32_140 k0_t3
  let c7_i32_301 : BitVec 32 := 7#32
  let v329 : BitVec 32 := Scalar.addi arg22 c7_i32_301
  let c8_i32_302 : BitVec 32 := 8#32
  let c0_i32_303 : BitVec 32 := 0#32
  let v330 : BitVec 1 := Scalar.cmpi .eq c8_i32_302 c0_i32_303
  let c1_i32_304 : BitVec 32 := 1#32
  let v331 : BitVec 32 := Scalar.select v330 c1_i32_304 c8_i32_302
  let v332 : BitVec 32 := Scalar.remsi v329 v331
  let c0_i32_306 : BitVec 32 := 0#32
  let v334 : BitVec 1 := Scalar.cmpi .slt v332 c0_i32_306
  let c0_i32_307 : BitVec 32 := 0#32
  let v335 : BitVec 1 := Scalar.cmpi .slt v331 c0_i32_307
  let v336 : BitVec 1 := Scalar.xori v334 v335
  let c0_i32_305 : BitVec 32 := 0#32
  let v333 : BitVec 1 := Scalar.cmpi .ne v332 c0_i32_305
  let v337 : BitVec 1 := Scalar.andi v336 v333
  let v338 : BitVec 32 := Scalar.addi v332 v331
  let v339 : BitVec 32 := Scalar.select v337 v338 v332
  ![v339.toNat]
def k0_off18 (k0_t3 : Fin k0_t3_loop.trips) : Fin 3 → Nat :=
  let c0_i32_138 : BitVec 32 := 0#32
  let c1_i32_140 : BitVec 32 := 1#32
  let arg22 : BitVec 32 := Scf.iv c0_i32_138 c1_i32_140 k0_t3
  let c7_i32_301 : BitVec 32 := 7#32
  let v329 : BitVec 32 := Scalar.addi arg22 c7_i32_301
  let c8_i32_302 : BitVec 32 := 8#32
  let c0_i32_303 : BitVec 32 := 0#32
  let v330 : BitVec 1 := Scalar.cmpi .eq c8_i32_302 c0_i32_303
  let c1_i32_304 : BitVec 32 := 1#32
  let v331 : BitVec 32 := Scalar.select v330 c1_i32_304 c8_i32_302
  let v332 : BitVec 32 := Scalar.remsi v329 v331
  let c0_i32_306 : BitVec 32 := 0#32
  let v334 : BitVec 1 := Scalar.cmpi .slt v332 c0_i32_306
  let c0_i32_307 : BitVec 32 := 0#32
  let v335 : BitVec 1 := Scalar.cmpi .slt v331 c0_i32_307
  let v336 : BitVec 1 := Scalar.xori v334 v335
  let c0_i32_305 : BitVec 32 := 0#32
  let v333 : BitVec 1 := Scalar.cmpi .ne v332 c0_i32_305
  let v337 : BitVec 1 := Scalar.andi v336 v333
  let v338 : BitVec 32 := Scalar.addi v332 v331
  let v339 : BitVec 32 := Scalar.select v337 v338 v332
  let c0_i32_310 : BitVec 32 := 0#32
  let c0_i32_311 : BitVec 32 := 0#32
  ![v339.toNat, 0, 0]
def k0_off19 (k0_t3 : Fin k0_t3_loop.trips) : Fin 3 → Nat :=
  let c1_i32_309 : BitVec 32 := 1#32
  let c0_i32_138 : BitVec 32 := 0#32
  let c1_i32_140 : BitVec 32 := 1#32
  let arg22 : BitVec 32 := Scf.iv c0_i32_138 c1_i32_140 k0_t3
  let c7_i32_301 : BitVec 32 := 7#32
  let v329 : BitVec 32 := Scalar.addi arg22 c7_i32_301
  let c64_i32_308 : BitVec 32 := 64#32
  let v340 : BitVec 32 := Scalar.muli v329 c64_i32_308
  let c0_i32_312 : BitVec 32 := 0#32
  ![1, v340.toNat, 0]
def k0_off20 (k0_t3 : Fin k0_t3_loop.trips) : Fin 1 → Nat :=
  let c0_i32_138 : BitVec 32 := 0#32
  let c1_i32_140 : BitVec 32 := 1#32
  let arg22 : BitVec 32 := Scf.iv c0_i32_138 c1_i32_140 k0_t3
  let c8_i32 : BitVec 32 := 8#32
  let c0_i32_281 : BitVec 32 := 0#32
  let v292 : BitVec 1 := Scalar.cmpi .eq c8_i32 c0_i32_281
  let c1_i32_282 : BitVec 32 := 1#32
  let v293 : BitVec 32 := Scalar.select v292 c1_i32_282 c8_i32
  let v294 : BitVec 32 := Scalar.remsi arg22 v293
  let c0_i32_284 : BitVec 32 := 0#32
  let v296 : BitVec 1 := Scalar.cmpi .slt v294 c0_i32_284
  let c0_i32_285 : BitVec 32 := 0#32
  let v297 : BitVec 1 := Scalar.cmpi .slt v293 c0_i32_285
  let v298 : BitVec 1 := Scalar.xori v296 v297
  let c0_i32_283 : BitVec 32 := 0#32
  let v295 : BitVec 1 := Scalar.cmpi .ne v294 c0_i32_283
  let v299 : BitVec 1 := Scalar.andi v298 v295
  let v300 : BitVec 32 := Scalar.addi v294 v293
  let v301 : BitVec 32 := Scalar.select v299 v300 v294
  ![v301.toNat]
def k0_off21 (k0_t3 : Fin k0_t3_loop.trips) : Fin 3 → Nat :=
  let c0_i32_138 : BitVec 32 := 0#32
  let c1_i32_140 : BitVec 32 := 1#32
  let arg22 : BitVec 32 := Scf.iv c0_i32_138 c1_i32_140 k0_t3
  let c8_i32 : BitVec 32 := 8#32
  let c0_i32_281 : BitVec 32 := 0#32
  let v292 : BitVec 1 := Scalar.cmpi .eq c8_i32 c0_i32_281
  let c1_i32_282 : BitVec 32 := 1#32
  let v293 : BitVec 32 := Scalar.select v292 c1_i32_282 c8_i32
  let v294 : BitVec 32 := Scalar.remsi arg22 v293
  let c0_i32_284 : BitVec 32 := 0#32
  let v296 : BitVec 1 := Scalar.cmpi .slt v294 c0_i32_284
  let c0_i32_285 : BitVec 32 := 0#32
  let v297 : BitVec 1 := Scalar.cmpi .slt v293 c0_i32_285
  let v298 : BitVec 1 := Scalar.xori v296 v297
  let c0_i32_283 : BitVec 32 := 0#32
  let v295 : BitVec 1 := Scalar.cmpi .ne v294 c0_i32_283
  let v299 : BitVec 1 := Scalar.andi v298 v295
  let v300 : BitVec 32 := Scalar.addi v294 v293
  let v301 : BitVec 32 := Scalar.select v299 v300 v294
  let c0_i32_288 : BitVec 32 := 0#32
  let c0_i32_289 : BitVec 32 := 0#32
  ![v301.toNat, 0, 0]
def k0_off22 (k0_t3 : Fin k0_t3_loop.trips) : Fin 3 → Nat :=
  let c1_i32_287 : BitVec 32 := 1#32
  let c0_i32_138 : BitVec 32 := 0#32
  let c1_i32_140 : BitVec 32 := 1#32
  let arg22 : BitVec 32 := Scf.iv c0_i32_138 c1_i32_140 k0_t3
  let c64_i32_286 : BitVec 32 := 64#32
  let v302 : BitVec 32 := Scalar.muli arg22 c64_i32_286
  let c0_i32_290 : BitVec 32 := 0#32
  ![1, v302.toNat, 0]
def k0_off23 (k0_t3 : Fin k0_t3_loop.trips) : Fin 3 → Nat :=
  let c0_i32_138 : BitVec 32 := 0#32
  let c1_i32_140 : BitVec 32 := 1#32
  let arg22 : BitVec 32 := Scf.iv c0_i32_138 c1_i32_140 k0_t3
  let c8_i32_291 : BitVec 32 := 8#32
  let c0_i32_292 : BitVec 32 := 0#32
  let v309 : BitVec 1 := Scalar.cmpi .eq c8_i32_291 c0_i32_292
  let c1_i32_293 : BitVec 32 := 1#32
  let v310 : BitVec 32 := Scalar.select v309 c1_i32_293 c8_i32_291
  let v311 : BitVec 32 := Scalar.remsi arg22 v310
  let c0_i32_295 : BitVec 32 := 0#32
  let v313 : BitVec 1 := Scalar.cmpi .slt v311 c0_i32_295
  let c0_i32_296 : BitVec 32 := 0#32
  let v314 : BitVec 1 := Scalar.cmpi .slt v310 c0_i32_296
  let v315 : BitVec 1 := Scalar.xori v313 v314
  let c0_i32_294 : BitVec 32 := 0#32
  let v312 : BitVec 1 := Scalar.cmpi .ne v311 c0_i32_294
  let v316 : BitVec 1 := Scalar.andi v315 v312
  let v317 : BitVec 32 := Scalar.addi v311 v310
  let v318 : BitVec 32 := Scalar.select v316 v317 v311
  let v319 : Index := Scalar.indexCast v318
  let c0_297 : Index := 0#32
  let c0_298 : Index := 0#32
  ![v319.toNat, 0, 0]
def k0_mult3 (k0_t3 : Fin k0_t3_loop.trips) : BitVec 32 :=
  let c0_i32_138 : BitVec 32 := 0#32
  let c1_i32_140 : BitVec 32 := 1#32
  let arg22 : BitVec 32 := Scf.iv c0_i32_138 c1_i32_140 k0_t3
  let c64_i32_299 : BitVec 32 := 64#32
  let v323 : BitVec 32 := Scalar.muli arg22 c64_i32_299
  v323
def k0_off24 (k0_t3 : Fin k0_t3_loop.trips) : Fin 2 → Nat :=
  let c0_i32_138 : BitVec 32 := 0#32
  let c1_i32_140 : BitVec 32 := 1#32
  let arg22 : BitVec 32 := Scf.iv c0_i32_138 c1_i32_140 k0_t3
  let c64_i32_299 : BitVec 32 := 64#32
  let v323 : BitVec 32 := Scalar.muli arg22 c64_i32_299
  let v324 : BitVec 32 := v323
  let v325 : Index := Scalar.indexCast v324
  let c0_300 : Index := 0#32
  ![v325.toNat, 0]
@[reducible] def k0_t4_loop : Scf.Loop 32 :=
  let c0_i32_191 : BitVec 32 := 0#32
  let c44_i32 : BitVec 32 := 44#32
  let v219 : BitVec 32 := Scalar.addi c0_i32_191 c44_i32
  let c1_i32_192 : BitVec 32 := 1#32
  ⟨c0_i32_191, v219, c1_i32_192⟩
def k0_cond6 (k0_t4 : Fin k0_t4_loop.trips) : BitVec 1 :=
  let c0_i32_191 : BitVec 32 := 0#32
  let c1_i32_192 : BitVec 32 := 1#32
  let arg22 : BitVec 32 := Scf.iv c0_i32_191 c1_i32_192 k0_t4
  let c7_i32 : BitVec 32 := 7#32
  let v288 : BitVec 32 := Scalar.addi arg22 c7_i32
  let c44_i32_279 : BitVec 32 := 44#32
  let v289 : BitVec 1 := Scalar.cmpi .slt v288 c44_i32_279
  let v290 : BitVec 32 := Scalar.extui v289
  let c0_i32_280 : BitVec 32 := 0#32
  let v291 : BitVec 1 := Scalar.cmpi .ne v290 c0_i32_280
  v291

def k0_off25 (k0_t4 : Fin k0_t4_loop.trips) : Fin 1 → Nat :=
  let c0_i32_191 : BitVec 32 := 0#32
  let c1_i32_192 : BitVec 32 := 1#32
  let arg22 : BitVec 32 := Scf.iv c0_i32_191 c1_i32_192 k0_t4
  let c7_i32_301 : BitVec 32 := 7#32
  let v329 : BitVec 32 := Scalar.addi arg22 c7_i32_301
  let c8_i32_302 : BitVec 32 := 8#32
  let c0_i32_303 : BitVec 32 := 0#32
  let v330 : BitVec 1 := Scalar.cmpi .eq c8_i32_302 c0_i32_303
  let c1_i32_304 : BitVec 32 := 1#32
  let v331 : BitVec 32 := Scalar.select v330 c1_i32_304 c8_i32_302
  let v332 : BitVec 32 := Scalar.remsi v329 v331
  let c0_i32_306 : BitVec 32 := 0#32
  let v334 : BitVec 1 := Scalar.cmpi .slt v332 c0_i32_306
  let c0_i32_307 : BitVec 32 := 0#32
  let v335 : BitVec 1 := Scalar.cmpi .slt v331 c0_i32_307
  let v336 : BitVec 1 := Scalar.xori v334 v335
  let c0_i32_305 : BitVec 32 := 0#32
  let v333 : BitVec 1 := Scalar.cmpi .ne v332 c0_i32_305
  let v337 : BitVec 1 := Scalar.andi v336 v333
  let v338 : BitVec 32 := Scalar.addi v332 v331
  let v339 : BitVec 32 := Scalar.select v337 v338 v332
  ![v339.toNat]
def k0_off26 (k0_t4 : Fin k0_t4_loop.trips) : Fin 3 → Nat :=
  let c0_i32_191 : BitVec 32 := 0#32
  let c1_i32_192 : BitVec 32 := 1#32
  let arg22 : BitVec 32 := Scf.iv c0_i32_191 c1_i32_192 k0_t4
  let c7_i32_301 : BitVec 32 := 7#32
  let v329 : BitVec 32 := Scalar.addi arg22 c7_i32_301
  let c8_i32_302 : BitVec 32 := 8#32
  let c0_i32_303 : BitVec 32 := 0#32
  let v330 : BitVec 1 := Scalar.cmpi .eq c8_i32_302 c0_i32_303
  let c1_i32_304 : BitVec 32 := 1#32
  let v331 : BitVec 32 := Scalar.select v330 c1_i32_304 c8_i32_302
  let v332 : BitVec 32 := Scalar.remsi v329 v331
  let c0_i32_306 : BitVec 32 := 0#32
  let v334 : BitVec 1 := Scalar.cmpi .slt v332 c0_i32_306
  let c0_i32_307 : BitVec 32 := 0#32
  let v335 : BitVec 1 := Scalar.cmpi .slt v331 c0_i32_307
  let v336 : BitVec 1 := Scalar.xori v334 v335
  let c0_i32_305 : BitVec 32 := 0#32
  let v333 : BitVec 1 := Scalar.cmpi .ne v332 c0_i32_305
  let v337 : BitVec 1 := Scalar.andi v336 v333
  let v338 : BitVec 32 := Scalar.addi v332 v331
  let v339 : BitVec 32 := Scalar.select v337 v338 v332
  let c0_i32_310 : BitVec 32 := 0#32
  let c0_i32_311 : BitVec 32 := 0#32
  ![v339.toNat, 0, 0]
def k0_off27 (k0_t4 : Fin k0_t4_loop.trips) : Fin 3 → Nat :=
  let c1_i32_309 : BitVec 32 := 1#32
  let c0_i32_191 : BitVec 32 := 0#32
  let c1_i32_192 : BitVec 32 := 1#32
  let arg22 : BitVec 32 := Scf.iv c0_i32_191 c1_i32_192 k0_t4
  let c7_i32_301 : BitVec 32 := 7#32
  let v329 : BitVec 32 := Scalar.addi arg22 c7_i32_301
  let c64_i32_308 : BitVec 32 := 64#32
  let v340 : BitVec 32 := Scalar.muli v329 c64_i32_308
  let c0_i32_312 : BitVec 32 := 0#32
  ![1, v340.toNat, 0]
def k0_off28 (k0_t4 : Fin k0_t4_loop.trips) : Fin 1 → Nat :=
  let c0_i32_191 : BitVec 32 := 0#32
  let c1_i32_192 : BitVec 32 := 1#32
  let arg22 : BitVec 32 := Scf.iv c0_i32_191 c1_i32_192 k0_t4
  let c8_i32 : BitVec 32 := 8#32
  let c0_i32_281 : BitVec 32 := 0#32
  let v292 : BitVec 1 := Scalar.cmpi .eq c8_i32 c0_i32_281
  let c1_i32_282 : BitVec 32 := 1#32
  let v293 : BitVec 32 := Scalar.select v292 c1_i32_282 c8_i32
  let v294 : BitVec 32 := Scalar.remsi arg22 v293
  let c0_i32_284 : BitVec 32 := 0#32
  let v296 : BitVec 1 := Scalar.cmpi .slt v294 c0_i32_284
  let c0_i32_285 : BitVec 32 := 0#32
  let v297 : BitVec 1 := Scalar.cmpi .slt v293 c0_i32_285
  let v298 : BitVec 1 := Scalar.xori v296 v297
  let c0_i32_283 : BitVec 32 := 0#32
  let v295 : BitVec 1 := Scalar.cmpi .ne v294 c0_i32_283
  let v299 : BitVec 1 := Scalar.andi v298 v295
  let v300 : BitVec 32 := Scalar.addi v294 v293
  let v301 : BitVec 32 := Scalar.select v299 v300 v294
  ![v301.toNat]
def k0_off29 (k0_t4 : Fin k0_t4_loop.trips) : Fin 3 → Nat :=
  let c0_i32_191 : BitVec 32 := 0#32
  let c1_i32_192 : BitVec 32 := 1#32
  let arg22 : BitVec 32 := Scf.iv c0_i32_191 c1_i32_192 k0_t4
  let c8_i32 : BitVec 32 := 8#32
  let c0_i32_281 : BitVec 32 := 0#32
  let v292 : BitVec 1 := Scalar.cmpi .eq c8_i32 c0_i32_281
  let c1_i32_282 : BitVec 32 := 1#32
  let v293 : BitVec 32 := Scalar.select v292 c1_i32_282 c8_i32
  let v294 : BitVec 32 := Scalar.remsi arg22 v293
  let c0_i32_284 : BitVec 32 := 0#32
  let v296 : BitVec 1 := Scalar.cmpi .slt v294 c0_i32_284
  let c0_i32_285 : BitVec 32 := 0#32
  let v297 : BitVec 1 := Scalar.cmpi .slt v293 c0_i32_285
  let v298 : BitVec 1 := Scalar.xori v296 v297
  let c0_i32_283 : BitVec 32 := 0#32
  let v295 : BitVec 1 := Scalar.cmpi .ne v294 c0_i32_283
  let v299 : BitVec 1 := Scalar.andi v298 v295
  let v300 : BitVec 32 := Scalar.addi v294 v293
  let v301 : BitVec 32 := Scalar.select v299 v300 v294
  let c0_i32_288 : BitVec 32 := 0#32
  let c0_i32_289 : BitVec 32 := 0#32
  ![v301.toNat, 0, 0]
def k0_off30 (k0_t4 : Fin k0_t4_loop.trips) : Fin 3 → Nat :=
  let c1_i32_287 : BitVec 32 := 1#32
  let c0_i32_191 : BitVec 32 := 0#32
  let c1_i32_192 : BitVec 32 := 1#32
  let arg22 : BitVec 32 := Scf.iv c0_i32_191 c1_i32_192 k0_t4
  let c64_i32_286 : BitVec 32 := 64#32
  let v302 : BitVec 32 := Scalar.muli arg22 c64_i32_286
  let c0_i32_290 : BitVec 32 := 0#32
  ![1, v302.toNat, 0]
def k0_off31 (k0_t4 : Fin k0_t4_loop.trips) : Fin 3 → Nat :=
  let c0_i32_191 : BitVec 32 := 0#32
  let c1_i32_192 : BitVec 32 := 1#32
  let arg22 : BitVec 32 := Scf.iv c0_i32_191 c1_i32_192 k0_t4
  let c8_i32_291 : BitVec 32 := 8#32
  let c0_i32_292 : BitVec 32 := 0#32
  let v309 : BitVec 1 := Scalar.cmpi .eq c8_i32_291 c0_i32_292
  let c1_i32_293 : BitVec 32 := 1#32
  let v310 : BitVec 32 := Scalar.select v309 c1_i32_293 c8_i32_291
  let v311 : BitVec 32 := Scalar.remsi arg22 v310
  let c0_i32_295 : BitVec 32 := 0#32
  let v313 : BitVec 1 := Scalar.cmpi .slt v311 c0_i32_295
  let c0_i32_296 : BitVec 32 := 0#32
  let v314 : BitVec 1 := Scalar.cmpi .slt v310 c0_i32_296
  let v315 : BitVec 1 := Scalar.xori v313 v314
  let c0_i32_294 : BitVec 32 := 0#32
  let v312 : BitVec 1 := Scalar.cmpi .ne v311 c0_i32_294
  let v316 : BitVec 1 := Scalar.andi v315 v312
  let v317 : BitVec 32 := Scalar.addi v311 v310
  let v318 : BitVec 32 := Scalar.select v316 v317 v311
  let v319 : Index := Scalar.indexCast v318
  let c0_297 : Index := 0#32
  let c0_298 : Index := 0#32
  ![v319.toNat, 0, 0]
def k0_mult4 (k0_t4 : Fin k0_t4_loop.trips) : BitVec 32 :=
  let c0_i32_191 : BitVec 32 := 0#32
  let c1_i32_192 : BitVec 32 := 1#32
  let arg22 : BitVec 32 := Scf.iv c0_i32_191 c1_i32_192 k0_t4
  let c64_i32_299 : BitVec 32 := 64#32
  let v323 : BitVec 32 := Scalar.muli arg22 c64_i32_299
  v323
def k0_off32 (k0_t4 : Fin k0_t4_loop.trips) : Fin 2 → Nat :=
  let c0_i32_191 : BitVec 32 := 0#32
  let c1_i32_192 : BitVec 32 := 1#32
  let arg22 : BitVec 32 := Scf.iv c0_i32_191 c1_i32_192 k0_t4
  let c64_i32_299 : BitVec 32 := 64#32
  let v323 : BitVec 32 := Scalar.muli arg22 c64_i32_299
  let v324 : BitVec 32 := v323
  let v325 : Index := Scalar.indexCast v324
  let c0_300 : Index := 0#32
  ![v325.toNat, 0]
@[reducible] def k0_t5_loop : Scf.Loop 32 :=
  let c0_i32_243 : BitVec 32 := 0#32
  let c16_i32_244 : BitVec 32 := 16#32
  let v262 : BitVec 32 := Scalar.addi c0_i32_243 c16_i32_244
  let c1_i32_245 : BitVec 32 := 1#32
  ⟨c0_i32_243, v262, c1_i32_245⟩
def k0_cond7 (k0_t5 : Fin k0_t5_loop.trips) : BitVec 1 :=
  let c0_i32_243 : BitVec 32 := 0#32
  let c1_i32_245 : BitVec 32 := 1#32
  let arg22 : BitVec 32 := Scf.iv c0_i32_243 c1_i32_245 k0_t5
  let c7_i32 : BitVec 32 := 7#32
  let v288 : BitVec 32 := Scalar.addi arg22 c7_i32
  let c16_i32_279 : BitVec 32 := 16#32
  let v289 : BitVec 1 := Scalar.cmpi .slt v288 c16_i32_279
  let v290 : BitVec 32 := Scalar.extui v289
  let c0_i32_280 : BitVec 32 := 0#32
  let v291 : BitVec 1 := Scalar.cmpi .ne v290 c0_i32_280
  v291

def k0_off33 (k0_t5 : Fin k0_t5_loop.trips) : Fin 1 → Nat :=
  let c0_i32_243 : BitVec 32 := 0#32
  let c1_i32_245 : BitVec 32 := 1#32
  let arg22 : BitVec 32 := Scf.iv c0_i32_243 c1_i32_245 k0_t5
  let c7_i32_301 : BitVec 32 := 7#32
  let v329 : BitVec 32 := Scalar.addi arg22 c7_i32_301
  let c8_i32_302 : BitVec 32 := 8#32
  let c0_i32_303 : BitVec 32 := 0#32
  let v330 : BitVec 1 := Scalar.cmpi .eq c8_i32_302 c0_i32_303
  let c1_i32_304 : BitVec 32 := 1#32
  let v331 : BitVec 32 := Scalar.select v330 c1_i32_304 c8_i32_302
  let v332 : BitVec 32 := Scalar.remsi v329 v331
  let c0_i32_306 : BitVec 32 := 0#32
  let v334 : BitVec 1 := Scalar.cmpi .slt v332 c0_i32_306
  let c0_i32_307 : BitVec 32 := 0#32
  let v335 : BitVec 1 := Scalar.cmpi .slt v331 c0_i32_307
  let v336 : BitVec 1 := Scalar.xori v334 v335
  let c0_i32_305 : BitVec 32 := 0#32
  let v333 : BitVec 1 := Scalar.cmpi .ne v332 c0_i32_305
  let v337 : BitVec 1 := Scalar.andi v336 v333
  let v338 : BitVec 32 := Scalar.addi v332 v331
  let v339 : BitVec 32 := Scalar.select v337 v338 v332
  ![v339.toNat]
def k0_off34 (k0_t5 : Fin k0_t5_loop.trips) : Fin 3 → Nat :=
  let c0_i32_243 : BitVec 32 := 0#32
  let c1_i32_245 : BitVec 32 := 1#32
  let arg22 : BitVec 32 := Scf.iv c0_i32_243 c1_i32_245 k0_t5
  let c7_i32_301 : BitVec 32 := 7#32
  let v329 : BitVec 32 := Scalar.addi arg22 c7_i32_301
  let c8_i32_302 : BitVec 32 := 8#32
  let c0_i32_303 : BitVec 32 := 0#32
  let v330 : BitVec 1 := Scalar.cmpi .eq c8_i32_302 c0_i32_303
  let c1_i32_304 : BitVec 32 := 1#32
  let v331 : BitVec 32 := Scalar.select v330 c1_i32_304 c8_i32_302
  let v332 : BitVec 32 := Scalar.remsi v329 v331
  let c0_i32_306 : BitVec 32 := 0#32
  let v334 : BitVec 1 := Scalar.cmpi .slt v332 c0_i32_306
  let c0_i32_307 : BitVec 32 := 0#32
  let v335 : BitVec 1 := Scalar.cmpi .slt v331 c0_i32_307
  let v336 : BitVec 1 := Scalar.xori v334 v335
  let c0_i32_305 : BitVec 32 := 0#32
  let v333 : BitVec 1 := Scalar.cmpi .ne v332 c0_i32_305
  let v337 : BitVec 1 := Scalar.andi v336 v333
  let v338 : BitVec 32 := Scalar.addi v332 v331
  let v339 : BitVec 32 := Scalar.select v337 v338 v332
  let c0_i32_310 : BitVec 32 := 0#32
  let c0_i32_311 : BitVec 32 := 0#32
  ![v339.toNat, 0, 0]
def k0_off35 (k0_t5 : Fin k0_t5_loop.trips) : Fin 3 → Nat :=
  let c1_i32_309 : BitVec 32 := 1#32
  let c0_i32_243 : BitVec 32 := 0#32
  let c1_i32_245 : BitVec 32 := 1#32
  let arg22 : BitVec 32 := Scf.iv c0_i32_243 c1_i32_245 k0_t5
  let c7_i32_301 : BitVec 32 := 7#32
  let v329 : BitVec 32 := Scalar.addi arg22 c7_i32_301
  let c64_i32_308 : BitVec 32 := 64#32
  let v340 : BitVec 32 := Scalar.muli v329 c64_i32_308
  let c0_i32_312 : BitVec 32 := 0#32
  ![1, v340.toNat, 0]
def k0_off36 (k0_t5 : Fin k0_t5_loop.trips) : Fin 1 → Nat :=
  let c0_i32_243 : BitVec 32 := 0#32
  let c1_i32_245 : BitVec 32 := 1#32
  let arg22 : BitVec 32 := Scf.iv c0_i32_243 c1_i32_245 k0_t5
  let c8_i32 : BitVec 32 := 8#32
  let c0_i32_281 : BitVec 32 := 0#32
  let v292 : BitVec 1 := Scalar.cmpi .eq c8_i32 c0_i32_281
  let c1_i32_282 : BitVec 32 := 1#32
  let v293 : BitVec 32 := Scalar.select v292 c1_i32_282 c8_i32
  let v294 : BitVec 32 := Scalar.remsi arg22 v293
  let c0_i32_284 : BitVec 32 := 0#32
  let v296 : BitVec 1 := Scalar.cmpi .slt v294 c0_i32_284
  let c0_i32_285 : BitVec 32 := 0#32
  let v297 : BitVec 1 := Scalar.cmpi .slt v293 c0_i32_285
  let v298 : BitVec 1 := Scalar.xori v296 v297
  let c0_i32_283 : BitVec 32 := 0#32
  let v295 : BitVec 1 := Scalar.cmpi .ne v294 c0_i32_283
  let v299 : BitVec 1 := Scalar.andi v298 v295
  let v300 : BitVec 32 := Scalar.addi v294 v293
  let v301 : BitVec 32 := Scalar.select v299 v300 v294
  ![v301.toNat]
def k0_off37 (k0_t5 : Fin k0_t5_loop.trips) : Fin 3 → Nat :=
  let c0_i32_243 : BitVec 32 := 0#32
  let c1_i32_245 : BitVec 32 := 1#32
  let arg22 : BitVec 32 := Scf.iv c0_i32_243 c1_i32_245 k0_t5
  let c8_i32 : BitVec 32 := 8#32
  let c0_i32_281 : BitVec 32 := 0#32
  let v292 : BitVec 1 := Scalar.cmpi .eq c8_i32 c0_i32_281
  let c1_i32_282 : BitVec 32 := 1#32
  let v293 : BitVec 32 := Scalar.select v292 c1_i32_282 c8_i32
  let v294 : BitVec 32 := Scalar.remsi arg22 v293
  let c0_i32_284 : BitVec 32 := 0#32
  let v296 : BitVec 1 := Scalar.cmpi .slt v294 c0_i32_284
  let c0_i32_285 : BitVec 32 := 0#32
  let v297 : BitVec 1 := Scalar.cmpi .slt v293 c0_i32_285
  let v298 : BitVec 1 := Scalar.xori v296 v297
  let c0_i32_283 : BitVec 32 := 0#32
  let v295 : BitVec 1 := Scalar.cmpi .ne v294 c0_i32_283
  let v299 : BitVec 1 := Scalar.andi v298 v295
  let v300 : BitVec 32 := Scalar.addi v294 v293
  let v301 : BitVec 32 := Scalar.select v299 v300 v294
  let c0_i32_288 : BitVec 32 := 0#32
  let c0_i32_289 : BitVec 32 := 0#32
  ![v301.toNat, 0, 0]
def k0_off38 (k0_t5 : Fin k0_t5_loop.trips) : Fin 3 → Nat :=
  let c1_i32_287 : BitVec 32 := 1#32
  let c0_i32_243 : BitVec 32 := 0#32
  let c1_i32_245 : BitVec 32 := 1#32
  let arg22 : BitVec 32 := Scf.iv c0_i32_243 c1_i32_245 k0_t5
  let c64_i32_286 : BitVec 32 := 64#32
  let v302 : BitVec 32 := Scalar.muli arg22 c64_i32_286
  let c0_i32_290 : BitVec 32 := 0#32
  ![1, v302.toNat, 0]
def k0_off39 (k0_t5 : Fin k0_t5_loop.trips) : Fin 3 → Nat :=
  let c0_i32_243 : BitVec 32 := 0#32
  let c1_i32_245 : BitVec 32 := 1#32
  let arg22 : BitVec 32 := Scf.iv c0_i32_243 c1_i32_245 k0_t5
  let c8_i32_291 : BitVec 32 := 8#32
  let c0_i32_292 : BitVec 32 := 0#32
  let v309 : BitVec 1 := Scalar.cmpi .eq c8_i32_291 c0_i32_292
  let c1_i32_293 : BitVec 32 := 1#32
  let v310 : BitVec 32 := Scalar.select v309 c1_i32_293 c8_i32_291
  let v311 : BitVec 32 := Scalar.remsi arg22 v310
  let c0_i32_295 : BitVec 32 := 0#32
  let v313 : BitVec 1 := Scalar.cmpi .slt v311 c0_i32_295
  let c0_i32_296 : BitVec 32 := 0#32
  let v314 : BitVec 1 := Scalar.cmpi .slt v310 c0_i32_296
  let v315 : BitVec 1 := Scalar.xori v313 v314
  let c0_i32_294 : BitVec 32 := 0#32
  let v312 : BitVec 1 := Scalar.cmpi .ne v311 c0_i32_294
  let v316 : BitVec 1 := Scalar.andi v315 v312
  let v317 : BitVec 32 := Scalar.addi v311 v310
  let v318 : BitVec 32 := Scalar.select v316 v317 v311
  let v319 : Index := Scalar.indexCast v318
  let c0_297 : Index := 0#32
  let c0_298 : Index := 0#32
  ![v319.toNat, 0, 0]
def k0_mult5 (k0_t5 : Fin k0_t5_loop.trips) : BitVec 32 :=
  let c0_i32_243 : BitVec 32 := 0#32
  let c1_i32_245 : BitVec 32 := 1#32
  let arg22 : BitVec 32 := Scf.iv c0_i32_243 c1_i32_245 k0_t5
  let c64_i32_299 : BitVec 32 := 64#32
  let v323 : BitVec 32 := Scalar.muli arg22 c64_i32_299
  v323
def k0_off40 (k0_t5 : Fin k0_t5_loop.trips) : Fin 2 → Nat :=
  let c0_i32_243 : BitVec 32 := 0#32
  let c1_i32_245 : BitVec 32 := 1#32
  let arg22 : BitVec 32 := Scf.iv c0_i32_243 c1_i32_245 k0_t5
  let c64_i32_299 : BitVec 32 := 64#32
  let v323 : BitVec 32 := Scalar.muli arg22 c64_i32_299
  let v324 : BitVec 32 := v323
  let v325 : Index := Scalar.indexCast v324
  let c0_300 : Index := 0#32
  ![v325.toNat, 0]
@[reducible] def k0_t6_loop : Scf.Loop 32 :=
  let c0_i32_275 : BitVec 32 := 0#32
  let c4_i32_276 : BitVec 32 := 4#32
  let v287 : BitVec 32 := Scalar.addi c0_i32_275 c4_i32_276
  let c1_i32_277 : BitVec 32 := 1#32
  ⟨c0_i32_275, v287, c1_i32_277⟩
def k0_cond8 (k0_t6 : Fin k0_t6_loop.trips) : BitVec 1 :=
  let c0_i32_275 : BitVec 32 := 0#32
  let c1_i32_277 : BitVec 32 := 1#32
  let arg22 : BitVec 32 := Scf.iv c0_i32_275 c1_i32_277 k0_t6
  let c4_i32_279 : BitVec 32 := 4#32
  let v288 : BitVec 32 := Scalar.addi arg22 c4_i32_279
  let c4_i32_280 : BitVec 32 := 4#32
  let v289 : BitVec 1 := Scalar.cmpi .slt v288 c4_i32_280
  let v290 : BitVec 32 := Scalar.extui v289
  let c0_i32_281 : BitVec 32 := 0#32
  let v291 : BitVec 1 := Scalar.cmpi .ne v290 c0_i32_281
  v291

def k0_off41 (k0_t6 : Fin k0_t6_loop.trips) : Fin 1 → Nat :=
  let c0_i32_275 : BitVec 32 := 0#32
  let c1_i32_277 : BitVec 32 := 1#32
  let arg22 : BitVec 32 := Scf.iv c0_i32_275 c1_i32_277 k0_t6
  let c4_i32_302 : BitVec 32 := 4#32
  let v329 : BitVec 32 := Scalar.addi arg22 c4_i32_302
  let c8_i32_303 : BitVec 32 := 8#32
  let c0_i32_304 : BitVec 32 := 0#32
  let v330 : BitVec 1 := Scalar.cmpi .eq c8_i32_303 c0_i32_304
  let c1_i32_305 : BitVec 32 := 1#32
  let v331 : BitVec 32 := Scalar.select v330 c1_i32_305 c8_i32_303
  let v332 : BitVec 32 := Scalar.remsi v329 v331
  let c0_i32_307 : BitVec 32 := 0#32
  let v334 : BitVec 1 := Scalar.cmpi .slt v332 c0_i32_307
  let c0_i32_308 : BitVec 32 := 0#32
  let v335 : BitVec 1 := Scalar.cmpi .slt v331 c0_i32_308
  let v336 : BitVec 1 := Scalar.xori v334 v335
  let c0_i32_306 : BitVec 32 := 0#32
  let v333 : BitVec 1 := Scalar.cmpi .ne v332 c0_i32_306
  let v337 : BitVec 1 := Scalar.andi v336 v333
  let v338 : BitVec 32 := Scalar.addi v332 v331
  let v339 : BitVec 32 := Scalar.select v337 v338 v332
  ![v339.toNat]
def k0_off42 (k0_t6 : Fin k0_t6_loop.trips) : Fin 3 → Nat :=
  let c0_i32_275 : BitVec 32 := 0#32
  let c1_i32_277 : BitVec 32 := 1#32
  let arg22 : BitVec 32 := Scf.iv c0_i32_275 c1_i32_277 k0_t6
  let c4_i32_302 : BitVec 32 := 4#32
  let v329 : BitVec 32 := Scalar.addi arg22 c4_i32_302
  let c8_i32_303 : BitVec 32 := 8#32
  let c0_i32_304 : BitVec 32 := 0#32
  let v330 : BitVec 1 := Scalar.cmpi .eq c8_i32_303 c0_i32_304
  let c1_i32_305 : BitVec 32 := 1#32
  let v331 : BitVec 32 := Scalar.select v330 c1_i32_305 c8_i32_303
  let v332 : BitVec 32 := Scalar.remsi v329 v331
  let c0_i32_307 : BitVec 32 := 0#32
  let v334 : BitVec 1 := Scalar.cmpi .slt v332 c0_i32_307
  let c0_i32_308 : BitVec 32 := 0#32
  let v335 : BitVec 1 := Scalar.cmpi .slt v331 c0_i32_308
  let v336 : BitVec 1 := Scalar.xori v334 v335
  let c0_i32_306 : BitVec 32 := 0#32
  let v333 : BitVec 1 := Scalar.cmpi .ne v332 c0_i32_306
  let v337 : BitVec 1 := Scalar.andi v336 v333
  let v338 : BitVec 32 := Scalar.addi v332 v331
  let v339 : BitVec 32 := Scalar.select v337 v338 v332
  let c0_i32_311 : BitVec 32 := 0#32
  let c0_i32_312 : BitVec 32 := 0#32
  ![v339.toNat, 0, 0]
def k0_off43 (k0_t6 : Fin k0_t6_loop.trips) : Fin 3 → Nat :=
  let c1_i32_310 : BitVec 32 := 1#32
  let c0_i32_275 : BitVec 32 := 0#32
  let c1_i32_277 : BitVec 32 := 1#32
  let arg22 : BitVec 32 := Scf.iv c0_i32_275 c1_i32_277 k0_t6
  let c4_i32_302 : BitVec 32 := 4#32
  let v329 : BitVec 32 := Scalar.addi arg22 c4_i32_302
  let c64_i32_309 : BitVec 32 := 64#32
  let v340 : BitVec 32 := Scalar.muli v329 c64_i32_309
  let c0_i32_313 : BitVec 32 := 0#32
  ![1, v340.toNat, 0]
def k0_off44 (k0_t6 : Fin k0_t6_loop.trips) : Fin 1 → Nat :=
  let c0_i32_275 : BitVec 32 := 0#32
  let c1_i32_277 : BitVec 32 := 1#32
  let arg22 : BitVec 32 := Scf.iv c0_i32_275 c1_i32_277 k0_t6
  let c8_i32 : BitVec 32 := 8#32
  let c0_i32_282 : BitVec 32 := 0#32
  let v292 : BitVec 1 := Scalar.cmpi .eq c8_i32 c0_i32_282
  let c1_i32_283 : BitVec 32 := 1#32
  let v293 : BitVec 32 := Scalar.select v292 c1_i32_283 c8_i32
  let v294 : BitVec 32 := Scalar.remsi arg22 v293
  let c0_i32_285 : BitVec 32 := 0#32
  let v296 : BitVec 1 := Scalar.cmpi .slt v294 c0_i32_285
  let c0_i32_286 : BitVec 32 := 0#32
  let v297 : BitVec 1 := Scalar.cmpi .slt v293 c0_i32_286
  let v298 : BitVec 1 := Scalar.xori v296 v297
  let c0_i32_284 : BitVec 32 := 0#32
  let v295 : BitVec 1 := Scalar.cmpi .ne v294 c0_i32_284
  let v299 : BitVec 1 := Scalar.andi v298 v295
  let v300 : BitVec 32 := Scalar.addi v294 v293
  let v301 : BitVec 32 := Scalar.select v299 v300 v294
  ![v301.toNat]
def k0_off45 (k0_t6 : Fin k0_t6_loop.trips) : Fin 3 → Nat :=
  let c0_i32_275 : BitVec 32 := 0#32
  let c1_i32_277 : BitVec 32 := 1#32
  let arg22 : BitVec 32 := Scf.iv c0_i32_275 c1_i32_277 k0_t6
  let c8_i32 : BitVec 32 := 8#32
  let c0_i32_282 : BitVec 32 := 0#32
  let v292 : BitVec 1 := Scalar.cmpi .eq c8_i32 c0_i32_282
  let c1_i32_283 : BitVec 32 := 1#32
  let v293 : BitVec 32 := Scalar.select v292 c1_i32_283 c8_i32
  let v294 : BitVec 32 := Scalar.remsi arg22 v293
  let c0_i32_285 : BitVec 32 := 0#32
  let v296 : BitVec 1 := Scalar.cmpi .slt v294 c0_i32_285
  let c0_i32_286 : BitVec 32 := 0#32
  let v297 : BitVec 1 := Scalar.cmpi .slt v293 c0_i32_286
  let v298 : BitVec 1 := Scalar.xori v296 v297
  let c0_i32_284 : BitVec 32 := 0#32
  let v295 : BitVec 1 := Scalar.cmpi .ne v294 c0_i32_284
  let v299 : BitVec 1 := Scalar.andi v298 v295
  let v300 : BitVec 32 := Scalar.addi v294 v293
  let v301 : BitVec 32 := Scalar.select v299 v300 v294
  let c0_i32_289 : BitVec 32 := 0#32
  let c0_i32_290 : BitVec 32 := 0#32
  ![v301.toNat, 0, 0]
def k0_off46 (k0_t6 : Fin k0_t6_loop.trips) : Fin 3 → Nat :=
  let c1_i32_288 : BitVec 32 := 1#32
  let c0_i32_275 : BitVec 32 := 0#32
  let c1_i32_277 : BitVec 32 := 1#32
  let arg22 : BitVec 32 := Scf.iv c0_i32_275 c1_i32_277 k0_t6
  let c64_i32_287 : BitVec 32 := 64#32
  let v302 : BitVec 32 := Scalar.muli arg22 c64_i32_287
  let c0_i32_291 : BitVec 32 := 0#32
  ![1, v302.toNat, 0]
def k0_off47 (k0_t6 : Fin k0_t6_loop.trips) : Fin 3 → Nat :=
  let c0_i32_275 : BitVec 32 := 0#32
  let c1_i32_277 : BitVec 32 := 1#32
  let arg22 : BitVec 32 := Scf.iv c0_i32_275 c1_i32_277 k0_t6
  let c8_i32_292 : BitVec 32 := 8#32
  let c0_i32_293 : BitVec 32 := 0#32
  let v309 : BitVec 1 := Scalar.cmpi .eq c8_i32_292 c0_i32_293
  let c1_i32_294 : BitVec 32 := 1#32
  let v310 : BitVec 32 := Scalar.select v309 c1_i32_294 c8_i32_292
  let v311 : BitVec 32 := Scalar.remsi arg22 v310
  let c0_i32_296 : BitVec 32 := 0#32
  let v313 : BitVec 1 := Scalar.cmpi .slt v311 c0_i32_296
  let c0_i32_297 : BitVec 32 := 0#32
  let v314 : BitVec 1 := Scalar.cmpi .slt v310 c0_i32_297
  let v315 : BitVec 1 := Scalar.xori v313 v314
  let c0_i32_295 : BitVec 32 := 0#32
  let v312 : BitVec 1 := Scalar.cmpi .ne v311 c0_i32_295
  let v316 : BitVec 1 := Scalar.andi v315 v312
  let v317 : BitVec 32 := Scalar.addi v311 v310
  let v318 : BitVec 32 := Scalar.select v316 v317 v311
  let v319 : Index := Scalar.indexCast v318
  let c0_298 : Index := 0#32
  let c0_299 : Index := 0#32
  ![v319.toNat, 0, 0]
def k0_mult6 (k0_t6 : Fin k0_t6_loop.trips) : BitVec 32 :=
  let c0_i32_275 : BitVec 32 := 0#32
  let c1_i32_277 : BitVec 32 := 1#32
  let arg22 : BitVec 32 := Scf.iv c0_i32_275 c1_i32_277 k0_t6
  let c64_i32_300 : BitVec 32 := 64#32
  let v323 : BitVec 32 := Scalar.muli arg22 c64_i32_300
  v323
def k0_off48 (k0_t6 : Fin k0_t6_loop.trips) : Fin 2 → Nat :=
  let c0_i32_275 : BitVec 32 := 0#32
  let c1_i32_277 : BitVec 32 := 1#32
  let arg22 : BitVec 32 := Scf.iv c0_i32_275 c1_i32_277 k0_t6
  let c64_i32_300 : BitVec 32 := 64#32
  let v323 : BitVec 32 := Scalar.muli arg22 c64_i32_300
  let v324 : BitVec 32 := v323
  let v325 : Index := Scalar.indexCast v324
  let c0_301 : Index := 0#32
  ![v325.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference2Ideal.lean ====
abbrev S8x2048x1024 : Shape := ⟨3, ![8, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x8x2048x256 : Shape := ⟨4, ![2, 8, 2048, 256]⟩
abbrev S2x1024x1024 : Shape := ⟨3, ![2, 1024, 1024]⟩
abbrev S2x256x1024 : Shape := ⟨3, ![2, 256, 1024]⟩
abbrev S1x1024x1024 : Shape := ⟨3, ![1, 1024, 1024]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x2048x2816 : Shape := ⟨3, ![8, 2048, 2816]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 110
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x2048x1024, .bf16⟩
  | .hbm, ⟨2, _⟩ => ⟨S2x1024, .f32⟩
  | .hbm, ⟨3, _⟩ => ⟨S2x1024x2816, .f32⟩
  | .hbm, ⟨4, _⟩ => ⟨S2x1024x2816, .f32⟩
  | .hbm, ⟨5, _⟩ => ⟨S2x2816x1024, .f32⟩
  | .hbm, ⟨6, _⟩ => ⟨S2x1024, .f32⟩
  | .hbm, ⟨7, _⟩ => ⟨S2x8x2048x256, .f32⟩
  | .hbm, ⟨8, _⟩ => ⟨S2x1024x1024, .f32⟩
  | .hbm, ⟨9, _⟩ => ⟨S2x256x1024, .f32⟩
  | .hbm, ⟨10, _⟩ => ⟨S1x1024x1024, .f32⟩
  | .hbm, ⟨11, _⟩ => ⟨S1024, .f32⟩
  | .hbm, ⟨12, _⟩ => ⟨S8x2048x1024, .f32⟩
  | .hbm, ⟨13, _⟩ => ⟨S1024x1024, .f32⟩
  | .hbm, ⟨14, _⟩ => ⟨S8x2048x1024, .f32⟩
  | .hbm, ⟨15, _⟩ => ⟨S8x2048x1024, .f32⟩
  | .hbm, ⟨16, _⟩ => ⟨S1x1024, .f32⟩
  | .hbm, ⟨17, _⟩ => ⟨S1024, .f32⟩
  | .hbm, ⟨18, _⟩ => ⟨S8x2048x1024, .f32⟩
  | .hbm, ⟨19, _⟩ => ⟨S_, .f32⟩
  | .hbm, ⟨20, _⟩ => ⟨S8x2048, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S_, .f32⟩
  | .hbm, ⟨26, _⟩ => ⟨S8x2048x1, .f32⟩
  | .hbm, ⟨27, _⟩ => ⟨S8x2048x1, .f32⟩
  | .hbm, ⟨28, _⟩ => ⟨S8x2048x1, .f32⟩
  | .hbm, ⟨29, _⟩ => ⟨S8x2048x1024, .f32⟩
  | .hbm, ⟨30, _⟩ => ⟨S8x2048x1024, .f32⟩
  | .hbm, ⟨31, _⟩ => ⟨S1x1x1024, .f32⟩
  | .hbm, ⟨32, _⟩ => ⟨S8x2048x1024, .f32⟩
  | .hbm, ⟨33, _⟩ => ⟨S8x2048x1024, .f32⟩
  | .hbm, ⟨34, _⟩ => ⟨S1x1024x2816, .f32⟩
  | .hbm, ⟨35, _⟩ => ⟨S1024x2816, .f32⟩
  | .hbm, ⟨36, _⟩ => ⟨S1x1024x2816, .f32⟩
  | .hbm, ⟨37, _⟩ => ⟨S1024x2816, .f32⟩
  | .hbm, ⟨38, _⟩ => ⟨S1x2816x1024, .f32⟩
  | .hbm, ⟨39, _⟩ => ⟨S2816x1024, .f32⟩
  | .hbm, ⟨40, _⟩ => ⟨S8x2048x2816, .f32⟩
  | .hbm, ⟨41, _⟩ => ⟨S8x2048x2816, .f32⟩
  | .hbm, ⟨42, _⟩ => ⟨S8x2048x2816, .f32⟩
  | .hbm, ⟨43, _⟩ => ⟨S_, .f32⟩
  | .hbm, ⟨44, _⟩ => ⟨S8x2048x2816, .f32⟩
  | .hbm, ⟨45, _⟩ => ⟨S8x2048x2816, .f32⟩
  | .hbm, ⟨46, _⟩ => ⟨S_, .f32⟩
  | .hbm, ⟨47, _⟩ => ⟨S8x2048x2816, .f32⟩
  | .hbm, ⟨48, _⟩ => ⟨S8x2048x2816, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S8x2048x1024, .f32⟩
  | .hbm, ⟨53, _⟩ => ⟨S_, .f32⟩
  | .hbm, ⟨54, _⟩ => ⟨S8x2048x1024, .f32⟩
  | .hbm, ⟨55, _⟩ => ⟨S8x2048x1024, .f32⟩
  | .hbm, ⟨56, _⟩ => ⟨S8x2048x1024, .f32⟩
  | .hbm, ⟨57, _⟩ => ⟨S1x1024, .f32⟩
  | .hbm, ⟨58, _⟩ => ⟨S1024, .f32⟩
  | .hbm, ⟨59, _⟩ => ⟨S8x2048x1024, .f32⟩
  | .hbm, ⟨60, _⟩ => ⟨S_, .f32⟩
  | .hbm, ⟨61, _⟩ => ⟨S8x2048, .f32⟩
  | .hbm, ⟨62, _⟩ => ⟨S8x2048x1, .f32⟩
  | .hbm, ⟨63, _⟩ => ⟨S_, .f32⟩
  | .hbm, ⟨64, _⟩ => ⟨S8x2048x1, .f32⟩
  | .hbm, ⟨65, _⟩ => ⟨S8x2048x1, .f32⟩
  | .hbm, ⟨66, _⟩ => ⟨S_, .f32⟩
  | .hbm, ⟨67, _⟩ => ⟨S8x2048x1, .f32⟩
  | .hbm, ⟨68, _⟩ => ⟨S8x2048x1, .f32⟩
  | .hbm, ⟨69, _⟩ => ⟨S8x2048x1, .f32⟩
  | .hbm, ⟨70, _⟩ => ⟨S8x2048x1024, .f32⟩
  | .hbm, ⟨71, _⟩ => ⟨S8x2048x1024, .f32⟩
  | .hbm, ⟨72, _⟩ => ⟨S1x1x1024, .f32⟩
  | .hbm, ⟨73, _⟩ => ⟨S8x2048x1024, .f32⟩
  | .hbm, ⟨74, _⟩ => ⟨S8x2048x1024, .f32⟩
  | .hbm, ⟨75, _⟩ => ⟨S1x1024x1024, .f32⟩
  | .hbm, ⟨76, _⟩ => ⟨S1024x1024, .f32⟩
  | .hbm, ⟨77, _⟩ => ⟨S8x2048x1024, .f32⟩
  | .hbm, ⟨78, _⟩ => ⟨S8x2048x1024, .f32⟩
  | .hbm, ⟨79, _⟩ => ⟨S8x2048x1024, .f32⟩
  | .hbm, ⟨80, _⟩ => ⟨S_, .f32⟩
  | .hbm, ⟨81, _⟩ => ⟨S8x2048x1024, .f32⟩
  | .hbm, ⟨82, _⟩ => ⟨S8x2048x1024, .f32⟩
  | .hbm, ⟨83, _⟩ => ⟨S_, .f32⟩
  | .hbm, ⟨84, _⟩ => ⟨S8x2048x1024, .f32⟩
  | .hbm, ⟨85, _⟩ => ⟨S8x2048x1024, .f32⟩
  | .hbm, ⟨86, _⟩ => ⟨S1x8x2048x256, .f32⟩
  | .hbm, ⟨87, _⟩ => ⟨S8x2048x256, .f32⟩
  | .hbm, ⟨88, _⟩ => ⟨S1x256x1024, .f32⟩
  | .hbm, ⟨89, _⟩ => ⟨S256x1024, .f32⟩
  | .hbm, ⟨90, _⟩ => ⟨S8x2048x1024, .f32⟩
  | .hbm, ⟨91, _⟩ => ⟨S8x2048x1024, .f32⟩
  | .hbm, ⟨92, _⟩ => ⟨S8x2048x1024, .f32⟩
  | .hbm, ⟨93, _⟩ => ⟨S8x2048x1024, .f32⟩
  | .hbm, ⟨94, _⟩ => ⟨S_, .f32⟩
  | .hbm, ⟨95, _⟩ => ⟨S8x2048, .f32⟩
  | .hbm, ⟨96, _⟩ => ⟨S8x2048x1, .f32⟩
  | .hbm, ⟨97, _⟩ => ⟨S_, .f32⟩
  | .hbm, ⟨98, _⟩ => ⟨S8x2048x1, .f32⟩
  | .hbm, ⟨99, _⟩ => ⟨S8x2048x1, .f32⟩
  | .hbm, ⟨100, _⟩ => ⟨S_, .f32⟩
  | .hbm, ⟨101, _⟩ => ⟨S8x2048x1, .f32⟩
  | .hbm, ⟨102, _⟩ => ⟨S8x2048x1, .f32⟩
  | .hbm, ⟨103, _⟩ => ⟨S8x2048x1, .f32⟩
  | .hbm, ⟨104, _⟩ => ⟨S8x2048x1024, .f32⟩
  | .hbm, ⟨105, _⟩ => ⟨S8x2048x1024, .f32⟩
  | .hbm, ⟨106, _⟩ => ⟨S1x1x1024, .f32⟩
  | .hbm, ⟨107, _⟩ => ⟨S8x2048x1024, .f32⟩
  | .hbm, ⟨108, _⟩ => ⟨S8x2048x1024, .f32⟩
  | .hbm, ⟨109, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_cst_2 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_3 : Ref sig .tc := ⟨.hbm, 60, rfl⟩
abbrev main_v36 : Ref sig .tc := ⟨.hbm, 61, rfl⟩
abbrev main_v37 : Ref sig .tc := ⟨.hbm, 62, rfl⟩
abbrev main_cst_4 : Ref sig .tc := ⟨.hbm, 63, rfl⟩
abbrev main_v38 : Ref sig .tc := ⟨.hbm, 64, rfl⟩
abbrev main_v39 : Ref sig .tc := ⟨.hbm, 65, rfl⟩
abbrev main_cst_5 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_cst_6 : Ref sig .tc := ⟨.hbm, 80, rfl⟩
abbrev main_v53 : Ref sig .tc := ⟨.hbm, 81, rfl⟩
abbrev main_v54 : Ref sig .tc := ⟨.hbm, 82, rfl⟩
abbrev main_cst_7 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_8 : Ref sig .tc := ⟨.hbm, 94, rfl⟩
abbrev main_v65 : Ref sig .tc := ⟨.hbm, 95, rfl⟩
abbrev main_v66 : Ref sig .tc := ⟨.hbm, 96, rfl⟩
abbrev main_cst_9 : Ref sig .tc := ⟨.hbm, 97, rfl⟩
abbrev main_v67 : Ref sig .tc := ⟨.hbm, 98, rfl⟩
abbrev main_v68 : Ref sig .tc := ⟨.hbm, 99, rfl⟩
abbrev main_cst_10 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩

abbrev nD : Nat := 1
abbrev τ : Topo := Topo.v7x

variable {F : FTy → Type} [FloatOps F]
-- ==== Kernel3.lean ====
abbrev S8x2048x1024 : Shape := ⟨3, ![8, 2048, 1024]⟩
abbrev S8x512x2048 : Shape := ⟨3, ![8, 512, 2048]⟩
abbrev S8x2048x512 : Shape := ⟨3, ![8, 2048, 512]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x8x2048x256 : Shape := ⟨4, ![2, 8, 2048, 256]⟩
abbrev S2x1024x1024 : Shape := ⟨3, ![2, 1024, 1024]⟩
abbrev S2x256x1024 : Shape := ⟨3, ![2, 256, 1024]⟩
abbrev S1x1024x1024 : Shape := ⟨3, ![1, 1024, 1024]⟩
abbrev S16384x1024 : Shape := ⟨2, ![16384, 1024]⟩
abbrev S16384x512 : Shape := ⟨2, ![16384, 512]⟩
abbrev S1x1024 : Shape := ⟨2, ![1, 1024]⟩
abbrev S1024 : Shape := ⟨1, ![1024]⟩
abbrev S2x16384x256 : Shape := ⟨3, ![2, 16384, 256]⟩
abbrev S512x1024 : Shape := ⟨2, ![512, 1024]⟩
abbrev S1x512x512 : Shape := ⟨3, ![1, 512, 512]⟩
abbrev S512x512 : Shape := ⟨2, ![512, 512]⟩
abbrev S1x512x256 : Shape := ⟨3, ![1, 512, 256]⟩
abbrev S1024x1024 : Shape := ⟨2, ![1024, 1024]⟩
abbrev S1024x2816 : Shape := ⟨2, ![1024, 2816]⟩
abbrev S2816x1024 : Shape := ⟨2, ![2816, 1024]⟩
abbrev S256x1024 : Shape := ⟨2, ![256, 1024]⟩
abbrev S8x64x2816 : Shape := ⟨3, ![8, 64, 2816]⟩
abbrev S8 : Shape := ⟨1, ![8]⟩
abbrev S1 : Shape := ⟨1, ![1]⟩
abbrev S_ : Shape := ⟨0, ![]⟩
abbrev S1x64x1024 : Shape := ⟨3, ![1, 64, 1024]⟩
abbrev S64x1024 : Shape := ⟨2, ![64, 1024]⟩
abbrev S1x64x2816 : Shape := ⟨3, ![1, 64, 2816]⟩
abbrev S64x2816 : Shape := ⟨2, ![64, 2816]⟩
abbrev S512 : Shape := ⟨1, ![512]⟩
abbrev S512x1 : Shape := ⟨2, ![512, 1]⟩
abbrev S512x2816 : Shape := ⟨2, ![512, 2816]⟩
abbrev S512x256 : Shape := ⟨2, ![512, 256]⟩

abbrev nBuf : Space → Nat
  | .hbm => 22
  | .vmem => 19
  | .smem => 0
  | _ => 0

abbrev bufTy : (tb : Table) → Fin (tcTables nBuf tb) → BufTy
  | .hbm, ⟨0, _⟩ => ⟨S8x2048x1024, .f32⟩
  | .hbm, ⟨1, _⟩ => ⟨S8x512x2048, .bf16⟩
  | .hbm, ⟨2, _⟩ => ⟨S8x2048x512, .bf16⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S2x1024, .f32⟩
  | .hbm, ⟨8, _⟩ => ⟨S2x8x2048x256, .f32⟩
  | .hbm, ⟨9, _⟩ => ⟨S2x1024x1024, .f32⟩
  | .hbm, ⟨10, _⟩ => ⟨S2x256x1024, .f32⟩
  | .hbm, ⟨11, _⟩ => ⟨S1x1024x1024, .f32⟩
  | .hbm, ⟨12, _⟩ => ⟨S16384x1024, .f32⟩
  | .hbm, ⟨13, _⟩ => ⟨S16384x512, .bf16⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S1x1024, .f32⟩
  | .hbm, ⟨18, _⟩ => ⟨S1024, .f32⟩
  | .hbm, ⟨19, _⟩ => ⟨S1x1024, .f32⟩
  | .hbm, ⟨20, _⟩ => ⟨S2x16384x256, .f32⟩
  | .hbm, ⟨21, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x512x512, .bf16⟩
  | .local _ .vmem, ⟨3, _⟩ => ⟨S1x512x512, .bf16⟩
  | .local _ .vmem, ⟨4, _⟩ => ⟨S512x512, .bf16⟩
  | .local _ .vmem, ⟨5, _⟩ => ⟨S512x512, .bf16⟩
  | .local _ .vmem, ⟨6, _⟩ => ⟨S1x1024, .f32⟩
  | .local _ .vmem, ⟨7, _⟩ => ⟨S1x1024, .f32⟩
  | .local _ .vmem, ⟨8, _⟩ => ⟨S1x512x256, .f32⟩
  | .local _ .vmem, ⟨9, _⟩ => ⟨S1x512x256, .f32⟩
  | .local _ .vmem, ⟨10, _⟩ => ⟨S512x1024, .f32⟩
  | .local _ .vmem, ⟨11, _⟩ => ⟨S512x1024, .f32⟩
  | .local _ .vmem, ⟨12, _⟩ => ⟨S1024x1024, .bf16⟩
  | .local _ .vmem, ⟨13, _⟩ => ⟨S1024x2816, .bf16⟩
  | .local _ .vmem, ⟨14, _⟩ => ⟨S1024x2816, .bf16⟩
  | .local _ .vmem, ⟨15, _⟩ => ⟨S2816x1024, .bf16⟩
  | .local _ .vmem, ⟨16, _⟩ => ⟨S1024x1024, .bf16⟩
  | .local _ .vmem, ⟨17, _⟩ => ⟨S256x1024, .bf16⟩
  | .local _ .vmem, ⟨18, _⟩ => ⟨S8x64x2816, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_scratch5 : Ref sig .tc := ⟨.vmem, 17, rfl⟩
abbrev cc0_scratch6 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_86 : BitVec 32 := 0#32
  let c16_i32 : BitVec 32 := 16#32
  let v124 : BitVec 32 := Scalar.addi c0_i32_86 c16_i32
  let c1_i32_87 : BitVec 32 := 1#32
  ⟨c0_i32_86, v124, c1_i32_87⟩
def k0_cond2 (k0_t1 : Fin k0_t1_loop.trips) : BitVec 1 :=
  let c0_i32_86 : BitVec 32 := 0#32
  let c1_i32_87 : BitVec 32 := 1#32
  let arg22 : BitVec 32 := Scf.iv c0_i32_86 c1_i32_87 k0_t1
  let c7_i32 : BitVec 32 := 7#32
  let v125 : BitVec 32 := Scalar.addi arg22 c7_i32
  let c16_i32_89 : BitVec 32 := 16#32
  let v126 : BitVec 1 := Scalar.cmpi .slt v125 c16_i32_89
  let v127 : BitVec 32 := Scalar.extui v126
  let c0_i32_90 : BitVec 32 := 0#32
  let v128 : BitVec 1 := Scalar.cmpi .ne v127 c0_i32_90
  v128

def k0_off1 (k0_t1 : Fin k0_t1_loop.trips) : Fin 1 → Nat :=
  let c0_i32_86 : BitVec 32 := 0#32
  let c1_i32_87 : BitVec 32 := 1#32
  let arg22 : BitVec 32 := Scf.iv c0_i32_86 c1_i32_87 k0_t1
  let c7_i32_111 : BitVec 32 := 7#32
  let v166 : BitVec 32 := Scalar.addi arg22 c7_i32_111
  let c8_i32_112 : BitVec 32 := 8#32
  let c0_i32_113 : BitVec 32 := 0#32
  let v167 : BitVec 1 := Scalar.cmpi .eq c8_i32_112 c0_i32_113
  let c1_i32_114 : BitVec 32 := 1#32
  let v168 : BitVec 32 := Scalar.select v167 c1_i32_114 c8_i32_112
  let v169 : BitVec 32 := Scalar.remsi v166 v168
  let c0_i32_116 : BitVec 32 := 0#32
  let v171 : BitVec 1 := Scalar.cmpi .slt v169 c0_i32_116
  let c0_i32_117 : BitVec 32 := 0#32
  let v172 : BitVec 1 := Scalar.cmpi .slt v168 c0_i32_117
  let v173 : BitVec 1 := Scalar.xori v171 v172
  let c0_i32_115 : BitVec 32 := 0#32
  let v170 : BitVec 1 := Scalar.cmpi .ne v169 c0_i32_115
  let v174 : BitVec 1 := Scalar.andi v173 v170
  let v175 : BitVec 32 := Scalar.addi v169 v168
  let v176 : BitVec 32 := Scalar.select v174 v175 v169
  ![v176.toNat]
def k0_off2 (k0_t1 : Fin k0_t1_loop.trips) : Fin 3 → Nat :=
  let c0_i32_86 : BitVec 32 := 0#32
  let c1_i32_87 : BitVec 32 := 1#32
  let arg22 : BitVec 32 := Scf.iv c0_i32_86 c1_i32_87 k0_t1
  let c7_i32_111 : BitVec 32 := 7#32
  let v166 : BitVec 32 := Scalar.addi arg22 c7_i32_111
  let c8_i32_112 : BitVec 32 := 8#32
  let c0_i32_113 : BitVec 32 := 0#32
  let v167 : BitVec 1 := Scalar.cmpi .eq c8_i32_112 c0_i32_113
  let c1_i32_114 : BitVec 32 := 1#32
  let v168 : BitVec 32 := Scalar.select v167 c1_i32_114 c8_i32_112
  let v169 : BitVec 32 := Scalar.remsi v166 v168
  let c0_i32_116 : BitVec 32 := 0#32
  let v171 : BitVec 1 := Scalar.cmpi .slt v169 c0_i32_116
  let c0_i32_117 : BitVec 32 := 0#32
  let v172 : BitVec 1 := Scalar.cmpi .slt v168 c0_i32_117
  let v173 : BitVec 1 := Scalar.xori v171 v172
  let c0_i32_115 : BitVec 32 := 0#32
  let v170 : BitVec 1 := Scalar.cmpi .ne v169 c0_i32_115
  let v174 : BitVec 1 := Scalar.andi v173 v170
  let v175 : BitVec 32 := Scalar.addi v169 v168
  let v176 : BitVec 32 := Scalar.select v174 v175 v169
  let c0_i32_120 : BitVec 32 := 0#32
  let c0_i32_121 : BitVec 32 := 0#32
  ![v176.toNat, 0, 0]
def k0_off3 (k0_t1 : Fin k0_t1_loop.trips) : Fin 3 → Nat :=
  let c0_i32_119 : BitVec 32 := 0#32
  let c0_i32_86 : BitVec 32 := 0#32
  let c1_i32_87 : BitVec 32 := 1#32
  let arg22 : BitVec 32 := Scf.iv c0_i32_86 c1_i32_87 k0_t1
  let c7_i32_111 : BitVec 32 := 7#32
  let v166 : BitVec 32 := Scalar.addi arg22 c7_i32_111
  let c64_i32_118 : BitVec 32 := 64#32
  let v177 : BitVec 32 := Scalar.muli v166 c64_i32_118
  let c0_i32_122 : BitVec 32 := 0#32
  ![0, v177.toNat, 0]
def k0_off4 (k0_t1 : Fin k0_t1_loop.trips) : Fin 1 → Nat :=
  let c0_i32_86 : BitVec 32 := 0#32
  let c1_i32_87 : BitVec 32 := 1#32
  let arg22 : BitVec 32 := Scf.iv c0_i32_86 c1_i32_87 k0_t1
  let c8_i32 : BitVec 32 := 8#32
  let c0_i32_91 : BitVec 32 := 0#32
  let v129 : BitVec 1 := Scalar.cmpi .eq c8_i32 c0_i32_91
  let c1_i32_92 : BitVec 32 := 1#32
  let v130 : BitVec 32 := Scalar.select v129 c1_i32_92 c8_i32
  let v131 : BitVec 32 := Scalar.remsi arg22 v130
  let c0_i32_94 : BitVec 32 := 0#32
  let v133 : BitVec 1 := Scalar.cmpi .slt v131 c0_i32_94
  let c0_i32_95 : BitVec 32 := 0#32
  let v134 : BitVec 1 := Scalar.cmpi .slt v130 c0_i32_95
  let v135 : BitVec 1 := Scalar.xori v133 v134
  let c0_i32_93 : BitVec 32 := 0#32
  let v132 : BitVec 1 := Scalar.cmpi .ne v131 c0_i32_93
  let v136 : BitVec 1 := Scalar.andi v135 v132
  let v137 : BitVec 32 := Scalar.addi v131 v130
  let v138 : BitVec 32 := Scalar.select v136 v137 v131
  ![v138.toNat]
def k0_off5 (k0_t1 : Fin k0_t1_loop.trips) : Fin 3 → Nat :=
  let c0_i32_86 : BitVec 32 := 0#32
  let c1_i32_87 : BitVec 32 := 1#32
  let arg22 : BitVec 32 := Scf.iv c0_i32_86 c1_i32_87 k0_t1
  let c8_i32 : BitVec 32 := 8#32
  let c0_i32_91 : BitVec 32 := 0#32
  let v129 : BitVec 1 := Scalar.cmpi .eq c8_i32 c0_i32_91
  let c1_i32_92 : BitVec 32 := 1#32
  let v130 : BitVec 32 := Scalar.select v129 c1_i32_92 c8_i32
  let v131 : BitVec 32 := Scalar.remsi arg22 v130
  let c0_i32_94 : BitVec 32 := 0#32
  let v133 : BitVec 1 := Scalar.cmpi .slt v131 c0_i32_94
  let c0_i32_95 : BitVec 32 := 0#32
  let v134 : BitVec 1 := Scalar.cmpi .slt v130 c0_i32_95
  let v135 : BitVec 1 := Scalar.xori v133 v134
  let c0_i32_93 : BitVec 32 := 0#32
  let v132 : BitVec 1 := Scalar.cmpi .ne v131 c0_i32_93
  let v136 : BitVec 1 := Scalar.andi v135 v132
  let v137 : BitVec 32 := Scalar.addi v131 v130
  let v138 : BitVec 32 := Scalar.select v136 v137 v131
  let c0_i32_98 : BitVec 32 := 0#32
  let c0_i32_99 : BitVec 32 := 0#32
  ![v138.toNat, 0, 0]
def k0_off6 (k0_t1 : Fin k0_t1_loop.trips) : Fin 3 → Nat :=
  let c0_i32_97 : BitVec 32 := 0#32
  let c0_i32_86 : BitVec 32 := 0#32
  let c1_i32_87 : BitVec 32 := 1#32
  let arg22 : BitVec 32 := Scf.iv c0_i32_86 c1_i32_87 k0_t1
  let c64_i32_96 : BitVec 32 := 64#32
  let v139 : BitVec 32 := Scalar.muli arg22 c64_i32_96
  let c0_i32_100 : BitVec 32 := 0#32
  ![0, v139.toNat, 0]
def k0_off7 (k0_t1 : Fin k0_t1_loop.trips) : Fin 3 → Nat :=
  let c0_i32_86 : BitVec 32 := 0#32
  let c1_i32_87 : BitVec 32 := 1#32
  let arg22 : BitVec 32 := Scf.iv c0_i32_86 c1_i32_87 k0_t1
  let c8_i32_101 : BitVec 32 := 8#32
  let c0_i32_102 : BitVec 32 := 0#32
  let v146 : BitVec 1 := Scalar.cmpi .eq c8_i32_101 c0_i32_102
  let c1_i32_103 : BitVec 32 := 1#32
  let v147 : BitVec 32 := Scalar.select v146 c1_i32_103 c8_i32_101
  let v148 : BitVec 32 := Scalar.remsi arg22 v147
  let c0_i32_105 : BitVec 32 := 0#32
  let v150 : BitVec 1 := Scalar.cmpi .slt v148 c0_i32_105
  let c0_i32_106 : BitVec 32 := 0#32
  let v151 : BitVec 1 := Scalar.cmpi .slt v147 c0_i32_106
  let v152 : BitVec 1 := Scalar.xori v150 v151
  let c0_i32_104 : BitVec 32 := 0#32
  let v149 : BitVec 1 := Scalar.cmpi .ne v148 c0_i32_104
  let v153 : BitVec 1 := Scalar.andi v152 v149
  let v154 : BitVec 32 := Scalar.addi v148 v147
  let v155 : BitVec 32 := Scalar.select v153 v154 v148
  let v156 : Index := Scalar.indexCast v155
  let c0_107 : Index := 0#32
  let c0_108 : Index := 0#32
  ![v156.toNat, 0, 0]
def k0_mult1 (k0_t1 : Fin k0_t1_loop.trips) : BitVec 32 :=
  let c0_i32_86 : BitVec 32 := 0#32
  let c1_i32_87 : BitVec 32 := 1#32
  let arg22 : BitVec 32 := Scf.iv c0_i32_86 c1_i32_87 k0_t1
  let c64_i32_109 : BitVec 32 := 64#32
  let v160 : BitVec 32 := Scalar.muli arg22 c64_i32_109
  v160
def k0_off8 (k0_t1 : Fin k0_t1_loop.trips) : Fin 2 → Nat :=
  let c0_i32_86 : BitVec 32 := 0#32
  let c1_i32_87 : BitVec 32 := 1#32
  let arg22 : BitVec 32 := Scf.iv c0_i32_86 c1_i32_87 k0_t1
  let c64_i32_109 : BitVec 32 := 64#32
  let v160 : BitVec 32 := Scalar.muli arg22 c64_i32_109
  let v161 : BitVec 32 := v160
  let v162 : Index := Scalar.indexCast v161
  let c0_110 : Index := 0#32
  ![v162.toNat, 0]
def k0_cond3 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

@[reducible] def k0_t2_loop : Scf.Loop 32 :=
  let c0_i32_86 : BitVec 32 := 0#32
  let c16_i32 : BitVec 32 := 16#32
  let v124 : BitVec 32 := Scalar.addi c0_i32_86 c16_i32
  let c1_i32_87 : BitVec 32 := 1#32
  ⟨c0_i32_86, v124, c1_i32_87⟩
def k0_cond4 (k0_t2 : Fin k0_t2_loop.trips) : BitVec 1 :=
  let c0_i32_86 : BitVec 32 := 0#32
  let c1_i32_87 : BitVec 32 := 1#32
  let arg22 : BitVec 32 := Scf.iv c0_i32_86 c1_i32_87 k0_t2
  let c7_i32 : BitVec 32 := 7#32
  let v279 : BitVec 32 := Scalar.addi arg22 c7_i32
  let c16_i32_279 : BitVec 32 := 16#32
  let v280 : BitVec 1 := Scalar.cmpi .slt v279 c16_i32_279
  let v281 : BitVec 32 := Scalar.extui v280
  let c0_i32_280 : BitVec 32 := 0#32
  let v282 : BitVec 1 := Scalar.cmpi .ne v281 c0_i32_280
  v282

def k0_off9 (k0_t2 : Fin k0_t2_loop.trips) : Fin 1 → Nat :=
  let c0_i32_86 : BitVec 32 := 0#32
  let c1_i32_87 : BitVec 32 := 1#32
  let arg22 : BitVec 32 := Scf.iv c0_i32_86 c1_i32_87 k0_t2
  let c7_i32_301 : BitVec 32 := 7#32
  let v320 : BitVec 32 := Scalar.addi arg22 c7_i32_301
  let c8_i32_302 : BitVec 32 := 8#32
  let c0_i32_303 : BitVec 32 := 0#32
  let v321 : BitVec 1 := Scalar.cmpi .eq c8_i32_302 c0_i32_303
  let c1_i32_304 : BitVec 32 := 1#32
  let v322 : BitVec 32 := Scalar.select v321 c1_i32_304 c8_i32_302
  let v323 : BitVec 32 := Scalar.remsi v320 v322
  let c0_i32_306 : BitVec 32 := 0#32
  let v325 : BitVec 1 := Scalar.cmpi .slt v323 c0_i32_306
  let c0_i32_307 : BitVec 32 := 0#32
  let v326 : BitVec 1 := Scalar.cmpi .slt v322 c0_i32_307
  let v327 : BitVec 1 := Scalar.xori v325 v326
  let c0_i32_305 : BitVec 32 := 0#32
  let v324 : BitVec 1 := Scalar.cmpi .ne v323 c0_i32_305
  let v328 : BitVec 1 := Scalar.andi v327 v324
  let v329 : BitVec 32 := Scalar.addi v323 v322
  let v330 : BitVec 32 := Scalar.select v328 v329 v323
  ![v330.toNat]
def k0_off10 (k0_t2 : Fin k0_t2_loop.trips) : Fin 3 → Nat :=
  let c0_i32_86 : BitVec 32 := 0#32
  let c1_i32_87 : BitVec 32 := 1#32
  let arg22 : BitVec 32 := Scf.iv c0_i32_86 c1_i32_87 k0_t2
  let c7_i32_301 : BitVec 32 := 7#32
  let v320 : BitVec 32 := Scalar.addi arg22 c7_i32_301
  let c8_i32_302 : BitVec 32 := 8#32
  let c0_i32_303 : BitVec 32 := 0#32
  let v321 : BitVec 1 := Scalar.cmpi .eq c8_i32_302 c0_i32_303
  let c1_i32_304 : BitVec 32 := 1#32
  let v322 : BitVec 32 := Scalar.select v321 c1_i32_304 c8_i32_302
  let v323 : BitVec 32 := Scalar.remsi v320 v322
  let c0_i32_306 : BitVec 32 := 0#32
  let v325 : BitVec 1 := Scalar.cmpi .slt v323 c0_i32_306
  let c0_i32_307 : BitVec 32 := 0#32
  let v326 : BitVec 1 := Scalar.cmpi .slt v322 c0_i32_307
  let v327 : BitVec 1 := Scalar.xori v325 v326
  let c0_i32_305 : BitVec 32 := 0#32
  let v324 : BitVec 1 := Scalar.cmpi .ne v323 c0_i32_305
  let v328 : BitVec 1 := Scalar.andi v327 v324
  let v329 : BitVec 32 := Scalar.addi v323 v322
  let v330 : BitVec 32 := Scalar.select v328 v329 v323
  let c0_i32_310 : BitVec 32 := 0#32
  let c0_i32_311 : BitVec 32 := 0#32
  ![v330.toNat, 0, 0]
def k0_off11 (k0_t2 : Fin k0_t2_loop.trips) : Fin 3 → Nat :=
  let c0_i32_309 : BitVec 32 := 0#32
  let c0_i32_86 : BitVec 32 := 0#32
  let c1_i32_87 : BitVec 32 := 1#32
  let arg22 : BitVec 32 := Scf.iv c0_i32_86 c1_i32_87 k0_t2
  let c7_i32_301 : BitVec 32 := 7#32
  let v320 : BitVec 32 := Scalar.addi arg22 c7_i32_301
  let c64_i32_308 : BitVec 32 := 64#32
  let v331 : BitVec 32 := Scalar.muli v320 c64_i32_308
  let c0_i32_312 : BitVec 32 := 0#32
  ![0, v331.toNat, 0]
def k0_off12 (k0_t2 : Fin k0_t2_loop.trips) : Fin 1 → Nat :=
  let c0_i32_86 : BitVec 32 := 0#32
  let c1_i32_87 : BitVec 32 := 1#32
  let arg22 : BitVec 32 := Scf.iv c0_i32_86 c1_i32_87 k0_t2
  let c8_i32 : BitVec 32 := 8#32
  let c0_i32_281 : BitVec 32 := 0#32
  let v283 : BitVec 1 := Scalar.cmpi .eq c8_i32 c0_i32_281
  let c1_i32_282 : BitVec 32 := 1#32
  let v284 : BitVec 32 := Scalar.select v283 c1_i32_282 c8_i32
  let v285 : BitVec 32 := Scalar.remsi arg22 v284
  let c0_i32_284 : BitVec 32 := 0#32
  let v287 : BitVec 1 := Scalar.cmpi .slt v285 c0_i32_284
  let c0_i32_285 : BitVec 32 := 0#32
  let v288 : BitVec 1 := Scalar.cmpi .slt v284 c0_i32_285
  let v289 : BitVec 1 := Scalar.xori v287 v288
  let c0_i32_283 : BitVec 32 := 0#32
  let v286 : BitVec 1 := Scalar.cmpi .ne v285 c0_i32_283
  let v290 : BitVec 1 := Scalar.andi v289 v286
  let v291 : BitVec 32 := Scalar.addi v285 v284
  let v292 : BitVec 32 := Scalar.select v290 v291 v285
  ![v292.toNat]
def k0_off13 (k0_t2 : Fin k0_t2_loop.trips) : Fin 3 → Nat :=
  let c0_i32_86 : BitVec 32 := 0#32
  let c1_i32_87 : BitVec 32 := 1#32
  let arg22 : BitVec 32 := Scf.iv c0_i32_86 c1_i32_87 k0_t2
  let c8_i32 : BitVec 32 := 8#32
  let c0_i32_281 : BitVec 32 := 0#32
  let v283 : BitVec 1 := Scalar.cmpi .eq c8_i32 c0_i32_281
  let c1_i32_282 : BitVec 32 := 1#32
  let v284 : BitVec 32 := Scalar.select v283 c1_i32_282 c8_i32
  let v285 : BitVec 32 := Scalar.remsi arg22 v284
  let c0_i32_284 : BitVec 32 := 0#32
  let v287 : BitVec 1 := Scalar.cmpi .slt v285 c0_i32_284
  let c0_i32_285 : BitVec 32 := 0#32
  let v288 : BitVec 1 := Scalar.cmpi .slt v284 c0_i32_285
  let v289 : BitVec 1 := Scalar.xori v287 v288
  let c0_i32_283 : BitVec 32 := 0#32
  let v286 : BitVec 1 := Scalar.cmpi .ne v285 c0_i32_283
  let v290 : BitVec 1 := Scalar.andi v289 v286
  let v291 : BitVec 32 := Scalar.addi v285 v284
  let v292 : BitVec 32 := Scalar.select v290 v291 v285
  let c0_i32_288 : BitVec 32 := 0#32
  let c0_i32_289 : BitVec 32 := 0#32
  ![v292.toNat, 0, 0]
def k0_off14 (k0_t2 : Fin k0_t2_loop.trips) : Fin 3 → Nat :=
  let c0_i32_287 : BitVec 32 := 0#32
  let c0_i32_86 : BitVec 32 := 0#32
  let c1_i32_87 : BitVec 32 := 1#32
  let arg22 : BitVec 32 := Scf.iv c0_i32_86 c1_i32_87 k0_t2
  let c64_i32_286 : BitVec 32 := 64#32
  let v293 : BitVec 32 := Scalar.muli arg22 c64_i32_286
  let c0_i32_290 : BitVec 32 := 0#32
  ![0, v293.toNat, 0]
def k0_off15 (k0_t2 : Fin k0_t2_loop.trips) : Fin 3 → Nat :=
  let c0_i32_86 : BitVec 32 := 0#32
  let c1_i32_87 : BitVec 32 := 1#32
  let arg22 : BitVec 32 := Scf.iv c0_i32_86 c1_i32_87 k0_t2
  let c8_i32_291 : BitVec 32 := 8#32
  let c0_i32_292 : BitVec 32 := 0#32
  let v300 : BitVec 1 := Scalar.cmpi .eq c8_i32_291 c0_i32_292
  let c1_i32_293 : BitVec 32 := 1#32
  let v301 : BitVec 32 := Scalar.select v300 c1_i32_293 c8_i32_291
  let v302 : BitVec 32 := Scalar.remsi arg22 v301
  let c0_i32_295 : BitVec 32 := 0#32
  let v304 : BitVec 1 := Scalar.cmpi .slt v302 c0_i32_295
  let c0_i32_296 : BitVec 32 := 0#32
  let v305 : BitVec 1 := Scalar.cmpi .slt v301 c0_i32_296
  let v306 : BitVec 1 := Scalar.xori v304 v305
  let c0_i32_294 : BitVec 32 := 0#32
  let v303 : BitVec 1 := Scalar.cmpi .ne v302 c0_i32_294
  let v307 : BitVec 1 := Scalar.andi v306 v303
  let v308 : BitVec 32 := Scalar.addi v302 v301
  let v309 : BitVec 32 := Scalar.select v307 v308 v302
  let v310 : Index := Scalar.indexCast v309
  let c0_297 : Index := 0#32
  let c0_298 : Index := 0#32
  ![v310.toNat, 0, 0]
def k0_mult2 (k0_t2 : Fin k0_t2_loop.trips) : BitVec 32 :=
  let c0_i32_86 : BitVec 32 := 0#32
  let c1_i32_87 : BitVec 32 := 1#32
  let arg22 : BitVec 32 := Scf.iv c0_i32_86 c1_i32_87 k0_t2
  let c64_i32_299 : BitVec 32 := 64#32
  let v314 : BitVec 32 := Scalar.muli arg22 c64_i32_299
  v314
def k0_off16 (k0_t2 : Fin k0_t2_loop.trips) : Fin 2 → Nat :=
  let c0_i32_86 : BitVec 32 := 0#32
  let c1_i32_87 : BitVec 32 := 1#32
  let arg22 : BitVec 32 := Scf.iv c0_i32_86 c1_i32_87 k0_t2
  let c64_i32_299 : BitVec 32 := 64#32
  let v314 : BitVec 32 := Scalar.muli arg22 c64_i32_299
  let v315 : BitVec 32 := v314
  let v316 : Index := Scalar.indexCast v315
  let c0_300 : Index := 0#32
  ![v316.toNat, 0]
@[reducible] def k0_t3_loop : Scf.Loop 32 :=
  let c0_i32_138 : BitVec 32 := 0#32
  let c16_i32_139 : BitVec 32 := 16#32
  let v167 : BitVec 32 := Scalar.addi c0_i32_138 c16_i32_139
  let c1_i32_140 : BitVec 32 := 1#32
  ⟨c0_i32_138, v167, c1_i32_140⟩
def k0_cond5 (k0_t3 : Fin k0_t3_loop.trips) : BitVec 1 :=
  let c0_i32_138 : BitVec 32 := 0#32
  let c1_i32_140 : BitVec 32 := 1#32
  let arg22 : BitVec 32 := Scf.iv c0_i32_138 c1_i32_140 k0_t3
  let c7_i32 : BitVec 32 := 7#32
  let v279 : BitVec 32 := Scalar.addi arg22 c7_i32
  let c16_i32_279 : BitVec 32 := 16#32
  let v280 : BitVec 1 := Scalar.cmpi .slt v279 c16_i32_279
  let v281 : BitVec 32 := Scalar.extui v280
  let c0_i32_280 : BitVec 32 := 0#32
  let v282 : BitVec 1 := Scalar.cmpi .ne v281 c0_i32_280
  v282

def k0_off17 (k0_t3 : Fin k0_t3_loop.trips) : Fin 1 → Nat :=
  let c0_i32_138 : BitVec 32 := 0#32
  let c1_i32_140 : BitVec 32 := 1#32
  let arg22 : BitVec 32 := Scf.iv c0_i32_138 c1_i32_140 k0_t3
  let c7_i32_301 : BitVec 32 := 7#32
  let v320 : BitVec 32 := Scalar.addi arg22 c7_i32_301
  let c8_i32_302 : BitVec 32 := 8#32
  let c0_i32_303 : BitVec 32 := 0#32
  let v321 : BitVec 1 := Scalar.cmpi .eq c8_i32_302 c0_i32_303
  let c1_i32_304 : BitVec 32 := 1#32
  let v322 : BitVec 32 := Scalar.select v321 c1_i32_304 c8_i32_302
  let v323 : BitVec 32 := Scalar.remsi v320 v322
  let c0_i32_306 : BitVec 32 := 0#32
  let v325 : BitVec 1 := Scalar.cmpi .slt v323 c0_i32_306
  let c0_i32_307 : BitVec 32 := 0#32
  let v326 : BitVec 1 := Scalar.cmpi .slt v322 c0_i32_307
  let v327 : BitVec 1 := Scalar.xori v325 v326
  let c0_i32_305 : BitVec 32 := 0#32
  let v324 : BitVec 1 := Scalar.cmpi .ne v323 c0_i32_305
  let v328 : BitVec 1 := Scalar.andi v327 v324
  let v329 : BitVec 32 := Scalar.addi v323 v322
  let v330 : BitVec 32 := Scalar.select v328 v329 v323
  ![v330.toNat]
def k0_off18 (k0_t3 : Fin k0_t3_loop.trips) : Fin 3 → Nat :=
  let c0_i32_138 : BitVec 32 := 0#32
  let c1_i32_140 : BitVec 32 := 1#32
  let arg22 : BitVec 32 := Scf.iv c0_i32_138 c1_i32_140 k0_t3
  let c7_i32_301 : BitVec 32 := 7#32
  let v320 : BitVec 32 := Scalar.addi arg22 c7_i32_301
  let c8_i32_302 : BitVec 32 := 8#32
  let c0_i32_303 : BitVec 32 := 0#32
  let v321 : BitVec 1 := Scalar.cmpi .eq c8_i32_302 c0_i32_303
  let c1_i32_304 : BitVec 32 := 1#32
  let v322 : BitVec 32 := Scalar.select v321 c1_i32_304 c8_i32_302
  let v323 : BitVec 32 := Scalar.remsi v320 v322
  let c0_i32_306 : BitVec 32 := 0#32
  let v325 : BitVec 1 := Scalar.cmpi .slt v323 c0_i32_306
  let c0_i32_307 : BitVec 32 := 0#32
  let v326 : BitVec 1 := Scalar.cmpi .slt v322 c0_i32_307
  let v327 : BitVec 1 := Scalar.xori v325 v326
  let c0_i32_305 : BitVec 32 := 0#32
  let v324 : BitVec 1 := Scalar.cmpi .ne v323 c0_i32_305
  let v328 : BitVec 1 := Scalar.andi v327 v324
  let v329 : BitVec 32 := Scalar.addi v323 v322
  let v330 : BitVec 32 := Scalar.select v328 v329 v323
  let c0_i32_310 : BitVec 32 := 0#32
  let c0_i32_311 : BitVec 32 := 0#32
  ![v330.toNat, 0, 0]
def k0_off19 (k0_t3 : Fin k0_t3_loop.trips) : Fin 3 → Nat :=
  let c0_i32_309 : BitVec 32 := 0#32
  let c0_i32_138 : BitVec 32 := 0#32
  let c1_i32_140 : BitVec 32 := 1#32
  let arg22 : BitVec 32 := Scf.iv c0_i32_138 c1_i32_140 k0_t3
  let c7_i32_301 : BitVec 32 := 7#32
  let v320 : BitVec 32 := Scalar.addi arg22 c7_i32_301
  let c64_i32_308 : BitVec 32 := 64#32
  let v331 : BitVec 32 := Scalar.muli v320 c64_i32_308
  let c0_i32_312 : BitVec 32 := 0#32
  ![0, v331.toNat, 0]
def k0_off20 (k0_t3 : Fin k0_t3_loop.trips) : Fin 1 → Nat :=
  let c0_i32_138 : BitVec 32 := 0#32
  let c1_i32_140 : BitVec 32 := 1#32
  let arg22 : BitVec 32 := Scf.iv c0_i32_138 c1_i32_140 k0_t3
  let c8_i32 : BitVec 32 := 8#32
  let c0_i32_281 : BitVec 32 := 0#32
  let v283 : BitVec 1 := Scalar.cmpi .eq c8_i32 c0_i32_281
  let c1_i32_282 : BitVec 32 := 1#32
  let v284 : BitVec 32 := Scalar.select v283 c1_i32_282 c8_i32
  let v285 : BitVec 32 := Scalar.remsi arg22 v284
  let c0_i32_284 : BitVec 32 := 0#32
  let v287 : BitVec 1 := Scalar.cmpi .slt v285 c0_i32_284
  let c0_i32_285 : BitVec 32 := 0#32
  let v288 : BitVec 1 := Scalar.cmpi .slt v284 c0_i32_285
  let v289 : BitVec 1 := Scalar.xori v287 v288
  let c0_i32_283 : BitVec 32 := 0#32
  let v286 : BitVec 1 := Scalar.cmpi .ne v285 c0_i32_283
  let v290 : BitVec 1 := Scalar.andi v289 v286
  let v291 : BitVec 32 := Scalar.addi v285 v284
  let v292 : BitVec 32 := Scalar.select v290 v291 v285
  ![v292.toNat]
def k0_off21 (k0_t3 : Fin k0_t3_loop.trips) : Fin 3 → Nat :=
  let c0_i32_138 : BitVec 32 := 0#32
  let c1_i32_140 : BitVec 32 := 1#32
  let arg22 : BitVec 32 := Scf.iv c0_i32_138 c1_i32_140 k0_t3
  let c8_i32 : BitVec 32 := 8#32
  let c0_i32_281 : BitVec 32 := 0#32
  let v283 : BitVec 1 := Scalar.cmpi .eq c8_i32 c0_i32_281
  let c1_i32_282 : BitVec 32 := 1#32
  let v284 : BitVec 32 := Scalar.select v283 c1_i32_282 c8_i32
  let v285 : BitVec 32 := Scalar.remsi arg22 v284
  let c0_i32_284 : BitVec 32 := 0#32
  let v287 : BitVec 1 := Scalar.cmpi .slt v285 c0_i32_284
  let c0_i32_285 : BitVec 32 := 0#32
  let v288 : BitVec 1 := Scalar.cmpi .slt v284 c0_i32_285
  let v289 : BitVec 1 := Scalar.xori v287 v288
  let c0_i32_283 : BitVec 32 := 0#32
  let v286 : BitVec 1 := Scalar.cmpi .ne v285 c0_i32_283
  let v290 : BitVec 1 := Scalar.andi v289 v286
  let v291 : BitVec 32 := Scalar.addi v285 v284
  let v292 : BitVec 32 := Scalar.select v290 v291 v285
  let c0_i32_288 : BitVec 32 := 0#32
  let c0_i32_289 : BitVec 32 := 0#32
  ![v292.toNat, 0, 0]
def k0_off22 (k0_t3 : Fin k0_t3_loop.trips) : Fin 3 → Nat :=
  let c0_i32_287 : BitVec 32 := 0#32
  let c0_i32_138 : BitVec 32 := 0#32
  let c1_i32_140 : BitVec 32 := 1#32
  let arg22 : BitVec 32 := Scf.iv c0_i32_138 c1_i32_140 k0_t3
  let c64_i32_286 : BitVec 32 := 64#32
  let v293 : BitVec 32 := Scalar.muli arg22 c64_i32_286
  let c0_i32_290 : BitVec 32 := 0#32
  ![0, v293.toNat, 0]
def k0_off23 (k0_t3 : Fin k0_t3_loop.trips) : Fin 3 → Nat :=
  let c0_i32_138 : BitVec 32 := 0#32
  let c1_i32_140 : BitVec 32 := 1#32
  let arg22 : BitVec 32 := Scf.iv c0_i32_138 c1_i32_140 k0_t3
  let c8_i32_291 : BitVec 32 := 8#32
  let c0_i32_292 : BitVec 32 := 0#32
  let v300 : BitVec 1 := Scalar.cmpi .eq c8_i32_291 c0_i32_292
  let c1_i32_293 : BitVec 32 := 1#32
  let v301 : BitVec 32 := Scalar.select v300 c1_i32_293 c8_i32_291
  let v302 : BitVec 32 := Scalar.remsi arg22 v301
  let c0_i32_295 : BitVec 32 := 0#32
  let v304 : BitVec 1 := Scalar.cmpi .slt v302 c0_i32_295
  let c0_i32_296 : BitVec 32 := 0#32
  let v305 : BitVec 1 := Scalar.cmpi .slt v301 c0_i32_296
  let v306 : BitVec 1 := Scalar.xori v304 v305
  let c0_i32_294 : BitVec 32 := 0#32
  let v303 : BitVec 1 := Scalar.cmpi .ne v302 c0_i32_294
  let v307 : BitVec 1 := Scalar.andi v306 v303
  let v308 : BitVec 32 := Scalar.addi v302 v301
  let v309 : BitVec 32 := Scalar.select v307 v308 v302
  let v310 : Index := Scalar.indexCast v309
  let c0_297 : Index := 0#32
  let c0_298 : Index := 0#32
  ![v310.toNat, 0, 0]
def k0_mult3 (k0_t3 : Fin k0_t3_loop.trips) : BitVec 32 :=
  let c0_i32_138 : BitVec 32 := 0#32
  let c1_i32_140 : BitVec 32 := 1#32
  let arg22 : BitVec 32 := Scf.iv c0_i32_138 c1_i32_140 k0_t3
  let c64_i32_299 : BitVec 32 := 64#32
  let v314 : BitVec 32 := Scalar.muli arg22 c64_i32_299
  v314
def k0_off24 (k0_t3 : Fin k0_t3_loop.trips) : Fin 2 → Nat :=
  let c0_i32_138 : BitVec 32 := 0#32
  let c1_i32_140 : BitVec 32 := 1#32
  let arg22 : BitVec 32 := Scf.iv c0_i32_138 c1_i32_140 k0_t3
  let c64_i32_299 : BitVec 32 := 64#32
  let v314 : BitVec 32 := Scalar.muli arg22 c64_i32_299
  let v315 : BitVec 32 := v314
  let v316 : Index := Scalar.indexCast v315
  let c0_300 : Index := 0#32
  ![v316.toNat, 0]
@[reducible] def k0_t4_loop : Scf.Loop 32 :=
  let c0_i32_191 : BitVec 32 := 0#32
  let c44_i32 : BitVec 32 := 44#32
  let v210 : BitVec 32 := Scalar.addi c0_i32_191 c44_i32
  let c1_i32_192 : BitVec 32 := 1#32
  ⟨c0_i32_191, v210, c1_i32_192⟩
def k0_cond6 (k0_t4 : Fin k0_t4_loop.trips) : BitVec 1 :=
  let c0_i32_191 : BitVec 32 := 0#32
  let c1_i32_192 : BitVec 32 := 1#32
  let arg22 : BitVec 32 := Scf.iv c0_i32_191 c1_i32_192 k0_t4
  let c7_i32 : BitVec 32 := 7#32
  let v279 : BitVec 32 := Scalar.addi arg22 c7_i32
  let c44_i32_279 : BitVec 32 := 44#32
  let v280 : BitVec 1 := Scalar.cmpi .slt v279 c44_i32_279
  let v281 : BitVec 32 := Scalar.extui v280
  let c0_i32_280 : BitVec 32 := 0#32
  let v282 : BitVec 1 := Scalar.cmpi .ne v281 c0_i32_280
  v282

def k0_off25 (k0_t4 : Fin k0_t4_loop.trips) : Fin 1 → Nat :=
  let c0_i32_191 : BitVec 32 := 0#32
  let c1_i32_192 : BitVec 32 := 1#32
  let arg22 : BitVec 32 := Scf.iv c0_i32_191 c1_i32_192 k0_t4
  let c7_i32_301 : BitVec 32 := 7#32
  let v320 : BitVec 32 := Scalar.addi arg22 c7_i32_301
  let c8_i32_302 : BitVec 32 := 8#32
  let c0_i32_303 : BitVec 32 := 0#32
  let v321 : BitVec 1 := Scalar.cmpi .eq c8_i32_302 c0_i32_303
  let c1_i32_304 : BitVec 32 := 1#32
  let v322 : BitVec 32 := Scalar.select v321 c1_i32_304 c8_i32_302
  let v323 : BitVec 32 := Scalar.remsi v320 v322
  let c0_i32_306 : BitVec 32 := 0#32
  let v325 : BitVec 1 := Scalar.cmpi .slt v323 c0_i32_306
  let c0_i32_307 : BitVec 32 := 0#32
  let v326 : BitVec 1 := Scalar.cmpi .slt v322 c0_i32_307
  let v327 : BitVec 1 := Scalar.xori v325 v326
  let c0_i32_305 : BitVec 32 := 0#32
  let v324 : BitVec 1 := Scalar.cmpi .ne v323 c0_i32_305
  let v328 : BitVec 1 := Scalar.andi v327 v324
  let v329 : BitVec 32 := Scalar.addi v323 v322
  let v330 : BitVec 32 := Scalar.select v328 v329 v323
  ![v330.toNat]
def k0_off26 (k0_t4 : Fin k0_t4_loop.trips) : Fin 3 → Nat :=
  let c0_i32_191 : BitVec 32 := 0#32
  let c1_i32_192 : BitVec 32 := 1#32
  let arg22 : BitVec 32 := Scf.iv c0_i32_191 c1_i32_192 k0_t4
  let c7_i32_301 : BitVec 32 := 7#32
  let v320 : BitVec 32 := Scalar.addi arg22 c7_i32_301
  let c8_i32_302 : BitVec 32 := 8#32
  let c0_i32_303 : BitVec 32 := 0#32
  let v321 : BitVec 1 := Scalar.cmpi .eq c8_i32_302 c0_i32_303
  let c1_i32_304 : BitVec 32 := 1#32
  let v322 : BitVec 32 := Scalar.select v321 c1_i32_304 c8_i32_302
  let v323 : BitVec 32 := Scalar.remsi v320 v322
  let c0_i32_306 : BitVec 32 := 0#32
  let v325 : BitVec 1 := Scalar.cmpi .slt v323 c0_i32_306
  let c0_i32_307 : BitVec 32 := 0#32
  let v326 : BitVec 1 := Scalar.cmpi .slt v322 c0_i32_307
  let v327 : BitVec 1 := Scalar.xori v325 v326
  let c0_i32_305 : BitVec 32 := 0#32
  let v324 : BitVec 1 := Scalar.cmpi .ne v323 c0_i32_305
  let v328 : BitVec 1 := Scalar.andi v327 v324
  let v329 : BitVec 32 := Scalar.addi v323 v322
  let v330 : BitVec 32 := Scalar.select v328 v329 v323
  let c0_i32_310 : BitVec 32 := 0#32
  let c0_i32_311 : BitVec 32 := 0#32
  ![v330.toNat, 0, 0]
def k0_off27 (k0_t4 : Fin k0_t4_loop.trips) : Fin 3 → Nat :=
  let c0_i32_309 : BitVec 32 := 0#32
  let c0_i32_191 : BitVec 32 := 0#32
  let c1_i32_192 : BitVec 32 := 1#32
  let arg22 : BitVec 32 := Scf.iv c0_i32_191 c1_i32_192 k0_t4
  let c7_i32_301 : BitVec 32 := 7#32
  let v320 : BitVec 32 := Scalar.addi arg22 c7_i32_301
  let c64_i32_308 : BitVec 32 := 64#32
  let v331 : BitVec 32 := Scalar.muli v320 c64_i32_308
  let c0_i32_312 : BitVec 32 := 0#32
  ![0, v331.toNat, 0]
def k0_off28 (k0_t4 : Fin k0_t4_loop.trips) : Fin 1 → Nat :=
  let c0_i32_191 : BitVec 32 := 0#32
  let c1_i32_192 : BitVec 32 := 1#32
  let arg22 : BitVec 32 := Scf.iv c0_i32_191 c1_i32_192 k0_t4
  let c8_i32 : BitVec 32 := 8#32
  let c0_i32_281 : BitVec 32 := 0#32
  let v283 : BitVec 1 := Scalar.cmpi .eq c8_i32 c0_i32_281
  let c1_i32_282 : BitVec 32 := 1#32
  let v284 : BitVec 32 := Scalar.select v283 c1_i32_282 c8_i32
  let v285 : BitVec 32 := Scalar.remsi arg22 v284
  let c0_i32_284 : BitVec 32 := 0#32
  let v287 : BitVec 1 := Scalar.cmpi .slt v285 c0_i32_284
  let c0_i32_285 : BitVec 32 := 0#32
  let v288 : BitVec 1 := Scalar.cmpi .slt v284 c0_i32_285
  let v289 : BitVec 1 := Scalar.xori v287 v288
  let c0_i32_283 : BitVec 32 := 0#32
  let v286 : BitVec 1 := Scalar.cmpi .ne v285 c0_i32_283
  let v290 : BitVec 1 := Scalar.andi v289 v286
  let v291 : BitVec 32 := Scalar.addi v285 v284
  let v292 : BitVec 32 := Scalar.select v290 v291 v285
  ![v292.toNat]
def k0_off29 (k0_t4 : Fin k0_t4_loop.trips) : Fin 3 → Nat :=
  let c0_i32_191 : BitVec 32 := 0#32
  let c1_i32_192 : BitVec 32 := 1#32
  let arg22 : BitVec 32 := Scf.iv c0_i32_191 c1_i32_192 k0_t4
  let c8_i32 : BitVec 32 := 8#32
  let c0_i32_281 : BitVec 32 := 0#32
  let v283 : BitVec 1 := Scalar.cmpi .eq c8_i32 c0_i32_281
  let c1_i32_282 : BitVec 32 := 1#32
  let v284 : BitVec 32 := Scalar.select v283 c1_i32_282 c8_i32
  let v285 : BitVec 32 := Scalar.remsi arg22 v284
  let c0_i32_284 : BitVec 32 := 0#32
  let v287 : BitVec 1 := Scalar.cmpi .slt v285 c0_i32_284
  let c0_i32_285 : BitVec 32 := 0#32
  let v288 : BitVec 1 := Scalar.cmpi .slt v284 c0_i32_285
  let v289 : BitVec 1 := Scalar.xori v287 v288
  let c0_i32_283 : BitVec 32 := 0#32
  let v286 : BitVec 1 := Scalar.cmpi .ne v285 c0_i32_283
  let v290 : BitVec 1 := Scalar.andi v289 v286
  let v291 : BitVec 32 := Scalar.addi v285 v284
  let v292 : BitVec 32 := Scalar.select v290 v291 v285
  let c0_i32_288 : BitVec 32 := 0#32
  let c0_i32_289 : BitVec 32 := 0#32
  ![v292.toNat, 0, 0]
def k0_off30 (k0_t4 : Fin k0_t4_loop.trips) : Fin 3 → Nat :=
  let c0_i32_287 : BitVec 32 := 0#32
  let c0_i32_191 : BitVec 32 := 0#32
  let c1_i32_192 : BitVec 32 := 1#32
  let arg22 : BitVec 32 := Scf.iv c0_i32_191 c1_i32_192 k0_t4
  let c64_i32_286 : BitVec 32 := 64#32
  let v293 : BitVec 32 := Scalar.muli arg22 c64_i32_286
  let c0_i32_290 : BitVec 32 := 0#32
  ![0, v293.toNat, 0]
def k0_off31 (k0_t4 : Fin k0_t4_loop.trips) : Fin 3 → Nat :=
  let c0_i32_191 : BitVec 32 := 0#32
  let c1_i32_192 : BitVec 32 := 1#32
  let arg22 : BitVec 32 := Scf.iv c0_i32_191 c1_i32_192 k0_t4
  let c8_i32_291 : BitVec 32 := 8#32
  let c0_i32_292 : BitVec 32 := 0#32
  let v300 : BitVec 1 := Scalar.cmpi .eq c8_i32_291 c0_i32_292
  let c1_i32_293 : BitVec 32 := 1#32
  let v301 : BitVec 32 := Scalar.select v300 c1_i32_293 c8_i32_291
  let v302 : BitVec 32 := Scalar.remsi arg22 v301
  let c0_i32_295 : BitVec 32 := 0#32
  let v304 : BitVec 1 := Scalar.cmpi .slt v302 c0_i32_295
  let c0_i32_296 : BitVec 32 := 0#32
  let v305 : BitVec 1 := Scalar.cmpi .slt v301 c0_i32_296
  let v306 : BitVec 1 := Scalar.xori v304 v305
  let c0_i32_294 : BitVec 32 := 0#32
  let v303 : BitVec 1 := Scalar.cmpi .ne v302 c0_i32_294
  let v307 : BitVec 1 := Scalar.andi v306 v303
  let v308 : BitVec 32 := Scalar.addi v302 v301
  let v309 : BitVec 32 := Scalar.select v307 v308 v302
  let v310 : Index := Scalar.indexCast v309
  let c0_297 : Index := 0#32
  let c0_298 : Index := 0#32
  ![v310.toNat, 0, 0]
def k0_mult4 (k0_t4 : Fin k0_t4_loop.trips) : BitVec 32 :=
  let c0_i32_191 : BitVec 32 := 0#32
  let c1_i32_192 : BitVec 32 := 1#32
  let arg22 : BitVec 32 := Scf.iv c0_i32_191 c1_i32_192 k0_t4
  let c64_i32_299 : BitVec 32 := 64#32
  let v314 : BitVec 32 := Scalar.muli arg22 c64_i32_299
  v314
def k0_off32 (k0_t4 : Fin k0_t4_loop.trips) : Fin 2 → Nat :=
  let c0_i32_191 : BitVec 32 := 0#32
  let c1_i32_192 : BitVec 32 := 1#32
  let arg22 : BitVec 32 := Scf.iv c0_i32_191 c1_i32_192 k0_t4
  let c64_i32_299 : BitVec 32 := 64#32
  let v314 : BitVec 32 := Scalar.muli arg22 c64_i32_299
  let v315 : BitVec 32 := v314
  let v316 : Index := Scalar.indexCast v315
  let c0_300 : Index := 0#32
  ![v316.toNat, 0]
@[reducible] def k0_t5_loop : Scf.Loop 32 :=
  let c0_i32_243 : BitVec 32 := 0#32
  let c16_i32_244 : BitVec 32 := 16#32
  let v253 : BitVec 32 := Scalar.addi c0_i32_243 c16_i32_244
  let c1_i32_245 : BitVec 32 := 1#32
  ⟨c0_i32_243, v253, c1_i32_245⟩
def k0_cond7 (k0_t5 : Fin k0_t5_loop.trips) : BitVec 1 :=
  let c0_i32_243 : BitVec 32 := 0#32
  let c1_i32_245 : BitVec 32 := 1#32
  let arg22 : BitVec 32 := Scf.iv c0_i32_243 c1_i32_245 k0_t5
  let c7_i32 : BitVec 32 := 7#32
  let v279 : BitVec 32 := Scalar.addi arg22 c7_i32
  let c16_i32_279 : BitVec 32 := 16#32
  let v280 : BitVec 1 := Scalar.cmpi .slt v279 c16_i32_279
  let v281 : BitVec 32 := Scalar.extui v280
  let c0_i32_280 : BitVec 32 := 0#32
  let v282 : BitVec 1 := Scalar.cmpi .ne v281 c0_i32_280
  v282

def k0_off33 (k0_t5 : Fin k0_t5_loop.trips) : Fin 1 → Nat :=
  let c0_i32_243 : BitVec 32 := 0#32
  let c1_i32_245 : BitVec 32 := 1#32
  let arg22 : BitVec 32 := Scf.iv c0_i32_243 c1_i32_245 k0_t5
  let c7_i32_301 : BitVec 32 := 7#32
  let v320 : BitVec 32 := Scalar.addi arg22 c7_i32_301
  let c8_i32_302 : BitVec 32 := 8#32
  let c0_i32_303 : BitVec 32 := 0#32
  let v321 : BitVec 1 := Scalar.cmpi .eq c8_i32_302 c0_i32_303
  let c1_i32_304 : BitVec 32 := 1#32
  let v322 : BitVec 32 := Scalar.select v321 c1_i32_304 c8_i32_302
  let v323 : BitVec 32 := Scalar.remsi v320 v322
  let c0_i32_306 : BitVec 32 := 0#32
  let v325 : BitVec 1 := Scalar.cmpi .slt v323 c0_i32_306
  let c0_i32_307 : BitVec 32 := 0#32
  let v326 : BitVec 1 := Scalar.cmpi .slt v322 c0_i32_307
  let v327 : BitVec 1 := Scalar.xori v325 v326
  let c0_i32_305 : BitVec 32 := 0#32
  let v324 : BitVec 1 := Scalar.cmpi .ne v323 c0_i32_305
  let v328 : BitVec 1 := Scalar.andi v327 v324
  let v329 : BitVec 32 := Scalar.addi v323 v322
  let v330 : BitVec 32 := Scalar.select v328 v329 v323
  ![v330.toNat]
def k0_off34 (k0_t5 : Fin k0_t5_loop.trips) : Fin 3 → Nat :=
  let c0_i32_243 : BitVec 32 := 0#32
  let c1_i32_245 : BitVec 32 := 1#32
  let arg22 : BitVec 32 := Scf.iv c0_i32_243 c1_i32_245 k0_t5
  let c7_i32_301 : BitVec 32 := 7#32
  let v320 : BitVec 32 := Scalar.addi arg22 c7_i32_301
  let c8_i32_302 : BitVec 32 := 8#32
  let c0_i32_303 : BitVec 32 := 0#32
  let v321 : BitVec 1 := Scalar.cmpi .eq c8_i32_302 c0_i32_303
  let c1_i32_304 : BitVec 32 := 1#32
  let v322 : BitVec 32 := Scalar.select v321 c1_i32_304 c8_i32_302
  let v323 : BitVec 32 := Scalar.remsi v320 v322
  let c0_i32_306 : BitVec 32 := 0#32
  let v325 : BitVec 1 := Scalar.cmpi .slt v323 c0_i32_306
  let c0_i32_307 : BitVec 32 := 0#32
  let v326 : BitVec 1 := Scalar.cmpi .slt v322 c0_i32_307
  let v327 : BitVec 1 := Scalar.xori v325 v326
  let c0_i32_305 : BitVec 32 := 0#32
  let v324 : BitVec 1 := Scalar.cmpi .ne v323 c0_i32_305
  let v328 : BitVec 1 := Scalar.andi v327 v324
  let v329 : BitVec 32 := Scalar.addi v323 v322
  let v330 : BitVec 32 := Scalar.select v328 v329 v323
  let c0_i32_310 : BitVec 32 := 0#32
  let c0_i32_311 : BitVec 32 := 0#32
  ![v330.toNat, 0, 0]
def k0_off35 (k0_t5 : Fin k0_t5_loop.trips) : Fin 3 → Nat :=
  let c0_i32_309 : BitVec 32 := 0#32
  let c0_i32_243 : BitVec 32 := 0#32
  let c1_i32_245 : BitVec 32 := 1#32
  let arg22 : BitVec 32 := Scf.iv c0_i32_243 c1_i32_245 k0_t5
  let c7_i32_301 : BitVec 32 := 7#32
  let v320 : BitVec 32 := Scalar.addi arg22 c7_i32_301
  let c64_i32_308 : BitVec 32 := 64#32
  let v331 : BitVec 32 := Scalar.muli v320 c64_i32_308
  let c0_i32_312 : BitVec 32 := 0#32
  ![0, v331.toNat, 0]
def k0_off36 (k0_t5 : Fin k0_t5_loop.trips) : Fin 1 → Nat :=
  let c0_i32_243 : BitVec 32 := 0#32
  let c1_i32_245 : BitVec 32 := 1#32
  let arg22 : BitVec 32 := Scf.iv c0_i32_243 c1_i32_245 k0_t5
  let c8_i32 : BitVec 32 := 8#32
  let c0_i32_281 : BitVec 32 := 0#32
  let v283 : BitVec 1 := Scalar.cmpi .eq c8_i32 c0_i32_281
  let c1_i32_282 : BitVec 32 := 1#32
  let v284 : BitVec 32 := Scalar.select v283 c1_i32_282 c8_i32
  let v285 : BitVec 32 := Scalar.remsi arg22 v284
  let c0_i32_284 : BitVec 32 := 0#32
  let v287 : BitVec 1 := Scalar.cmpi .slt v285 c0_i32_284
  let c0_i32_285 : BitVec 32 := 0#32
  let v288 : BitVec 1 := Scalar.cmpi .slt v284 c0_i32_285
  let v289 : BitVec 1 := Scalar.xori v287 v288
  let c0_i32_283 : BitVec 32 := 0#32
  let v286 : BitVec 1 := Scalar.cmpi .ne v285 c0_i32_283
  let v290 : BitVec 1 := Scalar.andi v289 v286
  let v291 : BitVec 32 := Scalar.addi v285 v284
  let v292 : BitVec 32 := Scalar.select v290 v291 v285
  ![v292.toNat]
def k0_off37 (k0_t5 : Fin k0_t5_loop.trips) : Fin 3 → Nat :=
  let c0_i32_243 : BitVec 32 := 0#32
  let c1_i32_245 : BitVec 32 := 1#32
  let arg22 : BitVec 32 := Scf.iv c0_i32_243 c1_i32_245 k0_t5
  let c8_i32 : BitVec 32 := 8#32
  let c0_i32_281 : BitVec 32 := 0#32
  let v283 : BitVec 1 := Scalar.cmpi .eq c8_i32 c0_i32_281
  let c1_i32_282 : BitVec 32 := 1#32
  let v284 : BitVec 32 := Scalar.select v283 c1_i32_282 c8_i32
  let v285 : BitVec 32 := Scalar.remsi arg22 v284
  let c0_i32_284 : BitVec 32 := 0#32
  let v287 : BitVec 1 := Scalar.cmpi .slt v285 c0_i32_284
  let c0_i32_285 : BitVec 32 := 0#32
  let v288 : BitVec 1 := Scalar.cmpi .slt v284 c0_i32_285
  let v289 : BitVec 1 := Scalar.xori v287 v288
  let c0_i32_283 : BitVec 32 := 0#32
  let v286 : BitVec 1 := Scalar.cmpi .ne v285 c0_i32_283
  let v290 : BitVec 1 := Scalar.andi v289 v286
  let v291 : BitVec 32 := Scalar.addi v285 v284
  let v292 : BitVec 32 := Scalar.select v290 v291 v285
  let c0_i32_288 : BitVec 32 := 0#32
  let c0_i32_289 : BitVec 32 := 0#32
  ![v292.toNat, 0, 0]
def k0_off38 (k0_t5 : Fin k0_t5_loop.trips) : Fin 3 → Nat :=
  let c0_i32_287 : BitVec 32 := 0#32
  let c0_i32_243 : BitVec 32 := 0#32
  let c1_i32_245 : BitVec 32 := 1#32
  let arg22 : BitVec 32 := Scf.iv c0_i32_243 c1_i32_245 k0_t5
  let c64_i32_286 : BitVec 32 := 64#32
  let v293 : BitVec 32 := Scalar.muli arg22 c64_i32_286
  let c0_i32_290 : BitVec 32 := 0#32
  ![0, v293.toNat, 0]
def k0_off39 (k0_t5 : Fin k0_t5_loop.trips) : Fin 3 → Nat :=
  let c0_i32_243 : BitVec 32 := 0#32
  let c1_i32_245 : BitVec 32 := 1#32
  let arg22 : BitVec 32 := Scf.iv c0_i32_243 c1_i32_245 k0_t5
  let c8_i32_291 : BitVec 32 := 8#32
  let c0_i32_292 : BitVec 32 := 0#32
  let v300 : BitVec 1 := Scalar.cmpi .eq c8_i32_291 c0_i32_292
  let c1_i32_293 : BitVec 32 := 1#32
  let v301 : BitVec 32 := Scalar.select v300 c1_i32_293 c8_i32_291
  let v302 : BitVec 32 := Scalar.remsi arg22 v301
  let c0_i32_295 : BitVec 32 := 0#32
  let v304 : BitVec 1 := Scalar.cmpi .slt v302 c0_i32_295
  let c0_i32_296 : BitVec 32 := 0#32
  let v305 : BitVec 1 := Scalar.cmpi .slt v301 c0_i32_296
  let v306 : BitVec 1 := Scalar.xori v304 v305
  let c0_i32_294 : BitVec 32 := 0#32
  let v303 : BitVec 1 := Scalar.cmpi .ne v302 c0_i32_294
  let v307 : BitVec 1 := Scalar.andi v306 v303
  let v308 : BitVec 32 := Scalar.addi v302 v301
  let v309 : BitVec 32 := Scalar.select v307 v308 v302
  let v310 : Index := Scalar.indexCast v309
  let c0_297 : Index := 0#32
  let c0_298 : Index := 0#32
  ![v310.toNat, 0, 0]
def k0_mult5 (k0_t5 : Fin k0_t5_loop.trips) : BitVec 32 :=
  let c0_i32_243 : BitVec 32 := 0#32
  let c1_i32_245 : BitVec 32 := 1#32
  let arg22 : BitVec 32 := Scf.iv c0_i32_243 c1_i32_245 k0_t5
  let c64_i32_299 : BitVec 32 := 64#32
  let v314 : BitVec 32 := Scalar.muli arg22 c64_i32_299
  v314
def k0_off40 (k0_t5 : Fin k0_t5_loop.trips) : Fin 2 → Nat :=
  let c0_i32_243 : BitVec 32 := 0#32
  let c1_i32_245 : BitVec 32 := 1#32
  let arg22 : BitVec 32 := Scf.iv c0_i32_243 c1_i32_245 k0_t5
  let c64_i32_299 : BitVec 32 := 64#32
  let v314 : BitVec 32 := Scalar.muli arg22 c64_i32_299
  let v315 : BitVec 32 := v314
  let v316 : Index := Scalar.indexCast v315
  let c0_300 : Index := 0#32
  ![v316.toNat, 0]
@[reducible] def k0_t6_loop : Scf.Loop 32 :=
  let c0_i32_275 : BitVec 32 := 0#32
  let c4_i32_276 : BitVec 32 := 4#32
  let v278 : BitVec 32 := Scalar.addi c0_i32_275 c4_i32_276
  let c1_i32_277 : BitVec 32 := 1#32
  ⟨c0_i32_275, v278, c1_i32_277⟩
def k0_cond8 (k0_t6 : Fin k0_t6_loop.trips) : BitVec 1 :=
  let c0_i32_275 : BitVec 32 := 0#32
  let c1_i32_277 : BitVec 32 := 1#32
  let arg22 : BitVec 32 := Scf.iv c0_i32_275 c1_i32_277 k0_t6
  let c4_i32_279 : BitVec 32 := 4#32
  let v279 : BitVec 32 := Scalar.addi arg22 c4_i32_279
  let c4_i32_280 : BitVec 32 := 4#32
  let v280 : BitVec 1 := Scalar.cmpi .slt v279 c4_i32_280
  let v281 : BitVec 32 := Scalar.extui v280
  let c0_i32_281 : BitVec 32 := 0#32
  let v282 : BitVec 1 := Scalar.cmpi .ne v281 c0_i32_281
  v282

def k0_off41 (k0_t6 : Fin k0_t6_loop.trips) : Fin 1 → Nat :=
  let c0_i32_275 : BitVec 32 := 0#32
  let c1_i32_277 : BitVec 32 := 1#32
  let arg22 : BitVec 32 := Scf.iv c0_i32_275 c1_i32_277 k0_t6
  let c4_i32_302 : BitVec 32 := 4#32
  let v320 : BitVec 32 := Scalar.addi arg22 c4_i32_302
  let c8_i32_303 : BitVec 32 := 8#32
  let c0_i32_304 : BitVec 32 := 0#32
  let v321 : BitVec 1 := Scalar.cmpi .eq c8_i32_303 c0_i32_304
  let c1_i32_305 : BitVec 32 := 1#32
  let v322 : BitVec 32 := Scalar.select v321 c1_i32_305 c8_i32_303
  let v323 : BitVec 32 := Scalar.remsi v320 v322
  let c0_i32_307 : BitVec 32 := 0#32
  let v325 : BitVec 1 := Scalar.cmpi .slt v323 c0_i32_307
  let c0_i32_308 : BitVec 32 := 0#32
  let v326 : BitVec 1 := Scalar.cmpi .slt v322 c0_i32_308
  let v327 : BitVec 1 := Scalar.xori v325 v326
  let c0_i32_306 : BitVec 32 := 0#32
  let v324 : BitVec 1 := Scalar.cmpi .ne v323 c0_i32_306
  let v328 : BitVec 1 := Scalar.andi v327 v324
  let v329 : BitVec 32 := Scalar.addi v323 v322
  let v330 : BitVec 32 := Scalar.select v328 v329 v323
  ![v330.toNat]
def k0_off42 (k0_t6 : Fin k0_t6_loop.trips) : Fin 3 → Nat :=
  let c0_i32_275 : BitVec 32 := 0#32
  let c1_i32_277 : BitVec 32 := 1#32
  let arg22 : BitVec 32 := Scf.iv c0_i32_275 c1_i32_277 k0_t6
  let c4_i32_302 : BitVec 32 := 4#32
  let v320 : BitVec 32 := Scalar.addi arg22 c4_i32_302
  let c8_i32_303 : BitVec 32 := 8#32
  let c0_i32_304 : BitVec 32 := 0#32
  let v321 : BitVec 1 := Scalar.cmpi .eq c8_i32_303 c0_i32_304
  let c1_i32_305 : BitVec 32 := 1#32
  let v322 : BitVec 32 := Scalar.select v321 c1_i32_305 c8_i32_303
  let v323 : BitVec 32 := Scalar.remsi v320 v322
  let c0_i32_307 : BitVec 32 := 0#32
  let v325 : BitVec 1 := Scalar.cmpi .slt v323 c0_i32_307
  let c0_i32_308 : BitVec 32 := 0#32
  let v326 : BitVec 1 := Scalar.cmpi .slt v322 c0_i32_308
  let v327 : BitVec 1 := Scalar.xori v325 v326
  let c0_i32_306 : BitVec 32 := 0#32
  let v324 : BitVec 1 := Scalar.cmpi .ne v323 c0_i32_306
  let v328 : BitVec 1 := Scalar.andi v327 v324
  let v329 : BitVec 32 := Scalar.addi v323 v322
  let v330 : BitVec 32 := Scalar.select v328 v329 v323
  let c0_i32_311 : BitVec 32 := 0#32
  let c0_i32_312 : BitVec 32 := 0#32
  ![v330.toNat, 0, 0]
def k0_off43 (k0_t6 : Fin k0_t6_loop.trips) : Fin 3 → Nat :=
  let c0_i32_310 : BitVec 32 := 0#32
  let c0_i32_275 : BitVec 32 := 0#32
  let c1_i32_277 : BitVec 32 := 1#32
  let arg22 : BitVec 32 := Scf.iv c0_i32_275 c1_i32_277 k0_t6
  let c4_i32_302 : BitVec 32 := 4#32
  let v320 : BitVec 32 := Scalar.addi arg22 c4_i32_302
  let c64_i32_309 : BitVec 32 := 64#32
  let v331 : BitVec 32 := Scalar.muli v320 c64_i32_309
  let c0_i32_313 : BitVec 32 := 0#32
  ![0, v331.toNat, 0]
def k0_off44 (k0_t6 : Fin k0_t6_loop.trips) : Fin 1 → Nat :=
  let c0_i32_275 : BitVec 32 := 0#32
  let c1_i32_277 : BitVec 32 := 1#32
  let arg22 : BitVec 32 := Scf.iv c0_i32_275 c1_i32_277 k0_t6
  let c8_i32 : BitVec 32 := 8#32
  let c0_i32_282 : BitVec 32 := 0#32
  let v283 : BitVec 1 := Scalar.cmpi .eq c8_i32 c0_i32_282
  let c1_i32_283 : BitVec 32 := 1#32
  let v284 : BitVec 32 := Scalar.select v283 c1_i32_283 c8_i32
  let v285 : BitVec 32 := Scalar.remsi arg22 v284
  let c0_i32_285 : BitVec 32 := 0#32
  let v287 : BitVec 1 := Scalar.cmpi .slt v285 c0_i32_285
  let c0_i32_286 : BitVec 32 := 0#32
  let v288 : BitVec 1 := Scalar.cmpi .slt v284 c0_i32_286
  let v289 : BitVec 1 := Scalar.xori v287 v288
  let c0_i32_284 : BitVec 32 := 0#32
  let v286 : BitVec 1 := Scalar.cmpi .ne v285 c0_i32_284
  let v290 : BitVec 1 := Scalar.andi v289 v286
  let v291 : BitVec 32 := Scalar.addi v285 v284
  let v292 : BitVec 32 := Scalar.select v290 v291 v285
  ![v292.toNat]
def k0_off45 (k0_t6 : Fin k0_t6_loop.trips) : Fin 3 → Nat :=
  let c0_i32_275 : BitVec 32 := 0#32
  let c1_i32_277 : BitVec 32 := 1#32
  let arg22 : BitVec 32 := Scf.iv c0_i32_275 c1_i32_277 k0_t6
  let c8_i32 : BitVec 32 := 8#32
  let c0_i32_282 : BitVec 32 := 0#32
  let v283 : BitVec 1 := Scalar.cmpi .eq c8_i32 c0_i32_282
  let c1_i32_283 : BitVec 32 := 1#32
  let v284 : BitVec 32 := Scalar.select v283 c1_i32_283 c8_i32
  let v285 : BitVec 32 := Scalar.remsi arg22 v284
  let c0_i32_285 : BitVec 32 := 0#32
  let v287 : BitVec 1 := Scalar.cmpi .slt v285 c0_i32_285
  let c0_i32_286 : BitVec 32 := 0#32
  let v288 : BitVec 1 := Scalar.cmpi .slt v284 c0_i32_286
  let v289 : BitVec 1 := Scalar.xori v287 v288
  let c0_i32_284 : BitVec 32 := 0#32
  let v286 : BitVec 1 := Scalar.cmpi .ne v285 c0_i32_284
  let v290 : BitVec 1 := Scalar.andi v289 v286
  let v291 : BitVec 32 := Scalar.addi v285 v284
  let v292 : BitVec 32 := Scalar.select v290 v291 v285
  let c0_i32_289 : BitVec 32 := 0#32
  let c0_i32_290 : BitVec 32 := 0#32
  ![v292.toNat, 0, 0]
def k0_off46 (k0_t6 : Fin k0_t6_loop.trips) : Fin 3 → Nat :=
  let c0_i32_288 : BitVec 32 := 0#32
  let c0_i32_275 : BitVec 32 := 0#32
  let c1_i32_277 : BitVec 32 := 1#32
  let arg22 : BitVec 32 := Scf.iv c0_i32_275 c1_i32_277 k0_t6
  let c64_i32_287 : BitVec 32 := 64#32
  let v293 : BitVec 32 := Scalar.muli arg22 c64_i32_287
  let c0_i32_291 : BitVec 32 := 0#32
  ![0, v293.toNat, 0]
def k0_off47 (k0_t6 : Fin k0_t6_loop.trips) : Fin 3 → Nat :=
  let c0_i32_275 : BitVec 32 := 0#32
  let c1_i32_277 : BitVec 32 := 1#32
  let arg22 : BitVec 32 := Scf.iv c0_i32_275 c1_i32_277 k0_t6
  let c8_i32_292 : BitVec 32 := 8#32
  let c0_i32_293 : BitVec 32 := 0#32
  let v300 : BitVec 1 := Scalar.cmpi .eq c8_i32_292 c0_i32_293
  let c1_i32_294 : BitVec 32 := 1#32
  let v301 : BitVec 32 := Scalar.select v300 c1_i32_294 c8_i32_292
  let v302 : BitVec 32 := Scalar.remsi arg22 v301
  let c0_i32_296 : BitVec 32 := 0#32
  let v304 : BitVec 1 := Scalar.cmpi .slt v302 c0_i32_296
  let c0_i32_297 : BitVec 32 := 0#32
  let v305 : BitVec 1 := Scalar.cmpi .slt v301 c0_i32_297
  let v306 : BitVec 1 := Scalar.xori v304 v305
  let c0_i32_295 : BitVec 32 := 0#32
  let v303 : BitVec 1 := Scalar.cmpi .ne v302 c0_i32_295
  let v307 : BitVec 1 := Scalar.andi v306 v303
  let v308 : BitVec 32 := Scalar.addi v302 v301
  let v309 : BitVec 32 := Scalar.select v307 v308 v302
  let v310 : Index := Scalar.indexCast v309
  let c0_298 : Index := 0#32
  let c0_299 : Index := 0#32
  ![v310.toNat, 0, 0]
def k0_mult6 (k0_t6 : Fin k0_t6_loop.trips) : BitVec 32 :=
  let c0_i32_275 : BitVec 32 := 0#32
  let c1_i32_277 : BitVec 32 := 1#32
  let arg22 : BitVec 32 := Scf.iv c0_i32_275 c1_i32_277 k0_t6
  let c64_i32_300 : BitVec 32 := 64#32
  let v314 : BitVec 32 := Scalar.muli arg22 c64_i32_300
  v314
def k0_off48 (k0_t6 : Fin k0_t6_loop.trips) : Fin 2 → Nat :=
  let c0_i32_275 : BitVec 32 := 0#32
  let c1_i32_277 : BitVec 32 := 1#32
  let arg22 : BitVec 32 := Scf.iv c0_i32_275 c1_i32_277 k0_t6
  let c64_i32_300 : BitVec 32 := 64#32
  let v314 : BitVec 32 := Scalar.muli arg22 c64_i32_300
  let v315 : BitVec 32 := v314
  let v316 : Index := Scalar.indexCast v315
  let c0_301 : Index := 0#32
  ![v316.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference3Ideal.lean ====
abbrev S8x2048x1024 : Shape := ⟨3, ![8, 2048, 1024]⟩
abbrev S8x512x2048 : Shape := ⟨3, ![8, 512, 2048]⟩
abbrev S8x2048x512 : Shape := ⟨3, ![8, 2048, 512]⟩
abbrev S2x1024 : Shape := ⟨2, ![2, 1024]⟩
abbrev S2x1024x2816 : Shape := ⟨3, ![2, 1024, 2816]⟩
abbrev S2x2816x1024 : Shape := ⟨3, ![2, 2816, 1024]⟩
abbrev S2x8x2048x256 : Shape := ⟨4, ![2, 8, 2048, 256]⟩
abbrev S2x1024x1024 : Shape := ⟨3, ![2, 1024, 1024]⟩
abbrev S2x256x1024 : Shape := ⟨3, ![2, 256, 1024]⟩
abbrev S1x1024x1024 : Shape := ⟨3, ![1, 1024, 1024]⟩
abbrev S1024x1024 : Shape := ⟨2, ![1024, 1024]⟩
abbrev S1x1024 : Shape := ⟨2, ![1, 1024]⟩
abbrev S1024 : Shape := ⟨1, ![1024]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x2048x2816 : Shape := ⟨3, ![8, 2048, 2816]⟩
abbrev S1x8x2048x256 : Shape := ⟨4, ![1, 8, 2048, 256]⟩
abbrev S8x2048x256 : Shape := ⟨3, ![8, 2048, 256]⟩
abbrev S1x256x1024 : Shape := ⟨3, ![1, 256, 1024]⟩
abbrev S256x1024 : Shape := ⟨2, ![256, 1024]⟩
abbrev S16384x1024 : Shape := ⟨2, ![16384, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S8x512x2048, .bf16⟩
  | .hbm, ⟨2, _⟩ => ⟨S8x2048x512, .bf16⟩
  | .hbm, ⟨3, _⟩ => ⟨S2x1024, .f32⟩
  | .hbm, ⟨4, _⟩ => ⟨S2x1024x2816, .f32⟩
  | .hbm, ⟨5, _⟩ => ⟨S2x1024x2816, .f32⟩
  | .hbm, ⟨6, _⟩ => ⟨S2x2816x1024, .f32⟩
  | .hbm, ⟨7, _⟩ => ⟨S2x1024, .f32⟩
  | .hbm, ⟨8, _⟩ => ⟨S2x8x2048x256, .f32⟩
  | .hbm, ⟨9, _⟩ => ⟨S2x1024x1024, .f32⟩
  | .hbm, ⟨10, _⟩ => ⟨S2x256x1024, .f32⟩
  | .hbm, ⟨11, _⟩ => ⟨S1x1024x1024, .f32⟩
  | .hbm, ⟨12, _⟩ => ⟨S8x2048x512, .bf16⟩
  | .hbm, ⟨13, _⟩ => ⟨S8x2048x1024, .bf16⟩
  | .hbm, ⟨14, _⟩ => ⟨S8x2048x1024, .f32⟩
  | .hbm, ⟨15, _⟩ => ⟨S1024x1024, .f32⟩
  | .hbm, ⟨16, _⟩ => ⟨S8x2048x1024, .f32⟩
  | .hbm, ⟨17, _⟩ => ⟨S8x2048x1024, .f32⟩
  | .hbm, ⟨18, _⟩ => ⟨S1x1024, .f32⟩
  | .hbm, ⟨19, _⟩ => ⟨S1024, .f32⟩
  | .hbm, ⟨20, _⟩ => ⟨S8x2048x1024, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S_, .f32⟩
  | .hbm, ⟨28, _⟩ => ⟨S8x2048x1, .f32⟩
  | .hbm, ⟨29, _⟩ => ⟨S8x2048x1, .f32⟩
  | .hbm, ⟨30, _⟩ => ⟨S8x2048x1, .f32⟩
  | .hbm, ⟨31, _⟩ => ⟨S8x2048x1024, .f32⟩
  | .hbm, ⟨32, _⟩ => ⟨S8x2048x1024, .f32⟩
  | .hbm, ⟨33, _⟩ => ⟨S1x1x1024, .f32⟩
  | .hbm, ⟨34, _⟩ => ⟨S8x2048x1024, .f32⟩
  | .hbm, ⟨35, _⟩ => ⟨S8x2048x1024, .f32⟩
  | .hbm, ⟨36, _⟩ => ⟨S1x1024x2816, .f32⟩
  | .hbm, ⟨37, _⟩ => ⟨S1024x2816, .f32⟩
  | .hbm, ⟨38, _⟩ => ⟨S1x1024x2816, .f32⟩
  | .hbm, ⟨39, _⟩ => ⟨S1024x2816, .f32⟩
  | .hbm, ⟨40, _⟩ => ⟨S1x2816x1024, .f32⟩
  | .hbm, ⟨41, _⟩ => ⟨S2816x1024, .f32⟩
  | .hbm, ⟨42, _⟩ => ⟨S8x2048x2816, .f32⟩
  | .hbm, ⟨43, _⟩ => ⟨S8x2048x2816, .f32⟩
  | .hbm, ⟨44, _⟩ => ⟨S8x2048x2816, .f32⟩
  | .hbm, ⟨45, _⟩ => ⟨S_, .f32⟩
  | .hbm, ⟨46, _⟩ => ⟨S8x2048x2816, .f32⟩
  | .hbm, ⟨47, _⟩ => ⟨S8x2048x2816, .f32⟩
  | .hbm, ⟨48, _⟩ => ⟨S_, .f32⟩
  | .hbm, ⟨49, _⟩ => ⟨S8x2048x2816, .f32⟩
  | .hbm, ⟨50, _⟩ => ⟨S8x2048x2816, .f32⟩
  | .hbm, ⟨51, _⟩ => ⟨S8x2048x2816, .f32⟩
  | .hbm, ⟨52, _⟩ => ⟨S8x2048x2816, .f32⟩
  | .hbm, ⟨53, _⟩ => ⟨S8x2048x2816, .f32⟩
  | .hbm, ⟨54, _⟩ => ⟨S8x2048x1024, .f32⟩
  | .hbm, ⟨55, _⟩ => ⟨S_, .f32⟩
  | .hbm, ⟨56, _⟩ => ⟨S8x2048x1024, .f32⟩
  | .hbm, ⟨57, _⟩ => ⟨S8x2048x1024, .f32⟩
  | .hbm, ⟨58, _⟩ => ⟨S8x2048x1024, .f32⟩
  | .hbm, ⟨59, _⟩ => ⟨S1x1024, .f32⟩
  | .hbm, ⟨60, _⟩ => ⟨S1024, .f32⟩
  | .hbm, ⟨61, _⟩ => ⟨S8x2048x1024, .f32⟩
  | .hbm, ⟨62, _⟩ => ⟨S_, .f32⟩
  | .hbm, ⟨63, _⟩ => ⟨S8x2048, .f32⟩
  | .hbm, ⟨64, _⟩ => ⟨S8x2048x1, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S_, .f32⟩
  | .hbm, ⟨69, _⟩ => ⟨S8x2048x1, .f32⟩
  | .hbm, ⟨70, _⟩ => ⟨S8x2048x1, .f32⟩
  | .hbm, ⟨71, _⟩ => ⟨S8x2048x1, .f32⟩
  | .hbm, ⟨72, _⟩ => ⟨S8x2048x1024, .f32⟩
  | .hbm, ⟨73, _⟩ => ⟨S8x2048x1024, .f32⟩
  | .hbm, ⟨74, _⟩ => ⟨S1x1x1024, .f32⟩
  | .hbm, ⟨75, _⟩ => ⟨S8x2048x1024, .f32⟩
  | .hbm, ⟨76, _⟩ => ⟨S8x2048x1024, .f32⟩
  | .hbm, ⟨77, _⟩ => ⟨S1x1024x1024, .f32⟩
  | .hbm, ⟨78, _⟩ => ⟨S1024x1024, .f32⟩
  | .hbm, ⟨79, _⟩ => ⟨S8x2048x1024, .f32⟩
  | .hbm, ⟨80, _⟩ => ⟨S8x2048x1024, .f32⟩
  | .hbm, ⟨81, _⟩ => ⟨S8x2048x1024, .f32⟩
  | .hbm, ⟨82, _⟩ => ⟨S_, .f32⟩
  | .hbm, ⟨83, _⟩ => ⟨S8x2048x1024, .f32⟩
  | .hbm, ⟨84, _⟩ => ⟨S8x2048x1024, .f32⟩
  | .hbm, ⟨85, _⟩ => ⟨S_, .f32⟩
  | .hbm, ⟨86, _⟩ => ⟨S8x2048x1024, .f32⟩
  | .hbm, ⟨87, _⟩ => ⟨S8x2048x1024, .f32⟩
  | .hbm, ⟨88, _⟩ => ⟨S1x8x2048x256, .f32⟩
  | .hbm, ⟨89, _⟩ => ⟨S8x2048x256, .f32⟩
  | .hbm, ⟨90, _⟩ => ⟨S1x256x1024, .f32⟩
  | .hbm, ⟨91, _⟩ => ⟨S256x1024, .f32⟩
  | .hbm, ⟨92, _⟩ => ⟨S8x2048x1024, .f32⟩
  | .hbm, ⟨93, _⟩ => ⟨S8x2048x1024, .f32⟩
  | .hbm, ⟨94, _⟩ => ⟨S8x2048x1024, .f32⟩
  | .hbm, ⟨95, _⟩ => ⟨S16384x1024, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_cst_1 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_cst_2 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_3 : Ref sig .tc := ⟨.hbm, 62, rfl⟩
abbrev main_v38 : Ref sig .tc := ⟨.hbm, 63, rfl⟩
abbrev main_v39 : Ref sig .tc := ⟨.hbm, 64, rfl⟩
abbrev main_cst_4 : Ref sig .tc := ⟨.hbm, 65, rfl⟩
abbrev main_v40 : Ref sig .tc := ⟨.hbm, 66, rfl⟩
abbrev main_v41 : Ref sig .tc := ⟨.hbm, 67, rfl⟩
abbrev main_cst_5 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_6 : Ref sig .tc := ⟨.hbm, 82, rfl⟩
abbrev main_v55 : Ref sig .tc := ⟨.hbm, 83, rfl⟩
abbrev main_v56 : Ref sig .tc := ⟨.hbm, 84, rfl⟩
abbrev main_cst_7 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩

abbrev nD : Nat := 1
abbrev τ : Topo := Topo.v7x

variable {F : FTy → Type} [FloatOps F]
-- ==== Kernel4.lean ====
abbrev S8x2048x1024 : Shape := ⟨3, ![8, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024x3072 : Shape := ⟨3, ![1, 1024, 3072]⟩
abbrev S16384x1024 : Shape := ⟨2, ![16384, 1024]⟩
abbrev S1x1024 : Shape := ⟨2, ![1, 1024]⟩
abbrev S1024 : Shape := ⟨1, ![1024]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x128 : Shape := ⟨2, ![2048, 128]⟩
abbrev S512x1024 : Shape := ⟨2, ![512, 1024]⟩
abbrev S512x128 : Shape := ⟨2, ![512, 128]⟩
abbrev S1024x2816 : Shape := ⟨2, ![1024, 2816]⟩
abbrev S2816x1024 : Shape := ⟨2, ![2816, 1024]⟩
abbrev S1024x3072 : Shape := ⟨2, ![1024, 3072]⟩
abbrev S8x64x3072 : Shape := ⟨3, ![8, 64, 3072]⟩
abbrev S8 : Shape := ⟨1, ![8]⟩
abbrev S1 : Shape := ⟨1, ![1]⟩
abbrev S1x64x2816 : Shape := ⟨3, ![1, 64, 2816]⟩
abbrev S64x2816 : Shape := ⟨2, ![64, 2816]⟩
abbrev S1x64x1024 : Shape := ⟨3, ![1, 64, 1024]⟩
abbrev S64x1024 : Shape := ⟨2, ![64, 1024]⟩
abbrev S1x64x3072 : Shape := ⟨3, ![1, 64, 3072]⟩
abbrev S64x3072 : Shape := ⟨2, ![64, 3072]⟩
abbrev S512 : Shape := ⟨1, ![512]⟩
abbrev S512x1 : Shape := ⟨2, ![512, 1]⟩
abbrev S512x2816 : Shape := ⟨2, ![512, 2816]⟩
abbrev S512x3072 : Shape := ⟨2, ![512, 3072]⟩
abbrev S512x2048 : Shape := ⟨2, ![512, 2048]⟩

abbrev nBuf : Space → Nat
  | .hbm => 46
  | .vmem => 21
  | .smem => 0
  | _ => 0

abbrev bufTy : (tb : Table) → Fin (tcTables nBuf tb) → BufTy
  | .hbm, ⟨0, _⟩ => ⟨S8x2048x1024, .f32⟩
  | .hbm, ⟨1, _⟩ => ⟨S2x1024, .f32⟩
  | .hbm, ⟨2, _⟩ => ⟨S2x1024x2816, .f32⟩
  | .hbm, ⟨3, _⟩ => ⟨S2x1024x2816, .f32⟩
  | .hbm, ⟨4, _⟩ => ⟨S2x2816x1024, .f32⟩
  | .hbm, ⟨5, _⟩ => ⟨S2x1024, .f32⟩
  | .hbm, ⟨6, _⟩ => ⟨S1x1024x3072, .f32⟩
  | .hbm, ⟨7, _⟩ => ⟨S16384x1024, .f32⟩
  | .hbm, ⟨8, _⟩ => ⟨S1x1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1024, .f32⟩
  | .hbm, ⟨13, _⟩ => ⟨S1x1024, .f32⟩
  | .hbm, ⟨14, _⟩ => ⟨S32, .f32⟩
  | .hbm, ⟨15, _⟩ => ⟨S_, .f32⟩
  | .hbm, ⟨16, _⟩ => ⟨S32, .f32⟩
  | .hbm, ⟨17, _⟩ => ⟨S32, .f32⟩
  | .hbm, ⟨18, _⟩ => ⟨S_, .f32⟩
  | .hbm, ⟨19, _⟩ => ⟨S32, .f32⟩
  | .hbm, ⟨20, _⟩ => ⟨S32, .f32⟩
  | .hbm, ⟨21, _⟩ => ⟨S_, .f32⟩
  | .hbm, ⟨22, _⟩ => ⟨S32, .f32⟩
  | .hbm, ⟨23, _⟩ => ⟨S32, .f32⟩
  | .hbm, ⟨24, _⟩ => ⟨S_, .f32⟩
  | .hbm, ⟨25, _⟩ => ⟨S32, .f32⟩
  | .hbm, ⟨26, _⟩ => ⟨S32, .f32⟩
  | .hbm, ⟨27, _⟩ => ⟨S_, .f32⟩
  | .hbm, ⟨28, _⟩ => ⟨S32, .f32⟩
  | .hbm, ⟨29, _⟩ => ⟨S32, .f32⟩
  | .hbm, ⟨30, _⟩ => ⟨S2048, .f32⟩
  | .hbm, ⟨31, _⟩ => ⟨S2048x1, .f32⟩
  | .hbm, ⟨32, _⟩ => ⟨S1x32, .f32⟩
  | .hbm, ⟨33, _⟩ => ⟨S2048x32, .f32⟩
  | .hbm, ⟨34, _⟩ => ⟨S2048x32, .f32⟩
  | .hbm, ⟨35, _⟩ => ⟨S2048x32, .f32⟩
  | .hbm, ⟨36, _⟩ => ⟨S2048x32, .f32⟩
  | .hbm, ⟨37, _⟩ => ⟨S2048x32, .f32⟩
  | .hbm, ⟨38, _⟩ => ⟨S2048x128, .f32⟩
  | .hbm, ⟨39, _⟩ => ⟨S2048x32, .f32⟩
  | .hbm, ⟨40, _⟩ => ⟨S2048x32, .f32⟩
  | .hbm, ⟨41, _⟩ => ⟨S2048x128, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S1024x2816, .bf16⟩
  | .local _ .vmem, ⟨17, _⟩ => ⟨S1024x2816, .bf16⟩
  | .local _ .vmem, ⟨18, _⟩ => ⟨S2816x1024, .bf16⟩
  | .local _ .vmem, ⟨19, _⟩ => ⟨S1024x3072, .bf16⟩
  | .local _ .vmem, ⟨20, _⟩ => ⟨S8x64x3072, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30_0 : Ref sig .tc := ⟨.hbm, 42, rfl⟩
abbrev main_v30_1 : Ref sig .tc := ⟨.hbm, 43, rfl⟩
abbrev main_v30_2 : Ref sig .tc := ⟨.hbm, 44, rfl⟩
abbrev main_v30_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![32], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_80 : BitVec 32 := 0#32
  let c16_i32 : BitVec 32 := 16#32
  let v126 : BitVec 32 := Scalar.addi c0_i32_80 c16_i32
  let c1_i32_81 : BitVec 32 := 1#32
  ⟨c0_i32_80, v126, c1_i32_81⟩
def k0_cond2 (k0_t1 : Fin k0_t1_loop.trips) : BitVec 1 :=
  let c0_i32_80 : BitVec 32 := 0#32
  let c1_i32_81 : BitVec 32 := 1#32
  let arg20 : BitVec 32 := Scf.iv c0_i32_80 c1_i32_81 k0_t1
  let c7_i32 : BitVec 32 := 7#32
  let v213 : BitVec 32 := Scalar.addi arg20 c7_i32
  let c16_i32_188 : BitVec 32 := 16#32
  let v214 : BitVec 1 := Scalar.cmpi .slt v213 c16_i32_188
  let v215 : BitVec 32 := Scalar.extui v214
  let c0_i32_189 : BitVec 32 := 0#32
  let v216 : BitVec 1 := Scalar.cmpi .ne v215 c0_i32_189
  v216

def k0_off1 (k0_t1 : Fin k0_t1_loop.trips) : Fin 1 → Nat :=
  let c0_i32_80 : BitVec 32 := 0#32
  let c1_i32_81 : BitVec 32 := 1#32
  let arg20 : BitVec 32 := Scf.iv c0_i32_80 c1_i32_81 k0_t1
  let c7_i32_210 : BitVec 32 := 7#32
  let v254 : BitVec 32 := Scalar.addi arg20 c7_i32_210
  let c8_i32_211 : BitVec 32 := 8#32
  let c0_i32_212 : BitVec 32 := 0#32
  let v255 : BitVec 1 := Scalar.cmpi .eq c8_i32_211 c0_i32_212
  let c1_i32_213 : BitVec 32 := 1#32
  let v256 : BitVec 32 := Scalar.select v255 c1_i32_213 c8_i32_211
  let v257 : BitVec 32 := Scalar.remsi v254 v256
  let c0_i32_215 : BitVec 32 := 0#32
  let v259 : BitVec 1 := Scalar.cmpi .slt v257 c0_i32_215
  let c0_i32_216 : BitVec 32 := 0#32
  let v260 : BitVec 1 := Scalar.cmpi .slt v256 c0_i32_216
  let v261 : BitVec 1 := Scalar.xori v259 v260
  let c0_i32_214 : BitVec 32 := 0#32
  let v258 : BitVec 1 := Scalar.cmpi .ne v257 c0_i32_214
  let v262 : BitVec 1 := Scalar.andi v261 v258
  let v263 : BitVec 32 := Scalar.addi v257 v256
  let v264 : BitVec 32 := Scalar.select v262 v263 v257
  ![v264.toNat]
def k0_off2 (k0_t1 : Fin k0_t1_loop.trips) : Fin 3 → Nat :=
  let c0_i32_80 : BitVec 32 := 0#32
  let c1_i32_81 : BitVec 32 := 1#32
  let arg20 : BitVec 32 := Scf.iv c0_i32_80 c1_i32_81 k0_t1
  let c7_i32_210 : BitVec 32 := 7#32
  let v254 : BitVec 32 := Scalar.addi arg20 c7_i32_210
  let c8_i32_211 : BitVec 32 := 8#32
  let c0_i32_212 : BitVec 32 := 0#32
  let v255 : BitVec 1 := Scalar.cmpi .eq c8_i32_211 c0_i32_212
  let c1_i32_213 : BitVec 32 := 1#32
  let v256 : BitVec 32 := Scalar.select v255 c1_i32_213 c8_i32_211
  let v257 : BitVec 32 := Scalar.remsi v254 v256
  let c0_i32_215 : BitVec 32 := 0#32
  let v259 : BitVec 1 := Scalar.cmpi .slt v257 c0_i32_215
  let c0_i32_216 : BitVec 32 := 0#32
  let v260 : BitVec 1 := Scalar.cmpi .slt v256 c0_i32_216
  let v261 : BitVec 1 := Scalar.xori v259 v260
  let c0_i32_214 : BitVec 32 := 0#32
  let v258 : BitVec 1 := Scalar.cmpi .ne v257 c0_i32_214
  let v262 : BitVec 1 := Scalar.andi v261 v258
  let v263 : BitVec 32 := Scalar.addi v257 v256
  let v264 : BitVec 32 := Scalar.select v262 v263 v257
  let c0_i32_219 : BitVec 32 := 0#32
  let c0_i32_220 : BitVec 32 := 0#32
  ![v264.toNat, 0, 0]
def k0_off3 (k0_t1 : Fin k0_t1_loop.trips) : Fin 3 → Nat :=
  let c1_i32_218 : BitVec 32 := 1#32
  let c0_i32_80 : BitVec 32 := 0#32
  let c1_i32_81 : BitVec 32 := 1#32
  let arg20 : BitVec 32 := Scf.iv c0_i32_80 c1_i32_81 k0_t1
  let c7_i32_210 : BitVec 32 := 7#32
  let v254 : BitVec 32 := Scalar.addi arg20 c7_i32_210
  let c64_i32_217 : BitVec 32 := 64#32
  let v265 : BitVec 32 := Scalar.muli v254 c64_i32_217
  let c0_i32_221 : BitVec 32 := 0#32
  ![1, v265.toNat, 0]
def k0_off4 (k0_t1 : Fin k0_t1_loop.trips) : Fin 1 → Nat :=
  let c0_i32_80 : BitVec 32 := 0#32
  let c1_i32_81 : BitVec 32 := 1#32
  let arg20 : BitVec 32 := Scf.iv c0_i32_80 c1_i32_81 k0_t1
  let c8_i32 : BitVec 32 := 8#32
  let c0_i32_190 : BitVec 32 := 0#32
  let v217 : BitVec 1 := Scalar.cmpi .eq c8_i32 c0_i32_190
  let c1_i32_191 : BitVec 32 := 1#32
  let v218 : BitVec 32 := Scalar.select v217 c1_i32_191 c8_i32
  let v219 : BitVec 32 := Scalar.remsi arg20 v218
  let c0_i32_193 : BitVec 32 := 0#32
  let v221 : BitVec 1 := Scalar.cmpi .slt v219 c0_i32_193
  let c0_i32_194 : BitVec 32 := 0#32
  let v222 : BitVec 1 := Scalar.cmpi .slt v218 c0_i32_194
  let v223 : BitVec 1 := Scalar.xori v221 v222
  let c0_i32_192 : BitVec 32 := 0#32
  let v220 : BitVec 1 := Scalar.cmpi .ne v219 c0_i32_192
  let v224 : BitVec 1 := Scalar.andi v223 v220
  let v225 : BitVec 32 := Scalar.addi v219 v218
  let v226 : BitVec 32 := Scalar.select v224 v225 v219
  ![v226.toNat]
def k0_off5 (k0_t1 : Fin k0_t1_loop.trips) : Fin 3 → Nat :=
  let c0_i32_80 : BitVec 32 := 0#32
  let c1_i32_81 : BitVec 32 := 1#32
  let arg20 : BitVec 32 := Scf.iv c0_i32_80 c1_i32_81 k0_t1
  let c8_i32 : BitVec 32 := 8#32
  let c0_i32_190 : BitVec 32 := 0#32
  let v217 : BitVec 1 := Scalar.cmpi .eq c8_i32 c0_i32_190
  let c1_i32_191 : BitVec 32 := 1#32
  let v218 : BitVec 32 := Scalar.select v217 c1_i32_191 c8_i32
  let v219 : BitVec 32 := Scalar.remsi arg20 v218
  let c0_i32_193 : BitVec 32 := 0#32
  let v221 : BitVec 1 := Scalar.cmpi .slt v219 c0_i32_193
  let c0_i32_194 : BitVec 32 := 0#32
  let v222 : BitVec 1 := Scalar.cmpi .slt v218 c0_i32_194
  let v223 : BitVec 1 := Scalar.xori v221 v222
  let c0_i32_192 : BitVec 32 := 0#32
  let v220 : BitVec 1 := Scalar.cmpi .ne v219 c0_i32_192
  let v224 : BitVec 1 := Scalar.andi v223 v220
  let v225 : BitVec 32 := Scalar.addi v219 v218
  let v226 : BitVec 32 := Scalar.select v224 v225 v219
  let c0_i32_197 : BitVec 32 := 0#32
  let c0_i32_198 : BitVec 32 := 0#32
  ![v226.toNat, 0, 0]
def k0_off6 (k0_t1 : Fin k0_t1_loop.trips) : Fin 3 → Nat :=
  let c1_i32_196 : BitVec 32 := 1#32
  let c0_i32_80 : BitVec 32 := 0#32
  let c1_i32_81 : BitVec 32 := 1#32
  let arg20 : BitVec 32 := Scf.iv c0_i32_80 c1_i32_81 k0_t1
  let c64_i32_195 : BitVec 32 := 64#32
  let v227 : BitVec 32 := Scalar.muli arg20 c64_i32_195
  let c0_i32_199 : BitVec 32 := 0#32
  ![1, v227.toNat, 0]
def k0_off7 (k0_t1 : Fin k0_t1_loop.trips) : Fin 3 → Nat :=
  let c0_i32_80 : BitVec 32 := 0#32
  let c1_i32_81 : BitVec 32 := 1#32
  let arg20 : BitVec 32 := Scf.iv c0_i32_80 c1_i32_81 k0_t1
  let c8_i32_200 : BitVec 32 := 8#32
  let c0_i32_201 : BitVec 32 := 0#32
  let v234 : BitVec 1 := Scalar.cmpi .eq c8_i32_200 c0_i32_201
  let c1_i32_202 : BitVec 32 := 1#32
  let v235 : BitVec 32 := Scalar.select v234 c1_i32_202 c8_i32_200
  let v236 : BitVec 32 := Scalar.remsi arg20 v235
  let c0_i32_204 : BitVec 32 := 0#32
  let v238 : BitVec 1 := Scalar.cmpi .slt v236 c0_i32_204
  let c0_i32_205 : BitVec 32 := 0#32
  let v239 : BitVec 1 := Scalar.cmpi .slt v235 c0_i32_205
  let v240 : BitVec 1 := Scalar.xori v238 v239
  let c0_i32_203 : BitVec 32 := 0#32
  let v237 : BitVec 1 := Scalar.cmpi .ne v236 c0_i32_203
  let v241 : BitVec 1 := Scalar.andi v240 v237
  let v242 : BitVec 32 := Scalar.addi v236 v235
  let v243 : BitVec 32 := Scalar.select v241 v242 v236
  let v244 : Index := Scalar.indexCast v243
  let c0_206 : Index := 0#32
  let c0_207 : Index := 0#32
  ![v244.toNat, 0, 0]
def k0_mult1 (k0_t1 : Fin k0_t1_loop.trips) : BitVec 32 :=
  let c0_i32_80 : BitVec 32 := 0#32
  let c1_i32_81 : BitVec 32 := 1#32
  let arg20 : BitVec 32 := Scf.iv c0_i32_80 c1_i32_81 k0_t1
  let c64_i32_208 : BitVec 32 := 64#32
  let v248 : BitVec 32 := Scalar.muli arg20 c64_i32_208
  v248
def k0_off8 (k0_t1 : Fin k0_t1_loop.trips) : Fin 2 → Nat :=
  let c0_i32_80 : BitVec 32 := 0#32
  let c1_i32_81 : BitVec 32 := 1#32
  let arg20 : BitVec 32 := Scf.iv c0_i32_80 c1_i32_81 k0_t1
  let c64_i32_208 : BitVec 32 := 64#32
  let v248 : BitVec 32 := Scalar.muli arg20 c64_i32_208
  let v249 : BitVec 32 := v248
  let v250 : Index := Scalar.indexCast v249
  let c0_209 : Index := 0#32
  ![v250.toNat, 0]
@[reducible] def k0_t2_loop : Scf.Loop 32 :=
  let c0_i32_132 : BitVec 32 := 0#32
  let c16_i32_133 : BitVec 32 := 16#32
  let v169 : BitVec 32 := Scalar.addi c0_i32_132 c16_i32_133
  let c1_i32_134 : BitVec 32 := 1#32
  ⟨c0_i32_132, v169, c1_i32_134⟩
def k0_cond3 (k0_t2 : Fin k0_t2_loop.trips) : BitVec 1 :=
  let c0_i32_132 : BitVec 32 := 0#32
  let c1_i32_134 : BitVec 32 := 1#32
  let arg20 : BitVec 32 := Scf.iv c0_i32_132 c1_i32_134 k0_t2
  let c7_i32 : BitVec 32 := 7#32
  let v213 : BitVec 32 := Scalar.addi arg20 c7_i32
  let c16_i32_188 : BitVec 32 := 16#32
  let v214 : BitVec 1 := Scalar.cmpi .slt v213 c16_i32_188
  let v215 : BitVec 32 := Scalar.extui v214
  let c0_i32_189 : BitVec 32 := 0#32
  let v216 : BitVec 1 := Scalar.cmpi .ne v215 c0_i32_189
  v216

def k0_off9 (k0_t2 : Fin k0_t2_loop.trips) : Fin 1 → Nat :=
  let c0_i32_132 : BitVec 32 := 0#32
  let c1_i32_134 : BitVec 32 := 1#32
  let arg20 : BitVec 32 := Scf.iv c0_i32_132 c1_i32_134 k0_t2
  let c7_i32_210 : BitVec 32 := 7#32
  let v254 : BitVec 32 := Scalar.addi arg20 c7_i32_210
  let c8_i32_211 : BitVec 32 := 8#32
  let c0_i32_212 : BitVec 32 := 0#32
  let v255 : BitVec 1 := Scalar.cmpi .eq c8_i32_211 c0_i32_212
  let c1_i32_213 : BitVec 32 := 1#32
  let v256 : BitVec 32 := Scalar.select v255 c1_i32_213 c8_i32_211
  let v257 : BitVec 32 := Scalar.remsi v254 v256
  let c0_i32_215 : BitVec 32 := 0#32
  let v259 : BitVec 1 := Scalar.cmpi .slt v257 c0_i32_215
  let c0_i32_216 : BitVec 32 := 0#32
  let v260 : BitVec 1 := Scalar.cmpi .slt v256 c0_i32_216
  let v261 : BitVec 1 := Scalar.xori v259 v260
  let c0_i32_214 : BitVec 32 := 0#32
  let v258 : BitVec 1 := Scalar.cmpi .ne v257 c0_i32_214
  let v262 : BitVec 1 := Scalar.andi v261 v258
  let v263 : BitVec 32 := Scalar.addi v257 v256
  let v264 : BitVec 32 := Scalar.select v262 v263 v257
  ![v264.toNat]
def k0_off10 (k0_t2 : Fin k0_t2_loop.trips) : Fin 3 → Nat :=
  let c0_i32_132 : BitVec 32 := 0#32
  let c1_i32_134 : BitVec 32 := 1#32
  let arg20 : BitVec 32 := Scf.iv c0_i32_132 c1_i32_134 k0_t2
  let c7_i32_210 : BitVec 32 := 7#32
  let v254 : BitVec 32 := Scalar.addi arg20 c7_i32_210
  let c8_i32_211 : BitVec 32 := 8#32
  let c0_i32_212 : BitVec 32 := 0#32
  let v255 : BitVec 1 := Scalar.cmpi .eq c8_i32_211 c0_i32_212
  let c1_i32_213 : BitVec 32 := 1#32
  let v256 : BitVec 32 := Scalar.select v255 c1_i32_213 c8_i32_211
  let v257 : BitVec 32 := Scalar.remsi v254 v256
  let c0_i32_215 : BitVec 32 := 0#32
  let v259 : BitVec 1 := Scalar.cmpi .slt v257 c0_i32_215
  let c0_i32_216 : BitVec 32 := 0#32
  let v260 : BitVec 1 := Scalar.cmpi .slt v256 c0_i32_216
  let v261 : BitVec 1 := Scalar.xori v259 v260
  let c0_i32_214 : BitVec 32 := 0#32
  let v258 : BitVec 1 := Scalar.cmpi .ne v257 c0_i32_214
  let v262 : BitVec 1 := Scalar.andi v261 v258
  let v263 : BitVec 32 := Scalar.addi v257 v256
  let v264 : BitVec 32 := Scalar.select v262 v263 v257
  let c0_i32_219 : BitVec 32 := 0#32
  let c0_i32_220 : BitVec 32 := 0#32
  ![v264.toNat, 0, 0]
def k0_off11 (k0_t2 : Fin k0_t2_loop.trips) : Fin 3 → Nat :=
  let c1_i32_218 : BitVec 32 := 1#32
  let c0_i32_132 : BitVec 32 := 0#32
  let c1_i32_134 : BitVec 32 := 1#32
  let arg20 : BitVec 32 := Scf.iv c0_i32_132 c1_i32_134 k0_t2
  let c7_i32_210 : BitVec 32 := 7#32
  let v254 : BitVec 32 := Scalar.addi arg20 c7_i32_210
  let c64_i32_217 : BitVec 32 := 64#32
  let v265 : BitVec 32 := Scalar.muli v254 c64_i32_217
  let c0_i32_221 : BitVec 32 := 0#32
  ![1, v265.toNat, 0]
def k0_off12 (k0_t2 : Fin k0_t2_loop.trips) : Fin 1 → Nat :=
  let c0_i32_132 : BitVec 32 := 0#32
  let c1_i32_134 : BitVec 32 := 1#32
  let arg20 : BitVec 32 := Scf.iv c0_i32_132 c1_i32_134 k0_t2
  let c8_i32 : BitVec 32 := 8#32
  let c0_i32_190 : BitVec 32 := 0#32
  let v217 : BitVec 1 := Scalar.cmpi .eq c8_i32 c0_i32_190
  let c1_i32_191 : BitVec 32 := 1#32
  let v218 : BitVec 32 := Scalar.select v217 c1_i32_191 c8_i32
  let v219 : BitVec 32 := Scalar.remsi arg20 v218
  let c0_i32_193 : BitVec 32 := 0#32
  let v221 : BitVec 1 := Scalar.cmpi .slt v219 c0_i32_193
  let c0_i32_194 : BitVec 32 := 0#32
  let v222 : BitVec 1 := Scalar.cmpi .slt v218 c0_i32_194
  let v223 : BitVec 1 := Scalar.xori v221 v222
  let c0_i32_192 : BitVec 32 := 0#32
  let v220 : BitVec 1 := Scalar.cmpi .ne v219 c0_i32_192
  let v224 : BitVec 1 := Scalar.andi v223 v220
  let v225 : BitVec 32 := Scalar.addi v219 v218
  let v226 : BitVec 32 := Scalar.select v224 v225 v219
  ![v226.toNat]
def k0_off13 (k0_t2 : Fin k0_t2_loop.trips) : Fin 3 → Nat :=
  let c0_i32_132 : BitVec 32 := 0#32
  let c1_i32_134 : BitVec 32 := 1#32
  let arg20 : BitVec 32 := Scf.iv c0_i32_132 c1_i32_134 k0_t2
  let c8_i32 : BitVec 32 := 8#32
  let c0_i32_190 : BitVec 32 := 0#32
  let v217 : BitVec 1 := Scalar.cmpi .eq c8_i32 c0_i32_190
  let c1_i32_191 : BitVec 32 := 1#32
  let v218 : BitVec 32 := Scalar.select v217 c1_i32_191 c8_i32
  let v219 : BitVec 32 := Scalar.remsi arg20 v218
  let c0_i32_193 : BitVec 32 := 0#32
  let v221 : BitVec 1 := Scalar.cmpi .slt v219 c0_i32_193
  let c0_i32_194 : BitVec 32 := 0#32
  let v222 : BitVec 1 := Scalar.cmpi .slt v218 c0_i32_194
  let v223 : BitVec 1 := Scalar.xori v221 v222
  let c0_i32_192 : BitVec 32 := 0#32
  let v220 : BitVec 1 := Scalar.cmpi .ne v219 c0_i32_192
  let v224 : BitVec 1 := Scalar.andi v223 v220
  let v225 : BitVec 32 := Scalar.addi v219 v218
  let v226 : BitVec 32 := Scalar.select v224 v225 v219
  let c0_i32_197 : BitVec 32 := 0#32
  let c0_i32_198 : BitVec 32 := 0#32
  ![v226.toNat, 0, 0]
def k0_off14 (k0_t2 : Fin k0_t2_loop.trips) : Fin 3 → Nat :=
  let c1_i32_196 : BitVec 32 := 1#32
  let c0_i32_132 : BitVec 32 := 0#32
  let c1_i32_134 : BitVec 32 := 1#32
  let arg20 : BitVec 32 := Scf.iv c0_i32_132 c1_i32_134 k0_t2
  let c64_i32_195 : BitVec 32 := 64#32
  let v227 : BitVec 32 := Scalar.muli arg20 c64_i32_195
  let c0_i32_199 : BitVec 32 := 0#32
  ![1, v227.toNat, 0]
def k0_off15 (k0_t2 : Fin k0_t2_loop.trips) : Fin 3 → Nat :=
  let c0_i32_132 : BitVec 32 := 0#32
  let c1_i32_134 : BitVec 32 := 1#32
  let arg20 : BitVec 32 := Scf.iv c0_i32_132 c1_i32_134 k0_t2
  let c8_i32_200 : BitVec 32 := 8#32
  let c0_i32_201 : BitVec 32 := 0#32
  let v234 : BitVec 1 := Scalar.cmpi .eq c8_i32_200 c0_i32_201
  let c1_i32_202 : BitVec 32 := 1#32
  let v235 : BitVec 32 := Scalar.select v234 c1_i32_202 c8_i32_200
  let v236 : BitVec 32 := Scalar.remsi arg20 v235
  let c0_i32_204 : BitVec 32 := 0#32
  let v238 : BitVec 1 := Scalar.cmpi .slt v236 c0_i32_204
  let c0_i32_205 : BitVec 32 := 0#32
  let v239 : BitVec 1 := Scalar.cmpi .slt v235 c0_i32_205
  let v240 : BitVec 1 := Scalar.xori v238 v239
  let c0_i32_203 : BitVec 32 := 0#32
  let v237 : BitVec 1 := Scalar.cmpi .ne v236 c0_i32_203
  let v241 : BitVec 1 := Scalar.andi v240 v237
  let v242 : BitVec 32 := Scalar.addi v236 v235
  let v243 : BitVec 32 := Scalar.select v241 v242 v236
  let v244 : Index := Scalar.indexCast v243
  let c0_206 : Index := 0#32
  let c0_207 : Index := 0#32
  ![v244.toNat, 0, 0]
def k0_mult2 (k0_t2 : Fin k0_t2_loop.trips) : BitVec 32 :=
  let c0_i32_132 : BitVec 32 := 0#32
  let c1_i32_134 : BitVec 32 := 1#32
  let arg20 : BitVec 32 := Scf.iv c0_i32_132 c1_i32_134 k0_t2
  let c64_i32_208 : BitVec 32 := 64#32
  let v248 : BitVec 32 := Scalar.muli arg20 c64_i32_208
  v248
def k0_off16 (k0_t2 : Fin k0_t2_loop.trips) : Fin 2 → Nat :=
  let c0_i32_132 : BitVec 32 := 0#32
  let c1_i32_134 : BitVec 32 := 1#32
  let arg20 : BitVec 32 := Scf.iv c0_i32_132 c1_i32_134 k0_t2
  let c64_i32_208 : BitVec 32 := 64#32
  let v248 : BitVec 32 := Scalar.muli arg20 c64_i32_208
  let v249 : BitVec 32 := v248
  let v250 : Index := Scalar.indexCast v249
  let c0_209 : Index := 0#32
  ![v250.toNat, 0]
@[reducible] def k0_t3_loop : Scf.Loop 32 :=
  let c0_i32_185 : BitVec 32 := 0#32
  let c44_i32 : BitVec 32 := 44#32
  let v212 : BitVec 32 := Scalar.addi c0_i32_185 c44_i32
  let c1_i32_186 : BitVec 32 := 1#32
  ⟨c0_i32_185, v212, c1_i32_186⟩
def k0_cond4 (k0_t3 : Fin k0_t3_loop.trips) : BitVec 1 :=
  let c0_i32_185 : BitVec 32 := 0#32
  let c1_i32_186 : BitVec 32 := 1#32
  let arg20 : BitVec 32 := Scf.iv c0_i32_185 c1_i32_186 k0_t3
  let c7_i32 : BitVec 32 := 7#32
  let v213 : BitVec 32 := Scalar.addi arg20 c7_i32
  let c44_i32_188 : BitVec 32 := 44#32
  let v214 : BitVec 1 := Scalar.cmpi .slt v213 c44_i32_188
  let v215 : BitVec 32 := Scalar.extui v214
  let c0_i32_189 : BitVec 32 := 0#32
  let v216 : BitVec 1 := Scalar.cmpi .ne v215 c0_i32_189
  v216

def k0_off17 (k0_t3 : Fin k0_t3_loop.trips) : Fin 1 → Nat :=
  let c0_i32_185 : BitVec 32 := 0#32
  let c1_i32_186 : BitVec 32 := 1#32
  let arg20 : BitVec 32 := Scf.iv c0_i32_185 c1_i32_186 k0_t3
  let c7_i32_210 : BitVec 32 := 7#32
  let v254 : BitVec 32 := Scalar.addi arg20 c7_i32_210
  let c8_i32_211 : BitVec 32 := 8#32
  let c0_i32_212 : BitVec 32 := 0#32
  let v255 : BitVec 1 := Scalar.cmpi .eq c8_i32_211 c0_i32_212
  let c1_i32_213 : BitVec 32 := 1#32
  let v256 : BitVec 32 := Scalar.select v255 c1_i32_213 c8_i32_211
  let v257 : BitVec 32 := Scalar.remsi v254 v256
  let c0_i32_215 : BitVec 32 := 0#32
  let v259 : BitVec 1 := Scalar.cmpi .slt v257 c0_i32_215
  let c0_i32_216 : BitVec 32 := 0#32
  let v260 : BitVec 1 := Scalar.cmpi .slt v256 c0_i32_216
  let v261 : BitVec 1 := Scalar.xori v259 v260
  let c0_i32_214 : BitVec 32 := 0#32
  let v258 : BitVec 1 := Scalar.cmpi .ne v257 c0_i32_214
  let v262 : BitVec 1 := Scalar.andi v261 v258
  let v263 : BitVec 32 := Scalar.addi v257 v256
  let v264 : BitVec 32 := Scalar.select v262 v263 v257
  ![v264.toNat]
def k0_off18 (k0_t3 : Fin k0_t3_loop.trips) : Fin 3 → Nat :=
  let c0_i32_185 : BitVec 32 := 0#32
  let c1_i32_186 : BitVec 32 := 1#32
  let arg20 : BitVec 32 := Scf.iv c0_i32_185 c1_i32_186 k0_t3
  let c7_i32_210 : BitVec 32 := 7#32
  let v254 : BitVec 32 := Scalar.addi arg20 c7_i32_210
  let c8_i32_211 : BitVec 32 := 8#32
  let c0_i32_212 : BitVec 32 := 0#32
  let v255 : BitVec 1 := Scalar.cmpi .eq c8_i32_211 c0_i32_212
  let c1_i32_213 : BitVec 32 := 1#32
  let v256 : BitVec 32 := Scalar.select v255 c1_i32_213 c8_i32_211
  let v257 : BitVec 32 := Scalar.remsi v254 v256
  let c0_i32_215 : BitVec 32 := 0#32
  let v259 : BitVec 1 := Scalar.cmpi .slt v257 c0_i32_215
  let c0_i32_216 : BitVec 32 := 0#32
  let v260 : BitVec 1 := Scalar.cmpi .slt v256 c0_i32_216
  let v261 : BitVec 1 := Scalar.xori v259 v260
  let c0_i32_214 : BitVec 32 := 0#32
  let v258 : BitVec 1 := Scalar.cmpi .ne v257 c0_i32_214
  let v262 : BitVec 1 := Scalar.andi v261 v258
  let v263 : BitVec 32 := Scalar.addi v257 v256
  let v264 : BitVec 32 := Scalar.select v262 v263 v257
  let c0_i32_219 : BitVec 32 := 0#32
  let c0_i32_220 : BitVec 32 := 0#32
  ![v264.toNat, 0, 0]
def k0_off19 (k0_t3 : Fin k0_t3_loop.trips) : Fin 3 → Nat :=
  let c1_i32_218 : BitVec 32 := 1#32
  let c0_i32_185 : BitVec 32 := 0#32
  let c1_i32_186 : BitVec 32 := 1#32
  let arg20 : BitVec 32 := Scf.iv c0_i32_185 c1_i32_186 k0_t3
  let c7_i32_210 : BitVec 32 := 7#32
  let v254 : BitVec 32 := Scalar.addi arg20 c7_i32_210
  let c64_i32_217 : BitVec 32 := 64#32
  let v265 : BitVec 32 := Scalar.muli v254 c64_i32_217
  let c0_i32_221 : BitVec 32 := 0#32
  ![1, v265.toNat, 0]
def k0_off20 (k0_t3 : Fin k0_t3_loop.trips) : Fin 1 → Nat :=
  let c0_i32_185 : BitVec 32 := 0#32
  let c1_i32_186 : BitVec 32 := 1#32
  let arg20 : BitVec 32 := Scf.iv c0_i32_185 c1_i32_186 k0_t3
  let c8_i32 : BitVec 32 := 8#32
  let c0_i32_190 : BitVec 32 := 0#32
  let v217 : BitVec 1 := Scalar.cmpi .eq c8_i32 c0_i32_190
  let c1_i32_191 : BitVec 32 := 1#32
  let v218 : BitVec 32 := Scalar.select v217 c1_i32_191 c8_i32
  let v219 : BitVec 32 := Scalar.remsi arg20 v218
  let c0_i32_193 : BitVec 32 := 0#32
  let v221 : BitVec 1 := Scalar.cmpi .slt v219 c0_i32_193
  let c0_i32_194 : BitVec 32 := 0#32
  let v222 : BitVec 1 := Scalar.cmpi .slt v218 c0_i32_194
  let v223 : BitVec 1 := Scalar.xori v221 v222
  let c0_i32_192 : BitVec 32 := 0#32
  let v220 : BitVec 1 := Scalar.cmpi .ne v219 c0_i32_192
  let v224 : BitVec 1 := Scalar.andi v223 v220
  let v225 : BitVec 32 := Scalar.addi v219 v218
  let v226 : BitVec 32 := Scalar.select v224 v225 v219
  ![v226.toNat]
def k0_off21 (k0_t3 : Fin k0_t3_loop.trips) : Fin 3 → Nat :=
  let c0_i32_185 : BitVec 32 := 0#32
  let c1_i32_186 : BitVec 32 := 1#32
  let arg20 : BitVec 32 := Scf.iv c0_i32_185 c1_i32_186 k0_t3
  let c8_i32 : BitVec 32 := 8#32
  let c0_i32_190 : BitVec 32 := 0#32
  let v217 : BitVec 1 := Scalar.cmpi .eq c8_i32 c0_i32_190
  let c1_i32_191 : BitVec 32 := 1#32
  let v218 : BitVec 32 := Scalar.select v217 c1_i32_191 c8_i32
  let v219 : BitVec 32 := Scalar.remsi arg20 v218
  let c0_i32_193 : BitVec 32 := 0#32
  let v221 : BitVec 1 := Scalar.cmpi .slt v219 c0_i32_193
  let c0_i32_194 : BitVec 32 := 0#32
  let v222 : BitVec 1 := Scalar.cmpi .slt v218 c0_i32_194
  let v223 : BitVec 1 := Scalar.xori v221 v222
  let c0_i32_192 : BitVec 32 := 0#32
  let v220 : BitVec 1 := Scalar.cmpi .ne v219 c0_i32_192
  let v224 : BitVec 1 := Scalar.andi v223 v220
  let v225 : BitVec 32 := Scalar.addi v219 v218
  let v226 : BitVec 32 := Scalar.select v224 v225 v219
  let c0_i32_197 : BitVec 32 := 0#32
  let c0_i32_198 : BitVec 32 := 0#32
  ![v226.toNat, 0, 0]
def k0_off22 (k0_t3 : Fin k0_t3_loop.trips) : Fin 3 → Nat :=
  let c1_i32_196 : BitVec 32 := 1#32
  let c0_i32_185 : BitVec 32 := 0#32
  let c1_i32_186 : BitVec 32 := 1#32
  let arg20 : BitVec 32 := Scf.iv c0_i32_185 c1_i32_186 k0_t3
  let c64_i32_195 : BitVec 32 := 64#32
  let v227 : BitVec 32 := Scalar.muli arg20 c64_i32_195
  let c0_i32_199 : BitVec 32 := 0#32
  ![1, v227.toNat, 0]
def k0_off23 (k0_t3 : Fin k0_t3_loop.trips) : Fin 3 → Nat :=
  let c0_i32_185 : BitVec 32 := 0#32
  let c1_i32_186 : BitVec 32 := 1#32
  let arg20 : BitVec 32 := Scf.iv c0_i32_185 c1_i32_186 k0_t3
  let c8_i32_200 : BitVec 32 := 8#32
  let c0_i32_201 : BitVec 32 := 0#32
  let v234 : BitVec 1 := Scalar.cmpi .eq c8_i32_200 c0_i32_201
  let c1_i32_202 : BitVec 32 := 1#32
  let v235 : BitVec 32 := Scalar.select v234 c1_i32_202 c8_i32_200
  let v236 : BitVec 32 := Scalar.remsi arg20 v235
  let c0_i32_204 : BitVec 32 := 0#32
  let v238 : BitVec 1 := Scalar.cmpi .slt v236 c0_i32_204
  let c0_i32_205 : BitVec 32 := 0#32
  let v239 : BitVec 1 := Scalar.cmpi .slt v235 c0_i32_205
  let v240 : BitVec 1 := Scalar.xori v238 v239
  let c0_i32_203 : BitVec 32 := 0#32
  let v237 : BitVec 1 := Scalar.cmpi .ne v236 c0_i32_203
  let v241 : BitVec 1 := Scalar.andi v240 v237
  let v242 : BitVec 32 := Scalar.addi v236 v235
  let v243 : BitVec 32 := Scalar.select v241 v242 v236
  let v244 : Index := Scalar.indexCast v243
  let c0_206 : Index := 0#32
  let c0_207 : Index := 0#32
  ![v244.toNat, 0, 0]
def k0_mult3 (k0_t3 : Fin k0_t3_loop.trips) : BitVec 32 :=
  let c0_i32_185 : BitVec 32 := 0#32
  let c1_i32_186 : BitVec 32 := 1#32
  let arg20 : BitVec 32 := Scf.iv c0_i32_185 c1_i32_186 k0_t3
  let c64_i32_208 : BitVec 32 := 64#32
  let v248 : BitVec 32 := Scalar.muli arg20 c64_i32_208
  v248
def k0_off24 (k0_t3 : Fin k0_t3_loop.trips) : Fin 2 → Nat :=
  let c0_i32_185 : BitVec 32 := 0#32
  let c1_i32_186 : BitVec 32 := 1#32
  let arg20 : BitVec 32 := Scf.iv c0_i32_185 c1_i32_186 k0_t3
  let c64_i32_208 : BitVec 32 := 64#32
  let v248 : BitVec 32 := Scalar.muli arg20 c64_i32_208
  let v249 : BitVec 32 := v248
  let v250 : Index := Scalar.indexCast v249
  let c0_209 : Index := 0#32
  ![v250.toNat, 0]
def k0_cond5 (i : grid0.Coords) : BitVec 1 :=
  let arg0 : BitVec 32 := BitVec.ofNat 32 (i 0).val
  let c0_i32_1 : BitVec 32 := 0#32
  let v3 : BitVec 1 := Scalar.cmpi .eq arg0 c0_i32_1
  let v4 : BitVec 32 := Scalar.extui v3
  let c0_i32_2 : BitVec 32 := 0#32
  let v5 : BitVec 1 := Scalar.cmpi .ne v4 c0_i32_2
  v5

@[reducible] def k0_t4_loop : Scf.Loop 32 :=
  let c0_i32_80 : BitVec 32 := 0#32
  let c16_i32 : BitVec 32 := 16#32
  let v126 : BitVec 32 := Scalar.addi c0_i32_80 c16_i32
  let c1_i32_81 : BitVec 32 := 1#32
  ⟨c0_i32_80, v126, c1_i32_81⟩
def k0_cond6 (k0_t4 : Fin k0_t4_loop.trips) : BitVec 1 :=
  let c0_i32_80 : BitVec 32 := 0#32
  let c1_i32_81 : BitVec 32 := 1#32
  let arg20 : BitVec 32 := Scf.iv c0_i32_80 c1_i32_81 k0_t4
  let c7_i32 : BitVec 32 := 7#32
  let v127 : BitVec 32 := Scalar.addi arg20 c7_i32
  let c16_i32_83 : BitVec 32 := 16#32
  let v128 : BitVec 1 := Scalar.cmpi .slt v127 c16_i32_83
  let v129 : BitVec 32 := Scalar.extui v128
  let c0_i32_84 : BitVec 32 := 0#32
  let v130 : BitVec 1 := Scalar.cmpi .ne v129 c0_i32_84
  v130

def k0_off25 (k0_t4 : Fin k0_t4_loop.trips) : Fin 1 → Nat :=
  let c0_i32_80 : BitVec 32 := 0#32
  let c1_i32_81 : BitVec 32 := 1#32
  let arg20 : BitVec 32 := Scf.iv c0_i32_80 c1_i32_81 k0_t4
  let c7_i32_105 : BitVec 32 := 7#32
  let v168 : BitVec 32 := Scalar.addi arg20 c7_i32_105
  let c8_i32_106 : BitVec 32 := 8#32
  let c0_i32_107 : BitVec 32 := 0#32
  let v169 : BitVec 1 := Scalar.cmpi .eq c8_i32_106 c0_i32_107
  let c1_i32_108 : BitVec 32 := 1#32
  let v170 : BitVec 32 := Scalar.select v169 c1_i32_108 c8_i32_106
  let v171 : BitVec 32 := Scalar.remsi v168 v170
  let c0_i32_110 : BitVec 32 := 0#32
  let v173 : BitVec 1 := Scalar.cmpi .slt v171 c0_i32_110
  let c0_i32_111 : BitVec 32 := 0#32
  let v174 : BitVec 1 := Scalar.cmpi .slt v170 c0_i32_111
  let v175 : BitVec 1 := Scalar.xori v173 v174
  let c0_i32_109 : BitVec 32 := 0#32
  let v172 : BitVec 1 := Scalar.cmpi .ne v171 c0_i32_109
  let v176 : BitVec 1 := Scalar.andi v175 v172
  let v177 : BitVec 32 := Scalar.addi v171 v170
  let v178 : BitVec 32 := Scalar.select v176 v177 v171
  ![v178.toNat]
def k0_off26 (k0_t4 : Fin k0_t4_loop.trips) : Fin 3 → Nat :=
  let c0_i32_80 : BitVec 32 := 0#32
  let c1_i32_81 : BitVec 32 := 1#32
  let arg20 : BitVec 32 := Scf.iv c0_i32_80 c1_i32_81 k0_t4
  let c7_i32_105 : BitVec 32 := 7#32
  let v168 : BitVec 32 := Scalar.addi arg20 c7_i32_105
  let c8_i32_106 : BitVec 32 := 8#32
  let c0_i32_107 : BitVec 32 := 0#32
  let v169 : BitVec 1 := Scalar.cmpi .eq c8_i32_106 c0_i32_107
  let c1_i32_108 : BitVec 32 := 1#32
  let v170 : BitVec 32 := Scalar.select v169 c1_i32_108 c8_i32_106
  let v171 : BitVec 32 := Scalar.remsi v168 v170
  let c0_i32_110 : BitVec 32 := 0#32
  let v173 : BitVec 1 := Scalar.cmpi .slt v171 c0_i32_110
  let c0_i32_111 : BitVec 32 := 0#32
  let v174 : BitVec 1 := Scalar.cmpi .slt v170 c0_i32_111
  let v175 : BitVec 1 := Scalar.xori v173 v174
  let c0_i32_109 : BitVec 32 := 0#32
  let v172 : BitVec 1 := Scalar.cmpi .ne v171 c0_i32_109
  let v176 : BitVec 1 := Scalar.andi v175 v172
  let v177 : BitVec 32 := Scalar.addi v171 v170
  let v178 : BitVec 32 := Scalar.select v176 v177 v171
  let c0_i32_114 : BitVec 32 := 0#32
  let c0_i32_115 : BitVec 32 := 0#32
  ![v178.toNat, 0, 0]
def k0_off27 (k0_t4 : Fin k0_t4_loop.trips) : Fin 3 → Nat :=
  let c0_i32_113 : BitVec 32 := 0#32
  let c0_i32_80 : BitVec 32 := 0#32
  let c1_i32_81 : BitVec 32 := 1#32
  let arg20 : BitVec 32 := Scf.iv c0_i32_80 c1_i32_81 k0_t4
  let c7_i32_105 : BitVec 32 := 7#32
  let v168 : BitVec 32 := Scalar.addi arg20 c7_i32_105
  let c64_i32_112 : BitVec 32 := 64#32
  let v179 : BitVec 32 := Scalar.muli v168 c64_i32_112
  let c0_i32_116 : BitVec 32 := 0#32
  ![0, v179.toNat, 0]
def k0_off28 (k0_t4 : Fin k0_t4_loop.trips) : Fin 1 → Nat :=
  let c0_i32_80 : BitVec 32 := 0#32
  let c1_i32_81 : BitVec 32 := 1#32
  let arg20 : BitVec 32 := Scf.iv c0_i32_80 c1_i32_81 k0_t4
  let c8_i32 : BitVec 32 := 8#32
  let c0_i32_85 : BitVec 32 := 0#32
  let v131 : BitVec 1 := Scalar.cmpi .eq c8_i32 c0_i32_85
  let c1_i32_86 : BitVec 32 := 1#32
  let v132 : BitVec 32 := Scalar.select v131 c1_i32_86 c8_i32
  let v133 : BitVec 32 := Scalar.remsi arg20 v132
  let c0_i32_88 : BitVec 32 := 0#32
  let v135 : BitVec 1 := Scalar.cmpi .slt v133 c0_i32_88
  let c0_i32_89 : BitVec 32 := 0#32
  let v136 : BitVec 1 := Scalar.cmpi .slt v132 c0_i32_89
  let v137 : BitVec 1 := Scalar.xori v135 v136
  let c0_i32_87 : BitVec 32 := 0#32
  let v134 : BitVec 1 := Scalar.cmpi .ne v133 c0_i32_87
  let v138 : BitVec 1 := Scalar.andi v137 v134
  let v139 : BitVec 32 := Scalar.addi v133 v132
  let v140 : BitVec 32 := Scalar.select v138 v139 v133
  ![v140.toNat]
def k0_off29 (k0_t4 : Fin k0_t4_loop.trips) : Fin 3 → Nat :=
  let c0_i32_80 : BitVec 32 := 0#32
  let c1_i32_81 : BitVec 32 := 1#32
  let arg20 : BitVec 32 := Scf.iv c0_i32_80 c1_i32_81 k0_t4
  let c8_i32 : BitVec 32 := 8#32
  let c0_i32_85 : BitVec 32 := 0#32
  let v131 : BitVec 1 := Scalar.cmpi .eq c8_i32 c0_i32_85
  let c1_i32_86 : BitVec 32 := 1#32
  let v132 : BitVec 32 := Scalar.select v131 c1_i32_86 c8_i32
  let v133 : BitVec 32 := Scalar.remsi arg20 v132
  let c0_i32_88 : BitVec 32 := 0#32
  let v135 : BitVec 1 := Scalar.cmpi .slt v133 c0_i32_88
  let c0_i32_89 : BitVec 32 := 0#32
  let v136 : BitVec 1 := Scalar.cmpi .slt v132 c0_i32_89
  let v137 : BitVec 1 := Scalar.xori v135 v136
  let c0_i32_87 : BitVec 32 := 0#32
  let v134 : BitVec 1 := Scalar.cmpi .ne v133 c0_i32_87
  let v138 : BitVec 1 := Scalar.andi v137 v134
  let v139 : BitVec 32 := Scalar.addi v133 v132
  let v140 : BitVec 32 := Scalar.select v138 v139 v133
  let c0_i32_92 : BitVec 32 := 0#32
  let c0_i32_93 : BitVec 32 := 0#32
  ![v140.toNat, 0, 0]
def k0_off30 (k0_t4 : Fin k0_t4_loop.trips) : Fin 3 → Nat :=
  let c0_i32_91 : BitVec 32 := 0#32
  let c0_i32_80 : BitVec 32 := 0#32
  let c1_i32_81 : BitVec 32 := 1#32
  let arg20 : BitVec 32 := Scf.iv c0_i32_80 c1_i32_81 k0_t4
  let c64_i32_90 : BitVec 32 := 64#32
  let v141 : BitVec 32 := Scalar.muli arg20 c64_i32_90
  let c0_i32_94 : BitVec 32 := 0#32
  ![0, v141.toNat, 0]
def k0_off31 (k0_t4 : Fin k0_t4_loop.trips) : Fin 3 → Nat :=
  let c0_i32_80 : BitVec 32 := 0#32
  let c1_i32_81 : BitVec 32 := 1#32
  let arg20 : BitVec 32 := Scf.iv c0_i32_80 c1_i32_81 k0_t4
  let c8_i32_95 : BitVec 32 := 8#32
  let c0_i32_96 : BitVec 32 := 0#32
  let v148 : BitVec 1 := Scalar.cmpi .eq c8_i32_95 c0_i32_96
  let c1_i32_97 : BitVec 32 := 1#32
  let v149 : BitVec 32 := Scalar.select v148 c1_i32_97 c8_i32_95
  let v150 : BitVec 32 := Scalar.remsi arg20 v149
  let c0_i32_99 : BitVec 32 := 0#32
  let v152 : BitVec 1 := Scalar.cmpi .slt v150 c0_i32_99
  let c0_i32_100 : BitVec 32 := 0#32
  let v153 : BitVec 1 := Scalar.cmpi .slt v149 c0_i32_100
  let v154 : BitVec 1 := Scalar.xori v152 v153
  let c0_i32_98 : BitVec 32 := 0#32
  let v151 : BitVec 1 := Scalar.cmpi .ne v150 c0_i32_98
  let v155 : BitVec 1 := Scalar.andi v154 v151
  let v156 : BitVec 32 := Scalar.addi v150 v149
  let v157 : BitVec 32 := Scalar.select v155 v156 v150
  let v158 : Index := Scalar.indexCast v157
  let c0_101 : Index := 0#32
  let c0_102 : Index := 0#32
  ![v158.toNat, 0, 0]
def k0_mult4 (k0_t4 : Fin k0_t4_loop.trips) : BitVec 32 :=
  let c0_i32_80 : BitVec 32 := 0#32
  let c1_i32_81 : BitVec 32 := 1#32
  let arg20 : BitVec 32 := Scf.iv c0_i32_80 c1_i32_81 k0_t4
  let c64_i32_103 : BitVec 32 := 64#32
  let v162 : BitVec 32 := Scalar.muli arg20 c64_i32_103
  v162
def k0_off32 (k0_t4 : Fin k0_t4_loop.trips) : Fin 2 → Nat :=
  let c0_i32_80 : BitVec 32 := 0#32
  let c1_i32_81 : BitVec 32 := 1#32
  let arg20 : BitVec 32 := Scf.iv c0_i32_80 c1_i32_81 k0_t4
  let c64_i32_103 : BitVec 32 := 64#32
  let v162 : BitVec 32 := Scalar.muli arg20 c64_i32_103
  let v163 : BitVec 32 := v162
  let v164 : Index := Scalar.indexCast v163
  let c0_104 : Index := 0#32
  ![v164.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8x2048x1024 : Shape := ⟨3, ![8, 2048, 1024]⟩
abbrev S2x1024 : Shape := ⟨2, ![2, 1024]⟩
abbrev S2x1024x2816 : Shape := ⟨3, ![2, 1024, 2816]⟩
abbrev S2x2816x1024 : Shape := ⟨3, ![2, 2816, 1024]⟩
abbrev S1x1024x3072 : Shape := ⟨3, ![1, 1024, 3072]⟩
abbrev S32 : Shape := ⟨1, ![32]⟩
abbrev S_ : Shape := ⟨0, ![]⟩
abbrev S2048 : Shape := ⟨1, ![2048]⟩
abbrev S2048x1 : Shape := ⟨2, ![2048, 1]⟩
abbrev S1x32 : Shape := ⟨2, ![1, 32]⟩
abbrev S2048x32 : Shape := ⟨2, ![2048, 32]⟩
abbrev S2048x1x32 : Shape := ⟨3, ![2048, 1, 32]⟩
abbrev S1x1024 : Shape := ⟨2, ![1, 1024]⟩
abbrev S1024 : Shape := ⟨1, ![1024]⟩
abbrev S8x2048 : Shape := ⟨2, ![8, 2048]⟩
abbrev S8x2048x1 : Shape := ⟨3, ![8, 2048, 1]⟩
abbrev S1x1x1024 : Shape := ⟨3, ![1, 1, 1024]⟩
abbrev S1x1024x2816 : Shape := ⟨3, ![1, 1024, 2816]⟩
abbrev S1024x2816 : Shape := ⟨2, ![1024, 2816]⟩
abbrev S1x2816x1024 : Shape := ⟨3, ![1, 2816, 1024]⟩
abbrev S2816x1024 : Shape := ⟨2, ![2816, 1024]⟩
abbrev S8x2048x2816 : Shape := ⟨3, ![8, 2048, 2816]⟩
abbrev S1024x3072 : Shape := ⟨2, ![1024, 3072]⟩
abbrev S8x2048x3072 : Shape := ⟨3, ![8, 2048, 3072]⟩
abbrev S8x2048x16x64 : Shape := ⟨4, ![8, 2048, 16, 64]⟩
abbrev S8x2048x16x32 : Shape := ⟨4, ![8, 2048, 16, 32]⟩
abbrev S1x2048x1x32 : Shape := ⟨4, ![1, 2048, 1, 32]⟩
abbrev S16384x1024 : Shape := ⟨2, ![16384, 1024]⟩

abbrev nBuf : Space → Nat
  | .hbm => 140
  | .vmem => 0
  | .smem => 0
  | _ => 0

abbrev hbmTy0_0 (i : Nat) : BufTy := match i % 128 with
  | 0 => ⟨S8x2048x1024, .f32⟩
  | 1 => ⟨S2x1024, .f32⟩
  | 2 => ⟨S2x1024x2816, .f32⟩
  | 3 => ⟨S2x1024x2816, .f32⟩
  | 4 => ⟨S2x2816x1024, .f32⟩
  | 5 => ⟨S2x1024, .f32⟩
  | 6 => ⟨S1x1024x3072, .f32⟩
  | 7 => ⟨S32, .f32⟩
  | 8 => ⟨S_, .f32⟩
  | 9 => ⟨S32, .f32⟩
  | 10 => ⟨S32, .f32⟩
  | 11 => ⟨S_, .f32⟩
  | 12 => ⟨S32, .f32⟩
  | 13 => ⟨S32, .f32⟩
  | 14 => ⟨S_, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S2048, .f32⟩
  | 24 => ⟨S2048x1, .f32⟩
  | 25 => ⟨S1x32, .f32⟩
  | 26 => ⟨S2048x32, .f32⟩
  | 27 => ⟨S2048x32, .f32⟩
  | 28 => ⟨S2048x32, .f32⟩
  | 29 => ⟨S2048x32, .f32⟩
  | 30 => ⟨S2048x1x32, .f32⟩
  | 31 => ⟨S2048x32, .f32⟩
  | 32 => ⟨S2048x1x32, .f32⟩
  | 33 => ⟨S1x1024, .f32⟩
  | 34 => ⟨S1024, .f32⟩
  | 35 => ⟨S8x2048x1024, .f32⟩
  | 36 => ⟨S_, .f32⟩
  | 37 => ⟨S8x2048, .f32⟩
  | 38 => ⟨S8x2048x1, .f32⟩
  | 39 => ⟨S_, .f32⟩
  | 40 => ⟨S8x2048x1, .f32⟩
  | 41 => ⟨S8x2048x1, .f32⟩
  | 42 => ⟨S_, .f32⟩
  | 43 => ⟨S8x2048x1, .f32⟩
  | 44 => ⟨S8x2048x1, .f32⟩
  | 45 => ⟨S8x2048x1, .f32⟩
  | 46 => ⟨S8x2048x1024, .f32⟩
  | 47 => ⟨S8x2048x1024, .f32⟩
  | 48 => ⟨S1x1x1024, .f32⟩
  | 49 => ⟨S8x2048x1024, .f32⟩
  | 50 => ⟨S8x2048x1024, .f32⟩
  | 51 => ⟨S1x1024x2816, .f32⟩
  | 52 => ⟨S1024x2816, .f32⟩
  | 53 => ⟨S1x1024x2816, .f32⟩
  | 54 => ⟨S1024x2816, .f32⟩
  | 55 => ⟨S1x2816x1024, .f32⟩
  | 56 => ⟨S2816x1024, .f32⟩
  | 57 => ⟨S8x2048x2816, .f32⟩
  | 58 => ⟨S8x2048x2816, .f32⟩
  | 59 => ⟨S8x2048x2816, .f32⟩
  | 60 => ⟨S_, .f32⟩
  | 61 => ⟨S8x2048x2816, .f32⟩
  | 62 => ⟨S8x2048x2816, .f32⟩
  | 63 => ⟨S_, .f32⟩
  | 64 => ⟨S8x2048x2816, .f32⟩
  | 65 => ⟨S8x2048x2816, .f32⟩
  | 66 => ⟨S8x2048x2816, .f32⟩
  | 67 => ⟨S8x2048x2816, .f32⟩
  | 68 => ⟨S8x2048x2816, .f32⟩
  | 69 => ⟨S8x2048x1024, .f32⟩
  | 70 => ⟨S_, .f32⟩
  | 71 => ⟨S8x2048x1024, .f32⟩
  | 72 => ⟨S8x2048x1024, .f32⟩
  | 73 => ⟨S8x2048x1024, .f32⟩
  | 74 => ⟨S1x1024, .f32⟩
  | 75 => ⟨S1024, .f32⟩
  | 76 => ⟨S8x2048x1024, .f32⟩
  | 77 => ⟨S_, .f32⟩
  | 78 => ⟨S8x2048, .f32⟩
  | 79 => ⟨S8x2048x1, .f32⟩
  | 80 => ⟨S_, .f32⟩
  | 81 => ⟨S8x2048x1, .f32⟩
  | 82 => ⟨S8x2048x1, .f32⟩
  | 83 => ⟨S_, .f32⟩
  | 84 => ⟨S8x2048x1, .f32⟩
  | 85 => ⟨S8x2048x1, .f32⟩
  | 86 => ⟨S8x2048x1, .f32⟩
  | 87 => ⟨S8x2048x1024, .f32⟩
  | 88 => ⟨S8x2048x1024, .f32⟩
  | 89 => ⟨S1x1x1024, .f32⟩
  | 90 => ⟨S8x2048x1024, .f32⟩
  | 91 => ⟨S8x2048x1024, .f32⟩
  | 92 => ⟨S1024x3072, .f32⟩
  | 93 => ⟨S8x2048x3072, .f32⟩
  | 94 => ⟨S8x2048x1024, .f32⟩
  | 95 => ⟨S8x2048x1024, .f32⟩
  | 96 => ⟨S8x2048x1024, .f32⟩
  | 97 => ⟨S8x2048x16x64, .f32⟩
  | 98 => ⟨S8x2048x16x32, .f32⟩
  | 99 => ⟨S8x2048x16x32, .f32⟩
  | 100 => ⟨S1x2048x1x32, .f32⟩
  | 101 => ⟨S8x2048x16x32, .f32⟩
  | 102 => ⟨S8x2048x16x32, .f32⟩
  | 103 => ⟨S1x2048x1x32, .f32⟩
  | 104 => ⟨S8x2048x16x32, .f32⟩
  | 105 => ⟨S8x2048x16x32, .f32⟩
  | 106 => ⟨S8x2048x16x32, .f32⟩
  | 107 => ⟨S1x2048x1x32, .f32⟩
  | 108 => ⟨S8x2048x16x32, .f32⟩
  | 109 => ⟨S8x2048x16x32, .f32⟩
  | 110 => ⟨S1x2048x1x32, .f32⟩
  | 111 => ⟨S8x2048x16x32, .f32⟩
  | 112 => ⟨S8x2048x16x32, .f32⟩
  | 113 => ⟨S8x2048x16x32, .f32⟩
  | 114 => ⟨S8x2048x16x64, .f32⟩
  | 115 => ⟨S_, .f32⟩
  | 116 => ⟨S8x2048x16x64, .f32⟩
  | 117 => ⟨S8x2048x16x64, .f32⟩
  | 118 => ⟨S16384x1024, .f32⟩
  | 119 => ⟨S16384x1024, .f32⟩
  | 120 => ⟨S8x2048x16x64, .f32⟩
  | 121 => ⟨S8x2048x16x32, .f32⟩
  | 122 => ⟨S8x2048x16x32, .f32⟩
  | 123 => ⟨S1x2048x1x32, .f32⟩
  | 124 => ⟨S8x2048x16x32, .f32⟩
  | 125 => ⟨S8x2048x16x32, .f32⟩
  | 126 => ⟨S1x2048x1x32, .f32⟩
  | 127 => ⟨S8x2048x16x32, .f32⟩
  | _ => ⟨S8x2048x1024, .f32⟩

abbrev hbmTy0_1 (i : Nat) : BufTy := match i % 128 with
  | 0 => ⟨S8x2048x16x32, .f32⟩
  | 1 => ⟨S8x2048x16x32, .f32⟩
  | 2 => ⟨S1x2048x1x32, .f32⟩
  | 3 => ⟨S8x2048x16x32, .f32⟩
  | 4 => ⟨S8x2048x16x32, .f32⟩
  | 5 => ⟨S1x2048x1x32, .f32⟩
  | 6 => ⟨S8x2048x16x32, .f32⟩
  | 7 => ⟨S8x2048x16x32, .f32⟩
  | 8 => ⟨S8x2048x16x32, .f32⟩
  | 9 => ⟨S8x2048x16x64, .f32⟩
  | 10 => ⟨S16384x1024, .f32⟩
  | 11 => ⟨S16384x1024, .f32⟩
  | _ => ⟨S8x2048x1024, .f32⟩

abbrev hbmTy (i : Nat) : BufTy := match i / 128 with
  | 0 => hbmTy0_0 i
  | 1 => hbmTy0_1 i
  | _ => ⟨S8x2048x1024, .f32⟩

abbrev bufTy : (tb : Table) → Fin (tcTables nBuf tb) → BufTy
  | .hbm, ⟨i, _⟩ => hbmTy i
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_cst_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_call0_v0 : Ref sig .tc := ⟨.hbm, 58, rfl⟩
abbrev main_call0_v1 : Ref sig .tc := ⟨.hbm, 59, rfl⟩
abbrev main_call0_cst : Ref sig .tc := ⟨.hbm, 60, rfl⟩
abbrev main_call0_v2 : Ref sig .tc := ⟨.hbm, 61, rfl⟩
abbrev main_call0_v3 : Ref sig .tc := ⟨.hbm, 62, rfl⟩
abbrev main_call0_cst_0 : Ref sig .tc := ⟨.hbm, 63, rfl⟩
abbrev main_call0_v4 : Ref sig .tc := ⟨.hbm, 64, rfl⟩
abbrev main_call0_v5 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_8 : Ref sig .tc := ⟨.hbm, 77, rfl⟩
abbrev main_v53 : Ref sig .tc := ⟨.hbm, 78, rfl⟩
abbrev main_v54 : Ref sig .tc := ⟨.hbm, 79, rfl⟩
abbrev main_cst_9 : Ref sig .tc := ⟨.hbm, 80, rfl⟩
abbrev main_v55 : Ref sig .tc := ⟨.hbm, 81, rfl⟩
abbrev main_v56 : Ref sig .tc := ⟨.hbm, 82, rfl⟩
abbrev main_cst_10 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_cst_11 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩
abbrev main_v97 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_v102 : Ref sig .tc := ⟨.hbm, 130, rfl⟩
abbrev main_v103 : Ref sig .tc := ⟨.hbm, 131, rfl⟩
abbrev main_v104 : Ref sig .tc := ⟨.hbm, 132, rfl⟩
abbrev main_v105 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_v110 : Ref sig .tc := ⟨.hbm, 138, rfl⟩
abbrev main_v111 : Ref sig .tc := ⟨.hbm, 139, rfl⟩

abbrev nD : Nat := 1
abbrev τ : Topo := Topo.v7x

variable {F : FTy → Type} [FloatOps F]
-- ==== Proof.Tile.lean ====
/-
  One tile of the differential attention, with the number `w` of keys before the tile as a parameter.

  The body handles each head in 8 tiles of 256 query rows. Tile `j` meets the `w = 256·j` keys before it and its own
  256 keys; the printed text spells each of the 8 widths out. Here the tile is written once (`attendFirst` where no keys
  come before, `attend` at any width), so that what it computes is read once.
-/
module

public import proofs.«01_k».proof.Proof.Gen.KernelIdeal

@[expose] public section

noncomputable section

namespace Cert.KernelIdeal.Tile

open Cert.KernelIdeal Cert.KernelIdeal.Gen Idealize.ShloMosaic

variable {F : FTy → Type} [FloatOps F]

/-- What a tile with `w` keys before it needs of the shapes. -/
structure Fits (w : ℕ) : Prop where
  scores : DotDims.WF S256x64 ⟨2, ![w, 64]⟩ ⟨2, ![256, w]⟩ [1] [1] [0] [0] [] []
  values : DotDims.WF ⟨2, ![256, w]⟩ ⟨2, ![w, 256]⟩ S256x256 [1] [0] [0] [1] [] []
  rows : (⟨2, ![256, w]⟩ : Shape).Reduces [1] S256
  spread : S256x1.Broadcasts ⟨2, ![256, w]⟩
  own : S2048x256.Slices ![w, 0] S256x256
  before : S2048x256.Slices ![0, 0] ⟨2, ![w, 256]⟩
  keys : (⟨4, ![1, 1, w, 64]⟩ : Shape).ShapeCasts ⟨2, ![w, 64]⟩

/-- Queries times keys, contracted over the head's 64 channels. -/
def scoresDims (w : ℕ) (h : DotDims.WF S256x64 ⟨2, ![w, 64]⟩ ⟨2, ![256, w]⟩ [1] [1] [0] [0] [] []) :
    DotDims S256x64 ⟨2, ![w, 64]⟩ ⟨2, ![256, w]⟩ where
  lhsContracting := [1]
  rhsContracting := [1]
  lhsNonContracting := [0]
  rhsNonContracting := [0]
  lhsBatch := []
  rhsBatch := []
  wf := h

/-- Weights times values, contracted over the keys. -/
def valuesDims (w : ℕ) (h : DotDims.WF ⟨2, ![256, w]⟩ ⟨2, ![w, 256]⟩ S256x256 [1] [0] [0] [1] [] []) :
    DotDims ⟨2, ![256, w]⟩ ⟨2, ![w, 256]⟩ S256x256 where
  lhsContracting := [1]
  rhsContracting := [0]
  lhsNonContracting := [0]
  rhsNonContracting := [1]
  lhsBatch := []
  rhsBatch := []
  wf := h

/-- Scores of the tile's queries against `w` keys. -/
def scores (w : ℕ) (h : DotDims.WF S256x64 ⟨2, ![w, 64]⟩ ⟨2, ![256, w]⟩ [1] [1] [0] [0] [] [])
    (hk : (⟨4, ![1, 1, w, 64]⟩ : Shape).ShapeCasts ⟨2, ![w, 64]⟩)
    (q : Vec F S1x1x256x64 .bf16) (k : Vec F ⟨4, ![1, 1, w, 64]⟩ .bf16) : FVec F ⟨2, ![256, w]⟩ .f32 :=
  matmul (scoresDims w h) none (shapeCast S256x64 q shapeCasts_S1x1x256x64_S256x64) (shapeCast ⟨2, ![w, 64]⟩ k hk)
    (constant ⟨2, ![256, w]⟩ .f32 0x00000000#32)

/-- Each row's largest entry, as a column. -/
def rowMax (w : ℕ) (h : (⟨2, ![256, w]⟩ : Shape).Reduces [1] S256) (s : FVec F ⟨2, ![256, w]⟩ .f32) : FVec F S256x1 .f32 :=
  shapeCast S256x1 (multiReduction .maximumf [1] S256 s 0xFF800000#32 h (.inl rfl) rfl) shapeCasts_S256_S256x1

/-- The weights `2 ^ (s - m)` times the values and the ones beside them. -/
def weighted (w : ℕ) (hb : S256x1.Broadcasts ⟨2, ![256, w]⟩) (hv : DotDims.WF ⟨2, ![256, w]⟩ ⟨2, ![w, 256]⟩ S256x256 [1] [0] [0] [1] [] [])
    (s : FVec F ⟨2, ![256, w]⟩ .f32) (m : FVec F S256x1 .f32) (v : FVec F ⟨2, ![w, 256]⟩ .bf16) : FVec F S256x256 .f32 :=
  matmul (valuesDims w hv) none (truncf .bf16 (exp2 (subf s (broadcastTo ⟨2, ![256, w]⟩ m hb))) bitsLt_bf16_f32) v
    (constant S256x256 .f32 0x00000000#32)

/-- The numerators' columns times the reciprocals of the denominators' columns. -/
def quotient (r : FVec F S256x256 .f32) : FVec F S256x128 .f32 :=
  mulf (extractStridedSlice S256x128 ![0, 0] r slices_S256x256_o0_0_S256x128)
    (divf (broadcast S256x128 (Scalar.ofBits .f32 0x3F800000#32)) (extractStridedSlice S256x128 ![0, 128] r slices_S256x256_o0_128_S256x128))

/-- The tile's own scores, with the causal bias. -/
def ownScores (b : FVec F S256x256 .f32) (q k : Vec F S1x1x256x64 .bf16) : FVec F S256x256 .f32 :=
  addf (scores 256 dot_S256x64_S256x64_S256x256_1_1_0_0_n_n_wf shapeCasts_S1x1x256x64_S256x64 q k) b

/-- The first tile's attention: its own keys only. -/
def attendFirst (b : FVec F S256x256 .f32) (v : FVec F S2048x256 .bf16) (q k : Vec F S1x1x256x64 .bf16) : FVec F S256x128 .f32 :=
  quotient (weighted 256 broadcasts_S256x1_S256x256 dot_S256x256_S256x256_S256x256_1_0_0_1_n_n_wf (ownScores b q k)
    (rowMax 256 reduces_S256x256_S256 (ownScores b q k))
    (extractStridedSlice S256x256 ![0, 0] v slices_S2048x256_o0_0_S256x256))

/-- The larger of the two parts' row maxima. -/
def bothMax (w : ℕ) (f : Fits w) (b : FVec F S256x256 .f32) (q k : Vec F S1x1x256x64 .bf16) (k' : Vec F ⟨4, ![1, 1, w, 64]⟩ .bf16) :
    FVec F S256x1 .f32 :=
  maximumf (rowMax 256 reduces_S256x256_S256 (ownScores b q k)) (rowMax w f.rows (scores w f.scores f.keys q k'))

/-- A later tile's attention: its own keys and the `w` before them. -/
def attend (w : ℕ) (f : Fits w) (b : FVec F S256x256 .f32) (v : FVec F S2048x256 .bf16) (q k : Vec F S1x1x256x64 .bf16)
    (k' : Vec F ⟨4, ![1, 1, w, 64]⟩ .bf16) : FVec F S256x128 .f32 :=
  quotient (addf
    (weighted 256 broadcasts_S256x1_S256x256 dot_S256x256_S256x256_S256x256_1_0_0_1_n_n_wf (ownScores b q k) (bothMax w f b q k k')
      (extractStridedSlice S256x256 ![w, 0] v f.own))
    (weighted w f.spread f.values (scores w f.scores f.keys q k') (bothMax w f b q k k')
      (extractStridedSlice ⟨2, ![w, 256]⟩ ![0, 0] v f.before)))

/-- The difference of the two attentions. -/
def difference (lam : FVec F S1x1 .f32) (a1 a2 : FVec F S256x128 .f32) : FVec F S256x128 .f32 :=
  subf a1 (mulf (broadcastTo S256x128 lam broadcasts_S1x1_S256x128) a2)

/-- Each row's mean square plus `1e-5`, to the power `-1/2`, as a column. -/
def rowScale (o : FVec F S256x128 .f32) : FVec F S256x1 .f32 :=
  rsqrt (addf (divf (shapeCast S256x1 (multiReduction .add [1] S256 (mulf o o) 0x00000000#32 reduces_S256x128_S256 (.inl rfl) rfl)
    shapeCasts_S256_S256x1) (broadcast S256x1 (Scalar.ofBits .f32 0x43000000#32))) (broadcast S256x1 (Scalar.ofBits .f32 0x3727C5AC#32)))

/-- The normalised difference: what a head's tile stores. -/
def normed (g : FVec F S1x128 .f32) (o : FVec F S256x128 .f32) : FVec F S1x256x128 .bf16 :=
  shapeCast S1x256x128 (truncf .bf16 (mulf (mulf (mulf o (broadcastTo S256x128 (rowScale o) broadcasts_S256x1_S256x128))
    (broadcastTo S256x128 g broadcasts_S1x128_S256x128)) (broadcast S256x128 (Scalar.ofBits .f32 0x3F4CCCCD#32))) bitsLt_bf16_f32)
    shapeCasts_S256x128_S1x256x128

/-- The tiles' widths in the printed text all fit. -/
theorem fits256 : Fits 256 := ⟨dot_S256x64_S256x64_S256x256_1_1_0_0_n_n_wf, dot_S256x256_S256x256_S256x256_1_0_0_1_n_n_wf,
  reduces_S256x256_S256, broadcasts_S256x1_S256x256, slices_S2048x256_o256_0_S256x256, slices_S2048x256_o0_0_S256x256, shapeCasts_S1x1x256x64_S256x64⟩
theorem fits512 : Fits 512 := ⟨dot_S256x64_S512x64_S256x512_1_1_0_0_n_n_wf, dot_S256x512_S512x256_S256x256_1_0_0_1_n_n_wf,
  reduces_S256x512_S256, broadcasts_S256x1_S256x512, slices_S2048x256_o512_0_S256x256, slices_S2048x256_o0_0_S512x256, shapeCasts_S1x1x512x64_S512x64⟩
theorem fits768 : Fits 768 := ⟨dot_S256x64_S768x64_S256x768_1_1_0_0_n_n_wf, dot_S256x768_S768x256_S256x256_1_0_0_1_n_n_wf,
  reduces_S256x768_S256, broadcasts_S256x1_S256x768, slices_S2048x256_o768_0_S256x256, slices_S2048x256_o0_0_S768x256, shapeCasts_S1x1x768x64_S768x64⟩
theorem fits1024 : Fits 1024 := ⟨dot_S256x64_S1024x64_S256x1024_1_1_0_0_n_n_wf, dot_S256x1024_S1024x256_S256x256_1_0_0_1_n_n_wf,
  reduces_S256x1024_S256, broadcasts_S256x1_S256x1024, slices_S2048x256_o1024_0_S256x256, slices_S2048x256_o0_0_S1024x256, shapeCasts_S1x1x1024x64_S1024x64⟩
theorem fits1280 : Fits 1280 := ⟨dot_S256x64_S1280x64_S256x1280_1_1_0_0_n_n_wf, dot_S256x1280_S1280x256_S256x256_1_0_0_1_n_n_wf,
  reduces_S256x1280_S256, broadcasts_S256x1_S256x1280, slices_S2048x256_o1280_0_S256x256, slices_S2048x256_o0_0_S1280x256, shapeCasts_S1x1x1280x64_S1280x64⟩
theorem fits1536 : Fits 1536 := ⟨dot_S256x64_S1536x64_S256x1536_1_1_0_0_n_n_wf, dot_S256x1536_S1536x256_S256x256_1_0_0_1_n_n_wf,
  reduces_S256x1536_S256, broadcasts_S256x1_S256x1536, slices_S2048x256_o1536_0_S256x256, slices_S2048x256_o0_0_S1536x256, shapeCasts_S1x1x1536x64_S1536x64⟩
theorem fits1792 : Fits 1792 := ⟨dot_S256x64_S1792x64_S256x1792_1_1_0_0_n_n_wf, dot_S256x1792_S1792x256_S256x256_1_0_0_1_n_n_wf,
  reduces_S256x1792_S256, broadcasts_S256x1_S256x1792, slices_S2048x256_o1792_0_S256x256, slices_S2048x256_o0_0_S1792x256, shapeCasts_S1x1x1792x64_S1792x64⟩

end Cert.KernelIdeal.Tile

end
-- ==== Proof.Softmax.lean ====
/-
  Softmax averages over a causal row, on extended reals whose entries are real numbers.

  A causal row `R` has the keys `0 … R`. With weights `e t > 0` and values `v t` its softmax average is
  `(∑ e t · v t) / (∑ e t)`, both sums over the keys up to `R`: `average e v R`. Two programs compute it:

    * in two tiles: the keys before the row's own tile of 256, all of them visible, and the tile itself, whose keys
      beyond the row get `-∞` added to their score; powers of two; one division at the end (`tiles_average`);
    * over all the keys at once, those beyond the row replaced by `-∞`; exponentials; each weight divided by the
      row's sum before it meets its value (`weight_eq`).

  Both subtract the largest score of the row. Which number it is plays no part: it is real (`exists_real_of_bounds`),
  and a weight's factor `2 ^ (-M)` (or `exp (-M)`) leaves the quotient.
-/
module

public import Idealize.ShloMosaic.PureOps.Ideal
public import Idealize.ShloMosaic.PureOps.Ideal.Laws

@[expose] public section

noncomputable section

open scoped BigOperators

namespace Cert.Softmax

open Idealize.ShloMosaic

/-- The softmax average of `v` with weights `e` over the keys `0 … R`. -/
def average (e v : ℕ → ℝ) (R : ℕ) : ℝ :=
  (∑ t ∈ Finset.range (R + 1), e t * v t) / ∑ t ∈ Finset.range (R + 1), e t

/-- What a causal row adds to the score of key `k` of its own tile: nothing up to the row, `-∞` beyond. -/
def bias (r k : ℕ) : EReal := if k ≤ r then 0 else ⊥

/-- The real numbers' sum, read among the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- An extended real that is neither infinity is a real number. -/
theorem exists_real_of_bounds {x : EReal} (h1 : x ≠ ⊥) (h2 : x ≠ ⊤) : ∃ r : ℝ, x = r :=
  ⟨x.toReal, (EReal.coe_toReal h2 h1).symm⟩

/-- The running maximum from `-∞` of numbers none of which is `+∞` is not `+∞`. -/
theorem fold_ne_top {ι : Type*} (S : Finset ι) (f : ι → EReal) (h : ∀ i ∈ S, f i ≠ ⊤) : S.fold max ⊥ f ≠ ⊤ :=
  ne_of_lt ((Finset.fold_max_lt _).2 ⟨bot_lt_top, fun i hi => lt_top_iff_ne_top.2 (h i hi)⟩)

/-- The running maximum is not `-∞` where one of the numbers is not. -/
theorem fold_ne_bot {ι : Type*} (S : Finset ι) (f : ι → EReal) (i : ι) (hi : i ∈ S) (h : f i ≠ ⊥) : S.fold max ⊥ f ≠ ⊥ :=
  ne_of_gt (lt_of_lt_of_le (bot_lt_iff_ne_bot.2 h) ((Finset.le_fold_max _).2 (.inr ⟨i, hi, le_rfl⟩)))

/-- A sum over `Fin n` of a function of the index's value is the sum over the first `n` naturals. -/
theorem sum_fin (n : ℕ) (f : ℕ → ℝ) : ∑ k : Fin n, f k.val = ∑ k ∈ Finset.range n, f k := Fin.sum_univ_eq_sum_range f n

/-- A sum over `Fin n` of terms kept up to `r < n` is the sum over the first `r + 1` naturals. -/
theorem sum_fin_le (n r : ℕ) (hr : r < n) (f : ℕ → ℝ) :
    ∑ k : Fin n, (if k.val ≤ r then f k.val else 0) = ∑ k ∈ Finset.range (r + 1), f k := by
  rw [sum_fin n fun k => if k ≤ r then f k else 0, ← Finset.sum_filter]
  refine Finset.sum_congr (Finset.ext fun k => ?_) fun _ _ => rfl
  simp only [Finset.mem_filter, Finset.mem_range]
  omega

/-- The sum over the keys up to `w + r` is that over the first `w` and that over the `r + 1` after them. -/
theorem sum_split (w r : ℕ) (f : ℕ → ℝ) :
    ∑ t ∈ Finset.range (w + r + 1), f t = ∑ k ∈ Finset.range (r + 1), f (w + k) + ∑ k ∈ Finset.range w, f k := by
  rw [Nat.add_assoc, Finset.sum_range_add, add_comm]

/-- A masked weight: `2 ^ (s - M)` where the key is visible, zero where it is not. -/
theorem exp2_masked (s M : ℝ) (r k : ℕ) :
    Ideal.exp2 ((s : EReal) + bias r k - (M : EReal)) = ((if k ≤ r then (2 : ℝ) ^ (s - M) else 0 : ℝ) : EReal) := by
  unfold bias
  by_cases h : k ≤ r
  · rw [if_pos h, if_pos h, add_zero, ← EReal.coe_sub, Ideal.exp2_coe]; rfl
  · rw [if_neg h, if_neg h, EReal.add_bot, EReal.bot_sub, Ideal.exp2_bot, EReal.coe_zero]

/-- A weight of a visible key. -/
theorem exp2_plain (s M : ℝ) : Ideal.exp2 ((s : EReal) - (M : EReal)) = (((2 : ℝ) ^ (s - M) : ℝ) : EReal) := by
  rw [← EReal.coe_sub, Ideal.exp2_coe]; rfl

/-- The weighted sum of the row's own tile. -/
theorem sum_own (w r : ℕ) (hr : r < 256) (s v : ℕ → ℝ) (M : ℝ) :
    ∑ k : Fin 256, Ideal.exp2 ((s (w + k.val) : EReal) + bias r k.val - (M : EReal)) * (v (w + k.val) : EReal)
      = ((∑ k ∈ Finset.range (r + 1), (2 : ℝ) ^ (s (w + k) - M) * v (w + k) : ℝ) : EReal) := by
  rw [← sum_fin_le 256 r hr fun k => (2 : ℝ) ^ (s (w + k) - M) * v (w + k), coe_sum]
  refine Finset.sum_congr rfl fun k _ => ?_
  rw [exp2_masked, ← EReal.coe_mul]
  by_cases h : k.val ≤ r
  · rw [if_pos h, if_pos h]
  · rw [if_neg h, if_neg h, zero_mul]

/-- The weighted sum of the keys before the row's tile. -/
theorem sum_before (w : ℕ) (s v : ℕ → ℝ) (M : ℝ) :
    ∑ k : Fin w, Ideal.exp2 ((s k.val : EReal) - (M : EReal)) * (v k.val : EReal)
      = ((∑ k ∈ Finset.range w, (2 : ℝ) ^ (s k - M) * v k : ℝ) : EReal) := by
  rw [← sum_fin w fun k => (2 : ℝ) ^ (s k - M) * v k, coe_sum]
  exact Finset.sum_congr rfl fun k _ => by rw [exp2_plain, ← EReal.coe_mul]

/-- The factor `2 ^ (-M)` common to a row's weights. -/
theorem sum_shift (n : ℕ) (s v : ℕ → ℝ) (M : ℝ) :
    ∑ t ∈ Finset.range n, (2 : ℝ) ^ (s t - M) * v t = (2 : ℝ) ^ (-M) * ∑ t ∈ Finset.range n, (2 : ℝ) ^ s t * v t := by
  rw [Finset.mul_sum]
  refine Finset.sum_congr rfl fun t _ => ?_
  rw [sub_eq_add_neg, Real.rpow_add two_pos]; ring

/-- A row's weights have a positive sum. -/
theorem sum_pos (R : ℕ) (e : ℕ → ℝ) (he : ∀ t, 0 < e t) : 0 < ∑ t ∈ Finset.range (R + 1), e t :=
  Finset.sum_pos (fun t _ => he t) ⟨0, Finset.mem_range.2 (Nat.succ_pos R)⟩

/-- A quotient by one division at the end: `n · (1 / d)` for real `n` and positive `d`. -/
theorem mul_div_one (n d : ℝ) (hd : 0 < d) : (n : EReal) * Ideal.div 1 (d : EReal) = ((n / d : ℝ) : EReal) := by
  unfold Ideal.div
  rw [if_neg (by exact_mod_cast hd.ne'), one_mul, ← EReal.coe_inv, ← EReal.coe_mul, div_eq_mul_inv]

/-- A quotient of reals by a positive real. -/
theorem div_pos (n d : ℝ) (hd : 0 < d) : Ideal.div (n : EReal) (d : EReal) = ((n / d : ℝ) : EReal) := by
  unfold Ideal.div
  rw [if_neg (by exact_mod_cast hd.ne'), ← EReal.coe_inv, ← EReal.coe_mul, div_eq_mul_inv]

/-- The quotient of a row's weighted sum by its weights' sum does not see the subtracted number. -/
theorem shifted_average (R : ℕ) (s v : ℕ → ℝ) (M : ℝ) :
    (∑ t ∈ Finset.range (R + 1), (2 : ℝ) ^ (s t - M) * v t) / (∑ t ∈ Finset.range (R + 1), (2 : ℝ) ^ (s t - M) * 1)
      = average (fun t => (2 : ℝ) ^ s t) v R := by
  rw [sum_shift, sum_shift _ s fun _ => 1]
  simp only [mul_one]
  unfold average
  exact mul_div_mul_left _ _ (Real.rpow_pos_of_pos two_pos _).ne'

/-- THE TWO-TILE AVERAGE. Row `w + r`'s scores `s` are real; its own tile of keys `w … w + 255` carries the causal bias,
    the `w` keys before it none. With the subtracted number real, numerator times the reciprocal of the denominator
    is the softmax average over the keys `0 … w + r`. -/
theorem tiles_average (w r : ℕ) (hr : r < 256) (s v : ℕ → ℝ) (M : ℝ) :
    (∑ k : Fin 256, Ideal.exp2 ((s (w + k.val) : EReal) + bias r k.val - (M : EReal)) * (v (w + k.val) : EReal)
        + ∑ k : Fin w, Ideal.exp2 ((s k.val : EReal) - (M : EReal)) * (v k.val : EReal))
      * Ideal.div 1 (∑ k : Fin 256, Ideal.exp2 ((s (w + k.val) : EReal) + bias r k.val - (M : EReal)) * ((1 : ℝ) : EReal)
        + ∑ k : Fin w, Ideal.exp2 ((s k.val : EReal) - (M : EReal)) * ((1 : ℝ) : EReal))
      = (average (fun t => (2 : ℝ) ^ s t) v (w + r) : EReal) := by
  rw [sum_own w r hr s v M, sum_before, sum_own w r hr s (fun _ => 1) M, sum_before w s fun _ => 1, ← EReal.coe_add, ← EReal.coe_add,
    ← sum_split w r fun t => (2 : ℝ) ^ (s t - M) * v t, ← sum_split w r fun t => (2 : ℝ) ^ (s t - M) * 1, mul_div_one,
    shifted_average]
  exact sum_pos _ _ fun t => by rw [mul_one]; exact Real.rpow_pos_of_pos two_pos _

/-- The largest score of a row that starts its own tile run is real: the row itself is visible, and no score is `+∞`. -/
theorem own_max_real (w r : ℕ) (hr : r < 256) (s : ℕ → ℝ) :
    ∃ M : ℝ, (Finset.univ : Finset (Fin 256)).fold max ⊥ (fun k => (s (w + k.val) : EReal) + bias r k.val) = M := by
  refine exists_real_of_bounds (fold_ne_bot _ _ ⟨r, hr⟩ (Finset.mem_univ _) ?_) (fold_ne_top _ _ fun k _ => ?_)
  · unfold bias; rw [if_pos le_rfl, add_zero]; exact EReal.coe_ne_bot _
  · unfold bias
    by_cases h : k.val ≤ r
    · rw [if_pos h, add_zero]; exact EReal.coe_ne_top _
    · rw [if_neg h, EReal.add_bot]; exact bot_ne_top

/-- The larger of it and the largest score before the tile is real too. -/
theorem tiles_max_real (w r : ℕ) (hr : r < 256) (s : ℕ → ℝ) :
    ∃ M : ℝ, max ((Finset.univ : Finset (Fin 256)).fold max ⊥ (fun k => (s (w + k.val) : EReal) + bias r k.val))
      ((Finset.univ : Finset (Fin w)).fold max ⊥ (fun k => (s k.val : EReal))) = M := by
  obtain ⟨M, hM⟩ := own_max_real w r hr s
  rw [hM]
  refine exists_real_of_bounds (ne_of_gt (lt_of_lt_of_le (EReal.bot_lt_coe M) (le_max_left _ _))) (ne_of_lt (max_lt (EReal.coe_lt_top M) ?_))
  exact lt_top_iff_ne_top.2 (fold_ne_top _ _ fun k _ => EReal.coe_ne_top _)

/-! ### All the keys at once -/

/-- A score with the keys beyond the row replaced by `-∞`. -/
def masked (R : ℕ) (s : ℕ → ℝ) (t : ℕ) : EReal := if t ≤ R then (s t : EReal) else ⊥

/-- Its largest is real. -/
theorem masked_max_real (n R : ℕ) (hR : R < n) (s : ℕ → ℝ) :
    ∃ M : ℝ, (Finset.univ : Finset (Fin n)).fold max ⊥ (fun k => masked R s k.val) = M := by
  refine exists_real_of_bounds (fold_ne_bot _ _ ⟨R, hR⟩ (Finset.mem_univ _) ?_) (fold_ne_top _ _ fun k _ => ?_)
  · unfold masked; rw [if_pos le_rfl]; exact EReal.coe_ne_bot _
  · unfold masked; split_ifs
    · exact EReal.coe_ne_top _
    · exact bot_ne_top

/-- A weight of the row, by exponentials. -/
theorem exp_masked (R : ℕ) (s : ℕ → ℝ) (t : ℕ) (M : ℝ) :
    Ideal.exp (masked R s t - (M : EReal)) = ((if t ≤ R then Real.exp (s t - M) else 0 : ℝ) : EReal) := by
  unfold masked
  by_cases h : t ≤ R
  · rw [if_pos h, if_pos h, ← EReal.coe_sub, Ideal.exp_coe]
  · rw [if_neg h, if_neg h, EReal.bot_sub, Ideal.exp_bot, EReal.coe_zero]

/-- The weights' sum over all the keys. -/
theorem sum_masked (n R : ℕ) (hR : R < n) (s : ℕ → ℝ) (M : ℝ) :
    ∑ k : Fin n, Ideal.exp (masked R s k.val - (M : EReal)) = ((∑ t ∈ Finset.range (R + 1), Real.exp (s t - M) : ℝ) : EReal) := by
  rw [← sum_fin_le n R hR fun t => Real.exp (s t - M), coe_sum]
  exact Finset.sum_congr rfl fun k _ => exp_masked R s k.val M

/-- The softmax weight of key `t` for row `R`. -/
def weight (e : ℕ → ℝ) (R t : ℕ) : ℝ := if t ≤ R then e t / ∑ u ∈ Finset.range (R + 1), e u else 0

/-- Each weight divided by the weights' sum is the softmax weight, whatever real number is subtracted. -/
theorem weight_eq (n R : ℕ) (hR : R < n) (s : ℕ → ℝ) (t : ℕ) (M : ℝ) :
    Ideal.div (Ideal.exp (masked R s t - (M : EReal))) (∑ k : Fin n, Ideal.exp (masked R s k.val - (M : EReal)))
      = (weight (fun t => Real.exp (s t)) R t : EReal) := by
  rw [sum_masked n R hR, exp_masked, div_pos _ _ (sum_pos _ _ fun t => Real.exp_pos _)]
  congr 1
  unfold weight
  by_cases h : t ≤ R
  · rw [if_pos h, if_pos h]
    have e1 : ∀ t, Real.exp (s t - M) = Real.exp (-M) * Real.exp (s t) := fun t => by rw [← Real.exp_add]; congr 1; ring
    simp only [e1, ← Finset.mul_sum]
    exact mul_div_mul_left _ _ (Real.exp_pos _).ne'
  · rw [if_neg h, if_neg h, zero_div]

/-- The values weighted by the softmax weights, over all the keys, are the average. -/
theorem sum_weight (n R : ℕ) (hR : R < n) (e v : ℕ → ℝ) : ∑ k : Fin n, weight e R k.val * v k.val = average e v R := by
  unfold average weight
  rw [Finset.sum_div, ← sum_fin_le n R hR fun t => e t * v t / ∑ u ∈ Finset.range (R + 1), e u]
  refine Finset.sum_congr rfl fun k _ => ?_
  by_cases h : k.val ≤ R
  · rw [if_pos h, if_pos h]; ring
  · rw [if_neg h, if_neg h, zero_mul]

end Cert.Softmax

end
-- ==== Proof.TileRead.lean ====
/-
  The tile of the differential attention (Tile.lean) read at an index, over the extended reals: the attention of a row
  is the softmax average of the values over the row's causal keys (Softmax.lean), whichever tile the row lies in.
-/
module

public import proofs.«01_k».proof.Proof.Tile
public import proofs.«01_k».proof.Proof.Softmax
public import Idealize.ShloMosaic.PureOps.Ideal.Laws
public import Idealize.ShloMosaic.Lib.Pipeline.Value
public import Idealize.ShloMosaic.Lib.ValueIdx

@[expose] public section

noncomputable section

open scoped BigOperators

namespace Cert.KernelIdeal.Tile

open Cert.KernelIdeal Cert.KernelIdeal.Gen Idealize.ShloMosaic Idealize.ShloMosaic.ValueIdx Cert.Softmax

/-! ## The constants -/

theorem one_f32 : Ideal.ofBits .f32 0x3F800000#32 = ((1 : ℝ) : EReal) := by
  simp [Ideal.ofBits, Ideal.ieee, -EReal.coe_mul]; norm_num
theorem one_bf16 : Ideal.ofBits .bf16 0x3F80#16 = ((1 : ℝ) : EReal) := by
  simp [Ideal.ofBits, Ideal.ieee, -EReal.coe_mul]; norm_num
theorem bot_f32 : Ideal.ofBits .f32 0xFF800000#32 = ⊥ := by
  simp [Ideal.ofBits, Ideal.ieee, -EReal.coe_mul]

/-! ## The tile's parts at an index -/

/-- A score is the sum over the head's 64 channels of query times key. -/
theorem scores_apply (w : ℕ) (h : DotDims.WF S256x64 ⟨2, ![w, 64]⟩ ⟨2, ![256, w]⟩ [1] [1] [0] [0] [] [])
    (hk : (⟨4, ![1, 1, w, 64]⟩ : Shape).ShapeCasts ⟨2, ![w, 64]⟩)
    (q : Vec Ideal S1x1x256x64 .bf16) (k : Vec Ideal ⟨4, ![1, 1, w, 64]⟩ .bf16) (r : Fin 256) (t : Fin w) :
    scores (F := Ideal) w h hk q k (ix2 r t) = ∑ d : Fin 64, q (ix4 0 0 r d) * k (ix4 0 0 t d) := by
  have hq : ∀ d : Fin 64, shapeCast S256x64 q shapeCasts_S1x1x256x64_S256x64 (ix2 r d) = q (ix4 0 0 r d) := fun d =>
    shapeCast_apply q _ _ _ (by
      rw [Shape.rowMajor_val_four, Shape.rowMajor_val_two]
      show ((0 * 1 + 0) * 256 + r.val) * 64 + d.val = r.val * 64 + d.val
      omega)
  have hk' : ∀ d : Fin 64, shapeCast ⟨2, ![w, 64]⟩ k hk (ix2 t d) = k (ix4 0 0 t d) := fun d =>
    shapeCast_apply k _ _ _ (by
      rw [Shape.rowMajor_val_four, Shape.rowMajor_val_two]
      show ((0 * 1 + 0) * w + t.val) * 64 + d.val = t.val * 64 + d.val
      simp only [Nat.zero_mul, Nat.zero_add])
  unfold scores
  simp only [matmul]
  rw [Ideal.matmul_apply, ← Equiv.sum_comp (contrEquiv1 (scoresDims w h) 64 rfl rfl).symm, constant_apply, Ideal.ofBits_zero_f32, zero_add]
  refine Finset.sum_congr rfl fun d _ => ?_
  have hd := contrEquiv1_symm_val (scoresDims w h) 64 rfl rfl d
  have el : (scoresDims w h).lhsIdx (ix2 r t) ((contrEquiv1 (scoresDims w h) 64 rfl rfl).symm d) = ix2 r d := funext fun a => Fin.ext (by
    match a with
    | ⟨0, _⟩ =>
      unfold DotDims.lhsIdx
      rw [dif_neg (show ¬ (⟨0, by decide⟩ : Fin 2) ∈ (scoresDims w h).lhsBatch from List.not_mem_nil), dif_pos (show (⟨0, by decide⟩ : Fin 2) ∈ (scoresDims w h).lhsNonContracting from List.mem_singleton.2 rfl)]
      rfl
    | ⟨1, _⟩ => exact ((scoresDims w h).lhsIdx_val_of_single rfl _ _).trans hd)
  have er : (scoresDims w h).rhsIdx (ix2 r t) ((contrEquiv1 (scoresDims w h) 64 rfl rfl).symm d) = ix2 t d := funext fun a => Fin.ext (by
    match a with
    | ⟨0, _⟩ =>
      unfold DotDims.rhsIdx
      rw [dif_neg (show ¬ (⟨0, by decide⟩ : Fin 2) ∈ (scoresDims w h).rhsBatch from List.not_mem_nil), dif_pos (show (⟨0, by decide⟩ : Fin 2) ∈ (scoresDims w h).rhsNonContracting from List.mem_singleton.2 rfl)]
      rfl
    | ⟨1, _⟩ => exact ((scoresDims w h).rhsIdx_val_of_single rfl _ _).trans hd)
  rw [el, er, hq, hk']

/-- A row's largest entry is the running maximum from `-∞` over its columns. -/
theorem rowMax_apply (w : ℕ) (h : (⟨2, ![256, w]⟩ : Shape).Reduces [1] S256) (s : FVec Ideal ⟨2, ![256, w]⟩ .f32) (r : Fin 256) :
    rowMax w h s (ix2 r 0) = (Finset.univ : Finset (Fin w)).fold max ⊥ fun k => s (ix2 r k) := by
  unfold rowMax
  rw [shapeCast_apply _ shapeCasts_S256_S256x1 (ix2 r 0) (ix1 r) (by
    rw [Shape.rowMajor_val_one, Shape.rowMajor_val_two]; show r.val = r.val * 1 + 0; omega)]
  refine (Ideal.multiReduction_maximumf_single s _ h (.inl rfl) rfl (ix1 r)).trans ?_
  rw [show FloatOps.ofBits (F := Ideal) .f32 (FKind.maximumf.neutral .f32 (.inl rfl)) = (⊥ : EReal) from bot_f32]
  refine congrArg (Finset.fold max ⊥ · Finset.univ) (funext fun k => congrArg s (funext fun a => Fin.ext ?_))
  rw [h.lift_val]
  match a with
  | ⟨0, _⟩ => rfl
  | ⟨1, _⟩ => rfl

/-- The weighted sum over the keys. -/
theorem weighted_apply (w : ℕ) (hb : S256x1.Broadcasts ⟨2, ![256, w]⟩)
    (hv : DotDims.WF ⟨2, ![256, w]⟩ ⟨2, ![w, 256]⟩ S256x256 [1] [0] [0] [1] [] [])
    (s : FVec Ideal ⟨2, ![256, w]⟩ .f32) (m : FVec Ideal S256x1 .f32) (v : FVec Ideal ⟨2, ![w, 256]⟩ .bf16) (r c : Fin 256) :
    weighted w hb hv s m v (ix2 r c) = ∑ k : Fin w, Ideal.exp2 (s (ix2 r k) - m (ix2 r 0)) * v (ix2 k c) := by
  have hm : ∀ k : Fin w, broadcastTo ⟨2, ![256, w]⟩ m hb (ix2 r k) = m (ix2 r 0) := fun k =>
    broadcastTo_apply m hb _ _ fun a => by
      match a with
      | ⟨0, _⟩ => rfl
      | ⟨1, _⟩ => rfl
  unfold weighted
  simp only [matmul]
  rw [Ideal.matmul_apply, ← Equiv.sum_comp (contrEquiv1 (valuesDims w hv) w rfl rfl).symm, constant_apply, Ideal.ofBits_zero_f32, zero_add]
  refine Finset.sum_congr rfl fun k _ => ?_
  have hd := contrEquiv1_symm_val (valuesDims w hv) w rfl rfl k
  have el : (valuesDims w hv).lhsIdx (ix2 r c) ((contrEquiv1 (valuesDims w hv) w rfl rfl).symm k) = ix2 r k := funext fun a => Fin.ext (by
    match a with
    | ⟨0, _⟩ =>
      unfold DotDims.lhsIdx
      rw [dif_neg (show ¬ (⟨0, by decide⟩ : Fin 2) ∈ (valuesDims w hv).lhsBatch from List.not_mem_nil), dif_pos (show (⟨0, by decide⟩ : Fin 2) ∈ (valuesDims w hv).lhsNonContracting from List.mem_singleton.2 rfl)]
      rfl
    | ⟨1, _⟩ => exact ((valuesDims w hv).lhsIdx_val_of_single rfl _ _).trans hd)
  have er : (valuesDims w hv).rhsIdx (ix2 r c) ((contrEquiv1 (valuesDims w hv) w rfl rfl).symm k) = ix2 k c := funext fun a => Fin.ext (by
    match a with
    | ⟨0, _⟩ => exact ((valuesDims w hv).rhsIdx_val_of_single rfl _ _).trans hd
    | ⟨1, _⟩ =>
      unfold DotDims.rhsIdx
      rw [dif_neg (show ¬ (⟨1, by decide⟩ : Fin 2) ∈ (valuesDims w hv).rhsBatch from List.not_mem_nil), dif_pos (show (⟨1, by decide⟩ : Fin 2) ∈ (valuesDims w hv).rhsNonContracting from List.mem_singleton.2 rfl)]
      rfl)
  rw [el, er, ← hm k]
  rfl

/-- The numerator's column times the reciprocal of the denominator's. -/
theorem quotient_apply (x : FVec Ideal S256x256 .f32) (r : Fin 256) (c : Fin 128) :
    quotient x (ix2 r c) = x (ix2 r ⟨c.val, by omega⟩) * Ideal.div 1 (x (ix2 r ⟨128 + c.val, by omega⟩)) := by
  unfold quotient
  rw [mulf_apply, divf_apply, broadcast_apply,
    extractStridedSlice_apply _ x slices_S256x256_o0_0_S256x128 (ix2 r c) (ix2 r ⟨c.val, by omega⟩) (fun a => by
      match a with
      | ⟨0, _⟩ => show r.val = 0 + r.val; omega
      | ⟨1, _⟩ => show c.val = 0 + c.val; omega),
    extractStridedSlice_apply _ x slices_S256x256_o0_128_S256x128 (ix2 r c) (ix2 r ⟨128 + c.val, by omega⟩) (fun a => by
      match a with
      | ⟨0, _⟩ => show r.val = 0 + r.val; omega
      | ⟨1, _⟩ => rfl)]
  show _ * Ideal.div (Ideal.ofBits .f32 0x3F800000#32) _ = _
  rw [one_f32, EReal.coe_one]

/-- The tile's own scores. -/
theorem ownScores_apply (b : FVec Ideal S256x256 .f32) (q k : Vec Ideal S1x1x256x64 .bf16) (r t : Fin 256) :
    ownScores b q k (ix2 r t) = ∑ d : Fin 64, q (ix4 0 0 r d) * k (ix4 0 0 t d) + b (ix2 r t) := by
  unfold ownScores
  rw [addf_apply, scores_apply]

/-- The rows of the tile in the values and their ones. -/
theorem ownValues_apply (w : ℕ) (h : S2048x256.Slices ![w, 0] S256x256) (v : FVec Ideal S2048x256 .bf16) (k c : Fin 256) (hw : w + 256 ≤ 2048) :
    extractStridedSlice S256x256 ![w, 0] v h (ix2 k c) = v (ix2 ⟨w + k.val, by omega⟩ c) :=
  extractStridedSlice_apply _ v h _ _ fun a => by
    match a with
    | ⟨0, _⟩ => rfl
    | ⟨1, _⟩ => show c.val = 0 + c.val; omega

/-- The rows before the tile. -/
theorem beforeValues_apply (w : ℕ) (h : S2048x256.Slices ![0, 0] ⟨2, ![w, 256]⟩) (v : FVec Ideal S2048x256 .bf16) (k : Fin w) (c : Fin 256)
    (hw : w ≤ 2048) : extractStridedSlice ⟨2, ![w, 256]⟩ ![0, 0] v h (ix2 k c) = v (ix2 ⟨k.val, by omega⟩ c) :=
  extractStridedSlice_apply _ v h _ _ fun a => by
    match a with
    | ⟨0, _⟩ => show k.val = 0 + k.val; omega
    | ⟨1, _⟩ => show c.val = 0 + c.val; omega

/-! ## The attention of a row -/

/-- A row's scores against the keys: the sum over the head's channels. -/
def score (Q K : ℕ → Fin 64 → ℝ) (R t : ℕ) : ℝ := ∑ d : Fin 64, Q R d * K t d

theorem score_coe (Q K : ℕ → Fin 64 → ℝ) (R t : ℕ) :
    ∑ d : Fin 64, (Q R d : EReal) * (K t d : EReal) = (score Q K R t : EReal) := by
  unfold score; rw [coe_sum]; exact Finset.sum_congr rfl fun d _ => (EReal.coe_mul _ _).symm

/-- A LATER TILE. Real queries, keys and values, ones beside the values and the causal bias in: row `w + r` comes out as the
    softmax average of the values over the keys `0 … w + r`. -/
theorem attend_apply (w : ℕ) (f : Fits w) (hw : w + 256 ≤ 2048) (b : FVec Ideal S256x256 .f32) (v : FVec Ideal S2048x256 .bf16)
    (q k : Vec Ideal S1x1x256x64 .bf16) (k' : Vec Ideal ⟨4, ![1, 1, w, 64]⟩ .bf16) (Q K : ℕ → Fin 64 → ℝ) (V : ℕ → Fin 128 → ℝ)
    (hb : ∀ r t : Fin 256, b (ix2 r t) = bias r.val t.val)
    (hq : ∀ (r : Fin 256) (d : Fin 64), q (ix4 0 0 r d) = (Q (w + r.val) d : EReal))
    (hk : ∀ (r : Fin 256) (d : Fin 64), k (ix4 0 0 r d) = (K (w + r.val) d : EReal))
    (hk' : ∀ (t : Fin w) (d : Fin 64), k' (ix4 0 0 t d) = (K t.val d : EReal))
    (hv : ∀ (t : Fin 2048) (c : Fin 128), v (ix2 t ⟨c.val, by omega⟩) = (V t.val c : EReal))
    (ho : ∀ (t : Fin 2048) (c : Fin 128), v (ix2 t ⟨128 + c.val, by omega⟩) = ((1 : ℝ) : EReal)) (r : Fin 256) (c : Fin 128) :
    attend w f b v q k k' (ix2 r c)
      = (average (fun t => (2 : ℝ) ^ score Q K (w + r.val) t) (fun t => V t c) (w + r.val) : EReal) := by
  have hown : ∀ t : Fin 256, ownScores b q k (ix2 r t) = (score Q K (w + r.val) (w + t.val) : EReal) + bias r.val t.val := fun t => by
    rw [ownScores_apply, hb, ← score_coe]; simp only [hq, hk]
  have hbef : ∀ t : Fin w, scores w f.scores f.keys q k' (ix2 r t) = (score Q K (w + r.val) t.val : EReal) := fun t => by
    rw [scores_apply, ← score_coe]; simp only [hq, hk']
  obtain ⟨M, hM⟩ := tiles_max_real w r.val r.isLt (score Q K (w + r.val))
  have hmax : bothMax w f b q k k' (ix2 r 0) = (M : EReal) := by
    unfold bothMax
    rw [maximumf_apply, rowMax_apply, rowMax_apply, ← hM]
    simp only [hown, hbef]
  unfold attend
  rw [quotient_apply]
  simp only [addf_apply, weighted_apply, hmax, hown, hbef, ownValues_apply w f.own v _ _ hw,
    beforeValues_apply w f.before v _ _ (by omega), hv, ho]
  exact tiles_average w r.val r.isLt _ (fun t => V t c) M

/-- THE FIRST TILE: the same with no keys before it. -/
theorem attendFirst_apply (b : FVec Ideal S256x256 .f32) (v : FVec Ideal S2048x256 .bf16)
    (q k : Vec Ideal S1x1x256x64 .bf16) (Q K : ℕ → Fin 64 → ℝ) (V : ℕ → Fin 128 → ℝ)
    (hb : ∀ r t : Fin 256, b (ix2 r t) = bias r.val t.val)
    (hq : ∀ (r : Fin 256) (d : Fin 64), q (ix4 0 0 r d) = (Q (0 + r.val) d : EReal))
    (hk : ∀ (r : Fin 256) (d : Fin 64), k (ix4 0 0 r d) = (K (0 + r.val) d : EReal))
    (hv : ∀ (t : Fin 2048) (c : Fin 128), v (ix2 t ⟨c.val, by omega⟩) = (V t.val c : EReal))
    (ho : ∀ (t : Fin 2048) (c : Fin 128), v (ix2 t ⟨128 + c.val, by omega⟩) = ((1 : ℝ) : EReal)) (r : Fin 256) (c : Fin 128) :
    attendFirst b v q k (ix2 r c)
      = (average (fun t => (2 : ℝ) ^ score Q K (0 + r.val) t) (fun t => V t c) (0 + r.val) : EReal) := by
  have hown : ∀ t : Fin 256, ownScores b q k (ix2 r t) = (score Q K (0 + r.val) (0 + t.val) : EReal) + bias r.val t.val := fun t => by
    rw [ownScores_apply, hb, ← score_coe]; simp only [hq, hk]
  obtain ⟨M, hM⟩ := own_max_real 0 r.val r.isLt (score Q K (0 + r.val))
  have hmax : rowMax 256 reduces_S256x256_S256 (ownScores b q k) (ix2 r 0) = (M : EReal) := by
    rw [rowMax_apply, ← hM]
    simp only [hown]
  have h := tiles_average 0 r.val r.isLt (score Q K (0 + r.val)) (fun t => V t c) M
  simp only [Finset.univ_eq_empty, Finset.sum_empty, add_zero] at h
  unfold attendFirst
  rw [quotient_apply]
  simp only [weighted_apply, hmax, hown, ownValues_apply 0 slices_S2048x256_o0_0_S256x256 v _ _ (by omega), hv, ho]
  exact h

/-! ## The normalisation -/

/-- A row's mean square over its 128 columns plus `ε`, to the power `-1/2`: extended reals in, the constants by name. -/
def scaleOf (n ε : EReal) (o : Fin 128 → EReal) : EReal := Ideal.rsqrt (Ideal.div (∑ c, o c * o c) n + ε)

theorem rowScale_apply (o : FVec Ideal S256x128 .f32) (r : Fin 256) :
    rowScale o (ix2 r 0) = scaleOf (Ideal.ofBits .f32 0x43000000#32) (Ideal.ofBits .f32 0x3727C5AC#32) fun c => o (ix2 r c) := by
  have e : shapeCast S256x1 (multiReduction .add [1] S256 (mulf o o) 0x00000000#32 reduces_S256x128_S256 (.inl rfl) rfl) shapeCasts_S256_S256x1 (ix2 r 0)
      = ∑ c : Fin 128, o (ix2 r c) * o (ix2 r c) := by
    rw [shapeCast_apply _ shapeCasts_S256_S256x1 (ix2 r 0) (ix1 r) (by
      rw [Shape.rowMajor_val_one, Shape.rowMajor_val_two]; show r.val = r.val * 1 + 0; omega)]
    refine (Ideal.multiReduction_add_single (mulf o o) _ reduces_S256x128_S256 (.inl rfl) rfl (ix1 r)).trans ?_
    refine Finset.sum_congr rfl fun c _ => ?_
    have hi : reduces_S256x128_S256.lift (ix1 r) c = ix2 r c := funext fun a => Fin.ext (by
      rw [reduces_S256x128_S256.lift_val]
      match a with
      | ⟨0, _⟩ => rfl
      | ⟨1, _⟩ => rfl)
    rw [hi]; rfl
  unfold scaleOf
  rw [← e]
  rfl

/-- What a head's tile stores at row `r`, column `c`. -/
theorem normed_apply (g : FVec Ideal S1x128 .f32) (o : FVec Ideal S256x128 .f32) (u : Fin 1) (r : Fin 256) (c : Fin 128) :
    normed g o (ix3 u r c) = o (ix2 r c)
      * scaleOf (Ideal.ofBits .f32 0x43000000#32) (Ideal.ofBits .f32 0x3727C5AC#32) (fun c => o (ix2 r c))
      * g (ix2 0 c) * Ideal.ofBits .f32 0x3F4CCCCD#32 := by
  unfold normed
  rw [shapeCast_apply _ shapeCasts_S256x128_S1x256x128 (ix3 u r c) (ix2 r c) (by
    rw [Shape.rowMajor_val_three, Shape.rowMajor_val_two]
    have : u.val = 0 := by omega
    show r.val * 128 + c.val = (u.val * 256 + r.val) * 128 + c.val
    rw [this]; omega)]
  rw [truncf_apply, mulf_apply, mulf_apply, mulf_apply, broadcast_apply,
    broadcastTo_apply (rowScale o) broadcasts_S256x1_S256x128 (ix2 r c) (ix2 r 0) (fun a => by
      match a with
      | ⟨0, _⟩ => rfl
      | ⟨1, _⟩ => rfl),
    broadcastTo_apply g broadcasts_S1x128_S256x128 (ix2 r c) (ix2 0 c) (fun a => by
      match a with
      | ⟨0, _⟩ => rfl
      | ⟨1, _⟩ => rfl), rowScale_apply]
  rfl

/-- The difference at an index. -/
theorem difference_apply (lam : FVec Ideal S1x1 .f32) (a1 a2 : FVec Ideal S256x128 .f32) (r : Fin 256) (c : Fin 128) :
    difference lam a1 a2 (ix2 r c) = a1 (ix2 r c) - lam (ix2 0 0) * a2 (ix2 r c) := by
  unfold difference
  rw [subf_apply, mulf_apply, broadcastTo_apply lam broadcasts_S1x1_S256x128 (ix2 r c) (ix2 0 0) (fun a => by
      match a with
      | ⟨0, _⟩ => rfl
      | ⟨1, _⟩ => rfl)]

end Cert.KernelIdeal.Tile

end
-- ==== Proof.Pieces.lean ====
/-
  Each of the body's 32 stores is a tile of the differential attention (Tile.lean): the printed text of head `h`, tile
  `j`, is the parametrised tile at width `256·j`, by unfolding.
-/
module

public import proofs.«01_k».proof.Proof.Tile
public import proofs.«01_k».proof.Proof.Gen.KernelIdeal.Frame

@[expose] public section

noncomputable section

namespace Cert.KernelIdeal.Tile

open Cert.KernelIdeal Cert.KernelIdeal.Gen Idealize.ShloMosaic

variable {F : FTy → Type} [FloatOps F] [Named F]
variable (x0 : Vec F S4x64 .f32) (x1 : Vec F S1x128 .f32) (x2 x3 : Vec F S1x8x2048x64 .bf16) (x4 : Vec F S1x2048x512 .bf16)

/-- Head 0, tile 0. -/
theorem piece_0_0 : k0_pay11 (k0_pay245 x0 x1 x2 x3 x4) (k0_pay247 x0 x1 x2 x3 x4) (k0_pay248 x0 x1 x2 x3 x4) (k0_pay9 (k0_pay246 x0 x1 x2 x3 x4) (k0_pay248 x0 x1 x2 x3 x4) (View.ld x2 r0_6) (View.ld x3 r0_6)) (k0_pay10 (k0_pay246 x0 x1 x2 x3 x4) (View.ld x2 r0_7) (View.ld x3 r0_7))
    = normed (k0_pay247 x0 x1 x2 x3 x4) (difference (k0_pay245 x0 x1 x2 x3 x4)
      (attendFirst (k0_pay246 x0 x1 x2 x3 x4) (k0_pay248 x0 x1 x2 x3 x4) (View.ld x2 r0_6) (View.ld x3 r0_6))
      (attendFirst (k0_pay246 x0 x1 x2 x3 x4) (k0_pay248 x0 x1 x2 x3 x4) (View.ld x2 r0_7) (View.ld x3 r0_7))) := rfl

/-- Head 1, tile 0. -/
theorem piece_0_1 : k0_pay14 (k0_pay13 (k0_pay245 x0 x1 x2 x3 x4) (k0_pay246 x0 x1 x2 x3 x4) (k0_pay247 x0 x1 x2 x3 x4) (k0_pay249 x0 x1 x2 x3 x4) (k0_pay12 (k0_pay246 x0 x1 x2 x3 x4) (View.ld x2 r0_9) (View.ld x3 r0_9)) (View.ld x2 r0_10) (View.ld x3 r0_10)) (Scalar.ofBits .f32 0x3F4CCCCD#32)
    = normed (k0_pay247 x0 x1 x2 x3 x4) (difference (k0_pay245 x0 x1 x2 x3 x4)
      (attendFirst (k0_pay246 x0 x1 x2 x3 x4) (k0_pay249 x0 x1 x2 x3 x4) (View.ld x2 r0_9) (View.ld x3 r0_9))
      (attendFirst (k0_pay246 x0 x1 x2 x3 x4) (k0_pay249 x0 x1 x2 x3 x4) (View.ld x2 r0_10) (View.ld x3 r0_10))) := rfl

/-- Head 2, tile 0. -/
theorem piece_0_2 : k0_pay18 (k0_pay245 x0 x1 x2 x3 x4) (k0_pay247 x0 x1 x2 x3 x4) (k0_pay250 x0 x1 x2 x3 x4) (k0_pay15 (k0_pay246 x0 x1 x2 x3 x4) (k0_pay250 x0 x1 x2 x3 x4) (View.ld x2 r0_12) (View.ld x3 r0_12)) (k0_pay16 (k0_pay246 x0 x1 x2 x3 x4) (View.ld x2 r0_13) (View.ld x3 r0_13)) (k0_pay17 (k0_pay246 x0 x1 x2 x3 x4) (View.ld x2 r0_13) (View.ld x3 r0_13))
    = normed (k0_pay247 x0 x1 x2 x3 x4) (difference (k0_pay245 x0 x1 x2 x3 x4)
      (attendFirst (k0_pay246 x0 x1 x2 x3 x4) (k0_pay250 x0 x1 x2 x3 x4) (View.ld x2 r0_12) (View.ld x3 r0_12))
      (attendFirst (k0_pay246 x0 x1 x2 x3 x4) (k0_pay250 x0 x1 x2 x3 x4) (View.ld x2 r0_13) (View.ld x3 r0_13))) := rfl

/-- Head 3, tile 0. -/
theorem piece_0_3 : k0_pay23 (k0_pay21 (k0_pay245 x0 x1 x2 x3 x4) (k0_pay246 x0 x1 x2 x3 x4) (k0_pay251 x0 x1 x2 x3 x4) (k0_pay19 (k0_pay246 x0 x1 x2 x3 x4) (View.ld x2 r0_15) (View.ld x3 r0_15)) (k0_pay20 (k0_pay246 x0 x1 x2 x3 x4) (View.ld x2 r0_15) (View.ld x3 r0_15)) (View.ld x2 r0_16) (View.ld x3 r0_16)) (k0_pay22 (k0_pay247 x0 x1 x2 x3 x4))
    = normed (k0_pay247 x0 x1 x2 x3 x4) (difference (k0_pay245 x0 x1 x2 x3 x4)
      (attendFirst (k0_pay246 x0 x1 x2 x3 x4) (k0_pay251 x0 x1 x2 x3 x4) (View.ld x2 r0_15) (View.ld x3 r0_15))
      (attendFirst (k0_pay246 x0 x1 x2 x3 x4) (k0_pay251 x0 x1 x2 x3 x4) (View.ld x2 r0_16) (View.ld x3 r0_16))) := rfl

/-- Head 0, tile 1. -/
theorem piece_1_0 : k0_pay29 (k0_pay247 x0 x1 x2 x3 x4) (k0_pay27 (k0_pay245 x0 x1 x2 x3 x4) (k0_pay246 x0 x1 x2 x3 x4) (k0_pay248 x0 x1 x2 x3 x4) (k0_pay252 x0 x1 x2 x3 x4) (k0_pay253 x0 x1 x2 x3 x4) (Scalar.ofBits .f32 0x3F800000#32) (View.ld x2 r0_19) (View.ld x3 r0_19) (View.ld x3 r0_7)) (k0_pay28 (k0_pay245 x0 x1 x2 x3 x4) (k0_pay246 x0 x1 x2 x3 x4) (k0_pay248 x0 x1 x2 x3 x4) (k0_pay252 x0 x1 x2 x3 x4) (k0_pay253 x0 x1 x2 x3 x4) (Scalar.ofBits .f32 0x3F800000#32) (View.ld x2 r0_19) (View.ld x3 r0_19) (View.ld x3 r0_7))
    = normed (k0_pay247 x0 x1 x2 x3 x4) (difference (k0_pay245 x0 x1 x2 x3 x4)
      (attend 256 fits256 (k0_pay246 x0 x1 x2 x3 x4) (k0_pay248 x0 x1 x2 x3 x4) (View.ld x2 r0_18) (View.ld x3 r0_18) (View.ld x3 r0_6))
      (attend 256 fits256 (k0_pay246 x0 x1 x2 x3 x4) (k0_pay248 x0 x1 x2 x3 x4) (View.ld x2 r0_19) (View.ld x3 r0_19) (View.ld x3 r0_7))) := rfl

/-- Head 1, tile 1. -/
theorem piece_1_1 : k0_pay38 (k0_pay245 x0 x1 x2 x3 x4) (k0_pay247 x0 x1 x2 x3 x4) (k0_pay35 (k0_pay249 x0 x1 x2 x3 x4) (k0_pay32 (View.ld x2 r0_21) (View.ld x3 r0_9)) (k0_pay33 (k0_pay246 x0 x1 x2 x3 x4) (View.ld x2 r0_21) (View.ld x3 r0_21) (View.ld x3 r0_9)) (k0_pay34 (k0_pay246 x0 x1 x2 x3 x4) (k0_pay249 x0 x1 x2 x3 x4) (View.ld x2 r0_21) (View.ld x3 r0_21) (View.ld x3 r0_9))) (k0_pay36 (k0_pay246 x0 x1 x2 x3 x4) (k0_pay249 x0 x1 x2 x3 x4) (View.ld x2 r0_22) (View.ld x3 r0_22) (View.ld x3 r0_10)) (k0_pay37 (k0_pay246 x0 x1 x2 x3 x4) (k0_pay249 x0 x1 x2 x3 x4) (View.ld x2 r0_22) (View.ld x3 r0_22) (View.ld x3 r0_10))
    = normed (k0_pay247 x0 x1 x2 x3 x4) (difference (k0_pay245 x0 x1 x2 x3 x4)
      (attend 256 fits256 (k0_pay246 x0 x1 x2 x3 x4) (k0_pay249 x0 x1 x2 x3 x4) (View.ld x2 r0_21) (View.ld x3 r0_21) (View.ld x3 r0_9))
      (attend 256 fits256 (k0_pay246 x0 x1 x2 x3 x4) (k0_pay249 x0 x1 x2 x3 x4) (View.ld x2 r0_22) (View.ld x3 r0_22) (View.ld x3 r0_10))) := rfl

/-- Head 2, tile 1. -/
theorem piece_1_2 : k0_pay50 (k0_pay245 x0 x1 x2 x3 x4) (k0_pay247 x0 x1 x2 x3 x4) (k0_pay250 x0 x1 x2 x3 x4) (k0_pay43 (k0_pay250 x0 x1 x2 x3 x4) (k0_pay40 (k0_pay246 x0 x1 x2 x3 x4) (View.ld x2 r0_24) (View.ld x3 r0_24)) (k0_pay41 (k0_pay246 x0 x1 x2 x3 x4) (View.ld x2 r0_24) (View.ld x3 r0_24)) (k0_pay42 (View.ld x2 r0_24) (View.ld x3 r0_12))) (k0_pay46 (View.ld x2 r0_25) (View.ld x3 r0_13)) (k0_pay47 (k0_pay246 x0 x1 x2 x3 x4) (View.ld x2 r0_25) (View.ld x3 r0_25) (View.ld x3 r0_13)) (k0_pay48 (k0_pay246 x0 x1 x2 x3 x4) (View.ld x2 r0_25) (View.ld x3 r0_25) (View.ld x3 r0_13)) (k0_pay49 (k0_pay250 x0 x1 x2 x3 x4))
    = normed (k0_pay247 x0 x1 x2 x3 x4) (difference (k0_pay245 x0 x1 x2 x3 x4)
      (attend 256 fits256 (k0_pay246 x0 x1 x2 x3 x4) (k0_pay250 x0 x1 x2 x3 x4) (View.ld x2 r0_24) (View.ld x3 r0_24) (View.ld x3 r0_12))
      (attend 256 fits256 (k0_pay246 x0 x1 x2 x3 x4) (k0_pay250 x0 x1 x2 x3 x4) (View.ld x2 r0_25) (View.ld x3 r0_25) (View.ld x3 r0_13))) := rfl

/-- Head 3, tile 1. -/
theorem piece_1_3 : k0_pay58 (k0_pay245 x0 x1 x2 x3 x4) (k0_pay247 x0 x1 x2 x3 x4) (k0_pay251 x0 x1 x2 x3 x4) (k0_pay53 (k0_pay251 x0 x1 x2 x3 x4) (k0_pay51 (View.ld x2 r0_27)) (k0_pay52 (k0_pay246 x0 x1 x2 x3 x4) (View.ld x2 r0_27) (View.ld x3 r0_27)) (View.ld x3 r0_15)) (k0_pay54 (View.ld x2 r0_28)) (k0_pay55 (k0_pay246 x0 x1 x2 x3 x4) (View.ld x2 r0_28) (View.ld x3 r0_28)) (k0_pay56 (k0_pay246 x0 x1 x2 x3 x4) (View.ld x2 r0_28) (View.ld x3 r0_28)) (k0_pay57 (View.ld x3 r0_16))
    = normed (k0_pay247 x0 x1 x2 x3 x4) (difference (k0_pay245 x0 x1 x2 x3 x4)
      (attend 256 fits256 (k0_pay246 x0 x1 x2 x3 x4) (k0_pay251 x0 x1 x2 x3 x4) (View.ld x2 r0_27) (View.ld x3 r0_27) (View.ld x3 r0_15))
      (attend 256 fits256 (k0_pay246 x0 x1 x2 x3 x4) (k0_pay251 x0 x1 x2 x3 x4) (View.ld x2 r0_28) (View.ld x3 r0_28) (View.ld x3 r0_16))) := rfl

/-- Head 0, tile 2. -/
theorem piece_2_0 : k0_pay63 (k0_pay62 (k0_pay245 x0 x1 x2 x3 x4) (k0_pay246 x0 x1 x2 x3 x4) (k0_pay247 x0 x1 x2 x3 x4) (k0_pay248 x0 x1 x2 x3 x4) (k0_pay59 (k0_pay246 x0 x1 x2 x3 x4) (k0_pay248 x0 x1 x2 x3 x4) (View.ld x2 r0_30) (View.ld x3 r0_30) (View.ld x3 r0_31)) (k0_pay60 (View.ld x2 r0_32)) (k0_pay61 (View.ld x3 r0_32)) (constant S256x256 .f32 0x00000000#32) (View.ld x3 r0_33))
    = normed (k0_pay247 x0 x1 x2 x3 x4) (difference (k0_pay245 x0 x1 x2 x3 x4)
      (attend 512 fits512 (k0_pay246 x0 x1 x2 x3 x4) (k0_pay248 x0 x1 x2 x3 x4) (View.ld x2 r0_30) (View.ld x3 r0_30) (View.ld x3 r0_31))
      (attend 512 fits512 (k0_pay246 x0 x1 x2 x3 x4) (k0_pay248 x0 x1 x2 x3 x4) (View.ld x2 r0_32) (View.ld x3 r0_32) (View.ld x3 r0_33))) := rfl

/-- Head 1, tile 2. -/
theorem piece_2_1 : k0_pay67 (k0_pay247 x0 x1 x2 x3 x4) (k0_pay65 (k0_pay245 x0 x1 x2 x3 x4) (k0_pay246 x0 x1 x2 x3 x4) (k0_pay249 x0 x1 x2 x3 x4) (k0_pay254 x0 x1 x2 x3 x4) (View.ld x2 r0_37) (View.ld x3 r0_37) (View.ld x3 r0_38)) (k0_pay66 (k0_pay245 x0 x1 x2 x3 x4) (k0_pay246 x0 x1 x2 x3 x4) (k0_pay249 x0 x1 x2 x3 x4) (k0_pay254 x0 x1 x2 x3 x4) (View.ld x2 r0_37) (View.ld x3 r0_37) (View.ld x3 r0_38)) (Scalar.ofBits .f32 0x3727C5AC#32)
    = normed (k0_pay247 x0 x1 x2 x3 x4) (difference (k0_pay245 x0 x1 x2 x3 x4)
      (attend 512 fits512 (k0_pay246 x0 x1 x2 x3 x4) (k0_pay249 x0 x1 x2 x3 x4) (View.ld x2 r0_35) (View.ld x3 r0_35) (View.ld x3 r0_36))
      (attend 512 fits512 (k0_pay246 x0 x1 x2 x3 x4) (k0_pay249 x0 x1 x2 x3 x4) (View.ld x2 r0_37) (View.ld x3 r0_37) (View.ld x3 r0_38))) := rfl

/-- Head 2, tile 2. -/
theorem piece_2_2 : k0_pay77 (k0_pay245 x0 x1 x2 x3 x4) (k0_pay247 x0 x1 x2 x3 x4) (k0_pay75 (k0_pay72 (k0_pay246 x0 x1 x2 x3 x4) (k0_pay250 x0 x1 x2 x3 x4) (View.ld x2 r0_40) (View.ld x3 r0_40) (View.ld x3 r0_41)) (k0_pay73 (k0_pay246 x0 x1 x2 x3 x4) (View.ld x2 r0_40) (View.ld x3 r0_40) (View.ld x3 r0_41)) (k0_pay74 (k0_pay250 x0 x1 x2 x3 x4))) (k0_pay76 (k0_pay246 x0 x1 x2 x3 x4) (k0_pay250 x0 x1 x2 x3 x4) (View.ld x2 r0_42) (View.ld x3 r0_42) (View.ld x3 r0_43))
    = normed (k0_pay247 x0 x1 x2 x3 x4) (difference (k0_pay245 x0 x1 x2 x3 x4)
      (attend 512 fits512 (k0_pay246 x0 x1 x2 x3 x4) (k0_pay250 x0 x1 x2 x3 x4) (View.ld x2 r0_40) (View.ld x3 r0_40) (View.ld x3 r0_41))
      (attend 512 fits512 (k0_pay246 x0 x1 x2 x3 x4) (k0_pay250 x0 x1 x2 x3 x4) (View.ld x2 r0_42) (View.ld x3 r0_42) (View.ld x3 r0_43))) := rfl

/-- Head 3, tile 2. -/
theorem piece_2_3 : k0_pay90 (k0_pay245 x0 x1 x2 x3 x4) (k0_pay247 x0 x1 x2 x3 x4) (k0_pay251 x0 x1 x2 x3 x4) (k0_pay83 (k0_pay251 x0 x1 x2 x3 x4) (k0_pay79 (k0_pay246 x0 x1 x2 x3 x4) (View.ld x2 r0_45) (View.ld x3 r0_45)) (k0_pay80 (View.ld x2 r0_45) (View.ld x3 r0_46)) (k0_pay81 (k0_pay246 x0 x1 x2 x3 x4) (View.ld x2 r0_45) (View.ld x3 r0_45) (View.ld x3 r0_46)) (k0_pay82 (k0_pay246 x0 x1 x2 x3 x4) (View.ld x2 r0_45) (View.ld x3 r0_45) (View.ld x3 r0_46))) (k0_pay88 (k0_pay246 x0 x1 x2 x3 x4) (k0_pay251 x0 x1 x2 x3 x4) (View.ld x2 r0_47) (View.ld x3 r0_47) (View.ld x3 r0_48)) (k0_pay89 (k0_pay246 x0 x1 x2 x3 x4) (View.ld x2 r0_47) (View.ld x3 r0_47) (View.ld x3 r0_48))
    = normed (k0_pay247 x0 x1 x2 x3 x4) (difference (k0_pay245 x0 x1 x2 x3 x4)
      (attend 512 fits512 (k0_pay246 x0 x1 x2 x3 x4) (k0_pay251 x0 x1 x2 x3 x4) (View.ld x2 r0_45) (View.ld x3 r0_45) (View.ld x3 r0_46))
      (attend 512 fits512 (k0_pay246 x0 x1 x2 x3 x4) (k0_pay251 x0 x1 x2 x3 x4) (View.ld x2 r0_47) (View.ld x3 r0_47) (View.ld x3 r0_48))) := rfl

/-- Head 0, tile 3. -/
theorem piece_3_0 : k0_pay100 (k0_pay245 x0 x1 x2 x3 x4) (k0_pay247 x0 x1 x2 x3 x4) (k0_pay248 x0 x1 x2 x3 x4) (k0_pay94 (k0_pay248 x0 x1 x2 x3 x4) (k0_pay91 (View.ld x2 r0_50)) (k0_pay92 (k0_pay246 x0 x1 x2 x3 x4) (View.ld x2 r0_50) (View.ld x3 r0_50)) (k0_pay93 (k0_pay246 x0 x1 x2 x3 x4) (View.ld x2 r0_50) (View.ld x3 r0_50)) (View.ld x3 r0_51)) (k0_pay96 (k0_pay246 x0 x1 x2 x3 x4) (View.ld x2 r0_52) (View.ld x3 r0_52)) (k0_pay97 (k0_pay246 x0 x1 x2 x3 x4) (View.ld x2 r0_52) (View.ld x3 r0_52)) (k0_pay98 (View.ld x2 r0_52) (View.ld x3 r0_53)) (k0_pay99 (View.ld x2 r0_52) (View.ld x3 r0_53))
    = normed (k0_pay247 x0 x1 x2 x3 x4) (difference (k0_pay245 x0 x1 x2 x3 x4)
      (attend 768 fits768 (k0_pay246 x0 x1 x2 x3 x4) (k0_pay248 x0 x1 x2 x3 x4) (View.ld x2 r0_50) (View.ld x3 r0_50) (View.ld x3 r0_51))
      (attend 768 fits768 (k0_pay246 x0 x1 x2 x3 x4) (k0_pay248 x0 x1 x2 x3 x4) (View.ld x2 r0_52) (View.ld x3 r0_52) (View.ld x3 r0_53))) := rfl

/-- Head 1, tile 3. -/
theorem piece_3_1 : k0_pay107 (k0_pay106 (k0_pay245 x0 x1 x2 x3 x4) (k0_pay247 x0 x1 x2 x3 x4) (k0_pay249 x0 x1 x2 x3 x4) (k0_pay102 (k0_pay246 x0 x1 x2 x3 x4) (k0_pay249 x0 x1 x2 x3 x4) (k0_pay101 (View.ld x2 r0_55)) (View.ld x3 r0_55) (View.ld x3 r0_56)) (k0_pay103 (View.ld x2 r0_57)) (k0_pay104 (k0_pay246 x0 x1 x2 x3 x4) (View.ld x2 r0_57) (View.ld x3 r0_57)) (k0_pay105 (k0_pay246 x0 x1 x2 x3 x4) (View.ld x2 r0_57) (View.ld x3 r0_57)) (View.ld x3 r0_58))
    = normed (k0_pay247 x0 x1 x2 x3 x4) (difference (k0_pay245 x0 x1 x2 x3 x4)
      (attend 768 fits768 (k0_pay246 x0 x1 x2 x3 x4) (k0_pay249 x0 x1 x2 x3 x4) (View.ld x2 r0_55) (View.ld x3 r0_55) (View.ld x3 r0_56))
      (attend 768 fits768 (k0_pay246 x0 x1 x2 x3 x4) (k0_pay249 x0 x1 x2 x3 x4) (View.ld x2 r0_57) (View.ld x3 r0_57) (View.ld x3 r0_58))) := rfl

/-- Head 2, tile 3. -/
theorem piece_3_2 : k0_pay111 (k0_pay247 x0 x1 x2 x3 x4) (k0_pay110 (k0_pay245 x0 x1 x2 x3 x4) (k0_pay246 x0 x1 x2 x3 x4) (k0_pay250 x0 x1 x2 x3 x4) (k0_pay108 (k0_pay246 x0 x1 x2 x3 x4) (k0_pay250 x0 x1 x2 x3 x4) (View.ld x2 r0_60) (View.ld x3 r0_60) (View.ld x3 r0_61)) (k0_pay109 (View.ld x2 r0_62)) (View.ld x3 r0_62) (View.ld x3 r0_63))
    = normed (k0_pay247 x0 x1 x2 x3 x4) (difference (k0_pay245 x0 x1 x2 x3 x4)
      (attend 768 fits768 (k0_pay246 x0 x1 x2 x3 x4) (k0_pay250 x0 x1 x2 x3 x4) (View.ld x2 r0_60) (View.ld x3 r0_60) (View.ld x3 r0_61))
      (attend 768 fits768 (k0_pay246 x0 x1 x2 x3 x4) (k0_pay250 x0 x1 x2 x3 x4) (View.ld x2 r0_62) (View.ld x3 r0_62) (View.ld x3 r0_63))) := rfl

/-- Head 3, tile 3. -/
theorem piece_3_3 : k0_pay117 (k0_pay247 x0 x1 x2 x3 x4) (k0_pay115 (k0_pay245 x0 x1 x2 x3 x4) (k0_pay246 x0 x1 x2 x3 x4) (k0_pay251 x0 x1 x2 x3 x4) (k0_pay255 x0 x1 x2 x3 x4) (k0_pay256 x0 x1 x2 x3 x4) (View.ld x2 r0_67) (View.ld x3 r0_67) (View.ld x3 r0_68)) (k0_pay116 (k0_pay245 x0 x1 x2 x3 x4) (k0_pay246 x0 x1 x2 x3 x4) (k0_pay251 x0 x1 x2 x3 x4) (k0_pay255 x0 x1 x2 x3 x4) (k0_pay256 x0 x1 x2 x3 x4) (View.ld x2 r0_67) (View.ld x3 r0_67) (View.ld x3 r0_68))
    = normed (k0_pay247 x0 x1 x2 x3 x4) (difference (k0_pay245 x0 x1 x2 x3 x4)
      (attend 768 fits768 (k0_pay246 x0 x1 x2 x3 x4) (k0_pay251 x0 x1 x2 x3 x4) (View.ld x2 r0_65) (View.ld x3 r0_65) (View.ld x3 r0_66))
      (attend 768 fits768 (k0_pay246 x0 x1 x2 x3 x4) (k0_pay251 x0 x1 x2 x3 x4) (View.ld x2 r0_67) (View.ld x3 r0_67) (View.ld x3 r0_68))) := rfl

/-- Head 0, tile 4. -/
theorem piece_4_0 : k0_pay126 (k0_pay245 x0 x1 x2 x3 x4) (k0_pay247 x0 x1 x2 x3 x4) (k0_pay124 (k0_pay248 x0 x1 x2 x3 x4) (k0_pay120 (View.ld x2 r0_70) (View.ld x3 r0_71)) (k0_pay121 (k0_pay246 x0 x1 x2 x3 x4) (View.ld x2 r0_70) (View.ld x3 r0_70) (View.ld x3 r0_71)) (k0_pay122 (k0_pay246 x0 x1 x2 x3 x4) (View.ld x2 r0_70) (View.ld x3 r0_70) (View.ld x3 r0_71)) (k0_pay123 (k0_pay248 x0 x1 x2 x3 x4)) (constant S256x256 .f32 0x00000000#32)) (k0_pay125 (k0_pay246 x0 x1 x2 x3 x4) (k0_pay248 x0 x1 x2 x3 x4) (View.ld x2 r0_72) (View.ld x3 r0_72) (View.ld x3 r0_73))
    = normed (k0_pay247 x0 x1 x2 x3 x4) (difference (k0_pay245 x0 x1 x2 x3 x4)
      (attend 1024 fits1024 (k0_pay246 x0 x1 x2 x3 x4) (k0_pay248 x0 x1 x2 x3 x4) (View.ld x2 r0_70) (View.ld x3 r0_70) (View.ld x3 r0_71))
      (attend 1024 fits1024 (k0_pay246 x0 x1 x2 x3 x4) (k0_pay248 x0 x1 x2 x3 x4) (View.ld x2 r0_72) (View.ld x3 r0_72) (View.ld x3 r0_73))) := rfl

/-- Head 1, tile 4. -/
theorem piece_4_1 : k0_pay137 (k0_pay245 x0 x1 x2 x3 x4) (k0_pay247 x0 x1 x2 x3 x4) (k0_pay249 x0 x1 x2 x3 x4) (k0_pay131 (k0_pay249 x0 x1 x2 x3 x4) (k0_pay127 (View.ld x2 r0_75)) (k0_pay128 (k0_pay246 x0 x1 x2 x3 x4) (View.ld x2 r0_75) (View.ld x3 r0_75)) (k0_pay129 (k0_pay246 x0 x1 x2 x3 x4) (View.ld x2 r0_75) (View.ld x3 r0_75)) (k0_pay130 (View.ld x3 r0_76)) (constant S256x1024 .f32 0x00000000#32)) (k0_pay134 (View.ld x2 r0_77) (View.ld x3 r0_78)) (k0_pay135 (k0_pay246 x0 x1 x2 x3 x4) (View.ld x2 r0_77) (View.ld x3 r0_77) (View.ld x3 r0_78)) (k0_pay136 (k0_pay246 x0 x1 x2 x3 x4) (View.ld x2 r0_77) (View.ld x3 r0_77) (View.ld x3 r0_78))
    = normed (k0_pay247 x0 x1 x2 x3 x4) (difference (k0_pay245 x0 x1 x2 x3 x4)
      (attend 1024 fits1024 (k0_pay246 x0 x1 x2 x3 x4) (k0_pay249 x0 x1 x2 x3 x4) (View.ld x2 r0_75) (View.ld x3 r0_75) (View.ld x3 r0_76))
      (attend 1024 fits1024 (k0_pay246 x0 x1 x2 x3 x4) (k0_pay249 x0 x1 x2 x3 x4) (View.ld x2 r0_77) (View.ld x3 r0_77) (View.ld x3 r0_78))) := rfl

/-- Head 2, tile 4. -/
theorem piece_4_2 : k0_pay144 (k0_pay245 x0 x1 x2 x3 x4) (k0_pay247 x0 x1 x2 x3 x4) (k0_pay250 x0 x1 x2 x3 x4) (k0_pay140 (k0_pay246 x0 x1 x2 x3 x4) (k0_pay250 x0 x1 x2 x3 x4) (k0_pay138 (View.ld x2 r0_80)) (k0_pay139 (View.ld x2 r0_80) (View.ld x3 r0_80)) (View.ld x3 r0_81)) (k0_pay141 (View.ld x2 r0_82)) (k0_pay142 (k0_pay246 x0 x1 x2 x3 x4) (View.ld x2 r0_82) (View.ld x3 r0_82)) (k0_pay143 (k0_pay246 x0 x1 x2 x3 x4) (View.ld x2 r0_82) (View.ld x3 r0_82)) (View.ld x3 r0_83)
    = normed (k0_pay247 x0 x1 x2 x3 x4) (difference (k0_pay245 x0 x1 x2 x3 x4)
      (attend 1024 fits1024 (k0_pay246 x0 x1 x2 x3 x4) (k0_pay250 x0 x1 x2 x3 x4) (View.ld x2 r0_80) (View.ld x3 r0_80) (View.ld x3 r0_81))
      (attend 1024 fits1024 (k0_pay246 x0 x1 x2 x3 x4) (k0_pay250 x0 x1 x2 x3 x4) (View.ld x2 r0_82) (View.ld x3 r0_82) (View.ld x3 r0_83))) := rfl

/-- Head 3, tile 4. -/
theorem piece_4_3 : k0_pay149 (k0_pay148 (k0_pay245 x0 x1 x2 x3 x4) (k0_pay246 x0 x1 x2 x3 x4) (k0_pay247 x0 x1 x2 x3 x4) (k0_pay251 x0 x1 x2 x3 x4) (k0_pay145 (k0_pay246 x0 x1 x2 x3 x4) (k0_pay251 x0 x1 x2 x3 x4) (View.ld x2 r0_85) (View.ld x3 r0_85) (View.ld x3 r0_86)) (k0_pay146 (View.ld x2 r0_87)) (k0_pay147 (View.ld x3 r0_87)) (View.ld x3 r0_88))
    = normed (k0_pay247 x0 x1 x2 x3 x4) (difference (k0_pay245 x0 x1 x2 x3 x4)
      (attend 1024 fits1024 (k0_pay246 x0 x1 x2 x3 x4) (k0_pay251 x0 x1 x2 x3 x4) (View.ld x2 r0_85) (View.ld x3 r0_85) (View.ld x3 r0_86))
      (attend 1024 fits1024 (k0_pay246 x0 x1 x2 x3 x4) (k0_pay251 x0 x1 x2 x3 x4) (View.ld x2 r0_87) (View.ld x3 r0_87) (View.ld x3 r0_88))) := rfl

/-- Head 0, tile 5. -/
theorem piece_5_0 : k0_pay153 (k0_pay247 x0 x1 x2 x3 x4) (k0_pay151 (k0_pay245 x0 x1 x2 x3 x4) (k0_pay246 x0 x1 x2 x3 x4) (k0_pay248 x0 x1 x2 x3 x4) (k0_pay257 x0 x1 x2 x3 x4) (View.ld x2 r0_92) (View.ld x3 r0_92) (View.ld x3 r0_93)) (k0_pay152 (k0_pay245 x0 x1 x2 x3 x4) (k0_pay246 x0 x1 x2 x3 x4) (k0_pay248 x0 x1 x2 x3 x4) (k0_pay257 x0 x1 x2 x3 x4) (View.ld x2 r0_92) (View.ld x3 r0_92) (View.ld x3 r0_93))
    = normed (k0_pay247 x0 x1 x2 x3 x4) (difference (k0_pay245 x0 x1 x2 x3 x4)
      (attend 1280 fits1280 (k0_pay246 x0 x1 x2 x3 x4) (k0_pay248 x0 x1 x2 x3 x4) (View.ld x2 r0_90) (View.ld x3 r0_90) (View.ld x3 r0_91))
      (attend 1280 fits1280 (k0_pay246 x0 x1 x2 x3 x4) (k0_pay248 x0 x1 x2 x3 x4) (View.ld x2 r0_92) (View.ld x3 r0_92) (View.ld x3 r0_93))) := rfl

/-- Head 1, tile 5. -/
theorem piece_5_1 : k0_pay164 (k0_pay245 x0 x1 x2 x3 x4) (k0_pay247 x0 x1 x2 x3 x4) (k0_pay160 (k0_pay249 x0 x1 x2 x3 x4) (k0_pay158 (k0_pay246 x0 x1 x2 x3 x4) (k0_pay249 x0 x1 x2 x3 x4) (View.ld x2 r0_95) (View.ld x3 r0_95) (View.ld x3 r0_96)) (k0_pay159 (k0_pay246 x0 x1 x2 x3 x4) (View.ld x2 r0_95) (View.ld x3 r0_95) (View.ld x3 r0_96))) (k0_pay162 (k0_pay246 x0 x1 x2 x3 x4) (k0_pay249 x0 x1 x2 x3 x4) (View.ld x2 r0_97) (View.ld x3 r0_97) (View.ld x3 r0_98)) (k0_pay163 (k0_pay246 x0 x1 x2 x3 x4) (k0_pay249 x0 x1 x2 x3 x4) (View.ld x2 r0_97) (View.ld x3 r0_97) (View.ld x3 r0_98))
    = normed (k0_pay247 x0 x1 x2 x3 x4) (difference (k0_pay245 x0 x1 x2 x3 x4)
      (attend 1280 fits1280 (k0_pay246 x0 x1 x2 x3 x4) (k0_pay249 x0 x1 x2 x3 x4) (View.ld x2 r0_95) (View.ld x3 r0_95) (View.ld x3 r0_96))
      (attend 1280 fits1280 (k0_pay246 x0 x1 x2 x3 x4) (k0_pay249 x0 x1 x2 x3 x4) (View.ld x2 r0_97) (View.ld x3 r0_97) (View.ld x3 r0_98))) := rfl

/-- Head 2, tile 5. -/
theorem piece_5_2 : k0_pay176 (k0_pay245 x0 x1 x2 x3 x4) (k0_pay247 x0 x1 x2 x3 x4) (k0_pay250 x0 x1 x2 x3 x4) (k0_pay169 (k0_pay250 x0 x1 x2 x3 x4) (k0_pay166 (k0_pay246 x0 x1 x2 x3 x4) (View.ld x2 r0_100) (View.ld x3 r0_100)) (k0_pay167 (View.ld x2 r0_100) (View.ld x3 r0_101)) (k0_pay168 (k0_pay246 x0 x1 x2 x3 x4) (View.ld x2 r0_100) (View.ld x3 r0_100) (View.ld x3 r0_101))) (k0_pay174 (k0_pay246 x0 x1 x2 x3 x4) (k0_pay250 x0 x1 x2 x3 x4) (View.ld x2 r0_102) (View.ld x3 r0_102) (View.ld x3 r0_103)) (k0_pay175 (k0_pay246 x0 x1 x2 x3 x4) (View.ld x2 r0_102) (View.ld x3 r0_102) (View.ld x3 r0_103))
    = normed (k0_pay247 x0 x1 x2 x3 x4) (difference (k0_pay245 x0 x1 x2 x3 x4)
      (attend 1280 fits1280 (k0_pay246 x0 x1 x2 x3 x4) (k0_pay250 x0 x1 x2 x3 x4) (View.ld x2 r0_100) (View.ld x3 r0_100) (View.ld x3 r0_101))
      (attend 1280 fits1280 (k0_pay246 x0 x1 x2 x3 x4) (k0_pay250 x0 x1 x2 x3 x4) (View.ld x2 r0_102) (View.ld x3 r0_102) (View.ld x3 r0_103))) := rfl

/-- Head 3, tile 5. -/
theorem piece_5_3 : k0_pay186 (k0_pay245 x0 x1 x2 x3 x4) (k0_pay247 x0 x1 x2 x3 x4) (k0_pay251 x0 x1 x2 x3 x4) (k0_pay180 (k0_pay251 x0 x1 x2 x3 x4) (k0_pay177 (View.ld x2 r0_105)) (k0_pay178 (k0_pay246 x0 x1 x2 x3 x4) (View.ld x2 r0_105) (View.ld x3 r0_105)) (k0_pay179 (k0_pay246 x0 x1 x2 x3 x4) (View.ld x2 r0_105) (View.ld x3 r0_105)) (View.ld x3 r0_106)) (k0_pay182 (k0_pay246 x0 x1 x2 x3 x4) (View.ld x2 r0_107) (View.ld x3 r0_107)) (k0_pay183 (k0_pay246 x0 x1 x2 x3 x4) (View.ld x2 r0_107) (View.ld x3 r0_107)) (k0_pay184 (View.ld x2 r0_107) (View.ld x3 r0_108)) (k0_pay185 (View.ld x2 r0_107) (View.ld x3 r0_108))
    = normed (k0_pay247 x0 x1 x2 x3 x4) (difference (k0_pay245 x0 x1 x2 x3 x4)
      (attend 1280 fits1280 (k0_pay246 x0 x1 x2 x3 x4) (k0_pay251 x0 x1 x2 x3 x4) (View.ld x2 r0_105) (View.ld x3 r0_105) (View.ld x3 r0_106))
      (attend 1280 fits1280 (k0_pay246 x0 x1 x2 x3 x4) (k0_pay251 x0 x1 x2 x3 x4) (View.ld x2 r0_107) (View.ld x3 r0_107) (View.ld x3 r0_108))) := rfl

/-- Head 0, tile 6. -/
theorem piece_6_0 : k0_pay193 (k0_pay192 (k0_pay245 x0 x1 x2 x3 x4) (k0_pay247 x0 x1 x2 x3 x4) (k0_pay248 x0 x1 x2 x3 x4) (k0_pay188 (k0_pay246 x0 x1 x2 x3 x4) (k0_pay248 x0 x1 x2 x3 x4) (k0_pay187 (View.ld x2 r0_110)) (View.ld x3 r0_110) (View.ld x3 r0_111)) (k0_pay189 (View.ld x2 r0_112)) (k0_pay190 (k0_pay246 x0 x1 x2 x3 x4) (View.ld x2 r0_112) (View.ld x3 r0_112)) (k0_pay191 (k0_pay246 x0 x1 x2 x3 x4) (View.ld x2 r0_112) (View.ld x3 r0_112)) (View.ld x3 r0_113))
    = normed (k0_pay247 x0 x1 x2 x3 x4) (difference (k0_pay245 x0 x1 x2 x3 x4)
      (attend 1536 fits1536 (k0_pay246 x0 x1 x2 x3 x4) (k0_pay248 x0 x1 x2 x3 x4) (View.ld x2 r0_110) (View.ld x3 r0_110) (View.ld x3 r0_111))
      (attend 1536 fits1536 (k0_pay246 x0 x1 x2 x3 x4) (k0_pay248 x0 x1 x2 x3 x4) (View.ld x2 r0_112) (View.ld x3 r0_112) (View.ld x3 r0_113))) := rfl

/-- Head 1, tile 6. -/
theorem piece_6_1 : k0_pay198 (k0_pay247 x0 x1 x2 x3 x4) (k0_pay196 (k0_pay245 x0 x1 x2 x3 x4) (k0_pay246 x0 x1 x2 x3 x4) (k0_pay249 x0 x1 x2 x3 x4) (k0_pay258 x0 x1 x2 x3 x4) (k0_pay259 x0 x1 x2 x3 x4) (View.ld x3 r0_117) (View.ld x3 r0_118)) (k0_pay197 (k0_pay245 x0 x1 x2 x3 x4) (k0_pay246 x0 x1 x2 x3 x4) (k0_pay249 x0 x1 x2 x3 x4) (k0_pay258 x0 x1 x2 x3 x4) (k0_pay259 x0 x1 x2 x3 x4) (View.ld x3 r0_117) (View.ld x3 r0_118))
    = normed (k0_pay247 x0 x1 x2 x3 x4) (difference (k0_pay245 x0 x1 x2 x3 x4)
      (attend 1536 fits1536 (k0_pay246 x0 x1 x2 x3 x4) (k0_pay249 x0 x1 x2 x3 x4) (View.ld x2 r0_115) (View.ld x3 r0_115) (View.ld x3 r0_116))
      (attend 1536 fits1536 (k0_pay246 x0 x1 x2 x3 x4) (k0_pay249 x0 x1 x2 x3 x4) (View.ld x2 r0_117) (View.ld x3 r0_117) (View.ld x3 r0_118))) := rfl

/-- Head 2, tile 6. -/
theorem piece_6_2 : k0_pay203 (k0_pay247 x0 x1 x2 x3 x4) (k0_pay201 (k0_pay245 x0 x1 x2 x3 x4) (k0_pay246 x0 x1 x2 x3 x4) (k0_pay250 x0 x1 x2 x3 x4) (k0_pay260 x0 x1 x2 x3 x4) (k0_pay261 x0 x1 x2 x3 x4) (View.ld x2 r0_122) (View.ld x3 r0_122) (View.ld x3 r0_123)) (k0_pay202 (k0_pay245 x0 x1 x2 x3 x4) (k0_pay246 x0 x1 x2 x3 x4) (k0_pay250 x0 x1 x2 x3 x4) (k0_pay260 x0 x1 x2 x3 x4) (k0_pay261 x0 x1 x2 x3 x4) (View.ld x2 r0_122) (View.ld x3 r0_122) (View.ld x3 r0_123))
    = normed (k0_pay247 x0 x1 x2 x3 x4) (difference (k0_pay245 x0 x1 x2 x3 x4)
      (attend 1536 fits1536 (k0_pay246 x0 x1 x2 x3 x4) (k0_pay250 x0 x1 x2 x3 x4) (View.ld x2 r0_120) (View.ld x3 r0_120) (View.ld x3 r0_121))
      (attend 1536 fits1536 (k0_pay246 x0 x1 x2 x3 x4) (k0_pay250 x0 x1 x2 x3 x4) (View.ld x2 r0_122) (View.ld x3 r0_122) (View.ld x3 r0_123))) := rfl

/-- Head 3, tile 6. -/
theorem piece_6_3 : k0_pay217 (k0_pay245 x0 x1 x2 x3 x4) (k0_pay247 x0 x1 x2 x3 x4) (k0_pay210 (k0_pay251 x0 x1 x2 x3 x4) (k0_pay206 (View.ld x2 r0_125) (View.ld x3 r0_126)) (k0_pay207 (k0_pay246 x0 x1 x2 x3 x4) (View.ld x2 r0_125) (View.ld x3 r0_125) (View.ld x3 r0_126)) (k0_pay208 (k0_pay246 x0 x1 x2 x3 x4) (View.ld x2 r0_125) (View.ld x3 r0_125) (View.ld x3 r0_126)) (k0_pay209 (k0_pay251 x0 x1 x2 x3 x4))) (k0_pay215 (k0_pay246 x0 x1 x2 x3 x4) (k0_pay251 x0 x1 x2 x3 x4) (View.ld x2 r0_127) (View.ld x3 r0_127) (View.ld x3 r0_128)) (k0_pay216 (k0_pay246 x0 x1 x2 x3 x4) (k0_pay251 x0 x1 x2 x3 x4) (View.ld x2 r0_127) (View.ld x3 r0_127) (View.ld x3 r0_128))
    = normed (k0_pay247 x0 x1 x2 x3 x4) (difference (k0_pay245 x0 x1 x2 x3 x4)
      (attend 1536 fits1536 (k0_pay246 x0 x1 x2 x3 x4) (k0_pay251 x0 x1 x2 x3 x4) (View.ld x2 r0_125) (View.ld x3 r0_125) (View.ld x3 r0_126))
      (attend 1536 fits1536 (k0_pay246 x0 x1 x2 x3 x4) (k0_pay251 x0 x1 x2 x3 x4) (View.ld x2 r0_127) (View.ld x3 r0_127) (View.ld x3 r0_128))) := rfl

/-- Head 0, tile 7. -/
theorem piece_7_0 : k0_pay228 (k0_pay245 x0 x1 x2 x3 x4) (k0_pay247 x0 x1 x2 x3 x4) (k0_pay248 x0 x1 x2 x3 x4) (k0_pay222 (k0_pay248 x0 x1 x2 x3 x4) (k0_pay218 (View.ld x2 r0_130)) (k0_pay219 (k0_pay246 x0 x1 x2 x3 x4) (View.ld x2 r0_130) (View.ld x3 r0_130)) (k0_pay220 (k0_pay246 x0 x1 x2 x3 x4) (View.ld x2 r0_130) (View.ld x3 r0_130)) (k0_pay221 (View.ld x3 r0_131))) (k0_pay225 (View.ld x2 r0_132) (View.ld x3 r0_133)) (k0_pay226 (k0_pay246 x0 x1 x2 x3 x4) (View.ld x2 r0_132) (View.ld x3 r0_132) (View.ld x3 r0_133)) (k0_pay227 (k0_pay246 x0 x1 x2 x3 x4) (View.ld x2 r0_132) (View.ld x3 r0_132) (View.ld x3 r0_133))
    = normed (k0_pay247 x0 x1 x2 x3 x4) (difference (k0_pay245 x0 x1 x2 x3 x4)
      (attend 1792 fits1792 (k0_pay246 x0 x1 x2 x3 x4) (k0_pay248 x0 x1 x2 x3 x4) (View.ld x2 r0_130) (View.ld x3 r0_130) (View.ld x3 r0_131))
      (attend 1792 fits1792 (k0_pay246 x0 x1 x2 x3 x4) (k0_pay248 x0 x1 x2 x3 x4) (View.ld x2 r0_132) (View.ld x3 r0_132) (View.ld x3 r0_133))) := rfl

/-- Head 1, tile 7. -/
theorem piece_7_1 : k0_pay235 (k0_pay245 x0 x1 x2 x3 x4) (k0_pay247 x0 x1 x2 x3 x4) (k0_pay249 x0 x1 x2 x3 x4) (k0_pay231 (k0_pay246 x0 x1 x2 x3 x4) (k0_pay249 x0 x1 x2 x3 x4) (k0_pay229 (View.ld x2 r0_135)) (k0_pay230 (View.ld x3 r0_135)) (constant S256x256 .f32 0x00000000#32) (View.ld x3 r0_136)) (k0_pay232 (View.ld x2 r0_137)) (k0_pay233 (k0_pay246 x0 x1 x2 x3 x4) (View.ld x2 r0_137) (View.ld x3 r0_137)) (k0_pay234 (k0_pay246 x0 x1 x2 x3 x4) (View.ld x2 r0_137) (View.ld x3 r0_137)) (View.ld x3 r0_138)
    = normed (k0_pay247 x0 x1 x2 x3 x4) (difference (k0_pay245 x0 x1 x2 x3 x4)
      (attend 1792 fits1792 (k0_pay246 x0 x1 x2 x3 x4) (k0_pay249 x0 x1 x2 x3 x4) (View.ld x2 r0_135) (View.ld x3 r0_135) (View.ld x3 r0_136))
      (attend 1792 fits1792 (k0_pay246 x0 x1 x2 x3 x4) (k0_pay249 x0 x1 x2 x3 x4) (View.ld x2 r0_137) (View.ld x3 r0_137) (View.ld x3 r0_138))) := rfl

/-- Head 2, tile 7. -/
theorem piece_7_2 : k0_pay240 (k0_pay238 (k0_pay245 x0 x1 x2 x3 x4) (k0_pay246 x0 x1 x2 x3 x4) (k0_pay247 x0 x1 x2 x3 x4) (k0_pay250 x0 x1 x2 x3 x4) (k0_pay236 (k0_pay246 x0 x1 x2 x3 x4) (k0_pay250 x0 x1 x2 x3 x4) (View.ld x2 r0_140) (View.ld x3 r0_140) (View.ld x3 r0_141)) (k0_pay237 (View.ld x2 r0_142)) (View.ld x3 r0_142) (View.ld x3 r0_143)) (k0_pay239 (F := F))
    = normed (k0_pay247 x0 x1 x2 x3 x4) (difference (k0_pay245 x0 x1 x2 x3 x4)
      (attend 1792 fits1792 (k0_pay246 x0 x1 x2 x3 x4) (k0_pay250 x0 x1 x2 x3 x4) (View.ld x2 r0_140) (View.ld x3 r0_140) (View.ld x3 r0_141))
      (attend 1792 fits1792 (k0_pay246 x0 x1 x2 x3 x4) (k0_pay250 x0 x1 x2 x3 x4) (View.ld x2 r0_142) (View.ld x3 r0_142) (View.ld x3 r0_143))) := rfl

/-- Head 3, tile 7. -/
theorem piece_7_3 : k0_pay1 (k0_pay247 x0 x1 x2 x3 x4) (k0_pay242 (k0_pay245 x0 x1 x2 x3 x4) (k0_pay246 x0 x1 x2 x3 x4) (k0_pay251 x0 x1 x2 x3 x4) (k0_pay262 x0 x1 x2 x3 x4) (View.ld x2 r0_147) (View.ld x3 r0_147) (View.ld x3 r0_148)) (k0_pay243 (k0_pay245 x0 x1 x2 x3 x4) (k0_pay246 x0 x1 x2 x3 x4) (k0_pay251 x0 x1 x2 x3 x4) (k0_pay262 x0 x1 x2 x3 x4) (View.ld x2 r0_147) (View.ld x3 r0_147) (View.ld x3 r0_148)) (k0_pay244 (F := F))
    = normed (k0_pay247 x0 x1 x2 x3 x4) (difference (k0_pay245 x0 x1 x2 x3 x4)
      (attend 1792 fits1792 (k0_pay246 x0 x1 x2 x3 x4) (k0_pay251 x0 x1 x2 x3 x4) (View.ld x2 r0_145) (View.ld x3 r0_145) (View.ld x3 r0_146))
      (attend 1792 fits1792 (k0_pay246 x0 x1 x2 x3 x4) (k0_pay251 x0 x1 x2 x3 x4) (View.ld x2 r0_147) (View.ld x3 r0_147) (View.ld x3 r0_148))) := rfl

end Cert.KernelIdeal.Tile

end
-- ==== Proof.Block.lean ====
/-
  What the kernel's body leaves in its output block, as ONE function of its input blocks: every row of every head is the
  normalised difference of two softmax averages. The 32 stores (8 tiles of rows by 4 heads) tile the block.
-/
module

public import proofs.«01_k».proof.Proof.TileRead
public import proofs.«01_k».proof.Proof.Pieces
public import Idealize.ShloMosaic.Lib.Pipeline.ValueKit.Tiles

@[expose] public section

noncomputable section

open scoped BigOperators

namespace Cert.KernelIdeal.Block

open Cert.KernelIdeal Cert.KernelIdeal.Gen Idealize.ShloMosaic Idealize.ShloMosaic.ValueIdx Cert.Softmax Cert.KernelIdeal.Tile

/-! ## The value of a row -/

/-- The difference of the two components' attentions, the second weighted by `l`. -/
def mixed (l : EReal) (e1 e2 : ℕ → ℝ) (V : ℕ → Fin 128 → ℝ) (R : ℕ) (c : Fin 128) : EReal :=
  (average e1 (fun t => V t c) R : EReal) - l * (average e2 (fun t => V t c) R : EReal)

/-- A row of a head: the difference, normalised by its root mean square, times the gain and the closing factor. -/
def rowOut (l : EReal) (g : Fin 128 → EReal) (e1 e2 : ℕ → ℝ) (V : ℕ → Fin 128 → ℝ) (R : ℕ) (c : Fin 128) : EReal :=
  mixed l e1 e2 V R c * scaleOf (Ideal.ofBits .f32 0x43000000#32) (Ideal.ofBits .f32 0x3727C5AC#32) (mixed l e1 e2 V R) * g c
    * Ideal.ofBits .f32 0x3F4CCCCD#32

/-- The weight of the second attention, from the four vectors' rows. -/
def lamOf (x : Fin 4 → Fin 64 → EReal) : EReal :=
  Ideal.exp (∑ d, x 0 d * x 1 d) - Ideal.exp (∑ d, x 2 d * x 3 d) + Ideal.ofBits .f32 0x3E4CCCCD#32

/-- The unnormalised softmax weight of key `t` for row `R`, to base 2. -/
def weight2 (Q K : ℕ → Fin 64 → ℝ) (R t : ℕ) : ℝ := (2 : ℝ) ^ score Q K R t

/-- The output block: head `c / 128` at row `R`, column `c % 128`. -/
def out (l : EReal) (g : Fin 128 → EReal) (Q K : ℕ → ℕ → Fin 64 → ℝ) (V : ℕ → ℕ → Fin 128 → ℝ) (R c : ℕ) : EReal :=
  rowOut l g (weight2 (Q (2 * (c / 128))) (K (2 * (c / 128))) R) (weight2 (Q (2 * (c / 128) + 1)) (K (2 * (c / 128) + 1)) R)
    (V (c / 128)) R ⟨c % 128, Nat.mod_lt _ (by omega)⟩

/-- The input blocks hold these real queries, keys and values. -/
structure Reads (x2 x3 : Vec Ideal S1x8x2048x64 .bf16) (x4 : Vec Ideal S1x2048x512 .bf16)
    (Q K : ℕ → ℕ → Fin 64 → ℝ) (V : ℕ → ℕ → Fin 128 → ℝ) : Prop where
  queries : ∀ (h : Fin 8) (t : Fin 2048) (d : Fin 64), x2 (ix4 0 h t d) = (Q h.val t.val d : EReal)
  keys : ∀ (h : Fin 8) (t : Fin 2048) (d : Fin 64), x3 (ix4 0 h t d) = (K h.val t.val d : EReal)
  values : ∀ (h : Fin 4) (t : Fin 2048) (c : Fin 128), x4 (ix3 0 t ⟨128 * h.val + c.val, by omega⟩) = (V h.val t.val c : EReal)

/-! ## The values the tiles share -/

/-- The bias is zero at the causal keys and `-∞` elsewhere. -/
theorem bias_apply (r t : Fin 256) : k0_pay3 (F := Ideal) (ix2 r t) = bias r.val t.val := by
  have hc : ((BitVec.ofNat 32 t.val).sle (BitVec.ofNat 32 r.val)) = decide (t.val ≤ r.val) := by
    rw [BitVec.sle_eq_decide, BitVec.toInt_eq_toNat_of_lt, BitVec.toInt_eq_toNat_of_lt]
    · simp only [BitVec.toNat_ofNat, Nat.mod_eq_of_lt (show t.val < 2 ^ 32 by omega), Nat.mod_eq_of_lt (show r.val < 2 ^ 32 by omega), Nat.cast_le]
    · simp only [BitVec.toNat_ofNat, Nat.mod_eq_of_lt (show r.val < 2 ^ 32 by omega)]; omega
    · simp only [BitVec.toNat_ofNat, Nat.mod_eq_of_lt (show t.val < 2 ^ 32 by omega)]; omega
  unfold k0_pay3 bias
  have e : cmpi .sle (iota .tc S256x256 32 [1] iota_S256x256_d1_w32) (iota .tc S256x256 32 [0] iota_S256x256_d0_w32) (ix2 r t)
      = BitVec.ofBool ((BitVec.ofNat 32 (0 * 256 + t.val)).sle (BitVec.ofNat 32 (0 * 256 + r.val))) := rfl
  rw [Nat.zero_mul, Nat.zero_add, Nat.zero_add, hc] at e
  dsimp only
  rw [select_apply, e, broadcast_apply, broadcast_apply, Ideal.ofBits_def, Ideal.ofBits_zero_f32, show Named.named (F := Ideal) (φ := .f32) κ "mask" 0xF149F2CA#32 = (⊥ : EReal) from IdealRules.named_const.ideal_named_scalar _ _ _ _ rfl]
  by_cases h : t.val ≤ r.val <;> simp [h, Scalar.select]

/-- The second attention's weight. -/
theorem lam_apply (x0 : Vec Ideal S4x64 .f32) : k0_pay2 (View.ld x0 r0_0) (ix2 0 0) = lamOf fun a d => x0 (ix2 a d) := by
  have hx : ∀ i : S4x64.Idx, View.ld x0 r0_0 i = x0 i := fun i => View.ld_unit_apply_of x0 _ _ _ _ _ fun a => by
    match a with
    | ⟨0, _⟩ => show (i 0).val = 0 + (i 0).val; omega
    | ⟨1, _⟩ => show (i 1).val = 0 + (i 1).val; omega
  have hs : ∀ (o : Fin 4) (h : S4x64.Slices ![o.val, 0] S1x64) (d : Fin 64),
      extractStridedSlice S1x64 ![o.val, 0] (shapeCast S4x64 (View.ld x0 r0_0) shapeCasts_S4x64_S4x64) h (ix2 0 d) = x0 (ix2 o d) := fun o h d => by
    rw [extractStridedSlice_apply _ _ h (ix2 0 d) (ix2 o d) (fun a => by
      match a with
      | ⟨0, _⟩ => rfl
      | ⟨1, _⟩ => show d.val = 0 + d.val; omega), shapeCast_apply _ _ (ix2 o d) (ix2 o d) rfl, hx]
  have hsum : ∀ (o p : Fin 4) (h : S4x64.Slices ![o.val, 0] S1x64) (h' : S4x64.Slices ![p.val, 0] S1x64),
      shapeCast S1x1 (multiReduction (F := Ideal) .add [1] S1 (mulf (extractStridedSlice S1x64 ![o.val, 0] (shapeCast S4x64 (View.ld x0 r0_0) shapeCasts_S4x64_S4x64) h)
        (extractStridedSlice S1x64 ![p.val, 0] (shapeCast S4x64 (View.ld x0 r0_0) shapeCasts_S4x64_S4x64) h')) 0x00000000#32 reduces_S1x64_S1 (.inl rfl) rfl)
        shapeCasts_S1_S1x1 (ix2 0 0) = ∑ d : Fin 64, x0 (ix2 o d) * x0 (ix2 p d) := fun o p h h' => by
    rw [shapeCast_apply _ shapeCasts_S1_S1x1 (ix2 0 0) (ix1 0) (by rw [Shape.rowMajor_val_one, Shape.rowMajor_val_two]; rfl)]
    refine (Ideal.multiReduction_add_single _ _ reduces_S1x64_S1 (.inl rfl) rfl (ix1 0)).trans ?_
    refine Finset.sum_congr rfl fun d _ => ?_
    have hi : reduces_S1x64_S1.lift (ix1 0) d = ix2 0 d := funext fun a => Fin.ext (by
      rw [reduces_S1x64_S1.lift_val]
      match a with
      | ⟨0, _⟩ => rfl
      | ⟨1, _⟩ => rfl)
    rw [hi]
    exact congrArg₂ (· * ·) (hs o h d) (hs p h' d)
  unfold lamOf
  rw [← hsum 0 1 slices_S4x64_o0_0_S1x64 slices_S4x64_o1_0_S1x64, ← hsum 2 3 slices_S4x64_o2_0_S1x64 slices_S4x64_o3_0_S1x64]
  rfl

/-- The gain. -/
theorem gain_apply (x1 : Vec Ideal S1x128 .f32) (c : Fin 128) : k0_pay4 (View.ld x1 r0_1) (ix2 0 c) = x1 (ix2 0 c) := by
  unfold k0_pay4
  rw [shapeCast_apply _ _ (ix2 0 c) (ix2 0 c) rfl]
  exact View.ld_unit_apply_of x1 _ _ _ _ _ fun a => by
    match a with
    | ⟨0, _⟩ => rfl
    | ⟨1, _⟩ => show c.val = 0 + c.val; omega

/-- A head's values, ones beside them. -/
theorem joined_left (y : Vec Ideal S1x2048x128 .bf16) (t : Fin 2048) (c : Fin 128) :
    k0_pay5 (F := Ideal) y (ix2 t ⟨c.val, by omega⟩) = y (ix3 0 t c) := by
  unfold k0_pay5
  rw [concatenate_pair_apply_left 1 _ _ concatenates_S2048x128_S2048x128_S2048x256_d1 (ix2 t ⟨c.val, by omega⟩) rfl (ix2 t c) (fun a => by
      match a with
      | ⟨0, _⟩ => rfl
      | ⟨1, _⟩ => rfl)]
  exact shapeCast_apply y _ _ _ (by
    rw [Shape.rowMajor_val_three, Shape.rowMajor_val_two]
    show (0 * 2048 + t.val) * 128 + c.val = t.val * 128 + c.val
    omega)

theorem joined_right (y : Vec Ideal S1x2048x128 .bf16) (t : Fin 2048) (c : Fin 128) :
    k0_pay5 (F := Ideal) y (ix2 t ⟨128 + c.val, by omega⟩) = ((1 : ℝ) : EReal) := by
  unfold k0_pay5
  rw [concatenate_pair_apply_right 1 _ _ concatenates_S2048x128_S2048x128_S2048x256_d1 (ix2 t ⟨128 + c.val, by omega⟩) rfl rfl (ix2 t c) (fun a ha => by
      match a with
      | ⟨0, _⟩ => rfl
      | ⟨1, _⟩ => exact absurd rfl ha) (by show c.val + 128 = 128 + c.val; omega)]
  exact one_bf16

/-! ## A tile of a head -/

section
variable (x0 : Vec Ideal S4x64 .f32) (x1 : Vec Ideal S1x128 .f32) (x2 x3 : Vec Ideal S1x8x2048x64 .bf16) (x4 : Vec Ideal S1x2048x512 .bf16)
  (Q K : ℕ → ℕ → Fin 64 → ℝ) (V : ℕ → ℕ → Fin 128 → ℝ)

/-- The output block of these input blocks. -/
def outBlock : S1x2048x512.Idx → EReal := fun i =>
  out (lamOf fun a d => x0 (ix2 a d)) (fun c => x1 (ix2 0 c)) Q K V (i 1).val (i 2).val

/-- A tile's row, given its two attentions. -/
theorem tile_value (w hd : ℕ) (hhd : hd < 4) (a1 a2 : FVec Ideal S256x128 .f32)
    (h1 : ∀ (r : Fin 256) (c : Fin 128), a1 (ix2 r c) = (average (weight2 (Q (2 * hd)) (K (2 * hd)) (w + r.val)) (fun t => V hd t c) (w + r.val) : EReal))
    (h2 : ∀ (r : Fin 256) (c : Fin 128), a2 (ix2 r c) = (average (weight2 (Q (2 * hd + 1)) (K (2 * hd + 1)) (w + r.val)) (fun t => V hd t c) (w + r.val) : EReal))
    (inb : ∀ a, (![0, w, 128 * hd] : Fin 3 → ℕ) a + S1x256x128.size a ≤ S1x2048x512.size a)
    (x : (Rect.unit (s := S1x2048x512) ![0, w, 128 * hd] S1x256x128.size inb).shape.Idx) :
    normed (k0_pay4 (View.ld x1 r0_1)) (difference (k0_pay2 (View.ld x0 r0_0)) a1 a2) x
      = outBlock x0 x1 Q K V ((Rect.unit (s := S1x2048x512) ![0, w, 128 * hd] S1x256x128.size inb).emb x) := by
  obtain ⟨u, r, c, rfl⟩ : ∃ (u : Fin 1) (r : Fin 256) (c : Fin 128), x = ix3 u r c := ⟨x 0, x 1, x 2, eq_ix3 x⟩
  have e1 : (((Rect.unit (s := S1x2048x512) ![0, w, 128 * hd] S1x256x128.size inb).emb (ix3 u r c)) 1).val = w + r.val :=
    Rect.idx_unit_val (s := S1x2048x512) ![0, w, 128 * hd] S1x256x128.size inb (ix3 u r c) 1
  have e2 : (((Rect.unit (s := S1x2048x512) ![0, w, 128 * hd] S1x256x128.size inb).emb (ix3 u r c)) 2).val = 128 * hd + c.val :=
    Rect.idx_unit_val (s := S1x2048x512) ![0, w, 128 * hd] S1x256x128.size inb (ix3 u r c) 2
  have e3 : (128 * hd + c.val) / 128 = hd := by omega
  have e4 : (⟨(128 * hd + c.val) % 128, Nat.mod_lt _ (by omega)⟩ : Fin 128) = c := Fin.ext (by show (128 * hd + c.val) % 128 = c.val; omega)
  have hm : ∀ c' : Fin 128, difference (k0_pay2 (View.ld x0 r0_0)) a1 a2 (ix2 r c')
      = mixed (lamOf fun a d => x0 (ix2 a d)) (weight2 (Q (2 * hd)) (K (2 * hd)) (w + r.val)) (weight2 (Q (2 * hd + 1)) (K (2 * hd + 1)) (w + r.val)) (V hd) (w + r.val) c' := fun c' => by
    rw [difference_apply, lam_apply, h1, h2]; rfl
  unfold outBlock out
  rw [e1, e2, e4, e3, normed_apply, gain_apply, hm]
  simp only [hm]
  rfl

/-- A head's rows `w … w + n - 1` lie in the queries' (or keys') block. -/
theorem inRows (h w n : ℕ) (hh : h < 8) (hn : w + n ≤ 2048) :
    ∀ a, (![0, h, w, 0] : Fin 4 → ℕ) a + (![1, 1, n, 64] : Fin 4 → ℕ) a ≤ S1x8x2048x64.size a := fun a => by
  match a with
  | ⟨0, _⟩ => show 0 + 1 ≤ 1; omega
  | ⟨1, _⟩ => show h + 1 ≤ 8; omega
  | ⟨2, _⟩ => show w + n ≤ 2048; omega
  | ⟨3, _⟩ => show 0 + 64 ≤ 64; omega

/-- A head's columns lie in the values' block. -/
theorem inColumns (hd : ℕ) (hhd : hd < 4) : ∀ a, (![0, 0, 128 * hd] : Fin 3 → ℕ) a + S1x2048x128.size a ≤ S1x2048x512.size a := fun a => by
  match a with
  | ⟨0, _⟩ => show 0 + 1 ≤ 1; omega
  | ⟨1, _⟩ => show 0 + 2048 ≤ 2048; omega
  | ⟨2, _⟩ => show 128 * hd + 128 ≤ 512; omega

/-- A head's tile lies in the output block. -/
theorem inOut (w hd : ℕ) (hw : w + 256 ≤ 2048) (hhd : hd < 4) :
    ∀ a, (![0, w, 128 * hd] : Fin 3 → ℕ) a + S1x256x128.size a ≤ S1x2048x512.size a := fun a => by
  match a with
  | ⟨0, _⟩ => show 0 + 1 ≤ 1; omega
  | ⟨1, _⟩ => show w + 256 ≤ 2048; omega
  | ⟨2, _⟩ => show 128 * hd + 128 ≤ 512; omega

/-- The queries' (or keys') rows a tile loads. -/
theorem rows_apply (y : Vec Ideal S1x8x2048x64 .bf16) (Y : ℕ → ℕ → Fin 64 → ℝ)
    (hy : ∀ (h : Fin 8) (t : Fin 2048) (d : Fin 64), y (ix4 0 h t d) = (Y h.val t.val d : EReal)) (h w n : ℕ) (hh : h < 8) (hn : w + n ≤ 2048)
    (inb : ∀ a, (![0, h, w, 0] : Fin 4 → ℕ) a + (![1, 1, n, 64] : Fin 4 → ℕ) a ≤ S1x8x2048x64.size a) (t : Fin n) (d : Fin 64) :
    View.ld y (Rect.unit (s := S1x8x2048x64) ![0, h, w, 0] ![1, 1, n, 64] inb) (ix4 (0 : Fin 1) (0 : Fin 1) t d) = (Y h (w + t.val) d : EReal) :=
  (View.ld_unit_apply_of y _ _ _ _ (ix4 0 ⟨h, hh⟩ ⟨w + t.val, by omega⟩ d) fun a => by
    match a with
    | ⟨0, _⟩ => rfl
    | ⟨1, _⟩ => rfl
    | ⟨2, _⟩ => rfl
    | ⟨3, _⟩ => show d.val = 0 + d.val; omega).trans (hy ⟨h, hh⟩ ⟨w + t.val, by omega⟩ d)

/-- The values' columns a head loads. -/
theorem columns_apply (hv : ∀ (h : Fin 4) (t : Fin 2048) (c : Fin 128), x4 (ix3 0 t ⟨128 * h.val + c.val, by omega⟩) = (V h.val t.val c : EReal))
    (hd : ℕ) (hhd : hd < 4) (inb : ∀ a, (![0, 0, 128 * hd] : Fin 3 → ℕ) a + S1x2048x128.size a ≤ S1x2048x512.size a) (t : Fin 2048) (c : Fin 128) :
    k0_pay5 (F := Ideal) (View.ld x4 (Rect.unit (s := S1x2048x512) ![0, 0, 128 * hd] S1x2048x128.size inb)) (ix2 t ⟨c.val, by omega⟩) = (V hd t.val c : EReal) := by
  rw [joined_left]
  exact (View.ld_unit_apply_of x4 _ _ _ _ (ix3 0 t ⟨128 * hd + c.val, by omega⟩) fun a => by
    match a with
    | ⟨0, _⟩ => rfl
    | ⟨1, _⟩ => show t.val = 0 + t.val; omega
    | ⟨2, _⟩ => rfl).trans (hv ⟨hd, hhd⟩ t c)

variable {x2 x3 x4 Q K V}

/-- A LATER TILE of head `hd`, from row `w`. -/
theorem later (R : Reads x2 x3 x4 Q K V) (w : ℕ) (f : Fits w) (hw : w + 256 ≤ 2048) (hd : ℕ) (hhd : hd < 4)
    (x) (p) (hp : p
      = normed (k0_pay4 (View.ld x1 r0_1)) (difference (k0_pay2 (View.ld x0 r0_0))
        (attend w f (k0_pay3 (F := Ideal)) (k0_pay5 (View.ld x4 (Rect.unit (s := S1x2048x512) ![0, 0, 128 * hd] S1x2048x128.size (inColumns hd hhd))))
          (View.ld x2 (Rect.unit (s := S1x8x2048x64) ![0, 2 * hd, w, 0] ![1, 1, 256, 64] (inRows (2 * hd) w 256 (by omega) hw))) (View.ld x3 (Rect.unit (s := S1x8x2048x64) ![0, 2 * hd, w, 0] ![1, 1, 256, 64] (inRows (2 * hd) w 256 (by omega) hw)))
          (View.ld x3 (Rect.unit (s := S1x8x2048x64) ![0, 2 * hd, 0, 0] ![1, 1, w, 64] (inRows (2 * hd) 0 w (by omega) (by omega)))))
        (attend w f (k0_pay3 (F := Ideal)) (k0_pay5 (View.ld x4 (Rect.unit (s := S1x2048x512) ![0, 0, 128 * hd] S1x2048x128.size (inColumns hd hhd))))
          (View.ld x2 (Rect.unit (s := S1x8x2048x64) ![0, 2 * hd + 1, w, 0] ![1, 1, 256, 64] (inRows (2 * hd + 1) w 256 (by omega) hw))) (View.ld x3 (Rect.unit (s := S1x8x2048x64) ![0, 2 * hd + 1, w, 0] ![1, 1, 256, 64] (inRows (2 * hd + 1) w 256 (by omega) hw)))
          (View.ld x3 (Rect.unit (s := S1x8x2048x64) ![0, 2 * hd + 1, 0, 0] ![1, 1, w, 64] (inRows (2 * hd + 1) 0 w (by omega) (by omega))))))) :
    p x = outBlock x0 x1 Q K V ((Rect.unit (s := S1x2048x512) ![0, w, 128 * hd] S1x256x128.size (inOut w hd hw hhd)).emb x) := by
  rw [hp]
  refine tile_value x0 x1 Q K V w hd hhd _ _ (fun r c => ?_) (fun r c => ?_) (inOut w hd hw hhd) x
  · exact attend_apply w f hw _ _ _ _ _ (Q (2 * hd)) (K (2 * hd)) (V hd) bias_apply (rows_apply x2 Q R.queries _ _ _ (by omega) hw (inRows (2 * hd) w 256 (by omega) hw))
      (rows_apply x3 K R.keys _ _ _ (by omega) hw (inRows (2 * hd) w 256 (by omega) hw))
      (fun t d => (rows_apply x3 K R.keys _ 0 w (by omega) (by omega) (inRows (2 * hd) 0 w (by omega) (by omega)) t d).trans (by rw [Nat.zero_add])) (columns_apply x4 V R.values hd hhd (inColumns hd hhd)) (fun t c => joined_right _ t c) r c
  · exact attend_apply w f hw _ _ _ _ _ (Q (2 * hd + 1)) (K (2 * hd + 1)) (V hd) bias_apply (rows_apply x2 Q R.queries _ _ _ (by omega) hw (inRows (2 * hd + 1) w 256 (by omega) hw))
      (rows_apply x3 K R.keys _ _ _ (by omega) hw (inRows (2 * hd + 1) w 256 (by omega) hw))
      (fun t d => (rows_apply x3 K R.keys _ 0 w (by omega) (by omega) (inRows (2 * hd + 1) 0 w (by omega) (by omega)) t d).trans (by rw [Nat.zero_add])) (columns_apply x4 V R.values hd hhd (inColumns hd hhd)) (fun t c => joined_right _ t c) r c

/-- THE FIRST TILE of head `hd`. -/
theorem first (R : Reads x2 x3 x4 Q K V) (hd : ℕ) (hhd : hd < 4)
    (x) (p) (hp : p
      = normed (k0_pay4 (View.ld x1 r0_1)) (difference (k0_pay2 (View.ld x0 r0_0))
        (attendFirst (k0_pay3 (F := Ideal)) (k0_pay5 (View.ld x4 (Rect.unit (s := S1x2048x512) ![0, 0, 128 * hd] S1x2048x128.size (inColumns hd hhd))))
          (View.ld x2 (Rect.unit (s := S1x8x2048x64) ![0, 2 * hd, 0, 0] ![1, 1, 256, 64] (inRows (2 * hd) 0 256 (by omega) (by omega)))) (View.ld x3 (Rect.unit (s := S1x8x2048x64) ![0, 2 * hd, 0, 0] ![1, 1, 256, 64] (inRows (2 * hd) 0 256 (by omega) (by omega)))))
        (attendFirst (k0_pay3 (F := Ideal)) (k0_pay5 (View.ld x4 (Rect.unit (s := S1x2048x512) ![0, 0, 128 * hd] S1x2048x128.size (inColumns hd hhd))))
          (View.ld x2 (Rect.unit (s := S1x8x2048x64) ![0, 2 * hd + 1, 0, 0] ![1, 1, 256, 64] (inRows (2 * hd + 1) 0 256 (by omega) (by omega)))) (View.ld x3 (Rect.unit (s := S1x8x2048x64) ![0, 2 * hd + 1, 0, 0] ![1, 1, 256, 64] (inRows (2 * hd + 1) 0 256 (by omega) (by omega))))))) :
    p x = outBlock x0 x1 Q K V ((Rect.unit (s := S1x2048x512) ![0, 0, 128 * hd] S1x256x128.size (inOut 0 hd (by omega) hhd)).emb x) := by
  rw [hp]
  refine tile_value x0 x1 Q K V 0 hd hhd _ _ (fun r c => ?_) (fun r c => ?_) (inOut 0 hd (by omega) hhd) x
  · exact attendFirst_apply _ _ _ _ (Q (2 * hd)) (K (2 * hd)) (V hd) bias_apply (rows_apply x2 Q R.queries _ _ _ (by omega) (by omega) (inRows (2 * hd) 0 256 (by omega) (by omega)))
      (rows_apply x3 K R.keys _ _ _ (by omega) (by omega) (inRows (2 * hd) 0 256 (by omega) (by omega))) (columns_apply x4 V R.values hd hhd (inColumns hd hhd)) (fun t c => joined_right _ t c) r c
  · exact attendFirst_apply _ _ _ _ (Q (2 * hd + 1)) (K (2 * hd + 1)) (V hd) bias_apply (rows_apply x2 Q R.queries _ _ _ (by omega) (by omega) (inRows (2 * hd + 1) 0 256 (by omega) (by omega)))
      (rows_apply x3 K R.keys _ _ _ (by omega) (by omega) (inRows (2 * hd + 1) 0 256 (by omega) (by omega))) (columns_apply x4 V R.values hd hhd (inColumns hd hhd)) (fun t c => joined_right _ t c) r c

variable (Q K V) in
/-- A piece holds the output block's entries at its place. -/
def Agrees (p : View.Piece (Elt Ideal) S1x2048x512 .bf16) : Prop := ∀ x : p.1.shape.Idx, p.2 x = outBlock x0 x1 Q K V (p.1.emb x)

/-- Head and tail of a list of pieces. -/
theorem forall_cons {α : Type*} (P : α → Prop) {a : α} {L : List α} (h : P a) (hL : ∀ p ∈ L, P p) : ∀ p ∈ a :: L, P p := by
  intro p hp
  rcases List.mem_cons.1 hp with rfl | hp
  · exact h
  · exact hL p hp

/-! ## The whole block -/

/-- THE OUTPUT BLOCK is `outBlock`: the pieces agree with it, and they cover the block. -/
theorem out_eq (R : Reads x2 x3 x4 Q K V) : out0_5 x0 x1 x2 x3 x4 = outBlock x0 x1 Q K V := by
  funext y
  unfold out0_5
  refine View.canon_apply_of_pieces (Val := Elt Ideal) (e := .bf16) (outBlock x0 x1 Q K V) _ ?_ y (cover0_5 _ _ _ _ _ _ _ _ _ _ _ _ _ _ _ _ _ _ _ _ _ _ _ _ _ _ _ _ _ _ _ _ y)
  refine forall_cons (Agrees x0 x1 Q K V) (fun x => later x0 x1 R 1792 fits1792 (by omega) 3 (by omega) x _ (piece_7_3 x0 x1 x2 x3 x4)) ?_
  refine forall_cons (Agrees x0 x1 Q K V) (fun x => later x0 x1 R 1792 fits1792 (by omega) 2 (by omega) x _ (piece_7_2 x0 x1 x2 x3 x4)) ?_
  refine forall_cons (Agrees x0 x1 Q K V) (fun x => later x0 x1 R 1792 fits1792 (by omega) 1 (by omega) x _ (piece_7_1 x0 x1 x2 x3 x4)) ?_
  refine forall_cons (Agrees x0 x1 Q K V) (fun x => later x0 x1 R 1792 fits1792 (by omega) 0 (by omega) x _ (piece_7_0 x0 x1 x2 x3 x4)) ?_
  refine forall_cons (Agrees x0 x1 Q K V) (fun x => later x0 x1 R 1536 fits1536 (by omega) 3 (by omega) x _ (piece_6_3 x0 x1 x2 x3 x4)) ?_
  refine forall_cons (Agrees x0 x1 Q K V) (fun x => later x0 x1 R 1536 fits1536 (by omega) 2 (by omega) x _ (piece_6_2 x0 x1 x2 x3 x4)) ?_
  refine forall_cons (Agrees x0 x1 Q K V) (fun x => later x0 x1 R 1536 fits1536 (by omega) 1 (by omega) x _ (piece_6_1 x0 x1 x2 x3 x4)) ?_
  refine forall_cons (Agrees x0 x1 Q K V) (fun x => later x0 x1 R 1536 fits1536 (by omega) 0 (by omega) x _ (piece_6_0 x0 x1 x2 x3 x4)) ?_
  refine forall_cons (Agrees x0 x1 Q K V) (fun x => later x0 x1 R 1280 fits1280 (by omega) 3 (by omega) x _ (piece_5_3 x0 x1 x2 x3 x4)) ?_
  refine forall_cons (Agrees x0 x1 Q K V) (fun x => later x0 x1 R 1280 fits1280 (by omega) 2 (by omega) x _ (piece_5_2 x0 x1 x2 x3 x4)) ?_
  refine forall_cons (Agrees x0 x1 Q K V) (fun x => later x0 x1 R 1280 fits1280 (by omega) 1 (by omega) x _ (piece_5_1 x0 x1 x2 x3 x4)) ?_
  refine forall_cons (Agrees x0 x1 Q K V) (fun x => later x0 x1 R 1280 fits1280 (by omega) 0 (by omega) x _ (piece_5_0 x0 x1 x2 x3 x4)) ?_
  refine forall_cons (Agrees x0 x1 Q K V) (fun x => later x0 x1 R 1024 fits1024 (by omega) 3 (by omega) x _ (piece_4_3 x0 x1 x2 x3 x4)) ?_
  refine forall_cons (Agrees x0 x1 Q K V) (fun x => later x0 x1 R 1024 fits1024 (by omega) 2 (by omega) x _ (piece_4_2 x0 x1 x2 x3 x4)) ?_
  refine forall_cons (Agrees x0 x1 Q K V) (fun x => later x0 x1 R 1024 fits1024 (by omega) 1 (by omega) x _ (piece_4_1 x0 x1 x2 x3 x4)) ?_
  refine forall_cons (Agrees x0 x1 Q K V) (fun x => later x0 x1 R 1024 fits1024 (by omega) 0 (by omega) x _ (piece_4_0 x0 x1 x2 x3 x4)) ?_
  refine forall_cons (Agrees x0 x1 Q K V) (fun x => later x0 x1 R 768 fits768 (by omega) 3 (by omega) x _ (piece_3_3 x0 x1 x2 x3 x4)) ?_
  refine forall_cons (Agrees x0 x1 Q K V) (fun x => later x0 x1 R 768 fits768 (by omega) 2 (by omega) x _ (piece_3_2 x0 x1 x2 x3 x4)) ?_
  refine forall_cons (Agrees x0 x1 Q K V) (fun x => later x0 x1 R 768 fits768 (by omega) 1 (by omega) x _ (piece_3_1 x0 x1 x2 x3 x4)) ?_
  refine forall_cons (Agrees x0 x1 Q K V) (fun x => later x0 x1 R 768 fits768 (by omega) 0 (by omega) x _ (piece_3_0 x0 x1 x2 x3 x4)) ?_
  refine forall_cons (Agrees x0 x1 Q K V) (fun x => later x0 x1 R 512 fits512 (by omega) 3 (by omega) x _ (piece_2_3 x0 x1 x2 x3 x4)) ?_
  refine forall_cons (Agrees x0 x1 Q K V) (fun x => later x0 x1 R 512 fits512 (by omega) 2 (by omega) x _ (piece_2_2 x0 x1 x2 x3 x4)) ?_
  refine forall_cons (Agrees x0 x1 Q K V) (fun x => later x0 x1 R 512 fits512 (by omega) 1 (by omega) x _ (piece_2_1 x0 x1 x2 x3 x4)) ?_
  refine forall_cons (Agrees x0 x1 Q K V) (fun x => later x0 x1 R 512 fits512 (by omega) 0 (by omega) x _ (piece_2_0 x0 x1 x2 x3 x4)) ?_
  refine forall_cons (Agrees x0 x1 Q K V) (fun x => later x0 x1 R 256 fits256 (by omega) 3 (by omega) x _ (piece_1_3 x0 x1 x2 x3 x4)) ?_
  refine forall_cons (Agrees x0 x1 Q K V) (fun x => later x0 x1 R 256 fits256 (by omega) 2 (by omega) x _ (piece_1_2 x0 x1 x2 x3 x4)) ?_
  refine forall_cons (Agrees x0 x1 Q K V) (fun x => later x0 x1 R 256 fits256 (by omega) 1 (by omega) x _ (piece_1_1 x0 x1 x2 x3 x4)) ?_
  refine forall_cons (Agrees x0 x1 Q K V) (fun x => later x0 x1 R 256 fits256 (by omega) 0 (by omega) x _ (piece_1_0 x0 x1 x2 x3 x4)) ?_
  refine forall_cons (Agrees x0 x1 Q K V) (fun x => first x0 x1 R 3 (by omega) x _ (piece_0_3 x0 x1 x2 x3 x4)) ?_
  refine forall_cons (Agrees x0 x1 Q K V) (fun x => first x0 x1 R 2 (by omega) x _ (piece_0_2 x0 x1 x2 x3 x4)) ?_
  refine forall_cons (Agrees x0 x1 Q K V) (fun x => first x0 x1 R 1 (by omega) x _ (piece_0_1 x0 x1 x2 x3 x4)) ?_
  refine forall_cons (Agrees x0 x1 Q K V) (fun x => first x0 x1 R 0 (by omega) x _ (piece_0_0 x0 x1 x2 x3 x4)) ?_
  exact fun p hp => absurd hp List.not_mem_nil

end

end Cert.KernelIdeal.Block

end
-- ==== Proof.Array.lean ====
/-
  The kernel's result array, whole: entry `(b, t, c)` is row `t`, column `c` of the output block of batch `b`, whose
  queries, keys and values are the arguments' (the queries scaled by `(1/8) / log 2` before the call).
-/
module

public import proofs.«01_k».proof.Proof.Block
public import proofs.«01_k».proof.Proof.Gen.KernelIdeal.Value
public import Idealize.ShloMosaic.Lib.Claim

@[expose] public section

noncomputable section

open scoped BigOperators

namespace Cert.KernelIdeal.Array

open Cert.KernelIdeal Cert.KernelIdeal.Gen Idealize.ShloMosaic Idealize.ShloMosaic.ValueIdx Idealize.ShloMosaic.TcCoe
open Cert.Softmax Cert.KernelIdeal.Tile Cert.KernelIdeal.Block

/-! ## The scale -/

/-- The factor of the queries: `(1/8) / log 2`. -/
def factor : ℝ := (1 / 8) / Real.log 2

theorem eighth_f32 : Ideal.ofBits .f32 0x3E000000#32 = ((1 / 8 : ℝ) : EReal) := by
  simp [Ideal.ofBits, Ideal.ieee, -EReal.coe_mul]; norm_num
theorem two_f32 : Ideal.ofBits .f32 0x40000000#32 = ((2 : ℝ) : EReal) := by
  simp [Ideal.ofBits, Ideal.ieee, -EReal.coe_mul]; norm_num

theorem factor_eq (i : S_.Idx) :
    Host.divf (F := Ideal) (constant S_ .f32 0x3E000000#32) (Host.log (constant S_ .f32 0x40000000#32)) i = (factor : EReal) := by
  show Ideal.div (Ideal.ofBits .f32 0x3E000000#32) (Ideal.log (Ideal.ofBits .f32 0x40000000#32)) = _
  have h2 : Real.log 2 ≠ 0 := (Real.log_pos (by norm_num)).ne'
  rw [eighth_f32, two_f32, Ideal.log_coe, if_neg (by norm_num), Ideal.div, if_neg (by exact_mod_cast h2), ← EReal.coe_inv, ← EReal.coe_mul]
  rfl

/-! ## The arrays the call reads -/

variable (m : (ℓ : Loc nD τ sig) → Buf (Elt Ideal) ℓ) (c : Dev nD)

/-- The queries, the keys, the values, the four vectors and the gain, as launched. -/
abbrev argQ : S8x2048x8x64.Idx → EReal := m ((c : Thread nD τ).loc main_arg0)
abbrev argK : S8x2048x8x64.Idx → EReal := m ((c : Thread nD τ).loc main_arg1)
abbrev argV : S8x2048x512.Idx → EReal := m ((c : Thread nD τ).loc main_arg2)
abbrev arg3 : S64.Idx → EReal := m ((c : Thread nD τ).loc main_arg3)
abbrev arg4 : S64.Idx → EReal := m ((c : Thread nD τ).loc main_arg4)
abbrev arg5 : S64.Idx → EReal := m ((c : Thread nD τ).loc main_arg5)
abbrev arg6 : S64.Idx → EReal := m ((c : Thread nD τ).loc main_arg6)
abbrev argG : S128.Idx → EReal := m ((c : Thread nD τ).loc main_arg7)

/-- The four vectors as rows. -/
def rows : Fin 4 → Fin 64 → EReal
  | 0, d => arg3 m c (ix1 d)
  | 1, d => arg4 m c (ix1 d)
  | 2, d => arg5 m c (ix1 d)
  | 3, d => arg6 m c (ix1 d)

/-- One row of the four. -/
theorem row_at (a : Fin 4) (d : Fin 64) (v : EReal) (x : Vec Ideal S64 .f32) (k : ℕ) (h : a.val = k → v = x (ix1 d)) :
    PieceAt (0 : Fin S4x64.rank) (ix2 a d) v S1x64 (broadcastInDim S1x64 ![1] bcast_S64_S1x64_1 x) k := fun hk hr i _ h1 => by
  rw [h hk]
  exact (broadcastInDim_apply ![1] bcast_S64_S1x64_1 x i (ix1 d) fun b => by
    match b with
    | ⟨0, _⟩ => exact (h1 1 (by decide)).symm)

/-- The four vectors laid below one another, as the call reads them. -/
theorem V_stack : V m c main_v4 = concatenate S4x64 0 [⟨S1x64, broadcastInDim S1x64 ![1] bcast_S64_S1x64_1 (arg3 m c : Vec Ideal S64 .f32)⟩,
    ⟨S1x64, broadcastInDim S1x64 ![1] bcast_S64_S1x64_1 (arg4 m c : Vec Ideal S64 .f32)⟩,
    ⟨S1x64, broadcastInDim S1x64 ![1] bcast_S64_S1x64_1 (arg5 m c : Vec Ideal S64 .f32)⟩,
    ⟨S1x64, broadcastInDim S1x64 ![1] bcast_S64_S1x64_1 (arg6 m c : Vec Ideal S64 .f32)⟩] concatenates_S1x64_S1x64_S1x64_S1x64_S4x64_d0 := by
  unfold V hostOps0
  rw [StableHlo.after_cons, StableHlo.after_cons, StableHlo.after_cons, StableHlo.after_cons, StableHlo.after_cons]
  refine (StableHlo.after_of_forall_not_mem (b := Proc.devRef .tc main_v4) _ _ (List.forall_iff_forall_mem.mp (by
    simp only [List.Forall, StableHlo.nullary_writes, StableHlo.unary_writes, StableHlo.binary_writes, StableHlo.reshape_writes,
      Finset.mem_singleton]
    repeat' apply And.intro
    all_goals exact StableHlo.devRef_ne_of_ne (by decide)))).trans ?_
  rw [StableHlo.nary4_result]
  repeat first
    | rw [StableHlo.unary_result]
    | (rw [StableHlo.unary_result_ne]; rotate_left; decide)
  rfl

theorem V_rows (a : Fin 4) (d : Fin 64) : V m c main_v4 (ix2 a d) = rows m c a d := by
  rw [V_stack]
  refine concatenate_unit_eq _ _ _ _ _ rfl ?_
  refine concatAt_cons _ _ _ _ (row_at a d _ _ _ fun h => ?_) (concatAt_cons _ _ _ _ (row_at a d _ _ _ fun h => ?_)
    (concatAt_cons _ _ _ _ (row_at a d _ _ _ fun h => ?_) (concatAt_cons _ _ _ _ (row_at a d _ _ _ fun h => ?_) (concatAt_nil _ _ _ _))))
  · obtain rfl : a = 0 := Fin.ext h
    rfl
  · obtain rfl : a = 1 := Fin.ext h
    rfl
  · obtain rfl : a = 2 := Fin.ext h
    rfl
  · obtain rfl : a = 3 := Fin.ext h
    rfl

theorem V_gain (k : Fin 128) : V m c main_v13 (ix2 0 k) = argG m c (ix1 k) := by
  entry_read
  exact shapeCast_apply _ _ (ix2 0 k) (ix1 k) (by
    rw [Shape.rowMajor_val_one, Shape.rowMajor_val_two]; show k.val = 0 * 128 + k.val; omega)

theorem V_queries (b : Fin 8) (h : Fin 8) (t : Fin 2048) (d : Fin 64) :
    V m c main_v10 (ix4 b h t d) = argQ m c (ix4 b t h d) * (factor : EReal) := by
  entry_read
  rw [truncf_apply, transpose_apply _ _ _ (ix4 b h t d) (ix4 b t h d) (fun a => by
    match a with
    | ⟨0, _⟩ => rfl
    | ⟨1, _⟩ => rfl
    | ⟨2, _⟩ => rfl
    | ⟨3, _⟩ => rfl)]
  exact congrArg (fun y : EReal => argQ m c (ix4 b t h d) * y) (factor_eq _)

theorem V_keys (b : Fin 8) (h : Fin 8) (t : Fin 2048) (d : Fin 64) :
    V m c main_v12 (ix4 b h t d) = argK m c (ix4 b t h d) := by
  entry_read
  exact transpose_apply _ _ _ (ix4 b h t d) (ix4 b t h d) (fun a => by
    match a with
    | ⟨0, _⟩ => rfl
    | ⟨1, _⟩ => rfl
    | ⟨2, _⟩ => rfl
    | ⟨3, _⟩ => rfl)

theorem V_values (i) : V m c main_v14 i = argV m c i := by
  entry_read
  rfl

/-! ## The blocks -/

/-- Batch `t`'s blocks begin at batch `t`. -/
theorem index2 : ∀ t : Fin cfg0.N, win0_2.index t = ![t.val, 0, 0, 0] := (by decide +kernel : ∀ t : Fin grid0.N, win0_2.index t = ![t.val, 0, 0, 0])
theorem index3 : ∀ t : Fin cfg0.N, win0_3.index t = ![t.val, 0, 0, 0] := (by decide +kernel : ∀ t : Fin grid0.N, win0_3.index t = ![t.val, 0, 0, 0])
theorem index4 : ∀ t : Fin cfg0.N, win0_4.index t = ![t.val, 0, 0] := (by decide +kernel : ∀ t : Fin grid0.N, win0_4.index t = ![t.val, 0, 0])
theorem index5 : ∀ t : Fin cfg0.N, win0_5.index t = ![t.val, 0, 0] := (by decide +kernel : ∀ t : Fin grid0.N, win0_5.index t = ![t.val, 0, 0])
theorem index0 : ∀ t : Fin cfg0.N, win0_0.index t = ![0, 0] := (by decide +kernel : ∀ t : Fin grid0.N, win0_0.index t = ![0, 0])
theorem index1 : ∀ t : Fin cfg0.N, win0_1.index t = ![0, 0] := (by decide +kernel : ∀ t : Fin grid0.N, win0_1.index t = ![0, 0])

/-- The number of batches. -/
theorem points : cfg0.N = 8 := by decide +kernel

/-- The batch of a grid point. -/
def batch (t : Fin cfg0.N) : Fin 8 := ⟨t.val, points ▸ t.isLt⟩

theorem blk_rows (t : Fin cfg0.N) (a : Fin 4) (d : Fin 64) : iblk m c 0 t (ix2 a d) = rows m c a d := by
  rw [← V_rows m c]
  unfold iblk
  rw [View.read_apply]
  refine congrArg (V m c main_v4) (funext fun x => Fin.ext ?_)
  match x with
  | ⟨0, _⟩ => show win0_0.index t 0 * 4 + 1 * a.val = a.val; rw [index0]; show 0 * 4 + 1 * a.val = a.val; omega
  | ⟨1, _⟩ => show win0_0.index t 1 * 64 + 1 * d.val = d.val; rw [index0]; show 0 * 64 + 1 * d.val = d.val; omega

theorem blk_gain (t : Fin cfg0.N) (k : Fin 128) : iblk m c 1 t (ix2 0 k) = argG m c (ix1 k) := by
  rw [← V_gain m c]
  unfold iblk
  rw [View.read_apply]
  refine congrArg (V m c main_v13) (funext fun x => Fin.ext ?_)
  match x with
  | ⟨0, _⟩ => show win0_1.index t 0 * 1 + 1 * 0 = 0; rw [index1]; rfl
  | ⟨1, _⟩ => show win0_1.index t 1 * 128 + 1 * k.val = k.val; rw [index1]; show 0 * 128 + 1 * k.val = k.val; omega

theorem blk_queries (t : Fin cfg0.N) (h : Fin 8) (r : Fin 2048) (d : Fin 64) :
    iblk m c 2 t (ix4 0 h r d) = argQ m c (ix4 (batch t) r h d) * (factor : EReal) := by
  rw [← V_queries m c]
  unfold iblk
  rw [View.read_apply]
  refine congrArg (V m c main_v10) (funext fun x => Fin.ext ?_)
  match x with
  | ⟨0, _⟩ => show win0_2.index t 0 * 1 + 1 * 0 = t.val; rw [index2]; show t.val * 1 + 1 * 0 = t.val; omega
  | ⟨1, _⟩ => show win0_2.index t 1 * 8 + 1 * h.val = h.val; rw [index2]; show 0 * 8 + 1 * h.val = h.val; omega
  | ⟨2, _⟩ => show win0_2.index t 2 * 2048 + 1 * r.val = r.val; rw [index2]; show 0 * 2048 + 1 * r.val = r.val; omega
  | ⟨3, _⟩ => show win0_2.index t 3 * 64 + 1 * d.val = d.val; rw [index2]; show 0 * 64 + 1 * d.val = d.val; omega

theorem blk_keys (t : Fin cfg0.N) (h : Fin 8) (r : Fin 2048) (d : Fin 64) :
    iblk m c 3 t (ix4 0 h r d) = argK m c (ix4 (batch t) r h d) := by
  rw [← V_keys m c]
  unfold iblk
  rw [View.read_apply]
  refine congrArg (V m c main_v12) (funext fun x => Fin.ext ?_)
  match x with
  | ⟨0, _⟩ => show win0_3.index t 0 * 1 + 1 * 0 = t.val; rw [index3]; show t.val * 1 + 1 * 0 = t.val; omega
  | ⟨1, _⟩ => show win0_3.index t 1 * 8 + 1 * h.val = h.val; rw [index3]; show 0 * 8 + 1 * h.val = h.val; omega
  | ⟨2, _⟩ => show win0_3.index t 2 * 2048 + 1 * r.val = r.val; rw [index3]; show 0 * 2048 + 1 * r.val = r.val; omega
  | ⟨3, _⟩ => show win0_3.index t 3 * 64 + 1 * d.val = d.val; rw [index3]; show 0 * 64 + 1 * d.val = d.val; omega

theorem blk_values (t : Fin cfg0.N) (r : Fin 2048) (k : Fin 512) :
    iblk m c 4 t (ix3 0 r k) = argV m c (ix3 (batch t) r k) := by
  rw [← V_values m c]
  unfold iblk
  rw [View.read_apply]
  refine congrArg (V m c main_v14) (funext fun x => Fin.ext ?_)
  match x with
  | ⟨0, _⟩ => show win0_4.index t 0 * 1 + 1 * 0 = t.val; rw [index4]; show t.val * 1 + 1 * 0 = t.val; omega
  | ⟨1, _⟩ => show win0_4.index t 1 * 2048 + 1 * r.val = r.val; rw [index4]; show 0 * 2048 + 1 * r.val = r.val; omega
  | ⟨2, _⟩ => show win0_4.index t 2 * 512 + 1 * k.val = k.val; rw [index4]; show 0 * 512 + 1 * k.val = k.val; omega

/-! ## The result -/

variable (q k : Fin 8 → Fin 2048 → Fin 8 → Fin 64 → ℝ) (v : Fin 8 → Fin 2048 → Fin 512 → ℝ)

/-- The arguments hold these real queries, keys and values. -/
structure Holds : Prop where
  queries : ∀ b t h d, argQ m c (ix4 b t h d) = (q b t h d : EReal)
  keys : ∀ b t h d, argK m c (ix4 b t h d) = (k b t h d : EReal)
  values : ∀ b t x, argV m c (ix3 b t x) = (v b t x : EReal)

/-- A batch's scaled queries, by head and row. -/
def headQ (b : Fin 8) (h t : ℕ) (d : Fin 64) : ℝ := q b (Fin.ofNat 2048 t) (Fin.ofNat 8 h) d * factor
/-- A batch's keys, by head and row. -/
def headK (b : Fin 8) (h t : ℕ) (d : Fin 64) : ℝ := k b (Fin.ofNat 2048 t) (Fin.ofNat 8 h) d
/-- A batch's values, by head and row. -/
def headV (b : Fin 8) (h t : ℕ) (x : Fin 128) : ℝ := v b (Fin.ofNat 2048 t) (Fin.ofNat 512 (128 * h + x.val))

theorem ofNat_val {n : ℕ} [NeZero n] (x : Fin n) : Fin.ofNat n x.val = x := Fin.ext (Nat.mod_eq_of_lt x.isLt)

variable {m c q k v}

/-- A point's blocks hold the batch's queries, keys and values. -/
theorem reads (H : Holds m c q k v) (t : Fin cfg0.N) :
    Reads (iblk m c 2 t) (iblk m c 3 t) (iblk m c 4 t) (headQ q (batch t)) (headK k (batch t)) (headV v (batch t)) where
  queries h r d := by
    rw [blk_queries, H.queries, ← EReal.coe_mul]; unfold headQ; rw [ofNat_val, ofNat_val]
  keys h r d := by
    rw [blk_keys, H.keys]; unfold headK; rw [ofNat_val, ofNat_val]
  values h r x := by
    rw [blk_values, H.values]; unfold headV; rw [ofNat_val]
    refine congrArg (fun y => ((v (batch t) r y : ℝ) : EReal)) (Fin.ext ?_)
    show 128 * h.val + x.val = (128 * h.val + x.val) % 512
    omega

variable (m c q k v) in
/-- The result array. -/
def result : S8x2048x512.Idx → EReal := fun i =>
  out (lamOf (rows m c)) (fun x => argG m c (ix1 x)) (headQ q (i 0)) (headK k (i 0)) (headV v (i 0)) (i 1).val (i 2).val

theorem flushed_eq (H : Holds m c q k v) (t : Fin cfg0.N) (_ : (cfg0.win 5).flush t = true) :
    (dats m 0 c).flushed 5 t = ((cfg0.win 5).blk t).view.read (Elt Ideal) (result m c q k v) := by
  rw [Value.flushed5, out_eq _ _ (reads H t)]
  funext i
  rw [View.read_apply]
  show outBlock (iblk m c 0 t) (iblk m c 1 t) (headQ q (batch t)) (headK k (batch t)) (headV v (batch t)) i = _
  have e0 : (((cfg0.win 5).blk t).view.emb i 0 : Fin 8) = batch t := Fin.ext (by
    show win0_5.index t 0 * 1 + 1 * (i 0).val = t.val
    rw [index5]
    have : (i 0).val < 1 := (i 0).isLt
    show t.val * 1 + 1 * (i 0).val = t.val
    omega)
  have e1 : (((cfg0.win 5).blk t).view.emb i 1).val = (i 1).val := by
    show win0_5.index t 1 * 2048 + 1 * (i 1).val = (i 1).val
    rw [index5]
    show 0 * 2048 + 1 * (i 1).val = (i 1).val
    omega
  have e2 : (((cfg0.win 5).blk t).view.emb i 2).val = (i 2).val := by
    show win0_5.index t 2 * 512 + 1 * (i 2).val = (i 2).val
    rw [index5]
    show 0 * 512 + 1 * (i 2).val = (i 2).val
    omega
  have l : (fun a d => iblk m c 0 t (ix2 a d)) = rows m c := funext fun a => funext fun d => blk_rows m c t a d
  have g : (fun x => iblk m c 1 t (ix2 0 x)) = fun x => argG m c (ix1 x) := funext fun x => blk_gain m c t x
  unfold outBlock result
  rw [e0, e1, e2, l, g]
  rfl

/-- A batch as a point of the grid. -/
def point (b : Fin 8) : Fin cfg0.N := ⟨b.val, lt_of_lt_of_eq b.isLt points.symm⟩

theorem arr_eq (H : Holds m c q k v) : (dats m 0 c).arrAt 5 cfg0.N = result m c q k v :=
  (dats m 0 c).arrAt_eq_of_cover 5 (result m c q k v) (flushed_eq H) fun (i : S8x2048x512.Idx) =>
    ⟨point (i 0), flush0_5 _, by
      show i ∈ ((View.whole main_v15).slice (win0_5.rect (point (i 0)))).set
      rw [View.set_slice_whole, Rect.mem_set_unit]
      intro a
      have h0 : (i 0 : Nat) < 8 := (i 0).isLt
      have h1 : (i 1 : Nat) < 2048 := (i 1).isLt
      have h2 : (i 2 : Nat) < 512 := (i 2).isLt
      match a with
      | ⟨0, _⟩ =>
        show win0_5.index (point (i 0)) 0 * 1 ≤ (i 0).val ∧ (i 0).val < win0_5.index (point (i 0)) 0 * 1 + 1
        rw [index5]; show (i 0).val * 1 ≤ (i 0).val ∧ (i 0).val < (i 0).val * 1 + 1; omega
      | ⟨1, _⟩ =>
        show win0_5.index (point (i 0)) 1 * 2048 ≤ (i 1).val ∧ (i 1).val < win0_5.index (point (i 0)) 1 * 2048 + 2048
        rw [index5]; show 0 * 2048 ≤ (i 1).val ∧ (i 1).val < 0 * 2048 + 2048; omega
      | ⟨2, _⟩ =>
        show win0_5.index (point (i 0)) 2 * 512 ≤ (i 2).val ∧ (i 2).val < win0_5.index (point (i 0)) 2 * 512 + 512
        rw [index5]; show 0 * 512 ≤ (i 2).val ∧ (i 2).val < 0 * 512 + 512; omega⟩

end Cert.KernelIdeal.Array

end
-- ==== Proof.Reference.lean ====
/-
  The reference's result at an index, for real queries, keys and values and a real second weight: the same formula of
  softmax averages as the kernel's output block, with the weights `exp` of the scores over eight.
-/
module

public import proofs.«01_k».proof.Proof.Block
public import proofs.«01_k».proof.Proof.Gen.ReferenceIdeal.Read
public import Idealize.ShloMosaic.Lib.ValueIdxRank1

@[expose] public section

noncomputable section

open scoped BigOperators

namespace Cert.ReferenceIdeal.Formula

open Cert.ReferenceIdeal Cert.ReferenceIdeal.Gen Cert.ReferenceIdeal.Read Idealize.ShloMosaic Idealize.ShloMosaic.ValueIdx
open Cert.Softmax
open Cert.KernelIdeal.Tile (bot_f32 scaleOf)
open Cert.KernelIdeal.Block (mixed rowOut lamOf)

abbrev Arr4 := (⟨S8x2048x8x64, .f32⟩ : BufTy).Contents (Elt Ideal)
abbrev Arr3 := (⟨S8x2048x512, .f32⟩ : BufTy).Contents (Elt Ideal)
abbrev Arr64 := (⟨S64, .f32⟩ : BufTy).Contents (Elt Ideal)
abbrev Arr128 := (⟨S128, .f32⟩ : BufTy).Contents (Elt Ideal)

theorem zero_f32 : Ideal.ofBits .f32 0x00000000#32 = 0 := Ideal.ofBits_zero_f32
theorem eighth_f32 : Ideal.ofBits .f32 0x3E000000#32 = ((1 / 8 : ℝ) : EReal) := by
  simp [Ideal.ofBits, Ideal.ieee, -EReal.coe_mul]; norm_num
theorem negInf_f32 : Ideal.ofBits .f32 0xFF800000#32 = ⊥ := by
  simp [Ideal.ofBits, Ideal.ieee]

/-! ## The two halves of the heads -/

/-- The head of a pair's first and second attention. -/
def first (h : Fin 4) : Fin 8 := ⟨2 * h.val, by omega⟩
def second (h : Fin 4) : Fin 8 := ⟨2 * h.val + 1, by omega⟩

/-- Half `n` of the pairs of heads, read at an index. -/
theorem half_apply (n : ℕ) (hn : n < 2) (x : Arr4) (b : Fin 8) (t : Fin 2048) (h : Fin 4) (d : Fin 64) (c : Fin 8) (hc : c.val = 2 * h.val + n)
    (hs : S8x2048x4x2x64.Slices ![0, 0, 0, n, 0] S8x2048x4x1x64) :
    shapeCast S8x2048x4x64 (extractStridedSlice S8x2048x4x1x64 ![0, 0, 0, n, 0]
      (shapeCast S8x2048x4x2x64 x shapeCasts_S8x2048x8x64_S8x2048x4x2x64) hs) shapeCasts_S8x2048x4x1x64_S8x2048x4x64 (ix4 b t h d)
      = x (ix4 b t c d) := by
  refine (shapeCast_apply _ _ (ix4 b t h d) (ix5 b t h 0 d) (by
      rw [Shape.rowMajor_val_five, Shape.rowMajor_val_four]
      show (((b.val * 2048 + t.val) * 4 + h.val) * 1 + 0) * 64 + d.val = ((b.val * 2048 + t.val) * 4 + h.val) * 64 + d.val
      omega)).trans ?_
  refine (extractStridedSlice_apply ![0, 0, 0, n, 0] _ hs (ix5 b t h 0 d) (ix5 b t h ⟨n, hn⟩ d) (fun a => by
      match a with
      | ⟨0, _⟩ => show b.val = 0 + b.val; omega
      | ⟨1, _⟩ => show t.val = 0 + t.val; omega
      | ⟨2, _⟩ => show h.val = 0 + h.val; omega
      | ⟨3, _⟩ => show n = n + 0; omega
      | ⟨4, _⟩ => show d.val = 0 + d.val; omega)).trans ?_
  exact shapeCast_apply _ _ (ix5 b t h ⟨n, hn⟩ d) (ix4 b t c d) (by
      rw [Shape.rowMajor_val_five, Shape.rowMajor_val_four]
      show ((b.val * 2048 + t.val) * 8 + c.val) * 64 + d.val = (((b.val * 2048 + t.val) * 4 + h.val) * 2 + n) * 64 + d.val
      rw [hc]; omega)

/-- The queries' (keys') first half. -/
theorem v19_at (x : Arr4) (b : Fin 8) (t : Fin 2048) (h : Fin 4) (d : Fin 64) :
    val_main_v19 (F := Ideal) x (ix4 b t h d) = x (ix4 b t (first h) d) :=
  half_apply 0 (by omega) x b t h d (first h) rfl _
theorem v21_at (x : Arr4) (b : Fin 8) (t : Fin 2048) (h : Fin 4) (d : Fin 64) :
    val_main_v21 (F := Ideal) x (ix4 b t h d) = x (ix4 b t (first h) d) :=
  half_apply 0 (by omega) x b t h d (first h) rfl _
/-- The second half. -/
theorem v38_at (x : Arr4) (b : Fin 8) (t : Fin 2048) (h : Fin 4) (d : Fin 64) :
    val_main_v38 (F := Ideal) x (ix4 b t h d) = x (ix4 b t (second h) d) :=
  half_apply 1 (by omega) x b t h d (second h) rfl _
theorem v40_at (x : Arr4) (b : Fin 8) (t : Fin 2048) (h : Fin 4) (d : Fin 64) :
    val_main_v40 (F := Ideal) x (ix4 b t h d) = x (ix4 b t (second h) d) :=
  half_apply 1 (by omega) x b t h d (second h) rfl _

/-- The other head of a head's pair. -/
def other (c : Fin 8) : Fin 8 := if c.val % 2 = 0 then Fin.ofNat 8 (c.val + 1) else Fin.ofNat 8 (c.val - 1)

theorem other_first (h : Fin 4) : other (first h) = second h := by
  revert h; decide

/-- An array with the two heads of each pair exchanged. -/
def swap (x : Arr4) : Arr4 := fun i => x (ix4 (i 0) (i 1) (other (i 2)) (i 3))

theorem v38_swap (x : Arr4) : val_main_v38 (F := Ideal) x = val_main_v19 (F := Ideal) (swap x) := funext fun i => by
  obtain ⟨b, t, h, d, rfl⟩ : ∃ b t h d, i = ix4 b t h d := ⟨_, _, _, _, eq_ix4 i⟩
  rw [v38_at, v19_at]
  show _ = x (ix4 b t (other (first h)) d)
  rw [other_first]
theorem v40_swap (x : Arr4) : val_main_v40 (F := Ideal) x = val_main_v21 (F := Ideal) (swap x) := funext fun i => by
  obtain ⟨b, t, h, d, rfl⟩ : ∃ b t h d, i = ix4 b t h d := ⟨_, _, _, _, eq_ix4 i⟩
  rw [v40_at, v21_at]
  show _ = x (ix4 b t (other (first h)) d)
  rw [other_first]

/-- The second softmax is the first of the arrays with the heads of each pair exchanged. -/
theorem v55_swap (x0 x1 : Arr4) : val_main_v55 (F := Ideal) x0 x1 = val_main_v36 (F := Ideal) (swap x0) (swap x1) := by
  have e41 : val_main_v41 (F := Ideal) x0 x1 = val_main_v22 (F := Ideal) (swap x0) (swap x1) := by
    unfold val_main_v41 val_main_v22; rw [v38_swap, v40_swap]
  have e43 : val_main_v43 (F := Ideal) x0 x1 = val_main_v24 (F := Ideal) (swap x0) (swap x1) := by
    unfold val_main_v43 val_main_v24; rw [e41]; rfl
  have e44 : val_main_v44 (F := Ideal) x0 x1 = val_main_v25 (F := Ideal) (swap x0) (swap x1) := by
    unfold val_main_v44 val_main_v25; rw [e43]; rfl
  have e45 : val_main_v45 (F := Ideal) x0 x1 = val_main_v26 (F := Ideal) (swap x0) (swap x1) := by
    unfold val_main_v45 val_main_v26; rw [e44]; rfl
  have e49 : val_main_v49 (F := Ideal) x0 x1 = val_main_v30 (F := Ideal) (swap x0) (swap x1) := by
    unfold val_main_v49 val_main_v30 val_main_v48 val_main_v29 val_main_v47 val_main_v28; rw [e45]; rfl
  have e51 : val_main_v51 (F := Ideal) x0 x1 = val_main_v32 (F := Ideal) (swap x0) (swap x1) := by
    unfold val_main_v51 val_main_v32 val_main_v50 val_main_v31; rw [e44, e49]
  unfold val_main_v55 val_main_v36 val_main_v54 val_main_v35 val_main_v53 val_main_v34 val_main_v52 val_main_v33
  rw [e51]; rfl

/-! ## One softmax -/

/-- The scores of a row of head `c`, the keys as naturals. -/
def dotOf (q k : Fin 8 → Fin 2048 → Fin 8 → Fin 64 → ℝ) (b c : Fin 8) (r : Fin 2048) (t : ℕ) : ℝ :=
  (∑ d, q b r c d * k b (Fin.ofNat 2048 t) c d) * (1 / 8)

/-- The arrays hold these real queries and keys. -/
structure Reals (x0 x1 : Arr4) (q k : Fin 8 → Fin 2048 → Fin 8 → Fin 64 → ℝ) : Prop where
  queries : ∀ b t h d, x0 (ix4 b t h d) = (q b t h d : EReal)
  keys : ∀ b t h d, x1 (ix4 b t h d) = (k b t h d : EReal)

variable {x0 x1 : Arr4} {q k : Fin 8 → Fin 2048 → Fin 8 → Fin 64 → ℝ}

theorem ofNat_val {n : ℕ} [NeZero n] (x : Fin n) : Fin.ofNat n x.val = x := Fin.ext (Nat.mod_eq_of_lt x.isLt)

theorem v24_at (H : Reals x0 x1 q k) (b : Fin 8) (h : Fin 4) (r t : Fin 2048) :
    val_main_v24 (F := Ideal) x0 x1 (ix4 b h r t) = (dotOf q k b (first h) r t.val : EReal) := by
  have e : val_main_v22 (F := Ideal) x0 x1 (ix4 b h r t) = ((∑ d, q b r (first h) d * k b (Fin.ofNat 2048 t.val) (first h) d : ℝ) : EReal) := by
    rw [val_main_v22_apply, coe_sum]
    refine Finset.sum_congr rfl fun d _ => ?_
    rw [ofNat_val, EReal.coe_mul, ← H.queries, ← H.keys, ← v19_at x0, ← v21_at x1]
    refine congrArg₂ (· * ·) (congrArg (val_main_v19 (F := Ideal) x0) (funext fun a => ?_)) (congrArg (val_main_v21 (F := Ideal) x1) (funext fun a => ?_))
    · match a with
      | ⟨0, _⟩ => rfl
      | ⟨1, _⟩ => rfl
      | ⟨2, _⟩ => rfl
      | ⟨3, _⟩ => rfl
    · match a with
      | ⟨0, _⟩ => rfl
      | ⟨1, _⟩ => rfl
      | ⟨2, _⟩ => rfl
      | ⟨3, _⟩ => rfl
  have e8 : val_main_v23 (F := Ideal) (ix4 b h r t) = ((1 / 8 : ℝ) : EReal) := by
    rw [val_main_v23_apply]; exact eighth_f32
  rw [val_main_v24_apply, e, e8]
  show (_ : EReal) * _ = _
  rw [← EReal.coe_mul]; rfl

/-- The causal mask's bit. -/
theorem mask_at (b : Fin 8) (h : Fin 4) (r t : Fin 2048) :
    val_main_call0_v1 (F := Ideal) (ix4 b h r t) = if t.val ≤ r.val then 1#1 else 0#1 := by
  rw [val_main_call0_v1_apply, val_main_v9_apply, val_main_v8_apply, val_main_v6_apply, val_main_v4_apply, val_main_v3_apply,
    val_main_v7_apply, val_main_v5_apply, val_main_v3_apply]
  show IntOp.cmpi .sle (BitVec.ofNat 32 t.val) (BitVec.ofNat 32 r.val) = _
  have h2 : r.val < 2048 := r.isLt
  have h3 : t.val < 2048 := t.isLt
  have hle : (BitVec.ofNat 32 t.val).toInt ≤ (BitVec.ofNat 32 r.val).toInt ↔ t.val ≤ r.val := by
    rw [BitVec.toInt_eq_toNat_cond, BitVec.toInt_eq_toNat_cond, BitVec.toNat_ofNat, BitVec.toNat_ofNat]
    rw [Nat.mod_eq_of_lt (by omega), Nat.mod_eq_of_lt (by omega), if_pos (by omega), if_pos (by omega)]
    omega
  by_cases hh : t.val ≤ r.val
  · rw [if_pos hh]
    simp [IntOp.cmpi, BitVec.sle, hle, hh]
  · rw [if_neg hh]
    simp [IntOp.cmpi, BitVec.sle, hle, hh]

theorem v25_at (H : Reals x0 x1 q k) (b : Fin 8) (h : Fin 4) (r t : Fin 2048) :
    val_main_v25 (F := Ideal) x0 x1 (ix4 b h r t) = masked r.val (dotOf q k b (first h) r) t.val := by
  rw [val_main_v25_apply, mask_at, v24_at H]
  have eb : val_main_call0_v2 (F := Ideal) (ix4 b h r t) = (⊥ : EReal) := by
    rw [val_main_call0_v2_apply, val_main_call0_v0_apply, val_main_cst_3_apply]; exact negInf_f32
  rw [eb]
  unfold masked
  by_cases hh : t.val ≤ r.val
  · rw [if_pos hh, if_pos hh]; exact select_one _ _
  · rw [if_neg hh, if_neg hh]; exact select_zero _ _

/-- The number subtracted from a row's scores is real. -/
theorem v30_at (H : Reals x0 x1 q k) (b : Fin 8) (h : Fin 4) (r : Fin 2048) :
    ∃ M : ℝ, ∀ t : Fin 2048, val_main_v30 (F := Ideal) x0 x1 (ix4 b h r t) = (M : EReal) := by
  obtain ⟨M, hM⟩ := masked_max_real 2048 r.val r.isLt (dotOf q k b (first h) r)
  refine ⟨M, fun t => ?_⟩
  have e26 : val_main_v26 (F := Ideal) x0 x1 (ix3 b h r) = (M : EReal) := by
    rw [← hM]
    unfold val_main_v26
    have hr : S8x4x2048x2048.Reduces [3] S8x4x2048 := by decide
    rw [Host.reduce_eq_fold_single FloatOps.maximumf _ _ _ hr h_S_ (ix3 b h r)]
    rw [show val_main_cst_4 (F := Ideal) (Shape.Idx.first h_S_) = (⊥ : EReal) from negInf_f32]
    refine congrArg (fun f => Finset.univ.fold (max : EReal → EReal → EReal) ⊥ f) (funext fun t => ?_)
    exact (congrArg (val_main_v25 (F := Ideal) x0 x1) (funext fun a => Fin.ext (by
      match a with
      | ⟨0, _⟩ => rfl
      | ⟨1, _⟩ => rfl
      | ⟨2, _⟩ => rfl
      | ⟨3, _⟩ => rfl))).trans (v25_at H b h r t)
  rw [val_main_v30_apply, val_main_v29_apply, val_main_v28_apply, val_main_v27_apply, val_main_cst_5_apply,
    show FloatOps.ofBits (F := Ideal) .f32 0xFF800000#32 = (⊥ : EReal) from negInf_f32]
  rw [show idx_main_v29 (idx_main_v30 (ix4 b h r t)) = ix3 b h r from funext fun a => by
    match a with
    | ⟨0, _⟩ => rfl
    | ⟨1, _⟩ => rfl
    | ⟨2, _⟩ => rfl, e26]
  exact max_eq_right bot_le

/-- The softmax weights. -/
theorem v36_at (H : Reals x0 x1 q k) (b : Fin 8) (h : Fin 4) (r t : Fin 2048) :
    val_main_v36 (F := Ideal) x0 x1 (ix4 b h r t) = (weight (fun u => Real.exp (dotOf q k b (first h) r u)) r.val t.val : EReal) := by
  obtain ⟨M, hM⟩ := v30_at H b h r
  have e32 : ∀ t : Fin 2048, val_main_v32 (F := Ideal) x0 x1 (ix4 b h r t)
      = Ideal.exp (masked r.val (dotOf q k b (first h) r) t.val - (M : EReal)) := fun t => by
    rw [val_main_v32_apply, val_main_v31_apply, hM, v25_at H]; rfl
  have e35 : val_main_v35 (F := Ideal) x0 x1 (ix4 b h r t)
      = ∑ u : Fin 2048, Ideal.exp (masked r.val (dotOf q k b (first h) r) u.val - (M : EReal)) := by
    rw [val_main_v35_apply, val_main_v34_apply, val_main_v33_apply, val_main_cst_6_apply,
      show FloatOps.ofBits (F := Ideal) .f32 0x00000000#32 = (0 : EReal) from zero_f32, zero_add]
    refine Finset.sum_congr rfl fun u _ => ?_
    rw [← e32 u]
    exact congrArg (val_main_v32 (F := Ideal) x0 x1) (funext fun a => by
      match a with
      | ⟨0, _⟩ => rfl
      | ⟨1, _⟩ => rfl
      | ⟨2, _⟩ => rfl
      | ⟨3, _⟩ => rfl)
  rw [val_main_v36_apply, e32, e35]
  exact weight_eq 2048 r.val r.isLt (dotOf q k b (first h) r) t.val M

/-- The weights of the second attention. -/
theorem v55_at (H : Reals x0 x1 q k) (b : Fin 8) (h : Fin 4) (r t : Fin 2048) :
    val_main_v55 (F := Ideal) x0 x1 (ix4 b h r t) = (weight (fun u => Real.exp (dotOf q k b (second h) r u)) r.val t.val : EReal) := by
  rw [v55_swap]
  have H' : Reals (swap x0) (swap x1) (fun b t c => q b t (other c)) (fun b t c => k b t (other c)) :=
    ⟨fun b t c d => H.queries b t (other c) d, fun b t c d => H.keys b t (other c) d⟩
  rw [v36_at H' b h r t]
  unfold dotOf
  simp only [other_first]

/-! ## The second attention's weight -/

/-- The four vectors as rows. -/
def vectors (x3 x4 x5 x6 : Arr64) : Fin 4 → Fin 64 → EReal
  | 0, d => x3 (ix1 d)
  | 1, d => x4 (ix1 d)
  | 2, d => x5 (ix1 d)
  | 3, d => x6 (ix1 d)

variable (x3 x4 x5 x6 : Arr64)

theorem sum_vec (f : S64.Idx → EReal) : ∑ j : S64.Idx, f j = ∑ d : Fin 64, f (ix1 d) :=
  (Equiv.sum_comp idxEquiv1.symm f).symm

theorem v17_at (i : S_.Idx) : val_main_v17 (F := Ideal) x3 x4 x5 x6 i = lamOf (vectors x3 x4 x5 x6) := by
  rw [val_main_v17_apply, val_main_v16_apply, val_main_v12_apply, val_main_v15_apply, val_main_v11_apply, val_main_v14_apply,
    val_main_cst_apply, val_main_cst_0_apply, show FloatOps.ofBits (F := Ideal) .f32 0x00000000#32 = (0 : EReal) from zero_f32, zero_add,
    zero_add, sum_vec, sum_vec]
  rfl

/-! ## The difference and its normalisation -/

variable {x2 : Arr3} {v : Fin 8 → Fin 2048 → Fin 512 → ℝ} {l : ℝ} (x7 : Arr128)

/-- A head's values. -/
def valuesOf (v : Fin 8 → Fin 2048 → Fin 512 → ℝ) (b : Fin 8) (h t : ℕ) (x : Fin 128) : ℝ :=
  v b (Fin.ofNat 2048 t) (Fin.ofNat 512 (128 * h + x.val))

theorem v2_at (hv : ∀ b t x, x2 (ix3 b t x) = (v b t x : EReal)) (b : Fin 8) (t : Fin 2048) (h : Fin 4) (x : Fin 128) :
    val_main_v2 (F := Ideal) x2 (ix4 b t h x) = (valuesOf v b h.val t.val x : EReal) := by
  unfold val_main_v2 valuesOf
  rw [ofNat_val, ← hv]
  exact shapeCast_apply _ _ (ix4 b t h x) (ix3 b t (Fin.ofNat 512 (128 * h.val + x.val))) (by
    rw [Shape.rowMajor_val_three, Shape.rowMajor_val_four]
    show (b.val * 2048 + t.val) * 512 + (128 * h.val + x.val) % 512 = ((b.val * 2048 + t.val) * 4 + h.val) * 128 + x.val
    omega)

/-- The weights `exp` of a row's scores. -/
def weightE (q k : Fin 8 → Fin 2048 → Fin 8 → Fin 64 → ℝ) (b c : Fin 8) (r : Fin 2048) (t : ℕ) : ℝ := Real.exp (dotOf q k b c r t)

theorem v60_at (H : Reals x0 x1 q k) (hv : ∀ b t x, x2 (ix3 b t x) = (v b t x : EReal)) (hl : lamOf (vectors x3 x4 x5 x6) = (l : EReal))
    (b : Fin 8) (r : Fin 2048) (h : Fin 4) (x : Fin 128) :
    val_main_v60 (F := Ideal) x0 x1 x2 x3 x4 x5 x6 (ix4 b r h x)
      = mixed (l : EReal) (weightE q k b (first h) r) (weightE q k b (second h) r) (valuesOf v b h.val) r.val x := by
  have e58 : ∀ t : Fin 2048, val_main_v58 (F := Ideal) x0 x1 x3 x4 x5 x6 (ix4 b h r t)
      = ((weight (weightE q k b (first h) r) r.val t.val - l * weight (weightE q k b (second h) r) r.val t.val : ℝ) : EReal) := fun t => by
    rw [val_main_v58_apply, val_main_v57_apply, val_main_v56_apply, v17_at, hl, v36_at H, v55_at H, EReal.coe_sub, EReal.coe_mul]
    rfl
  rw [val_main_v60_apply, val_main_v59_apply]
  have e : ∀ t : Fin 2048, val_main_v2 (F := Ideal) x2 (lidx_main_v59 (idx_main_v60 (ix4 b r h x)) t)
      * val_main_v58 (F := Ideal) x0 x1 x3 x4 x5 x6 (ridx_main_v59 (idx_main_v60 (ix4 b r h x)) t)
      = ((weight (weightE q k b (first h) r) r.val t.val * valuesOf v b h.val t.val x
          - l * (weight (weightE q k b (second h) r) r.val t.val * valuesOf v b h.val t.val x) : ℝ) : EReal) := fun t => by
    rw [show lidx_main_v59 (idx_main_v60 (ix4 b r h x)) t = ix4 b t h x from funext fun a => by
      match a with
      | ⟨0, _⟩ => rfl
      | ⟨1, _⟩ => rfl
      | ⟨2, _⟩ => rfl
      | ⟨3, _⟩ => rfl, v2_at hv, show ridx_main_v59 (idx_main_v60 (ix4 b r h x)) t = ix4 b h r t from funext fun a => by
      match a with
      | ⟨0, _⟩ => rfl
      | ⟨1, _⟩ => rfl
      | ⟨2, _⟩ => rfl
      | ⟨3, _⟩ => rfl, e58, ← EReal.coe_mul]
    refine congrArg (fun y : ℝ => (y : EReal)) ?_
    show valuesOf v b h.val t.val x * _ = _
    ring
  refine (Finset.sum_congr rfl fun t _ => e t).trans ?_
  rw [← coe_sum, Finset.sum_sub_distrib, ← Finset.mul_sum, sum_weight 2048 r.val r.isLt (weightE q k b (first h) r) fun t => valuesOf v b h.val t x,
    sum_weight 2048 r.val r.isLt (weightE q k b (second h) r) fun t => valuesOf v b h.val t x, EReal.coe_sub, EReal.coe_mul]
  rfl

theorem v75_at (H : Reals x0 x1 q k) (hv : ∀ b t x, x2 (ix3 b t x) = (v b t x : EReal)) (hl : lamOf (vectors x3 x4 x5 x6) = (l : EReal))
    (b : Fin 8) (r : Fin 2048) (h : Fin 4) (x : Fin 128) :
    val_main_v75 (F := Ideal) x0 x1 x2 x3 x4 x5 x6 x7 (ix4 b r h x)
      = rowOut (l : EReal) (fun c => x7 (ix1 c)) (weightE q k b (first h) r) (weightE q k b (second h) r) (valuesOf v b h.val) r.val x := by
  have e68 : val_main_v69 (F := Ideal) x0 x1 x2 x3 x4 x5 x6 (ix4 b r h x)
      = scaleOf (Ideal.ofBits .f32 0x43000000#32) (Ideal.ofBits .f32 0x3727C5AC#32)
        (mixed (l : EReal) (weightE q k b (first h) r) (weightE q k b (second h) r) (valuesOf v b h.val) r.val) := by
    rw [val_main_v69_apply, val_main_v68_apply, val_main_v67_apply, val_main_v66_apply, val_main_cst_14_apply, val_main_v65_apply,
      val_main_v64_apply, val_main_cst_13_apply, val_main_v63_apply, val_main_v62_apply, val_main_cst_12_apply,
      show FloatOps.ofBits (F := Ideal) .f32 0x00000000#32 = (0 : EReal) from zero_f32, zero_add]
    have es : ∀ c : Fin 128, val_main_v61 (F := Ideal) x0 x1 x2 x3 x4 x5 x6 (idx_main_v62 (idx_main_v63 (idx_main_v69 (ix4 b r h x))) c)
        = mixed (l : EReal) (weightE q k b (first h) r) (weightE q k b (second h) r) (valuesOf v b h.val) r.val c
          * mixed (l : EReal) (weightE q k b (first h) r) (weightE q k b (second h) r) (valuesOf v b h.val) r.val c := fun c => by
      rw [val_main_v61_apply, show idx_main_v62 (idx_main_v63 (idx_main_v69 (ix4 b r h x))) c = ix4 b r h c from funext fun a => by
        match a with
        | ⟨0, _⟩ => rfl
        | ⟨1, _⟩ => rfl
        | ⟨2, _⟩ => rfl
        | ⟨3, _⟩ => rfl, v60_at x3 x4 x5 x6 H hv hl]
      rfl
    rw [Finset.sum_congr rfl fun c _ => es c]
    rfl
  rw [val_main_v75_apply, val_main_v74_apply, val_main_cst_15_apply, val_main_v73_apply, val_main_v72_apply, val_main_v71_apply,
    val_main_v70_apply, e68, v60_at x3 x4 x5 x6 H hv hl]
  refine congrArg (fun y : EReal => mixed (l : EReal) (weightE q k b (first h) r) (weightE q k b (second h) r) (valuesOf v b h.val) r.val x
    * scaleOf (Ideal.ofBits .f32 0x43000000#32) (Ideal.ofBits .f32 0x3727C5AC#32)
      (mixed (l : EReal) (weightE q k b (first h) r) (weightE q k b (second h) r) (valuesOf v b h.val) r.val)
    * y * Ideal.ofBits .f32 0x3F4CCCCD#32) (congrArg x7 (funext fun a => ?_))
  match a with
  | ⟨0, _⟩ => rfl

/-- The reference's result at an index. -/
theorem v77_at (H : Reals x0 x1 q k) (hv : ∀ b t x, x2 (ix3 b t x) = (v b t x : EReal)) (hl : lamOf (vectors x3 x4 x5 x6) = (l : EReal))
    (b : Fin 8) (r : Fin 2048) (h : Fin 4) (x : Fin 128) (y : Fin 512) (hy : y.val = 128 * h.val + x.val) :
    val_main_v77 (F := Ideal) x0 x1 x2 x3 x4 x5 x6 x7 (ix3 b r y)
      = rowOut (l : EReal) (fun c => x7 (ix1 c)) (weightE q k b (first h) r) (weightE q k b (second h) r) (valuesOf v b h.val) r.val x := by
  rw [← v75_at x3 x4 x5 x6 x7 H hv hl b r h x]
  refine (val_main_v77_apply x0 x1 x2 x3 x4 x5 x6 x7 _).trans ?_
  show val_main_v76 (F := Ideal) x0 x1 x2 x3 x4 x5 x6 x7 (ix3 b r y) = _
  unfold val_main_v76
  exact shapeCast_apply _ _ (ix3 b r y) (ix4 b r h x) (by
    rw [Shape.rowMajor_val_three, Shape.rowMajor_val_four]
    show ((b.val * 2048 + r.val) * 4 + h.val) * 128 + x.val = (b.val * 2048 + r.val) * 512 + y.val
    omega)

end Cert.ReferenceIdeal.Formula

end
-- ==== Proof.Finite.lean ====
/-
  The precondition read: where `finite` holds, every element of the queries, the keys, the values and the four vectors
  is a real number.
-/
module

public import proofs.«01_k».proof.Pre_finite
public import Idealize.ShloMosaic.Lib.ReduceAll
public import Idealize.ShloMosaic.Lib.Affine
public import Idealize.ShloMosaic.Lib.ValueIdx
public import Idealize.ShloMosaic.Lib.IdealHost

@[expose] public section

noncomputable section

namespace Cert.Pre_finite.Read

open Cert.Pre_finite Idealize.ShloMosaic

theorem facts : Facts where
  bcast_S_S8x2048x8x64 := by decide
  reducesTo_S8x2048x8x64_S_d0_1_2_3 := by decide
  h_S_ := by decide
  bcast_S_S8x2048x512 := by decide
  reducesTo_S8x2048x512_S_d0_1_2 := by decide
  bcast_S_S64 := by decide
  reducesTo_S64_S_d0 := by decide

attribute [instance] facts

instance : Subsingleton S_.Idx := ⟨fun _ _ => funext fun a => a.elim0⟩

theorem inf_f32 : Ideal.ofBits .f32 0x7F800000#32 = ⊤ := by
  simp [Ideal.ofBits, Ideal.ieee]

/-- An extended real whose absolute value is below `+∞` is real. -/
theorem real_of_abs (x : EReal) (h : FloatOps.cmpf (F := Ideal) (φ := .f32) .olt (FloatOps.hostAbsf (F := Ideal) (φ := .f32) x) (Ideal.ofBits .f32 0x7F800000#32) = 1#1) :
    ∃ r : ℝ, x = r := by
  rw [inf_f32, Ideal.hostAbsf_def] at h
  induction x using EReal.rec with
  | bot => exact absurd h (by simp [FloatOps.cmpf, FloatOps.absf, Ideal.cmp])
  | top => exact absurd h (by simp [FloatOps.cmpf, FloatOps.absf, Ideal.cmp])
  | coe r => exact ⟨r, rfl⟩

/-- One array's check: every element is real. -/
theorem reals {s : Shape} {axes : List (Fin s.rank)} (x : FVec Ideal s .f32) (hb : S_.BroadcastsInDim s (![] : Fin 0 → Fin s.rank))
    (hr : s.ReducesTo axes S_) (hu : 0 < S_.numel) (j : S_.Idx)
    (h : Host.reduce IntOp.andi (cmpf .olt (Host.absf x) (broadcastInDim s ![] hb (constant (F := Ideal) S_ .f32 0x7F800000#32))) (constantI S_ 1 1#1) hr hu j = 1#1)
    (i : s.Idx) : ∃ r : ℝ, x i = (r : EReal) :=
  real_of_abs (x i) (Host.reduce_andi_all _ _ hr hu j h i)

/-- What the precondition says of the seven arrays. -/
theorem reals_of_finite (a0 a1 : FVec Ideal S8x2048x8x64 .f32) (a2 : FVec Ideal S8x2048x512 .f32) (a3 a4 a5 a6 : FVec Ideal S64 .f32)
    (a7 : FVec Ideal S128 .f32) (j : S_.Idx) (h : fn (F := Ideal) a0 a1 a2 a3 a4 a5 a6 a7 j = 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal))
      ∧ ∀ i, ∃ r : ℝ, a6 i = (r : EReal) := by
  obtain ⟨h, h6⟩ := IntOp.andi_eq_one.1 h
  obtain ⟨h, h5⟩ := IntOp.andi_eq_one.1 h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨reals a0 _ _ _ j h0, reals a1 _ _ _ j h1, reals a2 _ _ _ j h2, reals a3 _ _ _ j h3, reals a4 _ _ _ j h4, reals a5 _ _ _ j h5,
    reals a6 _ _ _ j h6⟩

end Cert.Pre_finite.Read

end
-- ==== Proof.Equation.lean ====
/-
  The kernel's result array is the reference's: their weights agree, `2 ^ (s / (8 log 2)) = exp (s / 8)`, and so do the
  averages made of them.
-/
module

public import proofs.«01_k».proof.Proof.Array
public import proofs.«01_k».proof.Proof.Reference
public import proofs.«01_k».proof.Proof.Finite

@[expose] public section

noncomputable section

open scoped BigOperators

namespace Cert.Equation

open Idealize.ShloMosaic Idealize.ShloMosaic.ValueIdx Idealize.ShloMosaic.TcCoe
open Cert.Softmax Cert.KernelIdeal.Block Cert.KernelIdeal.Array Cert.ReferenceIdeal.Formula
open Cert.KernelIdeal (nD τ sig)
open Cert.KernelIdeal.Tile (score)

/-- The kernel's weights to base 2 are the reference's weights to base `e`. -/
theorem weights_eq (q k : Fin 8 → Fin 2048 → Fin 8 → Fin 64 → ℝ) (b c : Fin 8) (r : Fin 2048) (n : ℕ) (hn : n = c.val) :
    weight2 (headQ q b n) (headK k b n) r.val = weightE q k b c r := by
  subst hn
  funext t
  unfold weight2 weightE dotOf score headQ headK
  rw [Real.rpow_def_of_pos two_pos, Cert.KernelIdeal.Array.ofNat_val, Cert.KernelIdeal.Array.ofNat_val]
  refine congrArg Real.exp ?_
  rw [Finset.mul_sum, Finset.sum_mul]
  refine Finset.sum_congr rfl fun d _ => ?_
  have h2 : Real.log 2 ≠ 0 := (Real.log_pos (by norm_num)).ne'
  unfold factor
  field_simp

/-- The second attention's weight is real where the four vectors are. -/
theorem lam_real (x : Fin 4 → Fin 64 → EReal) (h : ∀ a d, ∃ r : ℝ, x a d = (r : EReal)) : ∃ l : ℝ, lamOf x = (l : EReal) := by
  choose f hf using h
  have hc : Ideal.ofBits .f32 0x3E4CCCCD#32 ≠ ⊥ ∧ Ideal.ofBits .f32 0x3E4CCCCD#32 ≠ ⊤ := by
    constructor <;> simp [Ideal.ofBits, Ideal.ieee, -EReal.coe_mul]
  obtain ⟨κ, hκ⟩ := exists_real_of_bounds hc.1 hc.2
  refine ⟨Real.exp (∑ d, f 0 d * f 1 d) - Real.exp (∑ d, f 2 d * f 3 d) + κ, ?_⟩
  unfold lamOf
  simp only [hf, hκ, ← EReal.coe_mul, ← coe_sum, Ideal.exp_coe, ← EReal.coe_sub, ← EReal.coe_add]

variable (m : (ℓ : Loc nD τ sig) → Buf (Elt Ideal) ℓ) (c : Dev nD)

/-- The kernel's rows of vectors are the reference's. -/
theorem rows_eq : rows m c = vectors (arg3 m c) (arg4 m c) (arg5 m c) (arg6 m c) := funext fun a => funext fun d => by
  match a with
  | ⟨0, _⟩ => rfl
  | ⟨1, _⟩ => rfl
  | ⟨2, _⟩ => rfl
  | ⟨3, _⟩ => rfl

/-- Where the precondition holds the kernel's array is the reference's result of the same arguments. -/
theorem result_eq (j : Cert.Pre_finite.S_.Idx)
    (h : Cert.Pre_finite.fn (F := Ideal) (argQ m c) (argK m c) (argV m c) (arg3 m c) (arg4 m c) (arg5 m c) (arg6 m c) (argG m c) j = 1#1) :
    (Cert.KernelIdeal.Gen.dats m 0 c).arrAt 5 Cert.KernelIdeal.cfg0.N
      = Cert.ReferenceIdeal.Read.val_main_v77 (F := Ideal) (argQ m c) (argK m c) (argV m c) (arg3 m c) (arg4 m c) (arg5 m c) (arg6 m c) (argG m c) := by
  obtain ⟨hq, hk, hv, h3, h4, h5, h6⟩ := Cert.Pre_finite.Read.reals_of_finite _ _ _ _ _ _ _ _ j h
  choose fq hq using hq
  choose fk hk using hk
  choose fv hv using hv
  have H : Holds m c (fun b t h d => fq (ix4 b t h d)) (fun b t h d => fk (ix4 b t h d)) (fun b t x => fv (ix3 b t x)) :=
    ⟨fun b t h d => hq _, fun b t h d => hk _, fun b t x => hv _⟩
  have HR : Reals (argQ m c) (argK m c) (fun b t h d => fq (ix4 b t h d)) (fun b t h d => fk (ix4 b t h d)) :=
    ⟨fun b t h d => hq _, fun b t h d => hk _⟩
  obtain ⟨l, hl⟩ := lam_real (rows m c) fun a d => by
    match a with
    | ⟨0, _⟩ => exact h3 _
    | ⟨1, _⟩ => exact h4 _
    | ⟨2, _⟩ => exact h5 _
    | ⟨3, _⟩ => exact h6 _
  rw [arr_eq H]
  funext i
  obtain ⟨b, r, y, rfl⟩ : ∃ b r y, i = ix3 b r y := ⟨_, _, _, eq_ix3 i⟩
  have hy : y.val / 128 < 4 := by omega
  refine Eq.trans ?_ (v77_at (arg3 m c) (arg4 m c) (arg5 m c) (arg6 m c) (argG m c) HR (fun b t x => hv _) (rows_eq m c ▸ hl) b r
    ⟨y.val / 128, hy⟩ ⟨y.val % 128, Nat.mod_lt _ (by omega)⟩ y (Nat.div_add_mod y.val 128).symm).symm
  show out (lamOf (rows m c)) (fun x => argG m c (ix1 x)) (headQ _ b) (headK _ b) (headV _ b) r.val y.val = _
  unfold out
  rw [hl, weights_eq _ _ b (first ⟨y.val / 128, hy⟩) r (2 * (y.val / 128)) rfl,
    weights_eq _ _ b (second ⟨y.val / 128, hy⟩) r (2 * (y.val / 128) + 1) rfl]
  rfl

end Cert.Equation

end
-- ==== Proof.Copy.lean ====
/-
  One weight matrix brought on chip: the array left in HBM is read in blocks of 64 rows through a ring of eight
  stage slots, each slot with a semaphore of its own, and every landed block is cast to bf16 and stored into the
  on-chip matrix. Everything here is stated for an arbitrary matrix, so that the six loops of the call are six
  instances, in whichever program they stand.

  What the core holds of slot `s` is either FREE — the slot's words, the slot's counter at zero, and the array at the
  `s`-th of eight shares — or IN FLIGHT with block `b` — the transfer, which delivers the slot's words reading as the
  block's rows, and the part of the `s`-th share the transfer did not take.
-/
module

public import Idealize.ShloMosaic.Lib.Pipeline.FrameBody
public import Idealize.ShloMosaic.Lib.Ring
public import Idealize.ShloMosaic.Lib.Tactic

@[expose] public section

noncomputable section

namespace Cert.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] {nD : ℕ} {τ : Topo} {sig : RefSig} {Λ₀ : Labels} {D : Defs nD τ sig (Elt F) Λ₀}

local notation "𝕄" => MT nD τ sig Unit (Elt F) ℕ (Pipeline.UD sig nD τ) ℕ

/-- The stage: eight slots of 64 rows … -/
abbrev Stage (W : ℕ) : Shape := ⟨3, ![8, 64, W]⟩
/-- … and its eight semaphores, … -/
abbrev Cells : Shape := ⟨1, ![8]⟩
/-- … of which one is cut out … -/
abbrev Cell : Shape := ⟨1, ![1]⟩
/-- … and left without its axis. -/
abbrev Bare : Shape := ⟨0, ![]⟩

theorem bare_of_cell : Cell.Squeezes Bare := by decide
theorem bf16_lt_f32 : FTy.bf16.bits < FTy.f32.bits := by decide

/-- An array of `L` matrices of `R` rows and `C` columns … -/
abbrev HS (L R C : ℕ) : Shape := ⟨3, ![L, R, C]⟩
/-- … and one matrix. -/
abbrev VS (R C : ℕ) : Shape := ⟨2, ![R, C]⟩

variable (c : Dev nD) {L R C W : ℕ}
variable (hbm : Memref sig .tc .hbm (HS L R C) .f32) (st : Memref sig .tc .vmem (Stage W) .f32)
variable (sm : DmaSems sig Cells) (vm : Memref sig .tc .vmem (VS R C) .bf16)

/-! ## The pieces a transfer names -/

/-- The semaphore at `off`. -/
abbrev cell (off : Fin 1 → ℕ) (inb : ∀ a, off a + Cell.size a ≤ Cells.size a) : DmaSem sig :=
  ((sm.slice (Rect.unit (s := Cells) off Cell.size inb)).squeeze Bare bare_of_cell).sem
/-- The stage's 64 rows at `off`. -/
abbrev box (off : Fin 3 → ℕ) (inb : ∀ a, off a + (HS 1 64 C).size a ≤ (Stage W).size a) (hq : (HS 1 64 C).Squeezes (VS 64 C)) :
    Memref sig .tc .vmem (VS 64 C) .f32 :=
  (st.slice (Rect.unit (s := Stage W) off (HS 1 64 C).size inb) (fun _ => rfl)).squeeze (VS 64 C) hq
/-- The array's 64 rows at `off`. -/
abbrev blk (off : Fin 3 → ℕ) (inb : ∀ a, off a + (HS 1 64 C).size a ≤ (HS L R C).size a) (hq : (HS 1 64 C).Squeezes (VS 64 C)) :
    Memref sig .tc .hbm (VS 64 C) .f32 :=
  (hbm.slice (Rect.unit (s := HS L R C) off (HS 1 64 C).size inb) (fun _ => rfl)).squeeze (VS 64 C) hq

theorem cell_inb (s : Fin 8) : ∀ a, (![(s : ℕ)] : Fin 1 → ℕ) a + Cell.size a ≤ Cells.size a := by
  revert s; decide

/-- Slot `s`'s semaphore. -/
abbrev cellAt (s : Fin 8) : DmaSem sig := cell sm ![(s : ℕ)] (cell_inb s)

/-- Slot `s`'s words of the stage. -/
def slotSet (s : Fin 8) : Finset (Idx (st.view.loc (c : Thread nD τ))) :=
  st.view.setOn (Finset.univ.filter fun y : (Stage W).Idx => (y 0 : ℕ) = s)

/-- Slot `s` of the stage contents `f` reads as block `b` of layer `ly` of the array contents `X`. -/
def Landed (ly : ℕ) (X : Buf (Elt F) (hbm.view.loc (c : Thread nD τ))) (f : Buf (Elt F) (st.view.loc (c : Thread nD τ))) (s : Fin 8) (b : ℕ) : Prop :=
  ∀ (y : (Stage W).Idx) (z : (HS L R C).Idx), (y 0 : ℕ) = s → (z 0 : ℕ) = ly → (z 1 : ℕ) = 64 * b + (y 1 : ℕ) → (z 2 : ℕ) = (y 2 : ℕ) →
    st.view.read (Elt F) f y = hbm.view.read (Elt F) X z

variable (X : Buf (Elt F) (hbm.view.loc (c : Thread nD τ))) (ly : ℕ)

/-- Slot `s` idle. -/
def free (s : Fin 8) : sProp 𝕄 :=
  iprop((∃ f, st.view.loc (c : Thread nD τ) ↦[slotSet c st s]{fullShare} f) ∗ semVal ((c : Thread nD τ), SemLoc.dma (cellAt sm s)) 0
    ∗ (hbm.view.loc (c : Thread nD τ) ↦[Finset.univ]{shareTok fullShare 8 s} X))

/-- What one transfer moves. -/
abbrev credit (C : ℕ) : ℕ := st.view.ref.dmaCredit (VS 64 C) .f32

/-- Slot `s` receiving block `b`. -/
def inflight (s : Fin 8) (b : ℕ) : sProp 𝕄 :=
  iprop(∃ I, (Flight countersEmb (c : Thread nD τ) (SemLoc.dma (cellAt sm s)) () (credit st C)
      iprop((∃ f, ⌜Landed c hbm st ly X f s b⌝ ∗ (st.view.loc (c : Thread nD τ) ↦[slotSet c st s]{fullShare} f))
        ∗ (hbm.view.loc (c : Thread nD τ) ↦[I]{shareTok fullShare 8 s} X)))
    ∗ (hbm.view.loc (c : Thread nD τ) ↦[Finset.univ \ I]{shareTok fullShare 8 s} X))

/-- Slot `s` idle, or receiving the block named. -/
def slot (s : Fin 8) (o : Option ℕ) : sProp 𝕄 :=
  o.elim (free c hbm st sm X s) (inflight c hbm st sm X ly s)

theorem slot_none (s : Fin 8) : slot c hbm st sm X ly s none = free c hbm st sm X s := rfl
theorem slot_some (s : Fin 8) (b : ℕ) : slot c hbm st sm X ly s (some b) = inflight c hbm st sm X ly s b := rfl

/-- The ring, each slot idle or receiving the block `g` says. -/
def ring (g : Fin 8 → Option ℕ) : sProp 𝕄 :=
  bigSep Finset.univ fun s => slot c hbm st sm X ly s (g s)

theorem bigSep_out {ι : Type} [DecidableEq ι] {S : Finset ι} {b : ι} (hb : b ∈ S) (Φ : ι → sProp 𝕄) :
    bigSep S Φ = iprop(Φ b ∗ bigSep (S.erase b) Φ) := BI.bigSep_erase hb

theorem ring_take (g : Fin 8 → Option ℕ) (s : Fin 8) (o : Option ℕ) :
    ring c hbm st sm X ly g ⊢ iprop(slot c hbm st sm X ly s (g s)
      ∗ (slot c hbm st sm X ly s o -∗ ring c hbm st sm X ly (Function.update g s o))) := by
  unfold ring
  rw [bigSep_out (Finset.mem_univ s), bigSep_out (Finset.mem_univ s) (fun x => slot c hbm st sm X ly x (Function.update g s o x)),
    Function.update_self]
  rw [show bigSep (Finset.univ.erase s) (fun x => slot c hbm st sm X ly x (Function.update g s o x))
    = bigSep (Finset.univ.erase s) (fun x => slot c hbm st sm X ly x (g x)) from
    BI.bigSep_congr fun x hx => by rw [Function.update_of_ne (Finset.ne_of_mem_erase hx)]]
  iintro ⟨H, Hr⟩
  isplitl [H]; · iexact H
  iintro H
  isplitl [H]; · iexact H
  iexact Hr

/-! ## One transfer -/

theorem box_set_subset (s : Fin 8) (off : Fin 3 → ℕ) (inb) (hq : (HS 1 64 C).Squeezes (VS 64 C)) (ho : off = ![(s : ℕ), 0, 0]) :
    (box st off inb hq).view.set ⊆ slotSet (τ := τ) c st s := by
  subst ho
  change ((st.view.slice _).reshape _ _).set ⊆ _
  rw [View.set_reshape, View.set_slice]
  intro x hx
  obtain ⟨y, hy, rfl⟩ := Finset.mem_map.mp hx
  refine (View.mem_setOn (v := st.view)).mpr (Finset.mem_filter.mpr ⟨Finset.mem_univ _, ?_⟩)
  have := (Rect.mem_set_unit.mp hy) 0
  simp at this
  omega

theorem landed_write (s : Fin 8) (b : ℕ) (oD oH : Fin 3 → ℕ) (iD) (iH) (hq : (HS 1 64 C).Squeezes (VS 64 C))
    (hD : oD = ![(s : ℕ), 0, 0]) (hH : oH = ![ly, 64 * b, 0]) (f : Buf (Elt F) (st.view.loc (c : Thread nD τ))) :
    Landed c hbm st ly X ((box st oD iD hq).view.write (Elt F) f ((blk hbm oH iH hq).view.read (Elt F) X) Finset.univ) s b := by
  subst hD; subst hH
  intro y z h0 z0 z1 z2
  have hy : ∃ j : (HS 1 64 C).Idx, (Rect.unit (s := Stage W) ![(s : ℕ), 0, 0] (HS 1 64 C).size iD).emb j = y
      ∧ (Rect.unit (s := HS L R C) ![ly, 64 * b, 0] (HS 1 64 C).size iH).emb j = z := by
    refine ⟨fun a => ⟨![0, (y 1 : ℕ), (y 2 : ℕ)] a, ?_⟩, ?_, ?_⟩
    · have h1 := (y 1).isLt
      have h2 := (z 2).isLt
      fin_cases a
      · simp
      · exact h1
      · rw [z2] at h2; exact h2
    · funext a; apply Fin.ext
      change (![(s : ℕ), 0, 0] : Fin 3 → ℕ) a + 1 * (![0, (y 1 : ℕ), (y 2 : ℕ)] : Fin 3 → ℕ) a = _
      fin_cases a <;> simp [h0]
    · funext a; apply Fin.ext
      change (![ly, 64 * b, 0] : Fin 3 → ℕ) a + 1 * (![0, (y 1 : ℕ), (y 2 : ℕ)] : Fin 3 → ℕ) a = _
      fin_cases a <;> simp [z0, z1, z2]
  obtain ⟨j, rfl, rfl⟩ := hy
  obtain ⟨x, rfl⟩ := (Shape.reshapeEquiv (s := HS 1 64 C) (s' := VS 64 C) hq.numel_eq).surjective j
  have e := congrFun (View.read_write_univ (v := (box st ![(s : ℕ), 0, 0] iD hq).view) (Val := Elt F) f
    ((blk hbm ![ly, 64 * b, 0] iH hq).view.read (Elt F) X)) x
  exact e

variable {α : Type}

/-- An idle slot takes block `b`. -/
theorem wp_issue {Q : α → sProp 𝕄} (s : Fin 8) (b : ℕ) (oS : Fin 1 → ℕ) (oD oH : Fin 3 → ℕ) (iS) (iD) (iH) (hq : (HS 1 64 C).Squeezes (VS 64 C))
    (hS : oS = ![(s : ℕ)]) (hD : oD = ![(s : ℕ), 0, 0]) (hH : oH = ![ly, 64 * b, 0]) (hC : 0 < (VS 64 C).numel) {e1 e2 e3}
    (k : PUnit → Prog (TpuEff nD τ sig (Elt F) Λ₀ .tc) α) :
    free c hbm st sm X s
      ⊢ iprop((inflight c hbm st sm X ly s b -∗ wp frame (wpE D Variants.none c none) Set.univ (k ⟨⟩) Q)
        -∗ wp frame (wpE D Variants.none c none) Set.univ
          (.op (.enqueueDma (blk hbm oH iH hq) (.here (box st oD iD hq)) (.dma (cell sm oS iS)) e1 e2 e3) k) Q) := by
  subst hS
  unfold free inflight
  iintro ⟨⟨%f, Hs⟩, Hv, Hh⟩ Hk
  ihave Hh' := (pointsTo_split_subset (Finset.subset_univ (blk hbm oH iH hq).view.set)).1 $$ Hh
  icases Hh' with ⟨Hb, Hr⟩
  iapply (wp_dmaLocal countersEmb Variants.none (c : Thread nD τ) none (src := blk hbm oH iH hq) (dst := box st oD iD hq) (fd := f) (fs := X) ()
    (credit st C) rfl (View.dmaCredit_pos (box st oD iD hq).view hC) (box_set_subset c st s oD iD hq hD)) $$ [Hb Hs Hv]
  · isplitl [Hb]; · iexact Hb
    isplitl [Hs]; · iexact Hs
    iexact Hv
  iintro Hf
  iapply Hk
  iexists (blk hbm oH iH hq).view.set
  isplitl [Hf]
  · iapply (Flight_mono (c : Thread nD τ) (EC := countersEmb) ?_) $$ Hf
    iintro ⟨Hd, Hb⟩
    isplitl [Hd]
    · iexists _
      isplitr
      · ipureintro
        exact landed_write c hbm st X ly s b oD oH iD iH hq hD hH f
      · iexact Hd
    · iexact Hb
  · iexact Hr

/-- The wait for the block a slot receives. -/
theorem wp_land {Q : α → sProp 𝕄} (s : Fin 8) (b : ℕ) (oS : Fin 1 → ℕ) (oD oH : Fin 3 → ℕ) (iS) (iD) (iH) (hq : (HS 1 64 C).Squeezes (VS 64 C))
    (hS : oS = ![(s : ℕ)]) {e1 e2} {W : Waits sig Unit}
    (k : PUnit → Prog (TpuEff nD τ sig (Elt F) Λ₀ .tc) α) :
    iprop(inflight c hbm st sm X ly s b ∗ owes (c : Thread nD τ) 0 W)
      ⊢ iprop((iprop((∃ f, ⌜Landed c hbm st ly X f s b⌝ ∗ (st.view.loc (c : Thread nD τ) ↦[slotSet c st s]{fullShare} f))
            ∗ semVal ((c : Thread nD τ), SemLoc.dma (cellAt sm s)) 0 ∗ (hbm.view.loc (c : Thread nD τ) ↦[Finset.univ]{shareTok fullShare 8 s} X)
            ∗ (∃ W, owes (c : Thread nD τ) 0 W))
          -∗ wp frame (wpE D Variants.none c none) Set.univ (k ⟨⟩) Q)
        -∗ wp frame (wpE D Variants.none c none) Set.univ
          (.op (.waitDma2 (cell sm oS iS) (blk hbm oH iH hq) (box st oD iD hq) e1 e2) k) Q) := by
  subst hS
  unfold inflight
  iintro ⟨⟨%I, Hf, Hr⟩, Ho⟩ Hk
  iapply (wp_waitLocal countersEmb Variants.none (c : Thread nD τ) none (dstw := box st oD iD hq) () (N := credit st C) rfl) $$ [Hf Ho]
  · isplitl [Hf]; · iexact Hf
    iexact Ho
  iintro ⟨⟨Hd, Hb⟩, Hv, Ho⟩
  iapply Hk
  isplitl [Hd]; · iexact Hd
  isplitl [Hv]; · iexact Hv
  isplitl [Hb Hr]
  · iapply (pointsTo_split_subset (Finset.subset_univ I)).2
    isplitl [Hb]; · iexact Hb
    iexact Hr
  iexists _; iexact Ho

/-! ## One trip of a loop -/

/-- The cast each landed word gets. -/
abbrev narrow (a : F .f32) : F .bf16 := FloatOps.truncf .bf16 bf16_lt_f32 a

/-- The matrix contents `g` holds, in its first `64 * t` rows, the cast rows of layer `ly` of the array contents `X`. -/
def Filled (t : ℕ) (g : Buf (Elt F) (vm.view.loc (c : Thread nD τ))) : Prop :=
  ∀ (x : (VS R C).Idx) (z : (HS L R C).Idx), (x 0 : ℕ) < 64 * t → (z 0 : ℕ) = ly → (z 1 : ℕ) = (x 0 : ℕ) → (z 2 : ℕ) = (x 1 : ℕ) →
    vm.view.read (Elt F) g x = narrow (hbm.view.read (Elt F) X z)

/-- The slots before trip `t` of a loop over `n` blocks: blocks `t … t + 6`, those there are, on their way. -/
def before (n t : ℕ) (s : Fin 8) : Option ℕ :=
  if t + (s + 8 - t % 8) % 8 < t + 7 ∧ t + (s + 8 - t % 8) % 8 < n then some (t + (s + 8 - t % 8) % 8) else none

/-- What a loop's trips hand on. -/
def state (g : Fin 8 → Option ℕ) (t : ℕ) : sProp 𝕄 :=
  iprop(ring c hbm st sm X ly g ∗ (∃ g, ⌜Filled c hbm vm X ly t g⌝ ∗ (vm.view.loc (c : Thread nD τ) ↦[Finset.univ]{fullShare} g))
    ∗ (∃ W, owes (c : Thread nD τ) 0 W))

theorem load_box_subset (s : Fin 8) (off : Fin 3 → ℕ) (inb) (ho : off = ![(s : ℕ), 0, 0]) :
    st.view.setOn (Rect.unit (s := Stage W) off (HS 1 64 C).size inb).toLoadRect.set ⊆ slotSet (τ := τ) c st s := by
  subst ho
  intro x hx
  obtain ⟨y, hy, rfl⟩ := Finset.mem_map.mp hx
  refine (View.mem_setOn (v := st.view)).mpr (Finset.mem_filter.mpr ⟨Finset.mem_univ _, ?_⟩)
  have := (Rect.mem_set_unit.mp hy) 0
  simp at this
  omega

theorem filled_store (s : Fin 8) (t : ℕ) (o7 : Fin 3 → ℕ) (o8 : Fin 2 → ℕ) (i7) (i8)
    (h7 : o7 = ![(s : ℕ), 0, 0]) (h8 : o8 = ![64 * t, 0])
    (pay : FVec F (HS 1 64 C) .f32 → FVec F (VS 64 C) .bf16)
    (hpay : ∀ v (j : (VS 64 C).Idx) (y : (HS 1 64 C).Idx), (y 1 : ℕ) = (j 0 : ℕ) → (y 2 : ℕ) = (j 1 : ℕ) → pay v j = narrow (v y))
    (f : Buf (Elt F) (st.view.loc (c : Thread nD τ))) (hf : Landed c hbm st ly X f s t)
    (g : Buf (Elt F) (vm.view.loc (c : Thread nD τ))) (hg : Filled c hbm vm X ly t g) :
    Filled c hbm vm X ly (t + 1) ((vm.access (Rect.unit (s := VS R C) o8 (VS 64 C).size i8)).write (Elt F) g
      (pay (st.view.readAt (Elt F) (Rect.unit (s := Stage W) o7 (HS 1 64 C).size i7).toLoadRect f)) Finset.univ) := by
  subst h7; subst h8
  intro x z hx z0 z1 z2
  by_cases hlt : (x 0 : ℕ) < 64 * t
  · refine (View.read_slice_write_of_not_mem (v := vm.view) _ _ _ _ ?_).trans (hg x z hlt z0 z1 z2)
    intro hm
    obtain ⟨j, -, hj⟩ := Finset.mem_map.mp hm
    have h0 : 64 * t + 1 * (j 0 : ℕ) = (x 0 : ℕ) := congrArg (fun i : (VS R C).Idx => (i 0 : ℕ)) hj
    omega
  · have hj : ∃ j : (VS 64 C).Idx, (Rect.unit (s := VS R C) ![64 * t, 0] (VS 64 C).size i8).emb j = x := by
      refine ⟨fun a => ⟨![(x 0 : ℕ) - 64 * t, (x 1 : ℕ)] a, ?_⟩, ?_⟩
      · have h1 := (x 1).isLt
        fin_cases a
        · change (x 0 : ℕ) - 64 * t < 64; omega
        · exact h1
      · funext a; apply Fin.ext
        change (![64 * t, 0] : Fin 2 → ℕ) a + 1 * (![(x 0 : ℕ) - 64 * t, (x 1 : ℕ)] : Fin 2 → ℕ) a = _
        fin_cases a
        · simp; omega
        · simp
    obtain ⟨j, rfl⟩ := hj
    refine (View.read_slice_write_emb (v := vm.view) _ _ _ (Finset.mem_univ j)).trans ?_
    have e0 : ((Rect.unit (s := VS R C) ![64 * t, 0] (VS 64 C).size i8).emb j 0 : ℕ) = 64 * t + 1 * (j 0 : ℕ) := rfl
    have e1 : ((Rect.unit (s := VS R C) ![64 * t, 0] (VS 64 C).size i8).emb j 1 : ℕ) = 0 + 1 * (j 1 : ℕ) := rfl
    let y : (HS 1 64 C).Idx := fun a => ⟨![0, (j 0 : ℕ), (j 1 : ℕ)] a, by
      have h0 := (j 0).isLt
      have h1 := (j 1).isLt
      fin_cases a
      · exact Nat.one_pos
      · exact h0
      · exact h1⟩
    rw [hpay _ j y rfl rfl]
    refine congrArg narrow ?_
    refine hf _ z ?_ z0 ?_ ?_
    · change (s : ℕ) + 1 * 0 = s; omega
    · rw [z1, e0]; change _ = 64 * t + (0 + 1 * (j 0 : ℕ)); omega
    · rw [z2, e1]; change _ = 0 + 1 * (j 1 : ℕ); omega

section Trip

variable {c}
variable (cond : Prop) [Decidable cond]
  (o1 : Fin 1 → ℕ) (o2 o3 : Fin 3 → ℕ) (o4 : Fin 1 → ℕ) (o5 o6 o7 : Fin 3 → ℕ) (o8 : Fin 2 → ℕ)
  (i1 : cond → ∀ a, o1 a + Cell.size a ≤ Cells.size a) (i2 : cond → ∀ a, o2 a + (HS 1 64 C).size a ≤ (Stage W).size a)
  (i3 : cond → ∀ a, o3 a + (HS 1 64 C).size a ≤ (HS L R C).size a)
  (i4 : ∀ a, o4 a + Cell.size a ≤ Cells.size a) (i5 : ∀ a, o5 a + (HS 1 64 C).size a ≤ (Stage W).size a)
  (i6 : ∀ a, o6 a + (HS 1 64 C).size a ≤ (HS L R C).size a) (i7 : ∀ a, o7 a + (HS 1 64 C).size a ≤ (Stage W).size a)
  (i8 : ∀ a, o8 a + (VS 64 C).size a ≤ (VS R C).size a) (hq : (HS 1 64 C).Squeezes (VS 64 C))
  (pay1 : FVec F (HS 1 64 C) .f32 → FVec F (VS 64 C) .bf16) (pay2 : FVec F (VS 64 C) .bf16 → FVec F (VS 64 C) .bf16) (iv : BitVec 32)
  (l7 : st.view.LoadsAt (Rect.unit (s := Stage W) o7 (HS 1 64 C).size i7).toLoadRect)
  (l8 : vm.view.LoadsAt (Rect.unit (s := VS R C) o8 (VS 64 C).size i8).toLoadRect)
  (w8 : (vm.access (Rect.unit (s := VS R C) o8 (VS 64 C).size i8)).Stores Finset.univ)

/-- A trip up to the cast block: the next block wanted is asked for, this trip's is awaited and read. -/
def fetch : Prog (TpuEff nD τ sig (Elt F) Λ₀ .tc) (Σ' (_ : BitVec 32), FVec F (VS 64 C) .bf16) := do
  if h : cond then do
    Prog.lift (.enqueueDma (blk hbm o3 (i3 h) hq) (.here (box st o2 (i2 h) hq)) (.dma (cell sm o1 (i1 h)))
      ((View.wordExact_bits rfl).reshape _ _) ((View.wordExact_bits rfl).reshape _ _) ⟨Or.inl rfl, trivial⟩)
    pure ⟨⟩
  else do
    pure ⟨⟩
  Prog.lift (.waitDma2 (cell sm o4 i4) (blk hbm o6 i6 hq) (box st o5 i5 hq)
    ((View.wordExact_bits rfl).reshape _ _) ((View.wordExact_bits rfl).reshape _ _))
  let v : Vec F (HS 1 64 C) .f32 ← Prog.lift (.load st (Rect.unit (s := Stage W) o7 (HS 1 64 C).size i7).toLoadRect l7)
  pure ⟨iv, pay1 v⟩

/-- A trip: the cast block stored into the matrix. -/
def trip : Prog (TpuEff nD τ sig (Elt F) Λ₀ .tc) Unit := do
  let ⟨_, w⟩ : Σ' (_ : BitVec 32), FVec F (VS 64 C) .bf16 ← fetch hbm st sm cond o1 o2 o3 o4 o5 o6 o7 i1 i2 i3 i4 i5 i6 i7 hq pay1 iv l7
  let _ : Vec F (VS 64 C) .bf16 ← Prog.lift (.load vm (Rect.unit (s := VS R C) o8 (VS 64 C).size i8).toLoadRect l8)
  Prog.lift (.store vm (Rect.unit (s := VS R C) o8 (VS 64 C).size i8) (pay2 w) Finset.univ w8 (.inl rfl))
  pure ⟨⟩

/-- A trip from its wait on. -/
def rest : Prog (TpuEff nD τ sig (Elt F) Λ₀ .tc) Unit :=
  .op (.waitDma2 (cell sm o4 i4) (blk hbm o6 i6 hq) (box st o5 i5 hq)
      ((View.wordExact_bits rfl).reshape _ _) ((View.wordExact_bits rfl).reshape _ _)) fun _ =>
    .op (.load st (Rect.unit (s := Stage W) o7 (HS 1 64 C).size i7).toLoadRect l7) fun (v : Vec F (HS 1 64 C) .f32) =>
      .op (.load vm (Rect.unit (s := VS R C) o8 (VS 64 C).size i8).toLoadRect l8) fun _ =>
        .op (.store vm (Rect.unit (s := VS R C) o8 (VS 64 C).size i8) (pay2 (pay1 v)) Finset.univ w8 (.inl rfl)) fun _ => .ret ⟨⟩

theorem trip_pos (h : cond) :
    trip (nD := nD) (τ := τ) (Λ₀ := Λ₀) hbm st sm vm cond o1 o2 o3 o4 o5 o6 o7 o8 i1 i2 i3 i4 i5 i6 i7 i8 hq pay1 pay2 iv l7 l8 w8
      = .op (.enqueueDma (blk hbm o3 (i3 h) hq) (.here (box st o2 (i2 h) hq)) (.dma (cell sm o1 (i1 h)))
          ((View.wordExact_bits rfl).reshape _ _) ((View.wordExact_bits rfl).reshape _ _) ⟨Or.inl rfl, trivial⟩)
        fun _ => rest hbm st sm vm o4 o5 o6 o7 o8 i4 i5 i6 i7 i8 hq pay1 pay2 l7 l8 w8 := by
  unfold trip fetch
  rw [dif_pos h]
  rfl

theorem trip_neg (h : ¬ cond) :
    trip (nD := nD) (τ := τ) (Λ₀ := Λ₀) hbm st sm vm cond o1 o2 o3 o4 o5 o6 o7 o8 i1 i2 i3 i4 i5 i6 i7 i8 hq pay1 pay2 iv l7 l8 w8
      = rest hbm st sm vm o4 o5 o6 o7 o8 i4 i5 i6 i7 i8 hq pay1 pay2 l7 l8 w8 := by
  unfold trip fetch
  rw [dif_neg h]
  rfl

variable (c)

/-- From the wait on: the awaited slot becomes idle and the matrix gains its block. -/
theorem wp_rest (s : Fin 8) (t : ℕ) (g : Fin 8 → Option ℕ) (hg : g s = some t)
    (h4 : o4 = ![(s : ℕ)]) (h7 : o7 = ![(s : ℕ), 0, 0]) (h8 : o8 = ![64 * t, 0])
    (hpay : ∀ v (j : (VS 64 C).Idx) (y : (HS 1 64 C).Idx), (y 1 : ℕ) = (j 0 : ℕ) → (y 2 : ℕ) = (j 1 : ℕ) → pay2 (pay1 v) j = narrow (v y)) :
    state c hbm st sm vm X ly g t
      ⊢ wp frame (wpE D Variants.none c none) Set.univ
          (rest hbm st sm vm o4 o5 o6 o7 o8 i4 i5 i6 i7 i8 hq pay1 pay2 l7 l8 w8)
          (fun _ => state c hbm st sm vm X ly (Function.update g s none) (t + 1)) := by
  unfold state
  iintro ⟨Hr, ⟨%v, %hv, Hm⟩, ⟨%W, Ho⟩⟩
  ihave Hr' := (ring_take c hbm st sm X ly g s none) $$ Hr
  rw [hg, slot_some, slot_none]
  icases Hr' with ⟨Hs, Hr⟩
  iapply (wp_land c hbm st sm X ly s t o4 o5 o6 i4 i5 i6 hq h4) $$ [Hs Ho]
  · isplitl [Hs]; · iexact Hs
    iexact Ho
  iintro ⟨⟨%f, %hf, Hs⟩, Hv, Hh, Ho⟩
  iapply (wp_load Variants.none (c : Thread nD τ) none Set.univ (m := st) (load_box_subset c st s o7 i7 h7)) $$ Hs
  iintro Hs
  iapply (wp_load Variants.none (c : Thread nD τ) none Set.univ (m := vm) (Finset.subset_univ _)) $$ Hm
  iintro Hm
  iapply (wp_store Variants.none (c : Thread nD τ) none Set.univ (m := vm) (r := Rect.unit (s := VS R C) o8 (VS 64 C).size i8)
    (f := v) (S := Finset.univ) (Finset.subset_univ _)) $$ Hm
  iintro Hm
  rw [wp_ret]
  imodintro
  isplitl [Hr Hs Hv Hh]
  · iapply Hr
    unfold free
    isplitl [Hs]; · iexists _; iexact Hs
    isplitl [Hv]; · iexact Hv
    iexact Hh
  isplitl [Hm]
  · iexists _
    isplitr
    · ipureintro
      exact filled_store c hbm st vm X ly s t o7 o8 i7 i8 h7 h8 (fun v => pay2 (pay1 v)) hpay f hf v hv
    · iexact Hm
  · iexact Ho

theorem before_ahead (n t : ℕ) (s : Fin 8) (hs : (s : ℕ) = (t + 7) % 8) : before n t s = none := by
  have e : t + ((s : ℕ) + 8 - t % 8) % 8 = t + 7 := by omega
  unfold before
  rw [e, if_neg (by omega)]

theorem before_here (n t : ℕ) (ht : t < n) (s : Fin 8) (hs : (s : ℕ) = t % 8) : before n t s = some t := by
  have e : t + ((s : ℕ) + 8 - t % 8) % 8 = t := by omega
  unfold before
  rw [e, if_pos (by omega)]

theorem before_next (n t : ℕ) (s s' : Fin 8) (hs : (s : ℕ) = t % 8) (hs' : (s' : ℕ) = (t + 7) % 8) (h : t + 7 < n) :
    Function.update (Function.update (before n t) s' (some (t + 7))) s none = before n (t + 1) := by
  funext x
  by_cases hx : x = s
  · subst hx
    have e : t + 1 + ((x : ℕ) + 8 - (t + 1) % 8) % 8 = t + 8 := by omega
    rw [Function.update_self]; unfold before; rw [e, if_neg (by omega)]
  rw [Function.update_of_ne hx]
  by_cases hx' : x = s'
  · subst hx'
    have e : t + 1 + ((x : ℕ) + 8 - (t + 1) % 8) % 8 = t + 7 := by omega
    rw [Function.update_self]; unfold before; rw [e, if_pos (by omega)]
  rw [Function.update_of_ne hx']
  have n1 : (x : ℕ) ≠ s := fun e => hx (Fin.ext e)
  have n2 : (x : ℕ) ≠ s' := fun e => hx' (Fin.ext e)
  have hx8 := x.isLt
  have e : t + 1 + ((x : ℕ) + 8 - (t + 1) % 8) % 8 = t + ((x : ℕ) + 8 - t % 8) % 8 := by omega
  unfold before
  rw [e]
  refine if_congr ?_ rfl rfl
  omega

theorem before_last (n t : ℕ) (s : Fin 8) (hs : (s : ℕ) = t % 8) (h : ¬ t + 7 < n) :
    Function.update (before n t) s none = before n (t + 1) := by
  funext x
  by_cases hx : x = s
  · subst hx
    have e : t + 1 + ((x : ℕ) + 8 - (t + 1) % 8) % 8 = t + 8 := by omega
    rw [Function.update_self]; unfold before; rw [e, if_neg (by omega)]
  rw [Function.update_of_ne hx]
  have n1 : (x : ℕ) ≠ s := fun e => hx (Fin.ext e)
  have hx8 := x.isLt
  have e : t + 1 + ((x : ℕ) + 8 - (t + 1) % 8) % 8 = t + ((x : ℕ) + 8 - t % 8) % 8 := by omega
  unfold before
  rw [e]
  refine if_congr ?_ rfl rfl
  omega

/-- Trip `t` of a loop over `n` blocks. -/
theorem wp_trip (n t : ℕ) (ht : t < n) (hC : 0 < (VS 64 C).numel) (hcond : cond ↔ t + 7 < n)
    (h123 : cond → o1 = ![(t + 7) % 8] ∧ o2 = ![(t + 7) % 8, 0, 0] ∧ o3 = ![ly, 64 * (t + 7), 0])
    (h4 : o4 = ![t % 8]) (h7 : o7 = ![t % 8, 0, 0]) (h8 : o8 = ![64 * t, 0])
    (hpay : ∀ v (j : (VS 64 C).Idx) (y : (HS 1 64 C).Idx), (y 1 : ℕ) = (j 0 : ℕ) → (y 2 : ℕ) = (j 1 : ℕ) → pay2 (pay1 v) j = narrow (v y)) :
    state c hbm st sm vm X ly (before n t) t
      ⊢ wp frame (wpE D Variants.none c none) Set.univ
          (trip hbm st sm vm cond o1 o2 o3 o4 o5 o6 o7 o8 i1 i2 i3 i4 i5 i6 i7 i8 hq pay1 pay2 iv l7 l8 w8)
          (fun _ => state c hbm st sm vm X ly (before n (t + 1)) (t + 1)) := by
  have hs : t % 8 < 8 := Nat.mod_lt _ (by decide)
  have hs' : (t + 7) % 8 < 8 := Nat.mod_lt _ (by decide)
  by_cases h : cond
  · have hlt := hcond.mp h
    rw [trip_pos hbm st sm vm cond o1 o2 o3 o4 o5 o6 o7 o8 i1 i2 i3 i4 i5 i6 i7 i8 hq pay1 pay2 iv l7 l8 w8 h]
    rw [← before_next n t ⟨t % 8, hs⟩ ⟨(t + 7) % 8, hs'⟩ rfl rfl hlt]
    have hr := wp_rest (D := D) c hbm st sm vm X ly o4 o5 o6 o7 o8 i4 i5 i6 i7 i8 hq pay1 pay2 l7 l8 w8 ⟨t % 8, hs⟩ t
      (Function.update (before n t) ⟨(t + 7) % 8, hs'⟩ (some (t + 7)))
      (by rw [Function.update_of_ne (by intro e; have := congrArg Fin.val e; simp only at this; omega)]; exact before_here n t ht _ rfl)
      h4 h7 h8 hpay
    have hi := ring_take c hbm st sm X ly (before n t) ⟨(t + 7) % 8, hs'⟩ (some (t + 7))
    rw [before_ahead n t ⟨(t + 7) % 8, hs'⟩ rfl, slot_none, slot_some] at hi
    unfold state at hr ⊢
    iintro ⟨Hr, Hm, Ho⟩
    ihave Hr' := hi $$ Hr
    icases Hr' with ⟨Hs, Hr⟩
    iapply (wp_issue c hbm st sm X ly ⟨(t + 7) % 8, hs'⟩ (t + 7) o1 o2 o3 (i1 h) (i2 h) (i3 h) hq (h123 h).1 (h123 h).2.1 (h123 h).2.2 hC) $$ Hs
    iintro Hs
    iapply hr
    isplitl [Hr Hs]
    · iapply Hr
      iexact Hs
    isplitl [Hm]; · iexact Hm
    iexact Ho
  · have hlt := fun e => h (hcond.mpr e)
    rw [trip_neg hbm st sm vm cond o1 o2 o3 o4 o5 o6 o7 o8 i1 i2 i3 i4 i5 i6 i7 i8 hq pay1 pay2 iv l7 l8 w8 h]
    rw [← before_last n t ⟨t % 8, hs⟩ rfl hlt]
    exact wp_rest c hbm st sm vm X ly o4 o5 o6 o7 o8 i4 i5 i6 i7 i8 hq pay1 pay2 l7 l8 w8 ⟨t % 8, hs⟩ t (before n t)
      (before_here n t ht _ rfl) h4 h7 h8 hpay

end Trip

/-! ## The first blocks, asked for before a loop -/

theorem box_inb (hC : C ≤ W) (j : Fin 8) : ∀ a, (![(j : ℕ), 0, 0] : Fin 3 → ℕ) a + (HS 1 64 C).size a ≤ (Stage W).size a := by
  intro a
  have := j.isLt
  fin_cases a
  · change (j : ℕ) + 1 ≤ 8; omega
  · change 0 + 64 ≤ 64; omega
  · change 0 + C ≤ W; omega

theorem blk_inb (hL : ly < L) (j : ℕ) (hj : 64 * j + 64 ≤ R) : ∀ a, (![ly, 64 * j, 0] : Fin 3 → ℕ) a + (HS 1 64 C).size a ≤ (HS L R C).size a := by
  intro a
  fin_cases a
  · change ly + 1 ≤ L; omega
  · change 64 * j + 64 ≤ R; omega
  · change 0 + C ≤ C; omega

variable (hC : C ≤ W) (hL : ly < L) (hq : (HS 1 64 C).Squeezes (VS 64 C))

/-- Block `j` asked for in slot `j`, for each `j` of a list. -/
def primes : List {j : Fin 8 // 64 * (j : ℕ) + 64 ≤ R} → Prog (TpuEff nD τ sig (Elt F) Λ₀ .tc) PUnit
  | [] => pure ⟨⟩
  | j :: l => do
    Prog.lift (.enqueueDma (blk hbm ![ly, 64 * (j.1 : ℕ), 0] (blk_inb ly hL j.1 j.2) hq)
      (.here (box st ![(j.1 : ℕ), 0, 0] (box_inb hC j.1) hq)) (.dma (cell sm ![(j.1 : ℕ)] (cell_inb j.1)))
      ((View.wordExact_bits rfl).reshape _ _) ((View.wordExact_bits rfl).reshape _ _) ⟨Or.inl rfl, trivial⟩)
    primes l

/-- The slots once the blocks of `l` are asked for. -/
def asked (g : Fin 8 → Option ℕ) (l : List {j : Fin 8 // 64 * (j : ℕ) + 64 ≤ R}) : Fin 8 → Option ℕ :=
  l.foldl (fun g j => Function.update g j.1 (some (j.1 : ℕ))) g

theorem wp_primes (hpos : 0 < (VS 64 C).numel) (l : List {j : Fin 8 // 64 * (j : ℕ) + 64 ≤ R}) (g : Fin 8 → Option ℕ)
    (hg : ∀ j ∈ l, g j.1 = none) (hl : l.Nodup) :
    ring c hbm st sm X ly g ⊢ wp frame (wpE D Variants.none c none) Set.univ
      (primes hbm st sm ly hC hL hq l) (fun _ => ring c hbm st sm X ly (asked g l)) := by
  induction l generalizing g with
  | nil =>
    unfold primes
    rw [wp_pure]
    iintro H
    imodintro
    iexact H
  | cons j l ih =>
    have hj : g j.1 = none := hg j (List.mem_cons_self ..)
    have ht := ring_take c hbm st sm X ly g j.1 (some (j.1 : ℕ))
    rw [hj, slot_none, slot_some] at ht
    have hr := ih (Function.update g j.1 (some (j.1 : ℕ))) (fun x hx => by
      have hne : x ≠ j := fun e => (List.nodup_cons.mp hl).1 (e ▸ hx)
      rw [Function.update_of_ne (fun e => hne (Subtype.ext e))]
      exact hg x (List.mem_cons_of_mem _ hx)) (List.nodup_cons.mp hl).2
    iintro H
    ihave H' := ht $$ H
    icases H' with ⟨Hs, Hr⟩
    iapply (wp_issue c hbm st sm X ly j.1 (j.1 : ℕ) ![(j.1 : ℕ)] ![(j.1 : ℕ), 0, 0] ![ly, 64 * (j.1 : ℕ), 0] (cell_inb j.1)
      (box_inb hC j.1) (blk_inb ly hL j.1 j.2) hq rfl rfl rfl hpos) $$ Hs
    iintro Hs
    iapply hr
    iapply Hr
    iexact Hs

/-! ## A whole loop -/

theorem before_end (n : ℕ) : before n n = fun _ => none := by
  funext s
  unfold before
  rw [if_neg (by omega)]

theorem wp_matrix (n : ℕ) (lb ub stp : BitVec 32) (hok : Scf.OK lb ub stp) (htr : Scf.trips lb ub stp = n)
    (body : Fin (Scf.trips lb ub stp) → Unit → Prog (TpuEff nD τ sig (Elt F) Λ₀ .tc) Unit)
    (hbody : ∀ (k : Fin (Scf.trips lb ub stp)) (u : Unit), state c hbm st sm vm X ly (before n k) k
      ⊢ wp frame (wpE D Variants.none c none) Set.univ (body k u) (fun _ => state c hbm st sm vm X ly (before n (k + 1)) (k + 1))) :
    state c hbm st sm vm X ly (before n 0) 0
      ⊢ wp frame (wpE D Variants.none c none) Set.univ (Scf.for lb ub stp hok ⟨⟩ body)
        (fun _ => state c hbm st sm vm X ly (fun _ => none) n) := by
  iintro H
  iapply (Scf.wp_for frame (wpE D Variants.none c none) Set.univ lb ub stp hok ⟨⟩ body
    (fun k _ => state c hbm st sm vm X ly (before n k) k) hbody)
  isplitl [H]; · iexact H
  iintro %u H
  rw [htr, before_end]
  iexact H

/-! ## The ring set up and taken down -/

/-- Slot `s` of the stage and its counter, idle. -/
def idle (s : Fin 8) : sProp 𝕄 :=
  iprop((∃ f, st.view.loc (c : Thread nD τ) ↦[slotSet c st s]{fullShare} (f : Buf (Elt F) (st.view.loc (c : Thread nD τ))))
    ∗ semVal ((c : Thread nD τ), SemLoc.dma (cellAt sm s)) 0)

/-- All the slots, idle. -/
def pool : sProp 𝕄 := bigSep Finset.univ fun s : Fin 8 => idle (F := F) c st sm s

theorem free_open (s : Fin 8) : free c hbm st sm X s
    ⊢ iprop(idle (F := F) c st sm s ∗ (hbm.view.loc (c : Thread nD τ) ↦[Finset.univ]{shareTok fullShare 8 s} X)) := by
  unfold free idle
  iintro ⟨H1, H2, H3⟩
  isplitl [H1 H2]
  · isplitl [H1]; · iexact H1
    iexact H2
  · iexact H3

theorem free_close (s : Fin 8) : iprop(idle (F := F) c st sm s ∗ (hbm.view.loc (c : Thread nD τ) ↦[Finset.univ]{shareTok fullShare 8 s} X))
    ⊢ free c hbm st sm X s := by
  unfold free idle
  iintro ⟨⟨H1, H2⟩, H3⟩
  isplitl [H1]; · iexact H1
  isplitl [H2]; · iexact H2
  iexact H3

/-- The idle stage and the whole array make a ring with nothing on its way, and the undealt share. -/
theorem ring_open : iprop(pool (F := F) c st sm ∗ (hbm.view.loc (c : Thread nD τ) ↦[Finset.univ]{fullShare} X))
    ⊢ iprop(ring c hbm st sm X ly (fun _ => none) ∗ (hbm.view.loc (c : Thread nD τ) ↦[Finset.univ]{shareDrop fullShare 8} X)) := by
  have h : iprop(pool (F := F) c st sm ∗ bigSep Finset.univ fun s : Fin 8 => (hbm.view.loc (c : Thread nD τ) ↦[Finset.univ]{shareTok fullShare 8 s} X : sProp 𝕄))
      ⊢ ring c hbm st sm X ly (fun _ => none) := by
    unfold ring pool
    rw [← bigSep_sep']
    exact BI.bigSep_mono fun s _ => free_close c hbm st sm X s
  iintro ⟨Hp, HX⟩
  ihave HX' := (pointsTo_toks_split fullShare 8) $$ HX
  icases HX' with ⟨Hd, Ht⟩
  isplitl [Hp Ht]
  · iapply h
    isplitl [Hp]; · iexact Hp
    iexact Ht
  · iexact Hd

theorem ring_close : iprop(ring c hbm st sm X ly (fun _ => none) ∗ (hbm.view.loc (c : Thread nD τ) ↦[Finset.univ]{shareDrop fullShare 8} X))
    ⊢ iprop(pool (F := F) c st sm ∗ (hbm.view.loc (c : Thread nD τ) ↦[Finset.univ]{fullShare} X)) := by
  have h : ring c hbm st sm X ly (fun _ => none)
      ⊢ iprop(pool (F := F) c st sm ∗ bigSep Finset.univ fun s : Fin 8 => (hbm.view.loc (c : Thread nD τ) ↦[Finset.univ]{shareTok fullShare 8 s} X : sProp 𝕄)) := by
    unfold ring pool
    rw [← bigSep_sep']
    exact BI.bigSep_mono fun s _ => free_open c hbm st sm X s
  iintro ⟨Hr, Hd⟩
  ihave Hr' := h $$ Hr
  icases Hr' with ⟨Hp, Ht⟩
  isplitl [Hp]; · iexact Hp
  iapply (pointsTo_toks_join fullShare 8)
  isplitl [Hd]; · iexact Hd
  iexact Ht

/-- The stage held whole is held slot by slot … -/
theorem slots_disjoint (s s' : Fin 8) (h : s ≠ s') : Disjoint (slotSet (τ := τ) c st s) (slotSet (τ := τ) c st s') := by
  refine Finset.disjoint_left.mpr fun x hx hx' => ?_
  obtain ⟨y, hy, rfl⟩ := Finset.mem_map.mp hx
  have := (Finset.mem_filter.mp ((View.mem_setOn (v := st.view)).mp hx')).2
  exact h (Fin.ext ((Finset.mem_filter.mp hy).2.symm.trans this))

theorem slots_cover (hst : st.view.set = Finset.univ) : Finset.univ.biUnion (slotSet (τ := τ) c st) = Finset.univ := by
  refine Finset.eq_univ_iff_forall.mpr fun x => ?_
  have hx : x ∈ st.view.set := hst ▸ Finset.mem_univ x
  obtain ⟨y, -, rfl⟩ := Finset.mem_map.mp hx
  exact Finset.mem_biUnion.mpr ⟨⟨(y 0 : ℕ), (y 0).isLt⟩, Finset.mem_univ _, (View.mem_setOn (v := st.view)).mpr (Finset.mem_filter.mpr ⟨Finset.mem_univ _, rfl⟩)⟩

theorem pool_open (hst : st.view.set = Finset.univ) :
    iprop((∃ f, st.view.loc (c : Thread nD τ) ↦{fullShare} (f : Buf (Elt F) (st.view.loc (c : Thread nD τ))))
      ∗ bigSep Finset.univ fun s : Fin 8 => (semVal ((c : Thread nD τ), SemLoc.dma (cellAt sm s)) 0 : sProp 𝕄)) ⊢ pool (F := F) c st sm := by
  unfold pool idle
  rw [bigSep_sep']
  iintro ⟨⟨%f, H⟩, Hs⟩
  isplitl [H]
  · ihave H' := (Entails.of_eq (Ring.pointsTo_blocks (slotSet (τ := τ) c st) (fun s s' h => slots_disjoint c st s s' h) (slots_cover c st hst) f)) $$ H
    have h1 : ∀ s : Fin 8, (st.view.loc (c : Thread nD τ) ↦[slotSet (τ := τ) c st s]{fullShare} f : sProp 𝕄)
        ⊢ iprop(∃ f, st.view.loc (c : Thread nD τ) ↦[slotSet (τ := τ) c st s]{fullShare} (f : Buf (Elt F) (st.view.loc (c : Thread nD τ)))) := fun s => by
      iintro H
      iexists f
      iexact H
    have h2 : (bigSep Finset.univ fun s : Fin 8 => (st.view.loc (c : Thread nD τ) ↦[slotSet (τ := τ) c st s]{fullShare} f : sProp 𝕄))
        ⊢ bigSep Finset.univ fun s : Fin 8 => iprop(∃ f, st.view.loc (c : Thread nD τ) ↦[slotSet (τ := τ) c st s]{fullShare} (f : Buf (Elt F) (st.view.loc (c : Thread nD τ)))) :=
      BI.bigSep_mono (s := Finset.univ) (fun s _ => h1 s)
    iapply h2
    iexact H'
  · iexact Hs

/-- … and back. -/
theorem pool_close (hst : st.view.set = Finset.univ) :
    pool (F := F) c st sm ⊢ iprop((∃ f, st.view.loc (c : Thread nD τ) ↦{fullShare} (f : Buf (Elt F) (st.view.loc (c : Thread nD τ))))
      ∗ bigSep Finset.univ fun s : Fin 8 => (semVal ((c : Thread nD τ), SemLoc.dma (cellAt sm s)) 0 : sProp 𝕄)) := by
  unfold pool idle
  rw [bigSep_sep']
  iintro ⟨H, Hs⟩
  isplitl [H]
  · iapply (Ring.pointsTo_blocks_join_exists (slotSet (τ := τ) c st) (fun s s' h => slots_disjoint c st s s' h) (slots_cover c st hst) Classical.ofNonempty)
    iexact H
  · iexact Hs

/-- The matrix contents `g` is layer `ly` of the array contents `X`, each word cast. -/
def Loaded (g : Buf (Elt F) (vm.view.loc (c : Thread nD τ))) : Prop :=
  ∀ (x : (VS R C).Idx) (z : (HS L R C).Idx), (z 0 : ℕ) = ly → (z 1 : ℕ) = (x 0 : ℕ) → (z 2 : ℕ) = (x 1 : ℕ) →
    vm.view.read (Elt F) g x = narrow (hbm.view.read (Elt F) X z)

theorem Filled.loaded {n : ℕ} (hn : R = 64 * n) {g} (h : Filled c hbm vm X ly n g) : Loaded c hbm vm X ly g :=
  fun x z z0 z1 z2 => h x z (by have h0 : (x 0 : ℕ) < R := (x 0).isLt; omega) z0 z1 z2

theorem filled_zero (g) : Filled c hbm vm X ly 0 g := fun x z hx => absurd hx (by omega)

end Cert.Post
-- ==== Proof.Turn.lean ====
/-
  From one weight matrix to the next: the first blocks of the next array are asked for as soon as the loop over the one
  before has ended, and the array of the one before is whole again by then.
-/
module

public import proofs.«01_k».proof.Proof.Copy
public import Idealize.ShloMosaic.Lib.Pipeline.FrameBody
public import Idealize.ShloMosaic.Lib.Ring
public import Idealize.ShloMosaic.Lib.Tactic

@[expose] public section

noncomputable section

namespace Cert.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F] {nD : ℕ} {τ : Topo} {sig : RefSig} {Λ₀ : Labels} {D : Defs nD τ sig (Elt F) Λ₀}

local notation "𝕄" => MT nD τ sig Unit (Elt F) ℕ (Pipeline.UD sig nD τ) ℕ

variable (c : Dev nD) {L R C L' R' C' W : ℕ}
variable (hbm : Memref sig .tc .hbm (HS L R C) .f32) (hbm' : Memref sig .tc .hbm (HS L' R' C') .f32)
variable (st : Memref sig .tc .vmem (Stage W) .f32) (sm : DmaSems sig Cells) (vm : Memref sig .tc .vmem (VS R C) .bf16)
variable (X : Buf (Elt F) (hbm.view.loc (c : Thread nD τ))) (X' : Buf (Elt F) (hbm'.view.loc (c : Thread nD τ))) (ly ly' : ℕ)

/-- An array whole. -/
def whole : sProp 𝕄 := iprop(hbm.view.loc (c : Thread nD τ) ↦[Finset.univ]{fullShare} X)
/-- The slots as `g` says, and the share of the array no slot holds. -/
def mid (g : Fin 8 → Option ℕ) : sProp 𝕄 :=
  iprop(ring c hbm st sm X ly g ∗ (hbm.view.loc (c : Thread nD τ) ↦[Finset.univ]{shareDrop fullShare 8} X))
/-- An on-chip matrix at anything. -/
def blank : sProp 𝕄 := iprop(∃ g, vm.view.loc (c : Thread nD τ) ↦[Finset.univ]{fullShare} (g : Buf (Elt F) (vm.view.loc (c : Thread nD τ))))
/-- An on-chip matrix at its layer of the array. -/
def ready : sProp 𝕄 := iprop(∃ g, ⌜Loaded c hbm vm X ly g⌝ ∗ (vm.view.loc (c : Thread nD τ) ↦[Finset.univ]{fullShare} g))
/-- The waits of the core, whatever they are. -/
def waits : sProp 𝕄 := iprop(∃ W, owes (c : Thread nD τ) 0 W)

theorem blank_of_ready : ready c hbm vm X ly ⊢ blank (F := F) c vm := by
  unfold ready blank
  iintro ⟨%g, %_, H⟩
  iexists g
  iexact H

theorem mid_open : iprop(pool (F := F) c st sm ∗ whole c hbm X) ⊢ mid c hbm st sm X ly (fun _ => none) := by
  unfold mid whole
  exact ring_open c hbm st sm X ly

variable (hC : C ≤ W) (hL : ly < L) (hq : (HS 1 64 C).Squeezes (VS 64 C)) (hpos : 0 < (VS 64 C).numel)
variable (hC' : C' ≤ W) (hL' : ly' < L') (hq' : (HS 1 64 C').Squeezes (VS 64 C')) (hpos' : 0 < (VS 64 C').numel)

/-- One program after another, what the first does not need carried past it. -/
theorem wp_then {α β : Type} {p : Prog (TpuEff nD τ sig (Elt F) Λ₀ .tc) α} {f : α → Prog (TpuEff nD τ sig (Elt F) Λ₀ .tc) β}
    {P' P T : sProp 𝕄} {Q : α → sProp 𝕄} {Q' : β → sProp 𝕄} (hp : P ⊢ wp frame (wpE D Variants.none c none) Set.univ p Q)
    (hf : ∀ a, iprop(Q a ∗ T) ⊢ wp frame (wpE D Variants.none c none) Set.univ (f a) Q')
    (hP : P' ⊢ iprop(P ∗ T)) : P' ⊢ wp frame (wpE D Variants.none c none) Set.univ (p >>= f) Q' := by
  rw [wp_bind]
  iintro H
  ihave H' := hP $$ H
  icases H' with ⟨Hp, HT⟩
  iapply (wp_wand_r frame (wpE D Variants.none c none) Set.univ)
  isplitl [Hp]
  · iapply hp
    iexact Hp
  iintro %a HQ
  iapply (hf a)
  isplitl [HQ]; · iexact HQ
  iexact HT

include hpos in
theorem wp_ask (l : List {j : Fin 8 // 64 * (j : ℕ) + 64 ≤ R}) (g g' : Fin 8 → Option ℕ)
    (hg : ∀ j ∈ l, g j.1 = none) (hl : l.Nodup) (hg' : asked g l = g') :
    mid c hbm st sm X ly g ⊢ wp frame (wpE D Variants.none c none) Set.univ
      (primes hbm st sm ly hC hL hq l) (fun _ => mid c hbm st sm X ly g') := by
  subst hg'
  unfold mid
  iintro ⟨Hr, Hd⟩
  iapply (wp_wand_r frame (wpE D Variants.none c none) Set.univ)
  isplitl [Hr]
  · iapply (wp_primes c hbm st sm X ly hC hL hq hpos l g hg hl)
    iexact Hr
  iintro %u Hr
  isplitl [Hr]; · iexact Hr
  iexact Hd

variable (loop : Prog (TpuEff nD τ sig (Elt F) Λ₀ .tc) Unit) (n : ℕ) (hn : R = 64 * n)
variable (hloop : state c hbm st sm vm X ly (before n 0) 0
      ⊢ wp frame (wpE D Variants.none c none) Set.univ loop (fun _ => state c hbm st sm vm X ly (fun _ => none) n))

include hn hloop in
theorem wp_drain :
    iprop(mid c hbm st sm X ly (before n 0) ∗ blank (F := F) c vm ∗ waits (F := F) c)
      ⊢ wp frame (wpE D Variants.none c none) Set.univ loop
        (fun _ => iprop(pool (F := F) c st sm ∗ whole c hbm X ∗ ready c hbm vm X ly ∗ waits (F := F) c)) := by
  unfold mid blank waits
  iintro ⟨⟨Hr, Hd⟩, ⟨%g, Hg⟩, HW⟩
  iapply (wp_wand_r frame (wpE D Variants.none c none) Set.univ)
  isplitl [Hr Hg HW]
  · iapply hloop
    unfold state
    isplitl [Hr]; · iexact Hr
    isplitl [Hg]
    · iexists g
      isplitr
      · ipureintro; exact filled_zero c hbm vm X ly g
      iexact Hg
    iexact HW
  iintro %u Hs
  unfold state
  icases Hs with ⟨Hr, ⟨%g', %hF, Hg⟩, HW⟩
  ihave Hp := (ring_close c hbm st sm X ly) $$ [Hr Hd]
  · isplitl [Hr]; · iexact Hr
    iexact Hd
  icases Hp with ⟨Hp, HX⟩
  isplitl [Hp]; · iexact Hp
  isplitl [HX]
  · unfold whole
    iexact HX
  isplitl [Hg]
  · unfold ready
    iexists g'
    isplitr
    · ipureintro; exact hF.loaded c hbm vm X ly hn
    iexact Hg
  iexact HW

include hpos hn hloop in
/-- The last blocks of one array asked for, its loop, and the first blocks of the next array. -/
theorem wp_turn (l : List {j : Fin 8 // 64 * (j : ℕ) + 64 ≤ R}) (l' : List {j : Fin 8 // 64 * (j : ℕ) + 64 ≤ R'})
    (g g' : Fin 8 → Option ℕ) (hg : ∀ j ∈ l, g j.1 = none) (hl : l.Nodup) (hlast : asked g l = before n 0)
    (hl' : l'.Nodup) (hg' : asked (fun _ => none) l' = g') (hpos' : 0 < (VS 64 C').numel) :
    iprop(mid c hbm st sm X ly g ∗ (blank (F := F) c vm ∗ waits (F := F) c) ∗ whole c hbm' X')
      ⊢ wp frame (wpE D Variants.none c none) Set.univ
        (primes hbm st sm ly hC hL hq l >>= fun _ => loop >>= fun _ => primes hbm' st sm ly' hC' hL' hq' l')
        (fun _ => iprop(mid c hbm' st sm X' ly' g' ∗ (whole c hbm X ∗ ready c hbm vm X ly) ∗ waits (F := F) c)) := by
  refine wp_then c (wp_ask c hbm st sm X ly hC hL hq hpos l g _ hg hl hlast) (fun _ => ?_) .rfl
  refine wp_then c (T := whole c hbm' X') (wp_drain c hbm st sm vm X ly loop n hn hloop) (fun _ => ?_) ?_
  · iintro ⟨⟨Hp, HX, Hg, HW⟩, HX'⟩
    iapply (wp_wand_r frame (wpE D Variants.none c none) Set.univ)
    isplitl [Hp HX']
    · iapply (wp_ask c hbm' st sm X' ly' hC' hL' hq' hpos' l' _ g' (fun _ _ => rfl) hl' hg')
      iapply (mid_open c hbm' st sm X' ly')
      isplitl [Hp]; · iexact Hp
      iexact HX'
    iintro %u Hm
    isplitl [Hm]; · iexact Hm
    isplitr [HW]
    · isplitl [HX]; · iexact HX
      iexact Hg
    iexact HW
  · iintro ⟨Hm, ⟨Hb, HW⟩, HX'⟩
    isplitr [HX']
    · isplitl [Hm]; · iexact Hm
      isplitl [Hb]; · iexact Hb
      iexact HW
    iexact HX'

include hpos hn hloop in
/-- The last blocks of an array asked for, and its loop. -/
theorem wp_finish (l : List {j : Fin 8 // 64 * (j : ℕ) + 64 ≤ R}) (g : Fin 8 → Option ℕ) (hg : ∀ j ∈ l, g j.1 = none) (hl : l.Nodup)
    (hlast : asked g l = before n 0) :
    iprop(mid c hbm st sm X ly g ∗ blank (F := F) c vm ∗ waits (F := F) c)
      ⊢ wp frame (wpE D Variants.none c none) Set.univ (primes hbm st sm ly hC hL hq l >>= fun _ => loop)
        (fun _ => iprop(pool (F := F) c st sm ∗ whole c hbm X ∗ ready c hbm vm X ly ∗ waits (F := F) c)) :=
  wp_then c (wp_ask c hbm st sm X ly hC hL hq hpos l g _ hg hl hlast) (fun _ => wp_drain c hbm st sm vm X ly loop n hn hloop) .rfl

end Cert.Post
-- ==== Proof.Common.lean ====
/-
  What both calls that bring their matrices on chip use: the cast of a landed block, the slots asked for before a loop,
  loads and stores of whole buffers, and an on-chip matrix as a buffer of its value.
-/
module

public import proofs.«01_k».proof.Proof.Turn
public import Idealize.ShloMosaic.Lib.Pipeline.Value
public import Idealize.ShloMosaic.Lib.ValueIdx
public import Idealize.ShloMosaic.Lib.WritesUnit
public import Idealize.ShloMosaic.Lib.Pipeline.ValueKit.Tiles
public import Idealize.ShloMosaic.Lib.Pipeline.FrameBody
public import Idealize.ShloMosaic.Lib.Ring
public import Idealize.ShloMosaic.Lib.Tactic

@[expose] public section

noncomputable section

namespace Cert.Post

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F] {nD : ℕ} {τ : Topo} {sig : RefSig} {Λ₀ : Labels} {D : Defs nD τ sig (Elt F) Λ₀}

local notation "𝕄" => MT nD τ sig Unit (Elt F) ℕ (Pipeline.UD sig nD τ) ℕ

/-! ## The casts -/

/-- The rows of a landed block, recast and cast, are the block's words cast. -/
theorem pay_apply {C : ℕ} (h : (HS 1 64 C).ShapeCasts (VS 64 C)) (h' : (VS 64 C).ShapeCasts (VS 64 C)) (v : FVec F (HS 1 64 C) .f32)
    (j : (VS 64 C).Idx) (y : (HS 1 64 C).Idx) (h1 : (y 1 : ℕ) = (j 0 : ℕ)) (h2 : (y 2 : ℕ) = (j 1 : ℕ)) :
    shapeCast (VS 64 C) (truncf .bf16 (shapeCast (VS 64 C) v h) bf16_lt_f32) h' j = narrow (v y) := by
  refine (shapeCast_apply _ _ j j rfl).trans ?_
  refine congrArg narrow (shapeCast_apply v h j y ?_)
  rw [Shape.rowMajor_val_three, Shape.rowMajor_val_two, h1, h2]
  have h0 : (y 0 : ℕ) < 1 := (y 0).isLt
  change ((y 0 : ℕ) * 64 + (j 0 : ℕ)) * C + (j 1 : ℕ) = (j 0 : ℕ) * C + (j 1 : ℕ)
  rw [show (y 0 : ℕ) = 0 by omega, Nat.zero_mul, Nat.zero_add]

/-- The slots once the first `k` blocks are asked for. -/
def upTo (k : ℕ) (s : Fin 8) : Option ℕ := if (s : ℕ) < k then some (s : ℕ) else none

theorem upTo_long : upTo 7 = before 16 0 := by decide
theorem upTo_down : upTo 7 = before 44 0 := by decide
theorem upTo_short : upTo 4 = before 4 0 := by decide

/-- A load of all of a view reads what the view reads. -/
theorem readAt_all {sg : RefSig} {κ : Kind} {sp : Space} {s : Shape} {e : EltTy} {Val : EltTy → Type} (v : View sg κ sp s e) (f : v.ty.Contents Val)
    (off : Fin s.rank → ℕ) (inb : ∀ a, off a + s.size a ≤ s.size a) (h0 : ∀ a, off a = 0) :
    v.readAt Val (Rect.unit off s.size inb).toLoadRect f = v.read Val f :=
  funext fun x => congrArg (v.read Val f) (funext fun a => Fin.ext ((Rect.idx_unit_val off s.size inb x a).trans (by rw [h0 a, Nat.zero_add])))

/-- A store of all of a view leaves what was stored. -/
theorem read_writes_all {sg : RefSig} {κ : Kind} {sp : Space} {s : Shape} {e : EltTy} {Val : EltTy → Type} (v : View sg κ sp s e) (f : v.ty.Contents Val)
    (off : Fin s.rank → ℕ) (inb : ∀ a, off a + s.size a ≤ s.size a) (h0 : ∀ a, off a = 0) (w : s.Idx → Val e) :
    v.read Val (v.writes Val f [⟨Rect.unit off s.size inb, w⟩]) = w :=
  funext fun y => View.read_writes_cons_unit_of_mem v f inb w [] y y rfl fun a => by rw [h0 a, Nat.zero_add]

theorem zero2 : ∀ a : Fin 2, (![0, 0] : Fin 2 → ℕ) a = 0 := by decide
theorem zero3 : ∀ a : Fin 3, (![0, 0, 0] : Fin 3 → ℕ) a = 0 := by decide

/-- Layer `ly` of an array of matrices, each word cast. -/
def laid {L R C : ℕ} (A : Vec F (HS L R C) .f32) (ly : ℕ) (hL : ly < L) : Vec F (VS R C) .bf16 :=
  fun x => narrow (A (ix3 ⟨ly, hL⟩ (x 0) (x 1)))

/-- An on-chip matrix at its layer of the array, as a buffer of that value. -/
theorem owns_of_ready (c : Dev nD) {L R C : ℕ} (hbm : Memref sig .tc .hbm (HS L R C) .f32) (vm : Memref sig .tc .vmem (VS R C) .bf16) (hvm : vm.IsWhole)
    (X : Buf (Elt F) (hbm.view.loc (c : Thread nD τ))) (ly : ℕ) (hL : ly < L) :
    ready c hbm vm X ly ⊢ (owns (c : Thread nD τ) vm fullShare (laid (hbm.view.read (Elt F) X) ly hL) : sProp 𝕄) := by
  unfold ready owns
  rw [hvm.set_eq_univ]
  iintro ⟨%g, %hg, H⟩
  iexists g
  isplitr
  · ipureintro
    exact funext fun x => hg x _ rfl rfl rfl
  iexact H

end Cert.Post
-- ==== Proof.Load.lean ====
/-
  The six weight matrices of the call brought on chip at the first grid point: each of the call's six loops is the
  loop of Copy.lean at its own matrix, and so are the blocks asked for before it.
-/
module

public import proofs.«01_k».proof.Proof.Gen.Kernel2Ideal
public import proofs.«01_k».proof.Proof.Gen.Kernel2Ideal.Launch
public import proofs.«01_k».proof.Proof.Gen.Kernel2Ideal.Skeleton
public import proofs.«01_k».proof.Proof.Common
public import Idealize.ShloMosaic.Lib.Pipeline.Value
public import Idealize.ShloMosaic.Lib.ValueIdx
public import Idealize.ShloMosaic.Lib.Pipeline.FrameBody
public import Idealize.ShloMosaic.Lib.Ring
public import Idealize.ShloMosaic.Lib.Tactic

@[expose] public section

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The buffers the call is given, every one of the windows' and of the scratch whole. -/
structure Refs where
  (a1 : Memref sig .tc .vmem S512x1024 .f32) (h1 : a1.IsWhole) (a2 : Memref sig .tc .vmem S512x1024 .bf16)
  (h2 : a2.IsWhole) (a3 : Memref sig .tc .vmem S1x1024 .f32) (h3 : a3.IsWhole) (a4 : Memref sig .tc .vmem S1x1024 .f32)
  (h4 : a4.IsWhole) (a5 : Memref sig .tc .vmem S1x512x256 .f32) (h5 : a5.IsWhole)
  (a6 : Memref sig .tc .vmem S1x1024 .f32) (h6 : a6.IsWhole) (a7 : Memref sig .tc .hbm S1x1024x1024 .f32)
  (h7 : a7.IsWhole) (a8 : Memref sig .tc .hbm S2x1024x2816 .f32) (h8 : a8.IsWhole)
  (a9 : Memref sig .tc .hbm S2x1024x2816 .f32) (h9 : a9.IsWhole) (a10 : Memref sig .tc .hbm S2x2816x1024 .f32)
  (h10 : a10.IsWhole) (a11 : Memref sig .tc .hbm S2x1024x1024 .f32) (h11 : a11.IsWhole)
  (a12 : Memref sig .tc .hbm S2x256x1024 .f32) (h12 : a12.IsWhole) (a13 : Memref sig .tc .vmem S512x1024 .f32)
  (h13 : a13.IsWhole) (a14 : Memref sig .tc .vmem S1024x1024 .bf16) (h14 : a14.IsWhole)
  (a15 : Memref sig .tc .vmem S1024x2816 .bf16) (h15 : a15.IsWhole) (a16 : Memref sig .tc .vmem S1024x2816 .bf16)
  (h16 : a16.IsWhole) (a17 : Memref sig .tc .vmem S2816x1024 .bf16) (h17 : a17.IsWhole)
  (a18 : Memref sig .tc .vmem S1024x1024 .bf16) (h18 : a18.IsWhole) (a19 : Memref sig .tc .vmem S256x1024 .bf16)
  (h19 : a19.IsWhole) (a20 : Memref sig .tc .vmem S8x64x2816 .f32) (h20 : a20.IsWhole) (a21 : DmaSems sig S8)

/-- A text of the call at its buffers. -/
abbrev Refs.on {β : Sort _} (A : Refs) (f : ∀ (a1 : Memref sig .tc .vmem S512x1024 .f32) (h1 : a1.IsWhole) (a2 : Memref sig .tc .vmem S512x1024 .bf16)
    (h2 : a2.IsWhole) (a3 : Memref sig .tc .vmem S1x1024 .f32) (h3 : a3.IsWhole) (a4 : Memref sig .tc .vmem S1x1024 .f32)
    (h4 : a4.IsWhole) (a5 : Memref sig .tc .vmem S1x512x256 .f32) (h5 : a5.IsWhole)
    (a6 : Memref sig .tc .vmem S1x1024 .f32) (h6 : a6.IsWhole) (a7 : Memref sig .tc .hbm S1x1024x1024 .f32)
    (h7 : a7.IsWhole) (a8 : Memref sig .tc .hbm S2x1024x2816 .f32) (h8 : a8.IsWhole)
    (a9 : Memref sig .tc .hbm S2x1024x2816 .f32) (h9 : a9.IsWhole) (a10 : Memref sig .tc .hbm S2x2816x1024 .f32)
    (h10 : a10.IsWhole) (a11 : Memref sig .tc .hbm S2x1024x1024 .f32) (h11 : a11.IsWhole)
    (a12 : Memref sig .tc .hbm S2x256x1024 .f32) (h12 : a12.IsWhole) (a13 : Memref sig .tc .vmem S512x1024 .f32)
    (h13 : a13.IsWhole) (a14 : Memref sig .tc .vmem S1024x1024 .bf16) (h14 : a14.IsWhole)
    (a15 : Memref sig .tc .vmem S1024x2816 .bf16) (h15 : a15.IsWhole) (a16 : Memref sig .tc .vmem S1024x2816 .bf16)
    (h16 : a16.IsWhole) (a17 : Memref sig .tc .vmem S2816x1024 .bf16) (h17 : a17.IsWhole)
    (a18 : Memref sig .tc .vmem S1024x1024 .bf16) (h18 : a18.IsWhole) (a19 : Memref sig .tc .vmem S256x1024 .bf16)
    (h19 : a19.IsWhole) (a20 : Memref sig .tc .vmem S8x64x2816 .f32) (h20 : a20.IsWhole) (a21 : DmaSems sig S8), β) : β :=
  f A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21

variable (i : grid0.Coords) (A : Refs)

/-! ## Loop 1: the mixer's output projection -/

theorem at1 : ∀ t : Fin k0_t1_loop.trips, (k0_cond2 t = 1#1 ↔ (t : ℕ) + 7 < 16) ∧ (k0_off1 t = ![((t : ℕ) + 7) % 8] ∧ k0_off2 t = ![((t : ℕ) + 7) % 8, 0, 0]
    ∧ k0_off3 t = ![0, 64 * ((t : ℕ) + 7), 0])
    ∧ k0_off4 t = ![(t : ℕ) % 8] ∧ k0_off7 t = ![(t : ℕ) % 8, 0, 0] ∧ k0_off8 t = ![64 * (t : ℕ), 0] := by
  decide +kernel

theorem body1_eq (h : k0_cond1 i = 1#1) (t : Fin k0_t1_loop.trips) (u : Unit) :
    A.on (k0_t1_body (F := F) i) h t u
      = trip (L := 1) (R := 1024) (C := 1024) A.a7 A.a20 A.a21 A.a14 (k0_cond2 t = 1#1) (k0_off1 t) (k0_off2 t) (k0_off3 t) (k0_off4 t) (k0_off5 t) (k0_off6 t) (k0_off7 t) (k0_off8 t)
        (k0_off1_inb i t h) (k0_off2_inb i t h) (k0_off3_inb i t h) (k0_off4_inb i t h) (k0_off5_inb i t h) (k0_off6_inb i t h) (k0_off7_inb i t h) (k0_off8_inb i t h)
        squeezes_S1x64x1024_S64x1024 k0_pay2 k0_pay12 (Scf.iv 0#32 1#32 t) (View.loadsAt_vmem h_S1x64x1024) (View.loadsAt_vmem h_S64x1024)
        (View.stores_vmem h_S64x1024 (A.h14.storeExact_slice rfl _ (k0_off8_packedbf16 i t h)) (fun _ => rfl)) := by
  unfold Refs.on k0_t1_body
  rw [k0_part1_eq_skeleton]
  rfl

theorem wp_loop1 (c : Dev nD) (X : Buf (Elt F) (A.a7.view.loc (c : Thread nD τ))) (h : k0_cond1 i = 1#1) :
    state c A.a7 A.a20 A.a21 A.a14 X 0 (before 16 0) 0
      ⊢ wp frame (wpE (defs₀ (F := F)) Variants.none c none) Set.univ
        (Scf.Loop.for k0_t1_loop (k0_t1_ok i h) ⟨⟩ (A.on (k0_t1_body i) h))
        (fun _ => state c A.a7 A.a20 A.a21 A.a14 X 0 (fun _ => none) 16) := by
  refine wp_matrix c A.a7 A.a20 A.a21 A.a14 X 0 16 _ _ _ _ (by decide) _ fun t u => ?_
  obtain ⟨hc, h123, h4, h7, h8⟩ := at1 t
  rw [body1_eq]
  exact wp_trip c A.a7 A.a20 A.a21 A.a14 X 0 _ _ _ _ _ _ _ _ _ _ _ _ _ _ _ _ _ _ _ _ _ _ _ _ 16 t t.isLt h_S64x1024 hc (fun _ => h123) h4 h7 h8
    (pay_apply _ _)

/-! ## Loop 2: the gate projection -/

theorem at2 : ∀ t : Fin k0_t2_loop.trips, (k0_cond4 t = 1#1 ↔ (t : ℕ) + 7 < 16) ∧ (k0_off9 t = ![((t : ℕ) + 7) % 8] ∧ k0_off10 t = ![((t : ℕ) + 7) % 8, 0, 0]
    ∧ k0_off11 t = ![1, 64 * ((t : ℕ) + 7), 0])
    ∧ k0_off12 t = ![(t : ℕ) % 8] ∧ k0_off15 t = ![(t : ℕ) % 8, 0, 0] ∧ k0_off16 t = ![64 * (t : ℕ), 0] := by
  decide +kernel

theorem body2_eq (h : k0_cond3 i = 1#1) (t : Fin k0_t2_loop.trips) (u : Unit) :
    A.on (k0_t2_body (F := F) i) h t u
      = trip (L := 2) (R := 1024) (C := 2816) A.a8 A.a20 A.a21 A.a15 (k0_cond4 t = 1#1) (k0_off9 t) (k0_off10 t) (k0_off11 t) (k0_off12 t) (k0_off13 t) (k0_off14 t) (k0_off15 t) (k0_off16 t)
        (k0_off9_inb i t h) (k0_off10_inb i t h) (k0_off11_inb i t h) (k0_off12_inb i t h) (k0_off13_inb i t h) (k0_off14_inb i t h) (k0_off15_inb i t h) (k0_off16_inb i t h)
        squeezes_S1x64x2816_S64x2816 k0_pay3 k0_pay8 (Scf.iv 0#32 1#32 t) (View.loadsAt_vmem h_S1x64x2816) (View.loadsAt_vmem h_S64x2816)
        (View.stores_vmem h_S64x2816 (A.h15.storeExact_slice rfl _ (k0_off16_packedbf16 i t h)) (fun _ => rfl)) := by
  unfold Refs.on k0_t2_body
  rw [k0_part3_eq_skeleton]
  rfl

theorem wp_loop2 (c : Dev nD) (X : Buf (Elt F) (A.a8.view.loc (c : Thread nD τ))) (h : k0_cond3 i = 1#1) :
    state c A.a8 A.a20 A.a21 A.a15 X 1 (before 16 0) 0
      ⊢ wp frame (wpE (defs₀ (F := F)) Variants.none c none) Set.univ
        (Scf.Loop.for k0_t2_loop (k0_t2_ok i h) ⟨⟩ (A.on (k0_t2_body i) h))
        (fun _ => state c A.a8 A.a20 A.a21 A.a15 X 1 (fun _ => none) 16) := by
  refine wp_matrix c A.a8 A.a20 A.a21 A.a15 X 1 16 _ _ _ _ (by decide) _ fun t u => ?_
  obtain ⟨hc, h123, h4, h7, h8⟩ := at2 t
  rw [body2_eq]
  exact wp_trip c A.a8 A.a20 A.a21 A.a15 X 1 _ _ _ _ _ _ _ _ _ _ _ _ _ _ _ _ _ _ _ _ _ _ _ _ 16 t t.isLt h_S64x2816 hc (fun _ => h123) h4 h7 h8
    (pay_apply _ _)

/-! ## Loop 3: the up projection -/

theorem at3 : ∀ t : Fin k0_t3_loop.trips, (k0_cond5 t = 1#1 ↔ (t : ℕ) + 7 < 16) ∧ (k0_off17 t = ![((t : ℕ) + 7) % 8] ∧ k0_off18 t = ![((t : ℕ) + 7) % 8, 0, 0]
    ∧ k0_off19 t = ![1, 64 * ((t : ℕ) + 7), 0])
    ∧ k0_off20 t = ![(t : ℕ) % 8] ∧ k0_off23 t = ![(t : ℕ) % 8, 0, 0] ∧ k0_off24 t = ![64 * (t : ℕ), 0] := by
  decide +kernel

theorem body3_eq (h : k0_cond3 i = 1#1) (t : Fin k0_t3_loop.trips) (u : Unit) :
    A.on (k0_t3_body (F := F) i) h t u
      = trip (L := 2) (R := 1024) (C := 2816) A.a9 A.a20 A.a21 A.a16 (k0_cond5 t = 1#1) (k0_off17 t) (k0_off18 t) (k0_off19 t) (k0_off20 t) (k0_off21 t) (k0_off22 t) (k0_off23 t) (k0_off24 t)
        (k0_off17_inb i t h) (k0_off18_inb i t h) (k0_off19_inb i t h) (k0_off20_inb i t h) (k0_off21_inb i t h) (k0_off22_inb i t h) (k0_off23_inb i t h) (k0_off24_inb i t h)
        squeezes_S1x64x2816_S64x2816 k0_pay4 k0_pay9 (Scf.iv 0#32 1#32 t) (View.loadsAt_vmem h_S1x64x2816) (View.loadsAt_vmem h_S64x2816)
        (View.stores_vmem h_S64x2816 (A.h16.storeExact_slice rfl _ (k0_off24_packedbf16 i t h)) (fun _ => rfl)) := by
  unfold Refs.on k0_t3_body
  rw [k0_part4_eq_skeleton]
  rfl

theorem wp_loop3 (c : Dev nD) (X : Buf (Elt F) (A.a9.view.loc (c : Thread nD τ))) (h : k0_cond3 i = 1#1) :
    state c A.a9 A.a20 A.a21 A.a16 X 1 (before 16 0) 0
      ⊢ wp frame (wpE (defs₀ (F := F)) Variants.none c none) Set.univ
        (Scf.Loop.for k0_t3_loop (k0_t3_ok i h) ⟨⟩ (A.on (k0_t3_body i) h))
        (fun _ => state c A.a9 A.a20 A.a21 A.a16 X 1 (fun _ => none) 16) := by
  refine wp_matrix c A.a9 A.a20 A.a21 A.a16 X 1 16 _ _ _ _ (by decide) _ fun t u => ?_
  obtain ⟨hc, h123, h4, h7, h8⟩ := at3 t
  rw [body3_eq]
  exact wp_trip c A.a9 A.a20 A.a21 A.a16 X 1 _ _ _ _ _ _ _ _ _ _ _ _ _ _ _ _ _ _ _ _ _ _ _ _ 16 t t.isLt h_S64x2816 hc (fun _ => h123) h4 h7 h8
    (pay_apply _ _)

/-! ## Loop 4: the down projection -/

theorem at4 : ∀ t : Fin k0_t4_loop.trips, (k0_cond6 t = 1#1 ↔ (t : ℕ) + 7 < 44) ∧ (k0_off25 t = ![((t : ℕ) + 7) % 8] ∧ k0_off26 t = ![((t : ℕ) + 7) % 8, 0, 0]
    ∧ k0_off27 t = ![1, 64 * ((t : ℕ) + 7), 0])
    ∧ k0_off28 t = ![(t : ℕ) % 8] ∧ k0_off31 t = ![(t : ℕ) % 8, 0, 0] ∧ k0_off32 t = ![64 * (t : ℕ), 0] := by
  decide +kernel

theorem body4_eq (h : k0_cond3 i = 1#1) (t : Fin k0_t4_loop.trips) (u : Unit) :
    A.on (k0_t4_body (F := F) i) h t u
      = trip (L := 2) (R := 2816) (C := 1024) A.a10 A.a20 A.a21 A.a17 (k0_cond6 t = 1#1) (k0_off25 t) (k0_off26 t) (k0_off27 t) (k0_off28 t) (k0_off29 t) (k0_off30 t) (k0_off31 t) (k0_off32 t)
        (k0_off25_inb i t h) (k0_off26_inb i t h) (k0_off27_inb i t h) (k0_off28_inb i t h) (k0_off29_inb i t h) (k0_off30_inb i t h) (k0_off31_inb i t h) (k0_off32_inb i t h)
        squeezes_S1x64x1024_S64x1024 k0_pay5 k0_pay10 (Scf.iv 0#32 1#32 t) (View.loadsAt_vmem h_S1x64x1024) (View.loadsAt_vmem h_S64x1024)
        (View.stores_vmem h_S64x1024 (A.h17.storeExact_slice rfl _ (k0_off32_packedbf16 i t h)) (fun _ => rfl)) := by
  unfold Refs.on k0_t4_body
  rw [k0_part5_eq_skeleton]
  rfl

theorem wp_loop4 (c : Dev nD) (X : Buf (Elt F) (A.a10.view.loc (c : Thread nD τ))) (h : k0_cond3 i = 1#1) :
    state c A.a10 A.a20 A.a21 A.a17 X 1 (before 44 0) 0
      ⊢ wp frame (wpE (defs₀ (F := F)) Variants.none c none) Set.univ
        (Scf.Loop.for k0_t4_loop (k0_t4_ok i h) ⟨⟩ (A.on (k0_t4_body i) h))
        (fun _ => state c A.a10 A.a20 A.a21 A.a17 X 1 (fun _ => none) 44) := by
  refine wp_matrix c A.a10 A.a20 A.a21 A.a17 X 1 44 _ _ _ _ (by decide) _ fun t u => ?_
  obtain ⟨hc, h123, h4, h7, h8⟩ := at4 t
  rw [body4_eq]
  exact wp_trip c A.a10 A.a20 A.a21 A.a17 X 1 _ _ _ _ _ _ _ _ _ _ _ _ _ _ _ _ _ _ _ _ _ _ _ _ 44 t t.isLt h_S64x1024 hc (fun _ => h123) h4 h7 h8
    (pay_apply _ _)

/-! ## Loop 5: the per-layer gate -/

theorem at5 : ∀ t : Fin k0_t5_loop.trips, (k0_cond7 t = 1#1 ↔ (t : ℕ) + 7 < 16) ∧ (k0_off33 t = ![((t : ℕ) + 7) % 8] ∧ k0_off34 t = ![((t : ℕ) + 7) % 8, 0, 0]
    ∧ k0_off35 t = ![1, 64 * ((t : ℕ) + 7), 0])
    ∧ k0_off36 t = ![(t : ℕ) % 8] ∧ k0_off39 t = ![(t : ℕ) % 8, 0, 0] ∧ k0_off40 t = ![64 * (t : ℕ), 0] := by
  decide +kernel

theorem body5_eq (h : k0_cond3 i = 1#1) (t : Fin k0_t5_loop.trips) (u : Unit) :
    A.on (k0_t5_body (F := F) i) h t u
      = trip (L := 2) (R := 1024) (C := 1024) A.a11 A.a20 A.a21 A.a18 (k0_cond7 t = 1#1) (k0_off33 t) (k0_off34 t) (k0_off35 t) (k0_off36 t) (k0_off37 t) (k0_off38 t) (k0_off39 t) (k0_off40 t)
        (k0_off33_inb i t h) (k0_off34_inb i t h) (k0_off35_inb i t h) (k0_off36_inb i t h) (k0_off37_inb i t h) (k0_off38_inb i t h) (k0_off39_inb i t h) (k0_off40_inb i t h)
        squeezes_S1x64x1024_S64x1024 k0_pay6 k0_pay11 (Scf.iv 0#32 1#32 t) (View.loadsAt_vmem h_S1x64x1024) (View.loadsAt_vmem h_S64x1024)
        (View.stores_vmem h_S64x1024 (A.h18.storeExact_slice rfl _ (k0_off40_packedbf16 i t h)) (fun _ => rfl)) := by
  unfold Refs.on k0_t5_body
  rw [k0_part6_eq_skeleton]
  rfl

theorem wp_loop5 (c : Dev nD) (X : Buf (Elt F) (A.a11.view.loc (c : Thread nD τ))) (h : k0_cond3 i = 1#1) :
    state c A.a11 A.a20 A.a21 A.a18 X 1 (before 16 0) 0
      ⊢ wp frame (wpE (defs₀ (F := F)) Variants.none c none) Set.univ
        (Scf.Loop.for k0_t5_loop (k0_t5_ok i h) ⟨⟩ (A.on (k0_t5_body i) h))
        (fun _ => state c A.a11 A.a20 A.a21 A.a18 X 1 (fun _ => none) 16) := by
  refine wp_matrix c A.a11 A.a20 A.a21 A.a18 X 1 16 _ _ _ _ (by decide) _ fun t u => ?_
  obtain ⟨hc, h123, h4, h7, h8⟩ := at5 t
  rw [body5_eq]
  exact wp_trip c A.a11 A.a20 A.a21 A.a18 X 1 _ _ _ _ _ _ _ _ _ _ _ _ _ _ _ _ _ _ _ _ _ _ _ _ 16 t t.isLt h_S64x1024 hc (fun _ => h123) h4 h7 h8
    (pay_apply _ _)

/-! ## Loop 6: the per-layer projection -/

theorem at6 : ∀ t : Fin k0_t6_loop.trips, (k0_cond8 t = 1#1 ↔ (t : ℕ) + 7 < 4) ∧ ((k0_cond8 t = 1#1 → False))
    ∧ k0_off44 t = ![(t : ℕ) % 8] ∧ k0_off47 t = ![(t : ℕ) % 8, 0, 0] ∧ k0_off48 t = ![64 * (t : ℕ), 0] := by
  decide +kernel

theorem body6_eq (h : k0_cond3 i = 1#1) (t : Fin k0_t6_loop.trips) (u : Unit) :
    A.on (k0_t6_body (F := F) i) h 0#32 t u
      = trip (L := 2) (R := 256) (C := 1024) A.a12 A.a20 A.a21 A.a19 (k0_cond8 t = 1#1) (k0_off41 t) (k0_off42 t) (k0_off43 t) (k0_off44 t) (k0_off45 t) (k0_off46 t) (k0_off47 t) (k0_off48 t)
        (k0_off41_inb i t h) (k0_off42_inb i t h) (k0_off43_inb i t h) (k0_off44_inb i t h) (k0_off45_inb i t h) (k0_off46_inb i t h) (k0_off47_inb i t h) (k0_off48_inb i t h)
        squeezes_S1x64x1024_S64x1024 k0_pay7 k0_pay13 (Scf.iv 0#32 1#32 t) (View.loadsAt_vmem h_S1x64x1024) (View.loadsAt_vmem h_S64x1024)
        (View.stores_vmem h_S64x1024 (A.h19.storeExact_slice rfl _ (k0_off48_packedbf16 i t h)) (fun _ => rfl)) := by
  unfold Refs.on k0_t6_body
  rw [k0_part7_eq_skeleton]
  rfl

theorem wp_loop6 (c : Dev nD) (X : Buf (Elt F) (A.a12.view.loc (c : Thread nD τ))) (h : k0_cond3 i = 1#1) :
    state c A.a12 A.a20 A.a21 A.a19 X 1 (before 4 0) 0
      ⊢ wp frame (wpE (defs₀ (F := F)) Variants.none c none) Set.univ
        (Scf.Loop.for k0_t6_loop (k0_t6_ok i h) ⟨⟩ (A.on (k0_t6_body i) h 0#32))
        (fun _ => state c A.a12 A.a20 A.a21 A.a19 X 1 (fun _ => none) 4) := by
  refine wp_matrix c A.a12 A.a20 A.a21 A.a19 X 1 4 _ _ _ _ (by decide) _ fun t u => ?_
  obtain ⟨hc, h123, h4, h7, h8⟩ := at6 t
  rw [body6_eq]
  exact wp_trip c A.a12 A.a20 A.a21 A.a19 X 1 _ _ _ _ _ _ _ _ _ _ _ _ _ _ _ _ _ _ _ _ _ _ _ _ 4 t t.isLt h_S64x1024 hc (fun e => absurd e h123) h4 h7 h8
    (pay_apply _ _)

end Cert.Post
-- ==== Proof.Parts.lean ====
/-
  The six weight matrices of the call brought on chip at the first grid point, one after another: what each stretch of
  the call's text does to the ring, the arrays and the matrices, and so what all of it does.
-/
module

public import proofs.«01_k».proof.Proof.Load
public import proofs.«01_k».proof.Proof.Turn
public import Idealize.ShloMosaic.Lib.Pipeline.Value
public import Idealize.ShloMosaic.Lib.ValueIdx
public import Idealize.ShloMosaic.Lib.Pipeline.FrameBody
public import Idealize.ShloMosaic.Lib.Ring
public import Idealize.ShloMosaic.Lib.Tactic

@[expose] public section

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

variable (i : grid0.Coords) (A : Refs)

theorem part2_eq :
    A.on (k0_part2 (F := F) i)
      = primes A.a7 A.a20 A.a21 0 (by decide) (by decide) squeezes_S1x64x1024_S64x1024 [⟨0, by decide⟩, ⟨1, by decide⟩, ⟨2, by decide⟩, ⟨3, by decide⟩] := by
  unfold Refs.on
  rw [k0_part2_eq_skeleton]
  rfl

/-! ## The first matrix -/

/-- The text that brings the first matrix on chip. -/
def fill1 (h : k0_cond1 i = 1#1) : Prog (TpuEff nD τ sig (Elt F) Λ₀ .tc) PUnit :=
  A.on (k0_part2 i) >>= fun _ =>
  primes A.a7 A.a20 A.a21 0 (by decide) (by decide) squeezes_S1x64x1024_S64x1024 [⟨4, by decide⟩, ⟨5, by decide⟩, ⟨6, by decide⟩] >>= fun _ =>
  Scf.Loop.for k0_t1_loop (k0_t1_ok i h) ⟨⟩ (A.on (k0_t1_body i) h)

theorem wp_fill1 (c : Dev nD) (h : k0_cond1 i = 1#1) (X7 : Buf (Elt F) (A.a7.view.loc (c : Thread nD τ))) :
    iprop((pool (F := F) c A.a20 A.a21 ∗ whole c A.a7 X7) ∗ blank (F := F) c A.a14 ∗ waits (F := F) c)
      ⊢ wp frame (wpE (defs₀ (F := F)) Variants.none c none) Set.univ (fill1 i A h)
        (fun _ => iprop(pool (F := F) c A.a20 A.a21 ∗ whole c A.a7 X7 ∗ ready c A.a7 A.a14 X7 0 ∗ waits (F := F) c)) := by
  unfold fill1
  rw [part2_eq]
  refine wp_then c ((mid_open c A.a7 A.a20 A.a21 X7 0).trans (wp_ask c A.a7 A.a20 A.a21 X7 0 _ _ _ h_S64x1024 _ _ (upTo 4) (by decide) (by decide) (by decide)))
    (fun _ => ?_) .rfl
  exact wp_finish c A.a7 A.a20 A.a21 A.a14 X7 0 _ _ _ h_S64x1024 _ 16 rfl (wp_loop1 i A c X7 h) _ _ (by decide) (by decide)
    (by rw [← upTo_long]; decide)

/-! ## The other five -/

theorem part8_eq :
    A.on (k0_part8 (F := F) i)
      = primes A.a8 A.a20 A.a21 1 (by decide) (by decide) squeezes_S1x64x2816_S64x2816 [⟨0, by decide⟩, ⟨1, by decide⟩, ⟨2, by decide⟩, ⟨3, by decide⟩] := by
  unfold Refs.on
  rw [k0_part8_eq_skeleton]
  rfl

theorem wp_part8 (c : Dev nD) (X8 : Buf (Elt F) (A.a8.view.loc (c : Thread nD τ))) :
    mid c A.a8 A.a20 A.a21 X8 1 (upTo 0)
      ⊢ wp frame (wpE (defs₀ (F := F)) Variants.none c none) Set.univ (A.on (k0_part8 i)) (fun _ => mid c A.a8 A.a20 A.a21 X8 1 (upTo 4)) := by
  rw [part8_eq]
  exact wp_ask c A.a8 A.a20 A.a21 X8 1 _ _ _ h_S64x2816 _ _ _ (by decide) (by decide) (by decide)

theorem part9_eq (h : k0_cond3 i = 1#1) :
    A.on (k0_part9 (F := F) i) h
      = (primes A.a8 A.a20 A.a21 1 (by decide) (by decide) squeezes_S1x64x2816_S64x2816 [⟨4, by decide⟩, ⟨5, by decide⟩, ⟨6, by decide⟩] >>= fun _ =>
        Scf.Loop.for k0_t2_loop (k0_t2_ok i h) ⟨⟩ (A.on (k0_t2_body i) h) >>= fun _ =>
        primes A.a9 A.a20 A.a21 1 (by decide) (by decide) squeezes_S1x64x2816_S64x2816 [⟨0, by decide⟩]) := by
  unfold Refs.on
  rw [k0_part9_eq_skeleton]
  rfl

theorem wp_part9 (c : Dev nD) (h : k0_cond3 i = 1#1) (X8 : Buf (Elt F) (A.a8.view.loc (c : Thread nD τ))) (X9 : Buf (Elt F) (A.a9.view.loc (c : Thread nD τ))) :
    iprop(mid c A.a8 A.a20 A.a21 X8 1 (upTo 4) ∗ (blank (F := F) c A.a15 ∗ waits (F := F) c) ∗ whole c A.a9 X9)
      ⊢ wp frame (wpE (defs₀ (F := F)) Variants.none c none) Set.univ (A.on (k0_part9 i) h)
        (fun _ => iprop(mid c A.a9 A.a20 A.a21 X9 1 (upTo 1) ∗ (whole c A.a8 X8 ∗ ready c A.a8 A.a15 X8 1) ∗ waits (F := F) c)) := by
  rw [part9_eq]
  exact wp_turn c A.a8 A.a9 A.a20 A.a21 A.a15 X8 X9 1 1 _ _ _ h_S64x2816 _ _ _ _ 16 rfl
    (wp_loop2 i A c X8 h) _ _ _ _ (by decide) (by decide) (by rw [← upTo_long]; decide) (by decide) (by decide) h_S64x2816

theorem part10_eq :
    A.on (k0_part10 (F := F) i)
      = primes A.a9 A.a20 A.a21 1 (by decide) (by decide) squeezes_S1x64x2816_S64x2816 [⟨1, by decide⟩, ⟨2, by decide⟩, ⟨3, by decide⟩, ⟨4, by decide⟩] := by
  unfold Refs.on
  rw [k0_part10_eq_skeleton]
  rfl

theorem wp_part10 (c : Dev nD) (X9 : Buf (Elt F) (A.a9.view.loc (c : Thread nD τ))) :
    mid c A.a9 A.a20 A.a21 X9 1 (upTo 1)
      ⊢ wp frame (wpE (defs₀ (F := F)) Variants.none c none) Set.univ (A.on (k0_part10 i)) (fun _ => mid c A.a9 A.a20 A.a21 X9 1 (upTo 5)) := by
  rw [part10_eq]
  exact wp_ask c A.a9 A.a20 A.a21 X9 1 _ _ _ h_S64x2816 _ _ _ (by decide) (by decide) (by decide)

theorem part11_eq (h : k0_cond3 i = 1#1) :
    A.on (k0_part11 (F := F) i) h
      = (primes A.a9 A.a20 A.a21 1 (by decide) (by decide) squeezes_S1x64x2816_S64x2816 [⟨5, by decide⟩, ⟨6, by decide⟩] >>= fun _ =>
        Scf.Loop.for k0_t3_loop (k0_t3_ok i h) ⟨⟩ (A.on (k0_t3_body i) h) >>= fun _ =>
        primes A.a10 A.a20 A.a21 1 (by decide) (by decide) squeezes_S1x64x1024_S64x1024 [⟨0, by decide⟩, ⟨1, by decide⟩]) := by
  unfold Refs.on
  rw [k0_part11_eq_skeleton]
  rfl

theorem wp_part11 (c : Dev nD) (h : k0_cond3 i = 1#1) (X9 : Buf (Elt F) (A.a9.view.loc (c : Thread nD τ))) (X10 : Buf (Elt F) (A.a10.view.loc (c : Thread nD τ))) :
    iprop(mid c A.a9 A.a20 A.a21 X9 1 (upTo 5) ∗ (blank (F := F) c A.a16 ∗ waits (F := F) c) ∗ whole c A.a10 X10)
      ⊢ wp frame (wpE (defs₀ (F := F)) Variants.none c none) Set.univ (A.on (k0_part11 i) h)
        (fun _ => iprop(mid c A.a10 A.a20 A.a21 X10 1 (upTo 2) ∗ (whole c A.a9 X9 ∗ ready c A.a9 A.a16 X9 1) ∗ waits (F := F) c)) := by
  rw [part11_eq]
  exact wp_turn c A.a9 A.a10 A.a20 A.a21 A.a16 X9 X10 1 1 _ _ _ h_S64x2816 _ _ _ _ 16 rfl
    (wp_loop3 i A c X9 h) _ _ _ _ (by decide) (by decide) (by rw [← upTo_long]; decide) (by decide) (by decide) h_S64x1024

theorem part12_eq :
    A.on (k0_part12 (F := F) i)
      = primes A.a10 A.a20 A.a21 1 (by decide) (by decide) squeezes_S1x64x1024_S64x1024 [⟨2, by decide⟩, ⟨3, by decide⟩, ⟨4, by decide⟩, ⟨5, by decide⟩] := by
  unfold Refs.on
  rw [k0_part12_eq_skeleton]
  rfl

theorem wp_part12 (c : Dev nD) (X10 : Buf (Elt F) (A.a10.view.loc (c : Thread nD τ))) :
    mid c A.a10 A.a20 A.a21 X10 1 (upTo 2)
      ⊢ wp frame (wpE (defs₀ (F := F)) Variants.none c none) Set.univ (A.on (k0_part12 i)) (fun _ => mid c A.a10 A.a20 A.a21 X10 1 (upTo 6)) := by
  rw [part12_eq]
  exact wp_ask c A.a10 A.a20 A.a21 X10 1 _ _ _ h_S64x1024 _ _ _ (by decide) (by decide) (by decide)

theorem part13_eq (h : k0_cond3 i = 1#1) :
    A.on (k0_part13 (F := F) i) h
      = (primes A.a10 A.a20 A.a21 1 (by decide) (by decide) squeezes_S1x64x1024_S64x1024 [⟨6, by decide⟩] >>= fun _ =>
        Scf.Loop.for k0_t4_loop (k0_t4_ok i h) ⟨⟩ (A.on (k0_t4_body i) h) >>= fun _ =>
        primes A.a11 A.a20 A.a21 1 (by decide) (by decide) squeezes_S1x64x1024_S64x1024 [⟨0, by decide⟩, ⟨1, by decide⟩, ⟨2, by decide⟩]) := by
  unfold Refs.on
  rw [k0_part13_eq_skeleton]
  rfl

theorem wp_part13 (c : Dev nD) (h : k0_cond3 i = 1#1) (X10 : Buf (Elt F) (A.a10.view.loc (c : Thread nD τ))) (X11 : Buf (Elt F) (A.a11.view.loc (c : Thread nD τ))) :
    iprop(mid c A.a10 A.a20 A.a21 X10 1 (upTo 6) ∗ (blank (F := F) c A.a17 ∗ waits (F := F) c) ∗ whole c A.a11 X11)
      ⊢ wp frame (wpE (defs₀ (F := F)) Variants.none c none) Set.univ (A.on (k0_part13 i) h)
        (fun _ => iprop(mid c A.a11 A.a20 A.a21 X11 1 (upTo 3) ∗ (whole c A.a10 X10 ∗ ready c A.a10 A.a17 X10 1) ∗ waits (F := F) c)) := by
  rw [part13_eq]
  exact wp_turn c A.a10 A.a11 A.a20 A.a21 A.a17 X10 X11 1 1 _ _ _ h_S64x1024 _ _ _ _ 44 rfl
    (wp_loop4 i A c X10 h) _ _ _ _ (by decide) (by decide) (by rw [← upTo_down]; decide) (by decide) (by decide) h_S64x1024

theorem part14_eq (h : k0_cond3 i = 1#1) :
    A.on (k0_part14 (F := F) i) h
      = (primes A.a11 A.a20 A.a21 1 (by decide) (by decide) squeezes_S1x64x1024_S64x1024 [⟨3, by decide⟩, ⟨4, by decide⟩, ⟨5, by decide⟩, ⟨6, by decide⟩] >>= fun _ =>
        Scf.Loop.for k0_t5_loop (k0_t5_ok i h) ⟨⟩ (A.on (k0_t5_body i) h) >>= fun _ => pure ⟨⟩) := by
  unfold Refs.on
  rw [k0_part14_eq_skeleton]
  rfl

theorem wp_part14 (c : Dev nD) (h : k0_cond3 i = 1#1) (X11 : Buf (Elt F) (A.a11.view.loc (c : Thread nD τ))) :
    iprop(mid c A.a11 A.a20 A.a21 X11 1 (upTo 3) ∗ blank (F := F) c A.a18 ∗ waits (F := F) c)
      ⊢ wp frame (wpE (defs₀ (F := F)) Variants.none c none) Set.univ (A.on (k0_part14 i) h)
        (fun _ => iprop(pool (F := F) c A.a20 A.a21 ∗ whole c A.a11 X11 ∗ ready c A.a11 A.a18 X11 1 ∗ waits (F := F) c)) := by
  rw [part14_eq]
  simp only [bind_pure_unit]
  exact wp_finish c A.a11 A.a20 A.a21 A.a18 X11 1 _ _ _ h_S64x1024 _ 16 rfl (wp_loop5 i A c X11 h) _ _ (by decide) (by decide)
    (by rw [← upTo_long]; decide)

/-- The text that brings the other five on chip. -/
def fill2 (h : k0_cond3 i = 1#1) : Prog (TpuEff nD τ sig (Elt F) Λ₀ .tc) PUnit :=
  A.on (k0_part8 i) >>= fun _ =>
  A.on (k0_part9 i) h >>= fun _ =>
  A.on (k0_part10 i) >>= fun _ =>
  A.on (k0_part11 i) h >>= fun _ =>
  A.on (k0_part12 i) >>= fun _ =>
  A.on (k0_part13 i) h >>= fun _ =>
  A.on (k0_part14 i) h >>= fun _ =>
  primes A.a12 A.a20 A.a21 1 (by decide) (by decide) squeezes_S1x64x1024_S64x1024 [⟨0, by decide⟩, ⟨1, by decide⟩, ⟨2, by decide⟩, ⟨3, by decide⟩] >>= fun _ =>
  Scf.Loop.for k0_t6_loop (k0_t6_ok i h) ⟨⟩ (A.on (k0_t6_body i) h 0#32)

theorem wp_fill2 (c : Dev nD) (h : k0_cond3 i = 1#1) (X8 : Buf (Elt F) (A.a8.view.loc (c : Thread nD τ))) (X9 : Buf (Elt F) (A.a9.view.loc (c : Thread nD τ))) (X10 : Buf (Elt F) (A.a10.view.loc (c : Thread nD τ))) (X11 : Buf (Elt F) (A.a11.view.loc (c : Thread nD τ))) (X12 : Buf (Elt F) (A.a12.view.loc (c : Thread nD τ))) :
    iprop(pool (F := F) c A.a20 A.a21 ∗ (whole c A.a8 X8 ∗ whole c A.a9 X9 ∗ whole c A.a10 X10 ∗ whole c A.a11 X11 ∗ whole c A.a12 X12) ∗ (blank (F := F) c A.a15 ∗ blank (F := F) c A.a16 ∗ blank (F := F) c A.a17 ∗ blank (F := F) c A.a18 ∗ blank (F := F) c A.a19) ∗ waits (F := F) c)
      ⊢ wp frame (wpE (defs₀ (F := F)) Variants.none c none) Set.univ (fill2 i A h)
        (fun _ => iprop(pool (F := F) c A.a20 A.a21 ∗ (whole c A.a8 X8 ∗ whole c A.a9 X9 ∗ whole c A.a10 X10 ∗ whole c A.a11 X11 ∗ whole c A.a12 X12) ∗ (ready c A.a8 A.a15 X8 1 ∗ ready c A.a9 A.a16 X9 1 ∗ ready c A.a10 A.a17 X10 1 ∗ ready c A.a11 A.a18 X11 1 ∗ ready c A.a12 A.a19 X12 1) ∗ waits (F := F) c)) := by
  unfold fill2
  iintro ⟨Hp, ⟨A8, A9, A10, A11, A12⟩, ⟨B15, B16, B17, B18, B19⟩, HW⟩
  rw [wp_bind]
  ihave Hm := (mid_open c A.a8 A.a20 A.a21 X8 1) $$ [Hp A8]
  · isplitl [Hp]; · iexact Hp
    iexact A8
  iapply (wp_wand_r frame (wpE (defs₀ (F := F)) Variants.none c none) Set.univ)
  isplitl [Hm]
  · iapply (wp_part8 i A c X8)
    iexact Hm
  iintro %_ Hm
  rw [wp_bind]
  iapply (wp_wand_r frame (wpE (defs₀ (F := F)) Variants.none c none) Set.univ)
  isplitl [Hm B15 HW A9]
  · iapply (wp_part9 i A c h X8 X9)
    isplitl [Hm]
    · iexact Hm
    isplitl [B15 HW]
    · isplitl [B15]
      · iexact B15
      iexact HW
    iexact A9
  iintro %_ ⟨Hm, ⟨A8, R15⟩, HW⟩
  rw [wp_bind]
  iapply (wp_wand_r frame (wpE (defs₀ (F := F)) Variants.none c none) Set.univ)
  isplitl [Hm]
  · iapply (wp_part10 i A c X9)
    iexact Hm
  iintro %_ Hm
  rw [wp_bind]
  iapply (wp_wand_r frame (wpE (defs₀ (F := F)) Variants.none c none) Set.univ)
  isplitl [Hm B16 HW A10]
  · iapply (wp_part11 i A c h X9 X10)
    isplitl [Hm]
    · iexact Hm
    isplitl [B16 HW]
    · isplitl [B16]
      · iexact B16
      iexact HW
    iexact A10
  iintro %_ ⟨Hm, ⟨A9, R16⟩, HW⟩
  rw [wp_bind]
  iapply (wp_wand_r frame (wpE (defs₀ (F := F)) Variants.none c none) Set.univ)
  isplitl [Hm]
  · iapply (wp_part12 i A c X10)
    iexact Hm
  iintro %_ Hm
  rw [wp_bind]
  iapply (wp_wand_r frame (wpE (defs₀ (F := F)) Variants.none c none) Set.univ)
  isplitl [Hm B17 HW A11]
  · iapply (wp_part13 i A c h X10 X11)
    isplitl [Hm]
    · iexact Hm
    isplitl [B17 HW]
    · isplitl [B17]
      · iexact B17
      iexact HW
    iexact A11
  iintro %_ ⟨Hm, ⟨A10, R17⟩, HW⟩
  rw [wp_bind]
  iapply (wp_wand_r frame (wpE (defs₀ (F := F)) Variants.none c none) Set.univ)
  isplitl [Hm B18 HW]
  · iapply (wp_part14 i A c h X11)
    isplitl [Hm]
    · iexact Hm
    isplitl [B18]
    · iexact B18
    iexact HW
  iintro %_ ⟨Hp, A11, R18, HW⟩
  rw [wp_bind]
  iapply (wp_wand_r frame (wpE (defs₀ (F := F)) Variants.none c none) Set.univ)
  isplitl [Hp A12]
  · iapply ((mid_open c A.a12 A.a20 A.a21 X12 1).trans (wp_ask c A.a12 A.a20 A.a21 X12 1 _ _ _ h_S64x1024 _ _ (before 4 0) (by decide) (by decide) (by rw [← upTo_short]; decide)))
    isplitl [Hp]
    · iexact Hp
    iexact A12
  iintro %_ Hm
  iapply (wp_wand_r frame (wpE (defs₀ (F := F)) Variants.none c none) Set.univ)
  isplitl [Hm B19 HW]
  · iapply (wp_drain c A.a12 A.a20 A.a21 A.a19 X12 1 _ 4 rfl (wp_loop6 i A c X12 h))
    isplitl [Hm]
    · iexact Hm
    isplitl [B19]
    · iexact B19
    iexact HW
  iintro %_ ⟨Hp, A12, R19, HW⟩
  isplitl [Hp]
  · iexact Hp
  isplitl [A8 A9 A10 A11 A12]
  · isplitl [A8]
    · iexact A8
    isplitl [A9]
    · iexact A9
    isplitl [A10]
    · iexact A10
    isplitl [A11]
    · iexact A11
    iexact A12
  isplitl [R15 R16 R17 R18 R19]
  · isplitl [R15]
    · iexact R15
    isplitl [R16]
    · iexact R16
    isplitl [R17]
    · iexact R17
    isplitl [R18]
    · iexact R18
    iexact R19
  iexact HW

end Cert.Post
-- ==== Proof.Tail.lean ====
/-
  The body of the call at a grid point: the weights brought on chip where the point is the first, and from then on the
  same thirteen loads and one store at every point.
-/
module

public import proofs.«01_k».proof.Proof.Parts
public import Idealize.ShloMosaic.Lib.Pipeline.Value
public import Idealize.ShloMosaic.Lib.ValueIdx
public import Idealize.ShloMosaic.Lib.WritesUnit
public import Idealize.ShloMosaic.Lib.Pipeline.ValueKit.Tiles
public import Idealize.ShloMosaic.Lib.Pipeline.FrameBody
public import Idealize.ShloMosaic.Lib.Ring
public import Idealize.ShloMosaic.Lib.Tactic

@[expose] public section

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The tile the body stores, from the words it loads. -/
def value (v6 : Vec F S512x1024 .f32) (v8 : Vec F S1024x1024 .bf16) (v9 : Vec F S512x1024 .bf16) (v13 : Vec F S1x1024 .f32) (v28 v30 : Vec F S1024x2816 .bf16) (v40 : Vec F S2816x1024 .bf16) (v45 : Vec F S1x1024 .f32) (v60 : Vec F S1024x1024 .bf16) (v69 : Vec F S1x512x256 .f32) (v72 : Vec F S256x1024 .bf16) (v76 : Vec F S1x1024 .f32) : FVec F S512x1024 .f32 :=
  k0_pay1 (k0_pay19 (k0_pay14 v6 v8 v9) (k0_pay16 v6 v8 v9 v13 v28) (k0_pay17 v6 v8 v9 v13 v30) (k0_pay18 v6 v8 v9 v13 v28) v40)
    (k0_pay20 (k0_pay14 v6 v8 v9) (k0_pay16 v6 v8 v9 v13 v28) (k0_pay17 v6 v8 v9 v13 v30) (k0_pay18 v6 v8 v9 v13 v28) v40 v45 v60) (k0_pay21 v69) v72 v76

variable (i : grid0.Coords)
variable (arg1 : Memref sig .tc .vmem S512x1024 .f32) (harg1 : arg1.IsWhole) (arg2 : Memref sig .tc .vmem S512x1024 .bf16) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1x512x256 .f32) (harg5 : arg5.IsWhole) (arg6 : Memref sig .tc .vmem S1x1024 .f32) (harg6 : arg6.IsWhole)
  (arg7 : Memref sig .tc .hbm S1x1024x1024 .f32) (harg7 : arg7.IsWhole) (arg8 : Memref sig .tc .hbm S2x1024x2816 .f32) (harg8 : arg8.IsWhole) (arg9 : Memref sig .tc .hbm S2x1024x2816 .f32) (harg9 : arg9.IsWhole)
  (arg10 : Memref sig .tc .hbm S2x2816x1024 .f32) (harg10 : arg10.IsWhole) (arg11 : Memref sig .tc .hbm S2x1024x1024 .f32) (harg11 : arg11.IsWhole) (arg12 : Memref sig .tc .hbm S2x256x1024 .f32) (harg12 : arg12.IsWhole)
  (arg13 : Memref sig .tc .vmem S512x1024 .f32) (harg13 : arg13.IsWhole) (arg14 : Memref sig .tc .vmem S1024x1024 .bf16) (harg14 : arg14.IsWhole) (arg15 : Memref sig .tc .vmem S1024x2816 .bf16) (harg15 : arg15.IsWhole)
  (arg16 : Memref sig .tc .vmem S1024x2816 .bf16) (harg16 : arg16.IsWhole) (arg17 : Memref sig .tc .vmem S2816x1024 .bf16) (harg17 : arg17.IsWhole) (arg18 : Memref sig .tc .vmem S1024x1024 .bf16) (harg18 : arg18.IsWhole)
  (arg19 : Memref sig .tc .vmem S256x1024 .bf16) (harg19 : arg19.IsWhole) (arg20 : Memref sig .tc .vmem S8x64x2816 .f32) (harg20 : arg20.IsWhole) (arg21 : DmaSems sig S8)

/-- The body from its first load on. -/
def tail : Prog (TpuEff nD τ sig (Elt F) Λ₀ .tc) PUnit := do
  let v6 : Vec F S512x1024 .f32 ← Prog.lift (.load arg1 (Rect.unit (s := S512x1024) ![0, 0] S512x1024.size inb_S512x1024_S512x1024_0_0).toLoadRect (View.loadsAt_vmem h_S512x1024))
  let v8 : Vec F S1024x1024 .bf16 ← Prog.lift (.load arg14 (Rect.unit (s := S1024x1024) ![0, 0] S1024x1024.size inb_S1024x1024_S1024x1024_0_0).toLoadRect (View.loadsAt_vmem h_S1024x1024))
  let v9 : Vec F S512x1024 .bf16 ← Prog.lift (.load arg2 (Rect.unit (s := S512x1024) ![0, 0] S512x1024.size inb_S512x1024_S512x1024_0_0).toLoadRect (View.loadsAt_vmem h_S512x1024))
  let v13 : Vec F S1x1024 .f32 ← Prog.lift (.load arg3 (Rect.unit (s := S1x1024) ![0, 0] S1x1024.size inb_S1x1024_S1x1024_0_0).toLoadRect (View.loadsAt_vmem h_S1x1024))
  let v28 : Vec F S1024x2816 .bf16 ← Prog.lift (.load arg15 (Rect.unit (s := S1024x2816) ![0, 0] S1024x2816.size inb_S1024x2816_S1024x2816_0_0).toLoadRect (View.loadsAt_vmem h_S1024x2816))
  let v30 : Vec F S1024x2816 .bf16 ← Prog.lift (.load arg16 (Rect.unit (s := S1024x2816) ![0, 0] S1024x2816.size inb_S1024x2816_S1024x2816_0_0).toLoadRect (View.loadsAt_vmem h_S1024x2816))
  let v40 : Vec F S2816x1024 .bf16 ← Prog.lift (.load arg17 (Rect.unit (s := S2816x1024) ![0, 0] S2816x1024.size inb_S2816x1024_S2816x1024_0_0).toLoadRect (View.loadsAt_vmem h_S2816x1024))
  let v45 : Vec F S1x1024 .f32 ← Prog.lift (.load arg4 (Rect.unit (s := S1x1024) ![0, 0] S1x1024.size inb_S1x1024_S1x1024_0_0).toLoadRect (View.loadsAt_vmem h_S1x1024))
  let v60 : Vec F S1024x1024 .bf16 ← Prog.lift (.load arg18 (Rect.unit (s := S1024x1024) ![0, 0] S1024x1024.size inb_S1024x1024_S1024x1024_0_0).toLoadRect (View.loadsAt_vmem h_S1024x1024))
  let v69 : Vec F S1x512x256 .f32 ← Prog.lift (.load arg5 (Rect.unit (s := S1x512x256) ![0, 0, 0] S1x512x256.size inb_S1x512x256_S1x512x256_0_0_0).toLoadRect (View.loadsAt_vmem h_S1x512x256))
  let v72 : Vec F S256x1024 .bf16 ← Prog.lift (.load arg19 (Rect.unit (s := S256x1024) ![0, 0] S256x1024.size inb_S256x1024_S256x1024_0_0).toLoadRect (View.loadsAt_vmem h_S256x1024))
  let v76 : Vec F S1x1024 .f32 ← Prog.lift (.load arg6 (Rect.unit (s := S1x1024) ![0, 0] S1x1024.size inb_S1x1024_S1x1024_0_0).toLoadRect (View.loadsAt_vmem h_S1x1024))
  let _v90 : Vec F S512x1024 .f32 ← Prog.lift (.load arg13 (Rect.unit (s := S512x1024) ![0, 0] S512x1024.size inb_S512x1024_S512x1024_0_0).toLoadRect (View.loadsAt_vmem h_S512x1024))
  Prog.lift (.store arg13 (Rect.unit (s := S512x1024) ![0, 0] S512x1024.size inb_S512x1024_S512x1024_0_0) (value v6 v8 v9 v13 v28 v30 v40 v45 v60 v69 v72 v76) Finset.univ (View.stores_vmem_bits_univ h_S512x1024 rfl) (.inl rfl))
  pure ⟨⟩

theorem body_first (A : Refs) (h1 : k0_cond1 i = 1#1) (h3 : k0_cond3 i = 1#1) :
    A.on (cc0_post (F := F) i)
      = fill1 i A h1 >>= fun _ => fill2 i A h3 >>= fun _ => tail A.a1 A.a2 A.a3 A.a4 A.a5 A.a6 A.a13 A.a14 A.a15 A.a16 A.a17 A.a18 A.a19 := by
  unfold Refs.on
  rw [cc0_post_eq_skeleton]
  unfold cc0_post_skel fill1 fill2
  rw [k0_part16_eq_skeleton]
  unfold k0_part16_skel
  rw [dif_pos h1, dif_pos h3, k0_part15_eq_skeleton]
  unfold k0_part15_skel
  simp only [bind_assoc, pure_bind]
  rfl

theorem body_later (A : Refs) (h1 : ¬ k0_cond1 i = 1#1) (h3 : ¬ k0_cond3 i = 1#1) :
    A.on (cc0_post (F := F) i)
      = tail A.a1 A.a2 A.a3 A.a4 A.a5 A.a6 A.a13 A.a14 A.a15 A.a16 A.a17 A.a18 A.a19 := by
  unfold Refs.on
  rw [cc0_post_eq_skeleton]
  unfold cc0_post_skel
  rw [k0_part16_eq_skeleton]
  unfold k0_part16_skel
  rw [dif_neg h1, dif_neg h3]
  rfl

/-- The six on-chip matrices at their values. -/
def weights (c : Dev nD) (x14 : Vec F S1024x1024 .bf16) (x15 x16 : Vec F S1024x2816 .bf16) (x17 : Vec F S2816x1024 .bf16) (x18 : Vec F S1024x1024 .bf16) (x19 : Vec F S256x1024 .bf16) : sProp 𝕄 :=
  iprop(owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19)
/-- The six windows' buffers the body reads. -/
def inputs (c : Dev nD) (x1 : Vec F S512x1024 .f32) (x2 : Vec F S512x1024 .bf16) (x3 x4 : Vec F S1x1024 .f32) (x5 : Vec F S1x512x256 .f32) (x6 : Vec F S1x1024 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6)

/-- The loads and the store: every buffer read is kept, and the output's holds the value. -/
theorem wp_tile (c : Dev nD) (x1 : Vec F S512x1024 .f32) (x2 : Vec F S512x1024 .bf16) (x3 x4 : Vec F S1x1024 .f32) (x5 : Vec F S1x512x256 .f32) (x6 : Vec F S1x1024 .f32) (x14 : Vec F S1024x1024 .bf16) (x15 x16 : Vec F S1024x2816 .bf16) (x17 : Vec F S2816x1024 .bf16) (x18 : Vec F S1024x1024 .bf16) (x19 : Vec F S256x1024 .bf16) :
    iprop(weights arg14 arg15 arg16 arg17 arg18 arg19 c x14 x15 x16 x17 x18 x19 ∗ inputs arg1 arg2 arg3 arg4 arg5 arg6 c x1 x2 x3 x4 x5 x6 ∗ (∃ d, owns (c : Thread nD τ) arg13 fullShare d))
      ⊢ wp frame (wpE (defs₀ (F := F)) Variants.none c none) Set.univ (tail arg1 arg2 arg3 arg4 arg5 arg6 arg13 arg14 arg15 arg16 arg17 arg18 arg19)
          (fun _ => iprop(weights arg14 arg15 arg16 arg17 arg18 arg19 c x14 x15 x16 x17 x18 x19 ∗ inputs arg1 arg2 arg3 arg4 arg5 arg6 c x1 x2 x3 x4 x5 x6 ∗ owns (c : Thread nD τ) arg13 fullShare (value x1 x14 x2 x3 x15 x16 x17 x4 x18 x5 x19 x6))) := by
  unfold weights inputs tail owns
  iintro ⟨⟨⟨%f14, %hf14, H14⟩, ⟨%f15, %hf15, H15⟩, ⟨%f16, %hf16, H16⟩, ⟨%f17, %hf17, H17⟩, ⟨%f18, %hf18, H18⟩, ⟨%f19, %hf19, H19⟩⟩, ⟨⟨%f1, %hf1, H1⟩, ⟨%f2, %hf2, H2⟩, ⟨%f3, %hf3, H3⟩, ⟨%f4, %hf4, H4⟩, ⟨%f5, %hf5, H5⟩, ⟨%f6, %hf6, H6⟩⟩, ⟨%d13, %f13, -, H13⟩⟩
  subst hf1 hf2 hf3 hf4 hf5 hf6 hf14 hf15 hf16 hf17 hf18 hf19
  sl_exec
  sl_step
  isplitl [H14 H15 H16 H17 H18 H19]
  · isplitl [H14]
    · iexists f14; isplitr; · ipureintro; rfl
      iexact H14
    isplitl [H15]
    · iexists f15; isplitr; · ipureintro; rfl
      iexact H15
    isplitl [H16]
    · iexists f16; isplitr; · ipureintro; rfl
      iexact H16
    isplitl [H17]
    · iexists f17; isplitr; · ipureintro; rfl
      iexact H17
    isplitl [H18]
    · iexists f18; isplitr; · ipureintro; rfl
      iexact H18
    iexists f19; isplitr; · ipureintro; rfl
    iexact H19
  isplitl [H1 H2 H3 H4 H5 H6]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  iexists _; isplitr
  swap; · iexact H13
  ipureintro
  refine (read_writes_all arg13.view f13 _ _ zero2 _).trans ?_
  rw [readAt_all arg1.view f1 _ _ zero2, readAt_all arg2.view f2 _ _ zero2, readAt_all arg3.view f3 _ _ zero2, readAt_all arg4.view f4 _ _ zero2, readAt_all arg5.view f5 _ _ zero3, readAt_all arg6.view f6 _ _ zero2, readAt_all arg14.view f14 _ _ zero2, readAt_all arg15.view f15 _ _ zero2, readAt_all arg16.view f16 _ _ zero2, readAt_all arg17.view f17 _ _ zero2, readAt_all arg18.view f18 _ _ zero2, readAt_all arg19.view f19 _ _ zero2]

end Cert.Post
-- ==== Proof.Body.lean ====
/-
  What the call's body does at a grid point, as a whole: at the first point it leaves the six weight matrices on chip,
  each the layer of its array cast to bf16, and at every point it leaves the value of its tile in the output's buffer.
-/
module

public import proofs.«01_k».proof.Proof.Tail
public import Idealize.ShloMosaic.Lib.Pipeline.Value
public import Idealize.ShloMosaic.Lib.ValueIdx
public import Idealize.ShloMosaic.Lib.WritesUnit
public import Idealize.ShloMosaic.Lib.Pipeline.ValueKit.Tiles
public import Idealize.ShloMosaic.Lib.Pipeline.FrameBody
public import Idealize.ShloMosaic.Lib.Ring
public import Idealize.ShloMosaic.Lib.Tactic

@[expose] public section

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ (Pipeline.UD sig nD τ) ℕ

variable (i : grid0.Coords)
variable (arg1 : Memref sig .tc .vmem S512x1024 .f32) (harg1 : arg1.IsWhole) (arg2 : Memref sig .tc .vmem S512x1024 .bf16) (harg2 : arg2.IsWhole) (arg3 : Memref sig .tc .vmem S1x1024 .f32) (harg3 : arg3.IsWhole)
  (arg4 : Memref sig .tc .vmem S1x1024 .f32) (harg4 : arg4.IsWhole) (arg5 : Memref sig .tc .vmem S1x512x256 .f32) (harg5 : arg5.IsWhole) (arg6 : Memref sig .tc .vmem S1x1024 .f32) (harg6 : arg6.IsWhole)
  (arg7 : Memref sig .tc .hbm S1x1024x1024 .f32) (harg7 : arg7.IsWhole) (arg8 : Memref sig .tc .hbm S2x1024x2816 .f32) (harg8 : arg8.IsWhole) (arg9 : Memref sig .tc .hbm S2x1024x2816 .f32) (harg9 : arg9.IsWhole)
  (arg10 : Memref sig .tc .hbm S2x2816x1024 .f32) (harg10 : arg10.IsWhole) (arg11 : Memref sig .tc .hbm S2x1024x1024 .f32) (harg11 : arg11.IsWhole) (arg12 : Memref sig .tc .hbm S2x256x1024 .f32) (harg12 : arg12.IsWhole)
  (arg13 : Memref sig .tc .vmem S512x1024 .f32) (harg13 : arg13.IsWhole) (arg14 : Memref sig .tc .vmem S1024x1024 .bf16) (harg14 : arg14.IsWhole) (arg15 : Memref sig .tc .vmem S1024x2816 .bf16) (harg15 : arg15.IsWhole)
  (arg16 : Memref sig .tc .vmem S1024x2816 .bf16) (harg16 : arg16.IsWhole) (arg17 : Memref sig .tc .vmem S2816x1024 .bf16) (harg17 : arg17.IsWhole) (arg18 : Memref sig .tc .vmem S1024x1024 .bf16) (harg18 : arg18.IsWhole)
  (arg19 : Memref sig .tc .vmem S256x1024 .bf16) (harg19 : arg19.IsWhole) (arg20 : Memref sig .tc .vmem S8x64x2816 .f32) (harg20 : arg20.IsWhole) (arg21 : DmaSems sig S8)

/-- The six arrays whole. -/
def arrays (c : Dev nD) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ))) (X12 : Buf (Elt F) (arg12.view.loc (c : Thread nD τ))) : sProp 𝕄 :=
  iprop(whole c arg7 X7 ∗ whole c arg8 X8 ∗ whole c arg9 X9 ∗ whole c arg10 X10 ∗ whole c arg11 X11 ∗ whole c arg12 X12)
/-- The six on-chip matrices at anything. -/
def blanks (c : Dev nD) : sProp 𝕄 :=
  iprop(blank (F := F) c arg14 ∗ blank (F := F) c arg15 ∗ blank (F := F) c arg16 ∗ blank (F := F) c arg17 ∗ blank (F := F) c arg18 ∗ blank (F := F) c arg19)

/-- The body at a point after the first. -/
theorem wp_later (A : Refs) (h1 : ¬ k0_cond1 i = 1#1) (h3 : ¬ k0_cond3 i = 1#1) (c : Dev nD) (x1 : Vec F S512x1024 .f32) (x2 : Vec F S512x1024 .bf16) (x3 x4 : Vec F S1x1024 .f32) (x5 : Vec F S1x512x256 .f32) (x6 : Vec F S1x1024 .f32) (x14 : Vec F S1024x1024 .bf16) (x15 x16 : Vec F S1024x2816 .bf16) (x17 : Vec F S2816x1024 .bf16) (x18 : Vec F S1024x1024 .bf16) (x19 : Vec F S256x1024 .bf16) :
    iprop(weights A.a14 A.a15 A.a16 A.a17 A.a18 A.a19 c x14 x15 x16 x17 x18 x19 ∗ inputs A.a1 A.a2 A.a3 A.a4 A.a5 A.a6 c x1 x2 x3 x4 x5 x6 ∗ (∃ d, owns (c : Thread nD τ) A.a13 fullShare d))
      ⊢ wp frame (wpE (defs₀ (F := F)) Variants.none c none) Set.univ (A.on (cc0_post (F := F) i))
          (fun _ => iprop(weights A.a14 A.a15 A.a16 A.a17 A.a18 A.a19 c x14 x15 x16 x17 x18 x19 ∗ inputs A.a1 A.a2 A.a3 A.a4 A.a5 A.a6 c x1 x2 x3 x4 x5 x6 ∗ owns (c : Thread nD τ) A.a13 fullShare (value x1 x14 x2 x3 x15 x16 x17 x4 x18 x5 x19 x6))) := by
  rw [body_later i A h1 h3]
  exact wp_tile A.a1 A.a2 A.a3 A.a4 A.a5 A.a6 A.a13 A.a14 A.a15 A.a16 A.a17 A.a18 A.a19 c x1 x2 x3 x4 x5 x6 x14 x15 x16 x17 x18 x19

/-- The body at the first point. -/
theorem wp_first (A : Refs) (h1 : k0_cond1 i = 1#1) (h3 : k0_cond3 i = 1#1) (c : Dev nD) (x1 : Vec F S512x1024 .f32) (x2 : Vec F S512x1024 .bf16) (x3 x4 : Vec F S1x1024 .f32) (x5 : Vec F S1x512x256 .f32) (x6 : Vec F S1x1024 .f32) (X7 : Buf (Elt F) (A.a7.view.loc (c : Thread nD τ))) (X8 : Buf (Elt F) (A.a8.view.loc (c : Thread nD τ))) (X9 : Buf (Elt F) (A.a9.view.loc (c : Thread nD τ))) (X10 : Buf (Elt F) (A.a10.view.loc (c : Thread nD τ))) (X11 : Buf (Elt F) (A.a11.view.loc (c : Thread nD τ))) (X12 : Buf (Elt F) (A.a12.view.loc (c : Thread nD τ))) :
    iprop(pool (F := F) c A.a20 A.a21 ∗ arrays A.a7 A.a8 A.a9 A.a10 A.a11 A.a12 c X7 X8 X9 X10 X11 X12 ∗ blanks (F := F) A.a14 A.a15 A.a16 A.a17 A.a18 A.a19 c ∗ waits (F := F) c ∗ inputs A.a1 A.a2 A.a3 A.a4 A.a5 A.a6 c x1 x2 x3 x4 x5 x6 ∗ (∃ d, owns (c : Thread nD τ) A.a13 fullShare d))
      ⊢ wp frame (wpE (defs₀ (F := F)) Variants.none c none) Set.univ (A.on (cc0_post (F := F) i))
          (fun _ => iprop(pool (F := F) c A.a20 A.a21 ∗ arrays A.a7 A.a8 A.a9 A.a10 A.a11 A.a12 c X7 X8 X9 X10 X11 X12 ∗ waits (F := F) c
            ∗ weights A.a14 A.a15 A.a16 A.a17 A.a18 A.a19 c (laid (A.a7.view.read (Elt F) X7) 0 (by decide)) (laid (A.a8.view.read (Elt F) X8) 1 (by decide)) (laid (A.a9.view.read (Elt F) X9) 1 (by decide)) (laid (A.a10.view.read (Elt F) X10) 1 (by decide)) (laid (A.a11.view.read (Elt F) X11) 1 (by decide)) (laid (A.a12.view.read (Elt F) X12) 1 (by decide))
            ∗ inputs A.a1 A.a2 A.a3 A.a4 A.a5 A.a6 c x1 x2 x3 x4 x5 x6
            ∗ owns (c : Thread nD τ) A.a13 fullShare (value x1 (laid (A.a7.view.read (Elt F) X7) 0 (by decide)) x2 x3 (laid (A.a8.view.read (Elt F) X8) 1 (by decide)) (laid (A.a9.view.read (Elt F) X9) 1 (by decide)) (laid (A.a10.view.read (Elt F) X10) 1 (by decide)) x4 (laid (A.a11.view.read (Elt F) X11) 1 (by decide)) x5 (laid (A.a12.view.read (Elt F) X12) 1 (by decide)) x6))) := by
  rw [body_first i A h1 h3]
  unfold arrays blanks
  iintro ⟨Hp, ⟨A7, A8, A9, A10, A11, A12⟩, ⟨B14, B15, B16, B17, B18, B19⟩, HW, HI, HO⟩
  rw [wp_bind]
  iapply (wp_wand_r frame (wpE (defs₀ (F := F)) Variants.none c none) Set.univ)
  isplitl [Hp A7 B14 HW]
  · iapply (wp_fill1 i A c h1 X7)
    isplitl [Hp A7]
    · isplitl [Hp]; · iexact Hp
      iexact A7
    isplitl [B14]; · iexact B14
    iexact HW
  iintro %_ ⟨Hp, A7, R14, HW⟩
  rw [wp_bind]
  iapply (wp_wand_r frame (wpE (defs₀ (F := F)) Variants.none c none) Set.univ)
  isplitl [Hp A8 A9 A10 A11 A12 B15 B16 B17 B18 B19 HW]
  · iapply (wp_fill2 i A c h3 X8 X9 X10 X11 X12)
    isplitl [Hp]; · iexact Hp
    isplitl [A8 A9 A10 A11 A12]
    · isplitl [A8]; · iexact A8
      isplitl [A9]; · iexact A9
      isplitl [A10]; · iexact A10
      isplitl [A11]; · iexact A11
      iexact A12
    isplitl [B15 B16 B17 B18 B19]
    · isplitl [B15]; · iexact B15
      isplitl [B16]; · iexact B16
      isplitl [B17]; · iexact B17
      isplitl [B18]; · iexact B18
      iexact B19
    iexact HW
  iintro %_ ⟨Hp, ⟨A8, A9, A10, A11, A12⟩, ⟨R15, R16, R17, R18, R19⟩, HW⟩
  ihave W14 := (owns_of_ready c A.a7 A.a14 A.h14 X7 0 (by decide)) $$ R14
  ihave W15 := (owns_of_ready c A.a8 A.a15 A.h15 X8 1 (by decide)) $$ R15
  ihave W16 := (owns_of_ready c A.a9 A.a16 A.h16 X9 1 (by decide)) $$ R16
  ihave W17 := (owns_of_ready c A.a10 A.a17 A.h17 X10 1 (by decide)) $$ R17
  ihave W18 := (owns_of_ready c A.a11 A.a18 A.h18 X11 1 (by decide)) $$ R18
  ihave W19 := (owns_of_ready c A.a12 A.a19 A.h19 X12 1 (by decide)) $$ R19
  iapply (wp_wand_r frame (wpE (defs₀ (F := F)) Variants.none c none) Set.univ)
  isplitl [W14 W15 W16 W17 W18 W19 HI HO]
  · iapply (wp_tile A.a1 A.a2 A.a3 A.a4 A.a5 A.a6 A.a13 A.a14 A.a15 A.a16 A.a17 A.a18 A.a19 c x1 x2 x3 x4 x5 x6 (laid (A.a7.view.read (Elt F) X7) 0 (by decide)) (laid (A.a8.view.read (Elt F) X8) 1 (by decide)) (laid (A.a9.view.read (Elt F) X9) 1 (by decide)) (laid (A.a10.view.read (Elt F) X10) 1 (by decide)) (laid (A.a11.view.read (Elt F) X11) 1 (by decide)) (laid (A.a12.view.read (Elt F) X12) 1 (by decide)))
    unfold weights
    isplitl [W14 W15 W16 W17 W18 W19]
    · isplitl [W14]; · iexact W14
      isplitl [W15]; · iexact W15
      isplitl [W16]; · iexact W16
      isplitl [W17]; · iexact W17
      isplitl [W18]; · iexact W18
      iexact W19
    isplitl [HI]; · iexact HI
    iexact HO
  iintro %_ ⟨HS, HI, HO⟩
  isplitl [Hp]; · iexact Hp
  isplitl [A7 A8 A9 A10 A11 A12]
  · isplitl [A7]; · iexact A7
    isplitl [A8]; · iexact A8
    isplitl [A9]; · iexact A9
    isplitl [A10]; · iexact A10
    isplitl [A11]; · iexact A11
    iexact A12
  isplitl [HW]; · iexact HW
  isplitl [HS]; · iexact HS
  isplitl [HI]; · iexact HI
  iexact HO

end Cert.Post
-- ==== Proof.Run.lean ====
/-
  The call launched: what the program leaves at every point of the grid, at any values, and so what its arrays hold when
  it ends. The weight matrices are brought on chip at the first point and are kept from then on.
-/
module

public import proofs.«01_k».proof.Proof.Body
public import proofs.«01_k».proof.Proof.Gen.Kernel2Ideal.Launch
public import proofs.«01_k».proof.Proof.Gen.Kernel2Ideal.Points
public import Idealize.ShloMosaic.Lib.Pipeline.FrameBody
public import Idealize.ShloMosaic.Lib.Claim
public import Idealize.ShloMosaic.Lib.Ring
public import Idealize.ShloMosaic.Lib.Tactic

@[expose] public section

noncomputable section

namespace Cert.Post

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's arrays when the call begins: after the host's reshapes and slices. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem host_main (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub host_fresh main_chain

/-- An array the host writes nothing to is found as launched. -/
theorem V_kept (c : Dev nD) (b : Ref sig .tc) (h : b ∉ ([main_v0, main_v1, main_v2, main_v3, main_v4, main_v5, main_v6, main_v7, main_v8, main_v9] : List (Ref sig .tc))) :
    V m c b = m ((c : Thread nD τ).loc b) :=
  StableHlo.after_of_forall_not_mem (b := Proc.devRef .tc b) _ _ (List.forall_iff_forall_mem.mp (by
    simp only [List.mem_cons, List.not_mem_nil, or_false, not_or] at h
    simp only [hostOps0, List.Forall, StableHlo.unary_writes, StableHlo.reshape_writes, Finset.mem_singleton]
    obtain ⟨h0, h1, h2, h3, h4, h5, h6, h7, h8, h9⟩ := h
    refine ⟨?_, ?_, ?_, ?_, ?_, ?_, ?_, ?_, ?_, ?_⟩ <;> exact StableHlo.devRef_ne_of_ne (by assumption)))

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the call keeps from point to point -/

/-- The cells of the ring. -/
abbrev osem : Fin 8 → SemLoc sig := fun s => SemLoc.dma (cellAt cc0_scratch7 s)
theorem osem_own : Pipeline.OwnSemFacts spec0 osem := by decide
/-- The arrays the call itself reads. -/
def H : Finset (Ref sig .tc) := {main_arg10, main_arg3, main_arg4, main_arg5, main_arg8, main_arg9}
theorem H_rest : H ⊆ Pipeline.restRefs sig spec0 := by decide

/-- The weight matrix on chip in scratch buffer 0. -/
def w0 (c : Dev nD) : Vec F S1024x1024 .bf16 := laid (L := 1) (R := 1024) (C := 1024) (V m c main_arg10) 0 (by decide)
/-- The weight matrix on chip in scratch buffer 1. -/
def w1 (c : Dev nD) : Vec F S1024x2816 .bf16 := laid (L := 2) (R := 1024) (C := 2816) (V m c main_arg3) 1 (by decide)
/-- The weight matrix on chip in scratch buffer 2. -/
def w2 (c : Dev nD) : Vec F S1024x2816 .bf16 := laid (L := 2) (R := 1024) (C := 2816) (V m c main_arg4) 1 (by decide)
/-- The weight matrix on chip in scratch buffer 3. -/
def w3 (c : Dev nD) : Vec F S2816x1024 .bf16 := laid (L := 2) (R := 2816) (C := 1024) (V m c main_arg5) 1 (by decide)
/-- The weight matrix on chip in scratch buffer 4. -/
def w4 (c : Dev nD) : Vec F S1024x1024 .bf16 := laid (L := 2) (R := 1024) (C := 1024) (V m c main_arg8) 1 (by decide)
/-- The weight matrix on chip in scratch buffer 5. -/
def w5 (c : Dev nD) : Vec F S256x1024 .bf16 := laid (L := 2) (R := 256) (C := 1024) (V m c main_arg9) 1 (by decide)

/-- The tile the body leaves at a point. -/
def tileAt (c : Dev nD) (t : Fin cfg0.N) : Vec F S512x1024 .f32 :=
  value (iblk m c 0 t) (w0 m c) (iblk m c 1 t) (iblk m c 2 t) (w1 m c) (w2 m c) (w3 m c) (iblk m c 3 t) (w4 m c) (iblk m c 4 t) (w5 m c) (iblk m c 5 t)

/-- The on-chip matrices: anything before the first point, their values from then on. -/
def chip (c : Dev nD) (n : ℕ) : sProp 𝕄 :=
  if n = 0 then blanks (F := F) (Memref.whole cc0_scratch0) (Memref.whole cc0_scratch1) (Memref.whole cc0_scratch2) (Memref.whole cc0_scratch3) (Memref.whole cc0_scratch4) (Memref.whole cc0_scratch5) c else weights (Memref.whole cc0_scratch0) (Memref.whole cc0_scratch1) (Memref.whole cc0_scratch2) (Memref.whole cc0_scratch3) (Memref.whole cc0_scratch4) (Memref.whole cc0_scratch5) c (w0 m c) (w1 m c) (w2 m c) (w3 m c) (w4 m c) (w5 m c)

/-- What the call keeps: the ring at rest, the arrays it reads, the on-chip matrices. -/
def kept (c : Dev nD) (n : ℕ) : sProp 𝕄 :=
  iprop((∃ r, prngReg c r) ∗ pool (F := F) c (Memref.whole cc0_scratch6) cc0_scratch7 ∗ arrays (Memref.whole main_arg10) (Memref.whole main_arg3) (Memref.whole main_arg4) (Memref.whole main_arg5) (Memref.whole main_arg8) (Memref.whole main_arg9) c (V m c main_arg10) (V m c main_arg3) (V m c main_arg4) (V m c main_arg5) (V m c main_arg8) (V m c main_arg9) ∗ chip m c n)

theorem scratch_set {s : Shape} {e : EltTy} (M : Memref sig .tc .vmem s e) (h : M.IsWhole) : M.view.set = Finset.univ := h.set_eq_univ

theorem arrays_eq (c : Dev nD) : (bigSep H (fun b => ((c : Thread nD τ).loc b) ↦{fullShare} V m c b) : sProp 𝕄)
    = arrays (Memref.whole main_arg10) (Memref.whole main_arg3) (Memref.whole main_arg4) (Memref.whole main_arg5) (Memref.whole main_arg8) (Memref.whole main_arg9) c (V m c main_arg10) (V m c main_arg3) (V m c main_arg4) (V m c main_arg5) (V m c main_arg8) (V m c main_arg9) := by
  unfold arrays whole
  rw [bigSep_eq_bigSepL_of_eq [main_arg10, main_arg3, main_arg4, main_arg5, main_arg8, main_arg9] (by decide) (by decide)]
  rfl

theorem kept_open (c : Dev nD) : Pipeline.ΦD osem spec0 H (V m) c ⊢ (kept m c 0 : sProp 𝕄) := by
  rw [Pipeline.ΦD_eq, scopedRest0_eq, arrays_eq]
  unfold Pipeline.ownSems0
  unfold kept chip blanks blank
  rw [if_pos rfl]
  iintro ⟨⟨S0, S1, S2, S3, S4, S5, S6⟩, Hg, Hs, HA⟩
  isplitl [Hg]; · iexact Hg
  isplitl [S6 Hs]
  · iapply (pool_open (F := F) c (Memref.whole cc0_scratch6) cc0_scratch7 ((Memref.isWhole_whole _).set_eq_univ))
    isplitl [S6]; · iexact S6
    iexact Hs
  isplitl [HA]; · iexact HA
  isplitl [S0]; · iexact S0
  isplitl [S1]; · iexact S1
  isplitl [S2]; · iexact S2
  isplitl [S3]; · iexact S3
  isplitl [S4]; · iexact S4
  iexact S5

/-- A matrix of any value is an on-chip matrix at anything. -/
theorem blank_of_owns (c : Dev nD) {R C : ℕ} (vm : Memref sig .tc .vmem (VS R C) .bf16) (hvm : vm.IsWhole) (x : Vec F (VS R C) .bf16) :
    (owns (c : Thread nD τ) vm fullShare x : sProp 𝕄) ⊢ blank (F := F) c vm := by
  unfold owns blank
  rw [hvm.set_eq_univ]
  iintro ⟨%g, -, H⟩
  iexists g
  iexact H

theorem kept_close (c : Dev nD) (n : ℕ) (hn : n ≠ 0) : (kept m c n : sProp 𝕄) ⊢ Pipeline.ΦD osem spec0 H (V m) c := by
  rw [Pipeline.ΦD_eq, scopedRest0_eq, arrays_eq]
  unfold Pipeline.ownSems0
  unfold kept chip weights
  rw [if_neg hn]
  iintro ⟨Hg, Hp, HA, W0, W1, W2, W3, W4, W5⟩
  ihave B0 := (blank_of_owns c (Memref.whole cc0_scratch0) (Memref.isWhole_whole _) (w0 m c)) $$ W0
  ihave B1 := (blank_of_owns c (Memref.whole cc0_scratch1) (Memref.isWhole_whole _) (w1 m c)) $$ W1
  ihave B2 := (blank_of_owns c (Memref.whole cc0_scratch2) (Memref.isWhole_whole _) (w2 m c)) $$ W2
  ihave B3 := (blank_of_owns c (Memref.whole cc0_scratch3) (Memref.isWhole_whole _) (w3 m c)) $$ W3
  ihave B4 := (blank_of_owns c (Memref.whole cc0_scratch4) (Memref.isWhole_whole _) (w4 m c)) $$ W4
  ihave B5 := (blank_of_owns c (Memref.whole cc0_scratch5) (Memref.isWhole_whole _) (w5 m c)) $$ W5
  ihave HP := (pool_close (F := F) c (Memref.whole cc0_scratch6) cc0_scratch7 ((Memref.isWhole_whole _).set_eq_univ)) $$ Hp
  icases HP with ⟨S6, Hs⟩
  unfold blank
  isplitl [B0 B1 B2 B3 B4 B5 S6]
  · isplitl [B0]; · iexact B0
    isplitl [B1]; · iexact B1
    isplitl [B2]; · iexact B2
    isplitl [B3]; · iexact B3
    isplitl [B4]; · iexact B4
    isplitl [B5]; · iexact B5
    iexact S6
  isplitl [Hg]; · iexact Hg
  isplitl [Hs]; · iexact Hs
  iexact HA

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileAt m c t
  Φ t := kept m c t
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = tileAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body at a point -/

theorem first_cond (t : Fin cfg0.N) : (k0_cond1 (grid0.coords t) = 1#1 ↔ (t : ℕ) = 0) ∧ (k0_cond3 (grid0.coords t) = 1#1 ↔ (t : ℕ) = 0) := by
  have h : ∀ t : Fin grid0.N, (k0_cond1 (grid0.coords t) = 1#1 ↔ (t : ℕ) = 0) ∧ (k0_cond3 (grid0.coords t) = 1#1 ↔ (t : ℕ) = 0) := by decide +kernel
  exact h t

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The buffers the call is given at a point. -/
abbrev refs (t : Fin cfg0.N) : Refs :=
  ⟨win0_0.stage (cfg0.slots t 0), hstage0_0 ((cfg0.slots t 0).cast nbuf0_0), win0_1.stage (cfg0.slots t 1),
    hstage0_1 ((cfg0.slots t 1).cast nbuf0_1), win0_2.stage (cfg0.slots t 2), hstage0_2 ((cfg0.slots t 2).cast nbuf0_2),
    win0_3.stage (cfg0.slots t 3), hstage0_3 ((cfg0.slots t 3).cast nbuf0_3), win0_4.stage (cfg0.slots t 4),
    hstage0_4 ((cfg0.slots t 4).cast nbuf0_4), win0_5.stage (cfg0.slots t 5), hstage0_5 ((cfg0.slots t 5).cast nbuf0_5),
    Memref.whole main_arg10, Memref.isWhole_whole _, Memref.whole main_arg3, Memref.isWhole_whole _, Memref.whole main_arg4,
    Memref.isWhole_whole _, Memref.whole main_arg5, Memref.isWhole_whole _, Memref.whole main_arg8, Memref.isWhole_whole _,
    Memref.whole main_arg9, Memref.isWhole_whole _, win0_6.stage (cfg0.slots t 6), hstage0_6 ((cfg0.slots t 6).cast nbuf0_6),
    Memref.whole cc0_scratch0, Memref.isWhole_whole _, Memref.whole cc0_scratch1, Memref.isWhole_whole _, Memref.whole cc0_scratch2,
    Memref.isWhole_whole _, Memref.whole cc0_scratch3, Memref.isWhole_whole _, Memref.whole cc0_scratch4, Memref.isWhole_whole _,
    Memref.whole cc0_scratch5, Memref.isWhole_whole _, Memref.whole cc0_scratch6, Memref.isWhole_whole _, cc0_scratch7⟩

/-- The waits of the core, as the pipeline states them: any will do. -/
theorem owes_open (c : Dev nD) (t : Fin (cfg0.N + 1)) : (dats m 0 c).owesAt () t ⊢ (waits (F := F) c : sProp 𝕄) := by
  unfold Dat.owesAt Pipeline.owesWithin waits
  rw [show (dats m 0 c).owed t = 0 from rfl]
  iintro ⟨%W, -, H⟩
  iexists W
  iexact H

theorem owes_close (c : Dev nD) (t : Fin (cfg0.N + 1)) : (waits (F := F) c : sProp 𝕄) ⊢ (dats m 0 c).owesAt () t := by
  unfold Dat.owesAt Pipeline.owesWithin waits
  rw [show (dats m 0 c).owed t = 0 from rfl]
  iintro ⟨%W, H⟩
  iexists W
  isplitr; · ipureintro; exact fun _ _ => Or.inl trivial
  iexact H

/-- The body, the first point or not: from the windows' blocks to the tile. -/
theorem sound (c : Dev nD) (t : Fin cfg0.N) :
    iprop(kept m c t ∗ waits (F := F) c ∗ inputs (st0_0 t) (st0_1 t) (st0_2 t) (st0_3 t) (st0_4 t) (st0_5 t) c (iblk m c 0 t) (iblk m c 1 t) (iblk m c 2 t) (iblk m c 3 t) (iblk m c 4 t) (iblk m c 5 t) ∗ (∃ d, owns (c : Thread nD τ) (st0_6 t) fullShare d))
      ⊢ wp frame (wpE (defs₀ (F := F)) Variants.none c none) Set.univ (bodyAt0 t)
          (fun _ => iprop(kept m c (t + 1) ∗ waits (F := F) c ∗ inputs (st0_0 t) (st0_1 t) (st0_2 t) (st0_3 t) (st0_4 t) (st0_5 t) c (iblk m c 0 t) (iblk m c 1 t) (iblk m c 2 t) (iblk m c 3 t) (iblk m c 4 t) (iblk m c 5 t) ∗ owns (c : Thread nD τ) (st0_6 t) fullShare (tileAt m c t))) := by
  unfold bodyAt0 kept chip
  rw [if_neg (Nat.succ_ne_zero _)]
  by_cases h0 : (t : ℕ) = 0
  · rw [if_pos h0]
    iintro ⟨⟨Hg, Hp, HA, HB⟩, HW, HI, HO⟩
    iapply (wp_wand_r frame (wpE (defs₀ (F := F)) Variants.none c none) Set.univ)
    isplitl [Hp HA HB HW HI HO]
    · iapply (wp_first (grid0.coords t) (refs t) ((first_cond t).1.mpr h0) ((first_cond t).2.mpr h0) c (iblk m c 0 t) (iblk m c 1 t) (iblk m c 2 t) (iblk m c 3 t) (iblk m c 4 t) (iblk m c 5 t) (V m c main_arg10) (V m c main_arg3) (V m c main_arg4) (V m c main_arg5) (V m c main_arg8) (V m c main_arg9))
      isplitl [Hp]; · iexact Hp
      isplitl [HA]; · iexact HA
      isplitl [HB]; · iexact HB
      isplitl [HW]; · iexact HW
      isplitl [HI]; · iexact HI
      iexact HO
    iintro %_ ⟨Hp, HA, HW, HS, HI, HO⟩
    isplitl [Hg Hp HA HS]
    · isplitl [Hg]; · iexact Hg
      isplitl [Hp]; · iexact Hp
      isplitl [HA]; · iexact HA
      iexact HS
    isplitl [HW]; · iexact HW
    isplitl [HI]; · iexact HI
    iexact HO
  · rw [if_neg h0]
    iintro ⟨⟨Hg, Hp, HA, HS⟩, HW, HI, HO⟩
    iapply (wp_wand_r frame (wpE (defs₀ (F := F)) Variants.none c none) Set.univ)
    isplitl [HS HI HO]
    · iapply (wp_later (grid0.coords t) (refs t) (fun h => h0 ((first_cond t).1.mp h)) (fun h => h0 ((first_cond t).2.mp h)) c (iblk m c 0 t) (iblk m c 1 t) (iblk m c 2 t) (iblk m c 3 t) (iblk m c 4 t) (iblk m c 5 t) (w0 m c) (w1 m c) (w2 m c) (w3 m c) (w4 m c) (w5 m c))
      isplitl [HS]; · iexact HS
      isplitl [HI]; · iexact HI
      iexact HO
    iintro %_ ⟨HS, HI, HO⟩
    isplitl [Hg Hp HA HS]
    · isplitl [Hg]; · iexact Hg
      isplitl [Hp]; · iexact Hp
      isplitl [HA]; · iexact HA
      iexact HS
    isplitl [HW]; · iexact HW
    isplitl [HI]; · iexact HI
    iexact HO

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).Φ t.castSucc = kept m c t from rfl, show (dats m 0 c).Φ t.succ = kept m c (t + 1) from rfl,
    after_0, after_1, after_2, after_3, after_4, after_5, after_6]
  iintro ⟨HK, HW, ⟨%d0, H0⟩, ⟨%d1, H1⟩, ⟨%d2, H2⟩, ⟨%d3, H3⟩, ⟨%d4, H4⟩, ⟨%d5, H5⟩, ⟨%d6, H6⟩⟩
  ihave HW := (owes_open m c t.castSucc) $$ HW
  iapply (wp_wand_r frame (wpE (defs₀ (F := F)) Variants.none c none) Set.univ)
  isplitl [HK HW H0 H1 H2 H3 H4 H5 H6]
  · iapply (sound m c t)
    unfold inputs
    isplitl [HK]; · iexact HK
    isplitl [HW]; · iexact HW
    isplitl [H0 H1 H2 H3 H4 H5]
    · isplitl [H0]; · iexact H0
      isplitl [H1]; · iexact H1
      isplitl [H2]; · iexact H2
      isplitl [H3]; · iexact H3
      isplitl [H4]; · iexact H4
      iexact H5
    iexists _; iexact H6
  unfold inputs
  iintro %_ ⟨HK, HW, ⟨H0, H1, H2, H3, H4, H5⟩, H6⟩
  ihave HW := (owes_close m c t.succ) $$ HW
  isplitl [HK]; · iexact HK
  isplitl [HW]; · iexact HW
  isplitl [H0]; · iexact H0
  isplitl [H1]; · iexact H1
  isplitl [H2]; · iexact H2
  isplitl [H3]; · iexact H3
  isplitl [H4]; · iexact H4
  isplitl [H5]; · iexact H5
  iexact H6

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
set_option maxHeartbeats 800000 in
/-- The program run from any memory: its arrays at what the proof data say, every other at what the host left there,
    every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_own H H_rest m ρ main
    (hbody := fun c => (body_obligation m c).loose) (hshare := fun c => (dats m 0 c).share_full fun _ => rfl)
    (howed := fun _ _ => rfl) (V := V m) (hmain := host_main m Variants.none) (hA := A_eq m)
    (hin := fun c => kept_open m c) (hout := fun c => kept_close m c _ (by decide))

/-- The arguments are as launched when the program ends. -/
theorem args_kept (r : PUnit × MemSt nD τ sig (Elt F)) (h : Pipeline.FramePost cfgs (dats m) 0 (V m) r) (c : Dev nD) (b : Ref sig .tc)
    (hb : b ∈ Pipeline.restRefs sig spec0) (hv : b ∉ ([main_v0, main_v1, main_v2, main_v3, main_v4, main_v5, main_v6, main_v7, main_v8, main_v9] : List (Ref sig .tc))) :
    r.2.mem ((c.tc : Thread nD τ).loc b) = m ((c.tc : Thread nD τ).loc b) :=
  ((h c).2 b hb).trans (V_kept m c b hv)

end Cert.Post
-- ==== Proof.Plain.lean ====
/-
  The plain layer after the mixer, as operations on whole arrays, and its run: the program's operations in six groups,
  each group's last array a function of the arrays the group reads, so that an array read more than once is named once.
-/
module

public import proofs.«01_k».proof.Proof.Gen.Reference2Ideal
public import Idealize.ShloMosaic.Lib.StableHlo.Run
public import Idealize.ShloMosaic.Lib.StableHlo.RunRead
public import Idealize.ShloMosaic.Lib.Pipeline.Frame

@[expose] public section

noncomputable section

namespace Cert.Post.Plain

open Cert.Reference2Ideal Cert.Reference2Ideal.Gen Idealize.ShloMosaic Idealize.ShloMosaic.TcCoe Idealize.SL.Sem Idealize.ShloMosaic.StableHlo

variable {F : FTy → Type} [FloatOps F]

/-! ## The layer on whole arrays -/

/-- A vector's second layer. -/
def layerVec (x : Vec F S2x1024 .f32) : Vec F S1024 .f32 :=
  shapeCast S1024 (extractStridedSlice S1x1024 ![1, 0] x slices_S2x1024_S1x1024_1_0) shapeCasts_S1x1024_S1024
/-- The second layer of a matrix into the feed-forward's width. -/
def layerUp (x : Vec F S2x1024x2816 .f32) : Vec F S1024x2816 .f32 :=
  shapeCast S1024x2816 (extractStridedSlice S1x1024x2816 ![1, 0, 0] x slices_S2x1024x2816_S1x1024x2816_1_0_0) shapeCasts_S1x1024x2816_S1024x2816
/-- The second layer of a matrix out of it. -/
def layerDown (x : Vec F S2x2816x1024 .f32) : Vec F S2816x1024 .f32 :=
  shapeCast S2816x1024 (extractStridedSlice S1x2816x1024 ![1, 0, 0] x slices_S2x2816x1024_S1x2816x1024_1_0_0) shapeCasts_S1x2816x1024_S2816x1024
/-- The second layer of a square matrix. -/
def layerSquare (x : Vec F S2x1024x1024 .f32) : Vec F S1024x1024 .f32 :=
  shapeCast S1024x1024 (extractStridedSlice S1x1024x1024 ![1, 0, 0] x slices_S2x1024x1024_S1x1024x1024_1_0_0) shapeCasts_S1x1024x1024_S1024x1024
/-- The second layer of the embedding's matrix. -/
def layerEmbed (x : Vec F S2x256x1024 .f32) : Vec F S256x1024 .f32 :=
  shapeCast S256x1024 (extractStridedSlice S1x256x1024 ![1, 0, 0] x slices_S2x256x1024_S1x256x1024_1_0_0) shapeCasts_S1x256x1024_S256x1024
/-- The second layer's embeddings. -/
def layerTokens (x : Vec F S2x8x2048x256 .f32) : Vec F S8x2048x256 .f32 :=
  shapeCast S8x2048x256 (extractStridedSlice S1x8x2048x256 ![1, 0, 0, 0] x slices_S2x8x2048x256_S1x8x2048x256_1_0_0_0) shapeCasts_S1x8x2048x256_S8x2048x256

/-- One over the root of every token's mean square. -/
def scales (x : FVec F S8x2048x1024 .f32) : FVec F S8x2048x1 .f32 :=
  Host.rsqrt (addf (Host.divf (broadcastInDim S8x2048x1 ![0, 1] bcast_S8x2048_S8x2048x1_0_1
      (Host.reduceAdd (mulf x x) (constant S_ .f32 0x00000000#32) reducesTo_S8x2048x1024_S8x2048_d2 h_S_))
    (broadcastInDim S8x2048x1 ![] bcast_S_S8x2048x1 (constant S_ .f32 0x44800000#32)))
    (broadcastInDim S8x2048x1 ![] bcast_S_S8x2048x1 (constant S_ .f32 0x358637BD#32)))

/-- Every token normalised, times the gain. -/
def normed (x : FVec F S8x2048x1024 .f32) (g : FVec F S1024 .f32) : FVec F S8x2048x1024 .f32 :=
  mulf (mulf x (broadcastInDim S8x2048x1024 ![0, 1, 2] bcast_S8x2048x1_S8x2048x1024_0_1_2 (scales x)))
    (broadcastInDim S8x2048x1024 ![0, 1, 2] bcast_S1x1x1024_S8x2048x1024_0_1_2 (broadcastInDim S1x1x1024 ![2] bcast_S1024_S1x1x1024_2 g))

/-- The residual stream joined with the mixer. -/
def joined (h : FVec F S8x2048x1024 .f32) (a : FVec F S8x2048x1024 .bf16) (w : FVec F S1x1024x1024 .f32) : FVec F S8x2048x1024 .f32 :=
  addf h (Host.dotGeneral dot_S8x2048x1024_S1024x1024_S8x2048x1024_2_0_01_1_n_n none (extf .f32 a bitsLt_bf16_f32)
    (shapeCast S1024x1024 w shapeCasts_S1x1024x1024_S1024x1024))

/-- Every token's feed-forward of its normalised row `x`, added by half. -/
def fed (h x : FVec F S8x2048x1024 .f32) (wg wu : FVec F S1024x2816 .f32) (wd : FVec F S2816x1024 .f32) : FVec F S8x2048x1024 .f32 :=
  have g := Host.dotGeneral dot_S8x2048x1024_S1024x2816_S8x2048x2816_2_0_01_1_n_n none x wg
  have one := broadcastInDim S8x2048x2816 ![] bcast_S_S8x2048x2816 (constant (F := F) S_ .f32 0x3F800000#32)
  addf h (mulf (broadcastInDim S8x2048x1024 ![] bcast_S_S8x2048x1024 (constant S_ .f32 0x3F000000#32))
    (Host.dotGeneral dot_S8x2048x2816_S2816x1024_S8x2048x1024_2_0_01_1_n_n none
      (mulf (mulf g (Host.divf one (addf one (Host.exp (Host.negf g)))))
        (Host.dotGeneral dot_S8x2048x1024_S1024x2816_S8x2048x2816_2_0_01_1_n_n none x wu)) wd))

/-- Every token's embedding `p`, gated by its normalised row `x` and added. -/
def gated (h x : FVec F S8x2048x1024 .f32) (wg : FVec F S1024x1024 .f32) (p : FVec F S8x2048x256 .f32) (wp : FVec F S256x1024 .f32) : FVec F S8x2048x1024 .f32 :=
  have one := broadcastInDim S8x2048x1024 ![] bcast_S_S8x2048x1024 (constant (F := F) S_ .f32 0x3F800000#32)
  addf h (mulf (Host.divf one (addf one (Host.exp (Host.negf
      (Host.dotGeneral dot_S8x2048x1024_S1024x1024_S8x2048x1024_2_0_01_1_n_n none x wg)))))
    (Host.dotGeneral dot_S8x2048x256_S256x1024_S8x2048x1024_2_0_01_1_n_n none p wp))

/-! ## The program's operations -/

/-- The type of the feed-forward's wide arrays. -/
abbrev U : BufTy := ⟨S8x2048x2816, .f32⟩

/-- The operations of the residual stream joined with the mixer. -/
abbrev opsJoin : List (HloOp τ sig (Elt F)) :=
  [ unary main_arg1 main_v0 (extf .f32 · bitsLt_bf16_f32),
    reshape main_arg10 main_v1 rfl shapeCasts_S1x1024x1024_S1024x1024,
    binary main_v0 main_v1 main_v2 (Host.dotGeneral dot_S8x2048x1024_S1024x1024_S8x2048x1024_2_0_01_1_n_n none),
    binary main_arg0 main_v2 main_v3 addf ]

/-- The operations of the normalisation before the feed-forward. -/
abbrev opsNormA : List (HloOp τ sig (Elt F)) :=
  [ unary main_arg2 main_v4 (extractStridedSlice S1x1024 ![1, 0] · slices_S2x1024_S1x1024_1_0),
    reshape main_v4 main_v5 rfl shapeCasts_S1x1024_S1024,
    binary main_v3 main_v3 main_v6 mulf,
    nullary main_cst (constant S_ .f32 0x00000000#32),
    binary main_v6 main_cst main_v7 (fun x v => Host.reduceAdd x v reducesTo_S8x2048x1024_S8x2048_d2 h_S_),
    unary main_v7 main_v8 (broadcastInDim S8x2048x1 ![0, 1] bcast_S8x2048_S8x2048x1_0_1),
    nullary main_cst_0 (constant S_ .f32 0x44800000#32),
    unary main_cst_0 main_v9 (broadcastInDim S8x2048x1 ![] bcast_S_S8x2048x1),
    binary main_v8 main_v9 main_v10 Host.divf,
    nullary main_cst_1 (constant S_ .f32 0x358637BD#32),
    unary main_cst_1 main_v11 (broadcastInDim S8x2048x1 ![] bcast_S_S8x2048x1),
    binary main_v10 main_v11 main_v12 addf,
    unary main_v12 main_v13 Host.rsqrt,
    unary main_v13 main_v14 (broadcastInDim S8x2048x1024 ![0, 1, 2] bcast_S8x2048x1_S8x2048x1024_0_1_2),
    binary main_v3 main_v14 main_v15 mulf,
    unary main_v5 main_v16 (broadcastInDim S1x1x1024 ![2] bcast_S1024_S1x1x1024_2),
    unary main_v16 main_v17 (broadcastInDim S8x2048x1024 ![0, 1, 2] bcast_S1x1x1024_S8x2048x1024_0_1_2),
    binary main_v15 main_v17 main_v18 mulf ]

/-- The operations of the feed-forward. -/
abbrev opsFeed : List (HloOp τ sig (Elt F)) :=
  [ unary main_arg3 main_v19 (extractStridedSlice S1x1024x2816 ![1, 0, 0] · slices_S2x1024x2816_S1x1024x2816_1_0_0),
    reshape main_v19 main_v20 rfl shapeCasts_S1x1024x2816_S1024x2816,
    unary main_arg4 main_v21 (extractStridedSlice S1x1024x2816 ![1, 0, 0] · slices_S2x1024x2816_S1x1024x2816_1_0_0),
    reshape main_v21 main_v22 rfl shapeCasts_S1x1024x2816_S1024x2816,
    unary main_arg5 main_v23 (extractStridedSlice S1x2816x1024 ![1, 0, 0] · slices_S2x2816x1024_S1x2816x1024_1_0_0),
    reshape main_v23 main_v24 rfl shapeCasts_S1x2816x1024_S2816x1024,
    binary main_v18 main_v20 main_v25 (Host.dotGeneral dot_S8x2048x1024_S1024x2816_S8x2048x2816_2_0_01_1_n_n none),
    TRef.unary (TRef.of (T := U) main_v25) (TRef.of (T := U) main_call0_v0) Host.negf,
    TRef.unary (TRef.of (T := U) main_call0_v0) (TRef.of (T := U) main_call0_v1) Host.exp,
    TRef.nullary (TRef.of (T := ⟨S_, .f32⟩) main_call0_cst) (constant S_ .f32 0x3F800000#32),
    TRef.unary (TRef.of (T := ⟨S_, .f32⟩) main_call0_cst) (TRef.of (T := U) main_call0_v2) (broadcastInDim S8x2048x2816 ![] bcast_S_S8x2048x2816),
    TRef.binary (TRef.of (T := U) main_call0_v2) (TRef.of (T := U) main_call0_v1) (TRef.of (T := U) main_call0_v3) addf,
    TRef.nullary (TRef.of (T := ⟨S_, .f32⟩) main_call0_cst_0) (constant S_ .f32 0x3F800000#32),
    TRef.unary (TRef.of (T := ⟨S_, .f32⟩) main_call0_cst_0) (TRef.of (T := U) main_call0_v4) (broadcastInDim S8x2048x2816 ![] bcast_S_S8x2048x2816),
    TRef.binary (TRef.of (T := U) main_call0_v4) (TRef.of (T := U) main_call0_v3) (TRef.of (T := U) main_call0_v5) Host.divf,
    TRef.binary (TRef.of (T := U) main_v25) (TRef.of (T := U) main_call0_v5) (TRef.of (T := U) main_v26) mulf,
    binary main_v18 main_v22 main_v27 (Host.dotGeneral dot_S8x2048x1024_S1024x2816_S8x2048x2816_2_0_01_1_n_n none),
    binary main_v26 main_v27 main_v28 mulf,
    binary main_v28 main_v24 main_v29 (Host.dotGeneral dot_S8x2048x2816_S2816x1024_S8x2048x1024_2_0_01_1_n_n none),
    nullary main_cst_2 (constant S_ .f32 0x3F000000#32),
    unary main_cst_2 main_v30 (broadcastInDim S8x2048x1024 ![] bcast_S_S8x2048x1024),
    binary main_v30 main_v29 main_v31 mulf,
    binary main_v3 main_v31 main_v32 addf ]

/-- The operations of the normalisation before the gate. -/
abbrev opsNormB : List (HloOp τ sig (Elt F)) :=
  [ unary main_arg6 main_v33 (extractStridedSlice S1x1024 ![1, 0] · slices_S2x1024_S1x1024_1_0),
    reshape main_v33 main_v34 rfl shapeCasts_S1x1024_S1024,
    binary main_v32 main_v32 main_v35 mulf,
    nullary main_cst_3 (constant S_ .f32 0x00000000#32),
    binary main_v35 main_cst_3 main_v36 (fun x v => Host.reduceAdd x v reducesTo_S8x2048x1024_S8x2048_d2 h_S_),
    unary main_v36 main_v37 (broadcastInDim S8x2048x1 ![0, 1] bcast_S8x2048_S8x2048x1_0_1),
    nullary main_cst_4 (constant S_ .f32 0x44800000#32),
    unary main_cst_4 main_v38 (broadcastInDim S8x2048x1 ![] bcast_S_S8x2048x1),
    binary main_v37 main_v38 main_v39 Host.divf,
    nullary main_cst_5 (constant S_ .f32 0x358637BD#32),
    unary main_cst_5 main_v40 (broadcastInDim S8x2048x1 ![] bcast_S_S8x2048x1),
    binary main_v39 main_v40 main_v41 addf,
    unary main_v41 main_v42 Host.rsqrt,
    unary main_v42 main_v43 (broadcastInDim S8x2048x1024 ![0, 1, 2] bcast_S8x2048x1_S8x2048x1024_0_1_2),
    binary main_v32 main_v43 main_v44 mulf,
    unary main_v34 main_v45 (broadcastInDim S1x1x1024 ![2] bcast_S1024_S1x1x1024_2),
    unary main_v45 main_v46 (broadcastInDim S8x2048x1024 ![0, 1, 2] bcast_S1x1x1024_S8x2048x1024_0_1_2),
    binary main_v44 main_v46 main_v47 mulf ]

/-- The operations of the gated per-layer embedding. -/
abbrev opsGate : List (HloOp τ sig (Elt F)) :=
  [ unary main_arg8 main_v48 (extractStridedSlice S1x1024x1024 ![1, 0, 0] · slices_S2x1024x1024_S1x1024x1024_1_0_0),
    reshape main_v48 main_v49 rfl shapeCasts_S1x1024x1024_S1024x1024,
    binary main_v47 main_v49 main_v50 (Host.dotGeneral dot_S8x2048x1024_S1024x1024_S8x2048x1024_2_0_01_1_n_n none),
    unary main_v50 main_v51 Host.negf,
    unary main_v51 main_v52 Host.exp,
    nullary main_cst_6 (constant S_ .f32 0x3F800000#32),
    unary main_cst_6 main_v53 (broadcastInDim S8x2048x1024 ![] bcast_S_S8x2048x1024),
    binary main_v53 main_v52 main_v54 addf,
    nullary main_cst_7 (constant S_ .f32 0x3F800000#32),
    unary main_cst_7 main_v55 (broadcastInDim S8x2048x1024 ![] bcast_S_S8x2048x1024),
    binary main_v55 main_v54 main_v56 Host.divf,
    unary main_arg7 main_v57 (extractStridedSlice S1x8x2048x256 ![1, 0, 0, 0] · slices_S2x8x2048x256_S1x8x2048x256_1_0_0_0),
    reshape main_v57 main_v58 rfl shapeCasts_S1x8x2048x256_S8x2048x256,
    unary main_arg9 main_v59 (extractStridedSlice S1x256x1024 ![1, 0, 0] · slices_S2x256x1024_S1x256x1024_1_0_0),
    reshape main_v59 main_v60 rfl shapeCasts_S1x256x1024_S256x1024,
    binary main_v58 main_v60 main_v61 (Host.dotGeneral dot_S8x2048x256_S256x1024_S8x2048x1024_2_0_01_1_n_n none),
    binary main_v56 main_v61 main_v62 mulf,
    binary main_v32 main_v62 main_v63 addf ]

/-- The operations of the final normalisation. -/
abbrev opsNormC : List (HloOp τ sig (Elt F)) :=
  [ binary main_v63 main_v63 main_v64 mulf,
    nullary main_cst_8 (constant S_ .f32 0x00000000#32),
    binary main_v64 main_cst_8 main_v65 (fun x v => Host.reduceAdd x v reducesTo_S8x2048x1024_S8x2048_d2 h_S_),
    unary main_v65 main_v66 (broadcastInDim S8x2048x1 ![0, 1] bcast_S8x2048_S8x2048x1_0_1),
    nullary main_cst_9 (constant S_ .f32 0x44800000#32),
    unary main_cst_9 main_v67 (broadcastInDim S8x2048x1 ![] bcast_S_S8x2048x1),
    binary main_v66 main_v67 main_v68 Host.divf,
    nullary main_cst_10 (constant S_ .f32 0x358637BD#32),
    unary main_cst_10 main_v69 (broadcastInDim S8x2048x1 ![] bcast_S_S8x2048x1),
    binary main_v68 main_v69 main_v70 addf,
    unary main_v70 main_v71 Host.rsqrt,
    unary main_v71 main_v72 (broadcastInDim S8x2048x1024 ![0, 1, 2] bcast_S8x2048x1_S8x2048x1024_0_1_2),
    binary main_v63 main_v72 main_v73 mulf,
    unary main_arg11 main_v74 (broadcastInDim S1x1x1024 ![2] bcast_S1024_S1x1x1024_2),
    unary main_v74 main_v75 (broadcastInDim S8x2048x1024 ![0, 1, 2] bcast_S1x1x1024_S8x2048x1024_0_1_2),
    binary main_v73 main_v75 main_v76 mulf,
    reshape main_v76 main_v77 rfl shapeCasts_S8x2048x1024_S16384x1024 ]

/-- What they write. -/
abbrev opsJoinW : List (Ref sig .tc) :=
  [main_v0, main_v1, main_v2, main_v3]

/-- What they write. -/
abbrev opsNormAW : List (Ref sig .tc) :=
  [main_v4, main_v5, main_v6, main_cst, main_v7, main_v8, main_cst_0, main_v9, main_v10, main_cst_1, main_v11, main_v12, main_v13, main_v14, main_v15, main_v16, main_v17, main_v18]

/-- What they write. -/
abbrev opsFeedW : List (Ref sig .tc) :=
  [main_v19, main_v20, main_v21, main_v22, main_v23, main_v24, main_v25, main_call0_v0, main_call0_v1, main_call0_cst, main_call0_v2, main_call0_v3, main_call0_cst_0, main_call0_v4, main_call0_v5, main_v26, main_v27, main_v28, main_v29, main_cst_2, main_v30, main_v31, main_v32]

/-- What they write. -/
abbrev opsNormBW : List (Ref sig .tc) :=
  [main_v33, main_v34, main_v35, main_cst_3, main_v36, main_v37, main_cst_4, main_v38, main_v39, main_cst_5, main_v40, main_v41, main_v42, main_v43, main_v44, main_v45, main_v46, main_v47]

/-- What they write. -/
abbrev opsGateW : List (Ref sig .tc) :=
  [main_v48, main_v49, main_v50, main_v51, main_v52, main_cst_6, main_v53, main_v54, main_cst_7, main_v55, main_v56, main_v57, main_v58, main_v59, main_v60, main_v61, main_v62, main_v63]

/-- What they write. -/
abbrev opsNormCW : List (Ref sig .tc) :=
  [main_v64, main_cst_8, main_v65, main_v66, main_cst_9, main_v67, main_v68, main_cst_10, main_v69, main_v70, main_v71, main_v72, main_v73, main_v74, main_v75, main_v76, main_v77]

/-- The whole program's operations, in order. -/
abbrev ops : List (HloOp τ sig (Elt F)) := opsJoin ++ (opsNormA ++ (opsFeed ++ (opsNormB ++ (opsGate ++ opsNormC))))

set_option maxRecDepth 8192 in
set_option maxHeartbeats 4000000 in
theorem main_eq (c : Dev nD) : main (F := F) c = seq ops := rfl

theorem ops_sub : (ops : List (HloOp τ sig (Elt F))).Forall fun op => op.bufs ⊆ tcRefs τ sig := by
  simp only [ops, opsJoin, opsNormA, opsFeed, opsNormB, opsGate, opsNormC, List.forall_append, List.Forall, TRef.unary, TRef.binary, TRef.nullary]
  repeat' apply And.intro
  all_goals with_reducible first | exact unary_bufs_sub .. | exact binary_bufs_sub .. | exact nullary_bufs_sub .. | exact reshape_bufs_sub ..

theorem scopedRefs_eq : (Finset.univ.filter fun b : Ref sig .tc => b.isScoped) = ∅ := by decide
theorem scopedSems_eq : (Finset.univ.filter fun sm : SemLoc sig => sm.isScoped .tc) = ∅ := by decide

/-! ## What each group leaves -/

variable (M : Valuation τ sig (Elt F))

theorem opsJoin_kept (r : Ref sig .tc) (h : r ∉ opsJoinW) : after opsJoin M r = M r :=
  after_unwritten opsJoinW rfl h M
theorem opsNormA_kept (r : Ref sig .tc) (h : r ∉ opsNormAW) : after opsNormA M r = M r :=
  after_unwritten opsNormAW rfl h M
theorem opsFeed_kept (r : Ref sig .tc) (h : r ∉ opsFeedW) : after opsFeed M r = M r :=
  after_unwritten opsFeedW rfl h M
theorem opsNormB_kept (r : Ref sig .tc) (h : r ∉ opsNormBW) : after opsNormB M r = M r :=
  after_unwritten opsNormBW rfl h M
theorem opsGate_kept (r : Ref sig .tc) (h : r ∉ opsGateW) : after opsGate M r = M r :=
  after_unwritten opsGateW rfl h M
theorem opsNormC_kept (r : Ref sig .tc) (h : r ∉ opsNormCW) : after opsNormC M r = M r :=
  after_unwritten opsNormCW rfl h M

set_option maxHeartbeats 1600000 in
theorem opsJoin_value : after opsJoin M main_v3 = joined (M main_arg0) (M main_arg1) (M main_arg10) := by
  simp only [opsJoin, TRef.binary, TRef.nullary, TRef.unary, TRef.toBuf, TRef.ofBuf, cast_eq]
  after_results_simp <;> rfl
set_option maxHeartbeats 1600000 in
theorem opsNormA_value : after opsNormA M main_v18 = normed (M main_v3) (layerVec (M main_arg2)) := by
  simp only [opsNormA, TRef.binary, TRef.nullary, TRef.unary, TRef.toBuf, TRef.ofBuf, cast_eq]
  after_results_simp <;> rfl
set_option maxHeartbeats 1600000 in
theorem opsFeed_value : after opsFeed M main_v32 = fed (M main_v3) (M main_v18) (layerUp (M main_arg3)) (layerUp (M main_arg4)) (layerDown (M main_arg5)) := by
  simp only [opsFeed, TRef.binary, TRef.nullary, TRef.unary, TRef.toBuf, TRef.ofBuf, cast_eq]
  after_results_simp <;> rfl
set_option maxHeartbeats 1600000 in
theorem opsNormB_value : after opsNormB M main_v47 = normed (M main_v32) (layerVec (M main_arg6)) := by
  simp only [opsNormB, TRef.binary, TRef.nullary, TRef.unary, TRef.toBuf, TRef.ofBuf, cast_eq]
  after_results_simp <;> rfl
set_option maxHeartbeats 1600000 in
theorem opsGate_value : after opsGate M main_v63 = gated (M main_v32) (M main_v47) (layerSquare (M main_arg8)) (layerTokens (M main_arg7)) (layerEmbed (M main_arg9)) := by
  simp only [opsGate, TRef.binary, TRef.nullary, TRef.unary, TRef.toBuf, TRef.ofBuf, cast_eq]
  after_results_simp <;> rfl
set_option maxHeartbeats 1600000 in
theorem opsNormC_value : after opsNormC M main_v77 = shapeCast S16384x1024 (normed (M main_v63) (M main_arg11)) shapeCasts_S8x2048x1024_S16384x1024 := by
  simp only [opsNormC, TRef.binary, TRef.nullary, TRef.unary, TRef.toBuf, TRef.ofBuf, cast_eq]
  after_results_simp <;> rfl

/-- A buffer none of the operations writes is as it was. -/
theorem ops_kept (r : Ref sig .tc) (h : r ∉ opsJoinW ∧ r ∉ opsNormAW ∧ r ∉ opsFeedW ∧ r ∉ opsNormBW ∧ r ∉ opsGateW ∧ r ∉ opsNormCW) : after ops M r = M r := by
  simp only [ops, after_append]
  rw [opsNormC_kept _ r h.2.2.2.2.2, opsGate_kept _ r h.2.2.2.2.1, opsNormB_kept _ r h.2.2.2.1, opsFeed_kept _ r h.2.2.1, opsNormA_kept _ r h.2.1, opsJoin_kept _ r h.1]

/-- The residual stream after the feed-forward, of the arguments in the order of the program's. -/
def second (h : FVec F S8x2048x1024 .f32) (a : FVec F S8x2048x1024 .bf16) (nf : FVec F S2x1024 .f32) (wg wu : FVec F S2x1024x2816 .f32)
    (wd : FVec F S2x2816x1024 .f32) (wo : FVec F S1x1024x1024 .f32) : FVec F S8x2048x1024 .f32 :=
  fed (joined h a wo) (normed (joined h a wo) (layerVec nf)) (layerUp wg) (layerUp wu) (layerDown wd)

/-- The residual stream after the gate. -/
def third (h2 : FVec F S8x2048x1024 .f32) (np : FVec F S2x1024 .f32) (p : FVec F S2x8x2048x256 .f32) (pg : FVec F S2x1024x1024 .f32)
    (pp : FVec F S2x256x1024 .f32) : FVec F S8x2048x1024 .f32 :=
  gated h2 (normed h2 (layerVec np)) (layerSquare pg) (layerTokens p) (layerEmbed pp)

/-- The program's result. -/
theorem ops_value : after ops M main_v77 = shapeCast S16384x1024 (normed
      (third (second (M main_arg0) (M main_arg1) (M main_arg2) (M main_arg3)
          (M main_arg4) (M main_arg5) (M main_arg10))
        (M main_arg6) (M main_arg7) (M main_arg8) (M main_arg9))
      (M main_arg11)) shapeCasts_S8x2048x1024_S16384x1024 := by
  simp only [ops, after_append]
  unfold third second
  rw [opsNormC_value, opsGate_value,
    opsGate_kept _ main_arg11 (by decide), opsNormB_kept _ main_arg11 (by decide), opsFeed_kept _ main_arg11 (by decide), opsNormA_kept _ main_arg11 (by decide), opsJoin_kept _ main_arg11 (by decide),
    opsNormB_value, opsNormB_kept _ main_v32 (by decide),
    opsNormB_kept _ main_arg8 (by decide), opsFeed_kept _ main_arg8 (by decide), opsNormA_kept _ main_arg8 (by decide), opsJoin_kept _ main_arg8 (by decide),
    opsNormB_kept _ main_arg7 (by decide), opsFeed_kept _ main_arg7 (by decide), opsNormA_kept _ main_arg7 (by decide), opsJoin_kept _ main_arg7 (by decide),
    opsNormB_kept _ main_arg9 (by decide), opsFeed_kept _ main_arg9 (by decide), opsNormA_kept _ main_arg9 (by decide), opsJoin_kept _ main_arg9 (by decide),
    opsFeed_kept _ main_arg6 (by decide), opsNormA_kept _ main_arg6 (by decide), opsJoin_kept _ main_arg6 (by decide),
    opsFeed_value, opsNormA_value, opsNormA_kept _ main_v3 (by decide),
    opsNormA_kept _ main_arg3 (by decide), opsJoin_kept _ main_arg3 (by decide),
    opsNormA_kept _ main_arg4 (by decide), opsJoin_kept _ main_arg4 (by decide),
    opsNormA_kept _ main_arg5 (by decide), opsJoin_kept _ main_arg5 (by decide),
    opsJoin_kept _ main_arg2 (by decide),
    opsJoin_value]

/-- The run: the result is the layer of the arguments, which stay as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v77) = shapeCast S16384x1024 (normed
        (third (second (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
            (m ((c.tc : Thread nD τ).loc main_arg10)))
          (m ((c.tc : Thread nD τ).loc main_arg6)) (m ((c.tc : Thread nD τ).loc main_arg7)) (m ((c.tc : Thread nD τ).loc main_arg8))
          (m ((c.tc : Thread nD τ).loc main_arg9)))
        (m ((c.tc : Thread nD τ).loc main_arg11))) shapeCasts_S8x2048x1024_S16384x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    have k (b : Ref sig .tc) (hb : b ∉ opsJoinW ∧ b ∉ opsNormAW ∧ b ∉ opsFeedW ∧ b ∉ opsNormBW ∧ b ∉ opsGateW ∧ b ∉ opsNormCW) : r.2.mem ((c.tc : Thread nD τ).loc b) = m ((c.tc : Thread nD τ).loc b) :=
      (h c b).trans (ops_kept _ b hb)
    ⟨(h c main_v77).trans (ops_value _), k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide)⟩)
    (run_seq scopedRefs_eq scopedSems_eq defs main (fun _ => ops) main_eq (fun _ => ops_sub) m ρ)

end Cert.Post.Plain

end
-- ==== Proof.Frames.lean ====
/-
  The frames of the call after the mixer: the run over any values, read at the hardware's and at the ideal ones.
-/
module

public import proofs.«01_k».proof.Defs
public import proofs.«01_k».proof.Proof.Run
public import proofs.«01_k».proof.Proof.Gen.Kernel2
public import proofs.«01_k».proof.Proof.Gen.Reference2Ideal
public import proofs.«01_k».proof.Proof.Plain
public import Idealize.ShloMosaic.Adequacy
public import Idealize.ShloMosaic.Init

@[expose] public section

noncomputable section

namespace Cert.Post

open Idealize.ShloMosaic Idealize.ShloMosaic.TcCoe Idealize.SL.Sem Cert.Kernel2Ideal Cert.Kernel2Ideal.Gen

variable {F : FTy → Type} [FloatOps F]
variable (m : (ℓ : Loc nD τ sig) → Buf (Elt F) ℓ) (ρ : Dev nD → PrngReg)

/-- Every argument is as launched. -/
abbrev ArgsKept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)

/-- Every argument of the program is as launched when it ends. -/
theorem args_end (r : PUnit × MemSt nD τ sig (Elt F)) (h : Pipeline.FramePost cfgs (dats m) 0 (V m) r) (c : Dev nD) :
    ArgsKept m r c :=
  ⟨args_kept m r h c main_arg0 (Pipeline.mem_restRefs_of main_arg0 (by decide) (by decide)) (by decide),
    args_kept m r h c main_arg1 (Pipeline.mem_restRefs_of main_arg1 (by decide) (by decide)) (by decide),
    args_kept m r h c main_arg2 (Pipeline.mem_restRefs_of main_arg2 (by decide) (by decide)) (by decide),
    args_kept m r h c main_arg3 (Pipeline.mem_restRefs_of main_arg3 (by decide) (by decide)) (by decide),
    args_kept m r h c main_arg4 (Pipeline.mem_restRefs_of main_arg4 (by decide) (by decide)) (by decide),
    args_kept m r h c main_arg5 (Pipeline.mem_restRefs_of main_arg5 (by decide) (by decide)) (by decide),
    args_kept m r h c main_arg6 (Pipeline.mem_restRefs_of main_arg6 (by decide) (by decide)) (by decide),
    args_kept m r h c main_arg7 (Pipeline.mem_restRefs_of main_arg7 (by decide) (by decide)) (by decide),
    args_kept m r h c main_arg8 (Pipeline.mem_restRefs_of main_arg8 (by decide) (by decide)) (by decide),
    args_kept m r h c main_arg9 (Pipeline.mem_restRefs_of main_arg9 (by decide) (by decide)) (by decide),
    args_kept m r h c main_arg10 (Pipeline.mem_restRefs_of main_arg10 (by decide) (by decide)) (by decide),
    args_kept m r h c main_arg11 (Pipeline.mem_restRefs_of main_arg11 (by decide) (by decide)) (by decide)⟩

/-- The program ends, over any values, with its arguments as launched and no semaphore raised. -/
theorem frame_any : θ_run (defs (F := F)) (onTc (τ := τ) (main (F := F))) ⟨m, fun _ => 0, ρ⟩ fun r =>
    (∀ c : Dev nD, ArgsKept m r c)
      ∧ r.2.sem = fun _ => 0 :=
  (θ_run Cert.Kernel2Ideal.defs _ _).mono (fun r h => ⟨args_end m r h.1, h.2⟩) (run_main m ρ)

theorem frame_ideal : Cert.quiescent_Kernel2Ideal (hKernel2Ideal := Cert.Kernel2Ideal.Gen.facts) := fun m ρ _ => frame_any (F := Ideal) m ρ

/-- The two printed programs are the same text: their body tables agree. -/
theorem table_eq : Cert.Kernel2.defs₀ (F := F) = Cert.Kernel2Ideal.defs₀ (F := F) := by
  unfold Cert.Kernel2.defs₀ Cert.Kernel2Ideal.defs₀
  refine congrArg Defs.onTc (funext fun l => funext fun a => ?_)
  match l, a with
  | 0, (t, s) => rfl

theorem defs_eq : Cert.Kernel2.defs (F := F) = Cert.Kernel2Ideal.defs (F := F) := congrArg (Pipeline.defs _) table_eq

theorem frame_bits : Cert.quiescent_Kernel2 (hKernel2 := Cert.Kernel2.Gen.facts) := fun m ρ _ => by
  rw [defs_eq]
  exact frame_any (F := Bits) m ρ

theorem frame_reference : Cert.quiescent_Reference2Ideal (hReference2Ideal := Cert.Reference2Ideal.Gen.facts) := fun m g _ =>
  (θ_run _ _ _).mono (fun r h => ⟨fun c => (h c).2, sem_eq_zero_of_no_sems (by decide) r.2⟩) (Plain.run m g)

end Cert.Post

end
-- ==== Proof.Rows.lean ====
/-
  The layer after the mixer for one token, over the extended reals, and the products of matrices it is made of, read at
  an index.
-/
module

public import Idealize.ShloMosaic.PureOps.Ideal.Laws
public import Idealize.ShloMosaic.Lib.Pipeline.Value
public import Idealize.ShloMosaic.Lib.ValueIdx
public import Idealize.ShloMosaic.Lib.IdealHost

@[expose] public section

noncomputable section

open scoped BigOperators

namespace Cert.Rows

open Idealize.ShloMosaic Idealize.ShloMosaic.ValueIdx

/-! ## One token -/

/-- One, as the programs write it. -/
def one : EReal := Ideal.ofBits .f32 0x3F800000#32
/-- A half, as the programs write it. -/
def half : EReal := Ideal.ofBits .f32 0x3F000000#32
/-- The number of channels, as the programs write it. -/
def channels : EReal := Ideal.ofBits .f32 0x44800000#32
/-- The normalisation's small constant. -/
def tiny : EReal := Ideal.ofBits .f32 0x358637BD#32

/-- A row over the root of its mean square, times the gain. -/
def norm (x g : Fin 1024 → EReal) (k : Fin 1024) : EReal :=
  x k * Ideal.rsqrt (Ideal.div (∑ d, x d * x d) channels + tiny) * g k

/-- A row times a matrix. -/
def project {n p : ℕ} (x : Fin n → EReal) (W : Fin n → Fin p → EReal) (c : Fin p) : EReal := ∑ d, x d * W d c

def sigmoid (z : EReal) : EReal := Ideal.div one (one + Ideal.exp (-z))
def silu (z : EReal) : EReal := z * sigmoid z

/-- The residual row plus the mixer's row through its output matrix. -/
def joined (h a : Fin 1024 → EReal) (W : Fin 1024 → Fin 1024 → EReal) (k : Fin 1024) : EReal := h k + project a W k

/-- A row plus half its feed-forward. -/
def fed (h g : Fin 1024 → EReal) (wg wu : Fin 1024 → Fin 2816 → EReal) (wd : Fin 2816 → Fin 1024 → EReal) (k : Fin 1024) : EReal :=
  h k + half * project (fun j => silu (project (norm h g) wg j) * project (norm h g) wu j) wd k

/-- A row plus its gated per-layer embedding. -/
def gated (h g : Fin 1024 → EReal) (wg : Fin 1024 → Fin 1024 → EReal) (p : Fin 256 → EReal) (wp : Fin 256 → Fin 1024 → EReal) (k : Fin 1024) : EReal :=
  h k + sigmoid (project (norm h g) wg k) * project p wp k

/-! ## The two spellings of the sigmoid -/

theorem one_eq : one = ((1 : ℝ) : EReal) := by
  unfold one; simp [Ideal.ofBits, Ideal.ieee, -EReal.coe_mul]; norm_num

theorem denom_ne (z : EReal) : one + Ideal.exp z ≠ 0 := by
  have h : 0 ≤ Ideal.exp z := by
    induction z with
    | bot => exact le_rfl
    | top => exact le_top
    | coe r => exact EReal.coe_nonneg.mpr (Real.exp_pos r).le
  have h1 : (0 : EReal) < one := by rw [one_eq]; exact EReal.coe_pos.mpr one_pos
  exact (lt_of_lt_of_le h1 (le_add_of_nonneg_right h)).ne'

/-- A quotient by one plus an exponential is a product. -/
theorem silu_eq (z : EReal) : Ideal.div z (one + Ideal.exp (0 - z)) = silu z := by
  unfold silu sigmoid
  rw [zero_sub, Ideal.div, Ideal.div, if_neg (denom_ne _), if_neg (denom_ne _)]
  conv_rhs => rw [one_eq, EReal.coe_one, one_mul]
  rw [one_eq, EReal.coe_one]

theorem sigmoid_eq (z : EReal) : Ideal.div one (one + Ideal.exp (0 - z)) = sigmoid z := by
  unfold sigmoid
  rw [zero_sub]

/-! ## Products of matrices at an index -/

/-- Rows times columns. -/
def flat (R K C : ℕ) (h : DotDims.WF ⟨2, ![R, K]⟩ ⟨2, ![K, C]⟩ ⟨2, ![R, C]⟩ [1] [0] [0] [1] [] []) :
    DotDims ⟨2, ![R, K]⟩ ⟨2, ![K, C]⟩ ⟨2, ![R, C]⟩ where
  lhsContracting := [1]
  rhsContracting := [0]
  lhsNonContracting := [0]
  rhsNonContracting := [1]
  lhsBatch := []
  rhsBatch := []
  wf := h

theorem flat_apply {φ : FTy} (R K C : ℕ) (h : DotDims.WF ⟨2, ![R, K]⟩ ⟨2, ![K, C]⟩ ⟨2, ![R, C]⟩ [1] [0] [0] [1] [] [])
    (x : FVec Ideal ⟨2, ![R, K]⟩ φ) (w : FVec Ideal ⟨2, ![K, C]⟩ φ) (r : Fin R) (c : Fin C) :
    FloatOps.matmul (flat R K C h) none x w (constant ⟨2, ![R, C]⟩ .f32 0x00000000#32) (ix2 r c)
      = project (fun d => x (ix2 r d)) (fun d c => w (ix2 d c)) c := by
  rw [Ideal.matmul_constant_zero_apply, ← Equiv.sum_comp (contrEquiv1 (flat R K C h) K rfl rfl).symm]
  refine Finset.sum_congr rfl fun d _ => ?_
  have hd := contrEquiv1_symm_val (flat R K C h) K rfl rfl d
  have el : (flat R K C h).lhsIdx (ix2 r c) ((contrEquiv1 (flat R K C h) K rfl rfl).symm d) = ix2 r d := funext fun a => Fin.ext (by
    match a with
    | ⟨0, _⟩ =>
      unfold DotDims.lhsIdx
      rw [dif_neg (show ¬ (⟨0, by decide⟩ : Fin 2) ∈ (flat R K C h).lhsBatch from List.not_mem_nil), dif_pos (show (⟨0, by decide⟩ : Fin 2) ∈ (flat R K C h).lhsNonContracting from List.mem_singleton.2 rfl)]
      rfl
    | ⟨1, _⟩ => exact ((flat R K C h).lhsIdx_val_of_single rfl _ _).trans hd)
  have er : (flat R K C h).rhsIdx (ix2 r c) ((contrEquiv1 (flat R K C h) K rfl rfl).symm d) = ix2 d c := funext fun a => Fin.ext (by
    match a with
    | ⟨0, _⟩ => exact ((flat R K C h).rhsIdx_val_of_single rfl _ _).trans hd
    | ⟨1, _⟩ =>
      unfold DotDims.rhsIdx
      rw [dif_neg (show ¬ (⟨1, by decide⟩ : Fin 2) ∈ (flat R K C h).rhsBatch from List.not_mem_nil), dif_pos (show (⟨1, by decide⟩ : Fin 2) ∈ (flat R K C h).rhsNonContracting from List.mem_singleton.2 rfl)]
      rfl)
  rw [el, er]

/-- Every token's row times columns, the tokens by sequence and position. -/
def cube (B S K C : ℕ) (h : DotDims.WF ⟨3, ![B, S, K]⟩ ⟨2, ![K, C]⟩ ⟨3, ![B, S, C]⟩ [2] [0] [0, 1] [1] [] []) :
    DotDims ⟨3, ![B, S, K]⟩ ⟨2, ![K, C]⟩ ⟨3, ![B, S, C]⟩ where
  lhsContracting := [2]
  rhsContracting := [0]
  lhsNonContracting := [0, 1]
  rhsNonContracting := [1]
  lhsBatch := []
  rhsBatch := []
  wf := h

theorem cube_apply {φ : FTy} (B S K C : ℕ) (h : DotDims.WF ⟨3, ![B, S, K]⟩ ⟨2, ![K, C]⟩ ⟨3, ![B, S, C]⟩ [2] [0] [0, 1] [1] [] [])
    (sched : HostSchedule) (x : FVec Ideal ⟨3, ![B, S, K]⟩ φ) (w : FVec Ideal ⟨2, ![K, C]⟩ φ) (b : Fin B) (s : Fin S) (c : Fin C) :
    FloatOps.dotGeneral (cube B S K C h) none sched x w (ix3 b s c)
      = project (fun d => x (ix3 b s d)) (fun d c => w (ix2 d c)) c := by
  rw [Ideal.dotGeneral_apply, ← Equiv.sum_comp (contrEquiv1 (cube B S K C h) K rfl rfl).symm]
  refine Finset.sum_congr rfl fun d _ => ?_
  have hd := contrEquiv1_symm_val (cube B S K C h) K rfl rfl d
  have el : (cube B S K C h).lhsIdx (ix3 b s c) ((contrEquiv1 (cube B S K C h) K rfl rfl).symm d) = ix3 b s d := funext fun a => Fin.ext (by
    match a with
    | ⟨0, _⟩ =>
      unfold DotDims.lhsIdx
      rw [dif_neg (show ¬ (⟨0, by decide⟩ : Fin 3) ∈ (cube B S K C h).lhsBatch from List.not_mem_nil), dif_pos (show (⟨0, by decide⟩ : Fin 3) ∈ (cube B S K C h).lhsNonContracting from List.mem_cons_self)]
      rfl
    | ⟨1, _⟩ =>
      unfold DotDims.lhsIdx
      rw [dif_neg (show ¬ (⟨1, by decide⟩ : Fin 3) ∈ (cube B S K C h).lhsBatch from List.not_mem_nil), dif_pos (show (⟨1, by decide⟩ : Fin 3) ∈ (cube B S K C h).lhsNonContracting from List.mem_cons_of_mem _ (List.mem_singleton.2 rfl))]
      rfl
    | ⟨2, _⟩ => exact ((cube B S K C h).lhsIdx_val_of_single rfl _ _).trans hd)
  have er : (cube B S K C h).rhsIdx (ix3 b s c) ((contrEquiv1 (cube B S K C h) K rfl rfl).symm d) = ix2 d c := funext fun a => Fin.ext (by
    match a with
    | ⟨0, _⟩ => exact ((cube B S K C h).rhsIdx_val_of_single rfl _ _).trans hd
    | ⟨1, _⟩ =>
      unfold DotDims.rhsIdx
      rw [dif_neg (show ¬ (⟨1, by decide⟩ : Fin 2) ∈ (cube B S K C h).rhsBatch from List.not_mem_nil), dif_pos (show (⟨1, by decide⟩ : Fin 2) ∈ (cube B S K C h).rhsNonContracting from List.mem_singleton.2 rfl)]
      rfl)
  rw [el, er]

/-! ## Sums of squares at an index -/

/-- The mean square's sum of a row of a tile. -/
theorem rowSum_apply {R K : ℕ} (hR : (⟨2, ![R, K]⟩ : Shape).Reduces [1] ⟨1, ![R]⟩) (x : FVec Ideal ⟨2, ![R, K]⟩ .f32) (r : Fin R) :
    multiReduction (F := Ideal) .add [1] ⟨1, ![R]⟩ x 0x00000000#32 hR (.inl rfl) rfl (ix1 r) = ∑ d : Fin K, x (ix2 r d) := by
  refine (Ideal.multiReduction_add_single x _ hR (.inl rfl) rfl (ix1 r)).trans ?_
  refine Finset.sum_congr rfl fun d _ => congrArg x (funext fun a => Fin.ext ?_)
  rw [hR.lift_val]
  match a with
  | ⟨0, _⟩ => rfl
  | ⟨1, _⟩ => rfl

/-- The sum of a token's row. -/
theorem tokenSum_apply {B S K : ℕ} (hT : (⟨3, ![B, S, K]⟩ : Shape).ReducesTo [2] ⟨2, ![B, S]⟩) (hR : (⟨3, ![B, S, K]⟩ : Shape).Reduces [2] ⟨2, ![B, S]⟩)
    (hu : 0 < (⟨0, ![]⟩ : Shape).numel) (x : FVec Ideal ⟨3, ![B, S, K]⟩ .f32) (b : Fin B) (s : Fin S) :
    Host.reduceAdd (F := Ideal) x (constant ⟨0, ![]⟩ .f32 0x00000000#32) hT hu (ix2 b s) = ∑ d : Fin K, x (ix3 b s d) := by
  rw [hostReduceAdd_apply, Ideal.hostReduceAdd_single hT hR]
  refine (congrArg (· + _) Ideal.ofBits_zero_f32).trans ((zero_add _).trans ?_)
  refine Finset.sum_congr rfl fun d _ => congrArg x (funext fun a => Fin.ext ?_)
  rw [hR.lift_val]
  match a with
  | ⟨0, _⟩ => rfl
  | ⟨1, _⟩ => rfl
  | ⟨2, _⟩ => rfl

end Cert.Rows

end
-- ==== Proof.PostRead.lean ====
/-
  The tile of the call after the mixer (Tail.lean) at an index, over the extended reals: the layer of one token
  (Rows.lean), the token's rows taken from the blocks the call reads.
-/
module

public import proofs.«01_k».proof.Proof.Tail
public import proofs.«01_k».proof.Proof.Rows

@[expose] public section

noncomputable section

open scoped BigOperators

namespace Cert.Post

open Cert.Kernel2Ideal Cert.Kernel2Ideal.Gen Idealize.ShloMosaic Idealize.ShloMosaic.ValueIdx Cert.Rows

/-! ## The tile's normalisation and its products -/

/-- One over the root of every row's mean square. -/
def tileScales (x : FVec Ideal S512x1024 .f32) : FVec Ideal S512x1 .f32 :=
  rsqrt (addf (divf (shapeCast S512x1 (multiReduction .add [1] S512 (mulf x x) 0x00000000#32 reduces_S512x1024_S512 (.inl rfl) rfl) shapeCasts_S512_S512x1)
    (broadcast S512x1 (Scalar.ofBits .f32 0x44800000#32))) (broadcast S512x1 (Scalar.ofBits .f32 0x358637BD#32)))

/-- Every row normalised, times the gain. -/
def tileNorm (x : FVec Ideal S512x1024 .f32) (g : FVec Ideal S1x1024 .f32) : FVec Ideal S512x1024 .f32 :=
  mulf (mulf x (broadcastTo S512x1024 (tileScales x) broadcasts_S512x1_S512x1024))
    (broadcastTo S512x1024 (shapeCast S1x1024 g shapeCasts_S1x1024_S1x1024) broadcasts_S1x1024_S512x1024)

theorem tileScales_apply (x : FVec Ideal S512x1024 .f32) (r : Fin 512) :
    tileScales x (ix2 r 0) = Ideal.rsqrt (Ideal.div (∑ d, x (ix2 r d) * x (ix2 r d)) channels + tiny) := by
  have e := rowSum_apply reduces_S512x1024_S512 (mulf x x) r
  unfold tileScales
  generalize multiReduction .add [1] S512 (mulf x x) 0x00000000#32 reduces_S512x1024_S512 (.inl rfl) rfl = y at e ⊢
  have e' : shapeCast S512x1 y shapeCasts_S512_S512x1 (ix2 r 0) = ∑ d, x (ix2 r d) * x (ix2 r d) :=
    (shapeCast_apply _ shapeCasts_S512_S512x1 (ix2 r 0) (ix1 r) (by
      rw [Shape.rowMajor_val_one, Shape.rowMajor_val_two]; show r.val = r.val * 1 + 0; omega)).trans e
  rw [← e']
  rfl

theorem tileNorm_apply (x : FVec Ideal S512x1024 .f32) (g : FVec Ideal S1x1024 .f32) (r : Fin 512) (k : Fin 1024) :
    tileNorm x g (ix2 r k) = norm (fun d => x (ix2 r d)) (fun d => g (ix2 0 d)) k := by
  unfold tileNorm
  rw [mulf_apply, mulf_apply,
    broadcastTo_apply (tileScales x) broadcasts_S512x1_S512x1024 (ix2 r k) (ix2 r 0) (fun a => by
      match a with
      | ⟨0, _⟩ => rfl
      | ⟨1, _⟩ => rfl),
    broadcastTo_apply _ broadcasts_S1x1024_S512x1024 (ix2 r k) (ix2 0 k) (fun a => by
      match a with
      | ⟨0, _⟩ => rfl
      | ⟨1, _⟩ => rfl), shapeCast_self, tileScales_apply]
  rfl

/-- A tile times an on-chip matrix. -/
abbrev tileProduct {K C : ℕ} (hw : DotDims.WF ⟨2, ![512, K]⟩ ⟨2, ![K, C]⟩ ⟨2, ![512, C]⟩ [1] [0] [0] [1] [] [])
    (x : FVec Ideal ⟨2, ![512, K]⟩ .bf16) (w : FVec Ideal ⟨2, ![K, C]⟩ .bf16) : FVec Ideal ⟨2, ![512, C]⟩ .f32 :=
  matmul (flat 512 K C hw) none x w (constant (F := Ideal) ⟨2, ![512, C]⟩ .f32 0x00000000#32)

/-- A row of products, whatever the widths. -/
theorem tileProduct_apply {K C : ℕ} (hw : DotDims.WF ⟨2, ![512, K]⟩ ⟨2, ![K, C]⟩ ⟨2, ![512, C]⟩ [1] [0] [0] [1] [] [])
    (x : FVec Ideal ⟨2, ![512, K]⟩ .bf16) (w : FVec Ideal ⟨2, ![K, C]⟩ .bf16) (r : Fin 512) (c : Fin C) :
    tileProduct hw x w (ix2 r c) = project (fun d => x (ix2 r d)) (fun d c => w (ix2 d c)) c := by
  simp only [tileProduct, matmul]
  exact flat_apply 512 K C hw x w r c

theorem zero_f32 : Scalar.ofBits (F := Ideal) .f32 0x00000000#32 = (0 : EReal) := Ideal.ofBits_zero_f32

/-! ## The tile's parts -/

variable (v6 : Vec Ideal S512x1024 .f32) (v8 : Vec Ideal S1024x1024 .bf16) (v9 : Vec Ideal S512x1024 .bf16) (v13 : Vec Ideal S1x1024 .f32)
  (v28 v30 : Vec Ideal S1024x2816 .bf16) (v40 : Vec Ideal S2816x1024 .bf16) (v45 : Vec Ideal S1x1024 .f32) (v60 : Vec Ideal S1024x1024 .bf16)
  (v69 : Vec Ideal S1x512x256 .f32) (v72 : Vec Ideal S256x1024 .bf16) (v76 : Vec Ideal S1x1024 .f32)
variable (r : Fin 512) (k : Fin 1024)

theorem first_apply : k0_pay14 v6 v8 v9 (ix2 r k) = joined (fun d => v6 (ix2 r d)) (fun d => v9 (ix2 r d)) (fun d c => v8 (ix2 d c)) k := by
  unfold k0_pay14 joined
  dsimp only
  rw [addf_apply, shapeCast_self, shapeCast_self]
  exact congrArg (v6 (ix2 r k) + ·) (tileProduct_apply dot_S512x1024_S1024x1024_S512x1024_1_0_0_1_n_n_wf v9 v8 r k)

theorem pay15_eq : k0_pay15 v6 v8 v9 v13 = truncf .bf16 (tileNorm (k0_pay14 v6 v8 v9) v13) bitsLt_bf16_f32 := rfl

theorem pay16_apply (j : Fin 2816) : k0_pay16 v6 v8 v9 v13 v28 (ix2 r j)
    = project (norm (fun d => k0_pay14 v6 v8 v9 (ix2 r d)) fun d => v13 (ix2 0 d)) (fun d c => v28 (ix2 d c)) j := by
  unfold k0_pay16
  rw [pay15_eq]
  refine (tileProduct_apply dot_S512x1024_S1024x2816_S512x2816_1_0_0_1_n_n_wf _ v28 r j).trans ?_
  exact congrArg (fun f => project f _ j) (funext fun d => tileNorm_apply _ v13 r d)

theorem pay17_apply (j : Fin 2816) : k0_pay17 v6 v8 v9 v13 v30 (ix2 r j)
    = project (norm (fun d => k0_pay14 v6 v8 v9 (ix2 r d)) fun d => v13 (ix2 0 d)) (fun d c => v30 (ix2 d c)) j := pay16_apply v6 v8 v9 v13 v30 r j

theorem pay18_apply (j : Fin 2816) : k0_pay18 v6 v8 v9 v13 v28 (ix2 r j) = 0 - k0_pay16 v6 v8 v9 v13 v28 (ix2 r j) := by
  unfold k0_pay18
  exact congrArg (· - k0_pay16 v6 v8 v9 v13 v28 (ix2 r j)) zero_f32

/-- The stream after the feed-forward, from the two products and the negated first. -/
theorem pay19_apply (v12 : FVec Ideal S512x1024 .f32) (v29 v31 v33 : FVec Ideal S512x2816 .f32) (h33 : ∀ j, v33 (ix2 r j) = 0 - v29 (ix2 r j)) :
    k0_pay19 v12 v29 v31 v33 v40 (ix2 r k)
      = v12 (ix2 r k) + half * project (fun j => silu (v29 (ix2 r j)) * v31 (ix2 r j)) (fun d c => v40 (ix2 d c)) k := by
  unfold k0_pay19
  refine congrArg (fun z : EReal => v12 (ix2 r k) + half * z)
    ((tileProduct_apply dot_S512x2816_S2816x1024_S512x1024_1_0_0_1_n_n_wf _ v40 r k).trans (congrArg (fun f => project f _ k) (funext fun j => ?_)))
  refine congrArg (· * v31 (ix2 r j)) (Eq.trans ?_ (silu_eq (v29 (ix2 r j))))
  rw [← h33]
  rfl

theorem pay20_eq (v12 : FVec Ideal S512x1024 .f32) (v29 v31 v33 : FVec Ideal S512x2816 .f32) :
    k0_pay20 v12 v29 v31 v33 v40 v45 v60 = fun i => Ideal.div one (one + Ideal.exp (Scalar.ofBits (F := Ideal) .f32 0x00000000#32
      - tileProduct dot_S512x1024_S1024x1024_S512x1024_1_0_0_1_n_n_wf
        (truncf .bf16 (tileNorm (k0_pay19 v12 v29 v31 v33 v40) v45) bitsLt_bf16_f32) v60 i)) := rfl

/-- The gate. -/
theorem pay20_apply (v12 : FVec Ideal S512x1024 .f32) (v29 v31 v33 : FVec Ideal S512x2816 .f32) :
    k0_pay20 v12 v29 v31 v33 v40 v45 v60 (ix2 r k)
      = sigmoid (project (norm (fun d => k0_pay19 v12 v29 v31 v33 v40 (ix2 r d)) fun d => v45 (ix2 0 d)) (fun d c => v60 (ix2 d c)) k) := by
  rw [pay20_eq, zero_f32, ← sigmoid_eq]
  refine congrArg (fun z : EReal => Ideal.div one (one + Ideal.exp (0 - z)))
    ((tileProduct_apply dot_S512x1024_S1024x1024_S512x1024_1_0_0_1_n_n_wf _ v60 r k).trans ?_)
  exact congrArg (fun f => project f _ k) (funext fun d => tileNorm_apply _ v45 r d)

theorem pay21_apply (d : Fin 256) : k0_pay21 v69 (ix2 r d) = v69 (ix3 0 r d) :=
  shapeCast_apply v69 shapeCasts_S1x512x256_S512x256 (ix2 r d) (ix3 0 r d) (by
    rw [Shape.rowMajor_val_three, Shape.rowMajor_val_two]
    show (0 * 512 + r.val) * 256 + d.val = r.val * 256 + d.val
    omega)

theorem pay1_eq (v44 v68 : FVec Ideal S512x1024 .f32) (v71 : FVec Ideal S512x256 .bf16) :
    k0_pay1 v44 v68 v71 v72 v76 = tileNorm (addf v44 (mulf v68 (tileProduct dot_S512x256_S256x1024_S512x1024_1_0_0_1_n_n_wf v71 v72))) v76 := rfl

theorem pay1_apply (v44 v68 : FVec Ideal S512x1024 .f32) (v71 : FVec Ideal S512x256 .bf16) :
    k0_pay1 v44 v68 v71 v72 v76 (ix2 r k)
      = norm (fun d => v44 (ix2 r d) + v68 (ix2 r d) * project (fun d => v71 (ix2 r d)) (fun d c => v72 (ix2 d c)) d) (fun d => v76 (ix2 0 d)) k := by
  rw [pay1_eq, tileNorm_apply]
  refine congrArg (fun f => norm f _ k) (funext fun d => ?_)
  rw [addf_apply, mulf_apply, tileProduct_apply]

/-! ## The tile -/

/-- The tile's row is the layer of the token's rows. -/
theorem value_apply : value v6 v8 v9 v13 v28 v30 v40 v45 v60 v69 v72 v76 (ix2 r k)
    = norm (gated (fed (joined (fun d => v6 (ix2 r d)) (fun d => v9 (ix2 r d)) fun d c => v8 (ix2 d c)) (fun d => v13 (ix2 0 d))
        (fun d c => v28 (ix2 d c)) (fun d c => v30 (ix2 d c)) fun d c => v40 (ix2 d c)) (fun d => v45 (ix2 0 d)) (fun d c => v60 (ix2 d c))
        (fun d => v69 (ix3 0 r d)) fun d c => v72 (ix2 d c)) (fun d => v76 (ix2 0 d)) k := by
  have h2 : ∀ d, k0_pay19 (k0_pay14 v6 v8 v9) (k0_pay16 v6 v8 v9 v13 v28) (k0_pay17 v6 v8 v9 v13 v30) (k0_pay18 v6 v8 v9 v13 v28) v40 (ix2 r d)
      = fed (joined (fun d => v6 (ix2 r d)) (fun d => v9 (ix2 r d)) fun d c => v8 (ix2 d c)) (fun d => v13 (ix2 0 d))
        (fun d c => v28 (ix2 d c)) (fun d c => v30 (ix2 d c)) (fun d c => v40 (ix2 d c)) d := fun d => by
    rw [pay19_apply v40 r d _ _ _ _ fun j => pay18_apply v6 v8 v9 v13 v28 r j]
    unfold fed
    simp only [pay16_apply, pay17_apply, first_apply]
  unfold value gated
  rw [pay1_apply]
  simp only [pay20_apply, pay21_apply, h2]

end Cert.Post

end
-- ==== Proof.PlainRead.lean ====
/-
  The plain layer's result at an index, over the extended reals: the layer of one token (Rows.lean).
-/
module

public import proofs.«01_k».proof.Proof.Plain
public import proofs.«01_k».proof.Proof.Rows

@[expose] public section

noncomputable section

open scoped BigOperators

namespace Cert.Post.Plain

open Cert.Reference2Ideal Cert.Reference2Ideal.Gen Idealize.ShloMosaic Idealize.ShloMosaic.ValueIdx Cert.Rows

/-! ## The second layer's weights -/

theorem layerVec_apply (x : Vec Ideal S2x1024 .f32) (k : Fin 1024) : layerVec x (ix1 k) = x (ix2 1 k) := by
  unfold layerVec
  rw [shapeCast_apply _ _ (ix1 k) (ix2 0 k) (by
    rw [Shape.rowMajor_val_two, Shape.rowMajor_val_one]; show 0 * 1024 + k.val = k.val; omega)]
  exact extractStridedSlice_apply ![1, 0] x slices_S2x1024_S1x1024_1_0 (ix2 0 k) (ix2 1 k) fun a => by
    match a with
    | ⟨0, _⟩ => rfl
    | ⟨1, _⟩ => show k.val = 0 + k.val; omega

/-- The second layer of a stack of two matrices. -/
theorem layer_apply (R C : ℕ) (hs : (⟨3, ![2, R, C]⟩ : Shape).Slices ![1, 0, 0] ⟨3, ![1, R, C]⟩)
    (hc : (⟨3, ![1, R, C]⟩ : Shape).ShapeCasts ⟨2, ![R, C]⟩) (x : Vec Ideal ⟨3, ![2, R, C]⟩ .f32) (r : Fin R) (k : Fin C) :
    shapeCast ⟨2, ![R, C]⟩ (extractStridedSlice ⟨3, ![1, R, C]⟩ ![1, 0, 0] x hs) hc (ix2 r k) = x (ix3 1 r k) := by
  rw [shapeCast_apply _ _ (ix2 r k) (ix3 0 r k) (by
    rw [Shape.rowMajor_val_three, Shape.rowMajor_val_two]
    show (0 * R + r.val) * C + k.val = r.val * C + k.val
    rw [Nat.zero_mul, Nat.zero_add])]
  exact extractStridedSlice_apply ![1, 0, 0] x hs (ix3 0 r k) (ix3 1 r k) fun a => by
    match a with
    | ⟨0, _⟩ => rfl
    | ⟨1, _⟩ => show r.val = 0 + r.val; omega
    | ⟨2, _⟩ => show k.val = 0 + k.val; omega

theorem layerUp_apply (x : Vec Ideal S2x1024x2816 .f32) (r : Fin 1024) (k : Fin 2816) : layerUp x (ix2 r k) = x (ix3 1 r k) := layer_apply 1024 2816 _ _ x r k
theorem layerDown_apply (x : Vec Ideal S2x2816x1024 .f32) (r : Fin 2816) (k : Fin 1024) : layerDown x (ix2 r k) = x (ix3 1 r k) := layer_apply 2816 1024 _ _ x r k
theorem layerSquare_apply (x : Vec Ideal S2x1024x1024 .f32) (r : Fin 1024) (k : Fin 1024) : layerSquare x (ix2 r k) = x (ix3 1 r k) := layer_apply 1024 1024 _ _ x r k
theorem layerEmbed_apply (x : Vec Ideal S2x256x1024 .f32) (r : Fin 256) (k : Fin 1024) : layerEmbed x (ix2 r k) = x (ix3 1 r k) := layer_apply 256 1024 _ _ x r k

theorem layerTokens_apply (x : Vec Ideal S2x8x2048x256 .f32) (b : Fin 8) (s : Fin 2048) (k : Fin 256) : layerTokens x (ix3 b s k) = x (ix4 1 b s k) := by
  unfold layerTokens
  rw [shapeCast_apply _ _ (ix3 b s k) (ix4 0 b s k) (by
    rw [Shape.rowMajor_val_four, Shape.rowMajor_val_three]
    show ((0 * 8 + b.val) * 2048 + s.val) * 256 + k.val = (b.val * 2048 + s.val) * 256 + k.val
    omega)]
  exact extractStridedSlice_apply ![1, 0, 0, 0] x slices_S2x8x2048x256_S1x8x2048x256_1_0_0_0 (ix4 0 b s k) (ix4 1 b s k) fun a => by
    match a with
    | ⟨0, _⟩ => rfl
    | ⟨1, _⟩ => show b.val = 0 + b.val; omega
    | ⟨2, _⟩ => show s.val = 0 + s.val; omega
    | ⟨3, _⟩ => show k.val = 0 + k.val; omega

theorem output_apply (w : Vec Ideal S1x1024x1024 .f32) (r k : Fin 1024) :
    shapeCast S1024x1024 w shapeCasts_S1x1024x1024_S1024x1024 (ix2 r k) = w (ix3 0 r k) :=
  shapeCast_apply _ _ (ix2 r k) (ix3 0 r k) (by
    rw [Shape.rowMajor_val_three, Shape.rowMajor_val_two]
    show (0 * 1024 + r.val) * 1024 + k.val = r.val * 1024 + k.val
    omega)

/-! ## The parts of the layer -/

variable (x h : FVec Ideal S8x2048x1024 .f32) (b : Fin 8) (s : Fin 2048)

theorem scales_apply : scales x (ix3 b s 0) = Ideal.rsqrt (Ideal.div (∑ d, x (ix3 b s d) * x (ix3 b s d)) channels + tiny) := by
  have e := tokenSum_apply reducesTo_S8x2048x1024_S8x2048_d2 (by decide) h_S_ (mulf x x) b s
  unfold scales
  generalize Host.reduceAdd (mulf x x) (constant (F := Ideal) S_ .f32 0x00000000#32) reducesTo_S8x2048x1024_S8x2048_d2 h_S_ = y at e ⊢
  have e' : broadcastInDim S8x2048x1 ![0, 1] bcast_S8x2048_S8x2048x1_0_1 y (ix3 b s 0) = ∑ d, x (ix3 b s d) * x (ix3 b s d) :=
    (broadcastInDim_apply ![0, 1] bcast_S8x2048_S8x2048x1_0_1 y (ix3 b s 0) (ix2 b s) fun a => by
      match a with
      | ⟨0, _⟩ => rfl
      | ⟨1, _⟩ => rfl).trans e
  rw [← e']
  rfl

theorem normed_apply (g : FVec Ideal S1024 .f32) (k : Fin 1024) :
    normed x g (ix3 b s k) = norm (fun d => x (ix3 b s d)) (fun d => g (ix1 d)) k := by
  unfold normed
  rw [mulf_apply, mulf_apply,
    broadcastInDim_apply ![0, 1, 2] bcast_S8x2048x1_S8x2048x1024_0_1_2 (scales x) (ix3 b s k) (ix3 b s 0) (fun a => by
      match a with
      | ⟨0, _⟩ => rfl
      | ⟨1, _⟩ => rfl
      | ⟨2, _⟩ => rfl),
    broadcastInDim_apply ![0, 1, 2] bcast_S1x1x1024_S8x2048x1024_0_1_2 _ (ix3 b s k) (ix3 0 0 k) (fun a => by
      match a with
      | ⟨0, _⟩ => rfl
      | ⟨1, _⟩ => rfl
      | ⟨2, _⟩ => rfl),
    broadcastInDim_apply ![2] bcast_S1024_S1x1x1024_2 g (ix3 0 0 k) (ix1 k) (fun a => by
      match a with
      | ⟨0, _⟩ => rfl), scales_apply]
  rfl

/-- A row of products, whatever the widths. -/
theorem product_apply {K C : ℕ} (hw : DotDims.WF ⟨3, ![8, 2048, K]⟩ ⟨2, ![K, C]⟩ ⟨3, ![8, 2048, C]⟩ [2] [0] [0, 1] [1] [] [])
    (x : FVec Ideal ⟨3, ![8, 2048, K]⟩ .f32) (w : FVec Ideal ⟨2, ![K, C]⟩ .f32) (c : Fin C) :
    Host.dotGeneral (cube 8 2048 K C hw) none x w (ix3 b s c) = project (fun d => x (ix3 b s d)) (fun d c => w (ix2 d c)) c := by
  simp only [Host.dotGeneral]
  exact cube_apply 8 2048 K C hw _ x w b s c

theorem joined_apply (a : FVec Ideal S8x2048x1024 .bf16) (w : FVec Ideal S1x1024x1024 .f32) (k : Fin 1024) :
    joined h a w (ix3 b s k) = Rows.joined (fun d => h (ix3 b s d)) (fun d => a (ix3 b s d)) (fun d c => w (ix3 0 d c)) k := by
  unfold joined Rows.joined
  refine congrArg (h (ix3 b s k) + ·) ((product_apply b s dot_S8x2048x1024_S1024x1024_S8x2048x1024_2_0_01_1_n_n_wf (extf .f32 a bitsLt_bf16_f32)
    (shapeCast S1024x1024 w shapeCasts_S1x1024x1024_S1024x1024) k).trans ?_)
  exact congrArg (fun W => project (fun d => a (ix3 b s d)) W k) (funext fun d => funext fun c => output_apply w d c)

theorem fed_apply (wg wu : FVec Ideal S1024x2816 .f32) (wd : FVec Ideal S2816x1024 .f32) (k : Fin 1024) :
    fed h x wg wu wd (ix3 b s k) = h (ix3 b s k) + half * project (fun j => silu (project (fun d => x (ix3 b s d)) (fun d c => wg (ix2 d c)) j)
      * project (fun d => x (ix3 b s d)) (fun d c => wu (ix2 d c)) j) (fun d c => wd (ix2 d c)) k := by
  unfold fed
  refine congrArg (fun z : EReal => h (ix3 b s k) + half * z)
    ((product_apply b s dot_S8x2048x2816_S2816x1024_S8x2048x1024_2_0_01_1_n_n_wf _ wd k).trans (congrArg (fun f => project f _ k) (funext fun j => ?_)))
  rw [← product_apply b s dot_S8x2048x1024_S1024x2816_S8x2048x2816_2_0_01_1_n_n_wf x wg j,
    ← product_apply b s dot_S8x2048x1024_S1024x2816_S8x2048x2816_2_0_01_1_n_n_wf x wu j]
  rfl

theorem gated_apply (wg : FVec Ideal S1024x1024 .f32) (p : FVec Ideal S8x2048x256 .f32) (wp : FVec Ideal S256x1024 .f32) (k : Fin 1024) :
    gated h x wg p wp (ix3 b s k) = h (ix3 b s k) + sigmoid (project (fun d => x (ix3 b s d)) (fun d c => wg (ix2 d c)) k)
      * project (fun d => p (ix3 b s d)) (fun d c => wp (ix2 d c)) k := by
  unfold gated
  rw [← product_apply b s dot_S8x2048x1024_S1024x1024_S8x2048x1024_2_0_01_1_n_n_wf x wg k,
    ← product_apply b s dot_S8x2048x256_S256x1024_S8x2048x1024_2_0_01_1_n_n_wf p wp k]
  rfl

/-! ## The layer -/

variable (a : FVec Ideal S8x2048x1024 .bf16) (nf : FVec Ideal S2x1024 .f32) (wg wu : FVec Ideal S2x1024x2816 .f32)
  (wd : FVec Ideal S2x2816x1024 .f32) (wo : FVec Ideal S1x1024x1024 .f32) (np : FVec Ideal S2x1024 .f32) (p : FVec Ideal S2x8x2048x256 .f32)
  (pg : FVec Ideal S2x1024x1024 .f32) (pp : FVec Ideal S2x256x1024 .f32) (fn : FVec Ideal S1024 .f32)

/-- A token's row after the mixer, after the feed-forward, after the gate, and normalised. -/
def row1 : Fin 1024 → EReal := Rows.joined (fun d => h (ix3 b s d)) (fun d => a (ix3 b s d)) fun d c => wo (ix3 0 d c)
def row2 : Fin 1024 → EReal := Rows.fed (row1 h b s a wo) (fun d => nf (ix2 1 d)) (fun d c => wg (ix3 1 d c)) (fun d c => wu (ix3 1 d c)) fun d c => wd (ix3 1 d c)
def row3 : Fin 1024 → EReal := Rows.gated (row2 h b s a nf wg wu wd wo) (fun d => np (ix2 1 d)) (fun d c => pg (ix3 1 d c)) (fun d => p (ix4 1 b s d)) fun d c => pp (ix3 1 d c)
def row4 : Fin 1024 → EReal := norm (row3 h b s a nf wg wu wd wo np p pg pp) fun d => fn (ix1 d)

theorem second_apply (k : Fin 1024) : second h a nf wg wu wd wo (ix3 b s k) = row2 h b s a nf wg wu wd wo k := by
  unfold second row2 Rows.fed
  rw [fed_apply]
  simp only [normed_apply, joined_apply, layerVec_apply, layerUp_apply, layerDown_apply]
  rfl

theorem third_apply (k : Fin 1024) : third (second h a nf wg wu wd wo) np p pg pp (ix3 b s k) = row3 h b s a nf wg wu wd wo np p pg pp k := by
  unfold third row3 Rows.gated
  rw [gated_apply]
  simp only [normed_apply, second_apply, layerVec_apply, layerSquare_apply, layerTokens_apply, layerEmbed_apply]

/-- The token of a row of the result. -/
theorem result_apply (i : Fin 16384) (k : Fin 1024) (hi : i.val = b.val * 2048 + s.val) :
    shapeCast S16384x1024 (normed (third (second h a nf wg wu wd wo) np p pg pp) fn) shapeCasts_S8x2048x1024_S16384x1024 (ix2 i k)
      = row4 h b s a nf wg wu wd wo np p pg pp fn k := by
  rw [shapeCast_apply _ _ (ix2 i k) (ix3 b s k) (by
    rw [Shape.rowMajor_val_three, Shape.rowMajor_val_two]
    show (b.val * 2048 + s.val) * 1024 + k.val = i.val * 1024 + k.val
    rw [hi]), normed_apply]
  unfold row4
  simp only [third_apply]

end Cert.Post.Plain

end
-- ==== Proof.PostArray.lean ====
/-
  The result array of the call after the mixer, whole: row `2048 b + s` is the layer of token `s` of sequence `b`
  (PlainRead.lean), over the arguments as launched.
-/
module

public import proofs.«01_k».proof.Proof.Run
public import proofs.«01_k».proof.Proof.PostRead
public import proofs.«01_k».proof.Proof.PlainRead
public import Idealize.ShloMosaic.Lib.Claim

@[expose] public section

noncomputable section

open scoped BigOperators

namespace Cert.Post

open Cert.Kernel2Ideal Cert.Kernel2Ideal.Gen Idealize.ShloMosaic Idealize.ShloMosaic.ValueIdx Idealize.ShloMosaic.TcCoe

variable (m : (ℓ : Loc nD τ sig) → Buf (Elt Ideal) ℓ) (c : Dev nD)

/-! ## The arguments, as launched -/

/-- The residual stream and the mixer's output; the gains; the matrices; the per-layer embeddings. -/
abbrev argH : S8x2048x1024.Idx → EReal := m ((c : Thread nD τ).loc main_arg0)
abbrev argA : S8x2048x1024.Idx → EReal := m ((c : Thread nD τ).loc main_arg1)
abbrev argNf : S2x1024.Idx → EReal := m ((c : Thread nD τ).loc main_arg2)
abbrev argWg : S2x1024x2816.Idx → EReal := m ((c : Thread nD τ).loc main_arg3)
abbrev argWu : S2x1024x2816.Idx → EReal := m ((c : Thread nD τ).loc main_arg4)
abbrev argWd : S2x2816x1024.Idx → EReal := m ((c : Thread nD τ).loc main_arg5)
abbrev argNp : S2x1024.Idx → EReal := m ((c : Thread nD τ).loc main_arg6)
abbrev argP : S2x8x2048x256.Idx → EReal := m ((c : Thread nD τ).loc main_arg7)
abbrev argPg : S2x1024x1024.Idx → EReal := m ((c : Thread nD τ).loc main_arg8)
abbrev argPp : S2x256x1024.Idx → EReal := m ((c : Thread nD τ).loc main_arg9)
abbrev argWo : S1x1024x1024.Idx → EReal := m ((c : Thread nD τ).loc main_arg10)
abbrev argFn : S1024.Idx → EReal := m ((c : Thread nD τ).loc main_arg11)

/-! ## The arrays the call reads -/

/-- The sequence and the position of a row. -/
def seqOf (i : Fin 16384) : Fin 8 := ⟨i.val / 2048, by omega⟩
def posOf (i : Fin 16384) : Fin 2048 := ⟨i.val % 2048, by omega⟩

theorem seq_pos (i : Fin 16384) : i.val = (seqOf i).val * 2048 + (posOf i).val := by
  show i.val = i.val / 2048 * 2048 + i.val % 2048
  omega

/-- The tokens below one another. -/
theorem rows_apply {φ : FTy} (x : FVec Ideal S8x2048x1024 φ) (i : Fin 16384) (k : Fin 1024) :
    shapeCast S16384x1024 x shapeCasts_S8x2048x1024_S16384x1024 (ix2 i k) = x (ix3 (seqOf i) (posOf i) k) :=
  shapeCast_apply _ _ (ix2 i k) (ix3 (seqOf i) (posOf i) k) (by
    rw [Shape.rowMajor_val_three, Shape.rowMajor_val_two]
    show ((seqOf i).val * 2048 + (posOf i).val) * 1024 + k.val = i.val * 1024 + k.val
    rw [← seq_pos])

/-- The second layer's gain, as a row. -/
theorem gain_apply (x : FVec Ideal S2x1024 .f32) (k : Fin 1024) :
    shapeCast S1x1024 (shapeCast S1024 (extractStridedSlice S1x1024 ![1, 0] x slices_S2x1024_S1x1024_1_0) shapeCasts_S1x1024_S1024) shapeCasts_S1024_S1x1024 (ix2 0 k)
      = x (ix2 1 k) := by
  rw [shapeCast_apply _ _ (ix2 0 k) (ix1 k) (by
      rw [Shape.rowMajor_val_one, Shape.rowMajor_val_two]; show k.val = 0 * 1024 + k.val; omega),
    shapeCast_apply _ _ (ix1 k) (ix2 0 k) (by
      rw [Shape.rowMajor_val_one, Shape.rowMajor_val_two]; show 0 * 1024 + k.val = k.val; omega)]
  exact extractStridedSlice_apply ![1, 0] x slices_S2x1024_S1x1024_1_0 (ix2 0 k) (ix2 1 k) fun a => by
    match a with
    | ⟨0, _⟩ => rfl
    | ⟨1, _⟩ => show k.val = 0 + k.val; omega

theorem V_stream (i : Fin 16384) (k : Fin 1024) : V m c main_v0 (ix2 i k) = argH m c (ix3 (seqOf i) (posOf i) k) := by
  entry_read
  exact rows_apply (φ := .f32) (argH m c) i k

theorem V_mixed (i : Fin 16384) (k : Fin 1024) : V m c main_v1 (ix2 i k) = argA m c (ix3 (seqOf i) (posOf i) k) := by
  entry_read
  exact rows_apply (φ := .bf16) (argA m c) i k

theorem V_gainFfn (k : Fin 1024) : V m c main_v4 (ix2 0 k) = argNf m c (ix2 1 k) := by
  entry_read
  exact gain_apply _ k

theorem V_gainPle (k : Fin 1024) : V m c main_v7 (ix2 0 k) = argNp m c (ix2 1 k) := by
  entry_read
  exact gain_apply _ k

theorem V_embed (i : Fin 16384) (k : Fin 256) : V m c main_v8 (ix3 1 i k) = argP m c (ix4 1 (seqOf i) (posOf i) k) := by
  entry_read
  exact shapeCast_apply _ _ (ix3 1 i k) (ix4 1 (seqOf i) (posOf i) k) (by
    rw [Shape.rowMajor_val_four, Shape.rowMajor_val_three]
    show ((1 * 8 + (seqOf i).val) * 2048 + (posOf i).val) * 256 + k.val = (1 * 16384 + i.val) * 256 + k.val
    have := seq_pos i
    omega)

theorem V_gainFinal (k : Fin 1024) : V m c main_v9 (ix2 0 k) = argFn m c (ix1 k) := by
  entry_read
  exact shapeCast_apply _ _ (ix2 0 k) (ix1 k) (by
    rw [Shape.rowMajor_val_one, Shape.rowMajor_val_two]; show k.val = 0 * 1024 + k.val; omega)

/-! ## The matrices on chip -/

theorem w0_apply (d : Fin 1024) (k : Fin 1024) : w0 m c (ix2 d k) = argWo m c (ix3 0 d k) := by
  unfold w0; rw [V_kept m c main_arg10 (by decide)]; rfl
theorem w1_apply (d : Fin 1024) (k : Fin 2816) : w1 m c (ix2 d k) = argWg m c (ix3 1 d k) := by
  unfold w1; rw [V_kept m c main_arg3 (by decide)]; rfl
theorem w2_apply (d : Fin 1024) (k : Fin 2816) : w2 m c (ix2 d k) = argWu m c (ix3 1 d k) := by
  unfold w2; rw [V_kept m c main_arg4 (by decide)]; rfl
theorem w3_apply (d : Fin 2816) (k : Fin 1024) : w3 m c (ix2 d k) = argWd m c (ix3 1 d k) := by
  unfold w3; rw [V_kept m c main_arg5 (by decide)]; rfl
theorem w4_apply (d : Fin 1024) (k : Fin 1024) : w4 m c (ix2 d k) = argPg m c (ix3 1 d k) := by
  unfold w4; rw [V_kept m c main_arg8 (by decide)]; rfl
theorem w5_apply (d : Fin 256) (k : Fin 1024) : w5 m c (ix2 d k) = argPp m c (ix3 1 d k) := by
  unfold w5; rw [V_kept m c main_arg9 (by decide)]; rfl

/-! ## The blocks -/

/-- Point `t`'s blocks of tokens begin at row `512 t`. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![1, t.val, 0] := (by decide +kernel : ∀ t : Fin grid0.N, win0_4.index t = ![1, t.val, 0])
theorem index5 : ∀ t : Fin cfg0.N, win0_5.index t = ![0, 0] := (by decide +kernel : ∀ t : Fin grid0.N, win0_5.index t = ![0, 0])
theorem index6 : ∀ t : Fin cfg0.N, win0_6.index t = ![t.val, 0] := (by decide +kernel : ∀ t : Fin grid0.N, win0_6.index t = ![t.val, 0])

/-- The number of tiles. -/
theorem points : cfg0.N = 32 := by decide +kernel

/-- Row `r` of point `t`'s tile, among all rows. -/
def rowAt (t : Fin cfg0.N) (r : Fin 512) : Fin 16384 := ⟨t.val * 512 + r.val, by
  have : t.val < 32 := lt_of_lt_of_eq t.isLt points
  have := r.isLt
  omega⟩

theorem blk_stream (t : Fin cfg0.N) (r : Fin 512) (k : Fin 1024) :
    iblk m c 0 t (ix2 r k) = argH m c (ix3 (seqOf (rowAt t r)) (posOf (rowAt t r)) k) := by
  rw [← V_stream m c]
  unfold iblk
  rw [View.read_apply]
  refine congrArg (V m c main_v0) (funext fun x => Fin.ext ?_)
  match x with
  | ⟨0, _⟩ => show win0_0.index t 0 * 512 + 1 * r.val = t.val * 512 + r.val; rw [index0]; show t.val * 512 + 1 * r.val = t.val * 512 + r.val; omega
  | ⟨1, _⟩ => show win0_0.index t 1 * 1024 + 1 * k.val = k.val; rw [index0]; show 0 * 1024 + 1 * k.val = k.val; omega

theorem blk_mixed (t : Fin cfg0.N) (r : Fin 512) (k : Fin 1024) :
    iblk m c 1 t (ix2 r k) = argA m c (ix3 (seqOf (rowAt t r)) (posOf (rowAt t r)) k) := by
  rw [← V_mixed m c]
  unfold iblk
  rw [View.read_apply]
  refine congrArg (V m c main_v1) (funext fun x => Fin.ext ?_)
  match x with
  | ⟨0, _⟩ => show win0_1.index t 0 * 512 + 1 * r.val = t.val * 512 + r.val; rw [index1]; show t.val * 512 + 1 * r.val = t.val * 512 + r.val; omega
  | ⟨1, _⟩ => show win0_1.index t 1 * 1024 + 1 * k.val = k.val; rw [index1]; show 0 * 1024 + 1 * k.val = k.val; omega

theorem blk_gainFfn (t : Fin cfg0.N) (k : Fin 1024) : iblk m c 2 t (ix2 0 k) = argNf m c (ix2 1 k) := by
  rw [← V_gainFfn m c]
  unfold iblk
  rw [View.read_apply]
  refine congrArg (V m c main_v4) (funext fun x => Fin.ext ?_)
  match x with
  | ⟨0, _⟩ => show win0_2.index t 0 * 1 + 1 * 0 = 0; rw [index2]; rfl
  | ⟨1, _⟩ => show win0_2.index t 1 * 1024 + 1 * k.val = k.val; rw [index2]; show 0 * 1024 + 1 * k.val = k.val; omega

theorem blk_gainPle (t : Fin cfg0.N) (k : Fin 1024) : iblk m c 3 t (ix2 0 k) = argNp m c (ix2 1 k) := by
  rw [← V_gainPle m c]
  unfold iblk
  rw [View.read_apply]
  refine congrArg (V m c main_v7) (funext fun x => Fin.ext ?_)
  match x with
  | ⟨0, _⟩ => show win0_3.index t 0 * 1 + 1 * 0 = 0; rw [index3]; rfl
  | ⟨1, _⟩ => show win0_3.index t 1 * 1024 + 1 * k.val = k.val; rw [index3]; show 0 * 1024 + 1 * k.val = k.val; omega

theorem blk_embed (t : Fin cfg0.N) (r : Fin 512) (k : Fin 256) :
    iblk m c 4 t (ix3 0 r k) = argP m c (ix4 1 (seqOf (rowAt t r)) (posOf (rowAt t r)) k) := by
  rw [← V_embed m c]
  unfold iblk
  rw [View.read_apply]
  refine congrArg (V m c main_v8) (funext fun x => Fin.ext ?_)
  match x with
  | ⟨0, _⟩ => show win0_4.index t 0 * 1 + 1 * 0 = 1; rw [index4]; rfl
  | ⟨1, _⟩ => show win0_4.index t 1 * 512 + 1 * r.val = t.val * 512 + r.val; rw [index4]; show t.val * 512 + 1 * r.val = t.val * 512 + r.val; omega
  | ⟨2, _⟩ => show win0_4.index t 2 * 256 + 1 * k.val = k.val; rw [index4]; show 0 * 256 + 1 * k.val = k.val; omega

theorem blk_gainFinal (t : Fin cfg0.N) (k : Fin 1024) : iblk m c 5 t (ix2 0 k) = argFn m c (ix1 k) := by
  rw [← V_gainFinal m c]
  unfold iblk
  rw [View.read_apply]
  refine congrArg (V m c main_v9) (funext fun x => Fin.ext ?_)
  match x with
  | ⟨0, _⟩ => show win0_5.index t 0 * 1 + 1 * 0 = 0; rw [index5]; rfl
  | ⟨1, _⟩ => show win0_5.index t 1 * 1024 + 1 * k.val = k.val; rw [index5]; show 0 * 1024 + 1 * k.val = k.val; omega

/-! ## The result -/

/-- The layer of the token whose row is `i`. -/
def rowOf (i : Fin 16384) : Fin 1024 → EReal :=
  Plain.row4 (argH m c) (seqOf i) (posOf i) (argA m c) (argNf m c) (argWg m c) (argWu m c) (argWd m c) (argWo m c) (argNp m c) (argP m c) (argPg m c) (argPp m c) (argFn m c)

theorem tile_apply (t : Fin cfg0.N) (r : Fin 512) (k : Fin 1024) : tileAt m c t (ix2 r k) = rowOf m c (rowAt t r) k := by
  unfold tileAt rowOf
  rw [value_apply]
  unfold Plain.row4 Plain.row3 Plain.row2 Plain.row1
  simp only [blk_stream, blk_mixed, blk_gainFfn, blk_gainPle, blk_embed, blk_gainFinal, w0_apply, w1_apply, w2_apply, w3_apply, w4_apply, w5_apply]

/-- The result array. -/
def result : S16384x1024.Idx → EReal := fun i => rowOf m c (i 0) (i 1)

theorem flushed_eq (t : Fin cfg0.N) (_ : (cfg0.win 6).flush t = true) :
    (dats m 0 c).flushed 6 t = ((cfg0.win 6).blk t).view.read (Elt Ideal) (result m c) := by
  have h : (dats m 0 c).flushed 6 t = (cfg0.win 6).cut (grid0.coords t) (tileAt m c t) := by
    show (cfg0.win 6).cut (grid0.coords t) ((dats m 0 c).after 6 t) = _
    rw [after_6]
  rw [h]
  funext (i : S512x1024.Idx)
  rw [View.read_apply]
  show tileAt m c t i = _
  have e0 : (((cfg0.win 6).blk t).view.emb i 0 : Fin 16384) = rowAt t (i 0) := Fin.ext (by
    show win0_6.index t 0 * 512 + 1 * (i 0).val = t.val * 512 + (i 0).val
    rw [index6]
    show t.val * 512 + 1 * (i 0).val = t.val * 512 + (i 0).val
    omega)
  have e1 : (((cfg0.win 6).blk t).view.emb i 1 : Fin 1024) = i 1 := Fin.ext (by
    show win0_6.index t 1 * 1024 + 1 * (i 1).val = (i 1).val
    rw [index6]
    show 0 * 1024 + 1 * (i 1).val = (i 1).val
    omega)
  have e : tileAt m c t i = rowOf m c (rowAt t (i 0)) (i 1) := (congrArg (tileAt m c t) (eq_ix2 i)).trans (tile_apply m c t (i 0) (i 1))
  rw [e]
  show _ = rowOf m c (((cfg0.win 6).blk t).view.emb i 0) (((cfg0.win 6).blk t).view.emb i 1)
  rw [e0, e1]

/-- The tile a row is in, as a point of the grid. -/
def point (i : Fin 16384) : Fin cfg0.N := ⟨i.val / 512, lt_of_lt_of_eq (by omega : i.val / 512 < 32) points.symm⟩

theorem arr_eq : (dats m 0 c).arrAt 6 cfg0.N = result m c :=
  (dats m 0 c).arrAt_eq_of_cover 6 (result m c) (flushed_eq m c) fun (i : S16384x1024.Idx) =>
    ⟨point (i 0), flush0_6 _, by
      show i ∈ ((View.whole main_v10).slice (win0_6.rect (point (i 0)))).set
      rw [View.set_slice_whole, Rect.mem_set_unit]
      intro a
      have h1 : (i 1 : Nat) < 1024 := (i 1).isLt
      match a with
      | ⟨0, _⟩ =>
        show win0_6.index (point (i 0)) 0 * 512 ≤ (i 0).val ∧ (i 0).val < win0_6.index (point (i 0)) 0 * 512 + 512
        rw [index6]; show (i 0).val / 512 * 512 ≤ (i 0).val ∧ (i 0).val < (i 0).val / 512 * 512 + 512; omega
      | ⟨1, _⟩ =>
        show win0_6.index (point (i 0)) 1 * 1024 ≤ (i 1).val ∧ (i 1).val < win0_6.index (point (i 0)) 1 * 1024 + 1024
        rw [index6]; show 0 * 1024 ≤ (i 1).val ∧ (i 1).val < 0 * 1024 + 1024; omega⟩

/-- The plain layer's result over the same arguments is the result array. -/
theorem plain_eq : shapeCast S16384x1024 (Plain.normed (F := Ideal) (Plain.third (F := Ideal) (Plain.second (F := Ideal) (argH m c) (argA m c) (argNf m c) (argWg m c) (argWu m c) (argWd m c) (argWo m c))
      (argNp m c) (argP m c) (argPg m c) (argPp m c)) (argFn m c)) Cert.Reference2Ideal.Gen.facts.shapeCasts_S8x2048x1024_S16384x1024 = result m c := by
  refine funext fun i => ?_
  rw [eq_ix2 i]
  exact Plain.result_apply _ _ _ _ _ _ _ _ _ _ _ _ _ _ (i 0) (i 1) (seq_pos (i 0))

end Cert.Post

end
-- ==== Proof.PostEquation.lean ====
/-
  The call after the mixer and the plain layer end with equal arrays.
-/
module

public import proofs.«01_k».proof.Proof.Frames
public import proofs.«01_k».proof.Proof.PostArray

@[expose] public section

noncomputable section

namespace Cert.Post

open Idealize.ShloMosaic Idealize.ShloMosaic.TcCoe Idealize.SL.Sem

/-- From memories with the same arguments, both programs end with the layer of every token. -/
theorem algebraic : Cert.algebraic_Kernel2Ideal_Reference2Ideal (hKernel2Ideal := Cert.Kernel2Ideal.Gen.facts)
    (hReference2Ideal := Cert.Reference2Ideal.Gen.facts) := by
  intro m g m' g' _ hargs
  refine ⟨fun c => (dats m 0 c).arrAt 6 Cert.Kernel2Ideal.cfg0.N,
    (θ_run Cert.Kernel2Ideal.defs _ _).mono (fun r h c => ⟨(h.1 c).1 6, args_end m r h.1 c⟩) (run_main m g), ?_⟩
  refine (θ_run _ _ _).mono (fun r h c => ⟨(h c).1.trans ?_, (h c).2⟩) (Plain.run m' g')
  obtain ⟨e0, e1, e2, e3, e4, e5, e6, e7, e8, e9, e10, e11⟩ := hargs c
  rw [e0, e1, e2, e3, e4, e5, e6, e7, e8, e9, e10, e11]
  exact (plain_eq m c).trans (arr_eq m c).symm

end Cert.Post

end
-- ==== Proof.EvenLoad.lean ====
/-
  The six weight matrices of the call brought on chip at the first grid point: each of the call's six loops is the
  loop of Copy.lean at its own matrix, and so are the blocks asked for before it.
-/
module

public import proofs.«01_k».proof.Proof.Gen.Kernel3Ideal
public import proofs.«01_k».proof.Proof.Gen.Kernel3Ideal.Launch
public import proofs.«01_k».proof.Proof.Gen.Kernel3Ideal.Skeleton
public import proofs.«01_k».proof.Proof.Common
public import Idealize.ShloMosaic.Lib.Pipeline.Value
public import Idealize.ShloMosaic.Lib.ValueIdx
public import Idealize.ShloMosaic.Lib.Pipeline.FrameBody
public import Idealize.ShloMosaic.Lib.Ring
public import Idealize.ShloMosaic.Lib.Tactic

@[expose] public section

noncomputable section

namespace Cert.EvenPost

open Cert.Kernel3Ideal Cert.Kernel3Ideal.Gen Cert.Post
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The buffers the call is given, every one of the windows' and of the scratch whole. -/
structure Refs where
  (a1 : Memref sig .tc .vmem S512x1024 .f32) (h1 : a1.IsWhole) (a2 : Memref sig .tc .vmem S1x512x512 .bf16)
  (h2 : a2.IsWhole) (a3 : Memref sig .tc .vmem S512x512 .bf16) (h3 : a3.IsWhole) (a4 : Memref sig .tc .vmem S1x1024 .f32)
  (h4 : a4.IsWhole) (a5 : Memref sig .tc .vmem S1x1024 .f32) (h5 : a5.IsWhole)
  (a6 : Memref sig .tc .vmem S1x512x256 .f32) (h6 : a6.IsWhole) (a7 : Memref sig .tc .hbm S1x1024x1024 .f32)
  (h7 : a7.IsWhole) (a8 : Memref sig .tc .hbm S2x1024x2816 .f32) (h8 : a8.IsWhole)
  (a9 : Memref sig .tc .hbm S2x1024x2816 .f32) (h9 : a9.IsWhole) (a10 : Memref sig .tc .hbm S2x2816x1024 .f32)
  (h10 : a10.IsWhole) (a11 : Memref sig .tc .hbm S2x1024x1024 .f32) (h11 : a11.IsWhole)
  (a12 : Memref sig .tc .hbm S2x256x1024 .f32) (h12 : a12.IsWhole) (a13 : Memref sig .tc .vmem S512x1024 .f32)
  (h13 : a13.IsWhole) (a14 : Memref sig .tc .vmem S1024x1024 .bf16) (h14 : a14.IsWhole)
  (a15 : Memref sig .tc .vmem S1024x2816 .bf16) (h15 : a15.IsWhole) (a16 : Memref sig .tc .vmem S1024x2816 .bf16)
  (h16 : a16.IsWhole) (a17 : Memref sig .tc .vmem S2816x1024 .bf16) (h17 : a17.IsWhole)
  (a18 : Memref sig .tc .vmem S1024x1024 .bf16) (h18 : a18.IsWhole) (a19 : Memref sig .tc .vmem S256x1024 .bf16)
  (h19 : a19.IsWhole) (a20 : Memref sig .tc .vmem S8x64x2816 .f32) (h20 : a20.IsWhole) (a21 : DmaSems sig S8)

/-- A text of the call at its buffers. -/
abbrev Refs.on {β : Sort _} (A : Refs) (f : ∀ (a1 : Memref sig .tc .vmem S512x1024 .f32) (h1 : a1.IsWhole) (a2 : Memref sig .tc .vmem S1x512x512 .bf16)
    (h2 : a2.IsWhole) (a3 : Memref sig .tc .vmem S512x512 .bf16) (h3 : a3.IsWhole) (a4 : Memref sig .tc .vmem S1x1024 .f32)
    (h4 : a4.IsWhole) (a5 : Memref sig .tc .vmem S1x1024 .f32) (h5 : a5.IsWhole)
    (a6 : Memref sig .tc .vmem S1x512x256 .f32) (h6 : a6.IsWhole) (a7 : Memref sig .tc .hbm S1x1024x1024 .f32)
    (h7 : a7.IsWhole) (a8 : Memref sig .tc .hbm S2x1024x2816 .f32) (h8 : a8.IsWhole)
    (a9 : Memref sig .tc .hbm S2x1024x2816 .f32) (h9 : a9.IsWhole) (a10 : Memref sig .tc .hbm S2x2816x1024 .f32)
    (h10 : a10.IsWhole) (a11 : Memref sig .tc .hbm S2x1024x1024 .f32) (h11 : a11.IsWhole)
    (a12 : Memref sig .tc .hbm S2x256x1024 .f32) (h12 : a12.IsWhole) (a13 : Memref sig .tc .vmem S512x1024 .f32)
    (h13 : a13.IsWhole) (a14 : Memref sig .tc .vmem S1024x1024 .bf16) (h14 : a14.IsWhole)
    (a15 : Memref sig .tc .vmem S1024x2816 .bf16) (h15 : a15.IsWhole) (a16 : Memref sig .tc .vmem S1024x2816 .bf16)
    (h16 : a16.IsWhole) (a17 : Memref sig .tc .vmem S2816x1024 .bf16) (h17 : a17.IsWhole)
    (a18 : Memref sig .tc .vmem S1024x1024 .bf16) (h18 : a18.IsWhole) (a19 : Memref sig .tc .vmem S256x1024 .bf16)
    (h19 : a19.IsWhole) (a20 : Memref sig .tc .vmem S8x64x2816 .f32) (h20 : a20.IsWhole) (a21 : DmaSems sig S8), β) : β :=
  f A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 A.a21

variable (i : grid0.Coords) (A : Refs)

/-! ## Loop 1: the mixer's output projection -/

theorem at1 : ∀ t : Fin k0_t1_loop.trips, (k0_cond2 t = 1#1 ↔ (t : ℕ) + 7 < 16) ∧ (k0_off1 t = ![((t : ℕ) + 7) % 8] ∧ k0_off2 t = ![((t : ℕ) + 7) % 8, 0, 0]
    ∧ k0_off3 t = ![0, 64 * ((t : ℕ) + 7), 0])
    ∧ k0_off4 t = ![(t : ℕ) % 8] ∧ k0_off7 t = ![(t : ℕ) % 8, 0, 0] ∧ k0_off8 t = ![64 * (t : ℕ), 0] := by
  decide +kernel

theorem body1_eq (h : k0_cond1 i = 1#1) (t : Fin k0_t1_loop.trips) (u : Unit) :
    A.on (k0_t1_body (F := F) i) h t u
      = trip (L := 1) (R := 1024) (C := 1024) A.a7 A.a20 A.a21 A.a14 (k0_cond2 t = 1#1) (k0_off1 t) (k0_off2 t) (k0_off3 t) (k0_off4 t) (k0_off5 t) (k0_off6 t) (k0_off7 t) (k0_off8 t)
        (k0_off1_inb i t h) (k0_off2_inb i t h) (k0_off3_inb i t h) (k0_off4_inb i t h) (k0_off5_inb i t h) (k0_off6_inb i t h) (k0_off7_inb i t h) (k0_off8_inb i t h)
        squeezes_S1x64x1024_S64x1024 k0_pay2 k0_pay12 (Scf.iv 0#32 1#32 t) (View.loadsAt_vmem h_S1x64x1024) (View.loadsAt_vmem h_S64x1024)
        (View.stores_vmem h_S64x1024 (A.h14.storeExact_slice rfl _ (k0_off8_packedbf16 i t h)) (fun _ => rfl)) := by
  unfold Refs.on k0_t1_body
  rw [k0_part1_eq_skeleton]
  rfl

theorem wp_loop1 (c : Dev nD) (X : Buf (Elt F) (A.a7.view.loc (c : Thread nD τ))) (h : k0_cond1 i = 1#1) :
    state c A.a7 A.a20 A.a21 A.a14 X 0 (before 16 0) 0
      ⊢ wp frame (wpE (defs₀ (F := F)) Variants.none c none) Set.univ
        (Scf.Loop.for k0_t1_loop (k0_t1_ok i h) ⟨⟩ (A.on (k0_t1_body i) h))
        (fun _ => state c A.a7 A.a20 A.a21 A.a14 X 0 (fun _ => none) 16) := by
  refine wp_matrix c A.a7 A.a20 A.a21 A.a14 X 0 16 _ _ _ _ (by decide) _ fun t u => ?_
  obtain ⟨hc, h123, h4, h7, h8⟩ := at1 t
  rw [body1_eq]
  exact wp_trip c A.a7 A.a20 A.a21 A.a14 X 0 _ _ _ _ _ _ _ _ _ _ _ _ _ _ _ _ _ _ _ _ _ _ _ _ 16 t t.isLt h_S64x1024 hc (fun _ => h123) h4 h7 h8
    (pay_apply _ _)

/-! ## Loop 2: the gate projection -/

theorem at2 : ∀ t : Fin k0_t2_loop.trips, (k0_cond4 t = 1#1 ↔ (t : ℕ) + 7 < 16) ∧ (k0_off9 t = ![((t : ℕ) + 7) % 8] ∧ k0_off10 t = ![((t : ℕ) + 7) % 8, 0, 0]
    ∧ k0_off11 t = ![0, 64 * ((t : ℕ) + 7), 0])
    ∧ k0_off12 t = ![(t : ℕ) % 8] ∧ k0_off15 t = ![(t : ℕ) % 8, 0, 0] ∧ k0_off16 t = ![64 * (t : ℕ), 0] := by
  decide +kernel

theorem body2_eq (h : k0_cond3 i = 1#1) (t : Fin k0_t2_loop.trips) (u : Unit) :
    A.on (k0_t2_body (F := F) i) h t u
      = trip (L := 2) (R := 1024) (C := 2816) A.a8 A.a20 A.a21 A.a15 (k0_cond4 t = 1#1) (k0_off9 t) (k0_off10 t) (k0_off11 t) (k0_off12 t) (k0_off13 t) (k0_off14 t) (k0_off15 t) (k0_off16 t)
        (k0_off9_inb i t h) (k0_off10_inb i t h) (k0_off11_inb i t h) (k0_off12_inb i t h) (k0_off13_inb i t h) (k0_off14_inb i t h) (k0_off15_inb i t h) (k0_off16_inb i t h)
        squeezes_S1x64x2816_S64x2816 k0_pay3 k0_pay8 (Scf.iv 0#32 1#32 t) (View.loadsAt_vmem h_S1x64x2816) (View.loadsAt_vmem h_S64x2816)
        (View.stores_vmem h_S64x2816 (A.h15.storeExact_slice rfl _ (k0_off16_packedbf16 i t h)) (fun _ => rfl)) := by
  unfold Refs.on k0_t2_body
  rw [k0_part3_eq_skeleton]
  rfl

theorem wp_loop2 (c : Dev nD) (X : Buf (Elt F) (A.a8.view.loc (c : Thread nD τ))) (h : k0_cond3 i = 1#1) :
    state c A.a8 A.a20 A.a21 A.a15 X 0 (before 16 0) 0
      ⊢ wp frame (wpE (defs₀ (F := F)) Variants.none c none) Set.univ
        (Scf.Loop.for k0_t2_loop (k0_t2_ok i h) ⟨⟩ (A.on (k0_t2_body i) h))
        (fun _ => state c A.a8 A.a20 A.a21 A.a15 X 0 (fun _ => none) 16) := by
  refine wp_matrix c A.a8 A.a20 A.a21 A.a15 X 0 16 _ _ _ _ (by decide) _ fun t u => ?_
  obtain ⟨hc, h123, h4, h7, h8⟩ := at2 t
  rw [body2_eq]
  exact wp_trip c A.a8 A.a20 A.a21 A.a15 X 0 _ _ _ _ _ _ _ _ _ _ _ _ _ _ _ _ _ _ _ _ _ _ _ _ 16 t t.isLt h_S64x2816 hc (fun _ => h123) h4 h7 h8
    (pay_apply _ _)

/-! ## Loop 3: the up projection -/

theorem at3 : ∀ t : Fin k0_t3_loop.trips, (k0_cond5 t = 1#1 ↔ (t : ℕ) + 7 < 16) ∧ (k0_off17 t = ![((t : ℕ) + 7) % 8] ∧ k0_off18 t = ![((t : ℕ) + 7) % 8, 0, 0]
    ∧ k0_off19 t = ![0, 64 * ((t : ℕ) + 7), 0])
    ∧ k0_off20 t = ![(t : ℕ) % 8] ∧ k0_off23 t = ![(t : ℕ) % 8, 0, 0] ∧ k0_off24 t = ![64 * (t : ℕ), 0] := by
  decide +kernel

theorem body3_eq (h : k0_cond3 i = 1#1) (t : Fin k0_t3_loop.trips) (u : Unit) :
    A.on (k0_t3_body (F := F) i) h t u
      = trip (L := 2) (R := 1024) (C := 2816) A.a9 A.a20 A.a21 A.a16 (k0_cond5 t = 1#1) (k0_off17 t) (k0_off18 t) (k0_off19 t) (k0_off20 t) (k0_off21 t) (k0_off22 t) (k0_off23 t) (k0_off24 t)
        (k0_off17_inb i t h) (k0_off18_inb i t h) (k0_off19_inb i t h) (k0_off20_inb i t h) (k0_off21_inb i t h) (k0_off22_inb i t h) (k0_off23_inb i t h) (k0_off24_inb i t h)
        squeezes_S1x64x2816_S64x2816 k0_pay4 k0_pay9 (Scf.iv 0#32 1#32 t) (View.loadsAt_vmem h_S1x64x2816) (View.loadsAt_vmem h_S64x2816)
        (View.stores_vmem h_S64x2816 (A.h16.storeExact_slice rfl _ (k0_off24_packedbf16 i t h)) (fun _ => rfl)) := by
  unfold Refs.on k0_t3_body
  rw [k0_part4_eq_skeleton]
  rfl

theorem wp_loop3 (c : Dev nD) (X : Buf (Elt F) (A.a9.view.loc (c : Thread nD τ))) (h : k0_cond3 i = 1#1) :
    state c A.a9 A.a20 A.a21 A.a16 X 0 (before 16 0) 0
      ⊢ wp frame (wpE (defs₀ (F := F)) Variants.none c none) Set.univ
        (Scf.Loop.for k0_t3_loop (k0_t3_ok i h) ⟨⟩ (A.on (k0_t3_body i) h))
        (fun _ => state c A.a9 A.a20 A.a21 A.a16 X 0 (fun _ => none) 16) := by
  refine wp_matrix c A.a9 A.a20 A.a21 A.a16 X 0 16 _ _ _ _ (by decide) _ fun t u => ?_
  obtain ⟨hc, h123, h4, h7, h8⟩ := at3 t
  rw [body3_eq]
  exact wp_trip c A.a9 A.a20 A.a21 A.a16 X 0 _ _ _ _ _ _ _ _ _ _ _ _ _ _ _ _ _ _ _ _ _ _ _ _ 16 t t.isLt h_S64x2816 hc (fun _ => h123) h4 h7 h8
    (pay_apply _ _)

/-! ## Loop 4: the down projection -/

theorem at4 : ∀ t : Fin k0_t4_loop.trips, (k0_cond6 t = 1#1 ↔ (t : ℕ) + 7 < 44) ∧ (k0_off25 t = ![((t : ℕ) + 7) % 8] ∧ k0_off26 t = ![((t : ℕ) + 7) % 8, 0, 0]
    ∧ k0_off27 t = ![0, 64 * ((t : ℕ) + 7), 0])
    ∧ k0_off28 t = ![(t : ℕ) % 8] ∧ k0_off31 t = ![(t : ℕ) % 8, 0, 0] ∧ k0_off32 t = ![64 * (t : ℕ), 0] := by
  decide +kernel

theorem body4_eq (h : k0_cond3 i = 1#1) (t : Fin k0_t4_loop.trips) (u : Unit) :
    A.on (k0_t4_body (F := F) i) h t u
      = trip (L := 2) (R := 2816) (C := 1024) A.a10 A.a20 A.a21 A.a17 (k0_cond6 t = 1#1) (k0_off25 t) (k0_off26 t) (k0_off27 t) (k0_off28 t) (k0_off29 t) (k0_off30 t) (k0_off31 t) (k0_off32 t)
        (k0_off25_inb i t h) (k0_off26_inb i t h) (k0_off27_inb i t h) (k0_off28_inb i t h) (k0_off29_inb i t h) (k0_off30_inb i t h) (k0_off31_inb i t h) (k0_off32_inb i t h)
        squeezes_S1x64x1024_S64x1024 k0_pay5 k0_pay10 (Scf.iv 0#32 1#32 t) (View.loadsAt_vmem h_S1x64x1024) (View.loadsAt_vmem h_S64x1024)
        (View.stores_vmem h_S64x1024 (A.h17.storeExact_slice rfl _ (k0_off32_packedbf16 i t h)) (fun _ => rfl)) := by
  unfold Refs.on k0_t4_body
  rw [k0_part5_eq_skeleton]
  rfl

theorem wp_loop4 (c : Dev nD) (X : Buf (Elt F) (A.a10.view.loc (c : Thread nD τ))) (h : k0_cond3 i = 1#1) :
    state c A.a10 A.a20 A.a21 A.a17 X 0 (before 44 0) 0
      ⊢ wp frame (wpE (defs₀ (F := F)) Variants.none c none) Set.univ
        (Scf.Loop.for k0_t4_loop (k0_t4_ok i h) ⟨⟩ (A.on (k0_t4_body i) h))
        (fun _ => state c A.a10 A.a20 A.a21 A.a17 X 0 (fun _ => none) 44) := by
  refine wp_matrix c A.a10 A.a20 A.a21 A.a17 X 0 44 _ _ _ _ (by decide) _ fun t u => ?_
  obtain ⟨hc, h123, h4, h7, h8⟩ := at4 t
  rw [body4_eq]
  exact wp_trip c A.a10 A.a20 A.a21 A.a17 X 0 _ _ _ _ _ _ _ _ _ _ _ _ _ _ _ _ _ _ _ _ _ _ _ _ 44 t t.isLt h_S64x1024 hc (fun _ => h123) h4 h7 h8
    (pay_apply _ _)

/-! ## Loop 5: the per-layer gate -/

theorem at5 : ∀ t : Fin k0_t5_loop.trips, (k0_cond7 t = 1#1 ↔ (t : ℕ) + 7 < 16) ∧ (k0_off33 t = ![((t : ℕ) + 7) % 8] ∧ k0_off34 t = ![((t : ℕ) + 7) % 8, 0, 0]
    ∧ k0_off35 t = ![0, 64 * ((t : ℕ) + 7), 0])
    ∧ k0_off36 t = ![(t : ℕ) % 8] ∧ k0_off39 t = ![(t : ℕ) % 8, 0, 0] ∧ k0_off40 t = ![64 * (t : ℕ), 0] := by
  decide +kernel

theorem body5_eq (h : k0_cond3 i = 1#1) (t : Fin k0_t5_loop.trips) (u : Unit) :
    A.on (k0_t5_body (F := F) i) h t u
      = trip (L := 2) (R := 1024) (C := 1024) A.a11 A.a20 A.a21 A.a18 (k0_cond7 t = 1#1) (k0_off33 t) (k0_off34 t) (k0_off35 t) (k0_off36 t) (k0_off37 t) (k0_off38 t) (k0_off39 t) (k0_off40 t)
        (k0_off33_inb i t h) (k0_off34_inb i t h) (k0_off35_inb i t h) (k0_off36_inb i t h) (k0_off37_inb i t h) (k0_off38_inb i t h) (k0_off39_inb i t h) (k0_off40_inb i t h)
        squeezes_S1x64x1024_S64x1024 k0_pay6 k0_pay11 (Scf.iv 0#32 1#32 t) (View.loadsAt_vmem h_S1x64x1024) (View.loadsAt_vmem h_S64x1024)
        (View.stores_vmem h_S64x1024 (A.h18.storeExact_slice rfl _ (k0_off40_packedbf16 i t h)) (fun _ => rfl)) := by
  unfold Refs.on k0_t5_body
  rw [k0_part6_eq_skeleton]
  rfl

theorem wp_loop5 (c : Dev nD) (X : Buf (Elt F) (A.a11.view.loc (c : Thread nD τ))) (h : k0_cond3 i = 1#1) :
    state c A.a11 A.a20 A.a21 A.a18 X 0 (before 16 0) 0
      ⊢ wp frame (wpE (defs₀ (F := F)) Variants.none c none) Set.univ
        (Scf.Loop.for k0_t5_loop (k0_t5_ok i h) ⟨⟩ (A.on (k0_t5_body i) h))
        (fun _ => state c A.a11 A.a20 A.a21 A.a18 X 0 (fun _ => none) 16) := by
  refine wp_matrix c A.a11 A.a20 A.a21 A.a18 X 0 16 _ _ _ _ (by decide) _ fun t u => ?_
  obtain ⟨hc, h123, h4, h7, h8⟩ := at5 t
  rw [body5_eq]
  exact wp_trip c A.a11 A.a20 A.a21 A.a18 X 0 _ _ _ _ _ _ _ _ _ _ _ _ _ _ _ _ _ _ _ _ _ _ _ _ 16 t t.isLt h_S64x1024 hc (fun _ => h123) h4 h7 h8
    (pay_apply _ _)

/-! ## Loop 6: the per-layer projection -/

theorem at6 : ∀ t : Fin k0_t6_loop.trips, (k0_cond8 t = 1#1 ↔ (t : ℕ) + 7 < 4) ∧ ((k0_cond8 t = 1#1 → False))
    ∧ k0_off44 t = ![(t : ℕ) % 8] ∧ k0_off47 t = ![(t : ℕ) % 8, 0, 0] ∧ k0_off48 t = ![64 * (t : ℕ), 0] := by
  decide +kernel

theorem body6_eq (h : k0_cond3 i = 1#1) (t : Fin k0_t6_loop.trips) (u : Unit) :
    A.on (k0_t6_body (F := F) i) h 0#32 t u
      = trip (L := 2) (R := 256) (C := 1024) A.a12 A.a20 A.a21 A.a19 (k0_cond8 t = 1#1) (k0_off41 t) (k0_off42 t) (k0_off43 t) (k0_off44 t) (k0_off45 t) (k0_off46 t) (k0_off47 t) (k0_off48 t)
        (k0_off41_inb i t h) (k0_off42_inb i t h) (k0_off43_inb i t h) (k0_off44_inb i t h) (k0_off45_inb i t h) (k0_off46_inb i t h) (k0_off47_inb i t h) (k0_off48_inb i t h)
        squeezes_S1x64x1024_S64x1024 k0_pay7 k0_pay13 (Scf.iv 0#32 1#32 t) (View.loadsAt_vmem h_S1x64x1024) (View.loadsAt_vmem h_S64x1024)
        (View.stores_vmem h_S64x1024 (A.h19.storeExact_slice rfl _ (k0_off48_packedbf16 i t h)) (fun _ => rfl)) := by
  unfold Refs.on k0_t6_body
  rw [k0_part7_eq_skeleton]
  rfl

theorem wp_loop6 (c : Dev nD) (X : Buf (Elt F) (A.a12.view.loc (c : Thread nD τ))) (h : k0_cond3 i = 1#1) :
    state c A.a12 A.a20 A.a21 A.a19 X 0 (before 4 0) 0
      ⊢ wp frame (wpE (defs₀ (F := F)) Variants.none c none) Set.univ
        (Scf.Loop.for k0_t6_loop (k0_t6_ok i h) ⟨⟩ (A.on (k0_t6_body i) h 0#32))
        (fun _ => state c A.a12 A.a20 A.a21 A.a19 X 0 (fun _ => none) 4) := by
  refine wp_matrix c A.a12 A.a20 A.a21 A.a19 X 0 4 _ _ _ _ (by decide) _ fun t u => ?_
  obtain ⟨hc, h123, h4, h7, h8⟩ := at6 t
  rw [body6_eq]
  exact wp_trip c A.a12 A.a20 A.a21 A.a19 X 0 _ _ _ _ _ _ _ _ _ _ _ _ _ _ _ _ _ _ _ _ _ _ _ _ 4 t t.isLt h_S64x1024 hc (fun e => absurd e h123) h4 h7 h8
    (pay_apply _ _)

end Cert.EvenPost
-- ==== Proof.EvenParts.lean ====
/-
  The six weight matrices of the call brought on chip at the first grid point, one after another: what each stretch of
  the call's text does to the ring, the arrays and the matrices, and so what all of it does.
-/
module

public import proofs.«01_k».proof.Proof.EvenLoad
public import proofs.«01_k».proof.Proof.Turn
public import Idealize.ShloMosaic.Lib.Pipeline.Value
public import Idealize.ShloMosaic.Lib.ValueIdx
public import Idealize.ShloMosaic.Lib.Pipeline.FrameBody
public import Idealize.ShloMosaic.Lib.Ring
public import Idealize.ShloMosaic.Lib.Tactic

@[expose] public section

noncomputable section

namespace Cert.EvenPost

open Cert.Kernel3Ideal Cert.Kernel3Ideal.Gen Cert.Post
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

variable (i : grid0.Coords) (A : Refs)

theorem part2_eq :
    A.on (k0_part2 (F := F) i)
      = primes A.a7 A.a20 A.a21 0 (by decide) (by decide) squeezes_S1x64x1024_S64x1024 [⟨0, by decide⟩, ⟨1, by decide⟩, ⟨2, by decide⟩, ⟨3, by decide⟩] := by
  unfold Refs.on
  rw [k0_part2_eq_skeleton]
  rfl

/-! ## The first matrix -/

/-- The text that brings the first matrix on chip. -/
def fill1 (h : k0_cond1 i = 1#1) : Prog (TpuEff nD τ sig (Elt F) Λ₀ .tc) PUnit :=
  A.on (k0_part2 i) >>= fun _ =>
  primes A.a7 A.a20 A.a21 0 (by decide) (by decide) squeezes_S1x64x1024_S64x1024 [⟨4, by decide⟩, ⟨5, by decide⟩, ⟨6, by decide⟩] >>= fun _ =>
  Scf.Loop.for k0_t1_loop (k0_t1_ok i h) ⟨⟩ (A.on (k0_t1_body i) h)

theorem wp_fill1 (c : Dev nD) (h : k0_cond1 i = 1#1) (X7 : Buf (Elt F) (A.a7.view.loc (c : Thread nD τ))) :
    iprop((pool (F := F) c A.a20 A.a21 ∗ whole c A.a7 X7) ∗ blank (F := F) c A.a14 ∗ waits (F := F) c)
      ⊢ wp frame (wpE (defs₀ (F := F)) Variants.none c none) Set.univ (fill1 i A h)
        (fun _ => iprop(pool (F := F) c A.a20 A.a21 ∗ whole c A.a7 X7 ∗ ready c A.a7 A.a14 X7 0 ∗ waits (F := F) c)) := by
  unfold fill1
  rw [part2_eq]
  refine wp_then c ((mid_open c A.a7 A.a20 A.a21 X7 0).trans (wp_ask c A.a7 A.a20 A.a21 X7 0 _ _ _ h_S64x1024 _ _ (upTo 4) (by decide) (by decide) (by decide)))
    (fun _ => ?_) .rfl
  exact wp_finish c A.a7 A.a20 A.a21 A.a14 X7 0 _ _ _ h_S64x1024 _ 16 rfl (wp_loop1 i A c X7 h) _ _ (by decide) (by decide)
    (by rw [← upTo_long]; decide)

/-! ## The other five -/

theorem part8_eq :
    A.on (k0_part8 (F := F) i)
      = primes A.a8 A.a20 A.a21 0 (by decide) (by decide) squeezes_S1x64x2816_S64x2816 [⟨0, by decide⟩, ⟨1, by decide⟩, ⟨2, by decide⟩, ⟨3, by decide⟩] := by
  unfold Refs.on
  rw [k0_part8_eq_skeleton]
  rfl

theorem wp_part8 (c : Dev nD) (X8 : Buf (Elt F) (A.a8.view.loc (c : Thread nD τ))) :
    mid c A.a8 A.a20 A.a21 X8 0 (upTo 0)
      ⊢ wp frame (wpE (defs₀ (F := F)) Variants.none c none) Set.univ (A.on (k0_part8 i)) (fun _ => mid c A.a8 A.a20 A.a21 X8 0 (upTo 4)) := by
  rw [part8_eq]
  exact wp_ask c A.a8 A.a20 A.a21 X8 0 _ _ _ h_S64x2816 _ _ _ (by decide) (by decide) (by decide)

theorem part9_eq (h : k0_cond3 i = 1#1) :
    A.on (k0_part9 (F := F) i) h
      = (primes A.a8 A.a20 A.a21 0 (by decide) (by decide) squeezes_S1x64x2816_S64x2816 [⟨4, by decide⟩, ⟨5, by decide⟩, ⟨6, by decide⟩] >>= fun _ =>
        Scf.Loop.for k0_t2_loop (k0_t2_ok i h) ⟨⟩ (A.on (k0_t2_body i) h) >>= fun _ =>
        primes A.a9 A.a20 A.a21 0 (by decide) (by decide) squeezes_S1x64x2816_S64x2816 [⟨0, by decide⟩]) := by
  unfold Refs.on
  rw [k0_part9_eq_skeleton]
  rfl

theorem wp_part9 (c : Dev nD) (h : k0_cond3 i = 1#1) (X8 : Buf (Elt F) (A.a8.view.loc (c : Thread nD τ))) (X9 : Buf (Elt F) (A.a9.view.loc (c : Thread nD τ))) :
    iprop(mid c A.a8 A.a20 A.a21 X8 0 (upTo 4) ∗ (blank (F := F) c A.a15 ∗ waits (F := F) c) ∗ whole c A.a9 X9)
      ⊢ wp frame (wpE (defs₀ (F := F)) Variants.none c none) Set.univ (A.on (k0_part9 i) h)
        (fun _ => iprop(mid c A.a9 A.a20 A.a21 X9 0 (upTo 1) ∗ (whole c A.a8 X8 ∗ ready c A.a8 A.a15 X8 0) ∗ waits (F := F) c)) := by
  rw [part9_eq]
  exact wp_turn c A.a8 A.a9 A.a20 A.a21 A.a15 X8 X9 0 0 _ _ _ h_S64x2816 _ _ _ _ 16 rfl
    (wp_loop2 i A c X8 h) _ _ _ _ (by decide) (by decide) (by rw [← upTo_long]; decide) (by decide) (by decide) h_S64x2816

theorem part10_eq :
    A.on (k0_part10 (F := F) i)
      = primes A.a9 A.a20 A.a21 0 (by decide) (by decide) squeezes_S1x64x2816_S64x2816 [⟨1, by decide⟩, ⟨2, by decide⟩, ⟨3, by decide⟩, ⟨4, by decide⟩] := by
  unfold Refs.on
  rw [k0_part10_eq_skeleton]
  rfl

theorem wp_part10 (c : Dev nD) (X9 : Buf (Elt F) (A.a9.view.loc (c : Thread nD τ))) :
    mid c A.a9 A.a20 A.a21 X9 0 (upTo 1)
      ⊢ wp frame (wpE (defs₀ (F := F)) Variants.none c none) Set.univ (A.on (k0_part10 i)) (fun _ => mid c A.a9 A.a20 A.a21 X9 0 (upTo 5)) := by
  rw [part10_eq]
  exact wp_ask c A.a9 A.a20 A.a21 X9 0 _ _ _ h_S64x2816 _ _ _ (by decide) (by decide) (by decide)

theorem part11_eq (h : k0_cond3 i = 1#1) :
    A.on (k0_part11 (F := F) i) h
      = (primes A.a9 A.a20 A.a21 0 (by decide) (by decide) squeezes_S1x64x2816_S64x2816 [⟨5, by decide⟩, ⟨6, by decide⟩] >>= fun _ =>
        Scf.Loop.for k0_t3_loop (k0_t3_ok i h) ⟨⟩ (A.on (k0_t3_body i) h) >>= fun _ =>
        primes A.a10 A.a20 A.a21 0 (by decide) (by decide) squeezes_S1x64x1024_S64x1024 [⟨0, by decide⟩, ⟨1, by decide⟩]) := by
  unfold Refs.on
  rw [k0_part11_eq_skeleton]
  rfl

theorem wp_part11 (c : Dev nD) (h : k0_cond3 i = 1#1) (X9 : Buf (Elt F) (A.a9.view.loc (c : Thread nD τ))) (X10 : Buf (Elt F) (A.a10.view.loc (c : Thread nD τ))) :
    iprop(mid c A.a9 A.a20 A.a21 X9 0 (upTo 5) ∗ (blank (F := F) c A.a16 ∗ waits (F := F) c) ∗ whole c A.a10 X10)
      ⊢ wp frame (wpE (defs₀ (F := F)) Variants.none c none) Set.univ (A.on (k0_part11 i) h)
        (fun _ => iprop(mid c A.a10 A.a20 A.a21 X10 0 (upTo 2) ∗ (whole c A.a9 X9 ∗ ready c A.a9 A.a16 X9 0) ∗ waits (F := F) c)) := by
  rw [part11_eq]
  exact wp_turn c A.a9 A.a10 A.a20 A.a21 A.a16 X9 X10 0 0 _ _ _ h_S64x2816 _ _ _ _ 16 rfl
    (wp_loop3 i A c X9 h) _ _ _ _ (by decide) (by decide) (by rw [← upTo_long]; decide) (by decide) (by decide) h_S64x1024

theorem part12_eq :
    A.on (k0_part12 (F := F) i)
      = primes A.a10 A.a20 A.a21 0 (by decide) (by decide) squeezes_S1x64x1024_S64x1024 [⟨2, by decide⟩, ⟨3, by decide⟩, ⟨4, by decide⟩, ⟨5, by decide⟩] := by
  unfold Refs.on
  rw [k0_part12_eq_skeleton]
  rfl

theorem wp_part12 (c : Dev nD) (X10 : Buf (Elt F) (A.a10.view.loc (c : Thread nD τ))) :
    mid c A.a10 A.a20 A.a21 X10 0 (upTo 2)
      ⊢ wp frame (wpE (defs₀ (F := F)) Variants.none c none) Set.univ (A.on (k0_part12 i)) (fun _ => mid c A.a10 A.a20 A.a21 X10 0 (upTo 6)) := by
  rw [part12_eq]
  exact wp_ask c A.a10 A.a20 A.a21 X10 0 _ _ _ h_S64x1024 _ _ _ (by decide) (by decide) (by decide)

theorem part13_eq (h : k0_cond3 i = 1#1) :
    A.on (k0_part13 (F := F) i) h
      = (primes A.a10 A.a20 A.a21 0 (by decide) (by decide) squeezes_S1x64x1024_S64x1024 [⟨6, by decide⟩] >>= fun _ =>
        Scf.Loop.for k0_t4_loop (k0_t4_ok i h) ⟨⟩ (A.on (k0_t4_body i) h) >>= fun _ =>
        primes A.a11 A.a20 A.a21 0 (by decide) (by decide) squeezes_S1x64x1024_S64x1024 [⟨0, by decide⟩, ⟨1, by decide⟩, ⟨2, by decide⟩]) := by
  unfold Refs.on
  rw [k0_part13_eq_skeleton]
  rfl

theorem wp_part13 (c : Dev nD) (h : k0_cond3 i = 1#1) (X10 : Buf (Elt F) (A.a10.view.loc (c : Thread nD τ))) (X11 : Buf (Elt F) (A.a11.view.loc (c : Thread nD τ))) :
    iprop(mid c A.a10 A.a20 A.a21 X10 0 (upTo 6) ∗ (blank (F := F) c A.a17 ∗ waits (F := F) c) ∗ whole c A.a11 X11)
      ⊢ wp frame (wpE (defs₀ (F := F)) Variants.none c none) Set.univ (A.on (k0_part13 i) h)
        (fun _ => iprop(mid c A.a11 A.a20 A.a21 X11 0 (upTo 3) ∗ (whole c A.a10 X10 ∗ ready c A.a10 A.a17 X10 0) ∗ waits (F := F) c)) := by
  rw [part13_eq]
  exact wp_turn c A.a10 A.a11 A.a20 A.a21 A.a17 X10 X11 0 0 _ _ _ h_S64x1024 _ _ _ _ 44 rfl
    (wp_loop4 i A c X10 h) _ _ _ _ (by decide) (by decide) (by rw [← upTo_down]; decide) (by decide) (by decide) h_S64x1024

theorem part14_eq (h : k0_cond3 i = 1#1) :
    A.on (k0_part14 (F := F) i) h
      = (primes A.a11 A.a20 A.a21 0 (by decide) (by decide) squeezes_S1x64x1024_S64x1024 [⟨3, by decide⟩, ⟨4, by decide⟩, ⟨5, by decide⟩, ⟨6, by decide⟩] >>= fun _ =>
        Scf.Loop.for k0_t5_loop (k0_t5_ok i h) ⟨⟩ (A.on (k0_t5_body i) h) >>= fun _ => pure ⟨⟩) := by
  unfold Refs.on
  rw [k0_part14_eq_skeleton]
  rfl

theorem wp_part14 (c : Dev nD) (h : k0_cond3 i = 1#1) (X11 : Buf (Elt F) (A.a11.view.loc (c : Thread nD τ))) :
    iprop(mid c A.a11 A.a20 A.a21 X11 0 (upTo 3) ∗ blank (F := F) c A.a18 ∗ waits (F := F) c)
      ⊢ wp frame (wpE (defs₀ (F := F)) Variants.none c none) Set.univ (A.on (k0_part14 i) h)
        (fun _ => iprop(pool (F := F) c A.a20 A.a21 ∗ whole c A.a11 X11 ∗ ready c A.a11 A.a18 X11 0 ∗ waits (F := F) c)) := by
  rw [part14_eq]
  simp only [bind_pure_unit]
  exact wp_finish c A.a11 A.a20 A.a21 A.a18 X11 0 _ _ _ h_S64x1024 _ 16 rfl (wp_loop5 i A c X11 h) _ _ (by decide) (by decide)
    (by rw [← upTo_long]; decide)

/-- The text that brings the other five on chip. -/
def fill2 (h : k0_cond3 i = 1#1) : Prog (TpuEff nD τ sig (Elt F) Λ₀ .tc) PUnit :=
  A.on (k0_part8 i) >>= fun _ =>
  A.on (k0_part9 i) h >>= fun _ =>
  A.on (k0_part10 i) >>= fun _ =>
  A.on (k0_part11 i) h >>= fun _ =>
  A.on (k0_part12 i) >>= fun _ =>
  A.on (k0_part13 i) h >>= fun _ =>
  A.on (k0_part14 i) h >>= fun _ =>
  primes A.a12 A.a20 A.a21 0 (by decide) (by decide) squeezes_S1x64x1024_S64x1024 [⟨0, by decide⟩, ⟨1, by decide⟩, ⟨2, by decide⟩, ⟨3, by decide⟩] >>= fun _ =>
  Scf.Loop.for k0_t6_loop (k0_t6_ok i h) ⟨⟩ (A.on (k0_t6_body i) h 0#32)

theorem wp_fill2 (c : Dev nD) (h : k0_cond3 i = 1#1) (X8 : Buf (Elt F) (A.a8.view.loc (c : Thread nD τ))) (X9 : Buf (Elt F) (A.a9.view.loc (c : Thread nD τ))) (X10 : Buf (Elt F) (A.a10.view.loc (c : Thread nD τ))) (X11 : Buf (Elt F) (A.a11.view.loc (c : Thread nD τ))) (X12 : Buf (Elt F) (A.a12.view.loc (c : Thread nD τ))) :
    iprop(pool (F := F) c A.a20 A.a21 ∗ (whole c A.a8 X8 ∗ whole c A.a9 X9 ∗ whole c A.a10 X10 ∗ whole c A.a11 X11 ∗ whole c A.a12 X12) ∗ (blank (F := F) c A.a15 ∗ blank (F := F) c A.a16 ∗ blank (F := F) c A.a17 ∗ blank (F := F) c A.a18 ∗ blank (F := F) c A.a19) ∗ waits (F := F) c)
      ⊢ wp frame (wpE (defs₀ (F := F)) Variants.none c none) Set.univ (fill2 i A h)
        (fun _ => iprop(pool (F := F) c A.a20 A.a21 ∗ (whole c A.a8 X8 ∗ whole c A.a9 X9 ∗ whole c A.a10 X10 ∗ whole c A.a11 X11 ∗ whole c A.a12 X12) ∗ (ready c A.a8 A.a15 X8 0 ∗ ready c A.a9 A.a16 X9 0 ∗ ready c A.a10 A.a17 X10 0 ∗ ready c A.a11 A.a18 X11 0 ∗ ready c A.a12 A.a19 X12 0) ∗ waits (F := F) c)) := by
  unfold fill2
  iintro ⟨Hp, ⟨A8, A9, A10, A11, A12⟩, ⟨B15, B16, B17, B18, B19⟩, HW⟩
  rw [wp_bind]
  ihave Hm := (mid_open c A.a8 A.a20 A.a21 X8 0) $$ [Hp A8]
  · isplitl [Hp]; · iexact Hp
    iexact A8
  iapply (wp_wand_r frame (wpE (defs₀ (F := F)) Variants.none c none) Set.univ)
  isplitl [Hm]
  · iapply (wp_part8 i A c X8)
    iexact Hm
  iintro %_ Hm
  rw [wp_bind]
  iapply (wp_wand_r frame (wpE (defs₀ (F := F)) Variants.none c none) Set.univ)
  isplitl [Hm B15 HW A9]
  · iapply (wp_part9 i A c h X8 X9)
    isplitl [Hm]
    · iexact Hm
    isplitl [B15 HW]
    · isplitl [B15]
      · iexact B15
      iexact HW
    iexact A9
  iintro %_ ⟨Hm, ⟨A8, R15⟩, HW⟩
  rw [wp_bind]
  iapply (wp_wand_r frame (wpE (defs₀ (F := F)) Variants.none c none) Set.univ)
  isplitl [Hm]
  · iapply (wp_part10 i A c X9)
    iexact Hm
  iintro %_ Hm
  rw [wp_bind]
  iapply (wp_wand_r frame (wpE (defs₀ (F := F)) Variants.none c none) Set.univ)
  isplitl [Hm B16 HW A10]
  · iapply (wp_part11 i A c h X9 X10)
    isplitl [Hm]
    · iexact Hm
    isplitl [B16 HW]
    · isplitl [B16]
      · iexact B16
      iexact HW
    iexact A10
  iintro %_ ⟨Hm, ⟨A9, R16⟩, HW⟩
  rw [wp_bind]
  iapply (wp_wand_r frame (wpE (defs₀ (F := F)) Variants.none c none) Set.univ)
  isplitl [Hm]
  · iapply (wp_part12 i A c X10)
    iexact Hm
  iintro %_ Hm
  rw [wp_bind]
  iapply (wp_wand_r frame (wpE (defs₀ (F := F)) Variants.none c none) Set.univ)
  isplitl [Hm B17 HW A11]
  · iapply (wp_part13 i A c h X10 X11)
    isplitl [Hm]
    · iexact Hm
    isplitl [B17 HW]
    · isplitl [B17]
      · iexact B17
      iexact HW
    iexact A11
  iintro %_ ⟨Hm, ⟨A10, R17⟩, HW⟩
  rw [wp_bind]
  iapply (wp_wand_r frame (wpE (defs₀ (F := F)) Variants.none c none) Set.univ)
  isplitl [Hm B18 HW]
  · iapply (wp_part14 i A c h X11)
    isplitl [Hm]
    · iexact Hm
    isplitl [B18]
    · iexact B18
    iexact HW
  iintro %_ ⟨Hp, A11, R18, HW⟩
  rw [wp_bind]
  iapply (wp_wand_r frame (wpE (defs₀ (F := F)) Variants.none c none) Set.univ)
  isplitl [Hp A12]
  · iapply ((mid_open c A.a12 A.a20 A.a21 X12 0).trans (wp_ask c A.a12 A.a20 A.a21 X12 0 _ _ _ h_S64x1024 _ _ (before 4 0) (by decide) (by decide) (by rw [← upTo_short]; decide)))
    isplitl [Hp]
    · iexact Hp
    iexact A12
  iintro %_ Hm
  iapply (wp_wand_r frame (wpE (defs₀ (F := F)) Variants.none c none) Set.univ)
  isplitl [Hm B19 HW]
  · iapply (wp_drain c A.a12 A.a20 A.a21 A.a19 X12 0 _ 4 rfl (wp_loop6 i A c X12 h))
    isplitl [Hm]
    · iexact Hm
    isplitl [B19]
    · iexact B19
    iexact HW
  iintro %_ ⟨Hp, A12, R19, HW⟩
  isplitl [Hp]
  · iexact Hp
  isplitl [A8 A9 A10 A11 A12]
  · isplitl [A8]
    · iexact A8
    isplitl [A9]
    · iexact A9
    isplitl [A10]
    · iexact A10
    isplitl [A11]
    · iexact A11
    iexact A12
  isplitl [R15 R16 R17 R18 R19]
  · isplitl [R15]
    · iexact R15
    isplitl [R16]
    · iexact R16
    isplitl [R17]
    · iexact R17
    isplitl [R18]
    · iexact R18
    iexact R19
  iexact HW

end Cert.EvenPost
-- ==== Proof.EvenTail.lean ====
/-
  The body of the call at a grid point: the weights brought on chip where the point is the first, and from then on the
  same fourteen loads and one store at every point.
-/
module

public import proofs.«01_k».proof.Proof.EvenParts
public import Idealize.ShloMosaic.Lib.Pipeline.Value
public import Idealize.ShloMosaic.Lib.ValueIdx
public import Idealize.ShloMosaic.Lib.WritesUnit
public import Idealize.ShloMosaic.Lib.Pipeline.ValueKit.Tiles
public import Idealize.ShloMosaic.Lib.Pipeline.FrameBody
public import Idealize.ShloMosaic.Lib.Ring
public import Idealize.ShloMosaic.Lib.Tactic

@[expose] public section

noncomputable section

namespace Cert.EvenPost

open Cert.Kernel3Ideal Cert.Kernel3Ideal.Gen Cert.Post
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The tile the body stores, from the words it loads. -/
def stored (v6 : Vec F S512x1024 .f32) (v8 : Vec F S512x1024 .bf16) (v9 : Vec F S1x512x512 .bf16) (v13 : Vec F S512x1024 .bf16) (v14 : Vec F S512x512 .bf16) (v18 : Vec F S1x1024 .f32) (v33 v35 : Vec F S1024x2816 .bf16) (v45 : Vec F S2816x1024 .bf16) (v50 : Vec F S1x1024 .f32) (v65 : Vec F S1024x1024 .bf16) (v74 : Vec F S1x512x256 .f32) (v77 : Vec F S256x1024 .bf16) : FVec F S512x1024 .f32 :=
  k0_pay1 (k0_pay16 (k0_pay14 v6 v8 v9 v13 v14) (k0_pay15 v6 v8 v9 v13 v14 v18) v33 v35 v45)
    (k0_pay17 (k0_pay14 v6 v8 v9 v13 v14) (k0_pay15 v6 v8 v9 v13 v14 v18) v33 v35 v45 v50 v65) (Scalar.ofBits .f32 0x3F800000#32) v74 v77

/-- The first 512 rows of a matrix. -/
def top (x : Vec F S1024x1024 .bf16) : Vec F S512x1024 .bf16 := fun y => x ((Rect.unit (s := S1024x1024) ![0, 0] S512x1024.size inb_S1024x1024_S512x1024_0_0).idx y)
/-- The last 512 rows of a matrix. -/
def bottom (x : Vec F S1024x1024 .bf16) : Vec F S512x1024 .bf16 := fun y => x ((Rect.unit (s := S1024x1024) ![512, 0] S512x1024.size inb_S1024x1024_S512x1024_512_0).idx y)

/-- The tile the body stores, from the buffers it reads. -/
def value (x1 : Vec F S512x1024 .f32) (x14 : Vec F S1024x1024 .bf16) (x2 : Vec F S1x512x512 .bf16) (x3 : Vec F S512x512 .bf16) (x4 : Vec F S1x1024 .f32) (x15 x16 : Vec F S1024x2816 .bf16) (x17 : Vec F S2816x1024 .bf16) (x5 : Vec F S1x1024 .f32) (x18 : Vec F S1024x1024 .bf16) (x6 : Vec F S1x512x256 .f32) (x19 : Vec F S256x1024 .bf16) : FVec F S512x1024 .f32 :=
  stored x1 (top x14) x2 (bottom x14) x3 x4 x15 x16 x17 x5 x18 x6 x19

variable (i : grid0.Coords)
variable (arg1 : Memref sig .tc .vmem S512x1024 .f32) (harg1 : arg1.IsWhole) (arg2 : Memref sig .tc .vmem S1x512x512 .bf16) (harg2 : arg2.IsWhole) (arg3 : Memref sig .tc .vmem S512x512 .bf16) (harg3 : arg3.IsWhole)
  (arg4 : Memref sig .tc .vmem S1x1024 .f32) (harg4 : arg4.IsWhole) (arg5 : Memref sig .tc .vmem S1x1024 .f32) (harg5 : arg5.IsWhole) (arg6 : Memref sig .tc .vmem S1x512x256 .f32) (harg6 : arg6.IsWhole)
  (arg7 : Memref sig .tc .hbm S1x1024x1024 .f32) (harg7 : arg7.IsWhole) (arg8 : Memref sig .tc .hbm S2x1024x2816 .f32) (harg8 : arg8.IsWhole) (arg9 : Memref sig .tc .hbm S2x1024x2816 .f32) (harg9 : arg9.IsWhole)
  (arg10 : Memref sig .tc .hbm S2x2816x1024 .f32) (harg10 : arg10.IsWhole) (arg11 : Memref sig .tc .hbm S2x1024x1024 .f32) (harg11 : arg11.IsWhole) (arg12 : Memref sig .tc .hbm S2x256x1024 .f32) (harg12 : arg12.IsWhole)
  (arg13 : Memref sig .tc .vmem S512x1024 .f32) (harg13 : arg13.IsWhole) (arg14 : Memref sig .tc .vmem S1024x1024 .bf16) (harg14 : arg14.IsWhole) (arg15 : Memref sig .tc .vmem S1024x2816 .bf16) (harg15 : arg15.IsWhole)
  (arg16 : Memref sig .tc .vmem S1024x2816 .bf16) (harg16 : arg16.IsWhole) (arg17 : Memref sig .tc .vmem S2816x1024 .bf16) (harg17 : arg17.IsWhole) (arg18 : Memref sig .tc .vmem S1024x1024 .bf16) (harg18 : arg18.IsWhole)
  (arg19 : Memref sig .tc .vmem S256x1024 .bf16) (harg19 : arg19.IsWhole) (arg20 : Memref sig .tc .vmem S8x64x2816 .f32) (harg20 : arg20.IsWhole) (arg21 : DmaSems sig S8)

/-- The body from its first load on. -/
def tail : Prog (TpuEff nD τ sig (Elt F) Λ₀ .tc) PUnit := do
  let v6 : Vec F S512x1024 .f32 ← Prog.lift (.load arg1 (Rect.unit (s := S512x1024) ![0, 0] S512x1024.size inb_S512x1024_S512x1024_0_0).toLoadRect (View.loadsAt_vmem h_S512x1024))
  let v8 : Vec F S512x1024 .bf16 ← Prog.lift (.load arg14 (Rect.unit (s := S1024x1024) ![0, 0] S512x1024.size inb_S1024x1024_S512x1024_0_0).toLoadRect (View.loadsAt_vmem h_S512x1024))
  let v9 : Vec F S1x512x512 .bf16 ← Prog.lift (.load arg2 (Rect.unit (s := S1x512x512) ![0, 0, 0] S1x512x512.size inb_S1x512x512_S1x512x512_0_0_0).toLoadRect (View.loadsAt_vmem h_S1x512x512))
  let v13 : Vec F S512x1024 .bf16 ← Prog.lift (.load arg14 (Rect.unit (s := S1024x1024) ![512, 0] S512x1024.size inb_S1024x1024_S512x1024_512_0).toLoadRect (View.loadsAt_vmem h_S512x1024))
  let v14 : Vec F S512x512 .bf16 ← Prog.lift (.load arg3 (Rect.unit (s := S512x512) ![0, 0] S512x512.size inb_S512x512_S512x512_0_0).toLoadRect (View.loadsAt_vmem h_S512x512))
  let v18 : Vec F S1x1024 .f32 ← Prog.lift (.load arg4 (Rect.unit (s := S1x1024) ![0, 0] S1x1024.size inb_S1x1024_S1x1024_0_0).toLoadRect (View.loadsAt_vmem h_S1x1024))
  let v33 : Vec F S1024x2816 .bf16 ← Prog.lift (.load arg15 (Rect.unit (s := S1024x2816) ![0, 0] S1024x2816.size inb_S1024x2816_S1024x2816_0_0).toLoadRect (View.loadsAt_vmem h_S1024x2816))
  let v35 : Vec F S1024x2816 .bf16 ← Prog.lift (.load arg16 (Rect.unit (s := S1024x2816) ![0, 0] S1024x2816.size inb_S1024x2816_S1024x2816_0_0).toLoadRect (View.loadsAt_vmem h_S1024x2816))
  let v45 : Vec F S2816x1024 .bf16 ← Prog.lift (.load arg17 (Rect.unit (s := S2816x1024) ![0, 0] S2816x1024.size inb_S2816x1024_S2816x1024_0_0).toLoadRect (View.loadsAt_vmem h_S2816x1024))
  let v50 : Vec F S1x1024 .f32 ← Prog.lift (.load arg5 (Rect.unit (s := S1x1024) ![0, 0] S1x1024.size inb_S1x1024_S1x1024_0_0).toLoadRect (View.loadsAt_vmem h_S1x1024))
  let v65 : Vec F S1024x1024 .bf16 ← Prog.lift (.load arg18 (Rect.unit (s := S1024x1024) ![0, 0] S1024x1024.size inb_S1024x1024_S1024x1024_0_0).toLoadRect (View.loadsAt_vmem h_S1024x1024))
  let v74 : Vec F S1x512x256 .f32 ← Prog.lift (.load arg6 (Rect.unit (s := S1x512x256) ![0, 0, 0] S1x512x256.size inb_S1x512x256_S1x512x256_0_0_0).toLoadRect (View.loadsAt_vmem h_S1x512x256))
  let v77 : Vec F S256x1024 .bf16 ← Prog.lift (.load arg19 (Rect.unit (s := S256x1024) ![0, 0] S256x1024.size inb_S256x1024_S256x1024_0_0).toLoadRect (View.loadsAt_vmem h_S256x1024))
  let _v81 : Vec F S512x1024 .f32 ← Prog.lift (.load arg13 (Rect.unit (s := S512x1024) ![0, 0] S512x1024.size inb_S512x1024_S512x1024_0_0).toLoadRect (View.loadsAt_vmem h_S512x1024))
  Prog.lift (.store arg13 (Rect.unit (s := S512x1024) ![0, 0] S512x1024.size inb_S512x1024_S512x1024_0_0) (stored v6 v8 v9 v13 v14 v18 v33 v35 v45 v50 v65 v74 v77) Finset.univ (View.stores_vmem_bits_univ h_S512x1024 rfl) (.inl rfl))
  pure ⟨⟩

theorem body_first (A : Refs) (h1 : k0_cond1 i = 1#1) (h3 : k0_cond3 i = 1#1) :
    A.on (cc0_post (F := F) i)
      = fill1 i A h1 >>= fun _ => fill2 i A h3 >>= fun _ => tail A.a1 A.a2 A.a3 A.a4 A.a5 A.a6 A.a13 A.a14 A.a15 A.a16 A.a17 A.a18 A.a19 := by
  unfold Refs.on
  rw [cc0_post_eq_skeleton]
  unfold cc0_post_skel fill1 fill2
  rw [k0_part16_eq_skeleton]
  unfold k0_part16_skel
  rw [dif_pos h1, dif_pos h3, k0_part15_eq_skeleton]
  unfold k0_part15_skel
  simp only [bind_assoc, pure_bind]
  rfl

theorem body_later (A : Refs) (h1 : ¬ k0_cond1 i = 1#1) (h3 : ¬ k0_cond3 i = 1#1) :
    A.on (cc0_post (F := F) i)
      = tail A.a1 A.a2 A.a3 A.a4 A.a5 A.a6 A.a13 A.a14 A.a15 A.a16 A.a17 A.a18 A.a19 := by
  unfold Refs.on
  rw [cc0_post_eq_skeleton]
  unfold cc0_post_skel
  rw [k0_part16_eq_skeleton]
  unfold k0_part16_skel
  rw [dif_neg h1, dif_neg h3]
  rfl

/-- The six on-chip matrices at their values. -/
def weights (c : Dev nD) (x14 : Vec F S1024x1024 .bf16) (x15 x16 : Vec F S1024x2816 .bf16) (x17 : Vec F S2816x1024 .bf16) (x18 : Vec F S1024x1024 .bf16) (x19 : Vec F S256x1024 .bf16) : sProp 𝕄 :=
  iprop(owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19)
/-- The six windows' buffers the body reads. -/
def inputs (c : Dev nD) (x1 : Vec F S512x1024 .f32) (x2 : Vec F S1x512x512 .bf16) (x3 : Vec F S512x512 .bf16) (x4 x5 : Vec F S1x1024 .f32) (x6 : Vec F S1x512x256 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6)

/-- The loads and the store: every buffer read is kept, and the output's holds the value. -/
theorem wp_tile (c : Dev nD) (x1 : Vec F S512x1024 .f32) (x2 : Vec F S1x512x512 .bf16) (x3 : Vec F S512x512 .bf16) (x4 x5 : Vec F S1x1024 .f32) (x6 : Vec F S1x512x256 .f32) (x14 : Vec F S1024x1024 .bf16) (x15 x16 : Vec F S1024x2816 .bf16) (x17 : Vec F S2816x1024 .bf16) (x18 : Vec F S1024x1024 .bf16) (x19 : Vec F S256x1024 .bf16) :
    iprop(weights arg14 arg15 arg16 arg17 arg18 arg19 c x14 x15 x16 x17 x18 x19 ∗ inputs arg1 arg2 arg3 arg4 arg5 arg6 c x1 x2 x3 x4 x5 x6 ∗ (∃ d, owns (c : Thread nD τ) arg13 fullShare d))
      ⊢ wp frame (wpE (defs₀ (F := F)) Variants.none c none) Set.univ (tail arg1 arg2 arg3 arg4 arg5 arg6 arg13 arg14 arg15 arg16 arg17 arg18 arg19)
          (fun _ => iprop(weights arg14 arg15 arg16 arg17 arg18 arg19 c x14 x15 x16 x17 x18 x19 ∗ inputs arg1 arg2 arg3 arg4 arg5 arg6 c x1 x2 x3 x4 x5 x6 ∗ owns (c : Thread nD τ) arg13 fullShare (value x1 x14 x2 x3 x4 x15 x16 x17 x5 x18 x6 x19))) := by
  unfold weights inputs tail owns
  iintro ⟨⟨⟨%f14, %hf14, H14⟩, ⟨%f15, %hf15, H15⟩, ⟨%f16, %hf16, H16⟩, ⟨%f17, %hf17, H17⟩, ⟨%f18, %hf18, H18⟩, ⟨%f19, %hf19, H19⟩⟩, ⟨⟨%f1, %hf1, H1⟩, ⟨%f2, %hf2, H2⟩, ⟨%f3, %hf3, H3⟩, ⟨%f4, %hf4, H4⟩, ⟨%f5, %hf5, H5⟩, ⟨%f6, %hf6, H6⟩⟩, ⟨%d13, %f13, -, H13⟩⟩
  subst hf1 hf2 hf3 hf4 hf5 hf6 hf14 hf15 hf16 hf17 hf18 hf19
  sl_exec
  sl_step
  isplitl [H14 H15 H16 H17 H18 H19]
  · isplitl [H14]
    · iexists f14; isplitr; · ipureintro; rfl
      iexact H14
    isplitl [H15]
    · iexists f15; isplitr; · ipureintro; rfl
      iexact H15
    isplitl [H16]
    · iexists f16; isplitr; · ipureintro; rfl
      iexact H16
    isplitl [H17]
    · iexists f17; isplitr; · ipureintro; rfl
      iexact H17
    isplitl [H18]
    · iexists f18; isplitr; · ipureintro; rfl
      iexact H18
    iexists f19; isplitr; · ipureintro; rfl
    iexact H19
  isplitl [H1 H2 H3 H4 H5 H6]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    iexists f6; isplitr; · ipureintro; rfl
    iexact H6
  iexists _; isplitr
  swap; · iexact H13
  ipureintro
  refine (read_writes_all arg13.view f13 _ _ zero2 _).trans ?_
  rw [readAt_all arg1.view f1 _ _ zero2, readAt_all arg2.view f2 _ _ zero3, readAt_all arg3.view f3 _ _ zero2, readAt_all arg4.view f4 _ _ zero2, readAt_all arg5.view f5 _ _ zero2, readAt_all arg6.view f6 _ _ zero3, readAt_all arg15.view f15 _ _ zero2, readAt_all arg16.view f16 _ _ zero2, readAt_all arg17.view f17 _ _ zero2, readAt_all arg18.view f18 _ _ zero2, readAt_all arg19.view f19 _ _ zero2]
  rfl

end Cert.EvenPost
-- ==== Proof.EvenBody.lean ====
/-
  What the call's body does at a grid point, as a whole: at the first point it leaves the six weight matrices on chip,
  each the layer of its array cast to bf16, and at every point it leaves the value of its tile in the output's buffer.
-/
module

public import proofs.«01_k».proof.Proof.EvenTail
public import Idealize.ShloMosaic.Lib.Pipeline.Value
public import Idealize.ShloMosaic.Lib.ValueIdx
public import Idealize.ShloMosaic.Lib.WritesUnit
public import Idealize.ShloMosaic.Lib.Pipeline.ValueKit.Tiles
public import Idealize.ShloMosaic.Lib.Pipeline.FrameBody
public import Idealize.ShloMosaic.Lib.Ring
public import Idealize.ShloMosaic.Lib.Tactic

@[expose] public section

noncomputable section

namespace Cert.EvenPost

open Cert.Kernel3Ideal Cert.Kernel3Ideal.Gen Cert.Post
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers Idealize.ShloMosaic.ValueIdx

variable {F : FTy → Type} [FloatOps F]

local notation "𝕄" => MT nD τ sig Unit (Elt F) ℕ (Pipeline.UD sig nD τ) ℕ

variable (i : grid0.Coords)
variable (arg1 : Memref sig .tc .vmem S512x1024 .f32) (harg1 : arg1.IsWhole) (arg2 : Memref sig .tc .vmem S1x512x512 .bf16) (harg2 : arg2.IsWhole) (arg3 : Memref sig .tc .vmem S512x512 .bf16) (harg3 : arg3.IsWhole)
  (arg4 : Memref sig .tc .vmem S1x1024 .f32) (harg4 : arg4.IsWhole) (arg5 : Memref sig .tc .vmem S1x1024 .f32) (harg5 : arg5.IsWhole) (arg6 : Memref sig .tc .vmem S1x512x256 .f32) (harg6 : arg6.IsWhole)
  (arg7 : Memref sig .tc .hbm S1x1024x1024 .f32) (harg7 : arg7.IsWhole) (arg8 : Memref sig .tc .hbm S2x1024x2816 .f32) (harg8 : arg8.IsWhole) (arg9 : Memref sig .tc .hbm S2x1024x2816 .f32) (harg9 : arg9.IsWhole)
  (arg10 : Memref sig .tc .hbm S2x2816x1024 .f32) (harg10 : arg10.IsWhole) (arg11 : Memref sig .tc .hbm S2x1024x1024 .f32) (harg11 : arg11.IsWhole) (arg12 : Memref sig .tc .hbm S2x256x1024 .f32) (harg12 : arg12.IsWhole)
  (arg13 : Memref sig .tc .vmem S512x1024 .f32) (harg13 : arg13.IsWhole) (arg14 : Memref sig .tc .vmem S1024x1024 .bf16) (harg14 : arg14.IsWhole) (arg15 : Memref sig .tc .vmem S1024x2816 .bf16) (harg15 : arg15.IsWhole)
  (arg16 : Memref sig .tc .vmem S1024x2816 .bf16) (harg16 : arg16.IsWhole) (arg17 : Memref sig .tc .vmem S2816x1024 .bf16) (harg17 : arg17.IsWhole) (arg18 : Memref sig .tc .vmem S1024x1024 .bf16) (harg18 : arg18.IsWhole)
  (arg19 : Memref sig .tc .vmem S256x1024 .bf16) (harg19 : arg19.IsWhole) (arg20 : Memref sig .tc .vmem S8x64x2816 .f32) (harg20 : arg20.IsWhole) (arg21 : DmaSems sig S8)

/-- The six arrays whole. -/
def arrays (c : Dev nD) (X7 : Buf (Elt F) (arg7.view.loc (c : Thread nD τ))) (X8 : Buf (Elt F) (arg8.view.loc (c : Thread nD τ))) (X9 : Buf (Elt F) (arg9.view.loc (c : Thread nD τ))) (X10 : Buf (Elt F) (arg10.view.loc (c : Thread nD τ))) (X11 : Buf (Elt F) (arg11.view.loc (c : Thread nD τ))) (X12 : Buf (Elt F) (arg12.view.loc (c : Thread nD τ))) : sProp 𝕄 :=
  iprop(whole c arg7 X7 ∗ whole c arg8 X8 ∗ whole c arg9 X9 ∗ whole c arg10 X10 ∗ whole c arg11 X11 ∗ whole c arg12 X12)
/-- The six on-chip matrices at anything. -/
def blanks (c : Dev nD) : sProp 𝕄 :=
  iprop(blank (F := F) c arg14 ∗ blank (F := F) c arg15 ∗ blank (F := F) c arg16 ∗ blank (F := F) c arg17 ∗ blank (F := F) c arg18 ∗ blank (F := F) c arg19)

/-- The body at a point after the first. -/
theorem wp_later (A : Refs) (h1 : ¬ k0_cond1 i = 1#1) (h3 : ¬ k0_cond3 i = 1#1) (c : Dev nD) (x1 : Vec F S512x1024 .f32) (x2 : Vec F S1x512x512 .bf16) (x3 : Vec F S512x512 .bf16) (x4 x5 : Vec F S1x1024 .f32) (x6 : Vec F S1x512x256 .f32) (x14 : Vec F S1024x1024 .bf16) (x15 x16 : Vec F S1024x2816 .bf16) (x17 : Vec F S2816x1024 .bf16) (x18 : Vec F S1024x1024 .bf16) (x19 : Vec F S256x1024 .bf16) :
    iprop(weights A.a14 A.a15 A.a16 A.a17 A.a18 A.a19 c x14 x15 x16 x17 x18 x19 ∗ inputs A.a1 A.a2 A.a3 A.a4 A.a5 A.a6 c x1 x2 x3 x4 x5 x6 ∗ (∃ d, owns (c : Thread nD τ) A.a13 fullShare d))
      ⊢ wp frame (wpE (defs₀ (F := F)) Variants.none c none) Set.univ (A.on (cc0_post (F := F) i))
          (fun _ => iprop(weights A.a14 A.a15 A.a16 A.a17 A.a18 A.a19 c x14 x15 x16 x17 x18 x19 ∗ inputs A.a1 A.a2 A.a3 A.a4 A.a5 A.a6 c x1 x2 x3 x4 x5 x6 ∗ owns (c : Thread nD τ) A.a13 fullShare (value x1 x14 x2 x3 x4 x15 x16 x17 x5 x18 x6 x19))) := by
  rw [body_later i A h1 h3]
  exact wp_tile A.a1 A.a2 A.a3 A.a4 A.a5 A.a6 A.a13 A.a14 A.a15 A.a16 A.a17 A.a18 A.a19 c x1 x2 x3 x4 x5 x6 x14 x15 x16 x17 x18 x19

/-- The body at the first point. -/
theorem wp_first (A : Refs) (h1 : k0_cond1 i = 1#1) (h3 : k0_cond3 i = 1#1) (c : Dev nD) (x1 : Vec F S512x1024 .f32) (x2 : Vec F S1x512x512 .bf16) (x3 : Vec F S512x512 .bf16) (x4 x5 : Vec F S1x1024 .f32) (x6 : Vec F S1x512x256 .f32) (X7 : Buf (Elt F) (A.a7.view.loc (c : Thread nD τ))) (X8 : Buf (Elt F) (A.a8.view.loc (c : Thread nD τ))) (X9 : Buf (Elt F) (A.a9.view.loc (c : Thread nD τ))) (X10 : Buf (Elt F) (A.a10.view.loc (c : Thread nD τ))) (X11 : Buf (Elt F) (A.a11.view.loc (c : Thread nD τ))) (X12 : Buf (Elt F) (A.a12.view.loc (c : Thread nD τ))) :
    iprop(pool (F := F) c A.a20 A.a21 ∗ arrays A.a7 A.a8 A.a9 A.a10 A.a11 A.a12 c X7 X8 X9 X10 X11 X12 ∗ blanks (F := F) A.a14 A.a15 A.a16 A.a17 A.a18 A.a19 c ∗ waits (F := F) c ∗ inputs A.a1 A.a2 A.a3 A.a4 A.a5 A.a6 c x1 x2 x3 x4 x5 x6 ∗ (∃ d, owns (c : Thread nD τ) A.a13 fullShare d))
      ⊢ wp frame (wpE (defs₀ (F := F)) Variants.none c none) Set.univ (A.on (cc0_post (F := F) i))
          (fun _ => iprop(pool (F := F) c A.a20 A.a21 ∗ arrays A.a7 A.a8 A.a9 A.a10 A.a11 A.a12 c X7 X8 X9 X10 X11 X12 ∗ waits (F := F) c
            ∗ weights A.a14 A.a15 A.a16 A.a17 A.a18 A.a19 c (laid (A.a7.view.read (Elt F) X7) 0 (by decide)) (laid (A.a8.view.read (Elt F) X8) 0 (by decide)) (laid (A.a9.view.read (Elt F) X9) 0 (by decide)) (laid (A.a10.view.read (Elt F) X10) 0 (by decide)) (laid (A.a11.view.read (Elt F) X11) 0 (by decide)) (laid (A.a12.view.read (Elt F) X12) 0 (by decide))
            ∗ inputs A.a1 A.a2 A.a3 A.a4 A.a5 A.a6 c x1 x2 x3 x4 x5 x6
            ∗ owns (c : Thread nD τ) A.a13 fullShare (value x1 (laid (A.a7.view.read (Elt F) X7) 0 (by decide)) x2 x3 x4 (laid (A.a8.view.read (Elt F) X8) 0 (by decide)) (laid (A.a9.view.read (Elt F) X9) 0 (by decide)) (laid (A.a10.view.read (Elt F) X10) 0 (by decide)) x5 (laid (A.a11.view.read (Elt F) X11) 0 (by decide)) x6 (laid (A.a12.view.read (Elt F) X12) 0 (by decide))))) := by
  rw [body_first i A h1 h3]
  unfold arrays blanks
  iintro ⟨Hp, ⟨A7, A8, A9, A10, A11, A12⟩, ⟨B14, B15, B16, B17, B18, B19⟩, HW, HI, HO⟩
  rw [wp_bind]
  iapply (wp_wand_r frame (wpE (defs₀ (F := F)) Variants.none c none) Set.univ)
  isplitl [Hp A7 B14 HW]
  · iapply (wp_fill1 i A c h1 X7)
    isplitl [Hp A7]
    · isplitl [Hp]; · iexact Hp
      iexact A7
    isplitl [B14]; · iexact B14
    iexact HW
  iintro %_ ⟨Hp, A7, R14, HW⟩
  rw [wp_bind]
  iapply (wp_wand_r frame (wpE (defs₀ (F := F)) Variants.none c none) Set.univ)
  isplitl [Hp A8 A9 A10 A11 A12 B15 B16 B17 B18 B19 HW]
  · iapply (wp_fill2 i A c h3 X8 X9 X10 X11 X12)
    isplitl [Hp]; · iexact Hp
    isplitl [A8 A9 A10 A11 A12]
    · isplitl [A8]; · iexact A8
      isplitl [A9]; · iexact A9
      isplitl [A10]; · iexact A10
      isplitl [A11]; · iexact A11
      iexact A12
    isplitl [B15 B16 B17 B18 B19]
    · isplitl [B15]; · iexact B15
      isplitl [B16]; · iexact B16
      isplitl [B17]; · iexact B17
      isplitl [B18]; · iexact B18
      iexact B19
    iexact HW
  iintro %_ ⟨Hp, ⟨A8, A9, A10, A11, A12⟩, ⟨R15, R16, R17, R18, R19⟩, HW⟩
  ihave W14 := (owns_of_ready c A.a7 A.a14 A.h14 X7 0 (by decide)) $$ R14
  ihave W15 := (owns_of_ready c A.a8 A.a15 A.h15 X8 0 (by decide)) $$ R15
  ihave W16 := (owns_of_ready c A.a9 A.a16 A.h16 X9 0 (by decide)) $$ R16
  ihave W17 := (owns_of_ready c A.a10 A.a17 A.h17 X10 0 (by decide)) $$ R17
  ihave W18 := (owns_of_ready c A.a11 A.a18 A.h18 X11 0 (by decide)) $$ R18
  ihave W19 := (owns_of_ready c A.a12 A.a19 A.h19 X12 0 (by decide)) $$ R19
  iapply (wp_wand_r frame (wpE (defs₀ (F := F)) Variants.none c none) Set.univ)
  isplitl [W14 W15 W16 W17 W18 W19 HI HO]
  · iapply (wp_tile A.a1 A.a2 A.a3 A.a4 A.a5 A.a6 A.a13 A.a14 A.a15 A.a16 A.a17 A.a18 A.a19 c x1 x2 x3 x4 x5 x6 (laid (A.a7.view.read (Elt F) X7) 0 (by decide)) (laid (A.a8.view.read (Elt F) X8) 0 (by decide)) (laid (A.a9.view.read (Elt F) X9) 0 (by decide)) (laid (A.a10.view.read (Elt F) X10) 0 (by decide)) (laid (A.a11.view.read (Elt F) X11) 0 (by decide)) (laid (A.a12.view.read (Elt F) X12) 0 (by decide)))
    unfold weights
    isplitl [W14 W15 W16 W17 W18 W19]
    · isplitl [W14]; · iexact W14
      isplitl [W15]; · iexact W15
      isplitl [W16]; · iexact W16
      isplitl [W17]; · iexact W17
      isplitl [W18]; · iexact W18
      iexact W19
    isplitl [HI]; · iexact HI
    iexact HO
  iintro %_ ⟨HS, HI, HO⟩
  isplitl [Hp]; · iexact Hp
  isplitl [A7 A8 A9 A10 A11 A12]
  · isplitl [A7]; · iexact A7
    isplitl [A8]; · iexact A8
    isplitl [A9]; · iexact A9
    isplitl [A10]; · iexact A10
    isplitl [A11]; · iexact A11
    iexact A12
  isplitl [HW]; · iexact HW
  isplitl [HS]; · iexact HS
  isplitl [HI]; · iexact HI
  iexact HO

end Cert.EvenPost
-- ==== Proof.EvenRun.lean ====
/-
  The call launched: what the program leaves at every point of the grid, at any values, and so what its arrays hold when
  it ends. The weight matrices are brought on chip at the first point and are kept from then on.
-/
module

public import proofs.«01_k».proof.Proof.EvenBody
public import proofs.«01_k».proof.Proof.Gen.Kernel3Ideal.Launch
public import proofs.«01_k».proof.Proof.Gen.Kernel3Ideal.Points
public import Idealize.ShloMosaic.Lib.Pipeline.FrameBody
public import Idealize.ShloMosaic.Lib.Claim
public import Idealize.ShloMosaic.Lib.Ring
public import Idealize.ShloMosaic.Lib.Tactic

@[expose] public section

noncomputable section

namespace Cert.EvenPost

open Cert.Kernel3Ideal Cert.Kernel3Ideal.Gen Cert.Post
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's arrays when the call begins: after the host's reshapes and slices. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 800000 in
theorem host_main (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub host_fresh main_chain

/-- An array the host writes nothing to is found as launched. -/
theorem V_kept (c : Dev nD) (b : Ref sig .tc) (h : b ∉ ([main_v0, main_v1, main_v2, main_v3, main_v4, main_v5, main_v6, main_v7, main_v8] : List (Ref sig .tc))) :
    V m c b = m ((c : Thread nD τ).loc b) :=
  StableHlo.after_of_forall_not_mem (b := Proc.devRef .tc b) _ _ (List.forall_iff_forall_mem.mp (by
    simp only [List.mem_cons, List.not_mem_nil, or_false, not_or] at h
    simp only [hostOps0, List.Forall, StableHlo.unary_writes, StableHlo.reshape_writes, Finset.mem_singleton]
    obtain ⟨h0, h1, h2, h3, h4, h5, h6, h7, h8⟩ := h
    refine ⟨?_, ?_, ?_, ?_, ?_, ?_, ?_, ?_, ?_⟩ <;> exact StableHlo.devRef_ne_of_ne (by assumption)))

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the call keeps from point to point -/

/-- The cells of the ring. -/
abbrev osem : Fin 8 → SemLoc sig := fun s => SemLoc.dma (cellAt cc0_scratch7 s)
theorem osem_own : Pipeline.OwnSemFacts spec0 osem := by decide
/-- The arrays the call itself reads. -/
def H : Finset (Ref sig .tc) := {main_arg11, main_arg4, main_arg5, main_arg6, main_arg9, main_arg10}
theorem H_rest : H ⊆ Pipeline.restRefs sig spec0 := by decide

/-- The weight matrix on chip in scratch buffer 0. -/
def w0 (c : Dev nD) : Vec F S1024x1024 .bf16 := laid (L := 1) (R := 1024) (C := 1024) (V m c main_arg11) 0 (by decide)
/-- The weight matrix on chip in scratch buffer 1. -/
def w1 (c : Dev nD) : Vec F S1024x2816 .bf16 := laid (L := 2) (R := 1024) (C := 2816) (V m c main_arg4) 0 (by decide)
/-- The weight matrix on chip in scratch buffer 2. -/
def w2 (c : Dev nD) : Vec F S1024x2816 .bf16 := laid (L := 2) (R := 1024) (C := 2816) (V m c main_arg5) 0 (by decide)
/-- The weight matrix on chip in scratch buffer 3. -/
def w3 (c : Dev nD) : Vec F S2816x1024 .bf16 := laid (L := 2) (R := 2816) (C := 1024) (V m c main_arg6) 0 (by decide)
/-- The weight matrix on chip in scratch buffer 4. -/
def w4 (c : Dev nD) : Vec F S1024x1024 .bf16 := laid (L := 2) (R := 1024) (C := 1024) (V m c main_arg9) 0 (by decide)
/-- The weight matrix on chip in scratch buffer 5. -/
def w5 (c : Dev nD) : Vec F S256x1024 .bf16 := laid (L := 2) (R := 256) (C := 1024) (V m c main_arg10) 0 (by decide)

/-- The tile the body leaves at a point. -/
def tileAt (c : Dev nD) (t : Fin cfg0.N) : Vec F S512x1024 .f32 :=
  value (iblk m c 0 t) (w0 m c) (iblk m c 1 t) (iblk m c 2 t) (iblk m c 3 t) (w1 m c) (w2 m c) (w3 m c) (iblk m c 4 t) (w4 m c) (iblk m c 5 t) (w5 m c)

/-- The on-chip matrices: anything before the first point, their values from then on. -/
def chip (c : Dev nD) (n : ℕ) : sProp 𝕄 :=
  if n = 0 then blanks (F := F) (Memref.whole cc0_scratch0) (Memref.whole cc0_scratch1) (Memref.whole cc0_scratch2) (Memref.whole cc0_scratch3) (Memref.whole cc0_scratch4) (Memref.whole cc0_scratch5) c else weights (Memref.whole cc0_scratch0) (Memref.whole cc0_scratch1) (Memref.whole cc0_scratch2) (Memref.whole cc0_scratch3) (Memref.whole cc0_scratch4) (Memref.whole cc0_scratch5) c (w0 m c) (w1 m c) (w2 m c) (w3 m c) (w4 m c) (w5 m c)

/-- What the call keeps: the ring at rest, the arrays it reads, the on-chip matrices. -/
def kept (c : Dev nD) (n : ℕ) : sProp 𝕄 :=
  iprop((∃ r, prngReg c r) ∗ pool (F := F) c (Memref.whole cc0_scratch6) cc0_scratch7 ∗ arrays (Memref.whole main_arg11) (Memref.whole main_arg4) (Memref.whole main_arg5) (Memref.whole main_arg6) (Memref.whole main_arg9) (Memref.whole main_arg10) c (V m c main_arg11) (V m c main_arg4) (V m c main_arg5) (V m c main_arg6) (V m c main_arg9) (V m c main_arg10) ∗ chip m c n)

theorem scratch_set {s : Shape} {e : EltTy} (M : Memref sig .tc .vmem s e) (h : M.IsWhole) : M.view.set = Finset.univ := h.set_eq_univ

theorem arrays_eq (c : Dev nD) : (bigSep H (fun b => ((c : Thread nD τ).loc b) ↦{fullShare} V m c b) : sProp 𝕄)
    = arrays (Memref.whole main_arg11) (Memref.whole main_arg4) (Memref.whole main_arg5) (Memref.whole main_arg6) (Memref.whole main_arg9) (Memref.whole main_arg10) c (V m c main_arg11) (V m c main_arg4) (V m c main_arg5) (V m c main_arg6) (V m c main_arg9) (V m c main_arg10) := by
  unfold arrays whole
  rw [bigSep_eq_bigSepL_of_eq [main_arg11, main_arg4, main_arg5, main_arg6, main_arg9, main_arg10] (by decide) (by decide)]
  rfl

theorem kept_open (c : Dev nD) : Pipeline.ΦD osem spec0 H (V m) c ⊢ (kept m c 0 : sProp 𝕄) := by
  rw [Pipeline.ΦD_eq, scopedRest0_eq, arrays_eq]
  unfold Pipeline.ownSems0
  unfold kept chip blanks blank
  rw [if_pos rfl]
  iintro ⟨⟨S0, S1, S2, S3, S4, S5, S6⟩, Hg, Hs, HA⟩
  isplitl [Hg]; · iexact Hg
  isplitl [S6 Hs]
  · iapply (pool_open (F := F) c (Memref.whole cc0_scratch6) cc0_scratch7 ((Memref.isWhole_whole _).set_eq_univ))
    isplitl [S6]; · iexact S6
    iexact Hs
  isplitl [HA]; · iexact HA
  isplitl [S0]; · iexact S0
  isplitl [S1]; · iexact S1
  isplitl [S2]; · iexact S2
  isplitl [S3]; · iexact S3
  isplitl [S4]; · iexact S4
  iexact S5

/-- A matrix of any value is an on-chip matrix at anything. -/
theorem blank_of_owns (c : Dev nD) {R C : ℕ} (vm : Memref sig .tc .vmem (VS R C) .bf16) (hvm : vm.IsWhole) (x : Vec F (VS R C) .bf16) :
    (owns (c : Thread nD τ) vm fullShare x : sProp 𝕄) ⊢ blank (F := F) c vm := by
  unfold owns blank
  rw [hvm.set_eq_univ]
  iintro ⟨%g, -, H⟩
  iexists g
  iexact H

theorem kept_close (c : Dev nD) (n : ℕ) (hn : n ≠ 0) : (kept m c n : sProp 𝕄) ⊢ Pipeline.ΦD osem spec0 H (V m) c := by
  rw [Pipeline.ΦD_eq, scopedRest0_eq, arrays_eq]
  unfold Pipeline.ownSems0
  unfold kept chip weights
  rw [if_neg hn]
  iintro ⟨Hg, Hp, HA, W0, W1, W2, W3, W4, W5⟩
  ihave B0 := (blank_of_owns c (Memref.whole cc0_scratch0) (Memref.isWhole_whole _) (w0 m c)) $$ W0
  ihave B1 := (blank_of_owns c (Memref.whole cc0_scratch1) (Memref.isWhole_whole _) (w1 m c)) $$ W1
  ihave B2 := (blank_of_owns c (Memref.whole cc0_scratch2) (Memref.isWhole_whole _) (w2 m c)) $$ W2
  ihave B3 := (blank_of_owns c (Memref.whole cc0_scratch3) (Memref.isWhole_whole _) (w3 m c)) $$ W3
  ihave B4 := (blank_of_owns c (Memref.whole cc0_scratch4) (Memref.isWhole_whole _) (w4 m c)) $$ W4
  ihave B5 := (blank_of_owns c (Memref.whole cc0_scratch5) (Memref.isWhole_whole _) (w5 m c)) $$ W5
  ihave HP := (pool_close (F := F) c (Memref.whole cc0_scratch6) cc0_scratch7 ((Memref.isWhole_whole _).set_eq_univ)) $$ Hp
  icases HP with ⟨S6, Hs⟩
  unfold blank
  isplitl [B0 B1 B2 B3 B4 B5 S6]
  · isplitl [B0]; · iexact B0
    isplitl [B1]; · iexact B1
    isplitl [B2]; · iexact B2
    isplitl [B3]; · iexact B3
    isplitl [B4]; · iexact B4
    isplitl [B5]; · iexact B5
    iexact S6
  isplitl [Hg]; · iexact Hg
  isplitl [Hs]; · iexact Hs
  iexact HA

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => tileAt m c t
  Φ t := kept m c t
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = tileAt m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin cfg0.N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-! ## The body at a point -/

theorem first_cond (t : Fin cfg0.N) : (k0_cond1 (grid0.coords t) = 1#1 ↔ (t : ℕ) = 0) ∧ (k0_cond3 (grid0.coords t) = 1#1 ↔ (t : ℕ) = 0) := by
  have h : ∀ t : Fin grid0.N, (k0_cond1 (grid0.coords t) = 1#1 ↔ (t : ℕ) = 0) ∧ (k0_cond3 (grid0.coords t) = 1#1 ↔ (t : ℕ) = 0) := by decide +kernel
  exact h t

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The buffers the call is given at a point. -/
abbrev refs (t : Fin cfg0.N) : Refs :=
  ⟨win0_0.stage (cfg0.slots t 0), hstage0_0 ((cfg0.slots t 0).cast nbuf0_0), win0_1.stage (cfg0.slots t 1),
    hstage0_1 ((cfg0.slots t 1).cast nbuf0_1), win0_2.stage (cfg0.slots t 2), hstage0_2 ((cfg0.slots t 2).cast nbuf0_2),
    win0_3.stage (cfg0.slots t 3), hstage0_3 ((cfg0.slots t 3).cast nbuf0_3), win0_4.stage (cfg0.slots t 4),
    hstage0_4 ((cfg0.slots t 4).cast nbuf0_4), win0_5.stage (cfg0.slots t 5), hstage0_5 ((cfg0.slots t 5).cast nbuf0_5),
    Memref.whole main_arg11, Memref.isWhole_whole _, Memref.whole main_arg4, Memref.isWhole_whole _, Memref.whole main_arg5,
    Memref.isWhole_whole _, Memref.whole main_arg6, Memref.isWhole_whole _, Memref.whole main_arg9, Memref.isWhole_whole _,
    Memref.whole main_arg10, Memref.isWhole_whole _, win0_6.stage (cfg0.slots t 6), hstage0_6 ((cfg0.slots t 6).cast nbuf0_6),
    Memref.whole cc0_scratch0, Memref.isWhole_whole _, Memref.whole cc0_scratch1, Memref.isWhole_whole _, Memref.whole cc0_scratch2,
    Memref.isWhole_whole _, Memref.whole cc0_scratch3, Memref.isWhole_whole _, Memref.whole cc0_scratch4, Memref.isWhole_whole _,
    Memref.whole cc0_scratch5, Memref.isWhole_whole _, Memref.whole cc0_scratch6, Memref.isWhole_whole _, cc0_scratch7⟩

/-- The waits of the core, as the pipeline states them: any will do. -/
theorem owes_open (c : Dev nD) (t : Fin (cfg0.N + 1)) : (dats m 0 c).owesAt () t ⊢ (waits (F := F) c : sProp 𝕄) := by
  unfold Dat.owesAt Pipeline.owesWithin waits
  rw [show (dats m 0 c).owed t = 0 from rfl]
  iintro ⟨%W, -, H⟩
  iexists W
  iexact H

theorem owes_close (c : Dev nD) (t : Fin (cfg0.N + 1)) : (waits (F := F) c : sProp 𝕄) ⊢ (dats m 0 c).owesAt () t := by
  unfold Dat.owesAt Pipeline.owesWithin waits
  rw [show (dats m 0 c).owed t = 0 from rfl]
  iintro ⟨%W, H⟩
  iexists W
  isplitr; · ipureintro; exact fun _ _ => Or.inl trivial
  iexact H

/-- The body, the first point or not: from the windows' blocks to the tile. -/
theorem sound (c : Dev nD) (t : Fin cfg0.N) :
    iprop(kept m c t ∗ waits (F := F) c ∗ inputs (st0_0 t) (st0_1 t) (st0_2 t) (st0_3 t) (st0_4 t) (st0_5 t) c (iblk m c 0 t) (iblk m c 1 t) (iblk m c 2 t) (iblk m c 3 t) (iblk m c 4 t) (iblk m c 5 t) ∗ (∃ d, owns (c : Thread nD τ) (st0_6 t) fullShare d))
      ⊢ wp frame (wpE (defs₀ (F := F)) Variants.none c none) Set.univ (bodyAt0 t)
          (fun _ => iprop(kept m c (t + 1) ∗ waits (F := F) c ∗ inputs (st0_0 t) (st0_1 t) (st0_2 t) (st0_3 t) (st0_4 t) (st0_5 t) c (iblk m c 0 t) (iblk m c 1 t) (iblk m c 2 t) (iblk m c 3 t) (iblk m c 4 t) (iblk m c 5 t) ∗ owns (c : Thread nD τ) (st0_6 t) fullShare (tileAt m c t))) := by
  unfold bodyAt0 kept chip
  rw [if_neg (Nat.succ_ne_zero _)]
  by_cases h0 : (t : ℕ) = 0
  · rw [if_pos h0]
    iintro ⟨⟨Hg, Hp, HA, HB⟩, HW, HI, HO⟩
    iapply (wp_wand_r frame (wpE (defs₀ (F := F)) Variants.none c none) Set.univ)
    isplitl [Hp HA HB HW HI HO]
    · iapply (wp_first (grid0.coords t) (refs t) ((first_cond t).1.mpr h0) ((first_cond t).2.mpr h0) c (iblk m c 0 t) (iblk m c 1 t) (iblk m c 2 t) (iblk m c 3 t) (iblk m c 4 t) (iblk m c 5 t) (V m c main_arg11) (V m c main_arg4) (V m c main_arg5) (V m c main_arg6) (V m c main_arg9) (V m c main_arg10))
      isplitl [Hp]; · iexact Hp
      isplitl [HA]; · iexact HA
      isplitl [HB]; · iexact HB
      isplitl [HW]; · iexact HW
      isplitl [HI]; · iexact HI
      iexact HO
    iintro %_ ⟨Hp, HA, HW, HS, HI, HO⟩
    isplitl [Hg Hp HA HS]
    · isplitl [Hg]; · iexact Hg
      isplitl [Hp]; · iexact Hp
      isplitl [HA]; · iexact HA
      iexact HS
    isplitl [HW]; · iexact HW
    isplitl [HI]; · iexact HI
    iexact HO
  · rw [if_neg h0]
    iintro ⟨⟨Hg, Hp, HA, HS⟩, HW, HI, HO⟩
    iapply (wp_wand_r frame (wpE (defs₀ (F := F)) Variants.none c none) Set.univ)
    isplitl [HS HI HO]
    · iapply (wp_later (grid0.coords t) (refs t) (fun h => h0 ((first_cond t).1.mp h)) (fun h => h0 ((first_cond t).2.mp h)) c (iblk m c 0 t) (iblk m c 1 t) (iblk m c 2 t) (iblk m c 3 t) (iblk m c 4 t) (iblk m c 5 t) (w0 m c) (w1 m c) (w2 m c) (w3 m c) (w4 m c) (w5 m c))
      isplitl [HS]; · iexact HS
      isplitl [HI]; · iexact HI
      iexact HO
    iintro %_ ⟨HS, HI, HO⟩
    isplitl [Hg Hp HA HS]
    · isplitl [Hg]; · iexact Hg
      isplitl [Hp]; · iexact Hp
      isplitl [HA]; · iexact HA
      iexact HS
    isplitl [HW]; · iexact HW
    isplitl [HI]; · iexact HI
    iexact HO

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4, before_5]
  rw [show (dats m 0 c).Φ t.castSucc = kept m c t from rfl, show (dats m 0 c).Φ t.succ = kept m c (t + 1) from rfl,
    after_0, after_1, after_2, after_3, after_4, after_5, after_6]
  iintro ⟨HK, HW, ⟨%d0, H0⟩, ⟨%d1, H1⟩, ⟨%d2, H2⟩, ⟨%d3, H3⟩, ⟨%d4, H4⟩, ⟨%d5, H5⟩, ⟨%d6, H6⟩⟩
  ihave HW := (owes_open m c t.castSucc) $$ HW
  iapply (wp_wand_r frame (wpE (defs₀ (F := F)) Variants.none c none) Set.univ)
  isplitl [HK HW H0 H1 H2 H3 H4 H5 H6]
  · iapply (sound m c t)
    unfold inputs
    isplitl [HK]; · iexact HK
    isplitl [HW]; · iexact HW
    isplitl [H0 H1 H2 H3 H4 H5]
    · isplitl [H0]; · iexact H0
      isplitl [H1]; · iexact H1
      isplitl [H2]; · iexact H2
      isplitl [H3]; · iexact H3
      isplitl [H4]; · iexact H4
      iexact H5
    iexists _; iexact H6
  unfold inputs
  iintro %_ ⟨HK, HW, ⟨H0, H1, H2, H3, H4, H5⟩, H6⟩
  ihave HW := (owes_close m c t.succ) $$ HW
  isplitl [HK]; · iexact HK
  isplitl [HW]; · iexact HW
  isplitl [H0]; · iexact H0
  isplitl [H1]; · iexact H1
  isplitl [H2]; · iexact H2
  isplitl [H3]; · iexact H3
  isplitl [H4]; · iexact H4
  isplitl [H5]; · iexact H5
  iexact H6

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
set_option maxHeartbeats 800000 in
/-- The program run from any memory: its arrays at what the proof data say, every other at what the host left there,
    every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_own H H_rest m ρ main
    (hbody := fun c => (body_obligation m c).loose) (hshare := fun c => (dats m 0 c).share_full fun _ => rfl)
    (howed := fun _ _ => rfl) (V := V m) (hmain := host_main m Variants.none) (hA := A_eq m)
    (hin := fun c => kept_open m c) (hout := fun c => kept_close m c _ (by decide))

/-- The arguments are as launched when the program ends. -/
theorem args_kept (r : PUnit × MemSt nD τ sig (Elt F)) (h : Pipeline.FramePost cfgs (dats m) 0 (V m) r) (c : Dev nD) (b : Ref sig .tc)
    (hb : b ∈ Pipeline.restRefs sig spec0) (hv : b ∉ ([main_v0, main_v1, main_v2, main_v3, main_v4, main_v5, main_v6, main_v7, main_v8] : List (Ref sig .tc))) :
    r.2.mem ((c.tc : Thread nD τ).loc b) = m ((c.tc : Thread nD τ).loc b) :=
  ((h c).2 b hb).trans (V_kept m c b hv)

end Cert.EvenPost
-- ==== Proof.EvenPlain.lean ====
/-
  The even layer after its mixers, plainly, as operations on whole arrays, and its run: the program's operations in
  five groups, each group's last array a function of the arrays the group reads.
-/
module

public import proofs.«01_k».proof.Proof.Gen.Reference3Ideal
public import proofs.«01_k».proof.Proof.Plain

@[expose] public section

noncomputable section

namespace Cert.EvenPost.Plain

open Cert.Reference3Ideal Cert.Reference3Ideal.Gen Idealize.ShloMosaic Idealize.ShloMosaic.TcCoe Idealize.SL.Sem Idealize.ShloMosaic.StableHlo

variable {F : FTy → Type} [FloatOps F]

/-! ## The layer on whole arrays -/

/-- A vector's first layer. -/
def layerVec (x : Vec F S2x1024 .f32) : Vec F S1024 .f32 :=
  shapeCast S1024 (extractStridedSlice S1x1024 ![0, 0] x slices_S2x1024_S1x1024_0_0) shapeCasts_S1x1024_S1024
/-- The first layer of a matrix into the feed-forward's width. -/
def layerUp (x : Vec F S2x1024x2816 .f32) : Vec F S1024x2816 .f32 :=
  shapeCast S1024x2816 (extractStridedSlice S1x1024x2816 ![0, 0, 0] x slices_S2x1024x2816_S1x1024x2816_0_0_0) shapeCasts_S1x1024x2816_S1024x2816
/-- The first layer of a matrix out of it. -/
def layerDown (x : Vec F S2x2816x1024 .f32) : Vec F S2816x1024 .f32 :=
  shapeCast S2816x1024 (extractStridedSlice S1x2816x1024 ![0, 0, 0] x slices_S2x2816x1024_S1x2816x1024_0_0_0) shapeCasts_S1x2816x1024_S2816x1024
/-- The first layer of a square matrix. -/
def layerSquare (x : Vec F S2x1024x1024 .f32) : Vec F S1024x1024 .f32 :=
  shapeCast S1024x1024 (extractStridedSlice S1x1024x1024 ![0, 0, 0] x slices_S2x1024x1024_S1x1024x1024_0_0_0) shapeCasts_S1x1024x1024_S1024x1024
/-- The first layer of the embedding's matrix. -/
def layerEmbed (x : Vec F S2x256x1024 .f32) : Vec F S256x1024 .f32 :=
  shapeCast S256x1024 (extractStridedSlice S1x256x1024 ![0, 0, 0] x slices_S2x256x1024_S1x256x1024_0_0_0) shapeCasts_S1x256x1024_S256x1024
/-- The first layer's embeddings. -/
def layerTokens (x : Vec F S2x8x2048x256 .f32) : Vec F S8x2048x256 .f32 :=
  shapeCast S8x2048x256 (extractStridedSlice S1x8x2048x256 ![0, 0, 0, 0] x slices_S2x8x2048x256_S1x8x2048x256_0_0_0_0) shapeCasts_S1x8x2048x256_S8x2048x256

/-- The two mixers' outputs side by side, the first with its tokens last as given. -/
def merged (a : FVec F S8x512x2048 .bf16) (b : FVec F S8x2048x512 .bf16) : FVec F S8x2048x1024 .bf16 :=
  concatenate S8x2048x1024 2 [⟨S8x2048x512, transpose S8x2048x512 [0, 2, 1] a transposes_S8x512x2048_S8x2048x512_0_2_1⟩, ⟨S8x2048x512, b⟩]
    concatenates_S8x2048x512_S8x2048x512_S8x2048x1024_d2

/-- The residual stream joined with the mixers. -/
def joined (h : FVec F S8x2048x1024 .f32) (a : FVec F S8x512x2048 .bf16) (b : FVec F S8x2048x512 .bf16) (w : FVec F S1x1024x1024 .f32) :
    FVec F S8x2048x1024 .f32 := Post.Plain.joined h (merged a b) w

/-! ## The program's operations -/

/-- The type of the feed-forward's wide arrays. -/
abbrev U : BufTy := ⟨S8x2048x2816, .f32⟩

/-- The operations of the join with the mixer. -/
abbrev opsJoin : List (HloOp τ sig (Elt F)) :=
  [ unary main_arg1 main_v0 (transpose S8x2048x512 [0, 2, 1] · transposes_S8x512x2048_S8x2048x512_0_2_1),
    binary main_v0 main_arg2 main_v1 (fun a b => concatenate S8x2048x1024 2 [⟨S8x2048x512, a⟩, ⟨S8x2048x512, b⟩] concatenates_S8x2048x512_S8x2048x512_S8x2048x1024_d2),
    unary main_v1 main_v2 (extf .f32 · bitsLt_bf16_f32),
    reshape main_arg11 main_v3 rfl shapeCasts_S1x1024x1024_S1024x1024,
    binary main_v2 main_v3 main_v4 (Host.dotGeneral dot_S8x2048x1024_S1024x1024_S8x2048x1024_2_0_01_1_n_n none),
    binary main_arg0 main_v4 main_v5 addf ]

/-- The operations of the normalisation before the feed-forward. -/
abbrev opsNormA : List (HloOp τ sig (Elt F)) :=
  [ unary main_arg3 main_v6 (extractStridedSlice S1x1024 ![0, 0] · slices_S2x1024_S1x1024_0_0),
    reshape main_v6 main_v7 rfl shapeCasts_S1x1024_S1024,
    binary main_v5 main_v5 main_v8 mulf,
    nullary main_cst (constant S_ .f32 0x00000000#32),
    binary main_v8 main_cst main_v9 (fun x v => Host.reduceAdd x v reducesTo_S8x2048x1024_S8x2048_d2 h_S_),
    unary main_v9 main_v10 (broadcastInDim S8x2048x1 ![0, 1] bcast_S8x2048_S8x2048x1_0_1),
    nullary main_cst_0 (constant S_ .f32 0x44800000#32),
    unary main_cst_0 main_v11 (broadcastInDim S8x2048x1 ![] bcast_S_S8x2048x1),
    binary main_v10 main_v11 main_v12 Host.divf,
    nullary main_cst_1 (constant S_ .f32 0x358637BD#32),
    unary main_cst_1 main_v13 (broadcastInDim S8x2048x1 ![] bcast_S_S8x2048x1),
    binary main_v12 main_v13 main_v14 addf,
    unary main_v14 main_v15 Host.rsqrt,
    unary main_v15 main_v16 (broadcastInDim S8x2048x1024 ![0, 1, 2] bcast_S8x2048x1_S8x2048x1024_0_1_2),
    binary main_v5 main_v16 main_v17 mulf,
    unary main_v7 main_v18 (broadcastInDim S1x1x1024 ![2] bcast_S1024_S1x1x1024_2),
    unary main_v18 main_v19 (broadcastInDim S8x2048x1024 ![0, 1, 2] bcast_S1x1x1024_S8x2048x1024_0_1_2),
    binary main_v17 main_v19 main_v20 mulf ]

/-- The operations of the feed-forward. -/
abbrev opsFeed : List (HloOp τ sig (Elt F)) :=
  [ unary main_arg4 main_v21 (extractStridedSlice S1x1024x2816 ![0, 0, 0] · slices_S2x1024x2816_S1x1024x2816_0_0_0),
    reshape main_v21 main_v22 rfl shapeCasts_S1x1024x2816_S1024x2816,
    unary main_arg5 main_v23 (extractStridedSlice S1x1024x2816 ![0, 0, 0] · slices_S2x1024x2816_S1x1024x2816_0_0_0),
    reshape main_v23 main_v24 rfl shapeCasts_S1x1024x2816_S1024x2816,
    unary main_arg6 main_v25 (extractStridedSlice S1x2816x1024 ![0, 0, 0] · slices_S2x2816x1024_S1x2816x1024_0_0_0),
    reshape main_v25 main_v26 rfl shapeCasts_S1x2816x1024_S2816x1024,
    binary main_v20 main_v22 main_v27 (Host.dotGeneral dot_S8x2048x1024_S1024x2816_S8x2048x2816_2_0_01_1_n_n none),
    TRef.unary (TRef.of (T := U) main_v27) (TRef.of (T := U) main_call0_v0) Host.negf,
    TRef.unary (TRef.of (T := U) main_call0_v0) (TRef.of (T := U) main_call0_v1) Host.exp,
    TRef.nullary (TRef.of (T := ⟨S_, .f32⟩) main_call0_cst) (constant S_ .f32 0x3F800000#32),
    TRef.unary (TRef.of (T := ⟨S_, .f32⟩) main_call0_cst) (TRef.of (T := U) main_call0_v2) (broadcastInDim S8x2048x2816 ![] bcast_S_S8x2048x2816),
    TRef.binary (TRef.of (T := U) main_call0_v2) (TRef.of (T := U) main_call0_v1) (TRef.of (T := U) main_call0_v3) addf,
    TRef.nullary (TRef.of (T := ⟨S_, .f32⟩) main_call0_cst_0) (constant S_ .f32 0x3F800000#32),
    TRef.unary (TRef.of (T := ⟨S_, .f32⟩) main_call0_cst_0) (TRef.of (T := U) main_call0_v4) (broadcastInDim S8x2048x2816 ![] bcast_S_S8x2048x2816),
    TRef.binary (TRef.of (T := U) main_call0_v4) (TRef.of (T := U) main_call0_v3) (TRef.of (T := U) main_call0_v5) Host.divf,
    TRef.binary (TRef.of (T := U) main_v27) (TRef.of (T := U) main_call0_v5) (TRef.of (T := U) main_v28) mulf,
    binary main_v20 main_v24 main_v29 (Host.dotGeneral dot_S8x2048x1024_S1024x2816_S8x2048x2816_2_0_01_1_n_n none),
    binary main_v28 main_v29 main_v30 mulf,
    binary main_v30 main_v26 main_v31 (Host.dotGeneral dot_S8x2048x2816_S2816x1024_S8x2048x1024_2_0_01_1_n_n none),
    nullary main_cst_2 (constant S_ .f32 0x3F000000#32),
    unary main_cst_2 main_v32 (broadcastInDim S8x2048x1024 ![] bcast_S_S8x2048x1024),
    binary main_v32 main_v31 main_v33 mulf,
    binary main_v5 main_v33 main_v34 addf ]

/-- The operations of the normalisation before the gate. -/
abbrev opsNormB : List (HloOp τ sig (Elt F)) :=
  [ unary main_arg7 main_v35 (extractStridedSlice S1x1024 ![0, 0] · slices_S2x1024_S1x1024_0_0),
    reshape main_v35 main_v36 rfl shapeCasts_S1x1024_S1024,
    binary main_v34 main_v34 main_v37 mulf,
    nullary main_cst_3 (constant S_ .f32 0x00000000#32),
    binary main_v37 main_cst_3 main_v38 (fun x v => Host.reduceAdd x v reducesTo_S8x2048x1024_S8x2048_d2 h_S_),
    unary main_v38 main_v39 (broadcastInDim S8x2048x1 ![0, 1] bcast_S8x2048_S8x2048x1_0_1),
    nullary main_cst_4 (constant S_ .f32 0x44800000#32),
    unary main_cst_4 main_v40 (broadcastInDim S8x2048x1 ![] bcast_S_S8x2048x1),
    binary main_v39 main_v40 main_v41 Host.divf,
    nullary main_cst_5 (constant S_ .f32 0x358637BD#32),
    unary main_cst_5 main_v42 (broadcastInDim S8x2048x1 ![] bcast_S_S8x2048x1),
    binary main_v41 main_v42 main_v43 addf,
    unary main_v43 main_v44 Host.rsqrt,
    unary main_v44 main_v45 (broadcastInDim S8x2048x1024 ![0, 1, 2] bcast_S8x2048x1_S8x2048x1024_0_1_2),
    binary main_v34 main_v45 main_v46 mulf,
    unary main_v36 main_v47 (broadcastInDim S1x1x1024 ![2] bcast_S1024_S1x1x1024_2),
    unary main_v47 main_v48 (broadcastInDim S8x2048x1024 ![0, 1, 2] bcast_S1x1x1024_S8x2048x1024_0_1_2),
    binary main_v46 main_v48 main_v49 mulf ]

/-- The operations of the gated embedding, and the layout of the result. -/
abbrev opsGate : List (HloOp τ sig (Elt F)) :=
  [ unary main_arg9 main_v50 (extractStridedSlice S1x1024x1024 ![0, 0, 0] · slices_S2x1024x1024_S1x1024x1024_0_0_0),
    reshape main_v50 main_v51 rfl shapeCasts_S1x1024x1024_S1024x1024,
    binary main_v49 main_v51 main_v52 (Host.dotGeneral dot_S8x2048x1024_S1024x1024_S8x2048x1024_2_0_01_1_n_n none),
    unary main_v52 main_v53 Host.negf,
    unary main_v53 main_v54 Host.exp,
    nullary main_cst_6 (constant S_ .f32 0x3F800000#32),
    unary main_cst_6 main_v55 (broadcastInDim S8x2048x1024 ![] bcast_S_S8x2048x1024),
    binary main_v55 main_v54 main_v56 addf,
    nullary main_cst_7 (constant S_ .f32 0x3F800000#32),
    unary main_cst_7 main_v57 (broadcastInDim S8x2048x1024 ![] bcast_S_S8x2048x1024),
    binary main_v57 main_v56 main_v58 Host.divf,
    unary main_arg8 main_v59 (extractStridedSlice S1x8x2048x256 ![0, 0, 0, 0] · slices_S2x8x2048x256_S1x8x2048x256_0_0_0_0),
    reshape main_v59 main_v60 rfl shapeCasts_S1x8x2048x256_S8x2048x256,
    unary main_arg10 main_v61 (extractStridedSlice S1x256x1024 ![0, 0, 0] · slices_S2x256x1024_S1x256x1024_0_0_0),
    reshape main_v61 main_v62 rfl shapeCasts_S1x256x1024_S256x1024,
    binary main_v60 main_v62 main_v63 (Host.dotGeneral dot_S8x2048x256_S256x1024_S8x2048x1024_2_0_01_1_n_n none),
    binary main_v58 main_v63 main_v64 mulf,
    binary main_v34 main_v64 main_v65 addf,
    reshape main_v65 main_v66 rfl shapeCasts_S8x2048x1024_S16384x1024 ]

/-- What they write. -/
abbrev opsJoinW : List (Ref sig .tc) :=
  [main_v0, main_v1, main_v2, main_v3, main_v4, main_v5]

/-- What they write. -/
abbrev opsNormAW : List (Ref sig .tc) :=
  [main_v6, main_v7, main_v8, main_cst, main_v9, main_v10, main_cst_0, main_v11, main_v12, main_cst_1, main_v13, main_v14, main_v15, main_v16, main_v17, main_v18, main_v19, main_v20]

/-- What they write. -/
abbrev opsFeedW : List (Ref sig .tc) :=
  [main_v21, main_v22, main_v23, main_v24, main_v25, main_v26, main_v27, main_call0_v0, main_call0_v1, main_call0_cst, main_call0_v2, main_call0_v3, main_call0_cst_0, main_call0_v4, main_call0_v5, main_v28, main_v29, main_v30, main_v31, main_cst_2, main_v32, main_v33, main_v34]

/-- What they write. -/
abbrev opsNormBW : List (Ref sig .tc) :=
  [main_v35, main_v36, main_v37, main_cst_3, main_v38, main_v39, main_cst_4, main_v40, main_v41, main_cst_5, main_v42, main_v43, main_v44, main_v45, main_v46, main_v47, main_v48, main_v49]

/-- What they write. -/
abbrev opsGateW : List (Ref sig .tc) :=
  [main_v50, main_v51, main_v52, main_v53, main_v54, main_cst_6, main_v55, main_v56, main_cst_7, main_v57, main_v58, main_v59, main_v60, main_v61, main_v62, main_v63, main_v64, main_v65, main_v66]

/-- The whole program's operations, in order. -/
abbrev ops : List (HloOp τ sig (Elt F)) := opsJoin ++ (opsNormA ++ (opsFeed ++ (opsNormB ++ opsGate)))

set_option maxRecDepth 8192 in
set_option maxHeartbeats 4000000 in
theorem main_eq (c : Dev nD) : main (F := F) c = seq ops := rfl

theorem ops_sub : (ops : List (HloOp τ sig (Elt F))).Forall fun op => op.bufs ⊆ tcRefs τ sig := by
  simp only [ops, opsJoin, opsNormA, opsFeed, opsNormB, opsGate, List.forall_append, List.Forall, TRef.unary, TRef.binary, TRef.nullary]
  repeat' apply And.intro
  all_goals with_reducible first | exact unary_bufs_sub .. | exact binary_bufs_sub .. | exact nullary_bufs_sub .. | exact reshape_bufs_sub ..

theorem scopedRefs_eq : (Finset.univ.filter fun b : Ref sig .tc => b.isScoped) = ∅ := by decide
theorem scopedSems_eq : (Finset.univ.filter fun sm : SemLoc sig => sm.isScoped .tc) = ∅ := by decide

/-! ## What each group leaves -/

variable (M : Valuation τ sig (Elt F))

theorem opsJoin_kept (r : Ref sig .tc) (h : r ∉ opsJoinW) : after opsJoin M r = M r :=
  after_unwritten opsJoinW rfl h M
theorem opsNormA_kept (r : Ref sig .tc) (h : r ∉ opsNormAW) : after opsNormA M r = M r :=
  after_unwritten opsNormAW rfl h M
theorem opsFeed_kept (r : Ref sig .tc) (h : r ∉ opsFeedW) : after opsFeed M r = M r :=
  after_unwritten opsFeedW rfl h M
theorem opsNormB_kept (r : Ref sig .tc) (h : r ∉ opsNormBW) : after opsNormB M r = M r :=
  after_unwritten opsNormBW rfl h M
theorem opsGate_kept (r : Ref sig .tc) (h : r ∉ opsGateW) : after opsGate M r = M r :=
  after_unwritten opsGateW rfl h M

set_option maxHeartbeats 1600000 in
theorem opsJoin_value : after opsJoin M main_v5 = joined (M main_arg0) (M main_arg1) (M main_arg2) (M main_arg11) := by
  simp only [opsJoin, TRef.binary, TRef.nullary, TRef.unary, TRef.toBuf, TRef.ofBuf, cast_eq]
  after_results_simp <;> rfl
set_option maxHeartbeats 1600000 in
theorem opsNormA_value : after opsNormA M main_v20 = Post.Plain.normed (M main_v5) (layerVec (M main_arg3)) := by
  simp only [opsNormA, TRef.binary, TRef.nullary, TRef.unary, TRef.toBuf, TRef.ofBuf, cast_eq]
  after_results_simp <;> rfl
set_option maxHeartbeats 1600000 in
theorem opsFeed_value : after opsFeed M main_v34 = Post.Plain.fed (M main_v5) (M main_v20) (layerUp (M main_arg4)) (layerUp (M main_arg5)) (layerDown (M main_arg6)) := by
  simp only [opsFeed, TRef.binary, TRef.nullary, TRef.unary, TRef.toBuf, TRef.ofBuf, cast_eq]
  after_results_simp <;> rfl
set_option maxHeartbeats 1600000 in
theorem opsNormB_value : after opsNormB M main_v49 = Post.Plain.normed (M main_v34) (layerVec (M main_arg7)) := by
  simp only [opsNormB, TRef.binary, TRef.nullary, TRef.unary, TRef.toBuf, TRef.ofBuf, cast_eq]
  after_results_simp <;> rfl
set_option maxHeartbeats 1600000 in
theorem opsGate_value : after opsGate M main_v66 = shapeCast S16384x1024 (Post.Plain.gated (M main_v34) (M main_v49) (layerSquare (M main_arg9)) (layerTokens (M main_arg8)) (layerEmbed (M main_arg10))) shapeCasts_S8x2048x1024_S16384x1024 := by
  simp only [opsGate, TRef.binary, TRef.nullary, TRef.unary, TRef.toBuf, TRef.ofBuf, cast_eq]
  after_results_simp <;> rfl

/-- A buffer none of the operations writes is as it was. -/
theorem ops_kept (r : Ref sig .tc) (h : r ∉ opsJoinW ∧ r ∉ opsNormAW ∧ r ∉ opsFeedW ∧ r ∉ opsNormBW ∧ r ∉ opsGateW) : after ops M r = M r := by
  simp only [ops, after_append]
  rw [opsGate_kept _ r h.2.2.2.2, opsNormB_kept _ r h.2.2.2.1, opsFeed_kept _ r h.2.2.1, opsNormA_kept _ r h.2.1, opsJoin_kept _ r h.1]

/-- The residual stream after the feed-forward, of the arguments in the order of the program's. -/
def second (h : FVec F S8x2048x1024 .f32) (a : FVec F S8x512x2048 .bf16) (b : FVec F S8x2048x512 .bf16) (nf : FVec F S2x1024 .f32)
    (wg wu : FVec F S2x1024x2816 .f32) (wd : FVec F S2x2816x1024 .f32) (wo : FVec F S1x1024x1024 .f32) : FVec F S8x2048x1024 .f32 :=
  Post.Plain.fed (joined h a b wo) (Post.Plain.normed (joined h a b wo) (layerVec nf)) (layerUp wg) (layerUp wu) (layerDown wd)

/-- The residual stream after the gate. -/
def third (h2 : FVec F S8x2048x1024 .f32) (np : FVec F S2x1024 .f32) (p : FVec F S2x8x2048x256 .f32) (pg : FVec F S2x1024x1024 .f32)
    (pp : FVec F S2x256x1024 .f32) : FVec F S8x2048x1024 .f32 :=
  Post.Plain.gated h2 (Post.Plain.normed h2 (layerVec np)) (layerSquare pg) (layerTokens p) (layerEmbed pp)

/-- The program's result. -/
theorem ops_value : after ops M main_v66 = shapeCast S16384x1024 (third
        (second (M main_arg0) (M main_arg1) (M main_arg2) (M main_arg3)
          (M main_arg4) (M main_arg5) (M main_arg6) (M main_arg11))
        (M main_arg7) (M main_arg8) (M main_arg9) (M main_arg10)) shapeCasts_S8x2048x1024_S16384x1024 := by
  simp only [ops, after_append]
  unfold third second
  rw [opsGate_value,
    opsNormB_value, opsNormB_kept _ main_v34 (by decide),
    opsNormB_kept _ main_arg9 (by decide), opsFeed_kept _ main_arg9 (by decide), opsNormA_kept _ main_arg9 (by decide), opsJoin_kept _ main_arg9 (by decide),
    opsNormB_kept _ main_arg8 (by decide), opsFeed_kept _ main_arg8 (by decide), opsNormA_kept _ main_arg8 (by decide), opsJoin_kept _ main_arg8 (by decide),
    opsNormB_kept _ main_arg10 (by decide), opsFeed_kept _ main_arg10 (by decide), opsNormA_kept _ main_arg10 (by decide), opsJoin_kept _ main_arg10 (by decide),
    opsFeed_kept _ main_arg7 (by decide), opsNormA_kept _ main_arg7 (by decide), opsJoin_kept _ main_arg7 (by decide),
    opsFeed_value, opsNormA_value, opsNormA_kept _ main_v5 (by decide),
    opsNormA_kept _ main_arg4 (by decide), opsJoin_kept _ main_arg4 (by decide),
    opsNormA_kept _ main_arg5 (by decide), opsJoin_kept _ main_arg5 (by decide),
    opsNormA_kept _ main_arg6 (by decide), opsJoin_kept _ main_arg6 (by decide),
    opsJoin_kept _ main_arg3 (by decide),
    opsJoin_value]

/-- The run: the result is the layer of the arguments, which stay as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v66) = shapeCast S16384x1024 (third
        (second (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg11)))
        (m ((c.tc : Thread nD τ).loc main_arg7)) (m ((c.tc : Thread nD τ).loc main_arg8)) (m ((c.tc : Thread nD τ).loc main_arg9)) (m ((c.tc : Thread nD τ).loc main_arg10))) shapeCasts_S8x2048x1024_S16384x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c =>
    have k (b : Ref sig .tc) (hb : b ∉ opsJoinW ∧ b ∉ opsNormAW ∧ b ∉ opsFeedW ∧ b ∉ opsNormBW ∧ b ∉ opsGateW) : r.2.mem ((c.tc : Thread nD τ).loc b) = m ((c.tc : Thread nD τ).loc b) :=
      (h c b).trans (ops_kept _ b hb)
    ⟨(h c main_v66).trans (ops_value _), k main_arg0 (by decide), k main_arg1 (by decide), k main_arg2 (by decide), k main_arg3 (by decide), k main_arg4 (by decide), k main_arg5 (by decide), k main_arg6 (by decide), k main_arg7 (by decide), k main_arg8 (by decide), k main_arg9 (by decide), k main_arg10 (by decide), k main_arg11 (by decide)⟩)
    (run_seq scopedRefs_eq scopedSems_eq defs main (fun _ => ops) main_eq (fun _ => ops_sub) m ρ)

end Cert.EvenPost.Plain

end
-- ==== Proof.EvenFrames.lean ====
/-
  The frames of the call after the even layer's mixers: the run over any values, read at the hardware's and at the ideal ones.
-/
module

public import proofs.«01_k».proof.Defs
public import proofs.«01_k».proof.Proof.EvenRun
public import proofs.«01_k».proof.Proof.Gen.Kernel3
public import proofs.«01_k».proof.Proof.Gen.Reference3Ideal
public import proofs.«01_k».proof.Proof.EvenPlain
public import Idealize.ShloMosaic.Adequacy
public import Idealize.ShloMosaic.Init

@[expose] public section

noncomputable section

namespace Cert.EvenPost

open Idealize.ShloMosaic Idealize.ShloMosaic.TcCoe Idealize.SL.Sem Cert.Kernel3Ideal Cert.Kernel3Ideal.Gen

variable {F : FTy → Type} [FloatOps F]
variable (m : (ℓ : Loc nD τ sig) → Buf (Elt F) ℓ) (ρ : Dev nD → PrngReg)

/-- Every argument is as launched. -/
abbrev ArgsKept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10)
    ∧ r.2.mem ((c.tc : Thread nD τ).loc main_arg11) = m ((c.tc : Thread nD τ).loc main_arg11)

/-- Every argument of the program is as launched when it ends; the second is itself an array the call reads. -/
theorem args_end (r : PUnit × MemSt nD τ sig (Elt F)) (h : Pipeline.FramePost cfgs (dats m) 0 (V m) r) (c : Dev nD) :
    ArgsKept m r c :=
  ⟨args_kept m r h c main_arg0 (Pipeline.mem_restRefs_of main_arg0 (by decide) (by decide)) (by decide),
    ((h c).1 1).trans (((dats m 0 c).arrAt_in 1 rfl _).trans ((A_eq m c 1).trans (V_kept m c main_arg1 (by decide)))),
    args_kept m r h c main_arg2 (Pipeline.mem_restRefs_of main_arg2 (by decide) (by decide)) (by decide),
    args_kept m r h c main_arg3 (Pipeline.mem_restRefs_of main_arg3 (by decide) (by decide)) (by decide),
    args_kept m r h c main_arg4 (Pipeline.mem_restRefs_of main_arg4 (by decide) (by decide)) (by decide),
    args_kept m r h c main_arg5 (Pipeline.mem_restRefs_of main_arg5 (by decide) (by decide)) (by decide),
    args_kept m r h c main_arg6 (Pipeline.mem_restRefs_of main_arg6 (by decide) (by decide)) (by decide),
    args_kept m r h c main_arg7 (Pipeline.mem_restRefs_of main_arg7 (by decide) (by decide)) (by decide),
    args_kept m r h c main_arg8 (Pipeline.mem_restRefs_of main_arg8 (by decide) (by decide)) (by decide),
    args_kept m r h c main_arg9 (Pipeline.mem_restRefs_of main_arg9 (by decide) (by decide)) (by decide),
    args_kept m r h c main_arg10 (Pipeline.mem_restRefs_of main_arg10 (by decide) (by decide)) (by decide),
    args_kept m r h c main_arg11 (Pipeline.mem_restRefs_of main_arg11 (by decide) (by decide)) (by decide)⟩

/-- The program ends, over any values, with its arguments as launched and no semaphore raised. -/
theorem frame_any : θ_run (defs (F := F)) (onTc (τ := τ) (main (F := F))) ⟨m, fun _ => 0, ρ⟩ fun r =>
    (∀ c : Dev nD, ArgsKept m r c)
      ∧ r.2.sem = fun _ => 0 :=
  (θ_run Cert.Kernel3Ideal.defs _ _).mono (fun r h => ⟨args_end m r h.1, h.2⟩) (run_main m ρ)

theorem frame_ideal : Cert.quiescent_Kernel3Ideal (hKernel3Ideal := Cert.Kernel3Ideal.Gen.facts) := fun m ρ _ => frame_any (F := Ideal) m ρ

/-- The two printed programs are the same text: their body tables agree. -/
theorem table_eq : Cert.Kernel3.defs₀ (F := F) = Cert.Kernel3Ideal.defs₀ (F := F) := by
  unfold Cert.Kernel3.defs₀ Cert.Kernel3Ideal.defs₀
  refine congrArg Defs.onTc (funext fun l => funext fun a => ?_)
  match l, a with
  | 0, (t, s) => rfl

theorem defs_eq : Cert.Kernel3.defs (F := F) = Cert.Kernel3Ideal.defs (F := F) := congrArg (Pipeline.defs _) table_eq

theorem frame_bits : Cert.quiescent_Kernel3 (hKernel3 := Cert.Kernel3.Gen.facts) := fun m ρ _ => by
  rw [defs_eq]
  exact frame_any (F := Bits) m ρ

theorem frame_reference : Cert.quiescent_Reference3Ideal (hReference3Ideal := Cert.Reference3Ideal.Gen.facts) := fun m g _ =>
  (θ_run _ _ _).mono (fun r h => ⟨fun c => (h c).2, sem_eq_zero_of_no_sems (by decide) r.2⟩) (Plain.run m g)

end Cert.EvenPost

end
-- ==== Proof.EvenPlainRead.lean ====
/-
  The even layer's plain result at an index, over the extended reals: the layer of one token (Rows.lean), without the
  final norm, its mixer row the two mixers' rows side by side.
-/
module

public import proofs.«01_k».proof.Proof.EvenPlain
public import proofs.«01_k».proof.Proof.PlainRead

@[expose] public section

noncomputable section

open scoped BigOperators

namespace Cert.EvenPost.Plain

open Cert.Reference3Ideal Cert.Reference3Ideal.Gen Idealize.ShloMosaic Idealize.ShloMosaic.ValueIdx Cert.Rows

/-! ## The first layer's weights -/

theorem layerVec_apply (x : Vec Ideal S2x1024 .f32) (k : Fin 1024) : layerVec x (ix1 k) = x (ix2 0 k) := by
  unfold layerVec
  rw [shapeCast_apply _ _ (ix1 k) (ix2 0 k) (by
    rw [Shape.rowMajor_val_two, Shape.rowMajor_val_one]; show 0 * 1024 + k.val = k.val; omega)]
  exact extractStridedSlice_apply ![0, 0] x slices_S2x1024_S1x1024_0_0 (ix2 0 k) (ix2 0 k) fun a => by
    match a with
    | ⟨0, _⟩ => rfl
    | ⟨1, _⟩ => show k.val = 0 + k.val; omega

/-- The first layer of a stack of two matrices. -/
theorem layer_apply (R C : ℕ) (hs : (⟨3, ![2, R, C]⟩ : Shape).Slices ![0, 0, 0] ⟨3, ![1, R, C]⟩)
    (hc : (⟨3, ![1, R, C]⟩ : Shape).ShapeCasts ⟨2, ![R, C]⟩) (x : Vec Ideal ⟨3, ![2, R, C]⟩ .f32) (r : Fin R) (k : Fin C) :
    shapeCast ⟨2, ![R, C]⟩ (extractStridedSlice ⟨3, ![1, R, C]⟩ ![0, 0, 0] x hs) hc (ix2 r k) = x (ix3 0 r k) := by
  rw [shapeCast_apply _ _ (ix2 r k) (ix3 0 r k) (by
    rw [Shape.rowMajor_val_three, Shape.rowMajor_val_two]
    show (0 * R + r.val) * C + k.val = r.val * C + k.val
    rw [Nat.zero_mul, Nat.zero_add])]
  exact extractStridedSlice_apply ![0, 0, 0] x hs (ix3 0 r k) (ix3 0 r k) fun a => by
    match a with
    | ⟨0, _⟩ => rfl
    | ⟨1, _⟩ => show r.val = 0 + r.val; omega
    | ⟨2, _⟩ => show k.val = 0 + k.val; omega

theorem layerUp_apply (x : Vec Ideal S2x1024x2816 .f32) (r : Fin 1024) (k : Fin 2816) : layerUp x (ix2 r k) = x (ix3 0 r k) := layer_apply 1024 2816 _ _ x r k
theorem layerDown_apply (x : Vec Ideal S2x2816x1024 .f32) (r : Fin 2816) (k : Fin 1024) : layerDown x (ix2 r k) = x (ix3 0 r k) := layer_apply 2816 1024 _ _ x r k
theorem layerSquare_apply (x : Vec Ideal S2x1024x1024 .f32) (r : Fin 1024) (k : Fin 1024) : layerSquare x (ix2 r k) = x (ix3 0 r k) := layer_apply 1024 1024 _ _ x r k
theorem layerEmbed_apply (x : Vec Ideal S2x256x1024 .f32) (r : Fin 256) (k : Fin 1024) : layerEmbed x (ix2 r k) = x (ix3 0 r k) := layer_apply 256 1024 _ _ x r k

theorem layerTokens_apply (x : Vec Ideal S2x8x2048x256 .f32) (b : Fin 8) (s : Fin 2048) (k : Fin 256) : layerTokens x (ix3 b s k) = x (ix4 0 b s k) := by
  unfold layerTokens
  rw [shapeCast_apply _ _ (ix3 b s k) (ix4 0 b s k) (by
    rw [Shape.rowMajor_val_four, Shape.rowMajor_val_three]
    show ((0 * 8 + b.val) * 2048 + s.val) * 256 + k.val = (b.val * 2048 + s.val) * 256 + k.val
    omega)]
  exact extractStridedSlice_apply ![0, 0, 0, 0] x slices_S2x8x2048x256_S1x8x2048x256_0_0_0_0 (ix4 0 b s k) (ix4 0 b s k) fun a => by
    match a with
    | ⟨0, _⟩ => rfl
    | ⟨1, _⟩ => show b.val = 0 + b.val; omega
    | ⟨2, _⟩ => show s.val = 0 + s.val; omega
    | ⟨3, _⟩ => show k.val = 0 + k.val; omega

/-! ## The two mixers' rows -/

variable (h : FVec Ideal S8x2048x1024 .f32) (b : Fin 8) (s : Fin 2048) (a : FVec Ideal S8x512x2048 .bf16) (a' : FVec Ideal S8x2048x512 .bf16)

/-- A token's two mixer rows, one behind the other. -/
def sides (x y : Fin 512 → EReal) (d : Fin 1024) : EReal := if hd : d.val < 512 then x ⟨d.val, hd⟩ else y ⟨d.val - 512, by omega⟩

theorem merged_apply (d : Fin 1024) : merged a a' (ix3 b s d) = sides (fun d => a (ix3 b d s)) (fun d => a' (ix3 b s d)) d := by
  unfold merged sides
  by_cases hd : d.val < 512
  · rw [dif_pos hd, concatenate_pair_apply_left (t := S8x2048x1024) (s₁ := S8x2048x512) (s₂ := S8x2048x512) 2 _ _ _ (ix3 b s d) rfl (ix3 b s ⟨d.val, hd⟩) (fun x => by
      match x with
      | ⟨0, _⟩ => rfl
      | ⟨1, _⟩ => rfl
      | ⟨2, _⟩ => rfl)]
    exact transpose_apply [0, 2, 1] a transposes_S8x512x2048_S8x2048x512_0_2_1 (ix3 b s ⟨d.val, hd⟩) (ix3 b ⟨d.val, hd⟩ s) (fun x => by
      match x with
      | ⟨0, _⟩ => rfl
      | ⟨1, _⟩ => rfl
      | ⟨2, _⟩ => rfl)
  · rw [dif_neg hd]
    exact concatenate_pair_apply_right (t := S8x2048x1024) (s₁ := S8x2048x512) (s₂ := S8x2048x512) 2 _ _ _ (ix3 b s d) rfl rfl (ix3 b s ⟨d.val - 512, by omega⟩) (fun x hx => by
      match x with
      | ⟨0, _⟩ => rfl
      | ⟨1, _⟩ => rfl
      | ⟨2, _⟩ => exact absurd rfl hx) (by show d.val - 512 + 512 = d.val; omega)

/-- The row through a matrix is the two halves through its two halves. -/
theorem project_sides (x y : Fin 512 → EReal) (W : Fin 1024 → Fin 1024 → EReal) (k : Fin 1024) :
    project (sides x y) W k = project x (fun d c => W (Fin.castAdd 512 d) c) k + project y (fun d c => W (Fin.natAdd 512 d) c) k := by
  unfold project
  refine (Fin.sum_univ_add (a := 512) (b := 512) fun d => sides x y d * W d k).trans ?_
  refine congrArg₂ (· + ·) (Finset.sum_congr rfl fun d _ => congrArg (· * _) ?_) (Finset.sum_congr rfl fun d _ => congrArg (· * _) ?_)
  · exact dif_pos d.isLt
  · unfold sides
    rw [dif_neg (by show ¬ 512 + d.val < 512; omega)]
    exact congrArg y (Fin.ext (by show 512 + d.val - 512 = d.val; omega))

/-! ## The layer -/

variable (nf : FVec Ideal S2x1024 .f32) (wg wu : FVec Ideal S2x1024x2816 .f32)
  (wd : FVec Ideal S2x2816x1024 .f32) (wo : FVec Ideal S1x1024x1024 .f32) (np : FVec Ideal S2x1024 .f32) (p : FVec Ideal S2x8x2048x256 .f32)
  (pg : FVec Ideal S2x1024x1024 .f32) (pp : FVec Ideal S2x256x1024 .f32)

/-- A token's row after the mixers, after the feed-forward, and after the gate. -/
def row1 : Fin 1024 → EReal := Rows.joined (fun d => h (ix3 b s d)) (sides (fun d => a (ix3 b d s)) fun d => a' (ix3 b s d)) fun d c => wo (ix3 0 d c)
def row2 : Fin 1024 → EReal := Rows.fed (row1 h b s a a' wo) (fun d => nf (ix2 0 d)) (fun d c => wg (ix3 0 d c)) (fun d c => wu (ix3 0 d c)) fun d c => wd (ix3 0 d c)
def row3 : Fin 1024 → EReal := Rows.gated (row2 h b s a a' nf wg wu wd wo) (fun d => np (ix2 0 d)) (fun d c => pg (ix3 0 d c)) (fun d => p (ix4 0 b s d)) fun d c => pp (ix3 0 d c)

theorem joined_apply (k : Fin 1024) : joined h a a' wo (ix3 b s k) = row1 h b s a a' wo k := by
  unfold joined row1
  rw [Post.Plain.joined_apply]
  exact congrArg (fun f => Rows.joined _ f _ k) (funext fun d => merged_apply b s a a' d)

theorem second_apply (k : Fin 1024) : second h a a' nf wg wu wd wo (ix3 b s k) = row2 h b s a a' nf wg wu wd wo k := by
  unfold second row2 Rows.fed
  rw [Post.Plain.fed_apply]
  simp only [Post.Plain.normed_apply, joined_apply, layerVec_apply, layerUp_apply, layerDown_apply]

theorem third_apply (k : Fin 1024) : third (second h a a' nf wg wu wd wo) np p pg pp (ix3 b s k) = row3 h b s a a' nf wg wu wd wo np p pg pp k := by
  unfold third row3 Rows.gated
  rw [Post.Plain.gated_apply]
  simp only [Post.Plain.normed_apply, second_apply, layerVec_apply, layerSquare_apply, layerTokens_apply, layerEmbed_apply]

/-- The token of a row of the result. -/
theorem result_apply (i : Fin 16384) (k : Fin 1024) (hi : i.val = b.val * 2048 + s.val) :
    shapeCast S16384x1024 (third (second h a a' nf wg wu wd wo) np p pg pp) shapeCasts_S8x2048x1024_S16384x1024 (ix2 i k)
      = row3 h b s a a' nf wg wu wd wo np p pg pp k := by
  rw [shapeCast_apply _ _ (ix2 i k) (ix3 b s k) (by
    rw [Shape.rowMajor_val_three, Shape.rowMajor_val_two]
    show (b.val * 2048 + s.val) * 1024 + k.val = i.val * 1024 + k.val
    rw [hi])]
  exact third_apply h b s a a' nf wg wu wd wo np p pg pp k

end Cert.EvenPost.Plain

end
-- ==== Proof.EvenRead.lean ====
/-
  The tile of the even layer's call after the mixers (EvenTail.lean) at an index, over the extended reals: the layer of
  one token (Rows.lean), the token's rows taken from the blocks the call reads. The first mixer's block has its tokens
  last, so its product runs over the rows of both operands.
-/
module

public import proofs.«01_k».proof.Proof.EvenTail
public import proofs.«01_k».proof.Proof.PostRead
public import proofs.«01_k».proof.Proof.EvenPlainRead

@[expose] public section

noncomputable section

open scoped BigOperators

namespace Cert.EvenPost

open Cert.Kernel3Ideal Cert.Kernel3Ideal.Gen Idealize.ShloMosaic Idealize.ShloMosaic.ValueIdx Cert.Rows
open Cert.Post (tileNorm tileNorm_apply tileProduct tileProduct_apply zero_f32)
open Cert.EvenPost.Plain (sides project_sides)

/-! ## A product over the rows of both operands -/

/-- Columns times columns. -/
def tall (K R C : ℕ) (h : DotDims.WF ⟨2, ![K, R]⟩ ⟨2, ![K, C]⟩ ⟨2, ![R, C]⟩ [0] [0] [1] [1] [] []) :
    DotDims ⟨2, ![K, R]⟩ ⟨2, ![K, C]⟩ ⟨2, ![R, C]⟩ where
  lhsContracting := [0]
  rhsContracting := [0]
  lhsNonContracting := [1]
  rhsNonContracting := [1]
  lhsBatch := []
  rhsBatch := []
  wf := h

theorem tall_apply {φ : FTy} (K R C : ℕ) (h : DotDims.WF ⟨2, ![K, R]⟩ ⟨2, ![K, C]⟩ ⟨2, ![R, C]⟩ [0] [0] [1] [1] [] [])
    (x : FVec Ideal ⟨2, ![K, R]⟩ φ) (w : FVec Ideal ⟨2, ![K, C]⟩ φ) (r : Fin R) (c : Fin C) :
    FloatOps.matmul (tall K R C h) none x w (constant ⟨2, ![R, C]⟩ .f32 0x00000000#32) (ix2 r c)
      = project (fun d => x (ix2 d r)) (fun d c => w (ix2 d c)) c := by
  rw [Ideal.matmul_constant_zero_apply, ← Equiv.sum_comp (contrEquiv1 (tall K R C h) K rfl rfl).symm]
  refine Finset.sum_congr rfl fun d _ => ?_
  have hd := contrEquiv1_symm_val (tall K R C h) K rfl rfl d
  have el : (tall K R C h).lhsIdx (ix2 r c) ((contrEquiv1 (tall K R C h) K rfl rfl).symm d) = ix2 d r := funext fun a => Fin.ext (by
    match a with
    | ⟨0, _⟩ => exact ((tall K R C h).lhsIdx_val_of_single rfl _ _).trans hd
    | ⟨1, _⟩ =>
      unfold DotDims.lhsIdx
      rw [dif_neg (show ¬ (⟨1, by decide⟩ : Fin 2) ∈ (tall K R C h).lhsBatch from List.not_mem_nil), dif_pos (show (⟨1, by decide⟩ : Fin 2) ∈ (tall K R C h).lhsNonContracting from List.mem_singleton.2 rfl)]
      rfl)
  have er : (tall K R C h).rhsIdx (ix2 r c) ((contrEquiv1 (tall K R C h) K rfl rfl).symm d) = ix2 d c := funext fun a => Fin.ext (by
    match a with
    | ⟨0, _⟩ => exact ((tall K R C h).rhsIdx_val_of_single rfl _ _).trans hd
    | ⟨1, _⟩ =>
      unfold DotDims.rhsIdx
      rw [dif_neg (show ¬ (⟨1, by decide⟩ : Fin 2) ∈ (tall K R C h).rhsBatch from List.not_mem_nil), dif_pos (show (⟨1, by decide⟩ : Fin 2) ∈ (tall K R C h).rhsNonContracting from List.mem_singleton.2 rfl)]
      rfl)
  rw [el, er]

/-! ## The tile's parts -/

variable (v6 : Vec Ideal S512x1024 .f32) (v8 : Vec Ideal S512x1024 .bf16) (v9 : Vec Ideal S1x512x512 .bf16) (v13 : Vec Ideal S512x1024 .bf16)
  (v14 : Vec Ideal S512x512 .bf16) (v18 : Vec Ideal S1x1024 .f32) (v33 v35 : Vec Ideal S1024x2816 .bf16) (v45 : Vec Ideal S2816x1024 .bf16)
  (v50 : Vec Ideal S1x1024 .f32) (v65 : Vec Ideal S1024x1024 .bf16) (v74 : Vec Ideal S1x512x256 .f32) (v77 : Vec Ideal S256x1024 .bf16)
variable (r : Fin 512) (k : Fin 1024)

theorem block_apply (d r : Fin 512) : shapeCast S512x512 v9 shapeCasts_S1x512x512_S512x512 (ix2 d r) = v9 (ix3 0 d r) :=
  shapeCast_apply v9 shapeCasts_S1x512x512_S512x512 (ix2 d r) (ix3 0 d r) (by
    rw [Shape.rowMajor_val_three, Shape.rowMajor_val_two]
    show (0 * 512 + d.val) * 512 + r.val = d.val * 512 + r.val
    omega)

theorem tokens_apply (d : Fin 256) : shapeCast S512x256 v74 shapeCasts_S1x512x256_S512x256 (ix2 r d) = v74 (ix3 0 r d) :=
  shapeCast_apply v74 shapeCasts_S1x512x256_S512x256 (ix2 r d) (ix3 0 r d) (by
    rw [Shape.rowMajor_val_three, Shape.rowMajor_val_two]
    show (0 * 512 + r.val) * 256 + d.val = r.val * 256 + d.val
    omega)

theorem first_apply : k0_pay14 v6 v8 v9 v13 v14 (ix2 r k) = v6 (ix2 r k) + project (fun d => v9 (ix3 0 d r)) (fun d c => v8 (ix2 d c)) k
    + project (fun d => v14 (ix2 r d)) (fun d c => v13 (ix2 d c)) k := by
  unfold k0_pay14
  rw [addf_apply, addf_apply, shapeCast_self, shapeCast_self]
  refine congrArg₂ (fun x y : EReal => v6 (ix2 r k) + x + y) ?_ (tileProduct_apply dot_S512x512_S512x1024_S512x1024_1_0_0_1_n_n_wf v14 v13 r k)
  simp only [matmul]
  refine (tall_apply 512 512 1024 dot_S512x512_S512x1024_S512x1024_0_0_1_1_n_n_wf (shapeCast S512x512 v9 shapeCasts_S1x512x512_S512x512) v8 r k).trans ?_
  exact congrArg (fun f => project f _ k) (funext fun d => block_apply v9 d r)

/-- With the two halves of one matrix, the stream joined with both mixers. -/
theorem joined_halves (W : Vec Ideal S1024x1024 .bf16) : k0_pay14 v6 (top W) v9 (bottom W) v14 (ix2 r k)
    = joined (fun d => v6 (ix2 r d)) (sides (fun d => v9 (ix3 0 d r)) fun d => v14 (ix2 r d)) (fun d c => W (ix2 d c)) k := by
  rw [first_apply]
  unfold joined
  rw [project_sides, ← add_assoc]
  have et (d : Fin 512) (c : Fin 1024) : top W (ix2 d c) = W (ix2 (Fin.castAdd 512 d) c) := congrArg W (funext fun a => Fin.ext (by
    match a with
    | ⟨0, _⟩ => show 0 + 1 * d.val = d.val; omega
    | ⟨1, _⟩ => show 0 + 1 * c.val = c.val; omega))
  have eb (d : Fin 512) (c : Fin 1024) : bottom W (ix2 d c) = W (ix2 (Fin.natAdd 512 d) c) := congrArg W (funext fun a => Fin.ext (by
    match a with
    | ⟨0, _⟩ => show 512 + 1 * d.val = 512 + d.val; omega
    | ⟨1, _⟩ => show 0 + 1 * c.val = c.val; omega))
  simp only [et, eb]

theorem pay15_eq : k0_pay15 v6 v8 v9 v13 v14 v18 = truncf .bf16 (tileNorm (k0_pay14 v6 v8 v9 v13 v14) v18) bitsLt_bf16_f32 := rfl

variable (h : FVec Ideal S512x1024 .f32) (x : FVec Ideal S512x1024 .bf16)

theorem pay16_eq : k0_pay16 h x v33 v35 v45 = fun i => h i + half * tileProduct dot_S512x2816_S2816x1024_S512x1024_1_0_0_1_n_n_wf
    (fun j => Ideal.div (tileProduct dot_S512x1024_S1024x2816_S512x2816_1_0_0_1_n_n_wf x v33 j)
      (one + Ideal.exp (Scalar.ofBits (F := Ideal) .f32 0x00000000#32 - tileProduct dot_S512x1024_S1024x2816_S512x2816_1_0_0_1_n_n_wf x v33 j))
        * tileProduct dot_S512x1024_S1024x2816_S512x2816_1_0_0_1_n_n_wf x v35 j) v45 i := rfl

/-- The stream after the feed-forward of its normalised row. -/
theorem pay16_apply : k0_pay16 h x v33 v35 v45 (ix2 r k) = h (ix2 r k) + half * project
    (fun j => silu (project (fun d => x (ix2 r d)) (fun d c => v33 (ix2 d c)) j) * project (fun d => x (ix2 r d)) (fun d c => v35 (ix2 d c)) j)
    (fun d c => v45 (ix2 d c)) k := by
  rw [pay16_eq, zero_f32]
  refine congrArg (fun z : EReal => h (ix2 r k) + half * z)
    ((tileProduct_apply dot_S512x2816_S2816x1024_S512x1024_1_0_0_1_n_n_wf _ v45 r k).trans (congrArg (fun f => project f _ k) (funext fun j => ?_)))
  rw [silu_eq, tileProduct_apply, tileProduct_apply]

theorem pay17_eq : k0_pay17 h x v33 v35 v45 v50 v65 = fun i => one + Ideal.exp (Scalar.ofBits (F := Ideal) .f32 0x00000000#32
      - tileProduct dot_S512x1024_S1024x1024_S512x1024_1_0_0_1_n_n_wf
        (truncf .bf16 (tileNorm (k0_pay16 h x v33 v35 v45) v50) bitsLt_bf16_f32) v65 i) := rfl

/-- The gate's denominator. -/
theorem pay17_apply : k0_pay17 h x v33 v35 v45 v50 v65 (ix2 r k)
    = one + Ideal.exp (0 - project (norm (fun d => k0_pay16 h x v33 v35 v45 (ix2 r d)) fun d => v50 (ix2 0 d)) (fun d c => v65 (ix2 d c)) k) := by
  rw [pay17_eq, zero_f32]
  refine congrArg (fun z : EReal => one + Ideal.exp (0 - z)) ((tileProduct_apply dot_S512x1024_S1024x1024_S512x1024_1_0_0_1_n_n_wf _ v65 r k).trans ?_)
  exact congrArg (fun f => project f _ k) (funext fun d => tileNorm_apply _ v50 r d)

theorem pay1_eq (h y : FVec Ideal S512x1024 .f32) : k0_pay1 h y (Scalar.ofBits .f32 0x3F800000#32) v74 v77
    = fun i => h i + Ideal.div one (y i) * tileProduct dot_S512x256_S256x1024_S512x1024_1_0_0_1_n_n_wf
      (shapeCast S512x256 v74 shapeCasts_S1x512x256_S512x256 : FVec Ideal S512x256 .f32) v77 i := rfl

theorem pay1_apply (h y : FVec Ideal S512x1024 .f32) : k0_pay1 h y (Scalar.ofBits .f32 0x3F800000#32) v74 v77 (ix2 r k)
    = h (ix2 r k) + Ideal.div one (y (ix2 r k)) * project (fun d => v74 (ix3 0 r d)) (fun d c => v77 (ix2 d c)) k := by
  rw [pay1_eq]
  refine congrArg (fun z : EReal => h (ix2 r k) + Ideal.div one (y (ix2 r k)) * z) ((tileProduct_apply dot_S512x256_S256x1024_S512x1024_1_0_0_1_n_n_wf _ v77 r k).trans ?_)
  exact congrArg (fun f => project f _ k) (funext fun d => tokens_apply v74 r d)

/-! ## The tile -/

/-- The tile's row is the layer of the token's rows. -/
theorem value_apply (W : Vec Ideal S1024x1024 .bf16) : value v6 W v9 v14 v18 v33 v35 v45 v50 v65 v74 v77 (ix2 r k)
    = gated (fed (joined (fun d => v6 (ix2 r d)) (sides (fun d => v9 (ix3 0 d r)) fun d => v14 (ix2 r d)) fun d c => W (ix2 d c)) (fun d => v18 (ix2 0 d))
        (fun d c => v33 (ix2 d c)) (fun d c => v35 (ix2 d c)) fun d c => v45 (ix2 d c)) (fun d => v50 (ix2 0 d)) (fun d c => v65 (ix2 d c))
        (fun d => v74 (ix3 0 r d)) (fun d c => v77 (ix2 d c)) k := by
  have h1 : ∀ d, k0_pay15 v6 (top W) v9 (bottom W) v14 v18 (ix2 r d)
      = norm (joined (fun d => v6 (ix2 r d)) (sides (fun d => v9 (ix3 0 d r)) fun d => v14 (ix2 r d)) fun d c => W (ix2 d c)) (fun d => v18 (ix2 0 d)) d := fun d => by
    rw [pay15_eq]
    refine (tileNorm_apply _ v18 r d).trans (congrArg (fun f => norm f _ d) (funext fun d => joined_halves v6 v9 v14 r d W))
  have h2 : ∀ d, k0_pay16 (k0_pay14 v6 (top W) v9 (bottom W) v14) (k0_pay15 v6 (top W) v9 (bottom W) v14 v18) v33 v35 v45 (ix2 r d)
      = fed (joined (fun d => v6 (ix2 r d)) (sides (fun d => v9 (ix3 0 d r)) fun d => v14 (ix2 r d)) fun d c => W (ix2 d c)) (fun d => v18 (ix2 0 d))
        (fun d c => v33 (ix2 d c)) (fun d c => v35 (ix2 d c)) (fun d c => v45 (ix2 d c)) d := fun d => by
    rw [pay16_apply]
    unfold fed
    simp only [h1, joined_halves]
  unfold value stored gated
  rw [pay1_apply, pay17_apply, sigmoid_eq]
  simp only [h2]

end Cert.EvenPost

end
-- ==== Proof.EvenArray.lean ====
/-
  The result array of the even layer's call after the mixers, whole: row `2048 b + s` is the layer of token `s` of
  sequence `b` (EvenPlainRead.lean), over the arguments as launched.
-/
module

public import proofs.«01_k».proof.Proof.EvenRun
public import proofs.«01_k».proof.Proof.EvenRead
public import proofs.«01_k».proof.Proof.PostArray

@[expose] public section

noncomputable section

open scoped BigOperators

namespace Cert.EvenPost

open Cert.Kernel3Ideal Cert.Kernel3Ideal.Gen Idealize.ShloMosaic Idealize.ShloMosaic.ValueIdx Idealize.ShloMosaic.TcCoe
open Cert.Post (seqOf posOf seq_pos rows_apply)

variable (m : (ℓ : Loc nD τ sig) → Buf (Elt Ideal) ℓ) (c : Dev nD)

/-! ## The arguments, as launched -/

/-- The residual stream and the two mixers' outputs; the gains; the matrices; the per-layer embeddings. -/
abbrev argH : S8x2048x1024.Idx → EReal := m ((c : Thread nD τ).loc main_arg0)
abbrev argA : S8x512x2048.Idx → EReal := m ((c : Thread nD τ).loc main_arg1)
abbrev argB : S8x2048x512.Idx → EReal := m ((c : Thread nD τ).loc main_arg2)
abbrev argNf : S2x1024.Idx → EReal := m ((c : Thread nD τ).loc main_arg3)
abbrev argWg : S2x1024x2816.Idx → EReal := m ((c : Thread nD τ).loc main_arg4)
abbrev argWu : S2x1024x2816.Idx → EReal := m ((c : Thread nD τ).loc main_arg5)
abbrev argWd : S2x2816x1024.Idx → EReal := m ((c : Thread nD τ).loc main_arg6)
abbrev argNp : S2x1024.Idx → EReal := m ((c : Thread nD τ).loc main_arg7)
abbrev argP : S2x8x2048x256.Idx → EReal := m ((c : Thread nD τ).loc main_arg8)
abbrev argPg : S2x1024x1024.Idx → EReal := m ((c : Thread nD τ).loc main_arg9)
abbrev argPp : S2x256x1024.Idx → EReal := m ((c : Thread nD τ).loc main_arg10)
abbrev argWo : S1x1024x1024.Idx → EReal := m ((c : Thread nD τ).loc main_arg11)

/-! ## The arrays the call reads -/

/-- The tokens below one another, in a half of the channels. -/
theorem halves_apply {φ : FTy} (x : FVec Ideal S8x2048x512 φ) (i : Fin 16384) (k : Fin 512) :
    shapeCast S16384x512 x shapeCasts_S8x2048x512_S16384x512 (ix2 i k) = x (ix3 (seqOf i) (posOf i) k) :=
  shapeCast_apply _ _ (ix2 i k) (ix3 (seqOf i) (posOf i) k) (by
    rw [Shape.rowMajor_val_three, Shape.rowMajor_val_two]
    show ((seqOf i).val * 2048 + (posOf i).val) * 512 + k.val = i.val * 512 + k.val
    rw [← seq_pos])

/-- The first layer's gain, as a row. -/
theorem gain_apply (x : FVec Ideal S2x1024 .f32) (k : Fin 1024) :
    shapeCast S1x1024 (shapeCast S1024 (extractStridedSlice S1x1024 ![0, 0] x slices_S2x1024_S1x1024_0_0) shapeCasts_S1x1024_S1024) shapeCasts_S1024_S1x1024 (ix2 0 k)
      = x (ix2 0 k) := by
  rw [shapeCast_apply _ _ (ix2 0 k) (ix1 k) (by
      rw [Shape.rowMajor_val_one, Shape.rowMajor_val_two]; show k.val = 0 * 1024 + k.val; omega),
    shapeCast_apply _ _ (ix1 k) (ix2 0 k) (by
      rw [Shape.rowMajor_val_one, Shape.rowMajor_val_two]; show 0 * 1024 + k.val = k.val; omega)]
  exact extractStridedSlice_apply ![0, 0] x slices_S2x1024_S1x1024_0_0 (ix2 0 k) (ix2 0 k) fun a => by
    match a with
    | ⟨0, _⟩ => rfl
    | ⟨1, _⟩ => show k.val = 0 + k.val; omega

theorem V_stream (i : Fin 16384) (k : Fin 1024) : V m c main_v0 (ix2 i k) = argH m c (ix3 (seqOf i) (posOf i) k) := by
  entry_read
  exact rows_apply (φ := .f32) (argH m c) i k

theorem V_second (i : Fin 16384) (k : Fin 512) : V m c main_v1 (ix2 i k) = argB m c (ix3 (seqOf i) (posOf i) k) := by
  entry_read
  exact halves_apply (φ := .bf16) (argB m c) i k

theorem V_gainFfn (k : Fin 1024) : V m c main_v4 (ix2 0 k) = argNf m c (ix2 0 k) := by
  entry_read
  exact gain_apply _ k

theorem V_gainPle (k : Fin 1024) : V m c main_v7 (ix2 0 k) = argNp m c (ix2 0 k) := by
  entry_read
  exact gain_apply _ k

theorem V_embed (i : Fin 16384) (k : Fin 256) : V m c main_v8 (ix3 0 i k) = argP m c (ix4 0 (seqOf i) (posOf i) k) := by
  entry_read
  exact shapeCast_apply _ _ (ix3 0 i k) (ix4 0 (seqOf i) (posOf i) k) (by
    rw [Shape.rowMajor_val_four, Shape.rowMajor_val_three]
    show ((0 * 8 + (seqOf i).val) * 2048 + (posOf i).val) * 256 + k.val = (0 * 16384 + i.val) * 256 + k.val
    have := seq_pos i
    omega)

/-! ## The matrices on chip -/

theorem w0_apply (d : Fin 1024) (k : Fin 1024) : w0 m c (ix2 d k) = argWo m c (ix3 0 d k) := by
  unfold w0; rw [V_kept m c main_arg11 (by decide)]; rfl
theorem w1_apply (d : Fin 1024) (k : Fin 2816) : w1 m c (ix2 d k) = argWg m c (ix3 0 d k) := by
  unfold w1; rw [V_kept m c main_arg4 (by decide)]; rfl
theorem w2_apply (d : Fin 1024) (k : Fin 2816) : w2 m c (ix2 d k) = argWu m c (ix3 0 d k) := by
  unfold w2; rw [V_kept m c main_arg5 (by decide)]; rfl
theorem w3_apply (d : Fin 2816) (k : Fin 1024) : w3 m c (ix2 d k) = argWd m c (ix3 0 d k) := by
  unfold w3; rw [V_kept m c main_arg6 (by decide)]; rfl
theorem w4_apply (d : Fin 1024) (k : Fin 1024) : w4 m c (ix2 d k) = argPg m c (ix3 0 d k) := by
  unfold w4; rw [V_kept m c main_arg9 (by decide)]; rfl
theorem w5_apply (d : Fin 256) (k : Fin 1024) : w5 m c (ix2 d k) = argPp m c (ix3 0 d k) := by
  unfold w5; rw [V_kept m c main_arg10 (by decide)]; rfl

/-! ## The blocks -/

/-- Point `t`'s blocks of tokens begin at row `512 t`; the first mixer's are by sequence and quarter. -/
theorem index0 : ∀ t : Fin cfg0.N, win0_0.index t = ![t.val, 0] := (by decide +kernel : ∀ t : Fin grid0.N, win0_0.index t = ![t.val, 0])
theorem index1 : ∀ t : Fin cfg0.N, win0_1.index t = ![t.val / 4, 0, t.val % 4] := (by decide +kernel : ∀ t : Fin grid0.N, win0_1.index t = ![t.val / 4, 0, t.val % 4])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, t.val, 0] := (by decide +kernel : ∀ t : Fin grid0.N, win0_5.index t = ![0, t.val, 0])
theorem index6 : ∀ t : Fin cfg0.N, win0_6.index t = ![t.val, 0] := (by decide +kernel : ∀ t : Fin grid0.N, win0_6.index t = ![t.val, 0])

/-- The number of tiles. -/
theorem points : cfg0.N = 32 := by decide +kernel

/-- Row `r` of point `t`'s tile, among all rows. -/
def rowAt (t : Fin cfg0.N) (r : Fin 512) : Fin 16384 := ⟨t.val * 512 + r.val, by
  have : t.val < 32 := lt_of_lt_of_eq t.isLt points
  have := r.isLt
  omega⟩

theorem blk_stream (t : Fin cfg0.N) (r : Fin 512) (k : Fin 1024) :
    iblk m c 0 t (ix2 r k) = argH m c (ix3 (seqOf (rowAt t r)) (posOf (rowAt t r)) k) := by
  rw [← V_stream m c]
  unfold iblk
  rw [View.read_apply]
  refine congrArg (V m c main_v0) (funext fun x => Fin.ext ?_)
  match x with
  | ⟨0, _⟩ => show win0_0.index t 0 * 512 + 1 * r.val = t.val * 512 + r.val; rw [index0]; show t.val * 512 + 1 * r.val = t.val * 512 + r.val; omega
  | ⟨1, _⟩ => show win0_0.index t 1 * 1024 + 1 * k.val = k.val; rw [index0]; show 0 * 1024 + 1 * k.val = k.val; omega

theorem blk_first (t : Fin cfg0.N) (d r : Fin 512) :
    iblk m c 1 t (ix3 0 d r) = argA m c (ix3 (seqOf (rowAt t r)) d (posOf (rowAt t r))) := by
  rw [show argA m c = V m c main_arg1 from (V_kept m c main_arg1 (by decide)).symm]
  have := r.isLt
  unfold iblk
  rw [View.read_apply]
  refine congrArg (V m c main_arg1) (funext fun x => Fin.ext ?_)
  match x with
  | ⟨0, _⟩ =>
    show win0_1.index t 0 * 1 + 1 * 0 = (t.val * 512 + r.val) / 2048
    rw [index1]
    show t.val / 4 * 1 + 1 * 0 = (t.val * 512 + r.val) / 2048
    omega
  | ⟨1, _⟩ => show win0_1.index t 1 * 512 + 1 * d.val = d.val; rw [index1]; show 0 * 512 + 1 * d.val = d.val; omega
  | ⟨2, _⟩ =>
    show win0_1.index t 2 * 512 + 1 * r.val = (t.val * 512 + r.val) % 2048
    rw [index1]
    show t.val % 4 * 512 + 1 * r.val = (t.val * 512 + r.val) % 2048
    omega

theorem blk_second (t : Fin cfg0.N) (r d : Fin 512) :
    iblk m c 2 t (ix2 r d) = argB m c (ix3 (seqOf (rowAt t r)) (posOf (rowAt t r)) d) := by
  rw [← V_second m c]
  unfold iblk
  rw [View.read_apply]
  refine congrArg (V m c main_v1) (funext fun x => Fin.ext ?_)
  match x with
  | ⟨0, _⟩ => show win0_2.index t 0 * 512 + 1 * r.val = t.val * 512 + r.val; rw [index2]; show t.val * 512 + 1 * r.val = t.val * 512 + r.val; omega
  | ⟨1, _⟩ => show win0_2.index t 1 * 512 + 1 * d.val = d.val; rw [index2]; show 0 * 512 + 1 * d.val = d.val; omega

theorem blk_gainFfn (t : Fin cfg0.N) (k : Fin 1024) :
    iblk m c 3 t (ix2 0 k) = argNf m c (ix2 0 k) := by
  rw [← V_gainFfn m c]
  unfold iblk
  rw [View.read_apply]
  refine congrArg (V m c main_v4) (funext fun x => Fin.ext ?_)
  match x with
  | ⟨0, _⟩ => show win0_3.index t 0 * 1 + 1 * 0 = 0; rw [index3]; rfl
  | ⟨1, _⟩ => show win0_3.index t 1 * 1024 + 1 * k.val = k.val; rw [index3]; show 0 * 1024 + 1 * k.val = k.val; omega

theorem blk_gainPle (t : Fin cfg0.N) (k : Fin 1024) :
    iblk m c 4 t (ix2 0 k) = argNp m c (ix2 0 k) := by
  rw [← V_gainPle m c]
  unfold iblk
  rw [View.read_apply]
  refine congrArg (V m c main_v7) (funext fun x => Fin.ext ?_)
  match x with
  | ⟨0, _⟩ => show win0_4.index t 0 * 1 + 1 * 0 = 0; rw [index4]; rfl
  | ⟨1, _⟩ => show win0_4.index t 1 * 1024 + 1 * k.val = k.val; rw [index4]; show 0 * 1024 + 1 * k.val = k.val; omega

theorem blk_embed (t : Fin cfg0.N) (r : Fin 512) (k : Fin 256) :
    iblk m c 5 t (ix3 0 r k) = argP m c (ix4 0 (seqOf (rowAt t r)) (posOf (rowAt t r)) k) := by
  rw [← V_embed m c]
  unfold iblk
  rw [View.read_apply]
  refine congrArg (V m c main_v8) (funext fun x => Fin.ext ?_)
  match x with
  | ⟨0, _⟩ => show win0_5.index t 0 * 1 + 1 * 0 = 0; rw [index5]; rfl
  | ⟨1, _⟩ => show win0_5.index t 1 * 512 + 1 * r.val = t.val * 512 + r.val; rw [index5]; show t.val * 512 + 1 * r.val = t.val * 512 + r.val; omega
  | ⟨2, _⟩ => show win0_5.index t 2 * 256 + 1 * k.val = k.val; rw [index5]; show 0 * 256 + 1 * k.val = k.val; omega

/-! ## The result -/

/-- The layer of the token whose row is `i`. -/
def rowOf (i : Fin 16384) : Fin 1024 → EReal :=
  Plain.row3 (argH m c) (seqOf i) (posOf i) (argA m c) (argB m c) (argNf m c) (argWg m c) (argWu m c) (argWd m c) (argWo m c) (argNp m c) (argP m c) (argPg m c) (argPp m c)

theorem tile_apply (t : Fin cfg0.N) (r : Fin 512) (k : Fin 1024) : tileAt m c t (ix2 r k) = rowOf m c (rowAt t r) k := by
  unfold tileAt rowOf
  rw [value_apply]
  unfold Plain.row3 Plain.row2 Plain.row1
  simp only [blk_stream, blk_first, blk_second, blk_gainFfn, blk_gainPle, blk_embed, w0_apply, w1_apply, w2_apply, w3_apply, w4_apply, w5_apply]

/-- The result array. -/
def result : S16384x1024.Idx → EReal := fun i => rowOf m c (i 0) (i 1)

theorem flushed_eq (t : Fin cfg0.N) (_ : (cfg0.win 6).flush t = true) :
    (dats m 0 c).flushed 6 t = ((cfg0.win 6).blk t).view.read (Elt Ideal) (result m c) := by
  have h : (dats m 0 c).flushed 6 t = (cfg0.win 6).cut (grid0.coords t) (tileAt m c t) := by
    show (cfg0.win 6).cut (grid0.coords t) ((dats m 0 c).after 6 t) = _
    rw [after_6]
  rw [h]
  funext (i : S512x1024.Idx)
  rw [View.read_apply]
  show tileAt m c t i = _
  have e0 : (((cfg0.win 6).blk t).view.emb i 0 : Fin 16384) = rowAt t (i 0) := Fin.ext (by
    show win0_6.index t 0 * 512 + 1 * (i 0).val = t.val * 512 + (i 0).val
    rw [index6]
    show t.val * 512 + 1 * (i 0).val = t.val * 512 + (i 0).val
    omega)
  have e1 : (((cfg0.win 6).blk t).view.emb i 1 : Fin 1024) = i 1 := Fin.ext (by
    show win0_6.index t 1 * 1024 + 1 * (i 1).val = (i 1).val
    rw [index6]
    show 0 * 1024 + 1 * (i 1).val = (i 1).val
    omega)
  have e : tileAt m c t i = rowOf m c (rowAt t (i 0)) (i 1) := (congrArg (tileAt m c t) (eq_ix2 i)).trans (tile_apply m c t (i 0) (i 1))
  rw [e]
  show _ = rowOf m c (((cfg0.win 6).blk t).view.emb i 0) (((cfg0.win 6).blk t).view.emb i 1)
  rw [e0, e1]

/-- The tile a row is in, as a point of the grid. -/
def point (i : Fin 16384) : Fin cfg0.N := ⟨i.val / 512, lt_of_lt_of_eq (by omega : i.val / 512 < 32) points.symm⟩

theorem arr_eq : (dats m 0 c).arrAt 6 cfg0.N = result m c :=
  (dats m 0 c).arrAt_eq_of_cover 6 (result m c) (flushed_eq m c) fun (i : S16384x1024.Idx) =>
    ⟨point (i 0), flush0_6 _, by
      show i ∈ ((View.whole main_v9).slice (win0_6.rect (point (i 0)))).set
      rw [View.set_slice_whole, Rect.mem_set_unit]
      intro a
      have h1 : (i 1 : Nat) < 1024 := (i 1).isLt
      match a with
      | ⟨0, _⟩ =>
        show win0_6.index (point (i 0)) 0 * 512 ≤ (i 0).val ∧ (i 0).val < win0_6.index (point (i 0)) 0 * 512 + 512
        rw [index6]; show (i 0).val / 512 * 512 ≤ (i 0).val ∧ (i 0).val < (i 0).val / 512 * 512 + 512; omega
      | ⟨1, _⟩ =>
        show win0_6.index (point (i 0)) 1 * 1024 ≤ (i 1).val ∧ (i 1).val < win0_6.index (point (i 0)) 1 * 1024 + 1024
        rw [index6]; show 0 * 1024 ≤ (i 1).val ∧ (i 1).val < 0 * 1024 + 1024; omega⟩

/-- The plain layer's result over the same arguments is the result array. -/
theorem plain_eq : shapeCast S16384x1024 (Plain.third (F := Ideal) (Plain.second (F := Ideal) (argH m c) (argA m c) (argB m c) (argNf m c) (argWg m c) (argWu m c) (argWd m c) (argWo m c))
      (argNp m c) (argP m c) (argPg m c) (argPp m c)) Cert.Reference3Ideal.Gen.facts.shapeCasts_S8x2048x1024_S16384x1024 = result m c := by
  refine funext fun i => ?_
  rw [eq_ix2 i]
  exact Plain.result_apply _ _ _ _ _ _ _ _ _ _ _ _ _ _ (i 0) (i 1) (seq_pos (i 0))

end Cert.EvenPost

end
-- ==== Proof.EvenEquation.lean ====
/-
  The even layer's call after the mixers and its plain layer end with equal arrays.
-/
module

public import proofs.«01_k».proof.Proof.EvenFrames
public import proofs.«01_k».proof.Proof.EvenArray

@[expose] public section

noncomputable section

namespace Cert.EvenPost

open Idealize.ShloMosaic Idealize.ShloMosaic.TcCoe Idealize.SL.Sem

/-- From memories with the same arguments, both programs end with the layer of every token. -/
theorem algebraic : Cert.algebraic_Kernel3Ideal_Reference3Ideal (hKernel3Ideal := Cert.Kernel3Ideal.Gen.facts)
    (hReference3Ideal := Cert.Reference3Ideal.Gen.facts) := by
  intro m g m' g' _ hargs
  refine ⟨fun c => (dats m 0 c).arrAt 6 Cert.Kernel3Ideal.cfg0.N,
    (θ_run Cert.Kernel3Ideal.defs _ _).mono (fun r h c => ⟨(h.1 c).1 6, args_end m r h.1 c⟩) (run_main m g), ?_⟩
  refine (θ_run _ _ _).mono (fun r h c => ⟨(h c).1.trans ?_, (h c).2⟩) (Plain.run m' g')
  obtain ⟨e0, e1, e2, e3, e4, e5, e6, e7, e8, e9, e10, e11⟩ := hargs c
  rw [e0, e1, e2, e3, e4, e5, e6, e7, e8, e9, e10, e11]
  exact (plain_eq m c).trans (arr_eq m c).symm

end Cert.EvenPost

end
-- ==== Proof.OddLoad.lean ====
/-
  The four weight matrices of the odd layer's call before its mixer, brought on chip at the first grid point: each of the
  call's four loops is the loop of Copy.lean at its own matrix.
-/
module

public import proofs.«01_k».proof.Proof.Gen.Kernel4Ideal
public import proofs.«01_k».proof.Proof.Gen.Kernel4Ideal.Launch
public import proofs.«01_k».proof.Proof.Gen.Kernel4Ideal.Skeleton
public import proofs.«01_k».proof.Proof.Common
public import Idealize.ShloMosaic.Lib.Pipeline.Value
public import Idealize.ShloMosaic.Lib.ValueIdx
public import Idealize.ShloMosaic.Lib.WritesUnit
public import Idealize.ShloMosaic.Lib.Pipeline.ValueKit.Tiles
public import Idealize.ShloMosaic.Lib.Pipeline.FrameBody
public import Idealize.ShloMosaic.Lib.Ring
public import Idealize.ShloMosaic.Lib.Tactic

@[expose] public section

noncomputable section

namespace Cert.OddPre

open Cert.Kernel4Ideal Cert.Kernel4Ideal.Gen Cert.Post
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The buffers the call is given, every one of the windows' and of the scratch whole. -/
structure Refs where
  (a1 : Memref sig .tc .vmem S512x1024 .f32) (h1 : a1.IsWhole) (a2 : Memref sig .tc .vmem S1x1024 .f32) (h2 : a2.IsWhole)
  (a3 : Memref sig .tc .vmem S1x1024 .f32) (h3 : a3.IsWhole) (a4 : Memref sig .tc .vmem S512x128 .f32) (h4 : a4.IsWhole)
  (a5 : Memref sig .tc .vmem S512x128 .f32) (h5 : a5.IsWhole) (a6 : Memref sig .tc .hbm S2x1024x2816 .f32)
  (h6 : a6.IsWhole) (a7 : Memref sig .tc .hbm S2x1024x2816 .f32) (h7 : a7.IsWhole)
  (a8 : Memref sig .tc .hbm S2x2816x1024 .f32) (h8 : a8.IsWhole) (a9 : Memref sig .tc .hbm S1x1024x3072 .f32)
  (h9 : a9.IsWhole) (a10 : Memref sig .tc .vmem S512x1024 .f32) (h10 : a10.IsWhole)
  (a11 : Memref sig .tc .vmem S512x1024 .f32) (h11 : a11.IsWhole) (a12 : Memref sig .tc .vmem S512x1024 .f32)
  (h12 : a12.IsWhole) (a13 : Memref sig .tc .vmem S512x1024 .f32) (h13 : a13.IsWhole)
  (a14 : Memref sig .tc .vmem S1024x2816 .bf16) (h14 : a14.IsWhole) (a15 : Memref sig .tc .vmem S1024x2816 .bf16)
  (h15 : a15.IsWhole) (a16 : Memref sig .tc .vmem S2816x1024 .bf16) (h16 : a16.IsWhole)
  (a17 : Memref sig .tc .vmem S1024x3072 .bf16) (h17 : a17.IsWhole) (a18 : Memref sig .tc .vmem S8x64x3072 .f32)
  (h18 : a18.IsWhole) (a19 : DmaSems sig S8)

/-- A text of the call at its buffers. -/
abbrev Refs.on {β : Sort _} (A : Refs) (f : ∀ (a1 : Memref sig .tc .vmem S512x1024 .f32) (h1 : a1.IsWhole) (a2 : Memref sig .tc .vmem S1x1024 .f32) (h2 : a2.IsWhole)
    (a3 : Memref sig .tc .vmem S1x1024 .f32) (h3 : a3.IsWhole) (a4 : Memref sig .tc .vmem S512x128 .f32) (h4 : a4.IsWhole)
    (a5 : Memref sig .tc .vmem S512x128 .f32) (h5 : a5.IsWhole) (a6 : Memref sig .tc .hbm S2x1024x2816 .f32)
    (h6 : a6.IsWhole) (a7 : Memref sig .tc .hbm S2x1024x2816 .f32) (h7 : a7.IsWhole)
    (a8 : Memref sig .tc .hbm S2x2816x1024 .f32) (h8 : a8.IsWhole) (a9 : Memref sig .tc .hbm S1x1024x3072 .f32)
    (h9 : a9.IsWhole) (a10 : Memref sig .tc .vmem S512x1024 .f32) (h10 : a10.IsWhole)
    (a11 : Memref sig .tc .vmem S512x1024 .f32) (h11 : a11.IsWhole) (a12 : Memref sig .tc .vmem S512x1024 .f32)
    (h12 : a12.IsWhole) (a13 : Memref sig .tc .vmem S512x1024 .f32) (h13 : a13.IsWhole)
    (a14 : Memref sig .tc .vmem S1024x2816 .bf16) (h14 : a14.IsWhole) (a15 : Memref sig .tc .vmem S1024x2816 .bf16)
    (h15 : a15.IsWhole) (a16 : Memref sig .tc .vmem S2816x1024 .bf16) (h16 : a16.IsWhole)
    (a17 : Memref sig .tc .vmem S1024x3072 .bf16) (h17 : a17.IsWhole) (a18 : Memref sig .tc .vmem S8x64x3072 .f32)
    (h18 : a18.IsWhole) (a19 : DmaSems sig S8), β) : β :=
  f A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19

variable (i : grid0.Coords) (A : Refs)

/-! ## Loop 1: the gate projection -/

theorem at1 : ∀ t : Fin k0_t1_loop.trips, (k0_cond2 t = 1#1 ↔ (t : ℕ) + 7 < 16) ∧ (k0_off1 t = ![((t : ℕ) + 7) % 8] ∧ k0_off2 t = ![((t : ℕ) + 7) % 8, 0, 0]
    ∧ k0_off3 t = ![1, 64 * ((t : ℕ) + 7), 0])
    ∧ k0_off4 t = ![(t : ℕ) % 8] ∧ k0_off7 t = ![(t : ℕ) % 8, 0, 0] ∧ k0_off8 t = ![64 * (t : ℕ), 0] := by
  decide +kernel

theorem body1_eq (h : k0_cond1 i = 1#1) (t : Fin k0_t1_loop.trips) (u : Unit) :
    A.on (k0_t1_body (F := F) i) h t u
      = trip (L := 2) (R := 1024) (C := 2816) A.a6 A.a18 A.a19 A.a14 (k0_cond2 t = 1#1) (k0_off1 t) (k0_off2 t) (k0_off3 t) (k0_off4 t) (k0_off5 t) (k0_off6 t) (k0_off7 t) (k0_off8 t)
        (k0_off1_inb i t h) (k0_off2_inb i t h) (k0_off3_inb i t h) (k0_off4_inb i t h) (k0_off5_inb i t h) (k0_off6_inb i t h) (k0_off7_inb i t h) (k0_off8_inb i t h)
        squeezes_S1x64x2816_S64x2816 k0_pay5 k0_pay8 (Scf.iv 0#32 1#32 t) (View.loadsAt_vmem h_S1x64x2816) (View.loadsAt_vmem h_S64x2816)
        (View.stores_vmem h_S64x2816 (A.h14.storeExact_slice rfl _ (k0_off8_packedbf16 i t h)) (fun _ => rfl)) := by
  unfold Refs.on k0_t1_body
  rw [k0_part1_eq_skeleton]
  rfl

theorem wp_loop1 (c : Dev nD) (X : Buf (Elt F) (A.a6.view.loc (c : Thread nD τ))) (h : k0_cond1 i = 1#1) :
    state c A.a6 A.a18 A.a19 A.a14 X 1 (before 16 0) 0
      ⊢ wp frame (wpE (defs₀ (F := F)) Variants.none c none) Set.univ
        (Scf.Loop.for k0_t1_loop (k0_t1_ok i h) ⟨⟩ (A.on (k0_t1_body i) h))
        (fun _ => state c A.a6 A.a18 A.a19 A.a14 X 1 (fun _ => none) 16) := by
  refine wp_matrix c A.a6 A.a18 A.a19 A.a14 X 1 16 _ _ _ _ (by decide) _ fun t u => ?_
  obtain ⟨hc, h123, h4, h7, h8⟩ := at1 t
  rw [body1_eq]
  exact wp_trip c A.a6 A.a18 A.a19 A.a14 X 1 _ _ _ _ _ _ _ _ _ _ _ _ _ _ _ _ _ _ _ _ _ _ _ _ 16 t t.isLt h_S64x2816 hc (fun _ => h123) h4 h7 h8
    (pay_apply _ _)

/-! ## Loop 2: the up projection -/

theorem at2 : ∀ t : Fin k0_t2_loop.trips, (k0_cond3 t = 1#1 ↔ (t : ℕ) + 7 < 16) ∧ (k0_off9 t = ![((t : ℕ) + 7) % 8] ∧ k0_off10 t = ![((t : ℕ) + 7) % 8, 0, 0]
    ∧ k0_off11 t = ![1, 64 * ((t : ℕ) + 7), 0])
    ∧ k0_off12 t = ![(t : ℕ) % 8] ∧ k0_off15 t = ![(t : ℕ) % 8, 0, 0] ∧ k0_off16 t = ![64 * (t : ℕ), 0] := by
  decide +kernel

theorem body2_eq (h : k0_cond1 i = 1#1) (t : Fin k0_t2_loop.trips) (u : Unit) :
    A.on (k0_t2_body (F := F) i) h t u
      = trip (L := 2) (R := 1024) (C := 2816) A.a7 A.a18 A.a19 A.a15 (k0_cond3 t = 1#1) (k0_off9 t) (k0_off10 t) (k0_off11 t) (k0_off12 t) (k0_off13 t) (k0_off14 t) (k0_off15 t) (k0_off16 t)
        (k0_off9_inb i t h) (k0_off10_inb i t h) (k0_off11_inb i t h) (k0_off12_inb i t h) (k0_off13_inb i t h) (k0_off14_inb i t h) (k0_off15_inb i t h) (k0_off16_inb i t h)
        squeezes_S1x64x2816_S64x2816 k0_pay6 k0_pay9 (Scf.iv 0#32 1#32 t) (View.loadsAt_vmem h_S1x64x2816) (View.loadsAt_vmem h_S64x2816)
        (View.stores_vmem h_S64x2816 (A.h15.storeExact_slice rfl _ (k0_off16_packedbf16 i t h)) (fun _ => rfl)) := by
  unfold Refs.on k0_t2_body
  rw [k0_part2_eq_skeleton]
  rfl

theorem wp_loop2 (c : Dev nD) (X : Buf (Elt F) (A.a7.view.loc (c : Thread nD τ))) (h : k0_cond1 i = 1#1) :
    state c A.a7 A.a18 A.a19 A.a15 X 1 (before 16 0) 0
      ⊢ wp frame (wpE (defs₀ (F := F)) Variants.none c none) Set.univ
        (Scf.Loop.for k0_t2_loop (k0_t2_ok i h) ⟨⟩ (A.on (k0_t2_body i) h))
        (fun _ => state c A.a7 A.a18 A.a19 A.a15 X 1 (fun _ => none) 16) := by
  refine wp_matrix c A.a7 A.a18 A.a19 A.a15 X 1 16 _ _ _ _ (by decide) _ fun t u => ?_
  obtain ⟨hc, h123, h4, h7, h8⟩ := at2 t
  rw [body2_eq]
  exact wp_trip c A.a7 A.a18 A.a19 A.a15 X 1 _ _ _ _ _ _ _ _ _ _ _ _ _ _ _ _ _ _ _ _ _ _ _ _ 16 t t.isLt h_S64x2816 hc (fun _ => h123) h4 h7 h8
    (pay_apply _ _)

/-! ## Loop 3: the down projection -/

theorem at3 : ∀ t : Fin k0_t3_loop.trips, (k0_cond4 t = 1#1 ↔ (t : ℕ) + 7 < 44) ∧ (k0_off17 t = ![((t : ℕ) + 7) % 8] ∧ k0_off18 t = ![((t : ℕ) + 7) % 8, 0, 0]
    ∧ k0_off19 t = ![1, 64 * ((t : ℕ) + 7), 0])
    ∧ k0_off20 t = ![(t : ℕ) % 8] ∧ k0_off23 t = ![(t : ℕ) % 8, 0, 0] ∧ k0_off24 t = ![64 * (t : ℕ), 0] := by
  decide +kernel

theorem body3_eq (h : k0_cond1 i = 1#1) (t : Fin k0_t3_loop.trips) (u : Unit) :
    A.on (k0_t3_body (F := F) i) h t u
      = trip (L := 2) (R := 2816) (C := 1024) A.a8 A.a18 A.a19 A.a16 (k0_cond4 t = 1#1) (k0_off17 t) (k0_off18 t) (k0_off19 t) (k0_off20 t) (k0_off21 t) (k0_off22 t) (k0_off23 t) (k0_off24 t)
        (k0_off17_inb i t h) (k0_off18_inb i t h) (k0_off19_inb i t h) (k0_off20_inb i t h) (k0_off21_inb i t h) (k0_off22_inb i t h) (k0_off23_inb i t h) (k0_off24_inb i t h)
        squeezes_S1x64x1024_S64x1024 k0_pay7 k0_pay11 (Scf.iv 0#32 1#32 t) (View.loadsAt_vmem h_S1x64x1024) (View.loadsAt_vmem h_S64x1024)
        (View.stores_vmem h_S64x1024 (A.h16.storeExact_slice rfl _ (k0_off24_packedbf16 i t h)) (fun _ => rfl)) := by
  unfold Refs.on k0_t3_body
  rw [k0_part3_eq_skeleton]
  rfl

theorem wp_loop3 (c : Dev nD) (X : Buf (Elt F) (A.a8.view.loc (c : Thread nD τ))) (h : k0_cond1 i = 1#1) :
    state c A.a8 A.a18 A.a19 A.a16 X 1 (before 44 0) 0
      ⊢ wp frame (wpE (defs₀ (F := F)) Variants.none c none) Set.univ
        (Scf.Loop.for k0_t3_loop (k0_t3_ok i h) ⟨⟩ (A.on (k0_t3_body i) h))
        (fun _ => state c A.a8 A.a18 A.a19 A.a16 X 1 (fun _ => none) 44) := by
  refine wp_matrix c A.a8 A.a18 A.a19 A.a16 X 1 44 _ _ _ _ (by decide) _ fun t u => ?_
  obtain ⟨hc, h123, h4, h7, h8⟩ := at3 t
  rw [body3_eq]
  exact wp_trip c A.a8 A.a18 A.a19 A.a16 X 1 _ _ _ _ _ _ _ _ _ _ _ _ _ _ _ _ _ _ _ _ _ _ _ _ 44 t t.isLt h_S64x1024 hc (fun _ => h123) h4 h7 h8
    (pay_apply _ _)

/-! ## Loop 4: the input projections -/

theorem at4 : ∀ t : Fin k0_t4_loop.trips, (k0_cond6 t = 1#1 ↔ (t : ℕ) + 7 < 16) ∧ (k0_off25 t = ![((t : ℕ) + 7) % 8] ∧ k0_off26 t = ![((t : ℕ) + 7) % 8, 0, 0]
    ∧ k0_off27 t = ![0, 64 * ((t : ℕ) + 7), 0])
    ∧ k0_off28 t = ![(t : ℕ) % 8] ∧ k0_off31 t = ![(t : ℕ) % 8, 0, 0] ∧ k0_off32 t = ![64 * (t : ℕ), 0] := by
  decide +kernel

theorem body4_eq (h : k0_cond5 i = 1#1) (t : Fin k0_t4_loop.trips) (u : Unit) :
    A.on (k0_t4_body (F := F) i) h t u
      = trip (L := 1) (R := 1024) (C := 3072) A.a9 A.a18 A.a19 A.a17 (k0_cond6 t = 1#1) (k0_off25 t) (k0_off26 t) (k0_off27 t) (k0_off28 t) (k0_off29 t) (k0_off30 t) (k0_off31 t) (k0_off32 t)
        (k0_off25_inb i t h) (k0_off26_inb i t h) (k0_off27_inb i t h) (k0_off28_inb i t h) (k0_off29_inb i t h) (k0_off30_inb i t h) (k0_off31_inb i t h) (k0_off32_inb i t h)
        squeezes_S1x64x3072_S64x3072 k0_pay10 k0_pay12 (Scf.iv 0#32 1#32 t) (View.loadsAt_vmem h_S1x64x3072) (View.loadsAt_vmem h_S64x3072)
        (View.stores_vmem h_S64x3072 (A.h17.storeExact_slice rfl _ (k0_off32_packedbf16 i t h)) (fun _ => rfl)) := by
  unfold Refs.on k0_t4_body
  rw [k0_part9_eq_skeleton]
  rfl

theorem wp_loop4 (c : Dev nD) (X : Buf (Elt F) (A.a9.view.loc (c : Thread nD τ))) (h : k0_cond5 i = 1#1) :
    state c A.a9 A.a18 A.a19 A.a17 X 0 (before 16 0) 0
      ⊢ wp frame (wpE (defs₀ (F := F)) Variants.none c none) Set.univ
        (Scf.Loop.for k0_t4_loop (k0_t4_ok i h) ⟨⟩ (A.on (k0_t4_body i) h))
        (fun _ => state c A.a9 A.a18 A.a19 A.a17 X 0 (fun _ => none) 16) := by
  refine wp_matrix c A.a9 A.a18 A.a19 A.a17 X 0 16 _ _ _ _ (by decide) _ fun t u => ?_
  obtain ⟨hc, h123, h4, h7, h8⟩ := at4 t
  rw [body4_eq]
  exact wp_trip c A.a9 A.a18 A.a19 A.a17 X 0 _ _ _ _ _ _ _ _ _ _ _ _ _ _ _ _ _ _ _ _ _ _ _ _ 16 t t.isLt h_S64x3072 hc (fun _ => h123) h4 h7 h8
    (pay_apply _ _)

end Cert.OddPre
-- ==== Proof.OddParts.lean ====
/-
  The four weight matrices brought on chip at the first grid point, one after another: what each stretch of the call's
  text does to the ring, the arrays and the matrices, and so what all of it does.
-/
module

public import proofs.«01_k».proof.Proof.OddLoad

@[expose] public section

noncomputable section

namespace Cert.OddPre

open Cert.Kernel4Ideal Cert.Kernel4Ideal.Gen Cert.Post
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

variable (i : grid0.Coords) (A : Refs)

theorem part4_eq :
    A.on (k0_part4 (F := F) i)
      = primes A.a6 A.a18 A.a19 1 (by decide) (by decide) squeezes_S1x64x2816_S64x2816 [⟨0, by decide⟩, ⟨1, by decide⟩, ⟨2, by decide⟩, ⟨3, by decide⟩] := by
  unfold Refs.on
  rw [k0_part4_eq_skeleton]
  rfl

theorem wp_part4 (c : Dev nD) (X6 : Buf (Elt F) (A.a6.view.loc (c : Thread nD τ))) :
    mid c A.a6 A.a18 A.a19 X6 1 (upTo 0)
      ⊢ wp frame (wpE (defs₀ (F := F)) Variants.none c none) Set.univ (A.on (k0_part4 i)) (fun _ => mid c A.a6 A.a18 A.a19 X6 1 (upTo 4)) := by
  rw [part4_eq]
  exact wp_ask c A.a6 A.a18 A.a19 X6 1 _ _ _ h_S64x2816 _ _ _ (by decide) (by decide) (by decide)

theorem part5_eq (h : k0_cond1 i = 1#1) :
    A.on (k0_part5 (F := F) i) h
      = (primes A.a6 A.a18 A.a19 1 (by decide) (by decide) squeezes_S1x64x2816_S64x2816 [⟨4, by decide⟩, ⟨5, by decide⟩, ⟨6, by decide⟩] >>= fun _ =>
        Scf.Loop.for k0_t1_loop (k0_t1_ok i h) ⟨⟩ (A.on (k0_t1_body i) h) >>= fun _ =>
        primes A.a7 A.a18 A.a19 1 (by decide) (by decide) squeezes_S1x64x2816_S64x2816 [⟨0, by decide⟩]) := by
  unfold Refs.on
  rw [k0_part5_eq_skeleton]
  rfl

theorem wp_part5 (c : Dev nD) (h : k0_cond1 i = 1#1) (X6 : Buf (Elt F) (A.a6.view.loc (c : Thread nD τ))) (X7 : Buf (Elt F) (A.a7.view.loc (c : Thread nD τ))) :
    iprop(mid c A.a6 A.a18 A.a19 X6 1 (upTo 4) ∗ (blank (F := F) c A.a14 ∗ waits (F := F) c) ∗ whole c A.a7 X7)
      ⊢ wp frame (wpE (defs₀ (F := F)) Variants.none c none) Set.univ (A.on (k0_part5 i) h)
        (fun _ => iprop(mid c A.a7 A.a18 A.a19 X7 1 (upTo 1) ∗ (whole c A.a6 X6 ∗ ready c A.a6 A.a14 X6 1) ∗ waits (F := F) c)) := by
  rw [part5_eq]
  exact wp_turn c A.a6 A.a7 A.a18 A.a19 A.a14 X6 X7 1 1 _ _ _ h_S64x2816 _ _ _ _ 16 rfl
    (wp_loop1 i A c X6 h) _ _ _ _ (by decide) (by decide) (by rw [← upTo_long]; decide) (by decide) (by decide) h_S64x2816

theorem part6_eq :
    A.on (k0_part6 (F := F) i)
      = primes A.a7 A.a18 A.a19 1 (by decide) (by decide) squeezes_S1x64x2816_S64x2816 [⟨1, by decide⟩, ⟨2, by decide⟩, ⟨3, by decide⟩, ⟨4, by decide⟩] := by
  unfold Refs.on
  rw [k0_part6_eq_skeleton]
  rfl

theorem wp_part6 (c : Dev nD) (X7 : Buf (Elt F) (A.a7.view.loc (c : Thread nD τ))) :
    mid c A.a7 A.a18 A.a19 X7 1 (upTo 1)
      ⊢ wp frame (wpE (defs₀ (F := F)) Variants.none c none) Set.univ (A.on (k0_part6 i)) (fun _ => mid c A.a7 A.a18 A.a19 X7 1 (upTo 5)) := by
  rw [part6_eq]
  exact wp_ask c A.a7 A.a18 A.a19 X7 1 _ _ _ h_S64x2816 _ _ _ (by decide) (by decide) (by decide)

theorem part7_eq (h : k0_cond1 i = 1#1) :
    A.on (k0_part7 (F := F) i) h
      = (primes A.a7 A.a18 A.a19 1 (by decide) (by decide) squeezes_S1x64x2816_S64x2816 [⟨5, by decide⟩, ⟨6, by decide⟩] >>= fun _ =>
        Scf.Loop.for k0_t2_loop (k0_t2_ok i h) ⟨⟩ (A.on (k0_t2_body i) h) >>= fun _ =>
        primes A.a8 A.a18 A.a19 1 (by decide) (by decide) squeezes_S1x64x1024_S64x1024 [⟨0, by decide⟩, ⟨1, by decide⟩]) := by
  unfold Refs.on
  rw [k0_part7_eq_skeleton]
  rfl

theorem wp_part7 (c : Dev nD) (h : k0_cond1 i = 1#1) (X7 : Buf (Elt F) (A.a7.view.loc (c : Thread nD τ))) (X8 : Buf (Elt F) (A.a8.view.loc (c : Thread nD τ))) :
    iprop(mid c A.a7 A.a18 A.a19 X7 1 (upTo 5) ∗ (blank (F := F) c A.a15 ∗ waits (F := F) c) ∗ whole c A.a8 X8)
      ⊢ wp frame (wpE (defs₀ (F := F)) Variants.none c none) Set.univ (A.on (k0_part7 i) h)
        (fun _ => iprop(mid c A.a8 A.a18 A.a19 X8 1 (upTo 2) ∗ (whole c A.a7 X7 ∗ ready c A.a7 A.a15 X7 1) ∗ waits (F := F) c)) := by
  rw [part7_eq]
  exact wp_turn c A.a7 A.a8 A.a18 A.a19 A.a15 X7 X8 1 1 _ _ _ h_S64x2816 _ _ _ _ 16 rfl
    (wp_loop2 i A c X7 h) _ _ _ _ (by decide) (by decide) (by rw [← upTo_long]; decide) (by decide) (by decide) h_S64x1024

theorem part8_eq :
    A.on (k0_part8 (F := F) i)
      = primes A.a8 A.a18 A.a19 1 (by decide) (by decide) squeezes_S1x64x1024_S64x1024 [⟨2, by decide⟩, ⟨3, by decide⟩, ⟨4, by decide⟩, ⟨5, by decide⟩] := by
  unfold Refs.on
  rw [k0_part8_eq_skeleton]
  rfl

theorem wp_part8 (c : Dev nD) (X8 : Buf (Elt F) (A.a8.view.loc (c : Thread nD τ))) :
    mid c A.a8 A.a18 A.a19 X8 1 (upTo 2)
      ⊢ wp frame (wpE (defs₀ (F := F)) Variants.none c none) Set.univ (A.on (k0_part8 i)) (fun _ => mid c A.a8 A.a18 A.a19 X8 1 (upTo 6)) := by
  rw [part8_eq]
  exact wp_ask c A.a8 A.a18 A.a19 X8 1 _ _ _ h_S64x1024 _ _ _ (by decide) (by decide) (by decide)

theorem part10_eq :
    A.on (k0_part10 (F := F) i)
      = primes A.a9 A.a18 A.a19 0 (by decide) (by decide) squeezes_S1x64x3072_S64x3072 [⟨0, by decide⟩, ⟨1, by decide⟩, ⟨2, by decide⟩, ⟨3, by decide⟩] := by
  unfold Refs.on
  rw [k0_part10_eq_skeleton]
  rfl

/-- The text that brings the feed-forward's three matrices on chip. -/
def fill1 (h : k0_cond1 i = 1#1) : Prog (TpuEff nD τ sig (Elt F) Λ₀ .tc) PUnit :=
  A.on (k0_part4 i) >>= fun _ =>
  A.on (k0_part5 i) h >>= fun _ =>
  A.on (k0_part6 i) >>= fun _ =>
  A.on (k0_part7 i) h >>= fun _ =>
  A.on (k0_part8 i) >>= fun _ =>
  primes A.a8 A.a18 A.a19 1 (by decide) (by decide) squeezes_S1x64x1024_S64x1024 [⟨6, by decide⟩] >>= fun _ =>
  Scf.Loop.for k0_t3_loop (k0_t3_ok i h) ⟨⟩ (A.on (k0_t3_body i) h)

theorem wp_fill1 (c : Dev nD) (h : k0_cond1 i = 1#1) (X6 : Buf (Elt F) (A.a6.view.loc (c : Thread nD τ))) (X7 : Buf (Elt F) (A.a7.view.loc (c : Thread nD τ))) (X8 : Buf (Elt F) (A.a8.view.loc (c : Thread nD τ))) :
    iprop(pool (F := F) c A.a18 A.a19 ∗ (whole c A.a6 X6 ∗ whole c A.a7 X7 ∗ whole c A.a8 X8) ∗ (blank (F := F) c A.a14 ∗ blank (F := F) c A.a15 ∗ blank (F := F) c A.a16) ∗ waits (F := F) c)
      ⊢ wp frame (wpE (defs₀ (F := F)) Variants.none c none) Set.univ (fill1 i A h)
        (fun _ => iprop(pool (F := F) c A.a18 A.a19 ∗ (whole c A.a6 X6 ∗ whole c A.a7 X7 ∗ whole c A.a8 X8) ∗ (ready c A.a6 A.a14 X6 1 ∗ ready c A.a7 A.a15 X7 1 ∗ ready c A.a8 A.a16 X8 1) ∗ waits (F := F) c)) := by
  unfold fill1
  iintro ⟨Hp, ⟨A6, A7, A8⟩, ⟨B14, B15, B16⟩, HW⟩
  rw [wp_bind]
  ihave Hm := (mid_open c A.a6 A.a18 A.a19 X6 1) $$ [Hp A6]
  · isplitl [Hp]; · iexact Hp
    iexact A6
  iapply (wp_wand_r frame (wpE (defs₀ (F := F)) Variants.none c none) Set.univ)
  isplitl [Hm]
  · iapply (wp_part4 i A c X6)
    iexact Hm
  iintro %_ Hm
  rw [wp_bind]
  iapply (wp_wand_r frame (wpE (defs₀ (F := F)) Variants.none c none) Set.univ)
  isplitl [Hm B14 HW A7]
  · iapply (wp_part5 i A c h X6 X7)
    isplitl [Hm]; · iexact Hm
    isplitl [B14 HW]
    · isplitl [B14]; · iexact B14
      iexact HW
    iexact A7
  iintro %_ ⟨Hm, ⟨A6, R14⟩, HW⟩
  rw [wp_bind]
  iapply (wp_wand_r frame (wpE (defs₀ (F := F)) Variants.none c none) Set.univ)
  isplitl [Hm]
  · iapply (wp_part6 i A c X7)
    iexact Hm
  iintro %_ Hm
  rw [wp_bind]
  iapply (wp_wand_r frame (wpE (defs₀ (F := F)) Variants.none c none) Set.univ)
  isplitl [Hm B15 HW A8]
  · iapply (wp_part7 i A c h X7 X8)
    isplitl [Hm]; · iexact Hm
    isplitl [B15 HW]
    · isplitl [B15]; · iexact B15
      iexact HW
    iexact A8
  iintro %_ ⟨Hm, ⟨A7, R15⟩, HW⟩
  rw [wp_bind]
  iapply (wp_wand_r frame (wpE (defs₀ (F := F)) Variants.none c none) Set.univ)
  isplitl [Hm]
  · iapply (wp_part8 i A c X8)
    iexact Hm
  iintro %_ Hm
  iapply (wp_wand_r frame (wpE (defs₀ (F := F)) Variants.none c none) Set.univ)
  isplitl [Hm B16 HW]
  · iapply (wp_finish c A.a8 A.a18 A.a19 A.a16 X8 1 _ _ _ h_S64x1024 _ 44 rfl (wp_loop3 i A c X8 h) _ (upTo 6) (by decide) (by decide) (by rw [← upTo_down]; decide))
    isplitl [Hm]; · iexact Hm
    isplitl [B16]; · iexact B16
    iexact HW
  iintro %_ ⟨Hp, A8, R16, HW⟩
  isplitl [Hp]; · iexact Hp
  isplitl [A6 A7 A8]
  · isplitl [A6]; · iexact A6
    isplitl [A7]; · iexact A7
    iexact A8
  isplitl [R14 R15 R16]
  · isplitl [R14]; · iexact R14
    isplitl [R15]; · iexact R15
    iexact R16
  iexact HW

/-- The text that brings the projections' matrix on chip. -/
def fill2 (h : k0_cond5 i = 1#1) : Prog (TpuEff nD τ sig (Elt F) Λ₀ .tc) PUnit :=
  A.on (k0_part10 i) >>= fun _ =>
  primes A.a9 A.a18 A.a19 0 (by decide) (by decide) squeezes_S1x64x3072_S64x3072 [⟨4, by decide⟩, ⟨5, by decide⟩, ⟨6, by decide⟩] >>= fun _ =>
  Scf.Loop.for k0_t4_loop (k0_t4_ok i h) ⟨⟩ (A.on (k0_t4_body i) h)

theorem wp_fill2 (c : Dev nD) (h : k0_cond5 i = 1#1) (X9 : Buf (Elt F) (A.a9.view.loc (c : Thread nD τ))) :
    iprop((pool (F := F) c A.a18 A.a19 ∗ whole c A.a9 X9) ∗ blank (F := F) c A.a17 ∗ waits (F := F) c)
      ⊢ wp frame (wpE (defs₀ (F := F)) Variants.none c none) Set.univ (fill2 i A h)
        (fun _ => iprop(pool (F := F) c A.a18 A.a19 ∗ whole c A.a9 X9 ∗ ready c A.a9 A.a17 X9 0 ∗ waits (F := F) c)) := by
  unfold fill2
  rw [part10_eq]
  refine wp_then c ((mid_open c A.a9 A.a18 A.a19 X9 0).trans (wp_ask c A.a9 A.a18 A.a19 X9 0 _ _ _ h_S64x3072 _ _ (upTo 4) (by decide) (by decide) (by decide)))
    (fun _ => ?_) .rfl
  exact wp_finish c A.a9 A.a18 A.a19 A.a17 X9 0 _ _ _ h_S64x3072 _ 16 rfl (wp_loop4 i A c X9 h) _ _ (by decide) (by decide)
    (by rw [← upTo_long]; decide)

end Cert.OddPre
-- ==== Proof.OddBody.lean ====
/-
  The body of the call at a grid point: the weights brought on chip where the point is the first, and from then on the
  same thirteen loads and four stores at every point.
-/
module

public import proofs.«01_k».proof.Proof.OddParts

@[expose] public section

noncomputable section

namespace Cert.OddPre

open Cert.Kernel4Ideal Cert.Kernel4Ideal.Gen Cert.Post
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ (Pipeline.UD sig nD τ) ℕ

/-- The residual stream the body stores, from the words it loads. -/
def valueH (x1 : Vec F S512x1024 .f32) (x2 x3 : Vec F S1x1024 .f32) (x4 x5 : Vec F S512x128 .f32) (x14 x15 : Vec F S1024x2816 .bf16) (x16 : Vec F S2816x1024 .bf16) (x17 : Vec F S1024x3072 .bf16) : FVec F S512x1024 .f32 := k0_pay15 (k0_pay13 x1) (k0_pay14 x1 x2 x14 x15) x16
/-- The two products of the rotary embedding, and the third projection. -/
def value18 (x1 : Vec F S512x1024 .f32) (x2 x3 : Vec F S1x1024 .f32) (x4 x5 : Vec F S512x128 .f32) (x14 x15 : Vec F S1024x2816 .bf16) (x16 : Vec F S2816x1024 .bf16) (x17 : Vec F S1024x3072 .bf16) : FVec F S512x2048 .f32 := k0_pay18 (k0_pay13 x1) (k0_pay14 x1 x2 x14 x15) x16 x3 x17 x4
def value19 (x1 : Vec F S512x1024 .f32) (x2 x3 : Vec F S1x1024 .f32) (x4 x5 : Vec F S512x128 .f32) (x14 x15 : Vec F S1024x2816 .bf16) (x16 : Vec F S2816x1024 .bf16) (x17 : Vec F S1024x3072 .bf16) : FVec F S512x2048 .f32 := k0_pay19 (k0_pay13 x1) (k0_pay14 x1 x2 x14 x15) x16 x3 x17 x5
/-- The queries, the keys and the values the body stores. -/
def valueQ (x1 : Vec F S512x1024 .f32) (x2 x3 : Vec F S1x1024 .f32) (x4 x5 : Vec F S512x128 .f32) (x14 x15 : Vec F S1024x2816 .bf16) (x16 : Vec F S2816x1024 .bf16) (x17 : Vec F S1024x3072 .bf16) : FVec F S512x1024 .f32 := k0_pay2 (value18 x1 x2 x3 x4 x5 x14 x15 x16 x17) (value19 x1 x2 x3 x4 x5 x14 x15 x16 x17)
def valueK (x1 : Vec F S512x1024 .f32) (x2 x3 : Vec F S1x1024 .f32) (x4 x5 : Vec F S512x128 .f32) (x14 x15 : Vec F S1024x2816 .bf16) (x16 : Vec F S2816x1024 .bf16) (x17 : Vec F S1024x3072 .bf16) : FVec F S512x1024 .f32 := k0_pay3 (value18 x1 x2 x3 x4 x5 x14 x15 x16 x17) (value19 x1 x2 x3 x4 x5 x14 x15 x16 x17)
def valueV (x1 : Vec F S512x1024 .f32) (x2 x3 : Vec F S1x1024 .f32) (x4 x5 : Vec F S512x128 .f32) (x14 x15 : Vec F S1024x2816 .bf16) (x16 : Vec F S2816x1024 .bf16) (x17 : Vec F S1024x3072 .bf16) : FVec F S512x1024 .f32 := k0_pay4 (k0_pay16 (k0_pay13 x1) (k0_pay14 x1 x2 x14 x15) x16 x3 x17)

variable (i : grid0.Coords)
variable (arg1 : Memref sig .tc .vmem S512x1024 .f32) (harg1 : arg1.IsWhole) (arg2 : Memref sig .tc .vmem S1x1024 .f32) (harg2 : arg2.IsWhole) (arg3 : Memref sig .tc .vmem S1x1024 .f32) (harg3 : arg3.IsWhole)
  (arg4 : Memref sig .tc .vmem S512x128 .f32) (harg4 : arg4.IsWhole) (arg5 : Memref sig .tc .vmem S512x128 .f32) (harg5 : arg5.IsWhole) (arg6 : Memref sig .tc .hbm S2x1024x2816 .f32) (harg6 : arg6.IsWhole)
  (arg7 : Memref sig .tc .hbm S2x1024x2816 .f32) (harg7 : arg7.IsWhole) (arg8 : Memref sig .tc .hbm S2x2816x1024 .f32) (harg8 : arg8.IsWhole) (arg9 : Memref sig .tc .hbm S1x1024x3072 .f32) (harg9 : arg9.IsWhole)
  (arg10 : Memref sig .tc .vmem S512x1024 .f32) (harg10 : arg10.IsWhole) (arg11 : Memref sig .tc .vmem S512x1024 .f32) (harg11 : arg11.IsWhole) (arg12 : Memref sig .tc .vmem S512x1024 .f32) (harg12 : arg12.IsWhole)
  (arg13 : Memref sig .tc .vmem S512x1024 .f32) (harg13 : arg13.IsWhole) (arg14 : Memref sig .tc .vmem S1024x2816 .bf16) (harg14 : arg14.IsWhole) (arg15 : Memref sig .tc .vmem S1024x2816 .bf16) (harg15 : arg15.IsWhole)
  (arg16 : Memref sig .tc .vmem S2816x1024 .bf16) (harg16 : arg16.IsWhole) (arg17 : Memref sig .tc .vmem S1024x3072 .bf16) (harg17 : arg17.IsWhole) (arg18 : Memref sig .tc .vmem S8x64x3072 .f32) (harg18 : arg18.IsWhole) (arg19 : DmaSems sig S8)

/-- The body from its first load on. -/
def tail : Prog (TpuEff nD τ sig (Elt F) Λ₀ .tc) PUnit := do
  let x1 : Vec F S512x1024 .f32 ← Prog.lift (.load arg1 (Rect.unit (s := S512x1024) ![0, 0] S512x1024.size inb_S512x1024_S512x1024_0_0).toLoadRect (View.loadsAt_vmem h_S512x1024))
  let x2 : Vec F S1x1024 .f32 ← Prog.lift (.load arg2 (Rect.unit (s := S1x1024) ![0, 0] S1x1024.size inb_S1x1024_S1x1024_0_0).toLoadRect (View.loadsAt_vmem h_S1x1024))
  let x14 : Vec F S1024x2816 .bf16 ← Prog.lift (.load arg14 (Rect.unit (s := S1024x2816) ![0, 0] S1024x2816.size inb_S1024x2816_S1024x2816_0_0).toLoadRect (View.loadsAt_vmem h_S1024x2816))
  let x15 : Vec F S1024x2816 .bf16 ← Prog.lift (.load arg15 (Rect.unit (s := S1024x2816) ![0, 0] S1024x2816.size inb_S1024x2816_S1024x2816_0_0).toLoadRect (View.loadsAt_vmem h_S1024x2816))
  let x16 : Vec F S2816x1024 .bf16 ← Prog.lift (.load arg16 (Rect.unit (s := S2816x1024) ![0, 0] S2816x1024.size inb_S2816x1024_S2816x1024_0_0).toLoadRect (View.loadsAt_vmem h_S2816x1024))
  let _u10 : Vec F S512x1024 .f32 ← Prog.lift (.load arg10 (Rect.unit (s := S512x1024) ![0, 0] S512x1024.size inb_S512x1024_S512x1024_0_0).toLoadRect (View.loadsAt_vmem h_S512x1024))
  Prog.lift (.store arg10 (Rect.unit (s := S512x1024) ![0, 0] S512x1024.size inb_S512x1024_S512x1024_0_0) (k0_pay15 (k0_pay13 x1) (k0_pay14 x1 x2 x14 x15) x16) Finset.univ (View.stores_vmem_bits_univ h_S512x1024 rfl) (.inl rfl))
  let x3 : Vec F S1x1024 .f32 ← Prog.lift (.load arg3 (Rect.unit (s := S1x1024) ![0, 0] S1x1024.size inb_S1x1024_S1x1024_0_0).toLoadRect (View.loadsAt_vmem h_S1x1024))
  let x17 : Vec F S1024x3072 .bf16 ← Prog.lift (.load arg17 (Rect.unit (s := S1024x3072) ![0, 0] S1024x3072.size inb_S1024x3072_S1024x3072_0_0).toLoadRect (View.loadsAt_vmem h_S1024x3072))
  let x4 : Vec F S512x128 .f32 ← Prog.lift (.load arg4 (Rect.unit (s := S512x128) ![0, 0] S512x128.size inb_S512x128_S512x128_0_0).toLoadRect (View.loadsAt_vmem h_S512x128))
  let x5 : Vec F S512x128 .f32 ← Prog.lift (.load arg5 (Rect.unit (s := S512x128) ![0, 0] S512x128.size inb_S512x128_S512x128_0_0).toLoadRect (View.loadsAt_vmem h_S512x128))
  let _u11 : Vec F S512x1024 .f32 ← Prog.lift (.load arg11 (Rect.unit (s := S512x1024) ![0, 0] S512x1024.size inb_S512x1024_S512x1024_0_0).toLoadRect (View.loadsAt_vmem h_S512x1024))
  Prog.lift (.store arg11 (Rect.unit (s := S512x1024) ![0, 0] S512x1024.size inb_S512x1024_S512x1024_0_0) (valueQ x1 x2 x3 x4 x5 x14 x15 x16 x17) Finset.univ (View.stores_vmem_bits_univ h_S512x1024 rfl) (.inl rfl))
  let _u12 : Vec F S512x1024 .f32 ← Prog.lift (.load arg12 (Rect.unit (s := S512x1024) ![0, 0] S512x1024.size inb_S512x1024_S512x1024_0_0).toLoadRect (View.loadsAt_vmem h_S512x1024))
  Prog.lift (.store arg12 (Rect.unit (s := S512x1024) ![0, 0] S512x1024.size inb_S512x1024_S512x1024_0_0) (valueK x1 x2 x3 x4 x5 x14 x15 x16 x17) Finset.univ (View.stores_vmem_bits_univ h_S512x1024 rfl) (.inl rfl))
  let _u13 : Vec F S512x1024 .f32 ← Prog.lift (.load arg13 (Rect.unit (s := S512x1024) ![0, 0] S512x1024.size inb_S512x1024_S512x1024_0_0).toLoadRect (View.loadsAt_vmem h_S512x1024))
  Prog.lift (.store arg13 (Rect.unit (s := S512x1024) ![0, 0] S512x1024.size inb_S512x1024_S512x1024_0_0) (valueV x1 x2 x3 x4 x5 x14 x15 x16 x17) Finset.univ (View.stores_vmem_bits_univ h_S512x1024 rfl) (.inl rfl))
  pure ⟨⟩

theorem body_first (A : Refs) (h1 : k0_cond1 i = 1#1) (h3 : k0_cond5 i = 1#1) :
    A.on (cc0_pre_odd (F := F) i)
      = fill1 i A h1 >>= fun _ => fill2 i A h3 >>= fun _ => tail A.a1 A.a2 A.a3 A.a4 A.a5 A.a10 A.a11 A.a12 A.a13 A.a14 A.a15 A.a16 A.a17 := by
  unfold Refs.on
  rw [cc0_pre_odd_eq_skeleton]
  unfold cc0_pre_odd_skel fill1 fill2
  rw [k0_part11_eq_skeleton]
  unfold k0_part11_skel
  rw [dif_pos h1, dif_pos h3, k0_part12_eq_skeleton]
  unfold k0_part12_skel
  simp only [bind_assoc, pure_bind]
  rfl

theorem body_later (A : Refs) (h1 : ¬ k0_cond1 i = 1#1) (h3 : ¬ k0_cond5 i = 1#1) :
    A.on (cc0_pre_odd (F := F) i)
      = tail A.a1 A.a2 A.a3 A.a4 A.a5 A.a10 A.a11 A.a12 A.a13 A.a14 A.a15 A.a16 A.a17 := by
  unfold Refs.on
  rw [cc0_pre_odd_eq_skeleton]
  unfold cc0_pre_odd_skel
  rw [k0_part11_eq_skeleton]
  unfold k0_part11_skel
  rw [dif_neg h1, dif_neg h3, k0_part12_eq_skeleton]
  rfl

/-- The four windows the body fills, at anything. -/
def hollow (c : Dev nD) : sProp 𝕄 := iprop((∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d))
/-- The four windows filled. -/
def filled (c : Dev nD) (y10 y11 : Vec F S512x1024 .f32) (y12 y13 : Vec F S512x1024 .f32) : sProp 𝕄 :=
  iprop(owns (c : Thread nD τ) arg10 fullShare y10 ∗ owns (c : Thread nD τ) arg11 fullShare y11 ∗ owns (c : Thread nD τ) arg12 fullShare y12 ∗ owns (c : Thread nD τ) arg13 fullShare y13)
/-- The five windows the body reads. -/
def inputs (c : Dev nD) (x1 : Vec F S512x1024 .f32) (x2 x3 : Vec F S1x1024 .f32) (x4 x5 : Vec F S512x128 .f32) : sProp 𝕄 :=
  iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5)
/-- The four on-chip matrices at anything. -/
def blanks (c : Dev nD) : sProp 𝕄 := iprop(blank (F := F) c arg14 ∗ blank (F := F) c arg15 ∗ blank (F := F) c arg16 ∗ blank (F := F) c arg17)
/-- The four on-chip matrices at their values. -/
def weights (c : Dev nD) (x14 x15 : Vec F S1024x2816 .bf16) (x16 : Vec F S2816x1024 .bf16) (x17 : Vec F S1024x3072 .bf16) : sProp 𝕄 :=
  iprop(owns (c : Thread nD τ) arg14 fullShare x14 ∗ owns (c : Thread nD τ) arg15 fullShare x15 ∗ owns (c : Thread nD τ) arg16 fullShare x16 ∗ owns (c : Thread nD τ) arg17 fullShare x17)
/-- The four arrays whole. -/
def arrays (c : Dev nD) (X6 : Buf (Elt F) (arg6.view.loc (c : Thread nD τ))) (X7 : Buf (Elt F) (arg7.view.loc (c : Thread nD τ))) (X8 : Buf (Elt F) (arg8.view.loc (c : Thread nD τ))) (X9 : Buf (Elt F) (arg9.view.loc (c : Thread nD τ))) : sProp 𝕄 :=
  iprop(whole c arg6 X6 ∗ whole c arg7 X7 ∗ whole c arg8 X8 ∗ whole c arg9 X9)

/-- The loads and the stores: every buffer read is kept, and the outputs' hold the values. -/
theorem wp_tile (c : Dev nD) (x1 : Vec F S512x1024 .f32) (x2 x3 : Vec F S1x1024 .f32) (x4 x5 : Vec F S512x128 .f32) (x14 x15 : Vec F S1024x2816 .bf16) (x16 : Vec F S2816x1024 .bf16) (x17 : Vec F S1024x3072 .bf16) :
    iprop(weights arg14 arg15 arg16 arg17 c x14 x15 x16 x17 ∗ inputs arg1 arg2 arg3 arg4 arg5 c x1 x2 x3 x4 x5 ∗ hollow (F := F) arg10 arg11 arg12 arg13 c)
      ⊢ wp frame (wpE (defs₀ (F := F)) Variants.none c none) Set.univ (tail arg1 arg2 arg3 arg4 arg5 arg10 arg11 arg12 arg13 arg14 arg15 arg16 arg17)
          (fun _ => iprop(weights arg14 arg15 arg16 arg17 c x14 x15 x16 x17 ∗ inputs arg1 arg2 arg3 arg4 arg5 c x1 x2 x3 x4 x5 ∗ filled arg10 arg11 arg12 arg13 c (valueH x1 x2 x3 x4 x5 x14 x15 x16 x17) (valueQ x1 x2 x3 x4 x5 x14 x15 x16 x17) (valueK x1 x2 x3 x4 x5 x14 x15 x16 x17) (valueV x1 x2 x3 x4 x5 x14 x15 x16 x17))) := by
  unfold tail weights inputs hollow filled owns
  iintro ⟨⟨⟨%f14, %hf14, H14⟩, ⟨%f15, %hf15, H15⟩, ⟨%f16, %hf16, H16⟩, ⟨%f17, %hf17, H17⟩⟩, ⟨⟨%f1, %hf1, H1⟩, ⟨%f2, %hf2, H2⟩, ⟨%f3, %hf3, H3⟩, ⟨%f4, %hf4, H4⟩, ⟨%f5, %hf5, H5⟩⟩, ⟨%d10, %f10, -, H10⟩, ⟨%d11, %f11, -, H11⟩, ⟨%d12, %f12, -, H12⟩, ⟨%d13, %f13, -, H13⟩⟩
  subst hf1 hf2 hf3 hf4 hf5 hf14 hf15 hf16 hf17
  sl_exec
  sl_step
  isplitl [H14 H15 H16 H17]
  · isplitl [H14]
    · iexists f14; isplitr; · ipureintro; rfl
      iexact H14
    isplitl [H15]
    · iexists f15; isplitr; · ipureintro; rfl
      iexact H15
    isplitl [H16]
    · iexists f16; isplitr; · ipureintro; rfl
      iexact H16
    iexists f17; isplitr; · ipureintro; rfl
    iexact H17
  isplitl [H1 H2 H3 H4 H5]
  · isplitl [H1]
    · iexists f1; isplitr; · ipureintro; rfl
      iexact H1
    isplitl [H2]
    · iexists f2; isplitr; · ipureintro; rfl
      iexact H2
    isplitl [H3]
    · iexists f3; isplitr; · ipureintro; rfl
      iexact H3
    isplitl [H4]
    · iexists f4; isplitr; · ipureintro; rfl
      iexact H4
    iexists f5; isplitr; · ipureintro; rfl
    iexact H5
  isplitl [H10]
  · iexists _; isplitr
    swap; · iexact H10
    ipureintro
    refine (read_writes_all arg10.view f10 _ _ zero2 _).trans ?_
    rw [readAt_all arg1.view f1 _ _ zero2, readAt_all arg2.view f2 _ _ zero2, readAt_all arg14.view f14 _ _ zero2, readAt_all arg15.view f15 _ _ zero2, readAt_all arg16.view f16 _ _ zero2]
    rfl
  isplitl [H11]
  · iexists _; isplitr
    swap; · iexact H11
    ipureintro
    refine (read_writes_all arg11.view f11 _ _ zero2 _).trans ?_
    rw [readAt_all arg1.view f1 _ _ zero2, readAt_all arg2.view f2 _ _ zero2, readAt_all arg3.view f3 _ _ zero2, readAt_all arg4.view f4 _ _ zero2, readAt_all arg5.view f5 _ _ zero2, readAt_all arg14.view f14 _ _ zero2, readAt_all arg15.view f15 _ _ zero2, readAt_all arg16.view f16 _ _ zero2, readAt_all arg17.view f17 _ _ zero2]
  isplitl [H12]
  · iexists _; isplitr
    swap; · iexact H12
    ipureintro
    refine (read_writes_all arg12.view f12 _ _ zero2 _).trans ?_
    rw [readAt_all arg1.view f1 _ _ zero2, readAt_all arg2.view f2 _ _ zero2, readAt_all arg3.view f3 _ _ zero2, readAt_all arg4.view f4 _ _ zero2, readAt_all arg5.view f5 _ _ zero2, readAt_all arg14.view f14 _ _ zero2, readAt_all arg15.view f15 _ _ zero2, readAt_all arg16.view f16 _ _ zero2, readAt_all arg17.view f17 _ _ zero2]
  iexists _; isplitr
  swap; · iexact H13
  ipureintro
  refine (read_writes_all arg13.view f13 _ _ zero2 _).trans ?_
  rw [readAt_all arg1.view f1 _ _ zero2, readAt_all arg2.view f2 _ _ zero2, readAt_all arg3.view f3 _ _ zero2, readAt_all arg4.view f4 _ _ zero2, readAt_all arg5.view f5 _ _ zero2, readAt_all arg14.view f14 _ _ zero2, readAt_all arg15.view f15 _ _ zero2, readAt_all arg16.view f16 _ _ zero2, readAt_all arg17.view f17 _ _ zero2]

/-- The body at a point after the first. -/
theorem wp_later (A : Refs) (h1 : ¬ k0_cond1 i = 1#1) (h3 : ¬ k0_cond5 i = 1#1) (c : Dev nD) (x1 : Vec F S512x1024 .f32) (x2 x3 : Vec F S1x1024 .f32) (x4 x5 : Vec F S512x128 .f32) (x14 x15 : Vec F S1024x2816 .bf16) (x16 : Vec F S2816x1024 .bf16) (x17 : Vec F S1024x3072 .bf16) :
    iprop(weights A.a14 A.a15 A.a16 A.a17 c x14 x15 x16 x17 ∗ inputs A.a1 A.a2 A.a3 A.a4 A.a5 c x1 x2 x3 x4 x5 ∗ hollow (F := F) A.a10 A.a11 A.a12 A.a13 c)
      ⊢ wp frame (wpE (defs₀ (F := F)) Variants.none c none) Set.univ (A.on (cc0_pre_odd (F := F) i))
          (fun _ => iprop(weights A.a14 A.a15 A.a16 A.a17 c x14 x15 x16 x17 ∗ inputs A.a1 A.a2 A.a3 A.a4 A.a5 c x1 x2 x3 x4 x5 ∗ filled A.a10 A.a11 A.a12 A.a13 c (valueH x1 x2 x3 x4 x5 x14 x15 x16 x17) (valueQ x1 x2 x3 x4 x5 x14 x15 x16 x17) (valueK x1 x2 x3 x4 x5 x14 x15 x16 x17) (valueV x1 x2 x3 x4 x5 x14 x15 x16 x17))) := by
  rw [body_later i A h1 h3]
  exact wp_tile A.a1 A.a2 A.a3 A.a4 A.a5 A.a10 A.a11 A.a12 A.a13 A.a14 A.a15 A.a16 A.a17 c x1 x2 x3 x4 x5 x14 x15 x16 x17

/-- The body at the first point. -/
theorem wp_first (A : Refs) (h1 : k0_cond1 i = 1#1) (h3 : k0_cond5 i = 1#1) (c : Dev nD) (x1 : Vec F S512x1024 .f32) (x2 x3 : Vec F S1x1024 .f32) (x4 x5 : Vec F S512x128 .f32) (X6 : Buf (Elt F) (A.a6.view.loc (c : Thread nD τ))) (X7 : Buf (Elt F) (A.a7.view.loc (c : Thread nD τ))) (X8 : Buf (Elt F) (A.a8.view.loc (c : Thread nD τ))) (X9 : Buf (Elt F) (A.a9.view.loc (c : Thread nD τ))) :
    iprop(pool (F := F) c A.a18 A.a19 ∗ arrays A.a6 A.a7 A.a8 A.a9 c X6 X7 X8 X9 ∗ blanks (F := F) A.a14 A.a15 A.a16 A.a17 c ∗ waits (F := F) c ∗ inputs A.a1 A.a2 A.a3 A.a4 A.a5 c x1 x2 x3 x4 x5 ∗ hollow (F := F) A.a10 A.a11 A.a12 A.a13 c)
      ⊢ wp frame (wpE (defs₀ (F := F)) Variants.none c none) Set.univ (A.on (cc0_pre_odd (F := F) i))
          (fun _ => iprop(pool (F := F) c A.a18 A.a19 ∗ arrays A.a6 A.a7 A.a8 A.a9 c X6 X7 X8 X9 ∗ waits (F := F) c ∗ weights A.a14 A.a15 A.a16 A.a17 c (laid (A.a6.view.read (Elt F) X6) 1 (by decide)) (laid (A.a7.view.read (Elt F) X7) 1 (by decide)) (laid (A.a8.view.read (Elt F) X8) 1 (by decide)) (laid (A.a9.view.read (Elt F) X9) 0 (by decide))
            ∗ inputs A.a1 A.a2 A.a3 A.a4 A.a5 c x1 x2 x3 x4 x5 ∗ filled A.a10 A.a11 A.a12 A.a13 c (valueH x1 x2 x3 x4 x5 (laid (A.a6.view.read (Elt F) X6) 1 (by decide)) (laid (A.a7.view.read (Elt F) X7) 1 (by decide)) (laid (A.a8.view.read (Elt F) X8) 1 (by decide)) (laid (A.a9.view.read (Elt F) X9) 0 (by decide))) (valueQ x1 x2 x3 x4 x5 (laid (A.a6.view.read (Elt F) X6) 1 (by decide)) (laid (A.a7.view.read (Elt F) X7) 1 (by decide)) (laid (A.a8.view.read (Elt F) X8) 1 (by decide)) (laid (A.a9.view.read (Elt F) X9) 0 (by decide))) (valueK x1 x2 x3 x4 x5 (laid (A.a6.view.read (Elt F) X6) 1 (by decide)) (laid (A.a7.view.read (Elt F) X7) 1 (by decide)) (laid (A.a8.view.read (Elt F) X8) 1 (by decide)) (laid (A.a9.view.read (Elt F) X9) 0 (by decide))) (valueV x1 x2 x3 x4 x5 (laid (A.a6.view.read (Elt F) X6) 1 (by decide)) (laid (A.a7.view.read (Elt F) X7) 1 (by decide)) (laid (A.a8.view.read (Elt F) X8) 1 (by decide)) (laid (A.a9.view.read (Elt F) X9) 0 (by decide))))) := by
  rw [body_first i A h1 h3]
  unfold arrays blanks
  iintro ⟨Hp, ⟨A6, A7, A8, A9⟩, ⟨B14, B15, B16, B17⟩, HW, HI, HO⟩
  rw [wp_bind]
  iapply (wp_wand_r frame (wpE (defs₀ (F := F)) Variants.none c none) Set.univ)
  isplitl [Hp A6 A7 A8 B14 B15 B16 HW]
  · iapply (wp_fill1 i A c h1 X6 X7 X8)
    isplitl [Hp]; · iexact Hp
    isplitl [A6 A7 A8]
    · isplitl [A6]; · iexact A6
      isplitl [A7]; · iexact A7
      iexact A8
    isplitl [B14 B15 B16]
    · isplitl [B14]; · iexact B14
      isplitl [B15]; · iexact B15
      iexact B16
    iexact HW
  iintro %_ ⟨Hp, ⟨A6, A7, A8⟩, ⟨R14, R15, R16⟩, HW⟩
  rw [wp_bind]
  iapply (wp_wand_r frame (wpE (defs₀ (F := F)) Variants.none c none) Set.univ)
  isplitl [Hp A9 B17 HW]
  · iapply (wp_fill2 i A c h3 X9)
    isplitl [Hp A9]
    · isplitl [Hp]; · iexact Hp
      iexact A9
    isplitl [B17]; · iexact B17
    iexact HW
  iintro %_ ⟨Hp, A9, R17, HW⟩
  ihave W14 := (owns_of_ready c A.a6 A.a14 A.h14 X6 1 (by decide)) $$ R14
  ihave W15 := (owns_of_ready c A.a7 A.a15 A.h15 X7 1 (by decide)) $$ R15
  ihave W16 := (owns_of_ready c A.a8 A.a16 A.h16 X8 1 (by decide)) $$ R16
  ihave W17 := (owns_of_ready c A.a9 A.a17 A.h17 X9 0 (by decide)) $$ R17
  iapply (wp_wand_r frame (wpE (defs₀ (F := F)) Variants.none c none) Set.univ)
  isplitl [W14 W15 W16 W17 HI HO]
  · iapply (wp_tile A.a1 A.a2 A.a3 A.a4 A.a5 A.a10 A.a11 A.a12 A.a13 A.a14 A.a15 A.a16 A.a17 c x1 x2 x3 x4 x5 (laid (A.a6.view.read (Elt F) X6) 1 (by decide)) (laid (A.a7.view.read (Elt F) X7) 1 (by decide)) (laid (A.a8.view.read (Elt F) X8) 1 (by decide)) (laid (A.a9.view.read (Elt F) X9) 0 (by decide)))
    unfold weights
    isplitl [W14 W15 W16 W17]
    · isplitl [W14]; · iexact W14
      isplitl [W15]; · iexact W15
      isplitl [W16]; · iexact W16
      iexact W17
    isplitl [HI]; · iexact HI
    iexact HO
  iintro %_ ⟨HS, HI, HO⟩
  isplitl [Hp]; · iexact Hp
  isplitl [A6 A7 A8 A9]
  · isplitl [A6]; · iexact A6
    isplitl [A7]; · iexact A7
    isplitl [A8]; · iexact A8
    iexact A9
  isplitl [HW]; · iexact HW
  isplitl [HS]; · iexact HS
  isplitl [HI]; · iexact HI
  iexact HO

end Cert.OddPre
-- ==== Proof.OddRun.lean ====
/-
  The call launched: what the program leaves at every point of the grid, at any values, and so what its arrays hold when
  it ends. The weight matrices are brought on chip at the first point and are kept from then on.
-/
module

public import proofs.«01_k».proof.Proof.OddBody
public import proofs.«01_k».proof.Proof.Gen.Kernel4Ideal.Launch
public import proofs.«01_k».proof.Proof.Gen.Kernel4Ideal.Points
public import Idealize.ShloMosaic.Lib.Claim
public import Idealize.ShloMosaic.Lib.StableHlo.Run
public import Idealize.ShloMosaic.Lib.StableHlo.RunRead
public import Idealize.ShloMosaic.Lib.Pipeline.Frame

@[expose] public section

noncomputable section

namespace Cert.OddPre

open Cert.Kernel4Ideal Cert.Kernel4Ideal.Gen Cert.Post
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- A core's arrays when the call begins: after the host's reshapes, slices and tables. -/
abbrev V (c : Dev nD) (b : Ref sig .tc) : Buf (Elt F) ((c : Thread nD τ).loc b) := StableHlo.after hostOps0 (fun b => m (c, b)) b

theorem host_fresh : (hostOps0 : List (HloOp τ sig (Elt F))).Forall fun op => op.fresh = ∅ := by
  simp only [List.Forall]; repeat' constructor

set_option maxHeartbeats 1600000 in
theorem host_main (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub host_fresh main_chain

/-- The arrays the host writes. -/
abbrev hostW : List (Ref sig .tc) := [main_v0, main_v1, main_v2, main_v3, main_v4, main_v5, main_v6, main_v7, main_cst, main_v8, main_v9, main_cst_0, main_v10, main_v11, main_cst_1, main_v12, main_v13, main_cst_2, main_v14, main_v15, main_cst_3, main_v16, main_v17, main_v18, main_v19, main_v20, main_v21, main_v22, main_v23, main_v24, main_v25, main_v26, main_v27, main_v28, main_v29]

/-- An array the host writes nothing to is found as launched. -/
theorem V_kept (c : Dev nD) (b : Ref sig .tc) (h : b ∉ hostW) : V m c b = m ((c : Thread nD τ).loc b) :=
  StableHlo.after_unwritten hostW rfl h _

/-- A window's block at a point, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## What the call keeps from point to point -/

/-- The cells of the ring. -/
abbrev osem : Fin 8 → SemLoc sig := fun s => SemLoc.dma (cellAt cc0_scratch5 s)
theorem osem_own : Pipeline.OwnSemFacts spec0 osem := by decide
/-- The arrays the call itself reads. -/
def H : Finset (Ref sig .tc) := {main_arg2, main_arg3, main_arg4, main_arg6}
theorem H_rest : H ⊆ Pipeline.restRefs sig spec0 := by decide

/-- The weight matrix on chip in scratch buffer 0. -/
def w0 (c : Dev nD) : Vec F S1024x2816 .bf16 := laid (L := 2) (R := 1024) (C := 2816) (V m c main_arg2) 1 (by decide)
/-- The weight matrix on chip in scratch buffer 1. -/
def w1 (c : Dev nD) : Vec F S1024x2816 .bf16 := laid (L := 2) (R := 1024) (C := 2816) (V m c main_arg3) 1 (by decide)
/-- The weight matrix on chip in scratch buffer 2. -/
def w2 (c : Dev nD) : Vec F S2816x1024 .bf16 := laid (L := 2) (R := 2816) (C := 1024) (V m c main_arg4) 1 (by decide)
/-- The weight matrix on chip in scratch buffer 3. -/
def w3 (c : Dev nD) : Vec F S1024x3072 .bf16 := laid (L := 1) (R := 1024) (C := 3072) (V m c main_arg6) 0 (by decide)

/-- The residual stream the body leaves at a point. -/
def tileH (c : Dev nD) (t : Fin cfg0.N) : Vec F S512x1024 .f32 := valueH (iblk m c 0 t) (iblk m c 1 t) (iblk m c 2 t) (iblk m c 3 t) (iblk m c 4 t) (w0 m c) (w1 m c) (w2 m c) (w3 m c)
/-- The queries the body leaves at a point. -/
def tileQ (c : Dev nD) (t : Fin cfg0.N) : Vec F S512x1024 .f32 := valueQ (iblk m c 0 t) (iblk m c 1 t) (iblk m c 2 t) (iblk m c 3 t) (iblk m c 4 t) (w0 m c) (w1 m c) (w2 m c) (w3 m c)
/-- The keys the body leaves at a point. -/
def tileK (c : Dev nD) (t : Fin cfg0.N) : Vec F S512x1024 .f32 := valueK (iblk m c 0 t) (iblk m c 1 t) (iblk m c 2 t) (iblk m c 3 t) (iblk m c 4 t) (w0 m c) (w1 m c) (w2 m c) (w3 m c)
/-- The values the body leaves at a point. -/
def tileV (c : Dev nD) (t : Fin cfg0.N) : Vec F S512x1024 .f32 := valueV (iblk m c 0 t) (iblk m c 1 t) (iblk m c 2 t) (iblk m c 3 t) (iblk m c 4 t) (w0 m c) (w1 m c) (w2 m c) (w3 m c)

/-- The on-chip matrices: anything before the first point, their values from then on. -/
def chip (c : Dev nD) (n : ℕ) : sProp 𝕄 :=
  if n = 0 then blanks (F := F) (Memref.whole cc0_scratch0) (Memref.whole cc0_scratch1) (Memref.whole cc0_scratch2) (Memref.whole cc0_scratch3) c else weights (Memref.whole cc0_scratch0) (Memref.whole cc0_scratch1) (Memref.whole cc0_scratch2) (Memref.whole cc0_scratch3) c (w0 m c) (w1 m c) (w2 m c) (w3 m c)

/-- What the call keeps: the ring at rest, the arrays it reads, the on-chip matrices. -/
def kept (c : Dev nD) (n : ℕ) : sProp 𝕄 :=
  iprop((∃ r, prngReg c r) ∗ pool (F := F) c (Memref.whole cc0_scratch4) cc0_scratch5 ∗ arrays (Memref.whole main_arg2) (Memref.whole main_arg3) (Memref.whole main_arg4) (Memref.whole main_arg6) c (V m c main_arg2) (V m c main_arg3) (V m c main_arg4) (V m c main_arg6) ∗ chip m c n)

theorem arrays_eq (c : Dev nD) : (bigSep H (fun b => ((c : Thread nD τ).loc b) ↦{fullShare} V m c b) : sProp 𝕄)
    = arrays (Memref.whole main_arg2) (Memref.whole main_arg3) (Memref.whole main_arg4) (Memref.whole main_arg6) c (V m c main_arg2) (V m c main_arg3) (V m c main_arg4) (V m c main_arg6) := by
  unfold arrays whole
  rw [bigSep_eq_bigSepL_of_eq [main_arg2, main_arg3, main_arg4, main_arg6] (by decide) (by decide)]
  rfl

theorem kept_open (c : Dev nD) : Pipeline.ΦD osem spec0 H (V m) c ⊢ (kept m c 0 : sProp 𝕄) := by
  rw [Pipeline.ΦD_eq, scopedRest0_eq, arrays_eq]
  unfold Pipeline.ownSems0
  unfold kept chip blanks blank
  rw [if_pos rfl]
  iintro ⟨⟨S0, S1, S2, S3, S4⟩, Hg, Hs, HA⟩
  isplitl [Hg]; · iexact Hg
  isplitl [S4 Hs]
  · iapply (pool_open (F := F) c (Memref.whole cc0_scratch4) cc0_scratch5 ((Memref.isWhole_whole _).set_eq_univ))
    isplitl [S4]; · iexact S4
    iexact Hs
  isplitl [HA]; · iexact HA
  isplitl [S0]; · iexact S0
  isplitl [S1]; · iexact S1
  isplitl [S2]; · iexact S2
  iexact S3

/-- A matrix of any value is an on-chip matrix at anything. -/
theorem blank_of_owns (c : Dev nD) {R C : ℕ} (vm : Memref sig .tc .vmem (VS R C) .bf16) (hvm : vm.IsWhole) (x : Vec F (VS R C) .bf16) :
    (owns (c : Thread nD τ) vm fullShare x : sProp 𝕄) ⊢ blank (F := F) c vm := by
  unfold owns blank
  rw [hvm.set_eq_univ]
  iintro ⟨%g, -, H⟩
  iexists g
  iexact H

theorem kept_close (c : Dev nD) (n : ℕ) (hn : n ≠ 0) : (kept m c n : sProp 𝕄) ⊢ Pipeline.ΦD osem spec0 H (V m) c := by
  rw [Pipeline.ΦD_eq, scopedRest0_eq, arrays_eq]
  unfold Pipeline.ownSems0
  unfold kept chip weights
  rw [if_neg hn]
  iintro ⟨Hg, Hp, HA, W0, W1, W2, W3⟩
  ihave B0 := (blank_of_owns c (Memref.whole cc0_scratch0) (Memref.isWhole_whole _) (w0 m c)) $$ W0
  ihave B1 := (blank_of_owns c (Memref.whole cc0_scratch1) (Memref.isWhole_whole _) (w1 m c)) $$ W1
  ihave B2 := (blank_of_owns c (Memref.whole cc0_scratch2) (Memref.isWhole_whole _) (w2 m c)) $$ W2
  ihave B3 := (blank_of_owns c (Memref.whole cc0_scratch3) (Memref.isWhole_whole _) (w3 m c)) $$ W3
  ihave HP := (pool_close (F := F) c (Memref.whole cc0_scratch4) cc0_scratch5 ((Memref.isWhole_whole _).set_eq_univ)) $$ Hp
  icases HP with ⟨S4, Hs⟩
  unfold blank
  isplitl [B0 B1 B2 B3 S4]
  · isplitl [B0]; · iexact B0
    isplitl [B1]; · iexact B1
    isplitl [B2]; · iexact B2
    isplitl [B3]; · iexact B3
    iexact S4
  isplitl [Hg]; · iexact Hg
  isplitl [Hs]; · iexact Hs
  iexact HA

/-! ## The proof data -/

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileH m c t
    | ⟨6, _⟩ => tileQ m c t
    | ⟨7, _⟩ => tileK m c t
    | ⟨8, _⟩ => tileV m c t
  Φ t := kept m c t
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = tileH m c t := by dsimp only [dats]
theorem after_6 (c : Dev nD) (t : Fin cfg0.N) : (dats m 0 c).after 6 t = tileQ m c t := by dsimp only [dats]
theorem after_7 (c : Dev nD) (t : Fin cfg0.N) : (dats m 0 c).after 7 t = tileK m c t := by dsimp only [dats]
theorem after_8 (c : Dev nD) (t : Fin cfg0.N) : (dats m 0 c).after 8 t = tileV m c t := by dsimp only [dats]

theorem before_0 (c : Dev nD) (t : Fin cfg0.N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin cfg0.N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin cfg0.N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin cfg0.N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin cfg0.N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)

/-! ## The body at a point -/

theorem first_cond (t : Fin cfg0.N) : (k0_cond1 (grid0.coords t) = 1#1 ↔ (t : ℕ) = 0) ∧ (k0_cond5 (grid0.coords t) = 1#1 ↔ (t : ℕ) = 0) := by
  have h : ∀ t : Fin grid0.N, (k0_cond1 (grid0.coords t) = 1#1 ↔ (t : ℕ) = 0) ∧ (k0_cond5 (grid0.coords t) = 1#1 ↔ (t : ℕ) = 0) := by decide +kernel
  exact h t

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The buffers the call is given at a point. -/
abbrev refs (t : Fin cfg0.N) : Refs :=
  ⟨win0_0.stage (cfg0.slots t 0), hstage0_0 ((cfg0.slots t 0).cast nbuf0_0), win0_1.stage (cfg0.slots t 1),
    hstage0_1 ((cfg0.slots t 1).cast nbuf0_1), win0_2.stage (cfg0.slots t 2), hstage0_2 ((cfg0.slots t 2).cast nbuf0_2),
    win0_3.stage (cfg0.slots t 3), hstage0_3 ((cfg0.slots t 3).cast nbuf0_3), win0_4.stage (cfg0.slots t 4),
    hstage0_4 ((cfg0.slots t 4).cast nbuf0_4), Memref.whole main_arg2, Memref.isWhole_whole _, Memref.whole main_arg3,
    Memref.isWhole_whole _, Memref.whole main_arg4, Memref.isWhole_whole _, Memref.whole main_arg6, Memref.isWhole_whole _,
    win0_5.stage (cfg0.slots t 5), hstage0_5 ((cfg0.slots t 5).cast nbuf0_5), win0_6.stage (cfg0.slots t 6),
    hstage0_6 ((cfg0.slots t 6).cast nbuf0_6), win0_7.stage (cfg0.slots t 7), hstage0_7 ((cfg0.slots t 7).cast nbuf0_7),
    win0_8.stage (cfg0.slots t 8), hstage0_8 ((cfg0.slots t 8).cast nbuf0_8), Memref.whole cc0_scratch0, Memref.isWhole_whole _,
    Memref.whole cc0_scratch1, Memref.isWhole_whole _, Memref.whole cc0_scratch2, Memref.isWhole_whole _, Memref.whole cc0_scratch3,
    Memref.isWhole_whole _, Memref.whole cc0_scratch4, Memref.isWhole_whole _, cc0_scratch5⟩

/-- The waits of the core, as the pipeline states them: any will do. -/
theorem owes_open (c : Dev nD) (t : Fin (cfg0.N + 1)) : (dats m 0 c).owesAt () t ⊢ (waits (F := F) c : sProp 𝕄) := by
  unfold Dat.owesAt Pipeline.owesWithin waits
  rw [show (dats m 0 c).owed t = 0 from rfl]
  iintro ⟨%W, -, H⟩
  iexists W
  iexact H

theorem owes_close (c : Dev nD) (t : Fin (cfg0.N + 1)) : (waits (F := F) c : sProp 𝕄) ⊢ (dats m 0 c).owesAt () t := by
  unfold Dat.owesAt Pipeline.owesWithin waits
  rw [show (dats m 0 c).owed t = 0 from rfl]
  iintro ⟨%W, H⟩
  iexists W
  isplitr; · ipureintro; exact fun _ _ => Or.inl trivial
  iexact H

set_option maxHeartbeats 3200000 in
/-- The body, the first point or not: from the windows' blocks to the tiles. -/
theorem sound (c : Dev nD) (t : Fin cfg0.N) :
    iprop(kept m c t ∗ waits (F := F) c ∗ inputs (st0_0 t) (st0_1 t) (st0_2 t) (st0_3 t) (st0_4 t) c (iblk m c 0 t) (iblk m c 1 t) (iblk m c 2 t) (iblk m c 3 t) (iblk m c 4 t) ∗ hollow (F := F) (st0_5 t) (st0_6 t) (st0_7 t) (st0_8 t) c)
      ⊢ wp frame (wpE (defs₀ (F := F)) Variants.none c none) Set.univ (bodyAt0 t)
          (fun _ => iprop(kept m c (t + 1) ∗ waits (F := F) c ∗ inputs (st0_0 t) (st0_1 t) (st0_2 t) (st0_3 t) (st0_4 t) c (iblk m c 0 t) (iblk m c 1 t) (iblk m c 2 t) (iblk m c 3 t) (iblk m c 4 t) ∗ filled (st0_5 t) (st0_6 t) (st0_7 t) (st0_8 t) c (tileH m c t) (tileQ m c t) (tileK m c t) (tileV m c t))) := by
  unfold bodyAt0 kept chip
  rw [if_neg (Nat.succ_ne_zero _)]
  by_cases h0 : (t : ℕ) = 0
  · rw [if_pos h0]
    iintro ⟨⟨Hg, Hp, HA, HB⟩, HW, HI, HO⟩
    iapply (wp_wand_r frame (wpE (defs₀ (F := F)) Variants.none c none) Set.univ)
    isplitl [Hp HA HB HW HI HO]
    · iapply (wp_first (grid0.coords t) (refs t) ((first_cond t).1.mpr h0) ((first_cond t).2.mpr h0) c (iblk m c 0 t) (iblk m c 1 t) (iblk m c 2 t) (iblk m c 3 t) (iblk m c 4 t) (V m c main_arg2) (V m c main_arg3) (V m c main_arg4) (V m c main_arg6))
      isplitl [Hp]; · iexact Hp
      isplitl [HA]; · iexact HA
      isplitl [HB]; · iexact HB
      isplitl [HW]; · iexact HW
      isplitl [HI]; · iexact HI
      iexact HO
    iintro %_ ⟨Hp, HA, HW, HS, HI, HO⟩
    isplitl [Hg Hp HA HS]
    · isplitl [Hg]; · iexact Hg
      isplitl [Hp]; · iexact Hp
      isplitl [HA]; · iexact HA
      iexact HS
    isplitl [HW]; · iexact HW
    isplitl [HI]; · iexact HI
    iexact HO
  · rw [if_neg h0]
    iintro ⟨⟨Hg, Hp, HA, HS⟩, HW, HI, HO⟩
    iapply (wp_wand_r frame (wpE (defs₀ (F := F)) Variants.none c none) Set.univ)
    isplitl [HS HI HO]
    · iapply (wp_later (grid0.coords t) (refs t) (fun h => h0 ((first_cond t).1.mp h)) (fun h => h0 ((first_cond t).2.mp h)) c (iblk m c 0 t) (iblk m c 1 t) (iblk m c 2 t) (iblk m c 3 t) (iblk m c 4 t) (w0 m c) (w1 m c) (w2 m c) (w3 m c))
      isplitl [HS]; · iexact HS
      isplitl [HI]; · iexact HI
      iexact HO
    iintro %_ ⟨HS, HI, HO⟩
    isplitl [Hg Hp HA HS]
    · isplitl [Hg]; · iexact Hg
      isplitl [Hp]; · iexact Hp
      isplitl [HA]; · iexact HA
      iexact HS
    isplitl [HW]; · iexact HW
    isplitl [HI]; · iexact HI
    iexact HO

theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before_0, before_1, before_2, before_3, before_4]
  rw [show (dats m 0 c).Φ t.castSucc = kept m c t from rfl, show (dats m 0 c).Φ t.succ = kept m c (t + 1) from rfl,
    after_0, after_1, after_2, after_3, after_4, after_5, after_6, after_7, after_8]
  iintro ⟨HK, HW, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  ihave HW := (owes_open m c t.castSucc) $$ HW
  iapply (wp_wand_r frame (wpE (defs₀ (F := F)) Variants.none c none) Set.univ)
  isplitl [HK HW H0 H1 H2 H3 H4 H5 H6 H7 H8]
  · iapply (sound m c t)
    unfold inputs hollow
    isplitl [HK]; · iexact HK
    isplitl [HW]; · iexact HW
    isplitl [H0 H1 H2 H3 H4]
    · isplitl [H0]; · iexact H0
      isplitl [H1]; · iexact H1
      isplitl [H2]; · iexact H2
      isplitl [H3]; · iexact H3
      iexact H4
    isplitl [H5]; · iexists _; iexact H5
    isplitl [H6]; · iexists _; iexact H6
    isplitl [H7]; · iexists _; iexact H7
    iexists _; iexact H8
  unfold inputs filled
  iintro %_ ⟨HK, HW, ⟨H0, H1, H2, H3, H4⟩, H5, H6, H7, H8⟩
  ihave HW := (owes_close m c t.succ) $$ HW
  isplitl [HK]; · iexact HK
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs_row]
  exact triple_restated (sound_body m c t) rfl .rfl fun _ => .rfl

/-! ## The run -/

set_option backward.isDefEq.respectTransparency.types false in
set_option maxHeartbeats 800000 in
/-- The program run from any memory: its arrays at what the proof data say, every other at what the host left there,
    every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem defs₀ Variants.none osem_own H H_rest m ρ main
    (hbody := fun c => (body_obligation m c).loose) (hshare := fun c => (dats m 0 c).share_full fun _ => rfl)
    (howed := fun _ _ => rfl) (V := V m) (hmain := host_main m Variants.none) (hA := A_eq m)
    (hin := fun c => kept_open m c) (hout := fun c => kept_close m c _ (by decide))

/-- An argument that is no window's array is as launched when the program ends. -/
theorem args_kept (r : PUnit × MemSt nD τ sig (Elt F)) (h : Pipeline.FramePost cfgs (dats m) 0 (V m) r) (c : Dev nD) (b : Ref sig .tc)
    (hb : b ∈ Pipeline.restRefs sig spec0) (hv : b ∉ hostW) :
    r.2.mem ((c.tc : Thread nD τ).loc b) = m ((c.tc : Thread nD τ).loc b) :=
  ((h c).2 b hb).trans (V_kept m c b hv)

end Cert.OddPre
-- ==== Proof.OddPlain.lean ====
/-
  The odd layer up to its mixer, plainly, as operations on whole arrays, and its run: the program's operations in seven
  groups, each group's last arrays functions of the arrays the group reads.
-/
module

public import proofs.«01_k».proof.Proof.Gen.Reference4Ideal
public import proofs.«01_k».proof.Proof.Plain

@[expose] public section

noncomputable section

namespace Cert.OddPre.Plain

open Cert.Reference4Ideal Cert.Reference4Ideal.Gen Idealize.ShloMosaic Idealize.ShloMosaic.TcCoe Idealize.SL.Sem Idealize.ShloMosaic.StableHlo

/-- What an array of a shape holds. -/
abbrev C (F : FTy → Type) (S : Shape) : Type := (⟨S, .f32⟩ : BufTy).Contents (Elt F)
/-- The type of the feed-forward's inner array. -/
abbrev U : BufTy := ⟨S8x2048x2816, .f32⟩

variable {F : FTy → Type} [FloatOps F]

/-! ## The layer on whole arrays -/

/-- A number at each of the 32 frequencies. -/
def each (x : BitVec 32) : FVec F S32 .f32 := broadcastInDim S32 ![] bcast_S_S32 (constant S_ .f32 x)
/-- Every frequency: one over ten thousand to the power of its place. -/
def freqs : FVec F S32 .f32 :=
  Host.divf (each 0x3F800000#32) (Host.powf (each 0x461C4000#32)
    (Host.divf (addf (each 0x00000000#32) (mulf (each 0x40000000#32) (sitofp .f32 (iotaInDim S32 32 0)))) (each 0x42800000#32)))
/-- Every position times every frequency. -/
def angles : FVec F S2048x32 .f32 :=
  mulf (broadcastInDim S2048x32 ![0, 1] bcast_S2048x1_S2048x32_0_1
      (broadcastInDim S2048x1 ![0] bcast_S2048_S2048x1_0 (sitofp .f32 (iotaInDim S2048 32 0))))
    (broadcastInDim S2048x32 ![0, 1] bcast_S1x32_S2048x32_0_1 (broadcastInDim S1x32 ![1] bcast_S32_S1x32_1 freqs))
/-- Their cosines. -/
def cosT : FVec F S2048x1x32 .f32 := broadcastInDim S2048x1x32 ![0, 2] bcast_S2048x32_S2048x1x32_0_2 (Host.cos angles)
/-- Their sines. -/
def sinT : FVec F S2048x1x32 .f32 := broadcastInDim S2048x1x32 ![0, 2] bcast_S2048x32_S2048x1x32_0_2 (Host.sin angles)

/-- A table's value at every token's every head. -/
def spread (t : FVec F S2048x1x32 .f32) : FVec F S8x2048x16x32 .f32 :=
  broadcastInDim S8x2048x16x32 ![0, 1, 2, 3] bcast_S1x2048x1x32_S8x2048x16x32_0_1_2_3
    (broadcastInDim S1x2048x1x32 ![1, 2, 3] bcast_S2048x1x32_S1x2048x1x32_1_2_3 t)
/-- Every head's first half. -/
def firsts (x : FVec F S8x2048x1024 .f32) : FVec F S8x2048x16x32 .f32 :=
  extractStridedSlice S8x2048x16x32 ![0, 0, 0, 0] (shapeCast S8x2048x16x64 x shapeCasts_S8x2048x1024_S8x2048x16x64) slices_S8x2048x16x64_S8x2048x16x32_0_0_0_0
/-- Every head's second half. -/
def seconds (x : FVec F S8x2048x1024 .f32) : FVec F S8x2048x16x32 .f32 :=
  extractStridedSlice S8x2048x16x32 ![0, 0, 0, 32] (shapeCast S8x2048x16x64 x shapeCasts_S8x2048x1024_S8x2048x16x64) slices_S8x2048x16x64_S8x2048x16x32_0_0_0_32
/-- Every head's halves turned by their position's angles. -/
def roped (x : FVec F S8x2048x1024 .f32) (c s : FVec F S2048x1x32 .f32) : FVec F S8x2048x16x64 .f32 :=
  concatenate S8x2048x16x64 3 [⟨S8x2048x16x32, subf (mulf (firsts x) (spread c)) (mulf (seconds x) (spread s))⟩,
      ⟨S8x2048x16x32, addf (mulf (seconds x) (spread c)) (mulf (firsts x) (spread s))⟩]
    concatenates_S8x2048x16x32_S8x2048x16x32_S8x2048x16x64_d3
/-- The queries' scale. -/
def scaled (x : FVec F S8x2048x16x64 .f32) : FVec F S8x2048x16x64 .f32 :=
  mulf x (broadcastInDim S8x2048x16x64 ![] bcast_S_S8x2048x16x64 (constant S_ .f32 0x3E38AA3B#32))
/-- Every token's heads in one row. -/
def heads (x : FVec F S8x2048x16x64 .f32) : FVec F S16384x1024 .f32 := shapeCast S16384x1024 x shapeCasts_S8x2048x16x64_S16384x1024

/-- The projection into queries, keys and values. -/
def projected (x : FVec F S8x2048x1024 .f32) (w : FVec F S1x1024x3072 .f32) : FVec F S8x2048x3072 .f32 :=
  Host.dotGeneral dot_S8x2048x1024_S1024x3072_S8x2048x3072_2_0_01_1_n_n none x (shapeCast S1024x3072 w shapeCasts_S1x1024x3072_S1024x3072)
/-- Its first third. -/
def queries (x : FVec F S8x2048x3072 .f32) : FVec F S8x2048x1024 .f32 := extractStridedSlice S8x2048x1024 ![0, 0, 0] x slices_S8x2048x3072_S8x2048x1024_0_0_0
/-- Its second third. -/
def keys (x : FVec F S8x2048x3072 .f32) : FVec F S8x2048x1024 .f32 := extractStridedSlice S8x2048x1024 ![0, 0, 1024] x slices_S8x2048x3072_S8x2048x1024_0_0_1024
/-- Its last third. -/
def values (x : FVec F S8x2048x3072 .f32) : FVec F S8x2048x1024 .f32 := extractStridedSlice S8x2048x1024 ![0, 0, 2048] x slices_S8x2048x3072_S8x2048x1024_0_0_2048

/-- The residual stream after the feed-forward, of the arguments in the order of the program's. -/
def second (h : FVec F S8x2048x1024 .f32) (ga : FVec F S2x1024 .f32) (wg wu : FVec F S2x1024x2816 .f32) (wd : FVec F S2x2816x1024 .f32) :
    FVec F S8x2048x1024 .f32 :=
  Post.Plain.fed h (Post.Plain.normed h (Post.Plain.layerVec ga)) (Post.Plain.layerUp wg) (Post.Plain.layerUp wu) (Post.Plain.layerDown wd)
/-- The projection of its normalised rows. -/
def project (x : FVec F S8x2048x1024 .f32) (gm : FVec F S2x1024 .f32) (w : FVec F S1x1024x3072 .f32) : FVec F S8x2048x3072 .f32 :=
  projected (Post.Plain.normed x (Post.Plain.layerVec gm)) w

/-! ## The program's operations -/

/-- The operations of the rotary tables. -/
abbrev opsAngle : List (HloOp τ sig (Elt F)) :=
  [ nullary main_v0 (sitofp .f32 (iotaInDim S32 32 0)),
    nullary main_cst (constant S_ .f32 0x40000000#32),
    unary main_cst main_v1 (broadcastInDim S32 ![] bcast_S_S32),
    binary main_v1 main_v0 main_v2 mulf,
    nullary main_cst_0 (constant S_ .f32 0x00000000#32),
    unary main_cst_0 main_v3 (broadcastInDim S32 ![] bcast_S_S32),
    binary main_v3 main_v2 main_v4 addf,
    nullary main_cst_1 (constant S_ .f32 0x42800000#32),
    unary main_cst_1 main_v5 (broadcastInDim S32 ![] bcast_S_S32),
    binary main_v4 main_v5 main_v6 Host.divf,
    nullary main_cst_2 (constant S_ .f32 0x461C4000#32),
    unary main_cst_2 main_v7 (broadcastInDim S32 ![] bcast_S_S32),
    binary main_v7 main_v6 main_v8 Host.powf,
    nullary main_cst_3 (constant S_ .f32 0x3F800000#32),
    unary main_cst_3 main_v9 (broadcastInDim S32 ![] bcast_S_S32),
    binary main_v9 main_v8 main_v10 Host.divf,
    nullary main_v11 (sitofp .f32 (iotaInDim S2048 32 0)),
    unary main_v11 main_v12 (broadcastInDim S2048x1 ![0] bcast_S2048_S2048x1_0),
    unary main_v10 main_v13 (broadcastInDim S1x32 ![1] bcast_S32_S1x32_1),
    unary main_v12 main_v14 (broadcastInDim S2048x32 ![0, 1] bcast_S2048x1_S2048x32_0_1),
    unary main_v13 main_v15 (broadcastInDim S2048x32 ![0, 1] bcast_S1x32_S2048x32_0_1),
    binary main_v14 main_v15 main_v16 mulf,
    unary main_v16 main_v17 Host.cos,
    unary main_v17 main_v18 (broadcastInDim S2048x1x32 ![0, 2] bcast_S2048x32_S2048x1x32_0_2),
    unary main_v16 main_v19 Host.sin,
    unary main_v19 main_v20 (broadcastInDim S2048x1x32 ![0, 2] bcast_S2048x32_S2048x1x32_0_2) ]
/-- What they write. -/
abbrev opsAngleW : List (Ref sig .tc) :=
  [main_v0, main_cst, main_v1, main_v2, main_cst_0, main_v3, main_v4, main_cst_1, main_v5, main_v6, main_cst_2, main_v7, main_v8, main_cst_3, main_v9, main_v10, main_v11, main_v12, main_v13, main_v14, main_v15, main_v16, main_v17, main_v18, main_v19, main_v20]

/-- The operations of the normalisation before the feed-forward. -/
abbrev opsNormA : List (HloOp τ sig (Elt F)) :=
  [ unary main_arg1 main_v21 (extractStridedSlice S1x1024 ![1, 0] · slices_S2x1024_S1x1024_1_0),
    reshape main_v21 main_v22 rfl shapeCasts_S1x1024_S1024,
    binary main_arg0 main_arg0 main_v23 mulf,
    nullary main_cst_4 (constant S_ .f32 0x00000000#32),
    binary main_v23 main_cst_4 main_v24 (fun x v => Host.reduceAdd x v reducesTo_S8x2048x1024_S8x2048_d2 h_S_),
    unary main_v24 main_v25 (broadcastInDim S8x2048x1 ![0, 1] bcast_S8x2048_S8x2048x1_0_1),
    nullary main_cst_5 (constant S_ .f32 0x44800000#32),
    unary main_cst_5 main_v26 (broadcastInDim S8x2048x1 ![] bcast_S_S8x2048x1),
    binary main_v25 main_v26 main_v27 Host.divf,
    nullary main_cst_6 (constant S_ .f32 0x358637BD#32),
    unary main_cst_6 main_v28 (broadcastInDim S8x2048x1 ![] bcast_S_S8x2048x1),
    binary main_v27 main_v28 main_v29 addf,
    unary main_v29 main_v30 Host.rsqrt,
    unary main_v30 main_v31 (broadcastInDim S8x2048x1024 ![0, 1, 2] bcast_S8x2048x1_S8x2048x1024_0_1_2),
    binary main_arg0 main_v31 main_v32 mulf,
    unary main_v22 main_v33 (broadcastInDim S1x1x1024 ![2] bcast_S1024_S1x1x1024_2),
    unary main_v33 main_v34 (broadcastInDim S8x2048x1024 ![0, 1, 2] bcast_S1x1x1024_S8x2048x1024_0_1_2),
    binary main_v32 main_v34 main_v35 mulf ]
/-- What they write. -/
abbrev opsNormAW : List (Ref sig .tc) :=
  [main_v21, main_v22, main_v23, main_cst_4, main_v24, main_v25, main_cst_5, main_v26, main_v27, main_cst_6, main_v28, main_v29, main_v30, main_v31, main_v32, main_v33, main_v34, main_v35]

/-- The operations of the feed-forward. -/
abbrev opsFeed : List (HloOp τ sig (Elt F)) :=
  [ unary main_arg2 main_v36 (extractStridedSlice S1x1024x2816 ![1, 0, 0] · slices_S2x1024x2816_S1x1024x2816_1_0_0),
    reshape main_v36 main_v37 rfl shapeCasts_S1x1024x2816_S1024x2816,
    unary main_arg3 main_v38 (extractStridedSlice S1x1024x2816 ![1, 0, 0] · slices_S2x1024x2816_S1x1024x2816_1_0_0),
    reshape main_v38 main_v39 rfl shapeCasts_S1x1024x2816_S1024x2816,
    unary main_arg4 main_v40 (extractStridedSlice S1x2816x1024 ![1, 0, 0] · slices_S2x2816x1024_S1x2816x1024_1_0_0),
    reshape main_v40 main_v41 rfl shapeCasts_S1x2816x1024_S2816x1024,
    binary main_v35 main_v37 main_v42 (Host.dotGeneral dot_S8x2048x1024_S1024x2816_S8x2048x2816_2_0_01_1_n_n none),
    TRef.unary (TRef.of (T := U) main_v42) (TRef.of (T := U) main_call0_v0) Host.negf,
    TRef.unary (TRef.of (T := U) main_call0_v0) (TRef.of (T := U) main_call0_v1) Host.exp,
    TRef.nullary (TRef.of (T := ⟨S_, .f32⟩) main_call0_cst) (constant S_ .f32 0x3F800000#32),
    TRef.unary (TRef.of (T := ⟨S_, .f32⟩) main_call0_cst) (TRef.of (T := U) main_call0_v2) (broadcastInDim S8x2048x2816 ![] bcast_S_S8x2048x2816),
    TRef.binary (TRef.of (T := U) main_call0_v2) (TRef.of (T := U) main_call0_v1) (TRef.of (T := U) main_call0_v3) addf,
    TRef.nullary (TRef.of (T := ⟨S_, .f32⟩) main_call0_cst_0) (constant S_ .f32 0x3F800000#32),
    TRef.unary (TRef.of (T := ⟨S_, .f32⟩) main_call0_cst_0) (TRef.of (T := U) main_call0_v4) (broadcastInDim S8x2048x2816 ![] bcast_S_S8x2048x2816),
    TRef.binary (TRef.of (T := U) main_call0_v4) (TRef.of (T := U) main_call0_v3) (TRef.of (T := U) main_call0_v5) Host.divf,
    TRef.binary (TRef.of (T := U) main_v42) (TRef.of (T := U) main_call0_v5) (TRef.of (T := U) main_v43) mulf,
    binary main_v35 main_v39 main_v44 (Host.dotGeneral dot_S8x2048x1024_S1024x2816_S8x2048x2816_2_0_01_1_n_n none),
    binary main_v43 main_v44 main_v45 mulf,
    binary main_v45 main_v41 main_v46 (Host.dotGeneral dot_S8x2048x2816_S2816x1024_S8x2048x1024_2_0_01_1_n_n none),
    nullary main_cst_7 (constant S_ .f32 0x3F000000#32),
    unary main_cst_7 main_v47 (broadcastInDim S8x2048x1024 ![] bcast_S_S8x2048x1024),
    binary main_v47 main_v46 main_v48 mulf,
    binary main_arg0 main_v48 main_v49 addf ]
/-- What they write. -/
abbrev opsFeedW : List (Ref sig .tc) :=
  [main_v36, main_v37, main_v38, main_v39, main_v40, main_v41, main_v42, main_call0_v0, main_call0_v1, main_call0_cst, main_call0_v2, main_call0_v3, main_call0_cst_0, main_call0_v4, main_call0_v5, main_v43, main_v44, main_v45, main_v46, main_cst_7, main_v47, main_v48, main_v49]

/-- The operations of the normalisation before the mixer. -/
abbrev opsNormB : List (HloOp τ sig (Elt F)) :=
  [ unary main_arg5 main_v50 (extractStridedSlice S1x1024 ![1, 0] · slices_S2x1024_S1x1024_1_0),
    reshape main_v50 main_v51 rfl shapeCasts_S1x1024_S1024,
    binary main_v49 main_v49 main_v52 mulf,
    nullary main_cst_8 (constant S_ .f32 0x00000000#32),
    binary main_v52 main_cst_8 main_v53 (fun x v => Host.reduceAdd x v reducesTo_S8x2048x1024_S8x2048_d2 h_S_),
    unary main_v53 main_v54 (broadcastInDim S8x2048x1 ![0, 1] bcast_S8x2048_S8x2048x1_0_1),
    nullary main_cst_9 (constant S_ .f32 0x44800000#32),
    unary main_cst_9 main_v55 (broadcastInDim S8x2048x1 ![] bcast_S_S8x2048x1),
    binary main_v54 main_v55 main_v56 Host.divf,
    nullary main_cst_10 (constant S_ .f32 0x358637BD#32),
    unary main_cst_10 main_v57 (broadcastInDim S8x2048x1 ![] bcast_S_S8x2048x1),
    binary main_v56 main_v57 main_v58 addf,
    unary main_v58 main_v59 Host.rsqrt,
    unary main_v59 main_v60 (broadcastInDim S8x2048x1024 ![0, 1, 2] bcast_S8x2048x1_S8x2048x1024_0_1_2),
    binary main_v49 main_v60 main_v61 mulf,
    unary main_v51 main_v62 (broadcastInDim S1x1x1024 ![2] bcast_S1024_S1x1x1024_2),
    unary main_v62 main_v63 (broadcastInDim S8x2048x1024 ![0, 1, 2] bcast_S1x1x1024_S8x2048x1024_0_1_2),
    binary main_v61 main_v63 main_v64 mulf ]
/-- What they write. -/
abbrev opsNormBW : List (Ref sig .tc) :=
  [main_v50, main_v51, main_v52, main_cst_8, main_v53, main_v54, main_cst_9, main_v55, main_v56, main_cst_10, main_v57, main_v58, main_v59, main_v60, main_v61, main_v62, main_v63, main_v64]

/-- The operations of the projection and its three parts. -/
abbrev opsProject : List (HloOp τ sig (Elt F)) :=
  [ reshape main_arg6 main_v65 rfl shapeCasts_S1x1024x3072_S1024x3072,
    binary main_v64 main_v65 main_v66 (Host.dotGeneral dot_S8x2048x1024_S1024x3072_S8x2048x3072_2_0_01_1_n_n none),
    unary main_v66 main_v67 (extractStridedSlice S8x2048x1024 ![0, 0, 0] · slices_S8x2048x3072_S8x2048x1024_0_0_0),
    unary main_v66 main_v68 (extractStridedSlice S8x2048x1024 ![0, 0, 1024] · slices_S8x2048x3072_S8x2048x1024_0_0_1024),
    unary main_v66 main_v69 (extractStridedSlice S8x2048x1024 ![0, 0, 2048] · slices_S8x2048x3072_S8x2048x1024_0_0_2048) ]
/-- What they write. -/
abbrev opsProjectW : List (Ref sig .tc) :=
  [main_v65, main_v66, main_v67, main_v68, main_v69]

/-- The operations of the queries, and the layout of the residual stream. -/
abbrev opsQuery : List (HloOp τ sig (Elt F)) :=
  [ reshape main_v67 main_v70 rfl shapeCasts_S8x2048x1024_S8x2048x16x64,
    unary main_v70 main_v71 (extractStridedSlice S8x2048x16x32 ![0, 0, 0, 0] · slices_S8x2048x16x64_S8x2048x16x32_0_0_0_0),
    unary main_v70 main_v72 (extractStridedSlice S8x2048x16x32 ![0, 0, 0, 32] · slices_S8x2048x16x64_S8x2048x16x32_0_0_0_32),
    unary main_v18 main_v73 (broadcastInDim S1x2048x1x32 ![1, 2, 3] bcast_S2048x1x32_S1x2048x1x32_1_2_3),
    unary main_v73 main_v74 (broadcastInDim S8x2048x16x32 ![0, 1, 2, 3] bcast_S1x2048x1x32_S8x2048x16x32_0_1_2_3),
    binary main_v71 main_v74 main_v75 mulf,
    unary main_v20 main_v76 (broadcastInDim S1x2048x1x32 ![1, 2, 3] bcast_S2048x1x32_S1x2048x1x32_1_2_3),
    unary main_v76 main_v77 (broadcastInDim S8x2048x16x32 ![0, 1, 2, 3] bcast_S1x2048x1x32_S8x2048x16x32_0_1_2_3),
    binary main_v72 main_v77 main_v78 mulf,
    binary main_v75 main_v78 main_v79 subf,
    unary main_v18 main_v80 (broadcastInDim S1x2048x1x32 ![1, 2, 3] bcast_S2048x1x32_S1x2048x1x32_1_2_3),
    unary main_v80 main_v81 (broadcastInDim S8x2048x16x32 ![0, 1, 2, 3] bcast_S1x2048x1x32_S8x2048x16x32_0_1_2_3),
    binary main_v72 main_v81 main_v82 mulf,
    unary main_v20 main_v83 (broadcastInDim S1x2048x1x32 ![1, 2, 3] bcast_S2048x1x32_S1x2048x1x32_1_2_3),
    unary main_v83 main_v84 (broadcastInDim S8x2048x16x32 ![0, 1, 2, 3] bcast_S1x2048x1x32_S8x2048x16x32_0_1_2_3),
    binary main_v71 main_v84 main_v85 mulf,
    binary main_v82 main_v85 main_v86 addf,
    binary main_v79 main_v86 main_v87 (fun a b => concatenate S8x2048x16x64 3 [⟨S8x2048x16x32, a⟩, ⟨S8x2048x16x32, b⟩] concatenates_S8x2048x16x32_S8x2048x16x32_S8x2048x16x64_d3),
    nullary main_cst_11 (constant S_ .f32 0x3E38AA3B#32),
    unary main_cst_11 main_v88 (broadcastInDim S8x2048x16x64 ![] bcast_S_S8x2048x16x64),
    binary main_v87 main_v88 main_v89 mulf,
    reshape main_v49 main_v90 rfl shapeCasts_S8x2048x1024_S16384x1024,
    reshape main_v89 main_v91 rfl shapeCasts_S8x2048x16x64_S16384x1024 ]
/-- What they write. -/
abbrev opsQueryW : List (Ref sig .tc) :=
  [main_v70, main_v71, main_v72, main_v73, main_v74, main_v75, main_v76, main_v77, main_v78, main_v79, main_v80, main_v81, main_v82, main_v83, main_v84, main_v85, main_v86, main_v87, main_cst_11, main_v88, main_v89, main_v90, main_v91]

/-- The operations of the keys, and the layout of the values. -/
abbrev opsKey : List (HloOp τ sig (Elt F)) :=
  [ reshape main_v68 main_v92 rfl shapeCasts_S8x2048x1024_S8x2048x16x64,
    unary main_v92 main_v93 (extractStridedSlice S8x2048x16x32 ![0, 0, 0, 0] · slices_S8x2048x16x64_S8x2048x16x32_0_0_0_0),
    unary main_v92 main_v94 (extractStridedSlice S8x2048x16x32 ![0, 0, 0, 32] · slices_S8x2048x16x64_S8x2048x16x32_0_0_0_32),
    unary main_v18 main_v95 (broadcastInDim S1x2048x1x32 ![1, 2, 3] bcast_S2048x1x32_S1x2048x1x32_1_2_3),
    unary main_v95 main_v96 (broadcastInDim S8x2048x16x32 ![0, 1, 2, 3] bcast_S1x2048x1x32_S8x2048x16x32_0_1_2_3),
    binary main_v93 main_v96 main_v97 mulf,
    unary main_v20 main_v98 (broadcastInDim S1x2048x1x32 ![1, 2, 3] bcast_S2048x1x32_S1x2048x1x32_1_2_3),
    unary main_v98 main_v99 (broadcastInDim S8x2048x16x32 ![0, 1, 2, 3] bcast_S1x2048x1x32_S8x2048x16x32_0_1_2_3),
    binary main_v94 main_v99 main_v100 mulf,
    binary main_v97 main_v100 main_v101 subf,
    unary main_v18 main_v102 (broadcastInDim S1x2048x1x32 ![1, 2, 3] bcast_S2048x1x32_S1x2048x1x32_1_2_3),
    unary main_v102 main_v103 (broadcastInDim S8x2048x16x32 ![0, 1, 2, 3] bcast_S1x2048x1x32_S8x2048x16x32_0_1_2_3),
    binary main_v94 main_v103 main_v104 mulf,
    unary main_v20 main_v105 (broadcastInDim S1x2048x1x32 ![1, 2, 3] bcast_S2048x1x32_S1x2048x1x32_1_2_3),
    unary main_v105 main_v106 (broadcastInDim S8x2048x16x32 ![0, 1, 2, 3] bcast_S1x2048x1x32_S8x2048x16x32_0_1_2_3),
    binary main_v93 main_v106 main_v107 mulf,
    binary main_v104 main_v107 main_v108 addf,
    binary main_v101 main_v108 main_v109 (fun a b => concatenate S8x2048x16x64 3 [⟨S8x2048x16x32, a⟩, ⟨S8x2048x16x32, b⟩] concatenates_S8x2048x16x32_S8x2048x16x32_S8x2048x16x64_d3),
    reshape main_v109 main_v110 rfl shapeCasts_S8x2048x16x64_S16384x1024,
    reshape main_v69 main_v111 rfl shapeCasts_S8x2048x1024_S16384x1024 ]
/-- What they write. -/
abbrev opsKeyW : List (Ref sig .tc) :=
  [main_v92, main_v93, main_v94, main_v95, main_v96, main_v97, main_v98, main_v99, main_v100, main_v101, main_v102, main_v103, main_v104, main_v105, main_v106, main_v107, main_v108, main_v109, main_v110, main_v111]

/-- The whole program's operations, in order. -/
abbrev ops : List (HloOp τ sig (Elt F)) := opsAngle ++ (opsNormA ++ (opsFeed ++ (opsNormB ++ (opsProject ++ (opsQuery ++ opsKey)))))

set_option maxRecDepth 16384 in
set_option maxHeartbeats 8000000 in
theorem main_eq (c : Dev nD) : main (F := F) c = seq ops := rfl

theorem ops_sub : (ops : List (HloOp τ sig (Elt F))).Forall fun op => op.bufs ⊆ tcRefs τ sig := by
  simp only [ops, opsAngle, opsNormA, opsFeed, opsNormB, opsProject, opsQuery, opsKey, List.forall_append, List.Forall, TRef.unary, TRef.binary, TRef.nullary]
  repeat' apply And.intro
  all_goals with_reducible first | exact unary_bufs_sub .. | exact binary_bufs_sub .. | exact nullary_bufs_sub .. | exact reshape_bufs_sub ..

theorem scopedRefs_eq : (Finset.univ.filter fun b : Ref sig .tc => b.isScoped) = ∅ := by decide
theorem scopedSems_eq : (Finset.univ.filter fun sm : SemLoc sig => sm.isScoped .tc) = ∅ := by decide

/-! ## What each group leaves -/

variable (M : Valuation τ sig (Elt F))

theorem opsAngle_kept (r : Ref sig .tc) (h : r ∉ opsAngleW) : after opsAngle M r = M r :=
  after_unwritten opsAngleW rfl h M
theorem opsNormA_kept (r : Ref sig .tc) (h : r ∉ opsNormAW) : after opsNormA M r = M r :=
  after_unwritten opsNormAW rfl h M
theorem opsFeed_kept (r : Ref sig .tc) (h : r ∉ opsFeedW) : after opsFeed M r = M r :=
  after_unwritten opsFeedW rfl h M
theorem opsNormB_kept (r : Ref sig .tc) (h : r ∉ opsNormBW) : after opsNormB M r = M r :=
  after_unwritten opsNormBW rfl h M
theorem opsProject_kept (r : Ref sig .tc) (h : r ∉ opsProjectW) : after opsProject M r = M r :=
  after_unwritten opsProjectW rfl h M
theorem opsQuery_kept (r : Ref sig .tc) (h : r ∉ opsQueryW) : after opsQuery M r = M r :=
  after_unwritten opsQueryW rfl h M
theorem opsKey_kept (r : Ref sig .tc) (h : r ∉ opsKeyW) : after opsKey M r = M r :=
  after_unwritten opsKeyW rfl h M

set_option maxHeartbeats 1600000 in
theorem opsAngle_value : after opsAngle M main_v18 = cosT := by
  simp only [opsAngle]
  after_results_simp <;> rfl
set_option maxHeartbeats 1600000 in
theorem opsAngle_value' : after opsAngle M main_v20 = sinT := by
  simp only [opsAngle]
  after_results_simp <;> rfl
set_option maxHeartbeats 1600000 in
theorem opsNormA_value : after opsNormA M main_v35 = Post.Plain.normed (M main_arg0) (Post.Plain.layerVec (M main_arg1)) := by
  simp only [opsNormA]
  after_results_simp <;> rfl
set_option maxHeartbeats 1600000 in
theorem opsFeed_value : after opsFeed M main_v49 = Post.Plain.fed (M main_arg0) (M main_v35) (Post.Plain.layerUp (M main_arg2)) (Post.Plain.layerUp (M main_arg3)) (Post.Plain.layerDown (M main_arg4)) := by
  simp only [opsFeed, TRef.binary, TRef.nullary, TRef.unary, TRef.toBuf, TRef.ofBuf, cast_eq]
  after_results_simp <;> rfl
set_option maxHeartbeats 1600000 in
theorem opsNormB_value : after opsNormB M main_v64 = Post.Plain.normed (M main_v49) (Post.Plain.layerVec (M main_arg5)) := by
  simp only [opsNormB]
  after_results_simp <;> rfl
set_option maxHeartbeats 1600000 in
theorem opsProject_value_q : after opsProject M main_v67 = queries (projected (M main_v64) (M main_arg6)) := by
  simp only [opsProject]
  after_results_simp <;> rfl
set_option maxHeartbeats 1600000 in
theorem opsProject_value_k : after opsProject M main_v68 = keys (projected (M main_v64) (M main_arg6)) := by
  simp only [opsProject]
  after_results_simp <;> rfl
set_option maxHeartbeats 1600000 in
theorem opsProject_value_v : after opsProject M main_v69 = values (projected (M main_v64) (M main_arg6)) := by
  simp only [opsProject]
  after_results_simp <;> rfl
set_option maxHeartbeats 1600000 in
theorem opsQuery_value_h : after opsQuery M main_v90 = shapeCast S16384x1024 (M main_v49) shapeCasts_S8x2048x1024_S16384x1024 := by
  simp only [opsQuery]
  after_results_simp <;> rfl
set_option maxHeartbeats 1600000 in
theorem opsQuery_value_q : after opsQuery M main_v91 = heads (scaled (roped (M main_v67) (M main_v18) (M main_v20))) := by
  simp only [opsQuery]
  after_results_simp <;> rfl
set_option maxHeartbeats 1600000 in
theorem opsKey_value_k : after opsKey M main_v110 = heads (roped (M main_v68) (M main_v18) (M main_v20)) := by
  simp only [opsKey]
  after_results_simp <;> rfl
set_option maxHeartbeats 1600000 in
theorem opsKey_value_v : after opsKey M main_v111 = shapeCast S16384x1024 (M main_v69) shapeCasts_S8x2048x1024_S16384x1024 := by
  simp only [opsKey]
  after_results_simp <;> rfl

/-- An array none of the operations writes is as it was. -/
theorem ops_kept (r : Ref sig .tc) (h : r ∉ opsAngleW ∧ r ∉ opsNormAW ∧ r ∉ opsFeedW ∧ r ∉ opsNormBW ∧ r ∉ opsProjectW ∧ r ∉ opsQueryW ∧ r ∉ opsKeyW) : after ops M r = M r := by
  simp only [ops, after_append]
  rw [opsKey_kept _ r h.2.2.2.2.2.2, opsQuery_kept _ r h.2.2.2.2.2.1, opsProject_kept _ r h.2.2.2.2.1, opsNormB_kept _ r h.2.2.2.1, opsFeed_kept _ r h.2.2.1, opsNormA_kept _ r h.2.1, opsAngle_kept _ r h.1]

/-! ## The program's results -/

/-- The residual stream after the groups up to the feed-forward. -/
theorem value_v49 : after opsFeed (after opsNormA (after opsAngle M)) main_v49 = second (M main_arg0) (M main_arg1) (M main_arg2) (M main_arg3) (M main_arg4) := by
  unfold second
  rw [opsFeed_value, opsNormA_value, opsNormA_kept _ main_arg2 (by decide), opsAngle_kept _ main_arg2 (by decide), opsNormA_kept _ main_arg3 (by decide), opsAngle_kept _ main_arg3 (by decide), opsNormA_kept _ main_arg4 (by decide), opsAngle_kept _ main_arg4 (by decide),
    opsNormA_kept _ main_arg0 (by decide), opsAngle_kept _ main_arg0 (by decide), opsAngle_kept _ main_arg1 (by decide)]

/-- The projection's two arguments after the groups up to it. -/
theorem value_v64 : projected (after opsNormB (after opsFeed (after opsNormA (after opsAngle M))) main_v64)
      (after opsNormB (after opsFeed (after opsNormA (after opsAngle M))) main_arg6)
    = project (second (M main_arg0) (M main_arg1) (M main_arg2) (M main_arg3) (M main_arg4)) (M main_arg5) (M main_arg6) := by
  unfold project
  rw [opsNormB_value, value_v49, opsFeed_kept _ main_arg5 (by decide), opsNormA_kept _ main_arg5 (by decide), opsAngle_kept _ main_arg5 (by decide), opsNormB_kept _ main_arg6 (by decide), opsFeed_kept _ main_arg6 (by decide), opsNormA_kept _ main_arg6 (by decide), opsAngle_kept _ main_arg6 (by decide)]

theorem value_v90 : after ops M main_v90 = shapeCast S16384x1024 (second (M main_arg0) (M main_arg1) (M main_arg2) (M main_arg3) (M main_arg4)) shapeCasts_S8x2048x1024_S16384x1024 := by
  simp only [ops, after_append]
  rw [opsKey_kept _ main_v90 (by decide), opsQuery_value_h, opsProject_kept _ main_v49 (by decide), opsNormB_kept _ main_v49 (by decide), value_v49]

theorem value_v91 : after ops M main_v91 = heads (scaled (roped (queries (project (second (M main_arg0) (M main_arg1) (M main_arg2) (M main_arg3) (M main_arg4)) (M main_arg5) (M main_arg6))) cosT sinT)) := by
  simp only [ops, after_append]
  rw [opsKey_kept _ main_v91 (by decide), opsQuery_value_q, opsProject_value_q, value_v64,
    opsProject_kept _ main_v18 (by decide), opsNormB_kept _ main_v18 (by decide), opsFeed_kept _ main_v18 (by decide), opsNormA_kept _ main_v18 (by decide), opsAngle_value,
    opsProject_kept _ main_v20 (by decide), opsNormB_kept _ main_v20 (by decide), opsFeed_kept _ main_v20 (by decide), opsNormA_kept _ main_v20 (by decide), opsAngle_value']

theorem value_v110 : after ops M main_v110 = heads (roped (keys (project (second (M main_arg0) (M main_arg1) (M main_arg2) (M main_arg3) (M main_arg4)) (M main_arg5) (M main_arg6))) cosT sinT) := by
  simp only [ops, after_append]
  rw [opsKey_value_k, opsQuery_kept _ main_v68 (by decide), opsProject_value_k, value_v64,
    opsQuery_kept _ main_v18 (by decide), opsProject_kept _ main_v18 (by decide), opsNormB_kept _ main_v18 (by decide), opsFeed_kept _ main_v18 (by decide), opsNormA_kept _ main_v18 (by decide), opsAngle_value,
    opsQuery_kept _ main_v20 (by decide), opsProject_kept _ main_v20 (by decide), opsNormB_kept _ main_v20 (by decide), opsFeed_kept _ main_v20 (by decide), opsNormA_kept _ main_v20 (by decide), opsAngle_value']

theorem value_v111 : after ops M main_v111 = shapeCast S16384x1024 (values (project (second (M main_arg0) (M main_arg1) (M main_arg2) (M main_arg3) (M main_arg4)) (M main_arg5) (M main_arg6))) shapeCasts_S8x2048x1024_S16384x1024 := by
  simp only [ops, after_append]
  rw [opsKey_value_v, opsQuery_kept _ main_v69 (by decide), opsProject_value_v, value_v64]

/-- The run: the results are the layer's of the arguments, which stay as launched. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v90) = shapeCast S16384x1024 (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) shapeCasts_S8x2048x1024_S16384x1024
      ∧ r.2.mem ((c.tc : Thread nD τ).loc main_v91) = heads (scaled (roped (queries (project (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)))) cosT sinT))
      ∧ r.2.mem ((c.tc : Thread nD τ).loc main_v110) = heads (roped (keys (project (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)))) cosT sinT)
      ∧ r.2.mem ((c.tc : Thread nD τ).loc main_v111) = shapeCast S16384x1024 (values (project (second (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) (m ((c.tc : Thread nD τ).loc main_arg5)) (m ((c.tc : Thread nD τ).loc main_arg6)))) shapeCasts_S8x2048x1024_S16384x1024
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun r h c =>
    have k (b : Ref sig .tc) (hb : b ∉ opsAngleW ∧ b ∉ opsNormAW ∧ b ∉ opsFeedW ∧ b ∉ opsNormBW ∧ b ∉ opsProjectW ∧ b ∉ opsQueryW ∧ b ∉ opsKeyW) :
        r.2.mem ((c.tc : Thread nD τ).loc b) = m ((c.tc : Thread nD τ).loc b) := (h c b).trans (ops_kept _ b hb)
    ⟨(h c main_v90).trans (value_v90 _), (h c main_v91).trans (value_v91 _), (h c main_v110).trans (value_v110 _), (h c main_v111).trans (value_v111 _), k main_arg0 (by decide), k main_arg1 (by decide), k main_arg2 (by decide), k main_arg3 (by decide), k main_arg4 (by decide), k main_arg5 (by decide), k main_arg6 (by decide)⟩)
    (run_seq scopedRefs_eq scopedSems_eq defs main (fun _ => ops) main_eq (fun _ => ops_sub) m ρ)

end Cert.OddPre.Plain

end
-- ==== Proof.OddFrames.lean ====
/-
  The frames of the call before the odd layer's mixer: the run over any values, read at the hardware's and at the ideal ones.
-/
module

public import proofs.«01_k».proof.Defs
public import proofs.«01_k».proof.Proof.OddRun
public import proofs.«01_k».proof.Proof.Gen.Kernel4
public import proofs.«01_k».proof.Proof.Gen.Reference4Ideal
public import proofs.«01_k».proof.Proof.OddPlain
public import Idealize.ShloMosaic.Adequacy
public import Idealize.ShloMosaic.Init

@[expose] public section

noncomputable section

namespace Cert.OddPre

open Idealize.ShloMosaic Idealize.ShloMosaic.TcCoe Idealize.SL.Sem Cert.Kernel4Ideal Cert.Kernel4Ideal.Gen

variable {F : FTy → Type} [FloatOps F]
variable (m : (ℓ : Loc nD τ sig) → Buf (Elt F) ℓ) (ρ : Dev nD → PrngReg)

/-- Every argument is as launched. -/
abbrev ArgsKept (r : PUnit × MemSt nD τ sig (Elt F)) (c : Dev nD) : Prop :=
  r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)

/-- Every argument of the program is as launched when it ends. -/
theorem args_end (r : PUnit × MemSt nD τ sig (Elt F)) (h : Pipeline.FramePost cfgs (dats m) 0 (V m) r) (c : Dev nD) :
    ArgsKept m r c :=
  ⟨args_kept m r h c main_arg0 (Pipeline.mem_restRefs_of main_arg0 (by decide) (by decide)) (by decide),
    args_kept m r h c main_arg1 (Pipeline.mem_restRefs_of main_arg1 (by decide) (by decide)) (by decide),
    args_kept m r h c main_arg2 (Pipeline.mem_restRefs_of main_arg2 (by decide) (by decide)) (by decide),
    args_kept m r h c main_arg3 (Pipeline.mem_restRefs_of main_arg3 (by decide) (by decide)) (by decide),
    args_kept m r h c main_arg4 (Pipeline.mem_restRefs_of main_arg4 (by decide) (by decide)) (by decide),
    args_kept m r h c main_arg5 (Pipeline.mem_restRefs_of main_arg5 (by decide) (by decide)) (by decide),
    args_kept m r h c main_arg6 (Pipeline.mem_restRefs_of main_arg6 (by decide) (by decide)) (by decide)⟩

/-- The program ends, over any values, with its arguments as launched and no semaphore raised. -/
theorem frame_any : θ_run (defs (F := F)) (onTc (τ := τ) (main (F := F))) ⟨m, fun _ => 0, ρ⟩ fun r =>
    (∀ c : Dev nD, ArgsKept m r c)
      ∧ r.2.sem = fun _ => 0 :=
  (θ_run Cert.Kernel4Ideal.defs _ _).mono (fun r h => ⟨args_end m r h.1, h.2⟩) (run_main m ρ)

theorem frame_ideal : Cert.quiescent_Kernel4Ideal (hKernel4Ideal := Cert.Kernel4Ideal.Gen.facts) := fun m ρ _ => frame_any (F := Ideal) m ρ

/-- The two printed programs are the same text: their body tables agree. -/
theorem table_eq : Cert.Kernel4.defs₀ (F := F) = Cert.Kernel4Ideal.defs₀ (F := F) := by
  unfold Cert.Kernel4.defs₀ Cert.Kernel4Ideal.defs₀
  refine congrArg Defs.onTc (funext fun l => funext fun a => ?_)
  match l, a with
  | 0, (t, s) => rfl

theorem defs_eq : Cert.Kernel4.defs (F := F) = Cert.Kernel4Ideal.defs (F := F) := congrArg (Pipeline.defs _) table_eq

set_option maxHeartbeats 4000000 in
theorem frame_bits : Cert.quiescent_Kernel4 (hKernel4 := Cert.Kernel4.Gen.facts) := fun m ρ _ => by
  rw [defs_eq]
  exact frame_any (F := Bits) m ρ

theorem frame_reference : Cert.quiescent_Reference4Ideal (hReference4Ideal := Cert.Reference4Ideal.Gen.facts) := fun m g _ =>
  (θ_run _ _ _).mono (fun r h => ⟨fun c => (h c).2.2.2.2, sem_eq_zero_of_no_sems (by decide) r.2⟩) (Plain.run m g)

end Cert.OddPre

end
-- ==== Proof.OddPlainRead.lean ====
/-
  The odd layer's plain results at an index, over the extended reals: a token's feed-forward (Rows.lean), and its
  projection, the first two thirds turned by the angles of the token's position.
-/
module

public import proofs.«01_k».proof.Proof.OddPlain
public import proofs.«01_k».proof.Proof.PlainRead

@[expose] public section

noncomputable section

open scoped BigOperators

namespace Cert.OddPre.Plain

open Cert.Reference4Ideal Cert.Reference4Ideal.Gen Idealize.ShloMosaic Idealize.ShloMosaic.ValueIdx

/-! ## Heads turned by angles -/

/-- A projection's first two thirds, in heads of 64 channels, every head's halves turned by the angles of the given
    cosines and sines. -/
def turned (x : Fin 3072 → EReal) (c s : Fin 32 → EReal) (k : Fin 2048) : EReal :=
  if h : k.val % 64 < 32 then x ⟨k.val, by omega⟩ * c ⟨k.val % 32, by omega⟩ - x ⟨k.val + 32, by omega⟩ * s ⟨k.val % 32, by omega⟩
  else x ⟨k.val, by omega⟩ * c ⟨k.val % 32, by omega⟩ + x ⟨k.val - 32, by omega⟩ * s ⟨k.val % 32, by omega⟩

/-- The queries' scale, as the programs write it. -/
def qScale : EReal := Ideal.ofBits .f32 0x3E38AA3B#32

variable (b : Fin 8) (s : Fin 2048)

theorem table_apply (x : FVec Ideal S2048x32 .f32) (n : Fin 16) (j : Fin 32) :
    spread (broadcastInDim S2048x1x32 ![0, 2] bcast_S2048x32_S2048x1x32_0_2 x) (ix4 b s n j) = x (ix2 s j) := by
  unfold spread
  rw [broadcastInDim_apply ![0, 1, 2, 3] bcast_S1x2048x1x32_S8x2048x16x32_0_1_2_3 _ (ix4 b s n j) (ix4 0 s 0 j) (fun a => by
      match a with
      | ⟨0, _⟩ => rfl
      | ⟨1, _⟩ => rfl
      | ⟨2, _⟩ => rfl
      | ⟨3, _⟩ => rfl),
    broadcastInDim_apply ![1, 2, 3] bcast_S2048x1x32_S1x2048x1x32_1_2_3 _ (ix4 0 s 0 j) (ix3 s 0 j) (fun a => by
      match a with
      | ⟨0, _⟩ => rfl
      | ⟨1, _⟩ => rfl
      | ⟨2, _⟩ => rfl)]
  exact broadcastInDim_apply ![0, 2] bcast_S2048x32_S2048x1x32_0_2 x (ix3 s 0 j) (ix2 s j) fun a => by
    match a with
    | ⟨0, _⟩ => rfl
    | ⟨1, _⟩ => rfl

/-- A token's row by heads. -/
theorem byHeads_apply (x : FVec Ideal S8x2048x1024 .f32) (k : Fin 1024) (n : Fin 16) (j : Fin 64) (hk : k.val = n.val * 64 + j.val) :
    shapeCast S8x2048x16x64 x shapeCasts_S8x2048x1024_S8x2048x16x64 (ix4 b s n j) = x (ix3 b s k) :=
  shapeCast_apply _ _ (ix4 b s n j) (ix3 b s k) (by
    rw [Shape.rowMajor_val_four, Shape.rowMajor_val_three]
    show (b.val * 2048 + s.val) * 1024 + k.val = ((b.val * 2048 + s.val) * 16 + n.val) * 64 + j.val
    omega)

/-- A half of a head. -/
theorem half_apply (x : FVec Ideal S8x2048x1024 .f32) (o : ℕ) (ho : o + 32 ≤ 64) (hs : S8x2048x16x64.Slices ![0, 0, 0, o] S8x2048x16x32)
    (k : Fin 1024) (n : Fin 16) (j : Fin 32) (hk : k.val = n.val * 64 + (o + j.val)) :
    extractStridedSlice S8x2048x16x32 ![0, 0, 0, o] (shapeCast S8x2048x16x64 x shapeCasts_S8x2048x1024_S8x2048x16x64) hs (ix4 b s n j) = x (ix3 b s k) :=
  (extractStridedSlice_apply ![0, 0, 0, o] _ hs (ix4 b s n j) (ix4 b s n ⟨o + j.val, by omega⟩) fun a => by
    match a with
    | ⟨0, _⟩ => show b.val = 0 + b.val; omega
    | ⟨1, _⟩ => show s.val = 0 + s.val; omega
    | ⟨2, _⟩ => show n.val = 0 + n.val; omega
    | ⟨3, _⟩ => rfl).trans (byHeads_apply b s x k n _ hk)

theorem firsts_apply (x : FVec Ideal S8x2048x1024 .f32) (k : Fin 1024) (n : Fin 16) (j : Fin 32) (hk : k.val = n.val * 64 + (0 + j.val)) :
    firsts x (ix4 b s n j) = x (ix3 b s k) := half_apply b s x 0 (by omega) _ k n j hk
theorem seconds_apply (x : FVec Ideal S8x2048x1024 .f32) (k : Fin 1024) (n : Fin 16) (j : Fin 32) (hk : k.val = n.val * 64 + (32 + j.val)) :
    seconds x (ix4 b s n j) = x (ix3 b s k) := half_apply b s x 32 (by omega) _ k n j hk

/-- The cosines and the sines of a position's angles. -/
def cosAt (j : Fin 32) : EReal := Host.cos (F := Ideal) angles (ix2 s j)
def sinAt (j : Fin 32) : EReal := Host.sin (F := Ideal) angles (ix2 s j)

/-- The channel of the projection that channel `k` of its third `o` is. -/
theorem roped_apply (x : FVec Ideal S8x2048x1024 .f32) (P : Fin 3072 → EReal) (o : Fin 2)
    (hx : ∀ k : Fin 1024, x (ix3 b s k) = P ⟨o.val * 1024 + k.val, by omega⟩) (k : Fin 1024) :
    roped x cosT sinT (ix4 b s ⟨k.val / 64, by omega⟩ ⟨k.val % 64, by omega⟩)
      = turned P (cosAt s) (sinAt s) ⟨o.val * 1024 + k.val, by omega⟩ := by
  unfold roped turned
  have et : ∀ (t : FVec Ideal S2048x32 .f32) (n : Fin 16) (j : Fin 32), j.val = (o.val * 1024 + k.val) % 32 →
      spread (broadcastInDim S2048x1x32 ![0, 2] bcast_S2048x32_S2048x1x32_0_2 t) (ix4 b s n j) = t (ix2 s ⟨(o.val * 1024 + k.val) % 32, by omega⟩) :=
    fun t n j hj => (table_apply b s t n j).trans (congrArg (fun j => t (ix2 s j)) (Fin.ext hj))
  by_cases h : k.val % 64 < 32
  · rw [dif_pos (show (o.val * 1024 + k.val) % 64 < 32 by omega),
      concatenate_pair_apply_left (t := S8x2048x16x64) (s₁ := S8x2048x16x32) (s₂ := S8x2048x16x32) 3 _ _ _ (ix4 b s _ _) rfl (ix4 b s ⟨k.val / 64, by omega⟩ ⟨k.val % 64, h⟩) (fun x => by
        match x with
        | ⟨0, _⟩ => rfl
        | ⟨1, _⟩ => rfl
        | ⟨2, _⟩ => rfl
        | ⟨3, _⟩ => rfl),
      subf_apply, mulf_apply, mulf_apply, firsts_apply b s x k _ _ (by show k.val = k.val / 64 * 64 + (0 + k.val % 64); omega),
      seconds_apply b s x ⟨k.val + 32, by omega⟩ _ _ (by show k.val + 32 = k.val / 64 * 64 + (32 + k.val % 64); omega)]
    unfold cosT sinT
    rw [et _ _ _ (by show k.val % 64 = _; omega), et _ _ _ (by show k.val % 64 = _; omega), hx, hx]
    rfl
  · rw [dif_neg (show ¬ (o.val * 1024 + k.val) % 64 < 32 by omega),
      concatenate_pair_apply_right (t := S8x2048x16x64) (s₁ := S8x2048x16x32) (s₂ := S8x2048x16x32) 3 _ _ _ (ix4 b s _ _) rfl rfl (ix4 b s ⟨k.val / 64, by omega⟩ ⟨k.val % 64 - 32, by omega⟩) (fun x hx => by
        match x with
        | ⟨0, _⟩ => rfl
        | ⟨1, _⟩ => rfl
        | ⟨2, _⟩ => rfl
        | ⟨3, _⟩ => exact absurd rfl hx) (by show k.val % 64 - 32 + 32 = k.val % 64; omega),
      addf_apply, mulf_apply, mulf_apply, seconds_apply b s x k _ _ (by show k.val = k.val / 64 * 64 + (32 + (k.val % 64 - 32)); omega),
      firsts_apply b s x ⟨k.val - 32, by omega⟩ _ _ (by show k.val - 32 = k.val / 64 * 64 + (0 + (k.val % 64 - 32)); omega)]
    unfold cosT sinT
    rw [et _ _ _ (by show k.val % 64 - 32 = _; omega), et _ _ _ (by show k.val % 64 - 32 = _; omega), hx, hx]
    refine congrArg₂ (fun x y : EReal => _ * _ + x * y) (congrArg P (Fin.ext ?_)) rfl
    show o.val * 1024 + (k.val - 32) = o.val * 1024 + k.val - 32
    omega

/-- A token's heads in a row. -/
theorem heads_apply (x : FVec Ideal S8x2048x16x64 .f32) (i : Fin 16384) (k : Fin 1024) (hi : i.val = b.val * 2048 + s.val) :
    heads x (ix2 i k) = x (ix4 b s ⟨k.val / 64, by omega⟩ ⟨k.val % 64, by omega⟩) :=
  shapeCast_apply _ _ (ix2 i k) (ix4 b s _ _) (by
    rw [Shape.rowMajor_val_four, Shape.rowMajor_val_two]
    show ((b.val * 2048 + s.val) * 16 + k.val / 64) * 64 + k.val % 64 = i.val * 1024 + k.val
    omega)

/-! ## The layer -/

theorem stack_apply (w : Vec Ideal S1x1024x3072 .f32) (r : Fin 1024) (k : Fin 3072) :
    shapeCast S1024x3072 w shapeCasts_S1x1024x3072_S1024x3072 (ix2 r k) = w (ix3 0 r k) :=
  shapeCast_apply _ _ (ix2 r k) (ix3 0 r k) (by
    rw [Shape.rowMajor_val_three, Shape.rowMajor_val_two]
    show (0 * 1024 + r.val) * 3072 + k.val = r.val * 3072 + k.val
    omega)

variable (h : FVec Ideal S8x2048x1024 .f32) (ga : FVec Ideal S2x1024 .f32) (wg wu : FVec Ideal S2x1024x2816 .f32) (wd : FVec Ideal S2x2816x1024 .f32)
  (gm : FVec Ideal S2x1024 .f32) (w : FVec Ideal S1x1024x3072 .f32)

/-- A token's row after the feed-forward, and its projection. -/
def row2 : Fin 1024 → EReal := Rows.fed (fun d => h (ix3 b s d)) (fun d => ga (ix2 1 d)) (fun d c => wg (ix3 1 d c)) (fun d c => wu (ix3 1 d c)) fun d c => wd (ix3 1 d c)
def row3 : Fin 3072 → EReal := Rows.project (Rows.norm (row2 b s h ga wg wu wd) fun d => gm (ix2 1 d)) fun d c => w (ix3 0 d c)
/-- Its queries, its keys and its values. -/
def rowQ (k : Fin 1024) : EReal := turned (row3 b s h ga wg wu wd gm w) (cosAt s) (sinAt s) ⟨k.val, by omega⟩ * qScale
def rowK (k : Fin 1024) : EReal := turned (row3 b s h ga wg wu wd gm w) (cosAt s) (sinAt s) ⟨1024 + k.val, by omega⟩
def rowV (k : Fin 1024) : EReal := row3 b s h ga wg wu wd gm w ⟨2048 + k.val, by omega⟩

theorem second_apply (k : Fin 1024) : second h ga wg wu wd (ix3 b s k) = row2 b s h ga wg wu wd k := by
  unfold second row2 Rows.fed
  rw [Post.Plain.fed_apply]
  simp only [Post.Plain.normed_apply, Post.Plain.layerVec_apply, Post.Plain.layerUp_apply, Post.Plain.layerDown_apply]

theorem project_apply (k : Fin 3072) : project (second h ga wg wu wd) gm w (ix3 b s k) = row3 b s h ga wg wu wd gm w k := by
  unfold project projected row3
  refine (Post.Plain.product_apply b s dot_S8x2048x1024_S1024x3072_S8x2048x3072_2_0_01_1_n_n_wf _ _ k).trans ?_
  refine congrArg₂ (fun f W => Rows.project f W k) (funext fun d => ?_) (funext fun d => funext fun c => stack_apply w d c)
  rw [Post.Plain.normed_apply]
  simp only [Post.Plain.layerVec_apply, second_apply]

/-- A third of a projection. -/
theorem third_apply (x : FVec Ideal S8x2048x3072 .f32) (o : ℕ) (ho : o + 1024 ≤ 3072) (hs : S8x2048x3072.Slices ![0, 0, o] S8x2048x1024) (k : Fin 1024) :
    extractStridedSlice S8x2048x1024 ![0, 0, o] x hs (ix3 b s k) = x (ix3 b s ⟨o + k.val, by omega⟩) :=
  extractStridedSlice_apply ![0, 0, o] x hs (ix3 b s k) (ix3 b s ⟨o + k.val, by omega⟩) fun a => by
    match a with
    | ⟨0, _⟩ => show b.val = 0 + b.val; omega
    | ⟨1, _⟩ => show s.val = 0 + s.val; omega
    | ⟨2, _⟩ => rfl

variable (i : Fin 16384) (k : Fin 1024) (hi : i.val = b.val * 2048 + s.val)
include hi

/-- A token's row of an array of tokens. -/
theorem flat_apply (x : FVec Ideal S8x2048x1024 .f32) : shapeCast S16384x1024 x shapeCasts_S8x2048x1024_S16384x1024 (ix2 i k) = x (ix3 b s k) :=
  shapeCast_apply _ _ (ix2 i k) (ix3 b s k) (by
    rw [Shape.rowMajor_val_three, Shape.rowMajor_val_two]
    show (b.val * 2048 + s.val) * 1024 + k.val = i.val * 1024 + k.val
    rw [hi])

theorem resultH_apply : shapeCast S16384x1024 (second h ga wg wu wd) shapeCasts_S8x2048x1024_S16384x1024 (ix2 i k) = row2 b s h ga wg wu wd k := by
  rw [flat_apply b s i k hi, second_apply]

theorem resultQ_apply : heads (scaled (roped (queries (project (second h ga wg wu wd) gm w)) cosT sinT)) (ix2 i k) = rowQ b s h ga wg wu wd gm w k := by
  rw [heads_apply b s _ i k hi]
  unfold scaled rowQ
  rw [mulf_apply, roped_apply b s _ (row3 b s h ga wg wu wd gm w) 0 (fun k => by
    unfold queries
    rw [third_apply b s _ 0 (by omega), project_apply]
    exact congrArg _ (Fin.ext (by show 0 + k.val = 0 * 1024 + k.val; omega)))]
  refine congrArg₂ (fun x y : EReal => x * y) (congrArg _ (Fin.ext ?_)) ?_
  · show 0 * 1024 + k.val = k.val
    omega
  · exact broadcastInDim_apply ![] bcast_S_S8x2048x16x64 (constant (F := Ideal) S_ .f32 0x3E38AA3B#32) _ (fun a => a.elim0) fun a => a.elim0

theorem resultK_apply : heads (roped (keys (project (second h ga wg wu wd) gm w)) cosT sinT) (ix2 i k) = rowK b s h ga wg wu wd gm w k := by
  rw [heads_apply b s _ i k hi]
  unfold rowK
  rw [roped_apply b s _ (row3 b s h ga wg wu wd gm w) 1 (fun k => by
    unfold keys
    rw [third_apply b s _ 1024 (by omega), project_apply]
    exact congrArg _ (Fin.ext (by show 1024 + k.val = 1 * 1024 + k.val; omega)))]
  exact congrArg _ (Fin.ext (by show 1 * 1024 + k.val = 1024 + k.val; omega))

theorem resultV_apply : shapeCast S16384x1024 (values (project (second h ga wg wu wd) gm w)) shapeCasts_S8x2048x1024_S16384x1024 (ix2 i k)
    = rowV b s h ga wg wu wd gm w k := by
  rw [flat_apply b s i k hi]
  unfold values rowV
  rw [third_apply b s _ 2048 (by omega), project_apply]

end Cert.OddPre.Plain

end
-- ==== Proof.OddRead.lean ====
/-
  The tiles of the odd layer's call before the mixer (OddBody.lean) at an index, over the extended reals: a token's
  feed-forward and its projection, the token's rows taken from the blocks the call reads. The turn of a head is a
  product with the cosines plus a product of the row rotated by half a head, one way or the other, with the sines of
  either sign.
-/
module

public import proofs.«01_k».proof.Proof.OddBody
public import proofs.«01_k».proof.Proof.PostRead
public import proofs.«01_k».proof.Proof.OddPlainRead
public import Idealize.ShloMosaic.Lib.KernelVsHost

@[expose] public section

noncomputable section

open scoped BigOperators

namespace Cert.OddPre

open Cert.Kernel4Ideal Cert.Kernel4Ideal.Gen Idealize.ShloMosaic Idealize.ShloMosaic.ValueIdx Cert.Rows
open Cert.Post (tileNorm tileNorm_apply tileProduct tileProduct_apply zero_f32)
open Cert.OddPre.Plain (turned qScale)

variable (h : Vec Ideal S512x1024 .f32) (ga gm : Vec Ideal S1x1024 .f32) (cb sb : Vec Ideal S512x128 .f32)
  (wg wu : Vec Ideal S1024x2816 .bf16) (wd : Vec Ideal S2816x1024 .bf16) (w : Vec Ideal S1024x3072 .bf16) (r : Fin 512)

/-! ## The feed-forward -/

theorem pay13_eq : k0_pay13 h = h := shapeCast_self h shapeCasts_S512x1024_S512x1024

theorem pay14_eq : k0_pay14 h ga wg wu = fun j =>
    Ideal.div (tileProduct dot_S512x1024_S1024x2816_S512x2816_1_0_0_1_n_n_wf (truncf .bf16 (tileNorm (k0_pay13 h) ga) bitsLt_bf16_f32) wg j)
      (one + Ideal.exp (Scalar.ofBits (F := Ideal) .f32 0x00000000#32
        - tileProduct dot_S512x1024_S1024x2816_S512x2816_1_0_0_1_n_n_wf (truncf .bf16 (tileNorm (k0_pay13 h) ga) bitsLt_bf16_f32) wg j))
      * tileProduct dot_S512x1024_S1024x2816_S512x2816_1_0_0_1_n_n_wf (truncf .bf16 (tileNorm (k0_pay13 h) ga) bitsLt_bf16_f32) wu j := rfl

theorem pay14_apply (j : Fin 2816) : k0_pay14 h ga wg wu (ix2 r j)
    = silu (project (norm (fun d => h (ix2 r d)) fun d => ga (ix2 0 d)) (fun d c => wg (ix2 d c)) j)
      * project (norm (fun d => h (ix2 r d)) fun d => ga (ix2 0 d)) (fun d c => wu (ix2 d c)) j := by
  have e : (fun d => truncf .bf16 (tileNorm h ga) bitsLt_bf16_f32 (ix2 r d)) = norm (fun d => h (ix2 r d)) fun d => ga (ix2 0 d) :=
    funext fun d => tileNorm_apply h ga r d
  rw [pay14_eq, zero_f32, pay13_eq]
  beta_reduce
  rw [silu_eq, tileProduct_apply, tileProduct_apply, e]

theorem pay15_eq (x : FVec Ideal S512x1024 .f32) (y : FVec Ideal S512x2816 .bf16) :
    k0_pay15 x y wd = fun i => x i + half * tileProduct dot_S512x2816_S2816x1024_S512x1024_1_0_0_1_n_n_wf y wd i := rfl

/-- The tile of the stream, at an index. -/
theorem valueH_apply (k : Fin 1024) : valueH h ga gm cb sb wg wu wd w (ix2 r k)
    = fed (fun d => h (ix2 r d)) (fun d => ga (ix2 0 d)) (fun d c => wg (ix2 d c)) (fun d c => wu (ix2 d c)) (fun d c => wd (ix2 d c)) k := by
  unfold valueH
  rw [pay15_eq, pay13_eq]
  unfold fed
  refine congrArg (fun z : EReal => h (ix2 r k) + half * z) ((tileProduct_apply dot_S512x2816_S2816x1024_S512x1024_1_0_0_1_n_n_wf _ wd r k).trans ?_)
  exact congrArg (fun f => project f _ k) (funext fun j => pay14_apply h ga wg wu r j)

/-! ## The projection -/

/-- The whole projection of a tile. -/
def proj : FVec Ideal S512x3072 .f32 := k0_pay16 (k0_pay13 h) (k0_pay14 h ga wg wu) wd gm w

theorem proj_eq : proj h ga gm wg wu wd w = tileProduct dot_S512x1024_S1024x3072_S512x3072_1_0_0_1_n_n_wf
    (truncf .bf16 (tileNorm (valueH h ga gm cb sb wg wu wd w) gm) bitsLt_bf16_f32) w := rfl

/-- A token's projection. -/
abbrev projRow : Fin 3072 → EReal := project (norm (fed (fun d => h (ix2 r d)) (fun d => ga (ix2 0 d)) (fun d c => wg (ix2 d c)) (fun d c => wu (ix2 d c))
  fun d c => wd (ix2 d c)) fun d => gm (ix2 0 d)) fun d c => w (ix2 d c)

include cb sb in
theorem proj_apply (k : Fin 3072) : proj h ga gm wg wu wd w (ix2 r k) = projRow h ga gm wg wu wd w r k := by
  rw [proj_eq h ga gm cb sb]
  refine (tileProduct_apply dot_S512x1024_S1024x3072_S512x3072_1_0_0_1_n_n_wf _ w r k).trans ?_
  refine congrArg (fun f => project f _ k) (funext fun d => (tileNorm_apply _ gm r d).trans ?_)
  exact congrArg (fun f => norm f _ d) (funext fun d => valueH_apply h ga gm cb sb wg wu wd w r d)

/-! ## The turn -/

variable (x : FVec Ideal S512x3072 .f32)

/-- A projection's first two thirds. -/
def pairs : FVec Ideal S512x2048 .f32 := extractStridedSlice S512x2048 ![0, 0] x slices_S512x3072_o0_0_S512x2048

theorem pairs_apply (k : Fin 2048) : pairs x (ix2 r k) = x (ix2 r ⟨k.val, by omega⟩) := by
  unfold pairs
  exact extractStridedSlice_apply ![0, 0] x slices_S512x3072_o0_0_S512x2048 (ix2 r k) (ix2 r ⟨k.val, by omega⟩) fun a => by
    match a with
    | ⟨0, _⟩ => show r.val = 0 + r.val; omega
    | ⟨1, _⟩ => show k.val = 0 + k.val; omega

/-- A block of 128 channels sixteen times over. -/
theorem copies_apply (y : FVec Ideal S512x128 .f32)
    (hc : Shape.Concatenates ((List.replicate 16 (⟨S512x128, y⟩ : (s : Shape) × (s.Idx → EReal))).map (·.1)) S512x2048 1) (k : Fin 2048) :
    concatenate S512x2048 1 (List.replicate 16 (⟨S512x128, y⟩ : (s : Shape) × (s.Idx → EReal))) hc (ix2 r k) = y (ix2 r ⟨k.val % 128, by omega⟩) :=
  concatenate_replicate_apply (t := S512x2048) (s₁ := S512x128) 1 16 y hc rfl (ix2 r k) (ix2 r ⟨k.val % 128, by omega⟩) rfl fun b hb => by
    match b with
    | ⟨0, _⟩ => rfl
    | ⟨1, _⟩ => exact absurd rfl hb

theorem value18_apply (k : Fin 2048) : value18 h ga gm cb sb wg wu wd w (ix2 r k)
    = proj h ga gm wg wu wd w (ix2 r ⟨k.val, by omega⟩) * cb (ix2 r ⟨k.val % 128, by omega⟩) := by
  unfold value18 k0_pay18
  rw [mulf_apply, shapeCast_self]
  exact congrArg₂ (fun x y : EReal => x * y) (pairs_apply r (proj h ga gm wg wu wd w) k) (copies_apply r cb _ k)

/-- The word that says which half of a head a channel is in. -/
theorem half_word : ∀ k : Fin 2048, IntOp.cmpi .eq (IntOp.andi (BitVec.ofNat 32 k.val) 32#32) 0#32 = if k.val % 64 < 32 then 1#1 else 0#1 := by
  decide +kernel

theorem rotated_apply (y : FVec Ideal S512x2048 .f32) (n : BitVec 32) (k j : Fin 2048) (hj : j.val = (k.val + 2048 - n.toNat % 2048) % 2048) :
    dynamicRotate 1 n none y rotates_S512x2048_d1 (ix2 r k) = y (ix2 r j) :=
  dynamicRotate_apply 1 n y rotates_S512x2048_d1 (ix2 r k) (ix2 r j) fun b => by
    match b with
    | ⟨0, _⟩ => rfl
    | ⟨1, _⟩ => exact hj

theorem value19_apply (k : Fin 2048) : value19 h ga gm cb sb wg wu wd w (ix2 r k)
    = (if k.val % 64 < 32 then proj h ga gm wg wu wd w (ix2 r ⟨(k.val + 32) % 2048, by omega⟩)
        else proj h ga gm wg wu wd w (ix2 r ⟨k.val - 32, by omega⟩)) * sb (ix2 r ⟨k.val % 128, by omega⟩) := by
  unfold value19 k0_pay19
  rw [mulf_apply, shapeCast_self]
  refine congrArg₂ (fun x y : EReal => x * y) ?_ (copies_apply r sb _ k)
  rw [select_apply, show cmpi .eq (andi (iota .tc S512x2048 32 [1] iota_S512x2048_d1_w32) (broadcast S512x2048 32#32)) (broadcast S512x2048 0#32) (ix2 r k)
    = _ from (congrArg (fun z => IntOp.cmpi .eq (IntOp.andi z 32#32) 0#32) (iota_single_apply .tc S512x2048 32 1 iota_S512x2048_d1_w32 (ix2 r k))).trans (half_word k)]
  by_cases hk : k.val % 64 < 32
  · rw [if_pos hk, if_pos hk, select_one]
    refine (rotated_apply r _ _ k ⟨(k.val + 32) % 2048, by omega⟩ ?_).trans (pairs_apply r (proj h ga gm wg wu wd w) _)
    show (k.val + 32) % 2048 = (k.val + 2048 - 2016) % 2048
    omega
  · rw [if_neg hk, if_neg hk, select_zero]
    refine (rotated_apply r _ _ k ⟨k.val - 32, by omega⟩ ?_).trans (pairs_apply r (proj h ga gm wg wu wd w) _)
    show k.val - 32 = (k.val + 2048 - 32) % 2048
    omega

/-- The turn of a token's heads, where the two blocks hold the cosines, and the sines with the sign of the half. -/
theorem turn_apply (c s : Fin 32 → EReal) (hc : ∀ j : Fin 128, cb (ix2 r j) = c ⟨j.val % 32, by omega⟩)
    (hs : ∀ j : Fin 128, sb (ix2 r j) = if j.val % 64 < 32 then -s ⟨j.val % 32, by omega⟩ else s ⟨j.val % 32, by omega⟩) (k : Fin 2048) :
    value18 h ga gm cb sb wg wu wd w (ix2 r k) + value19 h ga gm cb sb wg wu wd w (ix2 r k) = turned (projRow h ga gm wg wu wd w r) c s k := by
  rw [value18_apply, value19_apply, hc, hs]
  have e : (⟨k.val % 128 % 32, by omega⟩ : Fin 32) = ⟨k.val % 32, by omega⟩ := Fin.ext (by show k.val % 128 % 32 = k.val % 32; omega)
  unfold turned
  by_cases hk : k.val % 64 < 32
  · rw [if_pos hk, if_pos (show k.val % 128 % 64 < 32 by omega), dif_pos hk, e, sub_eq_add_neg, mul_neg]
    rw [proj_apply h ga gm cb sb, proj_apply h ga gm cb sb]
    have e' : (⟨(k.val + 32) % 2048, by omega⟩ : Fin 3072) = ⟨k.val + 32, by omega⟩ := Fin.ext (by show (k.val + 32) % 2048 = k.val + 32; omega)
    rw [e']
  · rw [if_neg hk, if_neg (show ¬ k.val % 128 % 64 < 32 by omega), dif_neg hk, e]
    rw [proj_apply h ga gm cb sb, proj_apply h ga gm cb sb]

/-! ## The tiles -/

variable (k : Fin 1024)

/-- A third of a tile's channels. -/
theorem cut_apply {C : ℕ} (y : FVec Ideal ⟨2, ![512, C]⟩ .f32) (o : ℕ) (ho : o + 1024 ≤ C) (hs : (⟨2, ![512, C]⟩ : Shape).Slices ![0, o] S512x1024) :
    extractStridedSlice S512x1024 ![0, o] y hs (ix2 r k) = y (ix2 r ⟨o + k.val, by omega⟩) :=
  extractStridedSlice_apply ![0, o] y hs (ix2 r k) (ix2 r ⟨o + k.val, by omega⟩) fun a => by
    match a with
    | ⟨0, _⟩ => show r.val = 0 + r.val; omega
    | ⟨1, _⟩ => rfl

section
variable (c s : Fin 32 → EReal) (hc : ∀ j : Fin 128, cb (ix2 r j) = c ⟨j.val % 32, by omega⟩)
  (hs : ∀ j : Fin 128, sb (ix2 r j) = if j.val % 64 < 32 then -s ⟨j.val % 32, by omega⟩ else s ⟨j.val % 32, by omega⟩)
include hc hs

theorem valueQ_apply : valueQ h ga gm cb sb wg wu wd w (ix2 r k) = turned (projRow h ga gm wg wu wd w r) c s ⟨k.val, by omega⟩ * qScale := by
  unfold valueQ k0_pay2
  rw [mulf_apply]
  refine congrArg₂ (fun x y : EReal => x * y) ((cut_apply r k _ 0 (by omega) _).trans ?_) rfl
  refine (turn_apply h ga gm cb sb wg wu wd w r c s hc hs _).trans (congrArg _ (Fin.ext ?_))
  show 0 + k.val = k.val
  omega

theorem valueK_apply : valueK h ga gm cb sb wg wu wd w (ix2 r k) = turned (projRow h ga gm wg wu wd w r) c s ⟨1024 + k.val, by omega⟩ := by
  unfold valueK k0_pay3
  exact (cut_apply r k _ 1024 (by omega) _).trans (turn_apply h ga gm cb sb wg wu wd w r c s hc hs _)
end

theorem valueV_apply : valueV h ga gm cb sb wg wu wd w (ix2 r k) = projRow h ga gm wg wu wd w r ⟨2048 + k.val, by omega⟩ := by
  unfold valueV k0_pay4
  exact (cut_apply r k (proj h ga gm wg wu wd w) 2048 (by omega) _).trans (proj_apply h ga gm cb sb wg wu wd w r _)

end Cert.OddPre

end
-- ==== Proof.OddArray.lean ====
/-
  The four result arrays of the odd layer's call before the mixer, whole: row `2048 b + s` of each is the stream, the
  queries, the keys or the values of token `s` of sequence `b` (OddPlainRead.lean), over the arguments as launched.
-/
module

public import proofs.«01_k».proof.Proof.OddRun
public import proofs.«01_k».proof.Proof.OddRead
public import proofs.«01_k».proof.Proof.PostArray

@[expose] public section

noncomputable section

open scoped BigOperators

namespace Cert.OddPre

open Cert.Kernel4Ideal Cert.Kernel4Ideal.Gen Idealize.ShloMosaic Idealize.ShloMosaic.ValueIdx Idealize.ShloMosaic.TcCoe
open Cert.Post (seqOf posOf seq_pos rows_apply gain_apply)
open Cert.OddPre.Plain (cosAt sinAt angles)

variable (m : (ℓ : Loc nD τ sig) → Buf (Elt Ideal) ℓ) (c : Dev nD)

/-! ## The arguments, as launched -/

/-- The residual stream; the gain before the feed-forward; its matrices; the gain before the mixer; the projection. -/
abbrev argH : S8x2048x1024.Idx → EReal := m ((c : Thread nD τ).loc main_arg0)
abbrev argGa : S2x1024.Idx → EReal := m ((c : Thread nD τ).loc main_arg1)
abbrev argWg : S2x1024x2816.Idx → EReal := m ((c : Thread nD τ).loc main_arg2)
abbrev argWu : S2x1024x2816.Idx → EReal := m ((c : Thread nD τ).loc main_arg3)
abbrev argWd : S2x2816x1024.Idx → EReal := m ((c : Thread nD τ).loc main_arg4)
abbrev argGm : S2x1024.Idx → EReal := m ((c : Thread nD τ).loc main_arg5)
abbrev argW : S1x1024x3072.Idx → EReal := m ((c : Thread nD τ).loc main_arg6)

/-! ## The arrays the call reads -/

theorem V_stream (i : Fin 16384) (k : Fin 1024) : V m c main_v0 (ix2 i k) = argH m c (ix3 (seqOf i) (posOf i) k) := by
  entry_read
  exact rows_apply (φ := .f32) (argH m c) i k

theorem V_gainFfn (k : Fin 1024) : V m c main_v3 (ix2 0 k) = argGa m c (ix2 1 k) := by
  entry_read
  exact gain_apply _ k

theorem V_gainMix (k : Fin 1024) : V m c main_v6 (ix2 0 k) = argGm m c (ix2 1 k) := by
  entry_read
  exact gain_apply _ k

/-- Four tables side by side, every other one the same. -/
theorem four_apply (x y : FVec Ideal S2048x32 .f32)
    (h : Shape.Concatenates ((List.ofFn fun n : Fin 4 => (⟨S2048x32, if n.val % 2 = 0 then x else y⟩ : (s : Shape) × (s.Idx → EReal))).map (·.1)) S2048x128 1)
    (s : Fin 2048) (j : Fin 128) :
    concatenate S2048x128 1 (List.ofFn fun n : Fin 4 => (⟨S2048x32, if n.val % 2 = 0 then x else y⟩ : (s : Shape) × (s.Idx → EReal))) h (ix2 s j)
      = if j.val % 64 < 32 then x (ix2 s ⟨j.val % 32, by omega⟩) else y (ix2 s ⟨j.val % 32, by omega⟩) := by
  rw [concatenate_ofFn_apply (t := S2048x128) (s₁ := S2048x32) 1 (fun n : Fin 4 => if n.val % 2 = 0 then x else y) h rfl 32 rfl (ix2 s j)
    ⟨j.val / 32, by omega⟩ rfl (ix2 s ⟨j.val % 32, by omega⟩) rfl (fun b hb => by
      match b with
      | ⟨0, _⟩ => rfl
      | ⟨1, _⟩ => exact absurd rfl hb)]
  by_cases hj : j.val % 64 < 32
  · rw [if_pos hj, if_pos (show j.val / 32 % 2 = 0 by omega)]
  · rw [if_neg hj, if_neg (show ¬ j.val / 32 % 2 = 0 by omega)]

theorem side_apply {x y p q p' q' : FVec Ideal S2048x32 .f32} (hp : p = x) (hq : q = y) (hp' : p' = x) (hq' : q' = y)
    (h : Shape.Concatenates [S2048x32, S2048x32, S2048x32, S2048x32] S2048x128 1) (s : Fin 2048) (j : Fin 128) :
    concatenate S2048x128 1 [⟨S2048x32, p⟩, ⟨S2048x32, q⟩, ⟨S2048x32, p'⟩, ⟨S2048x32, q'⟩] h (ix2 s j)
      = if j.val % 64 < 32 then x (ix2 s ⟨j.val % 32, by omega⟩) else y (ix2 s ⟨j.val % 32, by omega⟩) := by
  rw [hp, hq, hp', hq']
  exact four_apply x y h s j

/-- The host's operations up to the cosines and the sines, and those that lay the tables side by side. -/
theorem host_split (b : Ref sig .tc) :
    V m c b = StableHlo.after (hostOps0.drop 31) (StableHlo.after (hostOps0.take 31) fun b => m (c, b)) (Proc.devRef .tc b) := by
  rw [← StableHlo.after_append, List.take_append_drop]

variable (M : Valuation τ sig (Elt Ideal))

set_option maxHeartbeats 3200000 in
theorem host_cos : StableHlo.after (hostOps0.take 31) M (Proc.devRef .tc main_v24) = Host.cos (F := Ideal) angles := by
  simp only [hostOps0, List.take_succ_cons, List.take_zero]
  after_results_simp <;> rfl

set_option maxHeartbeats 3200000 in
theorem host_sin : StableHlo.after (hostOps0.take 31) M (Proc.devRef .tc main_v25) = Host.sin (F := Ideal) angles := by
  simp only [hostOps0, List.take_succ_cons, List.take_zero]
  after_results_simp <;> rfl

theorem V_cos (s : Fin 2048) (j : Fin 128) : V m c main_v26 (ix2 s j) = cosAt s ⟨j.val % 32, by omega⟩ := by
  rw [host_split]
  have e := host_cos fun b => m (c, b)
  generalize StableHlo.after (List.take 31 hostOps0) (fun b => m (c, b)) = M at e ⊢
  simp only [hostOps0, List.drop_succ_cons, List.drop_zero]
  after_results_simp
  refine (side_apply ?_ ?_ ?_ ?_ _ s j).trans (ite_self _) <;> exact e

theorem V_sin (s : Fin 2048) (j : Fin 128) : V m c main_v29 (ix2 s j)
    = if j.val % 64 < 32 then -sinAt s ⟨j.val % 32, by omega⟩ else sinAt s ⟨j.val % 32, by omega⟩ := by
  rw [host_split]
  have e := host_sin fun b => m (c, b)
  generalize StableHlo.after (List.take 31 hostOps0) (fun b => m (c, b)) = M at e ⊢
  simp only [hostOps0, List.drop_succ_cons, List.drop_zero]
  after_results_simp
  refine side_apply (x := Host.negf (Host.sin (F := Ideal) angles)) (y := Host.sin (F := Ideal) angles) ?_ e ?_ e _ s j
  · change HloOp.result _ _ (Proc.devRef .tc main_v27) = _
    after_results_simp
    exact congrArg Host.negf e
  · change HloOp.result _ _ (Proc.devRef .tc main_v28) = _
    after_results_simp
    exact congrArg Host.negf e

/-! ## The matrices on chip -/

theorem w0_apply (d : Fin 1024) (k : Fin 2816) : w0 m c (ix2 d k) = argWg m c (ix3 1 d k) := by
  unfold w0; rw [V_kept m c main_arg2 (by decide)]; rfl
theorem w1_apply (d : Fin 1024) (k : Fin 2816) : w1 m c (ix2 d k) = argWu m c (ix3 1 d k) := by
  unfold w1; rw [V_kept m c main_arg3 (by decide)]; rfl
theorem w2_apply (d : Fin 2816) (k : Fin 1024) : w2 m c (ix2 d k) = argWd m c (ix3 1 d k) := by
  unfold w2; rw [V_kept m c main_arg4 (by decide)]; rfl
theorem w3_apply (d : Fin 1024) (k : Fin 3072) : w3 m c (ix2 d k) = argW m c (ix3 0 d k) := by
  unfold w3; rw [V_kept m c main_arg6 (by decide)]; rfl

/-! ## The blocks -/

/-- Point `t`'s blocks of tokens begin at row `512 t`, its blocks of the tables at its position's. -/
theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0] := (by decide +kernel : ∀ t : Fin grid0.N, win0_2.index t = ![0, 0])
theorem index3 : ∀ t : Fin cfg0.N, win0_3.index t = ![t.val % 4, 0] := (by decide +kernel : ∀ t : Fin grid0.N, win0_3.index t = ![t.val % 4, 0])
theorem index4 : ∀ t : Fin cfg0.N, win0_4.index t = ![t.val % 4, 0] := (by decide +kernel : ∀ t : Fin grid0.N, win0_4.index t = ![t.val % 4, 0])
theorem index5 : ∀ t : Fin cfg0.N, win0_5.index t = ![t.val, 0] := (by decide +kernel : ∀ t : Fin grid0.N, win0_5.index t = ![t.val, 0])

/-- The number of tiles. -/
theorem points : cfg0.N = 32 := by decide +kernel

/-- Row `r` of point `t`'s tile, among all rows. -/
def rowAt (t : Fin cfg0.N) (r : Fin 512) : Fin 16384 := ⟨t.val * 512 + r.val, by
  have : t.val < 32 := lt_of_lt_of_eq t.isLt points
  have := r.isLt
  omega⟩

theorem blk_stream (t : Fin cfg0.N) (r : Fin 512) (k : Fin 1024) :
    iblk m c 0 t (ix2 r k) = argH m c (ix3 (seqOf (rowAt t r)) (posOf (rowAt t r)) k) := by
  rw [← V_stream m c]
  unfold iblk
  rw [View.read_apply]
  refine congrArg (V m c main_v0) (funext fun x => Fin.ext ?_)
  match x with
  | ⟨0, _⟩ => show win0_0.index t 0 * 512 + 1 * r.val = t.val * 512 + r.val; rw [index0]; show t.val * 512 + 1 * r.val = t.val * 512 + r.val; omega
  | ⟨1, _⟩ => show win0_0.index t 1 * 1024 + 1 * k.val = k.val; rw [index0]; show 0 * 1024 + 1 * k.val = k.val; omega

theorem blk_gainFfn (t : Fin cfg0.N) (k : Fin 1024) : iblk m c 1 t (ix2 0 k) = argGa m c (ix2 1 k) := by
  rw [← V_gainFfn m c]
  unfold iblk
  rw [View.read_apply]
  refine congrArg (V m c main_v3) (funext fun x => Fin.ext ?_)
  match x with
  | ⟨0, _⟩ => show win0_1.index t 0 * 1 + 1 * 0 = 0; rw [index1]; rfl
  | ⟨1, _⟩ => show win0_1.index t 1 * 1024 + 1 * k.val = k.val; rw [index1]; show 0 * 1024 + 1 * k.val = k.val; omega

theorem blk_gainMix (t : Fin cfg0.N) (k : Fin 1024) : iblk m c 2 t (ix2 0 k) = argGm m c (ix2 1 k) := by
  rw [← V_gainMix m c]
  unfold iblk
  rw [View.read_apply]
  refine congrArg (V m c main_v6) (funext fun x => Fin.ext ?_)
  match x with
  | ⟨0, _⟩ => show win0_2.index t 0 * 1 + 1 * 0 = 0; rw [index2]; rfl
  | ⟨1, _⟩ => show win0_2.index t 1 * 1024 + 1 * k.val = k.val; rw [index2]; show 0 * 1024 + 1 * k.val = k.val; omega

theorem blk_cos (t : Fin cfg0.N) (r : Fin 512) (j : Fin 128) : iblk m c 3 t (ix2 r j) = cosAt (posOf (rowAt t r)) ⟨j.val % 32, by omega⟩ := by
  rw [← V_cos m c]
  have := r.isLt
  unfold iblk
  rw [View.read_apply]
  refine congrArg (V m c main_v26) (funext fun x => Fin.ext ?_)
  match x with
  | ⟨0, _⟩ =>
    show win0_3.index t 0 * 512 + 1 * r.val = (t.val * 512 + r.val) % 2048
    rw [index3]; show t.val % 4 * 512 + 1 * r.val = (t.val * 512 + r.val) % 2048; omega
  | ⟨1, _⟩ => show win0_3.index t 1 * 128 + 1 * j.val = j.val; rw [index3]; show 0 * 128 + 1 * j.val = j.val; omega

theorem blk_sin (t : Fin cfg0.N) (r : Fin 512) (j : Fin 128) : iblk m c 4 t (ix2 r j)
    = if j.val % 64 < 32 then -sinAt (posOf (rowAt t r)) ⟨j.val % 32, by omega⟩ else sinAt (posOf (rowAt t r)) ⟨j.val % 32, by omega⟩ := by
  rw [← V_sin m c]
  have := r.isLt
  unfold iblk
  rw [View.read_apply]
  refine congrArg (V m c main_v29) (funext fun x => Fin.ext ?_)
  match x with
  | ⟨0, _⟩ =>
    show win0_4.index t 0 * 512 + 1 * r.val = (t.val * 512 + r.val) % 2048
    rw [index4]; show t.val % 4 * 512 + 1 * r.val = (t.val * 512 + r.val) % 2048; omega
  | ⟨1, _⟩ => show win0_4.index t 1 * 128 + 1 * j.val = j.val; rw [index4]; show 0 * 128 + 1 * j.val = j.val; omega

/-! ## The tiles -/

/-- The stream, the queries, the keys and the values of the token whose row is `i`. -/
def rowH (i : Fin 16384) : Fin 1024 → EReal := Plain.row2 (seqOf i) (posOf i) (argH m c) (argGa m c) (argWg m c) (argWu m c) (argWd m c)
def rowQ (i : Fin 16384) : Fin 1024 → EReal := Plain.rowQ (seqOf i) (posOf i) (argH m c) (argGa m c) (argWg m c) (argWu m c) (argWd m c) (argGm m c) (argW m c)
def rowK (i : Fin 16384) : Fin 1024 → EReal := Plain.rowK (seqOf i) (posOf i) (argH m c) (argGa m c) (argWg m c) (argWu m c) (argWd m c) (argGm m c) (argW m c)
def rowV (i : Fin 16384) : Fin 1024 → EReal := Plain.rowV (seqOf i) (posOf i) (argH m c) (argGa m c) (argWg m c) (argWu m c) (argWd m c) (argGm m c) (argW m c)

variable (t : Fin cfg0.N) (r : Fin 512) (k : Fin 1024)

/-- A token's projection, from the blocks of its tile. -/
theorem proj_row : projRow (iblk m c 0 t) (iblk m c 1 t) (iblk m c 2 t) (w0 m c) (w1 m c) (w2 m c) (w3 m c) r
    = Plain.row3 (seqOf (rowAt t r)) (posOf (rowAt t r)) (argH m c) (argGa m c) (argWg m c) (argWu m c) (argWd m c) (argGm m c) (argW m c) := by
  unfold projRow Plain.row3 Plain.row2
  simp only [blk_stream, blk_gainFfn, blk_gainMix, w0_apply, w1_apply, w2_apply, w3_apply]

theorem tileH_apply : tileH m c t (ix2 r k) = rowH m c (rowAt t r) k := by
  unfold tileH rowH Plain.row2
  rw [valueH_apply]
  simp only [blk_stream, blk_gainFfn, w0_apply, w1_apply, w2_apply]

theorem tileQ_apply : tileQ m c t (ix2 r k) = rowQ m c (rowAt t r) k := by
  unfold tileQ rowQ Plain.rowQ
  rw [valueQ_apply _ _ _ _ _ _ _ _ _ r k _ _ (blk_cos m c t r) (blk_sin m c t r), proj_row]

theorem tileK_apply : tileK m c t (ix2 r k) = rowK m c (rowAt t r) k := by
  unfold tileK rowK Plain.rowK
  rw [valueK_apply _ _ _ _ _ _ _ _ _ r k _ _ (blk_cos m c t r) (blk_sin m c t r), proj_row]

theorem tileV_apply : tileV m c t (ix2 r k) = rowV m c (rowAt t r) k := by
  unfold tileV rowV Plain.rowV
  rw [valueV_apply, proj_row]

/-! ## The results -/

/-- An array from its rows. -/
def rows (f : Fin 16384 → Fin 1024 → EReal) : S16384x1024.Idx → EReal := fun i => f (i 0) (i 1)

/-- Where a tile's values lie in the result it is of: the four results are laid out alike. -/
theorem tile_eq (T : S512x1024.Idx → EReal) (f : Fin 16384 → Fin 1024 → EReal) (hT : ∀ r k, T (ix2 r k) = f (rowAt t r) k) (i : S512x1024.Idx) :
    T i = rows f (((cfg0.win 5).blk t).view.emb i) := by
  have e0 : (((cfg0.win 5).blk t).view.emb i 0 : Fin 16384) = rowAt t (i 0) := Fin.ext (by
    show win0_5.index t 0 * 512 + 1 * (i 0).val = t.val * 512 + (i 0).val
    rw [index5]
    show t.val * 512 + 1 * (i 0).val = t.val * 512 + (i 0).val
    omega)
  have e1 : (((cfg0.win 5).blk t).view.emb i 1 : Fin 1024) = i 1 := Fin.ext (by
    show win0_5.index t 1 * 1024 + 1 * (i 1).val = (i 1).val
    rw [index5]
    show 0 * 1024 + 1 * (i 1).val = (i 1).val
    omega)
  refine ((congrArg T (eq_ix2 i)).trans (hT (i 0) (i 1))).trans ?_
  show _ = f (((cfg0.win 5).blk t).view.emb i 0) (((cfg0.win 5).blk t).view.emb i 1)
  rw [e0, e1]

/-- The tile a row is in, as a point of the grid. -/
def point (i : Fin 16384) : Fin cfg0.N := ⟨i.val / 512, lt_of_lt_of_eq (by omega : i.val / 512 < 32) points.symm⟩

theorem cover (i : S16384x1024.Idx) : i ∈ (win0_5.rect (point (i 0))).set := by
  rw [Rect.mem_set_unit]
  intro a
  have h1 : (i 1 : Nat) < 1024 := (i 1).isLt
  match a with
  | ⟨0, _⟩ =>
    show win0_5.index (point (i 0)) 0 * 512 ≤ (i 0).val ∧ (i 0).val < win0_5.index (point (i 0)) 0 * 512 + 512
    rw [index5]; show (i 0).val / 512 * 512 ≤ (i 0).val ∧ (i 0).val < (i 0).val / 512 * 512 + 512; omega
  | ⟨1, _⟩ =>
    show win0_5.index (point (i 0)) 1 * 1024 ≤ (i 1).val ∧ (i 1).val < win0_5.index (point (i 0)) 1 * 1024 + 1024
    rw [index5]; show 0 * 1024 ≤ (i 1).val ∧ (i 1).val < 0 * 1024 + 1024; omega

theorem arrH_eq : (dats m 0 c).arrAt 5 cfg0.N = rows (rowH m c) :=
  (dats m 0 c).arrAt_eq_of_cover 5 (rows (rowH m c)) (fun t _ => by
      show (cfg0.win 5).cut (grid0.coords t) ((dats m 0 c).after 5 t) = _
      rw [after_5]
      exact funext fun i => tile_eq t (tileH m c t) (rowH m c) (tileH_apply m c t) i)
    fun (i : S16384x1024.Idx) => ⟨point (i 0), flush0_5 _, by
      show i ∈ ((View.whole main_v30_0).slice (win0_5.rect (point (i 0)))).set
      rw [View.set_slice_whole]
      exact cover i⟩
theorem arrQ_eq : (dats m 0 c).arrAt 6 cfg0.N = rows (rowQ m c) :=
  (dats m 0 c).arrAt_eq_of_cover 6 (rows (rowQ m c)) (fun t _ => by
      show (cfg0.win 6).cut (grid0.coords t) ((dats m 0 c).after 6 t) = _
      rw [after_6]
      exact funext fun i => tile_eq t (tileQ m c t) (rowQ m c) (tileQ_apply m c t) i)
    fun (i : S16384x1024.Idx) => ⟨point (i 0), flush0_6 _, by
      show i ∈ ((View.whole main_v30_1).slice (win0_6.rect (point (i 0)))).set
      rw [View.set_slice_whole]
      exact cover i⟩
theorem arrK_eq : (dats m 0 c).arrAt 7 cfg0.N = rows (rowK m c) :=
  (dats m 0 c).arrAt_eq_of_cover 7 (rows (rowK m c)) (fun t _ => by
      show (cfg0.win 7).cut (grid0.coords t) ((dats m 0 c).after 7 t) = _
      rw [after_7]
      exact funext fun i => tile_eq t (tileK m c t) (rowK m c) (tileK_apply m c t) i)
    fun (i : S16384x1024.Idx) => ⟨point (i 0), flush0_7 _, by
      show i ∈ ((View.whole main_v30_2).slice (win0_7.rect (point (i 0)))).set
      rw [View.set_slice_whole]
      exact cover i⟩
theorem arrV_eq : (dats m 0 c).arrAt 8 cfg0.N = rows (rowV m c) :=
  (dats m 0 c).arrAt_eq_of_cover 8 (rows (rowV m c)) (fun t _ => by
      show (cfg0.win 8).cut (grid0.coords t) ((dats m 0 c).after 8 t) = _
      rw [after_8]
      exact funext fun i => tile_eq t (tileV m c t) (rowV m c) (tileV_apply m c t) i)
    fun (i : S16384x1024.Idx) => ⟨point (i 0), flush0_8 _, by
      show i ∈ ((View.whole main_v30_3).slice (win0_8.rect (point (i 0)))).set
      rw [View.set_slice_whole]
      exact cover i⟩

/-- An array with the same values at every row and channel. -/
theorem rows_ext (x : S16384x1024.Idx → EReal) (f : Fin 16384 → Fin 1024 → EReal) (h : ∀ i k, x (ix2 i k) = f i k) : x = rows f :=
  funext fun i => (congrArg x (eq_ix2 i)).trans (h (i 0) (i 1))

end Cert.OddPre

end
-- ==== Proof.OddEquation.lean ====
/-
  The odd layer's call before the mixer and its plain layer end with equal arrays.
-/
module

public import proofs.«01_k».proof.Proof.OddFrames
public import proofs.«01_k».proof.Proof.OddArray

@[expose] public section

noncomputable section

namespace Cert.OddPre

open Idealize.ShloMosaic Idealize.ShloMosaic.TcCoe Idealize.SL.Sem
open Cert.Post (seqOf posOf seq_pos)

/-- From memories with the same arguments, both programs end with the stream, the queries, the keys and the values of
    every token. -/
theorem algebraic : Cert.algebraic_Kernel4Ideal_Reference4Ideal (hKernel4Ideal := Cert.Kernel4Ideal.Gen.facts)
    (hReference4Ideal := Cert.Reference4Ideal.Gen.facts) := by
  intro m g m' g' _ hargs
  refine ⟨fun c => (dats m 0 c).arrAt 5 Cert.Kernel4Ideal.cfg0.N, fun c => (dats m 0 c).arrAt 6 Cert.Kernel4Ideal.cfg0.N,
    fun c => (dats m 0 c).arrAt 7 Cert.Kernel4Ideal.cfg0.N, fun c => (dats m 0 c).arrAt 8 Cert.Kernel4Ideal.cfg0.N,
    (θ_run Cert.Kernel4Ideal.defs _ _).mono (fun r h c => ⟨(h.1 c).1 5, (h.1 c).1 6, (h.1 c).1 7, (h.1 c).1 8, args_end m r h.1 c⟩) (run_main m g), ?_⟩
  refine (θ_run _ _ _).mono (fun r h c => ⟨(h c).1.trans ?_, (h c).2.1.trans ?_, (h c).2.2.1.trans ?_, (h c).2.2.2.1.trans ?_, (h c).2.2.2.2⟩) (Plain.run m' g')
  all_goals
    obtain ⟨e0, e1, e2, e3, e4, e5, e6⟩ := hargs c
    rw [e0, e1, e2, e3, e4]
  · exact (rows_ext _ (rowH m c) fun i k => Plain.resultH_apply (seqOf i) (posOf i) _ _ _ _ _ i k (seq_pos i)).trans (arrH_eq m c).symm
  · rw [e5, e6]
    exact (rows_ext _ (rowQ m c) fun i k => Plain.resultQ_apply (seqOf i) (posOf i) _ _ _ _ _ _ _ i k (seq_pos i)).trans (arrQ_eq m c).symm
  · rw [e5, e6]
    exact (rows_ext _ (rowK m c) fun i k => Plain.resultK_apply (seqOf i) (posOf i) _ _ _ _ _ _ _ i k (seq_pos i)).trans (arrK_eq m c).symm
  · rw [e5, e6]
    exact (rows_ext _ (rowV m c) fun i k => Plain.resultV_apply (seqOf i) (posOf i) _ _ _ _ _ _ _ i k (seq_pos i)).trans (arrV_eq m c).symm

end Cert.OddPre

end
-- ==== Proof.lean ====
/-
  The proof of `Cert.Claim`. The differential attention: its three programs run and leave their arguments as they were, the
  idealised kernel differs from the kernel by one named constant (the mask), and where the precondition holds the
  idealised kernel's result is the idealised reference's. The calls after the mixers, of the odd and of the even layer, and
  the odd layer's before its mixer: the same, with no constant named and no precondition.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Reference3Ideal
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Reference4Ideal
public import proofs.«01_k».proof.Proof.Equation
public import proofs.«01_k».proof.Proof.PostEquation
public import proofs.«01_k».proof.Proof.EvenEquation
public import proofs.«01_k».proof.Proof.OddEquation
public import Idealize.ShloMosaic.Adequacy
public import Idealize.ShloMosaic.Init

@[expose] public section

noncomputable section

namespace Cert.Proof

open Idealize.ShloMosaic Idealize.SL.Sem Cert.Kernel

/-- The reference runs, leaves its arguments as they were, and has no semaphore to leave raised. -/
theorem frame_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- The two idealised programs end with equal results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.Read.facts) := by
  intro m g m' g' hpre hargs
  refine ⟨fun c => (Cert.KernelIdeal.Gen.dats m 0 c).arrAt 5 Cert.KernelIdeal.cfg0.N, Cert.KernelIdeal.Value.run_blocks m g, ?_⟩
  refine (θ_run _ _ _).mono (fun r h c => ⟨(h c).1.trans ?_, (h c).2⟩) (Cert.ReferenceIdeal.Value.run m' g')
  obtain ⟨e0, e1, e2, e3, e4, e5, e6, e7⟩ := hargs c
  rw [Cert.ReferenceIdeal.Read.val_main_v77_eq, e0, e1, e2, e3, e4, e5, e6, e7]
  exact (Cert.Equation.result_eq m c (Shape.Idx.first (by decide)) (congrFun (hpre c) _)).symm

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Pre_finite.Read.facts,
  fun m g _ => Cert.Kernel.Gen.frame m g,
  fun m g _ => Cert.KernelIdeal.Gen.frame m g,
  fun m g _ => Cert.KernelIdeal.Gen.frame m g,
  frame_reference,
  fun m g _ => frame_reference m g trivial,
  Cert.Post.frame_bits,
  Cert.Post.frame_ideal,
  Cert.Post.frame_reference,
  Cert.EvenPost.frame_bits,
  Cert.EvenPost.frame_ideal,
  Cert.EvenPost.frame_reference,
  Cert.OddPre.frame_bits,
  Cert.OddPre.frame_ideal,
  Cert.OddPre.frame_reference,
  IdealRules.named_const.statement Cert.KernelIdeal.κ "mask" .f32 0xF149F2CA#32 ⊥ rfl,
  algebraic,
  trivial,
  Cert.Post.algebraic,
  trivial,
  Cert.EvenPost.algebraic,
  trivial,
  Cert.OddPre.algebraic⟩

end Cert.Proof

end
